-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite [hPre_finite : Cert.Pre_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_finite [hPre_finite : Cert.Pre_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_head [hPre_finite_head : Cert.Pre_finite_head.Facts] (m : (ℓ : Loc Cert.HeadIdeal.nD Cert.HeadIdeal.τ Cert.HeadIdeal.sig) → Buf (Elt Ideal) ℓ) : Prop :=
  ∀ c : Dev Cert.HeadIdeal.nD,
    (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite_head [hPre_finite_head : Cert.Pre_finite_head.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))) = (fun _ => 1#1)

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnAIdeal_finite_ffn_a [hPre_finite_ffn_a : Cert.Pre_finite_ffn_a.Facts] (m : (ℓ : Loc Cert.FfnAIdeal.nD Cert.FfnAIdeal.τ Cert.FfnAIdeal.sig) → Buf (Elt Ideal) ℓ) : Prop :=
  ∀ c : Dev Cert.FfnAIdeal.nD,
    (Cert.Pre_finite_ffn_a.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4))) = (fun _ => 1#1)

def Pre_FfnARefIdeal (m : (ℓ : Loc Cert.FfnARefIdeal.nD Cert.FfnARefIdeal.τ Cert.FfnARefIdeal.sig) → Buf (Elt Ideal) ℓ) : Prop :=
  True

def Pre_FfnARefIdeal_finite_ffn_a [hPre_finite_ffn_a : Cert.Pre_finite_ffn_a.Facts] (m : (ℓ : Loc Cert.FfnARefIdeal.nD Cert.FfnARefIdeal.τ Cert.FfnARefIdeal.sig) → Buf (Elt Ideal) ℓ) : Prop :=
  ∀ c : Dev Cert.FfnARefIdeal.nD,
    (Cert.Pre_finite_ffn_a.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3)) (m ((c.tc : Thread Cert.FfnARefIdeal.nD Cert.FfnARefIdeal.τ).loc Cert.FfnARefIdeal.main_arg4))) = (fun _ => 1#1)

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBIdeal_finite_ffn_b [hPre_finite_ffn_b : Cert.Pre_finite_ffn_b.Facts] (m : (ℓ : Loc Cert.FfnBIdeal.nD Cert.FfnBIdeal.τ Cert.FfnBIdeal.sig) → Buf (Elt Ideal) ℓ) : Prop :=
  ∀ c : Dev Cert.FfnBIdeal.nD,
    (Cert.Pre_finite_ffn_b.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))) = (fun _ => 1#1)

def Pre_FfnBRefIdeal (m : (ℓ : Loc Cert.FfnBRefIdeal.nD Cert.FfnBRefIdeal.τ Cert.FfnBRefIdeal.sig) → Buf (Elt Ideal) ℓ) : Prop :=
  True

def Pre_FfnBRefIdeal_finite_ffn_b [hPre_finite_ffn_b : Cert.Pre_finite_ffn_b.Facts] (m : (ℓ : Loc Cert.FfnBRefIdeal.nD Cert.FfnBRefIdeal.τ Cert.FfnBRefIdeal.sig) → Buf (Elt Ideal) ℓ) : Prop :=
  ∀ c : Dev Cert.FfnBRefIdeal.nD,
    (Cert.Pre_finite_ffn_b.fn (F := Ideal) (m ((c.tc : Thread Cert.FfnBRefIdeal.nD Cert.FfnBRefIdeal.τ).loc Cert.FfnBRefIdeal.main_arg0)) (m ((c.tc : Thread Cert.FfnBRefIdeal.nD Cert.FfnBRefIdeal.τ).loc Cert.FfnBRefIdeal.main_arg1)) (m ((c.tc : Thread Cert.FfnBRefIdeal.nD Cert.FfnBRefIdeal.τ).loc Cert.FfnBRefIdeal.main_arg2)) (m ((c.tc : Thread Cert.FfnBRefIdeal.nD Cert.FfnBRefIdeal.τ).loc Cert.FfnBRefIdeal.main_arg3)) (m ((c.tc : Thread Cert.FfnBRefIdeal.nD Cert.FfnBRefIdeal.τ).loc Cert.FfnBRefIdeal.main_arg4)) (m ((c.tc : Thread Cert.FfnBRefIdeal.nD Cert.FfnBRefIdeal.τ).loc Cert.FfnBRefIdeal.main_arg5)) (m ((c.tc : Thread Cert.FfnBRefIdeal.nD Cert.FfnBRefIdeal.τ).loc Cert.FfnBRefIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def Pre_Qkvu (m : (ℓ : Loc Cert.Qkvu.nD Cert.Qkvu.τ Cert.Qkvu.sig) → Buf (Elt Bits) ℓ) : Prop :=
  True

def Pre_QkvuIdeal (m : (ℓ : Loc Cert.QkvuIdeal.nD Cert.QkvuIdeal.τ Cert.QkvuIdeal.sig) → Buf (Elt Ideal) ℓ) : Prop :=
  True

def Pre_QkvuRefIdeal (m : (ℓ : Loc Cert.QkvuRefIdeal.nD Cert.QkvuRefIdeal.τ Cert.QkvuRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_finite_mix_out [hPre_finite_mix_out : Cert.Pre_finite_mix_out.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_finite_mix_out.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5))) = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_finite_mix_out [hPre_finite_mix_out : Cert.Pre_finite_mix_out.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_finite_mix_out.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5))) = (fun _ => 1#1)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InBwdIdeal_pre_finite [hInBwdIdeal : Cert.InBwdIdeal.Facts] [hPre_finite : Cert.Pre_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7))
      ∧ r.2.sem = fun _ => 0)

def quiescent_InBwdRefIdeal_pre_finite [hInBwdRefIdeal : Cert.InBwdRefIdeal.Facts] [hPre_finite : Cert.Pre_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadIdeal_pre_finite_head [hHeadIdeal : Cert.HeadIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_head m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_HeadRefIdeal_pre_finite_head [hHeadRefIdeal : Cert.HeadRefIdeal.Facts] [hPre_finite_head : Cert.Pre_finite_head.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite_head m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4))
      ∧ r.2.sem = fun _ => 0)

def quiescent_FfnAIdeal_pre_finite_ffn_a [hFfnAIdeal : Cert.FfnAIdeal.Facts] [hPre_finite_ffn_a : Cert.Pre_finite_ffn_a.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal_finite_ffn_a m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4))
      ∧ r.2.sem = fun _ => 0)

def quiescent_FfnARefIdeal_pre_finite_ffn_a [hFfnARefIdeal : Cert.FfnARefIdeal.Facts] [hPre_finite_ffn_a : Cert.Pre_finite_ffn_a.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal_finite_ffn_a m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5)
      ∧ r.2.mem ((c.tc : Thread Cert.FfnB.nD Cert.FfnB.τ).loc Cert.FfnB.main_arg6) = m ((c.tc : Thread Cert.FfnB.nD Cert.FfnB.τ).loc Cert.FfnB.main_arg6))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ r.2.sem = fun _ => 0)

def quiescent_FfnBIdeal_pre_finite_ffn_b [hFfnBIdeal : Cert.FfnBIdeal.Facts] [hPre_finite_ffn_b : Cert.Pre_finite_ffn_b.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal_finite_ffn_b m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5)
      ∧ r.2.mem ((c.tc : Thread Cert.FfnBRefIdeal.nD Cert.FfnBRefIdeal.τ).loc Cert.FfnBRefIdeal.main_arg6) = m ((c.tc : Thread Cert.FfnBRefIdeal.nD Cert.FfnBRefIdeal.τ).loc Cert.FfnBRefIdeal.main_arg6))
      ∧ r.2.sem = fun _ => 0)

def quiescent_FfnBRefIdeal_pre_finite_ffn_b [hFfnBRefIdeal : Cert.FfnBRefIdeal.Facts] [hPre_finite_ffn_b : Cert.Pre_finite_ffn_b.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal_finite_ffn_b m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5)
      ∧ r.2.mem ((c.tc : Thread Cert.FfnBRefIdeal.nD Cert.FfnBRefIdeal.τ).loc Cert.FfnBRefIdeal.main_arg6) = m ((c.tc : Thread Cert.FfnBRefIdeal.nD Cert.FfnBRefIdeal.τ).loc Cert.FfnBRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Qkvu [hQkvu : Cert.Qkvu.Facts] : Prop :=
  ∀ (m : (ℓ : Loc Cert.Qkvu.nD Cert.Qkvu.τ Cert.Qkvu.sig) → Buf (Elt Bits) ℓ) (g : Dev Cert.Qkvu.nD → PrngReg), Pre_Qkvu m →
    θ_run (Cert.Qkvu.defs (F := Bits)) (onTc (τ := Cert.Qkvu.τ) (Cert.Qkvu.main (F := Bits))) ⟨m, fun _ => 0, g⟩ (fun r => (∀ c : Dev Cert.Qkvu.nD,
      r.2.mem ((c.tc : Thread Cert.Qkvu.nD Cert.Qkvu.τ).loc Cert.Qkvu.main_arg0) = m ((c.tc : Thread Cert.Qkvu.nD Cert.Qkvu.τ).loc Cert.Qkvu.main_arg0)
      ∧ r.2.mem ((c.tc : Thread Cert.Qkvu.nD Cert.Qkvu.τ).loc Cert.Qkvu.main_arg1) = m ((c.tc : Thread Cert.Qkvu.nD Cert.Qkvu.τ).loc Cert.Qkvu.main_arg1)
      ∧ r.2.mem ((c.tc : Thread Cert.Qkvu.nD Cert.Qkvu.τ).loc Cert.Qkvu.main_arg2) = m ((c.tc : Thread Cert.Qkvu.nD Cert.Qkvu.τ).loc Cert.Qkvu.main_arg2))
      ∧ r.2.sem = fun _ => 0)

def quiescent_QkvuIdeal [hQkvuIdeal : Cert.QkvuIdeal.Facts] : Prop :=
  ∀ (m : (ℓ : Loc Cert.QkvuIdeal.nD Cert.QkvuIdeal.τ Cert.QkvuIdeal.sig) → Buf (Elt Ideal) ℓ) (g : Dev Cert.QkvuIdeal.nD → PrngReg), Pre_QkvuIdeal m →
    θ_run (Cert.QkvuIdeal.defs (F := Ideal)) (onTc (τ := Cert.QkvuIdeal.τ) (Cert.QkvuIdeal.main (F := Ideal))) ⟨m, fun _ => 0, g⟩ (fun r => (∀ c : Dev Cert.QkvuIdeal.nD,
      r.2.mem ((c.tc : Thread Cert.QkvuIdeal.nD Cert.QkvuIdeal.τ).loc Cert.QkvuIdeal.main_arg0) = m ((c.tc : Thread Cert.QkvuIdeal.nD Cert.QkvuIdeal.τ).loc Cert.QkvuIdeal.main_arg0)
      ∧ r.2.mem ((c.tc : Thread Cert.QkvuIdeal.nD Cert.QkvuIdeal.τ).loc Cert.QkvuIdeal.main_arg1) = m ((c.tc : Thread Cert.QkvuIdeal.nD Cert.QkvuIdeal.τ).loc Cert.QkvuIdeal.main_arg1)
      ∧ r.2.mem ((c.tc : Thread Cert.QkvuIdeal.nD Cert.QkvuIdeal.τ).loc Cert.QkvuIdeal.main_arg2) = m ((c.tc : Thread Cert.QkvuIdeal.nD Cert.QkvuIdeal.τ).loc Cert.QkvuIdeal.main_arg2))
      ∧ r.2.sem = fun _ => 0)

def quiescent_QkvuRefIdeal [hQkvuRefIdeal : Cert.QkvuRefIdeal.Facts] : Prop :=
  ∀ (m : (ℓ : Loc Cert.QkvuRefIdeal.nD Cert.QkvuRefIdeal.τ Cert.QkvuRefIdeal.sig) → Buf (Elt Ideal) ℓ) (g : Dev Cert.QkvuRefIdeal.nD → PrngReg), Pre_QkvuRefIdeal m →
    θ_run (Cert.QkvuRefIdeal.defs (F := Ideal)) (onTc (τ := Cert.QkvuRefIdeal.τ) (Cert.QkvuRefIdeal.main (F := Ideal))) ⟨m, fun _ => 0, g⟩ (fun r => (∀ c : Dev Cert.QkvuRefIdeal.nD,
      r.2.mem ((c.tc : Thread Cert.QkvuRefIdeal.nD Cert.QkvuRefIdeal.τ).loc Cert.QkvuRefIdeal.main_arg0) = m ((c.tc : Thread Cert.QkvuRefIdeal.nD Cert.QkvuRefIdeal.τ).loc Cert.QkvuRefIdeal.main_arg0)
      ∧ r.2.mem ((c.tc : Thread Cert.QkvuRefIdeal.nD Cert.QkvuRefIdeal.τ).loc Cert.QkvuRefIdeal.main_arg1) = m ((c.tc : Thread Cert.QkvuRefIdeal.nD Cert.QkvuRefIdeal.τ).loc Cert.QkvuRefIdeal.main_arg1)
      ∧ r.2.mem ((c.tc : Thread Cert.QkvuRefIdeal.nD Cert.QkvuRefIdeal.τ).loc Cert.QkvuRefIdeal.main_arg2) = m ((c.tc : Thread Cert.QkvuRefIdeal.nD Cert.QkvuRefIdeal.τ).loc Cert.QkvuRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutIdeal_pre_finite_mix_out [hMixOutIdeal : Cert.MixOutIdeal.Facts] [hPre_finite_mix_out : Cert.Pre_finite_mix_out.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_finite_mix_out m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_MixOutRefIdeal_pre_finite_mix_out [hMixOutRefIdeal : Cert.MixOutRefIdeal.Facts] [hPre_finite_mix_out : Cert.Pre_finite_mix_out.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_finite_mix_out m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def preserves_InBwd_InBwdIdeal : Prop :=
  True

def algebraic_InBwdIdeal_InBwdRefIdeal_pre_finite [hInBwdIdeal : Cert.InBwdIdeal.Facts] [hInBwdRefIdeal : Cert.InBwdRefIdeal.Facts] [hPre_finite : Cert.Pre_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)) →
    ∃ (v0 : (c : Dev Cert.InBwdIdeal.nD) → Buf (Elt Ideal) ((c.tc : Thread Cert.InBwdIdeal.nD Cert.InBwdIdeal.τ).loc Cert.InBwdIdeal.main_v5_0)) (v1 : (c : Dev Cert.InBwdIdeal.nD) → Buf (Elt Ideal) ((c.tc : Thread Cert.InBwdIdeal.nD Cert.InBwdIdeal.τ).loc Cert.InBwdIdeal.main_v5_1)) (v2 : (c : Dev Cert.InBwdIdeal.nD) → Buf (Elt Ideal) ((c.tc : Thread Cert.InBwdIdeal.nD Cert.InBwdIdeal.τ).loc Cert.InBwdIdeal.main_v5_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v5_0) = v0 c
          ∧ r.2.mem ((c.tc : Thread Cert.InBwdIdeal.nD Cert.InBwdIdeal.τ).loc Cert.InBwdIdeal.main_v5_1) = v1 c
          ∧ r.2.mem ((c.tc : Thread Cert.InBwdIdeal.nD Cert.InBwdIdeal.τ).loc Cert.InBwdIdeal.main_v5_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v67) = v0 c
          ∧ r.2.mem ((c.tc : Thread Cert.InBwdRefIdeal.nD Cert.InBwdRefIdeal.τ).loc Cert.InBwdRefIdeal.main_v68) = v1 c
          ∧ r.2.mem ((c.tc : Thread Cert.InBwdRefIdeal.nD Cert.InBwdRefIdeal.τ).loc Cert.InBwdRefIdeal.main_v63) = v2 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7))

def preserves_Head_HeadIdeal : Prop :=
  True

def algebraic_HeadIdeal_HeadRefIdeal_pre_finite_head [hHeadIdeal : Cert.HeadIdeal.Facts] [hHeadRefIdeal : Cert.HeadRefIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite_head m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v8_0)) (v1 : (c : Dev Cert.HeadIdeal.nD) → Buf (Elt Ideal) ((c.tc : Thread Cert.HeadIdeal.nD Cert.HeadIdeal.τ).loc Cert.HeadIdeal.main_v8_1)) (v2 : (c : Dev Cert.HeadIdeal.nD) → Buf (Elt Ideal) ((c.tc : Thread Cert.HeadIdeal.nD Cert.HeadIdeal.τ).loc Cert.HeadIdeal.main_v8_2)) (v3 : (c : Dev Cert.HeadIdeal.nD) → Buf (Elt Ideal) ((c.tc : Thread Cert.HeadIdeal.nD Cert.HeadIdeal.τ).loc Cert.HeadIdeal.main_v8_3)) (v4 : (c : Dev Cert.HeadIdeal.nD) → Buf (Elt Ideal) ((c.tc : Thread Cert.HeadIdeal.nD Cert.HeadIdeal.τ).loc Cert.HeadIdeal.main_v8_4)) (v5 : (c : Dev Cert.HeadIdeal.nD) → Buf (Elt Ideal) ((c.tc : Thread Cert.HeadIdeal.nD Cert.HeadIdeal.τ).loc Cert.HeadIdeal.main_v8_5)) (v6 : (c : Dev Cert.HeadIdeal.nD) → Buf (Elt Ideal) ((c.tc : Thread Cert.HeadIdeal.nD Cert.HeadIdeal.τ).loc Cert.HeadIdeal.main_v8_6)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v8_0) = v0 c
          ∧ r.2.mem ((c.tc : Thread Cert.HeadIdeal.nD Cert.HeadIdeal.τ).loc Cert.HeadIdeal.main_v8_1) = v1 c
          ∧ r.2.mem ((c.tc : Thread Cert.HeadIdeal.nD Cert.HeadIdeal.τ).loc Cert.HeadIdeal.main_v8_2) = v2 c
          ∧ r.2.mem ((c.tc : Thread Cert.HeadIdeal.nD Cert.HeadIdeal.τ).loc Cert.HeadIdeal.main_v8_3) = v3 c
          ∧ r.2.mem ((c.tc : Thread Cert.HeadIdeal.nD Cert.HeadIdeal.τ).loc Cert.HeadIdeal.main_v8_4) = v4 c
          ∧ r.2.mem ((c.tc : Thread Cert.HeadIdeal.nD Cert.HeadIdeal.τ).loc Cert.HeadIdeal.main_v8_5) = v5 c
          ∧ r.2.mem ((c.tc : Thread Cert.HeadIdeal.nD Cert.HeadIdeal.τ).loc Cert.HeadIdeal.main_v8_6) = v6 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v118) = v0 c
          ∧ r.2.mem ((c.tc : Thread Cert.HeadRefIdeal.nD Cert.HeadRefIdeal.τ).loc Cert.HeadRefIdeal.main_v119) = v1 c
          ∧ r.2.mem ((c.tc : Thread Cert.HeadRefIdeal.nD Cert.HeadRefIdeal.τ).loc Cert.HeadRefIdeal.main_v121) = v2 c
          ∧ r.2.mem ((c.tc : Thread Cert.HeadRefIdeal.nD Cert.HeadRefIdeal.τ).loc Cert.HeadRefIdeal.main_v123) = v3 c
          ∧ r.2.mem ((c.tc : Thread Cert.HeadRefIdeal.nD Cert.HeadRefIdeal.τ).loc Cert.HeadRefIdeal.main_v125) = v4 c
          ∧ r.2.mem ((c.tc : Thread Cert.HeadRefIdeal.nD Cert.HeadRefIdeal.τ).loc Cert.HeadRefIdeal.main_v117) = v5 c
          ∧ r.2.mem ((c.tc : Thread Cert.HeadRefIdeal.nD Cert.HeadRefIdeal.τ).loc Cert.HeadRefIdeal.main_v126) = v6 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_FfnA_FfnAIdeal : Prop :=
  True

def algebraic_FfnAIdeal_FfnARefIdeal_pre_finite_ffn_a [hFfnAIdeal : Cert.FfnAIdeal.Facts] [hFfnARefIdeal : Cert.FfnARefIdeal.Facts] [hPre_finite_ffn_a : Cert.Pre_finite_ffn_a.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal_finite_ffn_a m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)
      ∧ m' ((c.tc : Thread Cert.FfnARefIdeal.nD Cert.FfnARefIdeal.τ).loc Cert.FfnARefIdeal.main_arg4) = m ((c.tc : Thread Cert.FfnAIdeal.nD Cert.FfnAIdeal.τ).loc Cert.FfnAIdeal.main_arg4)) →
    ∃ (v0 : (c : Dev Cert.FfnAIdeal.nD) → Buf (Elt Ideal) ((c.tc : Thread Cert.FfnAIdeal.nD Cert.FfnAIdeal.τ).loc Cert.FfnAIdeal.main_v40_0)) (v1 : (c : Dev Cert.FfnAIdeal.nD) → Buf (Elt Ideal) ((c.tc : Thread Cert.FfnAIdeal.nD Cert.FfnAIdeal.τ).loc Cert.FfnAIdeal.main_v40_1)) (v2 : (c : Dev Cert.FfnAIdeal.nD) → Buf (Elt Ideal) ((c.tc : Thread Cert.FfnAIdeal.nD Cert.FfnAIdeal.τ).loc Cert.FfnAIdeal.main_v40_2)) (v3 : (c : Dev Cert.FfnAIdeal.nD) → Buf (Elt Ideal) ((c.tc : Thread Cert.FfnAIdeal.nD Cert.FfnAIdeal.τ).loc Cert.FfnAIdeal.main_v40_3)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v40_0) = v0 c
          ∧ r.2.mem ((c.tc : Thread Cert.FfnAIdeal.nD Cert.FfnAIdeal.τ).loc Cert.FfnAIdeal.main_v40_1) = v1 c
          ∧ r.2.mem ((c.tc : Thread Cert.FfnAIdeal.nD Cert.FfnAIdeal.τ).loc Cert.FfnAIdeal.main_v40_2) = v2 c
          ∧ r.2.mem ((c.tc : Thread Cert.FfnAIdeal.nD Cert.FfnAIdeal.τ).loc Cert.FfnAIdeal.main_v40_3) = v3 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v98) = v0 c
          ∧ r.2.mem ((c.tc : Thread Cert.FfnARefIdeal.nD Cert.FfnARefIdeal.τ).loc Cert.FfnARefIdeal.main_v102) = v1 c
          ∧ r.2.mem ((c.tc : Thread Cert.FfnARefIdeal.nD Cert.FfnARefIdeal.τ).loc Cert.FfnARefIdeal.main_v105) = v2 c
          ∧ r.2.mem ((c.tc : Thread Cert.FfnARefIdeal.nD Cert.FfnARefIdeal.τ).loc Cert.FfnARefIdeal.main_v106) = v3 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3)
          ∧ r.2.mem ((c.tc : Thread Cert.FfnARefIdeal.nD Cert.FfnARefIdeal.τ).loc Cert.FfnARefIdeal.main_arg4) = m' ((c.tc : Thread Cert.FfnARefIdeal.nD Cert.FfnARefIdeal.τ).loc Cert.FfnARefIdeal.main_arg4))

def preserves_FfnB_FfnBIdeal : Prop :=
  True

def algebraic_FfnBIdeal_FfnBRefIdeal_pre_finite_ffn_b [hFfnBIdeal : Cert.FfnBIdeal.Facts] [hFfnBRefIdeal : Cert.FfnBRefIdeal.Facts] [hPre_finite_ffn_b : Cert.Pre_finite_ffn_b.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal_finite_ffn_b m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)
      ∧ m' ((c.tc : Thread Cert.FfnBRefIdeal.nD Cert.FfnBRefIdeal.τ).loc Cert.FfnBRefIdeal.main_arg5) = m ((c.tc : Thread Cert.FfnBIdeal.nD Cert.FfnBIdeal.τ).loc Cert.FfnBIdeal.main_arg5)
      ∧ m' ((c.tc : Thread Cert.FfnBRefIdeal.nD Cert.FfnBRefIdeal.τ).loc Cert.FfnBRefIdeal.main_arg6) = m ((c.tc : Thread Cert.FfnBIdeal.nD Cert.FfnBIdeal.τ).loc Cert.FfnBIdeal.main_arg6)) →
    ∃ (v0 : (c : Dev Cert.FfnBIdeal.nD) → Buf (Elt Ideal) ((c.tc : Thread Cert.FfnBIdeal.nD Cert.FfnBIdeal.τ).loc Cert.FfnBIdeal.main_v11_0)) (v1 : (c : Dev Cert.FfnBIdeal.nD) → Buf (Elt Ideal) ((c.tc : Thread Cert.FfnBIdeal.nD Cert.FfnBIdeal.τ).loc Cert.FfnBIdeal.main_v11_1)) (v2 : (c : Dev Cert.FfnBIdeal.nD) → Buf (Elt Ideal) ((c.tc : Thread Cert.FfnBIdeal.nD Cert.FfnBIdeal.τ).loc Cert.FfnBIdeal.main_v11_2)) (v3 : (c : Dev Cert.FfnBIdeal.nD) → Buf (Elt Ideal) ((c.tc : Thread Cert.FfnBIdeal.nD Cert.FfnBIdeal.τ).loc Cert.FfnBIdeal.main_v11_3)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v11_0) = v0 c
          ∧ r.2.mem ((c.tc : Thread Cert.FfnBIdeal.nD Cert.FfnBIdeal.τ).loc Cert.FfnBIdeal.main_v11_1) = v1 c
          ∧ r.2.mem ((c.tc : Thread Cert.FfnBIdeal.nD Cert.FfnBIdeal.τ).loc Cert.FfnBIdeal.main_v11_2) = v2 c
          ∧ r.2.mem ((c.tc : Thread Cert.FfnBIdeal.nD Cert.FfnBIdeal.τ).loc Cert.FfnBIdeal.main_v11_3) = v3 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
          ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v93) = v0 c
          ∧ r.2.mem ((c.tc : Thread Cert.FfnBRefIdeal.nD Cert.FfnBRefIdeal.τ).loc Cert.FfnBRefIdeal.main_v94) = v1 c
          ∧ r.2.mem ((c.tc : Thread Cert.FfnBRefIdeal.nD Cert.FfnBRefIdeal.τ).loc Cert.FfnBRefIdeal.main_v96) = v2 c
          ∧ r.2.mem ((c.tc : Thread Cert.FfnBRefIdeal.nD Cert.FfnBRefIdeal.τ).loc Cert.FfnBRefIdeal.main_v89) = v3 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4)
          ∧ r.2.mem ((c.tc : Thread Cert.FfnBRefIdeal.nD Cert.FfnBRefIdeal.τ).loc Cert.FfnBRefIdeal.main_arg5) = m' ((c.tc : Thread Cert.FfnBRefIdeal.nD Cert.FfnBRefIdeal.τ).loc Cert.FfnBRefIdeal.main_arg5)
          ∧ r.2.mem ((c.tc : Thread Cert.FfnBRefIdeal.nD Cert.FfnBRefIdeal.τ).loc Cert.FfnBRefIdeal.main_arg6) = m' ((c.tc : Thread Cert.FfnBRefIdeal.nD Cert.FfnBRefIdeal.τ).loc Cert.FfnBRefIdeal.main_arg6))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v105_0)) (v1 : (c : Dev Cert.MixIdeal.nD) → Buf (Elt Ideal) ((c.tc : Thread Cert.MixIdeal.nD Cert.MixIdeal.τ).loc Cert.MixIdeal.main_v105_1)) (v2 : (c : Dev Cert.MixIdeal.nD) → Buf (Elt Ideal) ((c.tc : Thread Cert.MixIdeal.nD Cert.MixIdeal.τ).loc Cert.MixIdeal.main_v105_2)) (v3 : (c : Dev Cert.MixIdeal.nD) → Buf (Elt Ideal) ((c.tc : Thread Cert.MixIdeal.nD Cert.MixIdeal.τ).loc Cert.MixIdeal.main_v105_3)) (v4 : (c : Dev Cert.MixIdeal.nD) → Buf (Elt Ideal) ((c.tc : Thread Cert.MixIdeal.nD Cert.MixIdeal.τ).loc Cert.MixIdeal.main_v105_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v105_0) = v0 c
          ∧ r.2.mem ((c.tc : Thread Cert.MixIdeal.nD Cert.MixIdeal.τ).loc Cert.MixIdeal.main_v105_1) = v1 c
          ∧ r.2.mem ((c.tc : Thread Cert.MixIdeal.nD Cert.MixIdeal.τ).loc Cert.MixIdeal.main_v105_2) = v2 c
          ∧ r.2.mem ((c.tc : Thread Cert.MixIdeal.nD Cert.MixIdeal.τ).loc Cert.MixIdeal.main_v105_3) = v3 c
          ∧ r.2.mem ((c.tc : Thread Cert.MixIdeal.nD Cert.MixIdeal.τ).loc Cert.MixIdeal.main_v105_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v202) = v0 c
          ∧ r.2.mem ((c.tc : Thread Cert.MixRefIdeal.nD Cert.MixRefIdeal.τ).loc Cert.MixRefIdeal.main_v203) = v1 c
          ∧ r.2.mem ((c.tc : Thread Cert.MixRefIdeal.nD Cert.MixRefIdeal.τ).loc Cert.MixRefIdeal.main_v204) = v2 c
          ∧ r.2.mem ((c.tc : Thread Cert.MixRefIdeal.nD Cert.MixRefIdeal.τ).loc Cert.MixRefIdeal.main_v200) = v3 c
          ∧ r.2.mem ((c.tc : Thread Cert.MixRefIdeal.nD Cert.MixRefIdeal.τ).loc Cert.MixRefIdeal.main_v206) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Qkvu_QkvuIdeal : Prop :=
  True

def algebraic_QkvuIdeal_QkvuRefIdeal [hQkvuIdeal : Cert.QkvuIdeal.Facts] [hQkvuRefIdeal : Cert.QkvuRefIdeal.Facts] : Prop :=
  ∀ (m : (ℓ : Loc Cert.QkvuIdeal.nD Cert.QkvuIdeal.τ Cert.QkvuIdeal.sig) → Buf (Elt Ideal) ℓ) (g : Dev Cert.QkvuIdeal.nD → PrngReg)
    (m' : (ℓ : Loc Cert.QkvuRefIdeal.nD Cert.QkvuRefIdeal.τ Cert.QkvuRefIdeal.sig) → Buf (Elt Ideal) ℓ) (g' : Dev Cert.QkvuRefIdeal.nD → PrngReg), Pre_QkvuIdeal m →
    (∀ c : Dev Cert.QkvuIdeal.nD,
      m' ((c.tc : Thread Cert.QkvuRefIdeal.nD Cert.QkvuRefIdeal.τ).loc Cert.QkvuRefIdeal.main_arg0) = m ((c.tc : Thread Cert.QkvuIdeal.nD Cert.QkvuIdeal.τ).loc Cert.QkvuIdeal.main_arg0)
      ∧ m' ((c.tc : Thread Cert.QkvuRefIdeal.nD Cert.QkvuRefIdeal.τ).loc Cert.QkvuRefIdeal.main_arg1) = m ((c.tc : Thread Cert.QkvuIdeal.nD Cert.QkvuIdeal.τ).loc Cert.QkvuIdeal.main_arg1)
      ∧ m' ((c.tc : Thread Cert.QkvuRefIdeal.nD Cert.QkvuRefIdeal.τ).loc Cert.QkvuRefIdeal.main_arg2) = m ((c.tc : Thread Cert.QkvuIdeal.nD Cert.QkvuIdeal.τ).loc Cert.QkvuIdeal.main_arg2)) →
    ∃ (v0 : (c : Dev Cert.QkvuIdeal.nD) → Buf (Elt Ideal) ((c.tc : Thread Cert.QkvuIdeal.nD Cert.QkvuIdeal.τ).loc Cert.QkvuIdeal.main_v5_0)) (v1 : (c : Dev Cert.QkvuIdeal.nD) → Buf (Elt Ideal) ((c.tc : Thread Cert.QkvuIdeal.nD Cert.QkvuIdeal.τ).loc Cert.QkvuIdeal.main_v5_1)) (v2 : (c : Dev Cert.QkvuIdeal.nD) → Buf (Elt Ideal) ((c.tc : Thread Cert.QkvuIdeal.nD Cert.QkvuIdeal.τ).loc Cert.QkvuIdeal.main_v5_2)) (v3 : (c : Dev Cert.QkvuIdeal.nD) → Buf (Elt Ideal) ((c.tc : Thread Cert.QkvuIdeal.nD Cert.QkvuIdeal.τ).loc Cert.QkvuIdeal.main_v5_3)) (v4 : (c : Dev Cert.QkvuIdeal.nD) → Buf (Elt Ideal) ((c.tc : Thread Cert.QkvuIdeal.nD Cert.QkvuIdeal.τ).loc Cert.QkvuIdeal.main_v5_4)),
      θ_run (Cert.QkvuIdeal.defs (F := Ideal)) (onTc (τ := Cert.QkvuIdeal.τ) (Cert.QkvuIdeal.main (F := Ideal))) ⟨m, fun _ => 0, g⟩ (fun r => ∀ c : Dev Cert.QkvuIdeal.nD,
          r.2.mem ((c.tc : Thread Cert.QkvuIdeal.nD Cert.QkvuIdeal.τ).loc Cert.QkvuIdeal.main_v5_0) = v0 c
          ∧ r.2.mem ((c.tc : Thread Cert.QkvuIdeal.nD Cert.QkvuIdeal.τ).loc Cert.QkvuIdeal.main_v5_1) = v1 c
          ∧ r.2.mem ((c.tc : Thread Cert.QkvuIdeal.nD Cert.QkvuIdeal.τ).loc Cert.QkvuIdeal.main_v5_2) = v2 c
          ∧ r.2.mem ((c.tc : Thread Cert.QkvuIdeal.nD Cert.QkvuIdeal.τ).loc Cert.QkvuIdeal.main_v5_3) = v3 c
          ∧ r.2.mem ((c.tc : Thread Cert.QkvuIdeal.nD Cert.QkvuIdeal.τ).loc Cert.QkvuIdeal.main_v5_4) = v4 c
          ∧ r.2.mem ((c.tc : Thread Cert.QkvuIdeal.nD Cert.QkvuIdeal.τ).loc Cert.QkvuIdeal.main_arg0) = m ((c.tc : Thread Cert.QkvuIdeal.nD Cert.QkvuIdeal.τ).loc Cert.QkvuIdeal.main_arg0)
          ∧ r.2.mem ((c.tc : Thread Cert.QkvuIdeal.nD Cert.QkvuIdeal.τ).loc Cert.QkvuIdeal.main_arg1) = m ((c.tc : Thread Cert.QkvuIdeal.nD Cert.QkvuIdeal.τ).loc Cert.QkvuIdeal.main_arg1)
          ∧ r.2.mem ((c.tc : Thread Cert.QkvuIdeal.nD Cert.QkvuIdeal.τ).loc Cert.QkvuIdeal.main_arg2) = m ((c.tc : Thread Cert.QkvuIdeal.nD Cert.QkvuIdeal.τ).loc Cert.QkvuIdeal.main_arg2))
      ∧ θ_run (Cert.QkvuRefIdeal.defs (F := Ideal)) (onTc (τ := Cert.QkvuRefIdeal.τ) (Cert.QkvuRefIdeal.main (F := Ideal))) ⟨m', fun _ => 0, g'⟩ (fun r => ∀ c : Dev Cert.QkvuRefIdeal.nD,
          r.2.mem ((c.tc : Thread Cert.QkvuRefIdeal.nD Cert.QkvuRefIdeal.τ).loc Cert.QkvuRefIdeal.main_v19) = v0 c
          ∧ r.2.mem ((c.tc : Thread Cert.QkvuRefIdeal.nD Cert.QkvuRefIdeal.τ).loc Cert.QkvuRefIdeal.main_v21) = v1 c
          ∧ r.2.mem ((c.tc : Thread Cert.QkvuRefIdeal.nD Cert.QkvuRefIdeal.τ).loc Cert.QkvuRefIdeal.main_v23) = v2 c
          ∧ r.2.mem ((c.tc : Thread Cert.QkvuRefIdeal.nD Cert.QkvuRefIdeal.τ).loc Cert.QkvuRefIdeal.main_v25) = v3 c
          ∧ r.2.mem ((c.tc : Thread Cert.QkvuRefIdeal.nD Cert.QkvuRefIdeal.τ).loc Cert.QkvuRefIdeal.main_v27) = v4 c
          ∧ r.2.mem ((c.tc : Thread Cert.QkvuRefIdeal.nD Cert.QkvuRefIdeal.τ).loc Cert.QkvuRefIdeal.main_arg0) = m' ((c.tc : Thread Cert.QkvuRefIdeal.nD Cert.QkvuRefIdeal.τ).loc Cert.QkvuRefIdeal.main_arg0)
          ∧ r.2.mem ((c.tc : Thread Cert.QkvuRefIdeal.nD Cert.QkvuRefIdeal.τ).loc Cert.QkvuRefIdeal.main_arg1) = m' ((c.tc : Thread Cert.QkvuRefIdeal.nD Cert.QkvuRefIdeal.τ).loc Cert.QkvuRefIdeal.main_arg1)
          ∧ r.2.mem ((c.tc : Thread Cert.QkvuRefIdeal.nD Cert.QkvuRefIdeal.τ).loc Cert.QkvuRefIdeal.main_arg2) = m' ((c.tc : Thread Cert.QkvuRefIdeal.nD Cert.QkvuRefIdeal.τ).loc Cert.QkvuRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v9_0)) (v1 : (c : Dev Cert.FfnUpIdeal.nD) → Buf (Elt Ideal) ((c.tc : Thread Cert.FfnUpIdeal.nD Cert.FfnUpIdeal.τ).loc Cert.FfnUpIdeal.main_v9_1)) (v2 : (c : Dev Cert.FfnUpIdeal.nD) → Buf (Elt Ideal) ((c.tc : Thread Cert.FfnUpIdeal.nD Cert.FfnUpIdeal.τ).loc Cert.FfnUpIdeal.main_v9_2)) (v3 : (c : Dev Cert.FfnUpIdeal.nD) → Buf (Elt Ideal) ((c.tc : Thread Cert.FfnUpIdeal.nD Cert.FfnUpIdeal.τ).loc Cert.FfnUpIdeal.main_v9_3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v9_0) = v0 c
          ∧ r.2.mem ((c.tc : Thread Cert.FfnUpIdeal.nD Cert.FfnUpIdeal.τ).loc Cert.FfnUpIdeal.main_v9_1) = v1 c
          ∧ r.2.mem ((c.tc : Thread Cert.FfnUpIdeal.nD Cert.FfnUpIdeal.τ).loc Cert.FfnUpIdeal.main_v9_2) = v2 c
          ∧ r.2.mem ((c.tc : Thread Cert.FfnUpIdeal.nD Cert.FfnUpIdeal.τ).loc Cert.FfnUpIdeal.main_v9_3) = v3 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v51) = v0 c
          ∧ r.2.mem ((c.tc : Thread Cert.FfnUpRefIdeal.nD Cert.FfnUpRefIdeal.τ).loc Cert.FfnUpRefIdeal.main_v53) = v1 c
          ∧ r.2.mem ((c.tc : Thread Cert.FfnUpRefIdeal.nD Cert.FfnUpRefIdeal.τ).loc Cert.FfnUpRefIdeal.main_v57) = v2 c
          ∧ r.2.mem ((c.tc : Thread Cert.FfnUpRefIdeal.nD Cert.FfnUpRefIdeal.τ).loc Cert.FfnUpRefIdeal.main_v61) = v3 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v8)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v8) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v6)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v6) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v6) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v8_0)) (v1 : (c : Dev Cert.AdamwIdeal.nD) → Buf (Elt Ideal) ((c.tc : Thread Cert.AdamwIdeal.nD Cert.AdamwIdeal.τ).loc Cert.AdamwIdeal.main_v8_1)) (v2 : (c : Dev Cert.AdamwIdeal.nD) → Buf (Elt Ideal) ((c.tc : Thread Cert.AdamwIdeal.nD Cert.AdamwIdeal.τ).loc Cert.AdamwIdeal.main_v8_2)) (v3 : (c : Dev Cert.AdamwIdeal.nD) → Buf (Elt Ideal) ((c.tc : Thread Cert.AdamwIdeal.nD Cert.AdamwIdeal.τ).loc Cert.AdamwIdeal.main_v8_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v8_0) = v0 c
          ∧ r.2.mem ((c.tc : Thread Cert.AdamwIdeal.nD Cert.AdamwIdeal.τ).loc Cert.AdamwIdeal.main_v8_1) = v1 c
          ∧ r.2.mem ((c.tc : Thread Cert.AdamwIdeal.nD Cert.AdamwIdeal.τ).loc Cert.AdamwIdeal.main_v8_2) = v2 c
          ∧ r.2.mem ((c.tc : Thread Cert.AdamwIdeal.nD Cert.AdamwIdeal.τ).loc Cert.AdamwIdeal.main_v8_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v27) = v0 c
          ∧ r.2.mem ((c.tc : Thread Cert.AdamwRefIdeal.nD Cert.AdamwRefIdeal.τ).loc Cert.AdamwRefIdeal.main_v29) = v1 c
          ∧ r.2.mem ((c.tc : Thread Cert.AdamwRefIdeal.nD Cert.AdamwRefIdeal.τ).loc Cert.AdamwRefIdeal.main_v31) = v2 c
          ∧ r.2.mem ((c.tc : Thread Cert.AdamwRefIdeal.nD Cert.AdamwRefIdeal.τ).loc Cert.AdamwRefIdeal.main_v33) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_MixOut_MixOutIdeal : Prop :=
  True

def algebraic_MixOutIdeal_MixOutRefIdeal_pre_finite_mix_out [hMixOutIdeal : Cert.MixOutIdeal.Facts] [hMixOutRefIdeal : Cert.MixOutRefIdeal.Facts] [hPre_finite_mix_out : Cert.Pre_finite_mix_out.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_finite_mix_out m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v6_0)) (v1 : (c : Dev Cert.MixOutIdeal.nD) → Buf (Elt Ideal) ((c.tc : Thread Cert.MixOutIdeal.nD Cert.MixOutIdeal.τ).loc Cert.MixOutIdeal.main_v6_1)) (v2 : (c : Dev Cert.MixOutIdeal.nD) → Buf (Elt Ideal) ((c.tc : Thread Cert.MixOutIdeal.nD Cert.MixOutIdeal.τ).loc Cert.MixOutIdeal.main_v6_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v6_0) = v0 c
          ∧ r.2.mem ((c.tc : Thread Cert.MixOutIdeal.nD Cert.MixOutIdeal.τ).loc Cert.MixOutIdeal.main_v6_1) = v1 c
          ∧ r.2.mem ((c.tc : Thread Cert.MixOutIdeal.nD Cert.MixOutIdeal.τ).loc Cert.MixOutIdeal.main_v6_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v100) = v0 c
          ∧ r.2.mem ((c.tc : Thread Cert.MixOutRefIdeal.nD Cert.MixOutRefIdeal.τ).loc Cert.MixOutRefIdeal.main_v102) = v1 c
          ∧ r.2.mem ((c.tc : Thread Cert.MixOutRefIdeal.nD Cert.MixOutRefIdeal.τ).loc Cert.MixOutRefIdeal.main_v104) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def Claim : Prop :=
  ∃ (hInBwd : Cert.InBwd.Facts) (hInBwdIdeal : Cert.InBwdIdeal.Facts) (hInBwdRefIdeal : Cert.InBwdRefIdeal.Facts) (hHead : Cert.Head.Facts) (hHeadIdeal : Cert.HeadIdeal.Facts) (hHeadRefIdeal : Cert.HeadRefIdeal.Facts) (hFfnA : Cert.FfnA.Facts) (hFfnAIdeal : Cert.FfnAIdeal.Facts) (hFfnARefIdeal : Cert.FfnARefIdeal.Facts) (hFfnB : Cert.FfnB.Facts) (hFfnBIdeal : Cert.FfnBIdeal.Facts) (hFfnBRefIdeal : Cert.FfnBRefIdeal.Facts) (hMix : Cert.Mix.Facts) (hMixIdeal : Cert.MixIdeal.Facts) (hMixRefIdeal : Cert.MixRefIdeal.Facts) (hQkvu : Cert.Qkvu.Facts) (hQkvuIdeal : Cert.QkvuIdeal.Facts) (hQkvuRefIdeal : Cert.QkvuRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hWgrad : Cert.Wgrad.Facts) (hWgradIdeal : Cert.WgradIdeal.Facts) (hWgradRefIdeal : Cert.WgradRefIdeal.Facts) (hAdamw : Cert.Adamw.Facts) (hAdamwIdeal : Cert.AdamwIdeal.Facts) (hAdamwRefIdeal : Cert.AdamwRefIdeal.Facts) (hMixOut : Cert.MixOut.Facts) (hMixOutIdeal : Cert.MixOutIdeal.Facts) (hMixOutRefIdeal : Cert.MixOutRefIdeal.Facts) (hPre_finite : Cert.Pre_finite.Facts) (hPre_finite_head : Cert.Pre_finite_head.Facts) (hPre_finite_ffn_a : Cert.Pre_finite_ffn_a.Facts) (hPre_finite_ffn_b : Cert.Pre_finite_ffn_b.Facts) (hPre_finite_mix : Cert.Pre_finite_mix.Facts) (hPre_finite_mix_out : Cert.Pre_finite_mix_out.Facts),
    quiescent_InBwd (hInBwd := hInBwd)
    ∧ quiescent_InBwdIdeal (hInBwdIdeal := hInBwdIdeal)
    ∧ quiescent_InBwdIdeal_pre_finite (hInBwdIdeal := hInBwdIdeal) (hPre_finite := hPre_finite)
    ∧ quiescent_InBwdRefIdeal (hInBwdRefIdeal := hInBwdRefIdeal)
    ∧ quiescent_InBwdRefIdeal_pre_finite (hInBwdRefIdeal := hInBwdRefIdeal) (hPre_finite := hPre_finite)
    ∧ quiescent_Head (hHead := hHead)
    ∧ quiescent_HeadIdeal (hHeadIdeal := hHeadIdeal)
    ∧ quiescent_HeadIdeal_pre_finite_head (hHeadIdeal := hHeadIdeal) (hPre_finite_head := hPre_finite_head)
    ∧ quiescent_HeadRefIdeal (hHeadRefIdeal := hHeadRefIdeal)
    ∧ quiescent_HeadRefIdeal_pre_finite_head (hHeadRefIdeal := hHeadRefIdeal) (hPre_finite_head := hPre_finite_head)
    ∧ quiescent_FfnA (hFfnA := hFfnA)
    ∧ quiescent_FfnAIdeal (hFfnAIdeal := hFfnAIdeal)
    ∧ quiescent_FfnAIdeal_pre_finite_ffn_a (hFfnAIdeal := hFfnAIdeal) (hPre_finite_ffn_a := hPre_finite_ffn_a)
    ∧ quiescent_FfnARefIdeal (hFfnARefIdeal := hFfnARefIdeal)
    ∧ quiescent_FfnARefIdeal_pre_finite_ffn_a (hFfnARefIdeal := hFfnARefIdeal) (hPre_finite_ffn_a := hPre_finite_ffn_a)
    ∧ quiescent_FfnB (hFfnB := hFfnB)
    ∧ quiescent_FfnBIdeal (hFfnBIdeal := hFfnBIdeal)
    ∧ quiescent_FfnBIdeal_pre_finite_ffn_b (hFfnBIdeal := hFfnBIdeal) (hPre_finite_ffn_b := hPre_finite_ffn_b)
    ∧ quiescent_FfnBRefIdeal (hFfnBRefIdeal := hFfnBRefIdeal)
    ∧ quiescent_FfnBRefIdeal_pre_finite_ffn_b (hFfnBRefIdeal := hFfnBRefIdeal) (hPre_finite_ffn_b := hPre_finite_ffn_b)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Qkvu (hQkvu := hQkvu)
    ∧ quiescent_QkvuIdeal (hQkvuIdeal := hQkvuIdeal)
    ∧ quiescent_QkvuRefIdeal (hQkvuRefIdeal := hQkvuRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_MixOut (hMixOut := hMixOut)
    ∧ quiescent_MixOutIdeal (hMixOutIdeal := hMixOutIdeal)
    ∧ quiescent_MixOutIdeal_pre_finite_mix_out (hMixOutIdeal := hMixOutIdeal) (hPre_finite_mix_out := hPre_finite_mix_out)
    ∧ quiescent_MixOutRefIdeal (hMixOutRefIdeal := hMixOutRefIdeal)
    ∧ quiescent_MixOutRefIdeal_pre_finite_mix_out (hMixOutRefIdeal := hMixOutRefIdeal) (hPre_finite_mix_out := hPre_finite_mix_out)
    ∧ preserves_InBwd_InBwdIdeal
    ∧ algebraic_InBwdIdeal_InBwdRefIdeal_pre_finite (hInBwdIdeal := hInBwdIdeal) (hInBwdRefIdeal := hInBwdRefIdeal) (hPre_finite := hPre_finite)
    ∧ preserves_Head_HeadIdeal
    ∧ algebraic_HeadIdeal_HeadRefIdeal_pre_finite_head (hHeadIdeal := hHeadIdeal) (hHeadRefIdeal := hHeadRefIdeal) (hPre_finite_head := hPre_finite_head)
    ∧ preserves_FfnA_FfnAIdeal
    ∧ algebraic_FfnAIdeal_FfnARefIdeal_pre_finite_ffn_a (hFfnAIdeal := hFfnAIdeal) (hFfnARefIdeal := hFfnARefIdeal) (hPre_finite_ffn_a := hPre_finite_ffn_a)
    ∧ preserves_FfnB_FfnBIdeal
    ∧ algebraic_FfnBIdeal_FfnBRefIdeal_pre_finite_ffn_b (hFfnBIdeal := hFfnBIdeal) (hFfnBRefIdeal := hFfnBRefIdeal) (hPre_finite_ffn_b := hPre_finite_ffn_b)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Qkvu_QkvuIdeal
    ∧ algebraic_QkvuIdeal_QkvuRefIdeal (hQkvuIdeal := hQkvuIdeal) (hQkvuRefIdeal := hQkvuRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Wgrad_WgradIdeal
    ∧ algebraic_WgradIdeal_WgradRefIdeal (hWgradIdeal := hWgradIdeal) (hWgradRefIdeal := hWgradRefIdeal)
    ∧ preserves_Adamw_AdamwIdeal
    ∧ algebraic_AdamwIdeal_AdamwRefIdeal (hAdamwIdeal := hAdamwIdeal) (hAdamwRefIdeal := hAdamwRefIdeal)
    ∧ preserves_MixOut_MixOutIdeal
    ∧ algebraic_MixOutIdeal_MixOutRefIdeal_pre_finite_mix_out (hMixOutIdeal := hMixOutIdeal) (hMixOutRefIdeal := hMixOutRefIdeal) (hPre_finite_mix_out := hPre_finite_mix_out)
-- ==== Pre_finite.lean ====
abbrev S1x4096x1024 : Shape := ⟨3, ![1, 4096, 1024]⟩
abbrev S1x1024 : Shape := ⟨2, ![1, 1024]⟩
abbrev S1x1024x2048 : Shape := ⟨3, ![1, 1024, 2048]⟩
abbrev S4096x512 : Shape := ⟨2, ![4096, 512]⟩
abbrev S4096x1024 : Shape := ⟨2, ![4096, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_arg4 : FVec F S4096x512 .f32) (main_arg5 : FVec F S4096x512 .f32) (main_arg6 : FVec F S4096x512 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096x512 .f32 := Host.absf main_arg5
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  main_v33

def fn {F : FTy → Type} [FloatOps F] (main_arg0 : FVec F S1x4096x1024 .f32) (main_arg1 : FVec F S1x1024 .f32) (main_arg2 : FVec F S1x1024x2048 .f32) (main_arg3 : FVec F S4096x512 .f32) (main_arg4 : FVec F S4096x512 .f32) (main_arg5 : FVec F S4096x512 .f32) (main_arg6 : FVec F S4096x512 .f32) (main_arg7 : FVec F S4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2048 .f32 := Host.absf main_arg2
  let main_cst_2 : FVec F S_ .f32 := constant S_ .f32 0x7F800000#32
  let main_v10 : FVec F S1x1024x2048 .f32 := broadcastInDim S1x1024x2048 ![] bcast_S_S1x1024x2048 main_cst_2
  let main_v11 : IVec S1x1024x2048 1 := cmpf .olt main_v9 main_v10
  let main_c_3 : IVec S_ 1 := constantI S_ 1 1#1
  let main_v12 : IVec S_ 1 := (fun x v => Host.reduce IntOp.andi x v reducesTo_S1x1024x2048_S_d0_1_2 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_v13 main_v16
-- ==== Pre_finite_ffn_a.lean ====
abbrev S1x4096x5632 : Shape := ⟨3, ![1, 4096, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S4096x1024 : Shape := ⟨2, ![4096, 1024]⟩
abbrev S_ : Shape := ⟨0, ![]⟩

class Facts : Prop where
  bcast_S_S1x4096x5632 : S_.BroadcastsInDim S1x4096x5632 (![] : Fin 0 → Fin S1x4096x5632.rank)
  reducesTo_S1x4096x5632_S_d0_1_2 : S1x4096x5632.ReducesTo [0, 1, 2] S_
  h_S_ : 0 < S_.numel
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S1x2816x1024 1) : IVec S_ 1 :=
  let main_c_5 : IVec S_ 1 := constantI S_ 1 1#1
  let main_v17 : IVec S_ 1 := (fun x v => Host.reduce IntOp.andi x v reducesTo_S1x2816x1024_S_d0_1_2 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S1x4096x5632 .f32) (main_arg1 : FVec F S1x3x5632 .f32) (main_arg2 : FVec F S1x5632 .f32) (main_arg3 : FVec F S1x2816x1024 .f32) (main_arg4 : FVec F S4096x1024 .f32) : IVec S_ 1 :=
  let main_v0 : FVec F S1x4096x5632 .f32 := Host.absf main_arg0
  let main_cst : FVec F S_ .f32 := constant S_ .f32 0x7F800000#32
  let main_v1 : FVec F S1x4096x5632 .f32 := broadcastInDim S1x4096x5632 ![] bcast_S_S1x4096x5632 main_cst
  let main_v2 : IVec S1x4096x5632 1 := cmpf .olt main_v0 main_v1
  let main_c : IVec S_ 1 := constantI S_ 1 1#1
  let main_v3 : IVec S_ 1 := (fun x v => Host.reduce IntOp.andi x v reducesTo_S1x4096x5632_S_d0_1_2 h_S_) main_v2 main_c
  let main_v4 : FVec F S1x3x5632 .f32 := Host.absf main_arg1
  let main_cst_0 : FVec F S_ .f32 := constant S_ .f32 0x7F800000#32
  let main_v5 : FVec F S1x3x5632 .f32 := broadcastInDim S1x3x5632 ![] bcast_S_S1x3x5632 main_cst_0
  let main_v6 : IVec S1x3x5632 1 := cmpf .olt main_v4 main_v5
  let main_c_1 : IVec S_ 1 := constantI S_ 1 1#1
  let main_v7 : IVec S_ 1 := (fun x v => Host.reduce IntOp.andi x v reducesTo_S1x3x5632_S_d0_1_2 h_S_) main_v6 main_c_1
  let main_v8 : IVec S_ 1 := andi main_v3 main_v7
  let main_v9 : FVec F S1x5632 .f32 := Host.absf main_arg2
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_c_3 : IVec S_ 1 := constantI S_ 1 1#1
  let main_v12 : IVec S_ 1 := (fun x v => Host.reduce IntOp.andi x v reducesTo_S1x5632_S_d0_1 h_S_) main_v11 main_c_3
  let main_v13 : IVec S_ 1 := andi main_v8 main_v12
  let main_v14 : FVec F S1x2816x1024 .f32 := Host.absf main_arg3
  let main_cst_4 : FVec F S_ .f32 := constant S_ .f32 0x7F800000#32
  let main_v15 : FVec F S1x2816x1024 .f32 := broadcastInDim S1x2816x1024 ![] bcast_S_S1x2816x1024 main_cst_4
  let main_v16 : IVec S1x2816x1024 1 := cmpf .olt main_v14 main_v15
  fn_part1 (F := F) main_arg4 main_v13 main_v16
-- ==== Pre_finite_ffn_b.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S4096x5632 : Shape := ⟨2, ![4096, 5632]⟩
abbrev S4096x1024 : Shape := ⟨2, ![4096, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_arg5 : FVec F S4096x5632 .f32) (main_v13 : IVec S_ 1) (main_v16 : IVec S1x3x5632 1) : IVec S_ 1 :=
  let main_c_5 : IVec S_ 1 := constantI S_ 1 1#1
  let main_v17 : IVec S_ 1 := (fun x v => Host.reduce IntOp.andi x v reducesTo_S1x3x5632_S_d0_1_2 h_S_) main_v16 main_c_5
  let main_v18 : IVec S_ 1 := andi main_v13 main_v17
  let main_v19 : FVec F S4096x5632 .f32 := Host.absf main_arg5
  let main_cst_6 : FVec F S_ .f32 := constant S_ .f32 0x7F800000#32
  let main_v20 : FVec F S4096x5632 .f32 := broadcastInDim S4096x5632 ![] bcast_S_S4096x5632 main_cst_6
  let main_v21 : IVec S4096x5632 1 := cmpf .olt main_v19 main_v20
  let main_c_7 : IVec S_ 1 := constantI S_ 1 1#1
  let main_v22 : IVec S_ 1 := (fun x v => Host.reduce IntOp.andi x v reducesTo_S4096x5632_S_d0_1 h_S_) main_v21 main_c_7
  let main_v23 : IVec S_ 1 := andi main_v18 main_v22
  main_v23

def fn {F : FTy → Type} [FloatOps F] (main_arg0 : FVec F S1x4096x1024 .f32) (main_arg1 : FVec F S1x1024 .f32) (main_arg2 : FVec F S1x1024x5632 .f32) (main_arg3 : FVec F S1x3x5632 .f32) (main_arg4 : FVec F S1x5632 .f32) (main_arg5 : FVec F S4096x5632 .f32) (main_arg6 : FVec F S4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x3x5632 .f32 := Host.absf main_arg3
  let main_cst_4 : FVec F S_ .f32 := constant S_ .f32 0x7F800000#32
  let main_v15 : FVec F S1x3x5632 .f32 := broadcastInDim S1x3x5632 ![] bcast_S_S1x3x5632 main_cst_4
  let main_v16 : IVec S1x3x5632 1 := cmpf .olt main_v14 main_v15
  fn_part1 (F := F) main_arg5 main_v13 main_v16
-- ==== Pre_finite_head.lean ====
abbrev S1x4096x1024 : Shape := ⟨3, ![1, 4096, 1024]⟩
abbrev S1x1x4096x256 : Shape := ⟨4, ![1, 1, 4096, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1x4096x256 : S_.BroadcastsInDim S1x1x4096x256 (![] : Fin 0 → Fin S1x1x4096x256.rank)
  reducesTo_S1x1x4096x256_S_d0_1_2_3 : S1x1x4096x256.ReducesTo [0, 1, 2, 3] S_
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x256x1024 .f32) (main_arg5 : FVec F S1024 .f32) (main_arg6 : FVec F S1x4096x1024 .f32) (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  let main_v19 : FVec F S1x256x1024 .f32 := Host.absf main_arg4
  let main_cst_6 : FVec F S_ .f32 := constant S_ .f32 0x7F800000#32
  let main_v20 : FVec F S1x256x1024 .f32 := broadcastInDim S1x256x1024 ![] bcast_S_S1x256x1024 main_cst_6
  let main_v21 : IVec S1x256x1024 1 := cmpf .olt main_v19 main_v20
  let main_c_7 : IVec S_ 1 := constantI S_ 1 1#1
  let main_v22 : IVec S_ 1 := (fun x v => Host.reduce IntOp.andi x v reducesTo_S1x256x1024_S_d0_1_2 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x4096x1024 .f32 := Host.absf main_arg6
  let main_cst_10 : FVec F S_ .f32 := constant S_ .f32 0x7F800000#32
  let main_v30 : FVec F S1x4096x1024 .f32 := broadcastInDim S1x4096x1024 ![] bcast_S_S1x4096x1024 main_cst_10
  let main_v31 : IVec S1x4096x1024 1 := cmpf .olt main_v29 main_v30
  let main_c_11 : IVec S_ 1 := constantI S_ 1 1#1
  let main_v32 : IVec S_ 1 := (fun x v => Host.reduce IntOp.andi x v reducesTo_S1x4096x1024_S_d0_1_2 h_S_) main_v31 main_c_11
  let main_v33 : IVec S_ 1 := andi main_v28 main_v32
  main_v33

def fn {F : FTy → Type} [FloatOps F] (main_arg0 : FVec F S1x4096x1024 .f32) (main_arg1 : FVec F S1x1x4096x256 .f32) (main_arg2 : FVec F S1x1024 .f32) (main_arg3 : FVec F S1x1024x1024 .f32) (main_arg4 : FVec F S1x256x1024 .f32) (main_arg5 : FVec F S1024 .f32) (main_arg6 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1x4096x256 .f32 := Host.absf main_arg1
  let main_cst_0 : FVec F S_ .f32 := constant S_ .f32 0x7F800000#32
  let main_v5 : FVec F S1x1x4096x256 .f32 := broadcastInDim S1x1x4096x256 ![] bcast_S_S1x1x4096x256 main_cst_0
  let main_v6 : IVec S1x1x4096x256 1 := cmpf .olt main_v4 main_v5
  let main_c_1 : IVec S_ 1 := constantI S_ 1 1#1
  let main_v7 : IVec S_ 1 := (fun x v => Host.reduce IntOp.andi x v reducesTo_S1x1x4096x256_S_d0_1_2_3 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x1024 .f32 := Host.absf main_arg3
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_arg4 main_arg5 main_arg6 main_v13 main_v16
-- ==== Pre_finite_mix.lean ====
abbrev S1x4096x512 : Shape := ⟨3, ![1, 4096, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S4096x1024 : Shape := ⟨2, ![4096, 1024]⟩
abbrev S_ : Shape := ⟨0, ![]⟩

class Facts : Prop where
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  h_S_ : 0 < S_.numel
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S1x4096x512 .f32) (main_arg1 : FVec F S1x4096x512 .f32) (main_arg2 : FVec F S1x4x128x128 .f32) (main_arg3 : FVec F S1x512 .f32) (main_arg4 : FVec F S1x1024x1024 .f32) (main_arg5 : FVec F S4096x1024 .f32) : IVec S_ 1 :=
  let main_v0 : FVec F S1x4x128x128 .f32 := Host.absf main_arg2
  let main_cst : FVec F S_ .f32 := constant S_ .f32 0x7F800000#32
  let main_v1 : FVec F S1x4x128x128 .f32 := broadcastInDim S1x4x128x128 ![] bcast_S_S1x4x128x128 main_cst
  let main_v2 : IVec S1x4x128x128 1 := cmpf .olt main_v0 main_v1
  let main_c : IVec S_ 1 := constantI S_ 1 1#1
  let main_v3 : IVec S_ 1 := (fun x v => Host.reduce IntOp.andi x v reducesTo_S1x4x128x128_S_d0_1_2_3 h_S_) main_v2 main_c
  let main_v4 : FVec F S1x512 .f32 := Host.absf main_arg3
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x1024x1024 .f32 := Host.absf main_arg4
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S4096x1024 .f32 := Host.absf main_arg5
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_mix_out.lean ====
abbrev S1x4096x1024 : Shape := ⟨3, ![1, 4096, 1024]⟩
abbrev S1x4096x512 : Shape := ⟨3, ![1, 4096, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S_ : Shape := ⟨0, ![]⟩

class Facts : Prop where
  bcast_S_S1x4096x512 : S_.BroadcastsInDim S1x4096x512 (![] : Fin 0 → Fin S1x4096x512.rank)
  reducesTo_S1x4096x512_S_d0_1_2 : S1x4096x512.ReducesTo [0, 1, 2] S_
  h_S_ : 0 < S_.numel

variable [Facts]

def fn {F : FTy → Type} [FloatOps F] (main_arg0 : FVec F S1x4096x1024 .f32) (main_arg1 : FVec F S1x4096x512 .f32) (main_arg2 : FVec F S1x4096x512 .f32) (main_arg3 : FVec F S1x4x128x128 .f32) (main_arg4 : FVec F S1x512 .f32) (main_arg5 : FVec F S1x1024x1024 .f32) : IVec S_ 1 :=
  let main_v0 : FVec F S1x4096x512 .f32 := Host.absf main_arg2
  let main_cst : FVec F S_ .f32 := constant S_ .f32 0x7F800000#32
  let main_v1 : FVec F S1x4096x512 .f32 := broadcastInDim S1x4096x512 ![] bcast_S_S1x4096x512 main_cst
  let main_v2 : IVec S1x4096x512 1 := cmpf .olt main_v0 main_v1
  let main_c : IVec S_ 1 := constantI S_ 1 1#1
  let main_v3 : IVec S_ 1 := (fun x v => Host.reduce IntOp.andi x v reducesTo_S1x4096x512_S_d0_1_2 h_S_) main_v2 main_c
  main_v3
-- ==== InBwd.lean ====
abbrev S1x4096x1024 : Shape := ⟨3, ![1, 4096, 1024]⟩
abbrev S1x1024 : Shape := ⟨2, ![1, 1024]⟩
abbrev S1x1024x2048 : Shape := ⟨3, ![1, 1024, 2048]⟩
abbrev S4096x512 : Shape := ⟨2, ![4096, 512]⟩
abbrev S4096x1024 : Shape := ⟨2, ![4096, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8x4096x256 : Shape := ⟨3, ![8, 4096, 256]⟩
abbrev S512x512 : Shape := ⟨2, ![512, 512]⟩
abbrev S512x1024 : Shape := ⟨2, ![512, 1024]⟩
abbrev S8x512x256 : Shape := ⟨3, ![8, 512, 256]⟩
abbrev S512x256 : Shape := ⟨2, ![512, 256]⟩
abbrev S1x512x256 : Shape := ⟨3, ![1, 512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 16
  | .vmem => 19
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2048, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | .hbm, ⟨12, _⟩ => ⟨S4096x1024, .f32⟩
  | .hbm, ⟨13, _⟩ => ⟨S8x4096x256, .bf16⟩
  | .hbm, ⟨14, _⟩ => ⟨S4096x1024, .f32⟩
  | .hbm, ⟨15, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x1024x256, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S8x512x256, .bf16⟩
  | .local _ .vmem, ⟨15, _⟩ => ⟨S8x512x256, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InBwdRefIdeal.lean ====
abbrev S1x4096x1024 : Shape := ⟨3, ![1, 4096, 1024]⟩
abbrev S1x1024 : Shape := ⟨2, ![1, 1024]⟩
abbrev S1x1024x2048 : Shape := ⟨3, ![1, 1024, 2048]⟩
abbrev S4096x512 : Shape := ⟨2, ![4096, 512]⟩
abbrev S4096x1024 : Shape := ⟨2, ![4096, 1024]⟩
abbrev S_ : Shape := ⟨0, ![]⟩
abbrev S1x4096x2048 : Shape := ⟨3, ![1, 4096, 2048]⟩
abbrev S1x4096x512 : Shape := ⟨3, ![1, 4096, 512]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S1024x2048 : Shape := ⟨2, ![1024, 2048]⟩
abbrev S4096 : Shape := ⟨1, ![4096]⟩
abbrev S4096x2048 : Shape := ⟨2, ![4096, 2048]⟩
abbrev S4096x8x256 : Shape := ⟨3, ![4096, 8, 256]⟩
abbrev S8x4096x256 : Shape := ⟨3, ![8, 4096, 256]⟩

abbrev nBuf : Space → Nat
  | .hbm => 93
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2048, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S_, .f32⟩
  | .hbm, ⟨9, _⟩ => ⟨S1x4096x2048, .f32⟩
  | .hbm, ⟨10, _⟩ => ⟨S1x4096x512, .f32⟩
  | .hbm, ⟨11, _⟩ => ⟨S_, .f32⟩
  | .hbm, ⟨12, _⟩ => ⟨S1x4096x512, .f32⟩
  | .hbm, ⟨13, _⟩ => ⟨S1x4096x512, .f32⟩
  | .hbm, ⟨14, _⟩ => ⟨S1x4096x512, .f32⟩
  | .hbm, ⟨15, _⟩ => ⟨S1x4096x512, .f32⟩
  | .hbm, ⟨16, _⟩ => ⟨S1x4096x512, .f32⟩
  | .hbm, ⟨17, _⟩ => ⟨S1x4096x512, .f32⟩
  | .hbm, ⟨18, _⟩ => ⟨S1x4096x512, .f32⟩
  | .hbm, ⟨19, _⟩ => ⟨S1x4096x512, .f32⟩
  | .hbm, ⟨20, _⟩ => ⟨S1x4096x512, .f32⟩
  | .hbm, ⟨21, _⟩ => ⟨S_, .f32⟩
  | .hbm, ⟨22, _⟩ => ⟨S1x4096x2048, .f32⟩
  | .hbm, ⟨23, _⟩ => ⟨S_, .f32⟩
  | .hbm, ⟨24, _⟩ => ⟨S1x4096x2048, .f32⟩
  | .hbm, ⟨25, _⟩ => ⟨S1x4096x2048, .f32⟩
  | .hbm, ⟨26, _⟩ => ⟨S_, .f32⟩
  | .hbm, ⟨27, _⟩ => ⟨S1x4096x2048, .f32⟩
  | .hbm, ⟨28, _⟩ => ⟨S1x4096x2048, .f32⟩
  | .hbm, ⟨29, _⟩ => ⟨S_, .f32⟩
  | .hbm, ⟨30, _⟩ => ⟨S1x4096x512, .f32⟩
  | .hbm, ⟨31, _⟩ => ⟨S1x4096x512, .f32⟩
  | .hbm, ⟨32, _⟩ => ⟨S_, .f32⟩
  | .hbm, ⟨33, _⟩ => ⟨S1x4096x2048, .f32⟩
  | .hbm, ⟨34, _⟩ => ⟨S1x4096x2048, .f32⟩
  | .hbm, ⟨35, _⟩ => ⟨S1024, .f32⟩
  | .hbm, ⟨36, _⟩ => ⟨S1x4096x1024, .f32⟩
  | .hbm, ⟨37, _⟩ => ⟨S_, .f32⟩
  | .hbm, ⟨38, _⟩ => ⟨S1x4096, .f32⟩
  | .hbm, ⟨39, _⟩ => ⟨S1x4096x1, .f32⟩
  | .hbm, ⟨40, _⟩ => ⟨S_, .f32⟩
  | .hbm, ⟨41, _⟩ => ⟨S1x4096x1, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S1x4096x1024, .f32⟩
  | .hbm, ⟨52, _⟩ => ⟨S1x4096x1024, .f32⟩
  | .hbm, ⟨53, _⟩ => ⟨S1x1x1024, .f32⟩
  | .hbm, ⟨54, _⟩ => ⟨S1x4096x1024, .f32⟩
  | .hbm, ⟨55, _⟩ => ⟨S1x4096x1024, .f32⟩
  | .hbm, ⟨56, _⟩ => ⟨S1024x2048, .f32⟩
  | .hbm, ⟨57, _⟩ => ⟨S1x4096x2048, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1024, .f32⟩
  | .hbm, ⟨68, _⟩ => ⟨S1x4096x1024, .f32⟩
  | .hbm, ⟨69, _⟩ => ⟨S_, .f32⟩
  | .hbm, ⟨70, _⟩ => ⟨S1x4096, .f32⟩
  | .hbm, ⟨71, _⟩ => ⟨S1x4096x1, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1, .f32⟩
  | .hbm, ⟨76, _⟩ => ⟨S_, .f32⟩
  | .hbm, ⟨77, _⟩ => ⟨S1x4096x1, .f32⟩
  | .hbm, ⟨78, _⟩ => ⟨S1x4096x1, .f32⟩
  | .hbm, ⟨79, _⟩ => ⟨S_, .f32⟩
  | .hbm, ⟨80, _⟩ => ⟨S4096, .f32⟩
  | .hbm, ⟨81, _⟩ => ⟨S1x4096, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S1x4096x1024, .f32⟩
  | .hbm, ⟨87, _⟩ => ⟨S1x1024, .f32⟩
  | .hbm, ⟨88, _⟩ => ⟨S4096x2048, .f32⟩
  | .hbm, ⟨89, _⟩ => ⟨S4096x8x256, .f32⟩
  | .hbm, ⟨90, _⟩ => ⟨S8x4096x256, .f32⟩
  | .hbm, ⟨91, _⟩ => ⟨S8x4096x256, .bf16⟩
  | .hbm, ⟨92, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Head.lean ====
abbrev S1x4096x1024 : Shape := ⟨3, ![1, 4096, 1024]⟩
abbrev S1x1x4096x256 : Shape := ⟨4, ![1, 1, 4096, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 22
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1x1x4096x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1024, .f32⟩
  | .hbm, ⟨6, _⟩ => ⟨S1x4096x1024, .f32⟩
  | .hbm, ⟨7, _⟩ => ⟨S4096x1024, .f32⟩
  | .hbm, ⟨8, _⟩ => ⟨S4096x256, .f32⟩
  | .hbm, ⟨9, _⟩ => ⟨S1024x1024, .f32⟩
  | .hbm, ⟨10, _⟩ => ⟨S1024x1024, .bf16⟩
  | .hbm, ⟨11, _⟩ => ⟨S256x1024, .f32⟩
  | .hbm, ⟨12, _⟩ => ⟨S256x1024, .bf16⟩
  | .hbm, ⟨13, _⟩ => ⟨S1x1024, .f32⟩
  | .hbm, ⟨14, _⟩ => ⟨S4096x1024, .f32⟩
  | .hbm, ⟨15, _⟩ => ⟨S8x128, .f32⟩
  | .hbm, ⟨16, _⟩ => ⟨S4096x1024, .f32⟩
  | .hbm, ⟨17, _⟩ => ⟨S4096x1024, .bf16⟩
  | .hbm, ⟨18, _⟩ => ⟨S1024x1024, .bf16⟩
  | .hbm, ⟨19, _⟩ => ⟨S256x1024, .bf16⟩
  | .hbm, ⟨20, _⟩ => ⟨S1x1024, .f32⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | .local _ .vmem, ⟨21, _⟩ => ⟨S256x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v123 : BitVec 1 := Scalar.cmpi .eq arg0 c7_i32
  let v124 : BitVec 32 := Scalar.extui v123
  let c0_i32_59 : BitVec 32 := 0#32
  let v125 : BitVec 1 := Scalar.cmpi .ne v124 c0_i32_59
  v125

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== HeadRefIdeal.lean ====
abbrev S1x4096x1024 : Shape := ⟨3, ![1, 4096, 1024]⟩
abbrev S1x1x4096x256 : Shape := ⟨4, ![1, 1, 4096, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x1024 : Shape := ⟨2, ![1024, 1024]⟩
abbrev S1x4096x256 : Shape := ⟨3, ![1, 4096, 256]⟩
abbrev S256x1024 : Shape := ⟨2, ![256, 1024]⟩
abbrev S4096 : Shape := ⟨1, ![4096]⟩
abbrev S1024x256 : Shape := ⟨2, ![1024, 256]⟩
abbrev S8x128 : Shape := ⟨2, ![8, 128]⟩
abbrev S4096x1024 : Shape := ⟨2, ![4096, 1024]⟩

abbrev nBuf : Space → Nat
  | .hbm => 163
  | .vmem => 0
  | .smem => 0
  | _ => 0

abbrev hbmTy0_0 (i : Nat) : BufTy := match i % 128 with
  | 0 => ⟨S1x4096x1024, .f32⟩
  | 1 => ⟨S1x1x4096x256, .f32⟩
  | 2 => ⟨S1x1024, .f32⟩
  | 3 => ⟨S1x1024x1024, .f32⟩
  | 4 => ⟨S1x256x1024, .f32⟩
  | 5 => ⟨S1024, .f32⟩
  | 6 => ⟨S1x4096x1024, .f32⟩
  | 7 => ⟨S1024, .f32⟩
  | 8 => ⟨S1x4096x1024, .f32⟩
  | 9 => ⟨S_, .f32⟩
  | 10 => ⟨S1x4096, .f32⟩
  | 11 => ⟨S1x4096x1, .f32⟩
  | 12 => ⟨S_, .f32⟩
  | 13 => ⟨S1x4096x1, .f32⟩
  | 14 => ⟨S1x4096x1, .f32⟩
  | 15 => ⟨S_, .f32⟩
  | 16 => ⟨S1x4096x1, .f32⟩
  | 17 => ⟨S1x4096x1, .f32⟩
  | 18 => ⟨S1x4096x1, .f32⟩
  | 19 => ⟨S1x4096x1, .f32⟩
  | 20 => ⟨S_, .f32⟩
  | 21 => ⟨S1x4096x1, .f32⟩
  | 22 => ⟨S1x4096x1, .f32⟩
  | 23 => ⟨S1x4096x1024, .f32⟩
  | 24 => ⟨S1x4096x1024, .f32⟩
  | 25 => ⟨S1x1x1024, .f32⟩
  | 26 => ⟨S1x4096x1024, .f32⟩
  | 27 => ⟨S1x4096x1024, .f32⟩
  | 28 => ⟨S1024x1024, .f32⟩
  | 29 => ⟨S1x4096x1024, .f32⟩
  | 30 => ⟨S1x4096x1024, .f32⟩
  | 31 => ⟨S1x4096x1024, .f32⟩
  | 32 => ⟨S_, .f32⟩
  | 33 => ⟨S1x4096x1024, .f32⟩
  | 34 => ⟨S1x4096x1024, .f32⟩
  | 35 => ⟨S_, .f32⟩
  | 36 => ⟨S1x4096x1024, .f32⟩
  | 37 => ⟨S1x4096x1024, .f32⟩
  | 38 => ⟨S_, .f32⟩
  | 39 => ⟨S1x4096x1024, .f32⟩
  | 40 => ⟨S1x4096x1024, .f32⟩
  | 41 => ⟨S1x4096x1024, .f32⟩
  | 42 => ⟨S1x4096x256, .f32⟩
  | 43 => ⟨S256x1024, .f32⟩
  | 44 => ⟨S1x4096x1024, .f32⟩
  | 45 => ⟨S1x4096x1024, .f32⟩
  | 46 => ⟨S1x4096x1024, .f32⟩
  | 47 => ⟨S1x4096x1024, .f32⟩
  | 48 => ⟨S_, .f32⟩
  | 49 => ⟨S1x4096, .f32⟩
  | 50 => ⟨S1x4096x1, .f32⟩
  | 51 => ⟨S_, .f32⟩
  | 52 => ⟨S1x4096x1, .f32⟩
  | 53 => ⟨S1x4096x1, .f32⟩
  | 54 => ⟨S_, .f32⟩
  | 55 => ⟨S1x4096x1, .f32⟩
  | 56 => ⟨S1x4096x1, .f32⟩
  | 57 => ⟨S1x4096x1, .f32⟩
  | 58 => ⟨S1x4096x1, .f32⟩
  | 59 => ⟨S_, .f32⟩
  | 60 => ⟨S1x4096x1, .f32⟩
  | 61 => ⟨S1x4096x1, .f32⟩
  | 62 => ⟨S1x4096x1024, .f32⟩
  | 63 => ⟨S1x4096x1024, .f32⟩
  | 64 => ⟨S1x1x1024, .f32⟩
  | 65 => ⟨S1x4096x1024, .f32⟩
  | 66 => ⟨S1x4096x1024, .f32⟩
  | 67 => ⟨S1x4096x1024, .f32⟩
  | 68 => ⟨S1x4096x1024, .f32⟩
  | 69 => ⟨S_, .f32⟩
  | 70 => ⟨S1x4096x1024, .f32⟩
  | 71 => ⟨S1x4096x1024, .f32⟩
  | 72 => ⟨S_, .f32⟩
  | 73 => ⟨S1x4096, .f32⟩
  | 74 => ⟨S_, .f32⟩
  | 75 => ⟨S1x4096, .f32⟩
  | 76 => ⟨S1x4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S1x4096, .f32⟩
  | 85 => ⟨S_, .f32⟩
  | 86 => ⟨S1x4096, .f32⟩
  | 87 => ⟨S1x4096, .f32⟩
  | 88 => ⟨S1x4096x1024, .f32⟩
  | 89 => ⟨S1x4096x1024, .f32⟩
  | 90 => ⟨S1x4096x1024, .f32⟩
  | 91 => ⟨S_, .f32⟩
  | 92 => ⟨S1x1024, .f32⟩
  | 93 => ⟨S1x1x1024, .f32⟩
  | 94 => ⟨S1x4096x1024, .f32⟩
  | 95 => ⟨S1x4096x1024, .f32⟩
  | 96 => ⟨S_, .f32⟩
  | 97 => ⟨S1024, .f32⟩
  | 98 => ⟨S1x4096x1024, .f32⟩
  | 99 => ⟨S_, .f32⟩
  | 100 => ⟨S1x4096, .f32⟩
  | 101 => ⟨S1x4096x1, .f32⟩
  | 102 => ⟨S1x4096x1024, .f32⟩
  | 103 => ⟨S1x4096x1024, .f32⟩
  | 104 => ⟨S1x4096x1, .f32⟩
  | 105 => ⟨S_, .f32⟩
  | 106 => ⟨S1x4096x1, .f32⟩
  | 107 => ⟨S1x4096x1, .f32⟩
  | 108 => ⟨S_, .f32⟩
  | 109 => ⟨S4096, .f32⟩
  | 110 => ⟨S1x4096, .f32⟩
  | 111 => ⟨S1x4096x1024, .f32⟩
  | 112 => ⟨S1x4096x1024, .f32⟩
  | 113 => ⟨S1x4096x1024, .f32⟩
  | 114 => ⟨S1x4096x1024, .f32⟩
  | 115 => ⟨S1x4096x1024, .f32⟩
  | 116 => ⟨S1x4096x1024, .f32⟩
  | 117 => ⟨S1x4096x1024, .f32⟩
  | 118 => ⟨S1024x256, .f32⟩
  | 119 => ⟨S256x1024, .f32⟩
  | 120 => ⟨S1x256x1024, .f32⟩
  | 121 => ⟨S1x4096x1024, .f32⟩
  | 122 => ⟨S1024x1024, .f32⟩
  | 123 => ⟨S1024x1024, .f32⟩
  | 124 => ⟨S1x4096x1024, .f32⟩
  | 125 => ⟨S1x1024x1024, .f32⟩
  | 126 => ⟨S1x4096x1024, .f32⟩
  | 127 => ⟨S_, .f32⟩
  | _ => ⟨S1x4096x1024, .f32⟩

abbrev hbmTy0_1 (i : Nat) : BufTy := match i % 128 with
  | 0 => ⟨S1x1024, .f32⟩
  | 1 => ⟨S1x1x1024, .f32⟩
  | 2 => ⟨S1x4096x1024, .f32⟩
  | 3 => ⟨S1x4096x1024, .f32⟩
  | 4 => ⟨S_, .f32⟩
  | 5 => ⟨S1024, .f32⟩
  | 6 => ⟨S1x4096x1024, .f32⟩
  | 7 => ⟨S_, .f32⟩
  | 8 => ⟨S1x4096, .f32⟩
  | 9 => ⟨S1x4096x1, .f32⟩
  | 10 => ⟨S1x4096x1024, .f32⟩
  | 11 => ⟨S1x4096x1024, .f32⟩
  | 12 => ⟨S1x4096x1024, .f32⟩
  | 13 => ⟨S1x4096x1, .f32⟩
  | 14 => ⟨S_, .f32⟩
  | 15 => ⟨S1x4096x1, .f32⟩
  | 16 => ⟨S1x4096x1, .f32⟩
  | 17 => ⟨S_, .f32⟩
  | 18 => ⟨S4096, .f32⟩
  | 19 => ⟨S1x4096, .f32⟩
  | 20 => ⟨S1x4096x1024, .f32⟩
  | 21 => ⟨S1x4096x1024, .f32⟩
  | 22 => ⟨S1x4096x1024, .f32⟩
  | 23 => ⟨S1x4096x1024, .f32⟩
  | 24 => ⟨S1x4096x1024, .f32⟩
  | 25 => ⟨S1x1024, .f32⟩
  | 26 => ⟨S8x128, .f32⟩
  | 27 => ⟨S4096x1024, .f32⟩
  | 28 => ⟨S4096x1024, .f32⟩
  | 29 => ⟨S4096x1024, .bf16⟩
  | 30 => ⟨S1024x1024, .f32⟩
  | 31 => ⟨S1024x1024, .bf16⟩
  | 32 => ⟨S256x1024, .f32⟩
  | 33 => ⟨S256x1024, .bf16⟩
  | 34 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_cst_15 : Ref sig .tc := ⟨.hbm, 81, rfl⟩
abbrev main_cst_16 : Ref sig .tc := ⟨.hbm, 82, rfl⟩
abbrev main_v58 : Ref sig .tc := ⟨.hbm, 83, rfl⟩
abbrev main_v59 : Ref sig .tc := ⟨.hbm, 84, rfl⟩
abbrev main_cst_17 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_18 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_19 : Ref sig .tc := ⟨.hbm, 96, rfl⟩
abbrev main_v69 : Ref sig .tc := ⟨.hbm, 97, rfl⟩
abbrev main_v70 : Ref sig .tc := ⟨.hbm, 98, rfl⟩
abbrev main_cst_20 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_21 : Ref sig .tc := ⟨.hbm, 105, rfl⟩
abbrev main_v76 : Ref sig .tc := ⟨.hbm, 106, rfl⟩
abbrev main_v77 : Ref sig .tc := ⟨.hbm, 107, rfl⟩
abbrev main_cst_22 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_23 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_24 : Ref sig .tc := ⟨.hbm, 132, rfl⟩
abbrev main_v100 : Ref sig .tc := ⟨.hbm, 133, rfl⟩
abbrev main_v101 : Ref sig .tc := ⟨.hbm, 134, rfl⟩
abbrev main_cst_25 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_26 : Ref sig .tc := ⟨.hbm, 142, rfl⟩
abbrev main_v108 : Ref sig .tc := ⟨.hbm, 143, rfl⟩
abbrev main_v109 : Ref sig .tc := ⟨.hbm, 144, rfl⟩
abbrev main_cst_27 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩

abbrev nD : Nat := 1
abbrev τ : Topo := Topo.v7x

variable {F : FTy → Type} [FloatOps F]
-- ==== FfnA.lean ====
abbrev S1x4096x5632 : Shape := ⟨3, ![1, 4096, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S4096x1024 : Shape := ⟨2, ![4096, 1024]⟩
abbrev S3x5632 : Shape := ⟨2, ![3, 5632]⟩
abbrev S5632 : Shape := ⟨1, ![5632]⟩
abbrev S_ : Shape := ⟨0, ![]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S1x4097x5632 : Shape := ⟨3, ![1, 4097, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S2816x1024 : Shape := ⟨2, ![2816, 1024]⟩
abbrev S4x704x1024 : Shape := ⟨3, ![4, 704, 1024]⟩
abbrev S8x3x704 : Shape := ⟨3, ![8, 3, 704]⟩
abbrev S8x1x704 : Shape := ⟨3, ![8, 1, 704]⟩
abbrev S256x1024 : Shape := ⟨2, ![256, 1024]⟩
abbrev S8x256x704 : Shape := ⟨3, ![8, 256, 704]⟩
abbrev S8x16x704 : Shape := ⟨3, ![8, 16, 704]⟩
abbrev S272x704 : Shape := ⟨2, ![272, 704]⟩
abbrev S512x272 : Shape := ⟨2, ![512, 272]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1x16x704 : Shape := ⟨3, ![1, 16, 704]⟩
abbrev S16x704 : Shape := ⟨2, ![16, 704]⟩
abbrev S512x704 : Shape := ⟨2, ![512, 704]⟩
abbrev S1x1x704 : Shape := ⟨3, ![1, 1, 704]⟩
abbrev S1x704 : Shape := ⟨2, ![1, 704]⟩
abbrev S704 : Shape := ⟨1, ![704]⟩

abbrev nBuf : Space → Nat
  | .hbm => 51
  | .vmem => 16
  | .smem => 0
  | _ => 0

abbrev bufTy : (tb : Table) → Fin (tcTables nBuf tb) → BufTy
  | .hbm, ⟨0, _⟩ => ⟨S1x4096x5632, .f32⟩
  | .hbm, ⟨1, _⟩ => ⟨S1x3x5632, .f32⟩
  | .hbm, ⟨2, _⟩ => ⟨S1x5632, .f32⟩
  | .hbm, ⟨3, _⟩ => ⟨S1x2816x1024, .f32⟩
  | .hbm, ⟨4, _⟩ => ⟨S4096x1024, .f32⟩
  | .hbm, ⟨5, _⟩ => ⟨S3x5632, .f32⟩
  | .hbm, ⟨6, _⟩ => ⟨S5632, .f32⟩
  | .hbm, ⟨7, _⟩ => ⟨S1x5632, .f32⟩
  | .hbm, ⟨8, _⟩ => ⟨S5632, .f32⟩
  | .hbm, ⟨9, _⟩ => ⟨S_, .f32⟩
  | .hbm, ⟨10, _⟩ => ⟨S1x2x5632, .f32⟩
  | .hbm, ⟨11, _⟩ => ⟨S1x4098x5632, .f32⟩
  | .hbm, ⟨12, _⟩ => ⟨S1x4096x5632, .f32⟩
  | .hbm, ⟨13, _⟩ => ⟨S1x1x5632, .f32⟩
  | .hbm, ⟨14, _⟩ => ⟨S1x4096x5632, .f32⟩
  | .hbm, ⟨15, _⟩ => ⟨S1x4096x5632, .f32⟩
  | .hbm, ⟨16, _⟩ => ⟨S1x1x5632, .f32⟩
  | .hbm, ⟨17, _⟩ => ⟨S1x4096x5632, .f32⟩
  | .hbm, ⟨18, _⟩ => ⟨S1x4096x5632, .f32⟩
  | .hbm, ⟨19, _⟩ => ⟨S1x5632, .f32⟩
  | .hbm, ⟨20, _⟩ => ⟨S5632, .f32⟩
  | .hbm, ⟨21, _⟩ => ⟨S_, .f32⟩
  | .hbm, ⟨22, _⟩ => ⟨S1x1x5632, .f32⟩
  | .hbm, ⟨23, _⟩ => ⟨S1x4097x5632, .f32⟩
  | .hbm, ⟨24, _⟩ => ⟨S1x4096x5632, .f32⟩
  | .hbm, ⟨25, _⟩ => ⟨S1x1x5632, .f32⟩
  | .hbm, ⟨26, _⟩ => ⟨S1x4096x5632, .f32⟩
  | .hbm, ⟨27, _⟩ => ⟨S1x4096x5632, .f32⟩
  | .hbm, ⟨28, _⟩ => ⟨S1x4096x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S1x4096x5632, .f32⟩
  | .hbm, ⟨33, _⟩ => ⟨S1x4096x5632, .f32⟩
  | .hbm, ⟨34, _⟩ => ⟨S1x4096x5632, .f32⟩
  | .hbm, ⟨35, _⟩ => ⟨S4096x1024, .bf16⟩
  | .hbm, ⟨36, _⟩ => ⟨S4096x5632, .f32⟩
  | .hbm, ⟨37, _⟩ => ⟨S4096x8x704, .f32⟩
  | .hbm, ⟨38, _⟩ => ⟨S8x4096x704, .f32⟩
  | .hbm, ⟨39, _⟩ => ⟨S8x4096x704, .bf16⟩
  | .hbm, ⟨40, _⟩ => ⟨S4096x5632, .f32⟩
  | .hbm, ⟨41, _⟩ => ⟨S4096x8x704, .f32⟩
  | .hbm, ⟨42, _⟩ => ⟨S8x4096x704, .f32⟩
  | .hbm, ⟨43, _⟩ => ⟨S8x4096x704, .bf16⟩
  | .hbm, ⟨44, _⟩ => ⟨S2816x1024, .f32⟩
  | .hbm, ⟨45, _⟩ => ⟨S4x704x1024, .f32⟩
  | .hbm, ⟨46, _⟩ => ⟨S4x704x1024, .bf16⟩
  | .hbm, ⟨47, _⟩ => ⟨S4x704x1024, .bf16⟩
  | .hbm, ⟨48, _⟩ => ⟨S8x4096x704, .bf16⟩
  | .hbm, ⟨49, _⟩ => ⟨S8x3x704, .f32⟩
  | .hbm, ⟨50, _⟩ => ⟨S8x1x704, .f32⟩
  | .local _ .vmem, ⟨0, _⟩ => ⟨S256x1024, .bf16⟩
  | .local _ .vmem, ⟨1, _⟩ => ⟨S256x1024, .bf16⟩
  | .local _ .vmem, ⟨2, _⟩ => ⟨S8x256x704, .bf16⟩
  | .local _ .vmem, ⟨3, _⟩ => ⟨S8x256x704, .bf16⟩
  | .local _ .vmem, ⟨4, _⟩ => ⟨S8x16x704, .bf16⟩
  | .local _ .vmem, ⟨5, _⟩ => ⟨S8x16x704, .bf16⟩
  | .local _ .vmem, ⟨6, _⟩ => ⟨S8x256x704, .bf16⟩
  | .local _ .vmem, ⟨7, _⟩ => ⟨S8x256x704, .bf16⟩
  | .local _ .vmem, ⟨8, _⟩ => ⟨S4x704x1024, .bf16⟩
  | .local _ .vmem, ⟨9, _⟩ => ⟨S4x704x1024, .bf16⟩
  | .local _ .vmem, ⟨10, _⟩ => ⟨S8x256x704, .bf16⟩
  | .local _ .vmem, ⟨11, _⟩ => ⟨S8x256x704, .bf16⟩
  | .local _ .vmem, ⟨12, _⟩ => ⟨S8x3x704, .f32⟩
  | .local _ .vmem, ⟨13, _⟩ => ⟨S8x1x704, .f32⟩
  | .local _ .vmem, ⟨14, _⟩ => ⟨S272x704, .bf16⟩
  | .local _ .vmem, ⟨15, _⟩ => ⟨S4x704x1024, .f32⟩
  | _, _ => ⟨S1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40_0 : Ref sig .tc := ⟨.hbm, 47, rfl⟩
abbrev main_v40_1 : Ref sig .tc := ⟨.hbm, 48, rfl⟩
abbrev main_v40_2 : Ref sig .tc := ⟨.hbm, 49, rfl⟩
abbrev main_v40_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_436 : BitVec 32 := 15#32
  let v585 : BitVec 1 := Scalar.cmpi .eq arg0 c15_i32_436
  let v586 : BitVec 32 := Scalar.extui v585
  let c0_i32_437 : BitVec 32 := 0#32
  let v587 : BitVec 1 := Scalar.cmpi .ne v586 c0_i32_437
  v587

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnARefIdeal.lean ====
abbrev S1x4096x5632 : Shape := ⟨3, ![1, 4096, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S4096x1024 : Shape := ⟨2, ![4096, 1024]⟩
abbrev S3x5632 : Shape := ⟨2, ![3, 5632]⟩
abbrev S5632 : Shape := ⟨1, ![5632]⟩
abbrev S_ : Shape := ⟨0, ![]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S1x4097x5632 : Shape := ⟨3, ![1, 4097, 5632]⟩
abbrev S1x4096x2816 : Shape := ⟨3, ![1, 4096, 2816]⟩
abbrev S2816x1024 : Shape := ⟨2, ![2816, 1024]⟩
abbrev S1x4096x1024 : Shape := ⟨3, ![1, 4096, 1024]⟩
abbrev S1024x2816 : Shape := ⟨2, ![1024, 2816]⟩
abbrev S4x704x1024 : Shape := ⟨3, ![4, 704, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S3x8x704 : Shape := ⟨3, ![3, 8, 704]⟩
abbrev S8x3x704 : Shape := ⟨3, ![8, 3, 704]⟩
abbrev S8x1x704 : Shape := ⟨3, ![8, 1, 704]⟩

abbrev nBuf : Space → Nat
  | .hbm => 142
  | .vmem => 0
  | .smem => 0
  | _ => 0

abbrev hbmTy0_0 (i : Nat) : BufTy := match i % 128 with
  | 0 => ⟨S1x4096x5632, .f32⟩
  | 1 => ⟨S1x3x5632, .f32⟩
  | 2 => ⟨S1x5632, .f32⟩
  | 3 => ⟨S1x2816x1024, .f32⟩
  | 4 => ⟨S4096x1024, .f32⟩
  | 5 => ⟨S3x5632, .f32⟩
  | 6 => ⟨S5632, .f32⟩
  | 7 => ⟨S1x5632, .f32⟩
  | 8 => ⟨S5632, .f32⟩
  | 9 => ⟨S_, .f32⟩
  | 10 => ⟨S1x2x5632, .f32⟩
  | 11 => ⟨S1x4098x5632, .f32⟩
  | 12 => ⟨S1x4096x5632, .f32⟩
  | 13 => ⟨S1x1x5632, .f32⟩
  | 14 => ⟨S1x4096x5632, .f32⟩
  | 15 => ⟨S1x4096x5632, .f32⟩
  | 16 => ⟨S1x1x5632, .f32⟩
  | 17 => ⟨S1x4096x5632, .f32⟩
  | 18 => ⟨S1x4096x5632, .f32⟩
  | 19 => ⟨S1x5632, .f32⟩
  | 20 => ⟨S5632, .f32⟩
  | 21 => ⟨S_, .f32⟩
  | 22 => ⟨S1x1x5632, .f32⟩
  | 23 => ⟨S1x4097x5632, .f32⟩
  | 24 => ⟨S1x4096x5632, .f32⟩
  | 25 => ⟨S1x1x5632, .f32⟩
  | 26 => ⟨S1x4096x5632, .f32⟩
  | 27 => ⟨S1x4096x5632, .f32⟩
  | 28 => ⟨S1x4096x5632, .f32⟩
  | 29 => ⟨S1x5632, .f32⟩
  | 30 => ⟨S5632, .f32⟩
  | 31 => ⟨S1x1x5632, .f32⟩
  | 32 => ⟨S1x4096x5632, .f32⟩
  | 33 => ⟨S1x4096x5632, .f32⟩
  | 34 => ⟨S1x4096x5632, .f32⟩
  | 35 => ⟨S1x4096x2816, .f32⟩
  | 36 => ⟨S1x4096x2816, .f32⟩
  | 37 => ⟨S1x4096x2816, .f32⟩
  | 38 => ⟨S1x4096x2816, .f32⟩
  | 39 => ⟨S_, .f32⟩
  | 40 => ⟨S1x4096x2816, .f32⟩
  | 41 => ⟨S1x4096x2816, .f32⟩
  | 42 => ⟨S_, .f32⟩
  | 43 => ⟨S1x4096x2816, .f32⟩
  | 44 => ⟨S1x4096x2816, .f32⟩
  | 45 => ⟨S_, .f32⟩
  | 46 => ⟨S1x4096x2816, .f32⟩
  | 47 => ⟨S1x4096x2816, .f32⟩
  | 48 => ⟨S1x4096x2816, .f32⟩
  | 49 => ⟨S1x4096x2816, .f32⟩
  | 50 => ⟨S1x4096x2816, .f32⟩
  | 51 => ⟨S2816x1024, .f32⟩
  | 52 => ⟨S1x4096x1024, .f32⟩
  | 53 => ⟨S1x4096x1024, .f32⟩
  | 54 => ⟨S1024x2816, .f32⟩
  | 55 => ⟨S2816x1024, .f32⟩
  | 56 => ⟨S1x4096x2816, .f32⟩
  | 57 => ⟨S1x2816x1024, .f32⟩
  | 58 => ⟨S1x4096x2816, .f32⟩
  | 59 => ⟨S1x4096x2816, .f32⟩
  | 60 => ⟨S1x4096x2816, .f32⟩
  | 61 => ⟨S1x4096x2816, .f32⟩
  | 62 => ⟨S1x4096x2816, .f32⟩
  | 63 => ⟨S1x4096x2816, .f32⟩
  | 64 => ⟨S1x4096x5632, .f32⟩
  | 65 => ⟨S3x5632, .f32⟩
  | 66 => ⟨S5632, .f32⟩
  | 67 => ⟨S1x5632, .f32⟩
  | 68 => ⟨S5632, .f32⟩
  | 69 => ⟨S_, .f32⟩
  | 70 => ⟨S1x2x5632, .f32⟩
  | 71 => ⟨S1x4098x5632, .f32⟩
  | 72 => ⟨S1x4096x5632, .f32⟩
  | 73 => ⟨S1x1x5632, .f32⟩
  | 74 => ⟨S1x4096x5632, .f32⟩
  | 75 => ⟨S1x4096x5632, .f32⟩
  | 76 => ⟨S1x1x5632, .f32⟩
  | 77 => ⟨S1x4096x5632, .f32⟩
  | 78 => ⟨S1x4096x5632, .f32⟩
  | 79 => ⟨S1x5632, .f32⟩
  | 80 => ⟨S5632, .f32⟩
  | 81 => ⟨S_, .f32⟩
  | 82 => ⟨S1x1x5632, .f32⟩
  | 83 => ⟨S1x4097x5632, .f32⟩
  | 84 => ⟨S1x4096x5632, .f32⟩
  | 85 => ⟨S1x1x5632, .f32⟩
  | 86 => ⟨S1x4096x5632, .f32⟩
  | 87 => ⟨S1x4096x5632, .f32⟩
  | 88 => ⟨S1x4096x5632, .f32⟩
  | 89 => ⟨S1x5632, .f32⟩
  | 90 => ⟨S5632, .f32⟩
  | 91 => ⟨S1x1x5632, .f32⟩
  | 92 => ⟨S1x4096x5632, .f32⟩
  | 93 => ⟨S1x4096x5632, .f32⟩
  | 94 => ⟨S1x4096x5632, .f32⟩
  | 95 => ⟨S1x4096x5632, .f32⟩
  | 96 => ⟨S_, .f32⟩
  | 97 => ⟨S1x5632, .f32⟩
  | 98 => ⟨S1x1x5632, .f32⟩
  | 99 => ⟨S_, .f32⟩
  | 100 => ⟨S5632, .f32⟩
  | 101 => ⟨S1x5632, .f32⟩
  | 102 => ⟨S_, .f32⟩
  | 103 => ⟨S3x5632, .f32⟩
  | 104 => ⟨S1x4096x5632, .f32⟩
  | 105 => ⟨S_, .f32⟩
  | 106 => ⟨S1x5632, .f32⟩
  | 107 => ⟨S1x1x5632, .f32⟩
  | 108 => ⟨S_, .f32⟩
  | 109 => ⟨S5632, .f32⟩
  | 110 => ⟨S1x5632, .f32⟩
  | 111 => ⟨S_, .f32⟩
  | 112 => ⟨S3x5632, .f32⟩
  | 113 => ⟨S3x5632, .f32⟩
  | 114 => ⟨S_, .f32⟩
  | 115 => ⟨S1x5632, .f32⟩
  | 116 => ⟨S1x1x5632, .f32⟩
  | 117 => ⟨S_, .f32⟩
  | 118 => ⟨S5632, .f32⟩
  | 119 => ⟨S1x4096x5632, .f32⟩
  | 120 => ⟨S_, .f32⟩
  | 121 => ⟨S1x5632, .f32⟩
  | 122 => ⟨S1x1x5632, .f32⟩
  | 123 => ⟨S_, .f32⟩
  | 124 => ⟨S5632, .f32⟩
  | 125 => ⟨S1x5632, .f32⟩
  | 126 => ⟨S_, .f32⟩
  | 127 => ⟨S3x5632, .f32⟩
  | _ => ⟨S1x4096x5632, .f32⟩

abbrev hbmTy0_1 (i : Nat) : BufTy := match i % 128 with
  | 0 => ⟨S3x5632, .f32⟩
  | 1 => ⟨S1x5632, .f32⟩
  | 2 => ⟨S1x3x5632, .f32⟩
  | 3 => ⟨S2816x1024, .f32⟩
  | 4 => ⟨S4x704x1024, .f32⟩
  | 5 => ⟨S4x704x1024, .bf16⟩
  | 6 => ⟨S4096x5632, .f32⟩
  | 7 => ⟨S4096x8x704, .f32⟩
  | 8 => ⟨S8x4096x704, .f32⟩
  | 9 => ⟨S8x4096x704, .bf16⟩
  | 10 => ⟨S3x5632, .f32⟩
  | 11 => ⟨S3x8x704, .f32⟩
  | 12 => ⟨S8x3x704, .f32⟩
  | 13 => ⟨S8x1x704, .f32⟩
  | _ => ⟨S1x4096x5632, .f32⟩

abbrev hbmTy (i : Nat) : BufTy := match i / 128 with
  | 0 => hbmTy0_0 i
  | 1 => hbmTy0_1 i
  | _ => ⟨S1x4096x5632, .f32⟩

abbrev bufTy : (tb : Table) → Fin (tcTables nBuf tb) → BufTy
  | .hbm, ⟨i, _⟩ => hbmTy i
  | _, _ => ⟨S1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_1 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_2 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_3 : Ref sig .tc := ⟨.hbm, 96, rfl⟩
abbrev main_v72 : Ref sig .tc := ⟨.hbm, 97, rfl⟩
abbrev main_v73 : Ref sig .tc := ⟨.hbm, 98, rfl⟩
abbrev main_cst_4 : Ref sig .tc := ⟨.hbm, 99, rfl⟩
abbrev main_v74 : Ref sig .tc := ⟨.hbm, 100, rfl⟩
abbrev main_v75 : Ref sig .tc := ⟨.hbm, 101, rfl⟩
abbrev main_cst_5 : Ref sig .tc := ⟨.hbm, 102, rfl⟩
abbrev main_v76 : Ref sig .tc := ⟨.hbm, 103, rfl⟩
abbrev main_v77 : Ref sig .tc := ⟨.hbm, 104, rfl⟩
abbrev main_cst_6 : Ref sig .tc := ⟨.hbm, 105, rfl⟩
abbrev main_v78 : Ref sig .tc := ⟨.hbm, 106, rfl⟩
abbrev main_v79 : Ref sig .tc := ⟨.hbm, 107, rfl⟩
abbrev main_cst_7 : Ref sig .tc := ⟨.hbm, 108, rfl⟩
abbrev main_v80 : Ref sig .tc := ⟨.hbm, 109, rfl⟩
abbrev main_v81 : Ref sig .tc := ⟨.hbm, 110, rfl⟩
abbrev main_cst_8 : Ref sig .tc := ⟨.hbm, 111, rfl⟩
abbrev main_v82 : Ref sig .tc := ⟨.hbm, 112, rfl⟩
abbrev main_v83 : Ref sig .tc := ⟨.hbm, 113, rfl⟩
abbrev main_cst_9 : Ref sig .tc := ⟨.hbm, 114, rfl⟩
abbrev main_v84 : Ref sig .tc := ⟨.hbm, 115, rfl⟩
abbrev main_v85 : Ref sig .tc := ⟨.hbm, 116, rfl⟩
abbrev main_cst_10 : Ref sig .tc := ⟨.hbm, 117, rfl⟩
abbrev main_v86 : Ref sig .tc := ⟨.hbm, 118, rfl⟩
abbrev main_v87 : Ref sig .tc := ⟨.hbm, 119, rfl⟩
abbrev main_cst_11 : Ref sig .tc := ⟨.hbm, 120, rfl⟩
abbrev main_v88 : Ref sig .tc := ⟨.hbm, 121, rfl⟩
abbrev main_v89 : Ref sig .tc := ⟨.hbm, 122, rfl⟩
abbrev main_cst_12 : Ref sig .tc := ⟨.hbm, 123, rfl⟩
abbrev main_v90 : Ref sig .tc := ⟨.hbm, 124, rfl⟩
abbrev main_v91 : Ref sig .tc := ⟨.hbm, 125, rfl⟩
abbrev main_cst_13 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩

abbrev nD : Nat := 1
abbrev τ : Topo := Topo.v7x

variable {F : FTy → Type} [FloatOps F]
-- ==== FfnB.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S4096x5632 : Shape := ⟨2, ![4096, 5632]⟩
abbrev S4096x1024 : Shape := ⟨2, ![4096, 1024]⟩
abbrev S4096x8x704 : Shape := ⟨3, ![4096, 8, 704]⟩
abbrev S8x4096x704 : Shape := ⟨3, ![8, 4096, 704]⟩
abbrev S3x5632 : Shape := ⟨2, ![3, 5632]⟩
abbrev S3x8x704 : Shape := ⟨3, ![3, 8, 704]⟩
abbrev S8x3x704 : Shape := ⟨3, ![8, 3, 704]⟩
abbrev S1024x5632 : Shape := ⟨2, ![1024, 5632]⟩
abbrev S1024x8x704 : Shape := ⟨3, ![1024, 8, 704]⟩
abbrev S8x1024x704 : Shape := ⟨3, ![8, 1024, 704]⟩
abbrev S8x256x704 : Shape := ⟨3, ![8, 256, 704]⟩
abbrev S8x16x704 : Shape := ⟨3, ![8, 16, 704]⟩
abbrev S256x1024 : Shape := ⟨2, ![256, 1024]⟩
abbrev S272x704 : Shape := ⟨2, ![272, 704]⟩
abbrev S1x256x704 : Shape := ⟨3, ![1, 256, 704]⟩
abbrev S256x704 : Shape := ⟨2, ![256, 704]⟩
abbrev S1x16x704 : Shape := ⟨3, ![1, 16, 704]⟩
abbrev S16x704 : Shape := ⟨2, ![16, 704]⟩
abbrev S1x3x704 : Shape := ⟨3, ![1, 3, 704]⟩
abbrev S3x704 : Shape := ⟨2, ![3, 704]⟩
abbrev S1x704 : Shape := ⟨2, ![1, 704]⟩
abbrev S1x1024x704 : Shape := ⟨3, ![1, 1024, 704]⟩
abbrev S1024x704 : Shape := ⟨2, ![1024, 704]⟩
abbrev S256 : Shape := ⟨1, ![256]⟩
abbrev S256x1 : Shape := ⟨2, ![256, 1]⟩
abbrev S1024 : Shape := ⟨1, ![1024]⟩

abbrev nBuf : Space → Nat
  | .hbm => 22
  | .vmem => 19
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S4096x5632, .f32⟩
  | .hbm, ⟨6, _⟩ => ⟨S4096x1024, .f32⟩
  | .hbm, ⟨7, _⟩ => ⟨S4096x8x704, .f32⟩
  | .hbm, ⟨8, _⟩ => ⟨S8x4096x704, .f32⟩
  | .hbm, ⟨9, _⟩ => ⟨S8x4096x704, .bf16⟩
  | .hbm, ⟨10, _⟩ => ⟨S3x5632, .f32⟩
  | .hbm, ⟨11, _⟩ => ⟨S3x8x704, .f32⟩
  | .hbm, ⟨12, _⟩ => ⟨S8x3x704, .f32⟩
  | .hbm, ⟨13, _⟩ => ⟨S1024x5632, .f32⟩
  | .hbm, ⟨14, _⟩ => ⟨S1024x8x704, .f32⟩
  | .hbm, ⟨15, _⟩ => ⟨S8x1024x704, .f32⟩
  | .hbm, ⟨16, _⟩ => ⟨S8x1024x704, .bf16⟩
  | .hbm, ⟨17, _⟩ => ⟨S4096x1024, .f32⟩
  | .hbm, ⟨18, _⟩ => ⟨S8x4096x704, .bf16⟩
  | .hbm, ⟨19, _⟩ => ⟨S4096x1024, .f32⟩
  | .hbm, ⟨20, _⟩ => ⟨S4096x1024, .bf16⟩
  | .hbm, ⟨21, _⟩ => ⟨S1x1024, .f32⟩
  | .local _ .vmem, ⟨0, _⟩ => ⟨S8x256x704, .bf16⟩
  | .local _ .vmem, ⟨1, _⟩ => ⟨S8x256x704, .bf16⟩
  | .local _ .vmem, ⟨2, _⟩ => ⟨S8x16x704, .bf16⟩
  | .local _ .vmem, ⟨3, _⟩ => ⟨S8x16x704, .bf16⟩
  | .local _ .vmem, ⟨4, _⟩ => ⟨S8x3x704, .f32⟩
  | .local _ .vmem, ⟨5, _⟩ => ⟨S8x1024x704, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S8x256x704, .bf16⟩
  | .local _ .vmem, ⟨12, _⟩ => ⟨S8x256x704, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S272x704, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnBRefIdeal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S4096x5632 : Shape := ⟨2, ![4096, 5632]⟩
abbrev S4096x1024 : Shape := ⟨2, ![4096, 1024]⟩
abbrev S_ : Shape := ⟨0, ![]⟩
abbrev S1x4096x5632 : Shape := ⟨3, ![1, 4096, 5632]⟩
abbrev S3x5632 : Shape := ⟨2, ![3, 5632]⟩
abbrev S5632 : Shape := ⟨1, ![5632]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S1x4097x5632 : Shape := ⟨3, ![1, 4097, 5632]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S1024x5632 : Shape := ⟨2, ![1024, 5632]⟩
abbrev S4096 : Shape := ⟨1, ![4096]⟩
abbrev S4096x8x704 : Shape := ⟨3, ![4096, 8, 704]⟩
abbrev S8x4096x704 : Shape := ⟨3, ![8, 4096, 704]⟩

abbrev nBuf : Space → Nat
  | .hbm => 120
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S4096x5632, .f32⟩
  | .hbm, ⟨6, _⟩ => ⟨S4096x1024, .f32⟩
  | .hbm, ⟨7, _⟩ => ⟨S_, .f32⟩
  | .hbm, ⟨8, _⟩ => ⟨S1x4096x5632, .f32⟩
  | .hbm, ⟨9, _⟩ => ⟨S3x5632, .f32⟩
  | .hbm, ⟨10, _⟩ => ⟨S5632, .f32⟩
  | .hbm, ⟨11, _⟩ => ⟨S1x5632, .f32⟩
  | .hbm, ⟨12, _⟩ => ⟨S5632, .f32⟩
  | .hbm, ⟨13, _⟩ => ⟨S_, .f32⟩
  | .hbm, ⟨14, _⟩ => ⟨S1x2x5632, .f32⟩
  | .hbm, ⟨15, _⟩ => ⟨S1x4098x5632, .f32⟩
  | .hbm, ⟨16, _⟩ => ⟨S_, .f32⟩
  | .hbm, ⟨17, _⟩ => ⟨S1x2x5632, .f32⟩
  | .hbm, ⟨18, _⟩ => ⟨S1x4096x5632, .f32⟩
  | .hbm, ⟨19, _⟩ => ⟨S1x1x5632, .f32⟩
  | .hbm, ⟨20, _⟩ => ⟨S1x4096x5632, .f32⟩
  | .hbm, ⟨21, _⟩ => ⟨S1x4096x5632, .f32⟩
  | .hbm, ⟨22, _⟩ => ⟨S1x1x5632, .f32⟩
  | .hbm, ⟨23, _⟩ => ⟨S1x4096x5632, .f32⟩
  | .hbm, ⟨24, _⟩ => ⟨S1x4096x5632, .f32⟩
  | .hbm, ⟨25, _⟩ => ⟨S1x5632, .f32⟩
  | .hbm, ⟨26, _⟩ => ⟨S5632, .f32⟩
  | .hbm, ⟨27, _⟩ => ⟨S_, .f32⟩
  | .hbm, ⟨28, _⟩ => ⟨S1x1x5632, .f32⟩
  | .hbm, ⟨29, _⟩ => ⟨S1x4097x5632, .f32⟩
  | .hbm, ⟨30, _⟩ => ⟨S_, .f32⟩
  | .hbm, ⟨31, _⟩ => ⟨S1x1x5632, .f32⟩
  | .hbm, ⟨32, _⟩ => ⟨S1x4096x5632, .f32⟩
  | .hbm, ⟨33, _⟩ => ⟨S1x1x5632, .f32⟩
  | .hbm, ⟨34, _⟩ => ⟨S1x4096x5632, .f32⟩
  | .hbm, ⟨35, _⟩ => ⟨S1x4096x5632, .f32⟩
  | .hbm, ⟨36, _⟩ => ⟨S1x4096x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S1x4096x5632, .f32⟩
  | .hbm, ⟨41, _⟩ => ⟨S1x4096x5632, .f32⟩
  | .hbm, ⟨42, _⟩ => ⟨S1x4096x5632, .f32⟩
  | .hbm, ⟨43, _⟩ => ⟨S1x4096x5632, .f32⟩
  | .hbm, ⟨44, _⟩ => ⟨S1x4096x5632, .f32⟩
  | .hbm, ⟨45, _⟩ => ⟨S1x4096x5632, .f32⟩
  | .hbm, ⟨46, _⟩ => ⟨S1x4096x5632, .f32⟩
  | .hbm, ⟨47, _⟩ => ⟨S1x4096x5632, .f32⟩
  | .hbm, ⟨48, _⟩ => ⟨S_, .f32⟩
  | .hbm, ⟨49, _⟩ => ⟨S1x4097x5632, .f32⟩
  | .hbm, ⟨50, _⟩ => ⟨S1x1x5632, .f32⟩
  | .hbm, ⟨51, _⟩ => ⟨S1x4096x5632, .f32⟩
  | .hbm, ⟨52, _⟩ => ⟨S1x4096x5632, .f32⟩
  | .hbm, ⟨53, _⟩ => ⟨S1x4096x5632, .f32⟩
  | .hbm, ⟨54, _⟩ => ⟨S1x4096x5632, .f32⟩
  | .hbm, ⟨55, _⟩ => ⟨S_, .f32⟩
  | .hbm, ⟨56, _⟩ => ⟨S1x4098x5632, .f32⟩
  | .hbm, ⟨57, _⟩ => ⟨S1x2x5632, .f32⟩
  | .hbm, ⟨58, _⟩ => ⟨S1x4096x5632, .f32⟩
  | .hbm, ⟨59, _⟩ => ⟨S1x4096x5632, .f32⟩
  | .hbm, ⟨60, _⟩ => ⟨S1024, .f32⟩
  | .hbm, ⟨61, _⟩ => ⟨S1x4096x1024, .f32⟩
  | .hbm, ⟨62, _⟩ => ⟨S_, .f32⟩
  | .hbm, ⟨63, _⟩ => ⟨S1x4096, .f32⟩
  | .hbm, ⟨64, _⟩ => ⟨S1x4096x1, .f32⟩
  | .hbm, ⟨65, _⟩ => ⟨S_, .f32⟩
  | .hbm, ⟨66, _⟩ => ⟨S1x4096x1, .f32⟩
  | .hbm, ⟨67, _⟩ => ⟨S1x4096x1, .f32⟩
  | .hbm, ⟨68, _⟩ => ⟨S_, .f32⟩
  | .hbm, ⟨69, _⟩ => ⟨S1x4096x1, .f32⟩
  | .hbm, ⟨70, _⟩ => ⟨S1x4096x1, .f32⟩
  | .hbm, ⟨71, _⟩ => ⟨S1x4096x1, .f32⟩
  | .hbm, ⟨72, _⟩ => ⟨S1x4096x1, .f32⟩
  | .hbm, ⟨73, _⟩ => ⟨S_, .f32⟩
  | .hbm, ⟨74, _⟩ => ⟨S1x4096x1, .f32⟩
  | .hbm, ⟨75, _⟩ => ⟨S1x4096x1, .f32⟩
  | .hbm, ⟨76, _⟩ => ⟨S1x4096x1024, .f32⟩
  | .hbm, ⟨77, _⟩ => ⟨S1x4096x1024, .f32⟩
  | .hbm, ⟨78, _⟩ => ⟨S1x1x1024, .f32⟩
  | .hbm, ⟨79, _⟩ => ⟨S1x4096x1024, .f32⟩
  | .hbm, ⟨80, _⟩ => ⟨S1x4096x1024, .f32⟩
  | .hbm, ⟨81, _⟩ => ⟨S1024x5632, .f32⟩
  | .hbm, ⟨82, _⟩ => ⟨S1x4096x5632, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S_, .f32⟩
  | .hbm, ⟨87, _⟩ => ⟨S1x1024, .f32⟩
  | .hbm, ⟨88, _⟩ => ⟨S1x1x1024, .f32⟩
  | .hbm, ⟨89, _⟩ => ⟨S1x4096x1024, .f32⟩
  | .hbm, ⟨90, _⟩ => ⟨S1x4096x1024, .f32⟩
  | .hbm, ⟨91, _⟩ => ⟨S_, .f32⟩
  | .hbm, ⟨92, _⟩ => ⟨S1024, .f32⟩
  | .hbm, ⟨93, _⟩ => ⟨S1x4096x1024, .f32⟩
  | .hbm, ⟨94, _⟩ => ⟨S_, .f32⟩
  | .hbm, ⟨95, _⟩ => ⟨S1x4096, .f32⟩
  | .hbm, ⟨96, _⟩ => ⟨S1x4096x1, .f32⟩
  | .hbm, ⟨97, _⟩ => ⟨S1x4096x1024, .f32⟩
  | .hbm, ⟨98, _⟩ => ⟨S1x4096x1024, .f32⟩
  | .hbm, ⟨99, _⟩ => ⟨S1x4096x1024, .f32⟩
  | .hbm, ⟨100, _⟩ => ⟨S1x4096x1, .f32⟩
  | .hbm, ⟨101, _⟩ => ⟨S_, .f32⟩
  | .hbm, ⟨102, _⟩ => ⟨S1x4096x1, .f32⟩
  | .hbm, ⟨103, _⟩ => ⟨S1x4096x1, .f32⟩
  | .hbm, ⟨104, _⟩ => ⟨S_, .f32⟩
  | .hbm, ⟨105, _⟩ => ⟨S4096, .f32⟩
  | .hbm, ⟨106, _⟩ => ⟨S1x4096, .f32⟩
  | .hbm, ⟨107, _⟩ => ⟨S1x4096x1024, .f32⟩
  | .hbm, ⟨108, _⟩ => ⟨S1x4096x1024, .f32⟩
  | .hbm, ⟨109, _⟩ => ⟨S1x4096x1024, .f32⟩
  | .hbm, ⟨110, _⟩ => ⟨S1x4096x1024, .f32⟩
  | .hbm, ⟨111, _⟩ => ⟨S1x4096x1024, .f32⟩
  | .hbm, ⟨112, _⟩ => ⟨S1x1024, .f32⟩
  | .hbm, ⟨113, _⟩ => ⟨S4096x5632, .f32⟩
  | .hbm, ⟨114, _⟩ => ⟨S4096x8x704, .f32⟩
  | .hbm, ⟨115, _⟩ => ⟨S8x4096x704, .f32⟩
  | .hbm, ⟨116, _⟩ => ⟨S8x4096x704, .bf16⟩
  | .hbm, ⟨117, _⟩ => ⟨S4096x1024, .f32⟩
  | .hbm, ⟨118, _⟩ => ⟨S4096x1024, .f32⟩
  | .hbm, ⟨119, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_13 : Ref sig .tc := ⟨.hbm, 101, rfl⟩
abbrev main_v80 : Ref sig .tc := ⟨.hbm, 102, rfl⟩
abbrev main_v81 : Ref sig .tc := ⟨.hbm, 103, rfl⟩
abbrev main_cst_14 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩

abbrev nD : Nat := 1
abbrev τ : Topo := Topo.v7x

variable {F : FTy → Type} [FloatOps F]
-- ==== Mix.lean ====
abbrev S1x4096x512 : Shape := ⟨3, ![1, 4096, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S4096x1024 : Shape := ⟨2, ![4096, 1024]⟩
abbrev S1x4096x4x128 : Shape := ⟨4, ![1, 4096, 4, 128]⟩
abbrev S_ : Shape := ⟨0, ![]⟩
abbrev S1x1x4x128 : Shape := ⟨4, ![1, 1, 4, 128]⟩
abbrev S1x4097x4x128 : Shape := ⟨4, ![1, 4097, 4, 128]⟩
abbrev S4096 : Shape := ⟨1, ![4096]⟩
abbrev S1x4097x1x128 : Shape := ⟨4, ![1, 4097, 1, 128]⟩
abbrev S1x4097x128 : Shape := ⟨3, ![1, 4097, 128]⟩
abbrev S1x1x128 : Shape := ⟨3, ![1, 1, 128]⟩
abbrev S1x4098x128 : Shape := ⟨3, ![1, 4098, 128]⟩
abbrev S1x4096x128 : Shape := ⟨3, ![1, 4096, 128]⟩
abbrev S1x4096x1 : Shape := ⟨3, ![1, 4096, 1]⟩
abbrev S1x4096x1x128 : Shape := ⟨4, ![1, 4096, 1, 128]⟩
abbrev S1x3x128 : Shape := ⟨3, ![1, 3, 128]⟩
abbrev S1x4100x128 : Shape := ⟨3, ![1, 4100, 128]⟩
abbrev S1x7x128 : Shape := ⟨3, ![1, 7, 128]⟩
abbrev S1x4104x128 : Shape := ⟨3, ![1, 4104, 128]⟩
abbrev S1x15x128 : Shape := ⟨3, ![1, 15, 128]⟩
abbrev S1x4112x128 : Shape := ⟨3, ![1, 4112, 128]⟩
abbrev S4x128x128 : Shape := ⟨3, ![4, 128, 128]⟩
abbrev S4x128x1x4096 : Shape := ⟨4, ![4, 128, 1, 4096]⟩
abbrev S512 : Shape := ⟨1, ![512]⟩
abbrev S4x128 : Shape := ⟨2, ![4, 128]⟩
abbrev S1x4096x1024 : Shape := ⟨3, ![1, 4096, 1024]⟩
abbrev S1024x1024 : Shape := ⟨2, ![1024, 1024]⟩
abbrev S4096x512 : Shape := ⟨2, ![4096, 512]⟩
abbrev S512x1024 : Shape := ⟨2, ![512, 1024]⟩
abbrev S512x512 : Shape := ⟨2, ![512, 512]⟩
abbrev S528x128 : Shape := ⟨2, ![528, 128]⟩
abbrev S16x512 : Shape := ⟨2, ![16, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x1 : Shape := ⟨2, ![512, 1]⟩
abbrev S16x128 : Shape := ⟨2, ![16, 128]⟩

abbrev nBuf : Space → Nat
  | .hbm => 131
  | .vmem => 19
  | .smem => 0
  | _ => 0

abbrev hbmTy0_0 (i : Nat) : BufTy := match i % 128 with
  | 0 => ⟨S1x4096x512, .f32⟩
  | 1 => ⟨S1x4096x512, .f32⟩
  | 2 => ⟨S1x4x128x128, .f32⟩
  | 3 => ⟨S1x512, .f32⟩
  | 4 => ⟨S1x1024x1024, .f32⟩
  | 5 => ⟨S4096x1024, .f32⟩
  | 6 => ⟨S1x4096x4x128, .f32⟩
  | 7 => ⟨S_, .f32⟩
  | 8 => ⟨S_, .f32⟩
  | 9 => ⟨S1x4096x4x128, .f32⟩
  | 10 => ⟨S_, .f32⟩
  | 11 => ⟨S1x1x4x128, .f32⟩
  | 12 => ⟨S1x4097x4x128, .f32⟩
  | 13 => ⟨S1x4096x4x128, .f32⟩
  | 14 => ⟨S4096, .i32⟩
  | 15 => ⟨S1x4097x1x128, .f32⟩
  | 16 => ⟨S1x4097x128, .f32⟩
  | 17 => ⟨S_, .f32⟩
  | 18 => ⟨S1x1x128, .f32⟩
  | 19 => ⟨S1x4098x128, .f32⟩
  | 20 => ⟨S1x4096x128, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .f32⟩
  | 28 => ⟨S1x4096x1, .f32⟩
  | 29 => ⟨S1x4096x1x128, .f32⟩
  | 30 => ⟨S1x4096x128, .f32⟩
  | 31 => ⟨S1x4096x128, .f32⟩
  | 32 => ⟨S1x4096x128, .f32⟩
  | 33 => ⟨S1x4096x128, .f32⟩
  | 34 => ⟨S1x4096x1x128, .f32⟩
  | 35 => ⟨S1x4096x128, .f32⟩
  | 36 => ⟨S1x4096x128, .f32⟩
  | 37 => ⟨S1x4097x1x128, .f32⟩
  | 38 => ⟨S1x4097x128, .f32⟩
  | 39 => ⟨S_, .f32⟩
  | 40 => ⟨S1x3x128, .f32⟩
  | 41 => ⟨S1x4100x128, .f32⟩
  | 42 => ⟨S1x4096x128, .f32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S4096, .f32⟩
  | 50 => ⟨S1x4096x1, .f32⟩
  | 51 => ⟨S1x4096x1x128, .f32⟩
  | 52 => ⟨S1x4096x128, .f32⟩
  | 53 => ⟨S1x4096x128, .f32⟩
  | 54 => ⟨S1x4096x128, .f32⟩
  | 55 => ⟨S1x4096x128, .f32⟩
  | 56 => ⟨S1x4096x1x128, .f32⟩
  | 57 => ⟨S1x4096x128, .f32⟩
  | 58 => ⟨S1x4096x128, .f32⟩
  | 59 => ⟨S1x4097x1x128, .f32⟩
  | 60 => ⟨S1x4097x128, .f32⟩
  | 61 => ⟨S_, .f32⟩
  | 62 => ⟨S1x7x128, .f32⟩
  | 63 => ⟨S1x4104x128, .f32⟩
  | 64 => ⟨S1x4096x128, .f32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S4096, .f32⟩
  | 72 => ⟨S1x4096x1, .f32⟩
  | 73 => ⟨S1x4096x1x128, .f32⟩
  | 74 => ⟨S1x4096x128, .f32⟩
  | 75 => ⟨S1x4096x128, .f32⟩
  | 76 => ⟨S1x4096x128, .f32⟩
  | 77 => ⟨S1x4096x128, .f32⟩
  | 78 => ⟨S1x4096x1x128, .f32⟩
  | 79 => ⟨S1x4096x128, .f32⟩
  | 80 => ⟨S1x4096x128, .f32⟩
  | 81 => ⟨S1x4097x1x128, .f32⟩
  | 82 => ⟨S1x4097x128, .f32⟩
  | 83 => ⟨S_, .f32⟩
  | 84 => ⟨S1x15x128, .f32⟩
  | 85 => ⟨S1x4112x128, .f32⟩
  | 86 => ⟨S1x4096x128, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .f32⟩
  | 94 => ⟨S1x4096x1, .f32⟩
  | 95 => ⟨S1x4096x1x128, .f32⟩
  | 96 => ⟨S1x4096x128, .f32⟩
  | 97 => ⟨S1x4096x128, .f32⟩
  | 98 => ⟨S1x4096x128, .f32⟩
  | 99 => ⟨S1x4096x128, .f32⟩
  | 100 => ⟨S1x4096x1x128, .f32⟩
  | 101 => ⟨S1x4096x128, .f32⟩
  | 102 => ⟨S1x4096x128, .f32⟩
  | 103 => ⟨S1x4096x1x128, .f32⟩
  | 104 => ⟨S1x4096x1x128, .f32⟩
  | 105 => ⟨S1x4096x1x128, .f32⟩
  | 106 => ⟨S1x4096x1x128, .f32⟩
  | 107 => ⟨S1x4096x4x128, .f32⟩
  | 108 => ⟨S4x128x128, .f32⟩
  | 109 => ⟨S4x128x1x4096, .f32⟩
  | 110 => ⟨S1x4096x4x128, .f32⟩
  | 111 => ⟨S512, .f32⟩
  | 112 => ⟨S4x128, .f32⟩
  | 113 => ⟨S1x1x4x128, .f32⟩
  | 114 => ⟨S1x4096x4x128, .f32⟩
  | 115 => ⟨S1x4096x4x128, .f32⟩
  | 116 => ⟨S1x4096x512, .f32⟩
  | 117 => ⟨S1x4096x1024, .f32⟩
  | 118 => ⟨S4096x1024, .bf16⟩
  | 119 => ⟨S1024x1024, .f32⟩
  | 120 => ⟨S1024x1024, .bf16⟩
  | 121 => ⟨S4096x512, .f32⟩
  | 122 => ⟨S4096x512, .bf16⟩
  | 123 => ⟨S4096x1024, .f32⟩
  | 124 => ⟨S4096x1024, .bf16⟩
  | 125 => ⟨S4x128x128, .f32⟩
  | 126 => ⟨S4096x512, .f32⟩
  | 127 => ⟨S4096x512, .f32⟩
  | _ => ⟨S1x4096x512, .f32⟩

abbrev hbmTy0_1 (i : Nat) : BufTy := match i % 128 with
  | 0 => ⟨S4x128x128, .f32⟩
  | 1 => ⟨S1x512, .f32⟩
  | 2 => ⟨S1024x1024, .bf16⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | .local _ .vmem, ⟨5, _⟩ => ⟨S512x1024, .bf16⟩
  | .local _ .vmem, ⟨6, _⟩ => ⟨S512x1024, .bf16⟩
  | .local _ .vmem, ⟨7, _⟩ => ⟨S4x128x128, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S4x128x128, .f32⟩
  | .local _ .vmem, ⟨14, _⟩ => ⟨S1x512, .f32⟩
  | .local _ .vmem, ⟨15, _⟩ => ⟨S1024x1024, .bf16⟩
  | .local _ .vmem, ⟨16, _⟩ => ⟨S528x128, .f32⟩
  | .local _ .vmem, ⟨17, _⟩ => ⟨S16x512, .f32⟩
  | .local _ .vmem, ⟨18, _⟩ => ⟨S1024x1024, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_9 : Ref sig .tc := ⟨.hbm, 87, rfl⟩
abbrev main_v68 : Ref sig .tc := ⟨.hbm, 88, rfl⟩
abbrev main_v69 : Ref sig .tc := ⟨.hbm, 89, rfl⟩
abbrev main_c_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105_0 : Ref sig .tc := ⟨.hbm, 126, rfl⟩
abbrev main_v105_1 : Ref sig .tc := ⟨.hbm, 127, rfl⟩
abbrev main_v105_2 : Ref sig .tc := ⟨.hbm, 128, rfl⟩
abbrev main_v105_3 : Ref sig .tc := ⟨.hbm, 129, rfl⟩
abbrev main_v105_4 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_8 : BitVec 32 := 7#32
  let v14 : BitVec 1 := Scalar.cmpi .eq arg0 c7_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixRefIdeal.lean ====
abbrev S1x4096x512 : Shape := ⟨3, ![1, 4096, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S4096x1024 : Shape := ⟨2, ![4096, 1024]⟩
abbrev S4x128x128 : Shape := ⟨3, ![4, 128, 128]⟩
abbrev S512 : Shape := ⟨1, ![512]⟩
abbrev S1x4096x4x128 : Shape := ⟨4, ![1, 4096, 4, 128]⟩
abbrev S_ : Shape := ⟨0, ![]⟩
abbrev S1x1x4x128 : Shape := ⟨4, ![1, 1, 4, 128]⟩
abbrev S1x4097x4x128 : Shape := ⟨4, ![1, 4097, 4, 128]⟩
abbrev S4096 : Shape := ⟨1, ![4096]⟩
abbrev S1x4097x1x128 : Shape := ⟨4, ![1, 4097, 1, 128]⟩
abbrev S1x4097x128 : Shape := ⟨3, ![1, 4097, 128]⟩
abbrev S1x1x128 : Shape := ⟨3, ![1, 1, 128]⟩
abbrev S1x4098x128 : Shape := ⟨3, ![1, 4098, 128]⟩
abbrev S1x4096x128 : Shape := ⟨3, ![1, 4096, 128]⟩
abbrev S1x4096x1 : Shape := ⟨3, ![1, 4096, 1]⟩
abbrev S1x4096x1x128 : Shape := ⟨4, ![1, 4096, 1, 128]⟩
abbrev S1x3x128 : Shape := ⟨3, ![1, 3, 128]⟩
abbrev S1x4100x128 : Shape := ⟨3, ![1, 4100, 128]⟩
abbrev S1x7x128 : Shape := ⟨3, ![1, 7, 128]⟩
abbrev S1x4104x128 : Shape := ⟨3, ![1, 4104, 128]⟩
abbrev S1x15x128 : Shape := ⟨3, ![1, 15, 128]⟩
abbrev S1x4112x128 : Shape := ⟨3, ![1, 4112, 128]⟩
abbrev S4x128x1x4096 : Shape := ⟨4, ![4, 128, 1, 4096]⟩
abbrev S4x128 : Shape := ⟨2, ![4, 128]⟩
abbrev S1x4096x1024 : Shape := ⟨3, ![1, 4096, 1024]⟩
abbrev S1024x1024 : Shape := ⟨2, ![1024, 1024]⟩
abbrev S1x4x128 : Shape := ⟨3, ![1, 4, 128]⟩
abbrev S4x1x4096x128 : Shape := ⟨4, ![4, 1, 4096, 128]⟩
abbrev S4096x512 : Shape := ⟨2, ![4096, 512]⟩

abbrev nBuf : Space → Nat
  | .hbm => 254
  | .vmem => 0
  | .smem => 0
  | _ => 0

abbrev hbmTy0_0 (i : Nat) : BufTy := match i % 128 with
  | 0 => ⟨S1x4096x512, .f32⟩
  | 1 => ⟨S1x4096x512, .f32⟩
  | 2 => ⟨S1x4x128x128, .f32⟩
  | 3 => ⟨S1x512, .f32⟩
  | 4 => ⟨S1x1024x1024, .f32⟩
  | 5 => ⟨S4096x1024, .f32⟩
  | 6 => ⟨S4x128x128, .f32⟩
  | 7 => ⟨S512, .f32⟩
  | 8 => ⟨S1x4096x4x128, .f32⟩
  | 9 => ⟨S_, .f32⟩
  | 10 => ⟨S_, .f32⟩
  | 11 => ⟨S1x4096x4x128, .f32⟩
  | 12 => ⟨S_, .f32⟩
  | 13 => ⟨S1x1x4x128, .f32⟩
  | 14 => ⟨S1x4097x4x128, .f32⟩
  | 15 => ⟨S_, .f32⟩
  | 16 => ⟨S1x1x4x128, .f32⟩
  | 17 => ⟨S1x4096x4x128, .f32⟩
  | 18 => ⟨S4096, .i32⟩
  | 19 => ⟨S1x4097x1x128, .f32⟩
  | 20 => ⟨S1x4097x128, .f32⟩
  | 21 => ⟨S_, .f32⟩
  | 22 => ⟨S1x1x128, .f32⟩
  | 23 => ⟨S1x4098x128, .f32⟩
  | 24 => ⟨S_, .f32⟩
  | 25 => ⟨S1x1x128, .f32⟩
  | 26 => ⟨S1x4096x128, .f32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S4096, .f32⟩
  | 34 => ⟨S1x4096x1, .f32⟩
  | 35 => ⟨S1x4096x1x128, .f32⟩
  | 36 => ⟨S1x4096x128, .f32⟩
  | 37 => ⟨S1x4096x128, .f32⟩
  | 38 => ⟨S1x4096x128, .f32⟩
  | 39 => ⟨S1x4096x128, .f32⟩
  | 40 => ⟨S1x4096x1x128, .f32⟩
  | 41 => ⟨S1x4096x128, .f32⟩
  | 42 => ⟨S1x4096x128, .f32⟩
  | 43 => ⟨S1x4097x1x128, .f32⟩
  | 44 => ⟨S1x4097x128, .f32⟩
  | 45 => ⟨S_, .f32⟩
  | 46 => ⟨S1x3x128, .f32⟩
  | 47 => ⟨S1x4100x128, .f32⟩
  | 48 => ⟨S_, .f32⟩
  | 49 => ⟨S1x3x128, .f32⟩
  | 50 => ⟨S1x4096x128, .f32⟩
  | 51 => ⟨S_, .i32⟩
  | 52 => ⟨S4096, .i32⟩
  | 53 => ⟨S4096, .i32⟩
  | 54 => ⟨S_, .i32⟩
  | 55 => ⟨S4096, .i32⟩
  | 56 => ⟨S4096, .i32⟩
  | 57 => ⟨S4096, .f32⟩
  | 58 => ⟨S1x4096x1, .f32⟩
  | 59 => ⟨S1x4096x1x128, .f32⟩
  | 60 => ⟨S1x4096x128, .f32⟩
  | 61 => ⟨S1x4096x128, .f32⟩
  | 62 => ⟨S1x4096x128, .f32⟩
  | 63 => ⟨S1x4096x128, .f32⟩
  | 64 => ⟨S1x4096x1x128, .f32⟩
  | 65 => ⟨S1x4096x128, .f32⟩
  | 66 => ⟨S1x4096x128, .f32⟩
  | 67 => ⟨S1x4097x1x128, .f32⟩
  | 68 => ⟨S1x4097x128, .f32⟩
  | 69 => ⟨S_, .f32⟩
  | 70 => ⟨S1x7x128, .f32⟩
  | 71 => ⟨S1x4104x128, .f32⟩
  | 72 => ⟨S_, .f32⟩
  | 73 => ⟨S1x7x128, .f32⟩
  | 74 => ⟨S1x4096x128, .f32⟩
  | 75 => ⟨S_, .i32⟩
  | 76 => ⟨S4096, .i32⟩
  | 77 => ⟨S4096, .i32⟩
  | 78 => ⟨S_, .i32⟩
  | 79 => ⟨S4096, .i32⟩
  | 80 => ⟨S4096, .i32⟩
  | 81 => ⟨S4096, .f32⟩
  | 82 => ⟨S1x4096x1, .f32⟩
  | 83 => ⟨S1x4096x1x128, .f32⟩
  | 84 => ⟨S1x4096x128, .f32⟩
  | 85 => ⟨S1x4096x128, .f32⟩
  | 86 => ⟨S1x4096x128, .f32⟩
  | 87 => ⟨S1x4096x128, .f32⟩
  | 88 => ⟨S1x4096x1x128, .f32⟩
  | 89 => ⟨S1x4096x128, .f32⟩
  | 90 => ⟨S1x4096x128, .f32⟩
  | 91 => ⟨S1x4097x1x128, .f32⟩
  | 92 => ⟨S1x4097x128, .f32⟩
  | 93 => ⟨S_, .f32⟩
  | 94 => ⟨S1x15x128, .f32⟩
  | 95 => ⟨S1x4112x128, .f32⟩
  | 96 => ⟨S_, .f32⟩
  | 97 => ⟨S1x15x128, .f32⟩
  | 98 => ⟨S1x4096x128, .f32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S4096, .f32⟩
  | 106 => ⟨S1x4096x1, .f32⟩
  | 107 => ⟨S1x4096x1x128, .f32⟩
  | 108 => ⟨S1x4096x128, .f32⟩
  | 109 => ⟨S1x4096x128, .f32⟩
  | 110 => ⟨S1x4096x128, .f32⟩
  | 111 => ⟨S1x4096x128, .f32⟩
  | 112 => ⟨S1x4096x1x128, .f32⟩
  | 113 => ⟨S1x4096x128, .f32⟩
  | 114 => ⟨S1x4096x128, .f32⟩
  | 115 => ⟨S1x4096x1x128, .f32⟩
  | 116 => ⟨S1x4096x1x128, .f32⟩
  | 117 => ⟨S1x4096x1x128, .f32⟩
  | 118 => ⟨S1x4096x1x128, .f32⟩
  | 119 => ⟨S1x4096x4x128, .f32⟩
  | 120 => ⟨S4x128x1x4096, .f32⟩
  | 121 => ⟨S1x4096x4x128, .f32⟩
  | 122 => ⟨S4x128, .f32⟩
  | 123 => ⟨S1x1x4x128, .f32⟩
  | 124 => ⟨S1x4096x4x128, .f32⟩
  | 125 => ⟨S1x4096x4x128, .f32⟩
  | 126 => ⟨S1x4096x512, .f32⟩
  | 127 => ⟨S1x4096x1024, .f32⟩
  | _ => ⟨S1x4096x512, .f32⟩

abbrev hbmTy0_1 (i : Nat) : BufTy := match i % 128 with
  | 0 => ⟨S1024x1024, .f32⟩
  | 1 => ⟨S1x4096x1024, .f32⟩
  | 2 => ⟨S1x4096x1024, .f32⟩
  | 3 => ⟨S1024x1024, .f32⟩
  | 4 => ⟨S1024x1024, .f32⟩
  | 5 => ⟨S1x4096x1024, .f32⟩
  | 6 => ⟨S1x1024x1024, .f32⟩
  | 7 => ⟨S1x4096x512, .f32⟩
  | 8 => ⟨S1x4096x512, .f32⟩
  | 9 => ⟨S1x4096x4x128, .f32⟩
  | 10 => ⟨S1x4096x4x128, .f32⟩
  | 11 => ⟨S_, .f32⟩
  | 12 => ⟨S1x4x128, .f32⟩
  | 13 => ⟨S1x1x4x128, .f32⟩
  | 14 => ⟨S1x4096x4x128, .f32⟩
  | 15 => ⟨S1x4096x4x128, .f32⟩
  | 16 => ⟨S_, .f32⟩
  | 17 => ⟨S4x128, .f32⟩
  | 18 => ⟨S512, .f32⟩
  | 19 => ⟨S4x128x1x4096, .f32⟩
  | 20 => ⟨S4x1x4096x128, .f32⟩
  | 21 => ⟨S1x4096x4x128, .f32⟩
  | 22 => ⟨S4x128x128, .f32⟩
  | 23 => ⟨S4x128x128, .f32⟩
  | 24 => ⟨S1x4096x1x128, .f32⟩
  | 25 => ⟨S1x4096x128, .f32⟩
  | 26 => ⟨S1x4096x1x128, .f32⟩
  | 27 => ⟨S1x4096x128, .f32⟩
  | 28 => ⟨S1x4096x1x128, .f32⟩
  | 29 => ⟨S1x4096x128, .f32⟩
  | 30 => ⟨S1x4096x1x128, .f32⟩
  | 31 => ⟨S1x4096x128, .f32⟩
  | 32 => ⟨S1x4096x128, .f32⟩
  | 33 => ⟨S1x4096x1x128, .f32⟩
  | 34 => ⟨S_, .f32⟩
  | 35 => ⟨S1x4096x4x128, .f32⟩
  | 36 => ⟨S1x4096x128, .f32⟩
  | 37 => ⟨S1x4096x128, .f32⟩
  | 38 => ⟨S1x4096x128, .f32⟩
  | 39 => ⟨S1x4096x1x128, .f32⟩
  | 40 => ⟨S_, .f32⟩
  | 41 => ⟨S1x4096x4x128, .f32⟩
  | 42 => ⟨S_, .f32⟩
  | 43 => ⟨S1x4112x128, .f32⟩
  | 44 => ⟨S1x15x128, .f32⟩
  | 45 => ⟨S1x4097x128, .f32⟩
  | 46 => ⟨S1x4097x1x128, .f32⟩
  | 47 => ⟨S_, .f32⟩
  | 48 => ⟨S1x4097x4x128, .f32⟩
  | 49 => ⟨S1x4096x128, .f32⟩
  | 50 => ⟨S1x4096x1x128, .f32⟩
  | 51 => ⟨S_, .f32⟩
  | 52 => ⟨S1x4096x4x128, .f32⟩
  | 53 => ⟨S1x4096x4x128, .f32⟩
  | 54 => ⟨S1x4096x128, .f32⟩
  | 55 => ⟨S1x4096x128, .f32⟩
  | 56 => ⟨S1x4096x128, .f32⟩
  | 57 => ⟨S1x4096x1x128, .f32⟩
  | 58 => ⟨S_, .f32⟩
  | 59 => ⟨S1x4096x4x128, .f32⟩
  | 60 => ⟨S1x4096x4x128, .f32⟩
  | 61 => ⟨S_, .f32⟩
  | 62 => ⟨S1x4104x128, .f32⟩
  | 63 => ⟨S1x7x128, .f32⟩
  | 64 => ⟨S1x4097x128, .f32⟩
  | 65 => ⟨S1x4097x1x128, .f32⟩
  | 66 => ⟨S_, .f32⟩
  | 67 => ⟨S1x4097x4x128, .f32⟩
  | 68 => ⟨S1x4097x4x128, .f32⟩
  | 69 => ⟨S1x4096x128, .f32⟩
  | 70 => ⟨S1x4096x1x128, .f32⟩
  | 71 => ⟨S_, .f32⟩
  | 72 => ⟨S1x4096x4x128, .f32⟩
  | 73 => ⟨S1x4096x4x128, .f32⟩
  | 74 => ⟨S1x4096x128, .f32⟩
  | 75 => ⟨S1x4096x128, .f32⟩
  | 76 => ⟨S1x4096x128, .f32⟩
  | 77 => ⟨S1x4096x1x128, .f32⟩
  | 78 => ⟨S_, .f32⟩
  | 79 => ⟨S1x4096x4x128, .f32⟩
  | 80 => ⟨S1x4096x4x128, .f32⟩
  | 81 => ⟨S_, .f32⟩
  | 82 => ⟨S1x4100x128, .f32⟩
  | 83 => ⟨S1x3x128, .f32⟩
  | 84 => ⟨S1x4097x128, .f32⟩
  | 85 => ⟨S1x4097x1x128, .f32⟩
  | 86 => ⟨S_, .f32⟩
  | 87 => ⟨S1x4097x4x128, .f32⟩
  | 88 => ⟨S1x4097x4x128, .f32⟩
  | 89 => ⟨S1x4096x128, .f32⟩
  | 90 => ⟨S1x4096x1x128, .f32⟩
  | 91 => ⟨S_, .f32⟩
  | 92 => ⟨S1x4096x4x128, .f32⟩
  | 93 => ⟨S1x4096x4x128, .f32⟩
  | 94 => ⟨S1x4096x128, .f32⟩
  | 95 => ⟨S1x4096x128, .f32⟩
  | 96 => ⟨S1x4096x128, .f32⟩
  | 97 => ⟨S1x4096x1x128, .f32⟩
  | 98 => ⟨S_, .f32⟩
  | 99 => ⟨S1x4096x4x128, .f32⟩
  | 100 => ⟨S1x4096x4x128, .f32⟩
  | 101 => ⟨S_, .f32⟩
  | 102 => ⟨S1x4098x128, .f32⟩
  | 103 => ⟨S1x1x128, .f32⟩
  | 104 => ⟨S1x4097x128, .f32⟩
  | 105 => ⟨S1x4097x1x128, .f32⟩
  | 106 => ⟨S_, .f32⟩
  | 107 => ⟨S1x4097x4x128, .f32⟩
  | 108 => ⟨S1x4097x4x128, .f32⟩
  | 109 => ⟨S_, .f32⟩
  | 110 => ⟨S1x4097x4x128, .f32⟩
  | 111 => ⟨S1x4097x4x128, .f32⟩
  | 112 => ⟨S1x1x4x128, .f32⟩
  | 113 => ⟨S1x4096x4x128, .f32⟩
  | 114 => ⟨S_, .f32⟩
  | 115 => ⟨S_, .f32⟩
  | 116 => ⟨S1x4096x4x128, .f32⟩
  | 117 => ⟨S1x4096x4x128, .f32⟩
  | 118 => ⟨S1x4096x512, .f32⟩
  | 119 => ⟨S1x512, .f32⟩
  | 120 => ⟨S1x4x128x128, .f32⟩
  | 121 => ⟨S4096x512, .f32⟩
  | 122 => ⟨S4096x512, .f32⟩
  | 123 => ⟨S4x128x128, .f32⟩
  | 124 => ⟨S1024x1024, .f32⟩
  | 125 => ⟨S1024x1024, .bf16⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_cst : Ref sig .tc := ⟨.hbm, 9, rfl⟩
abbrev main_call0_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_c_15 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_16 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_17 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_18 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_19 : Ref sig .tc := ⟨.hbm, 168, rfl⟩
abbrev main_v139 : Ref sig .tc := ⟨.hbm, 169, rfl⟩
abbrev main_cst_20 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_21 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_22 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_23 : Ref sig .tc := ⟨.hbm, 186, rfl⟩
abbrev main_v153 : Ref sig .tc := ⟨.hbm, 187, rfl⟩
abbrev main_v154 : Ref sig .tc := ⟨.hbm, 188, rfl⟩
abbrev main_cst_24 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_25 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_cst_26 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_cst_27 : Ref sig .tc := ⟨.hbm, 206, rfl⟩
abbrev main_v169 : Ref sig .tc := ⟨.hbm, 207, rfl⟩
abbrev main_v170 : Ref sig .tc := ⟨.hbm, 208, rfl⟩
abbrev main_cst_28 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_cst_29 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_cst_30 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_cst_31 : Ref sig .tc := ⟨.hbm, 226, rfl⟩
abbrev main_v185 : Ref sig .tc := ⟨.hbm, 227, rfl⟩
abbrev main_v186 : Ref sig .tc := ⟨.hbm, 228, rfl⟩
abbrev main_cst_32 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_cst_33 : Ref sig .tc := ⟨.hbm, 234, rfl⟩
abbrev main_v191 : Ref sig .tc := ⟨.hbm, 235, rfl⟩
abbrev main_v192 : Ref sig .tc := ⟨.hbm, 236, rfl⟩
abbrev main_cst_34 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_call1_call0_cst : Ref sig .tc := ⟨.hbm, 242, rfl⟩
abbrev main_call1_call0_v0 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩

abbrev nD : Nat := 1
abbrev τ : Topo := Topo.v7x

variable {F : FTy → Type} [FloatOps F]
-- ==== Qkvu.lean ====
abbrev S1x4096x1024 : Shape := ⟨3, ![1, 4096, 1024]⟩
abbrev S1x1024 : Shape := ⟨2, ![1, 1024]⟩
abbrev S1x1024x2048 : Shape := ⟨3, ![1, 1024, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 13
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2048, .f32⟩
  | .hbm, ⟨3, _⟩ => ⟨S1024x2048, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvuRefIdeal.lean ====
abbrev S1x4096x1024 : Shape := ⟨3, ![1, 4096, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2048 : Shape := ⟨2, ![1024, 2048]⟩
abbrev S1x4096x2048 : Shape := ⟨3, ![1, 4096, 2048]⟩
abbrev S1x4096x512 : Shape := ⟨3, ![1, 4096, 512]⟩
abbrev S4096x512 : Shape := ⟨2, ![4096, 512]⟩
abbrev S4096x1024 : Shape := ⟨2, ![4096, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1024x2048, .f32⟩
  | .hbm, ⟨21, _⟩ => ⟨S1x4096x2048, .f32⟩
  | .hbm, ⟨22, _⟩ => ⟨S1x4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S1x4096x512, .f32⟩
  | .hbm, ⟨28, _⟩ => ⟨S4096x512, .f32⟩
  | .hbm, ⟨29, _⟩ => ⟨S1x4096x512, .f32⟩
  | .hbm, ⟨30, _⟩ => ⟨S4096x512, .f32⟩
  | .hbm, ⟨31, _⟩ => ⟨S1x4096x512, .f32⟩
  | .hbm, ⟨32, _⟩ => ⟨S4096x512, .f32⟩
  | .hbm, ⟨33, _⟩ => ⟨S4096x1024, .f32⟩
  | .hbm, ⟨34, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== FfnUp.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1024x5632 : Shape := ⟨2, ![1024, 5632]⟩
abbrev S1024x8x704 : Shape := ⟨3, ![1024, 8, 704]⟩
abbrev S8x1024x704 : Shape := ⟨3, ![8, 1024, 704]⟩
abbrev S3x5632 : Shape := ⟨2, ![3, 5632]⟩
abbrev S3x8x704 : Shape := ⟨3, ![3, 8, 704]⟩
abbrev S8x3x704 : Shape := ⟨3, ![8, 3, 704]⟩
abbrev S4096x1024 : Shape := ⟨2, ![4096, 1024]⟩
abbrev S8x1x704 : Shape := ⟨3, ![8, 1, 704]⟩
abbrev S4x4096x704 : Shape := ⟨3, ![4, 4096, 704]⟩
abbrev S8x4096x704 : Shape := ⟨3, ![8, 4096, 704]⟩
abbrev S256x1024 : Shape := ⟨2, ![256, 1024]⟩
abbrev S4x256x704 : Shape := ⟨3, ![4, 256, 704]⟩
abbrev S8x256x704 : Shape := ⟨3, ![8, 256, 704]⟩
abbrev S8x16x704 : Shape := ⟨3, ![8, 16, 704]⟩
abbrev S272x704 : Shape := ⟨2, ![272, 704]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩
abbrev S1x16x704 : Shape := ⟨3, ![1, 16, 704]⟩
abbrev S16x704 : Shape := ⟨2, ![16, 704]⟩
abbrev S1x3x704 : Shape := ⟨3, ![1, 3, 704]⟩
abbrev S3x704 : Shape := ⟨2, ![3, 704]⟩
abbrev S1x1x704 : Shape := ⟨3, ![1, 1, 704]⟩
abbrev S1x704 : Shape := ⟨2, ![1, 704]⟩

abbrev nBuf : Space → Nat
  | .hbm => 18
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1024x5632, .f32⟩
  | .hbm, ⟨6, _⟩ => ⟨S1024x8x704, .f32⟩
  | .hbm, ⟨7, _⟩ => ⟨S8x1024x704, .f32⟩
  | .hbm, ⟨8, _⟩ => ⟨S8x1024x704, .bf16⟩
  | .hbm, ⟨9, _⟩ => ⟨S3x5632, .f32⟩
  | .hbm, ⟨10, _⟩ => ⟨S3x8x704, .f32⟩
  | .hbm, ⟨11, _⟩ => ⟨S8x3x704, .f32⟩
  | .hbm, ⟨12, _⟩ => ⟨S4096x1024, .f32⟩
  | .hbm, ⟨13, _⟩ => ⟨S8x1x704, .f32⟩
  | .hbm, ⟨14, _⟩ => ⟨S4x4096x704, .bf16⟩
  | .hbm, ⟨15, _⟩ => ⟨S4096x1024, .bf16⟩
  | .hbm, ⟨16, _⟩ => ⟨S8x4096x704, .bf16⟩
  | .hbm, ⟨17, _⟩ => ⟨S8x4096x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x704, .bf16⟩
  | .local _ .vmem, ⟨4, _⟩ => ⟨S8x3x704, .f32⟩
  | .local _ .vmem, ⟨5, _⟩ => ⟨S8x1x704, .f32⟩
  | .local _ .vmem, ⟨6, _⟩ => ⟨S4x256x704, .bf16⟩
  | .local _ .vmem, ⟨7, _⟩ => ⟨S4x256x704, .bf16⟩
  | .local _ .vmem, ⟨8, _⟩ => ⟨S256x1024, .bf16⟩
  | .local _ .vmem, ⟨9, _⟩ => ⟨S256x1024, .bf16⟩
  | .local _ .vmem, ⟨10, _⟩ => ⟨S8x256x704, .bf16⟩
  | .local _ .vmem, ⟨11, _⟩ => ⟨S8x256x704, .bf16⟩
  | .local _ .vmem, ⟨12, _⟩ => ⟨S8x256x704, .bf16⟩
  | .local _ .vmem, ⟨13, _⟩ => ⟨S8x256x704, .bf16⟩
  | .local _ .vmem, ⟨14, _⟩ => ⟨S8x16x704, .f32⟩
  | .local _ .vmem, ⟨15, _⟩ => ⟨S272x704, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnUpRefIdeal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x5632 : Shape := ⟨2, ![1024, 5632]⟩
abbrev S1x4096x5632 : Shape := ⟨3, ![1, 4096, 5632]⟩
abbrev S3x5632 : Shape := ⟨2, ![3, 5632]⟩
abbrev S5632 : Shape := ⟨1, ![5632]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S1x4097x5632 : Shape := ⟨3, ![1, 4097, 5632]⟩
abbrev S1x4096x2816 : Shape := ⟨3, ![1, 4096, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 80
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1024, .f32⟩
  | .hbm, ⟨18, _⟩ => ⟨S1x4096x1024, .f32⟩
  | .hbm, ⟨19, _⟩ => ⟨S1x1x1024, .f32⟩
  | .hbm, ⟨20, _⟩ => ⟨S1x4096x1024, .f32⟩
  | .hbm, ⟨21, _⟩ => ⟨S1x4096x1024, .f32⟩
  | .hbm, ⟨22, _⟩ => ⟨S1024x5632, .f32⟩
  | .hbm, ⟨23, _⟩ => ⟨S1x4096x5632, .f32⟩
  | .hbm, ⟨24, _⟩ => ⟨S3x5632, .f32⟩
  | .hbm, ⟨25, _⟩ => ⟨S5632, .f32⟩
  | .hbm, ⟨26, _⟩ => ⟨S1x5632, .f32⟩
  | .hbm, ⟨27, _⟩ => ⟨S5632, .f32⟩
  | .hbm, ⟨28, _⟩ => ⟨S_, .f32⟩
  | .hbm, ⟨29, _⟩ => ⟨S1x2x5632, .f32⟩
  | .hbm, ⟨30, _⟩ => ⟨S1x4098x5632, .f32⟩
  | .hbm, ⟨31, _⟩ => ⟨S1x4096x5632, .f32⟩
  | .hbm, ⟨32, _⟩ => ⟨S1x1x5632, .f32⟩
  | .hbm, ⟨33, _⟩ => ⟨S1x4096x5632, .f32⟩
  | .hbm, ⟨34, _⟩ => ⟨S1x4096x5632, .f32⟩
  | .hbm, ⟨35, _⟩ => ⟨S1x1x5632, .f32⟩
  | .hbm, ⟨36, _⟩ => ⟨S1x4096x5632, .f32⟩
  | .hbm, ⟨37, _⟩ => ⟨S1x4096x5632, .f32⟩
  | .hbm, ⟨38, _⟩ => ⟨S1x5632, .f32⟩
  | .hbm, ⟨39, _⟩ => ⟨S5632, .f32⟩
  | .hbm, ⟨40, _⟩ => ⟨S_, .f32⟩
  | .hbm, ⟨41, _⟩ => ⟨S1x1x5632, .f32⟩
  | .hbm, ⟨42, _⟩ => ⟨S1x4097x5632, .f32⟩
  | .hbm, ⟨43, _⟩ => ⟨S1x4096x5632, .f32⟩
  | .hbm, ⟨44, _⟩ => ⟨S1x1x5632, .f32⟩
  | .hbm, ⟨45, _⟩ => ⟨S1x4096x5632, .f32⟩
  | .hbm, ⟨46, _⟩ => ⟨S1x4096x5632, .f32⟩
  | .hbm, ⟨47, _⟩ => ⟨S1x4096x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S1x4096x5632, .f32⟩
  | .hbm, ⟨52, _⟩ => ⟨S1x4096x5632, .f32⟩
  | .hbm, ⟨53, _⟩ => ⟨S1x4096x5632, .f32⟩
  | .hbm, ⟨54, _⟩ => ⟨S1x4096x2816, .f32⟩
  | .hbm, ⟨55, _⟩ => ⟨S1x4096x2816, .f32⟩
  | .hbm, ⟨56, _⟩ => ⟨S1x4096x2816, .f32⟩
  | .hbm, ⟨57, _⟩ => ⟨S1x4096x2816, .f32⟩
  | .hbm, ⟨58, _⟩ => ⟨S_, .f32⟩
  | .hbm, ⟨59, _⟩ => ⟨S1x4096x2816, .f32⟩
  | .hbm, ⟨60, _⟩ => ⟨S1x4096x2816, .f32⟩
  | .hbm, ⟨61, _⟩ => ⟨S_, .f32⟩
  | .hbm, ⟨62, _⟩ => ⟨S1x4096x2816, .f32⟩
  | .hbm, ⟨63, _⟩ => ⟨S1x4096x2816, .f32⟩
  | .hbm, ⟨64, _⟩ => ⟨S1x4096x2816, .f32⟩
  | .hbm, ⟨65, _⟩ => ⟨S1x4096x2816, .f32⟩
  | .hbm, ⟨66, _⟩ => ⟨S4096x2816, .f32⟩
  | .hbm, ⟨67, _⟩ => ⟨S4096x4x704, .f32⟩
  | .hbm, ⟨68, _⟩ => ⟨S4x4096x704, .f32⟩
  | .hbm, ⟨69, _⟩ => ⟨S4x4096x704, .bf16⟩
  | .hbm, ⟨70, _⟩ => ⟨S4096x1024, .f32⟩
  | .hbm, ⟨71, _⟩ => ⟨S4096x1024, .bf16⟩
  | .hbm, ⟨72, _⟩ => ⟨S4096x5632, .f32⟩
  | .hbm, ⟨73, _⟩ => ⟨S4096x8x704, .f32⟩
  | .hbm, ⟨74, _⟩ => ⟨S8x4096x704, .f32⟩
  | .hbm, ⟨75, _⟩ => ⟨S8x4096x704, .bf16⟩
  | .hbm, ⟨76, _⟩ => ⟨S4096x5632, .f32⟩
  | .hbm, ⟨77, _⟩ => ⟨S4096x8x704, .f32⟩
  | .hbm, ⟨78, _⟩ => ⟨S8x4096x704, .f32⟩
  | .hbm, ⟨79, _⟩ => ⟨S8x4096x704, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== FfnDown.lean ====
abbrev S1x4096x1024 : Shape := ⟨3, ![1, 4096, 1024]⟩
abbrev S1x4096x2816 : Shape := ⟨3, ![1, 4096, 2816]⟩
abbrev S1x2816x1024 : Shape := ⟨3, ![1, 2816, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4096x1024 : Shape := ⟨2, ![4096, 1024]⟩
abbrev S2816x1024 : Shape := ⟨2, ![2816, 1024]⟩
abbrev S4x704x1024 : Shape := ⟨3, ![4, 704, 1024]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 12
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2816, .f32⟩
  | .hbm, ⟨2, _⟩ => ⟨S1x2816x1024, .f32⟩
  | .hbm, ⟨3, _⟩ => ⟨S4096x2816, .f32⟩
  | .hbm, ⟨4, _⟩ => ⟨S4096x4x704, .f32⟩
  | .hbm, ⟨5, _⟩ => ⟨S4x4096x704, .f32⟩
  | .hbm, ⟨6, _⟩ => ⟨S4x4096x704, .bf16⟩
  | .hbm, ⟨7, _⟩ => ⟨S4096x1024, .f32⟩
  | .hbm, ⟨8, _⟩ => ⟨S2816x1024, .f32⟩
  | .hbm, ⟨9, _⟩ => ⟨S2816x1024, .bf16⟩
  | .hbm, ⟨10, _⟩ => ⟨S4x704x1024, .bf16⟩
  | .hbm, ⟨11, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S512x1024, .f32⟩
  | .local _ .vmem, ⟨6, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDownRefIdeal.lean ====
abbrev S1x4096x1024 : Shape := ⟨3, ![1, 4096, 1024]⟩
abbrev S1x4096x2816 : Shape := ⟨3, ![1, 4096, 2816]⟩
abbrev S1x2816x1024 : Shape := ⟨3, ![1, 2816, 1024]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2816, .f32⟩
  | .hbm, ⟨2, _⟩ => ⟨S1x2816x1024, .f32⟩
  | .hbm, ⟨3, _⟩ => ⟨S2816x1024, .f32⟩
  | .hbm, ⟨4, _⟩ => ⟨S1x4096x1024, .f32⟩
  | .hbm, ⟨5, _⟩ => ⟨S1x4096x1024, .f32⟩
  | .hbm, ⟨6, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wgrad.lean ====
abbrev S1x4096x1024 : Shape := ⟨3, ![1, 4096, 1024]⟩
abbrev S1x4096x5632 : Shape := ⟨3, ![1, 4096, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S4096x1024 : Shape := ⟨2, ![4096, 1024]⟩
abbrev S8x704x1024 : Shape := ⟨3, ![8, 704, 1024]⟩
abbrev S1x4096x704 : Shape := ⟨3, ![1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 9
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1x4096x5632, .f32⟩
  | .hbm, ⟨2, _⟩ => ⟨S4096x5632, .f32⟩
  | .hbm, ⟨3, _⟩ => ⟨S4096x8x704, .f32⟩
  | .hbm, ⟨4, _⟩ => ⟨S8x4096x704, .f32⟩
  | .hbm, ⟨5, _⟩ => ⟨S8x4096x704, .bf16⟩
  | .hbm, ⟨6, _⟩ => ⟨S4096x1024, .f32⟩
  | .hbm, ⟨7, _⟩ => ⟨S4096x1024, .bf16⟩
  | .hbm, ⟨8, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S704x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_9 : BitVec 32 := 0#32
  let v13 : BitVec 1 := Scalar.cmpi .eq arg1 c0_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradRefIdeal.lean ====
abbrev S1x4096x1024 : Shape := ⟨3, ![1, 4096, 1024]⟩
abbrev S1x4096x5632 : Shape := ⟨3, ![1, 4096, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x5632, .f32⟩
  | .hbm, ⟨2, _⟩ => ⟨S_, .f32⟩
  | .hbm, ⟨3, _⟩ => ⟨S1024x5632, .f32⟩
  | .hbm, ⟨4, _⟩ => ⟨S1x4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S8x704x1024, .f32⟩
  | .hbm, ⟨9, _⟩ => ⟨S8x704x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adamw.lean ====
abbrev S8x1024x704 : Shape := ⟨3, ![8, 1024, 704]⟩
abbrev S1x1024x704 : Shape := ⟨3, ![1, 1024, 704]⟩
abbrev S8x704x1024 : Shape := ⟨3, ![8, 704, 1024]⟩
abbrev S1024x704 : Shape := ⟨2, ![1024, 704]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S8x704x1024, .f32⟩
  | .hbm, ⟨5, _⟩ => ⟨S8x704x1024, .bf16⟩
  | .hbm, ⟨6, _⟩ => ⟨S1024x704, .f32⟩
  | .hbm, ⟨7, _⟩ => ⟨S704x1024, .f32⟩
  | .hbm, ⟨8, _⟩ => ⟨S1024x704, .f32⟩
  | .hbm, ⟨9, _⟩ => ⟨S704x1024, .f32⟩
  | .hbm, ⟨10, _⟩ => ⟨S1024x704, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S8x1024x704 : Shape := ⟨3, ![8, 1024, 704]⟩
abbrev S1x1024x704 : Shape := ⟨3, ![1, 1024, 704]⟩
abbrev S_ : Shape := ⟨0, ![]⟩
abbrev S1024x704 : Shape := ⟨2, ![1024, 704]⟩
abbrev S704x1024 : Shape := ⟨2, ![704, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S_, .f32⟩
  | .hbm, ⟨5, _⟩ => ⟨S1024x704, .f32⟩
  | .hbm, ⟨6, _⟩ => ⟨S1x1024x704, .f32⟩
  | .hbm, ⟨7, _⟩ => ⟨S_, .f32⟩
  | .hbm, ⟨8, _⟩ => ⟨S1x1024x704, .f32⟩
  | .hbm, ⟨9, _⟩ => ⟨S1x1024x704, .f32⟩
  | .hbm, ⟨10, _⟩ => ⟨S_, .f32⟩
  | .hbm, ⟨11, _⟩ => ⟨S1x1024x704, .f32⟩
  | .hbm, ⟨12, _⟩ => ⟨S1x1024x704, .f32⟩
  | .hbm, ⟨13, _⟩ => ⟨S1x1024x704, .f32⟩
  | .hbm, ⟨14, _⟩ => ⟨S_, .f32⟩
  | .hbm, ⟨15, _⟩ => ⟨S1x1024x704, .f32⟩
  | .hbm, ⟨16, _⟩ => ⟨S1x1024x704, .f32⟩
  | .hbm, ⟨17, _⟩ => ⟨S1x1024x704, .f32⟩
  | .hbm, ⟨18, _⟩ => ⟨S_, .f32⟩
  | .hbm, ⟨19, _⟩ => ⟨S1x1024x704, .f32⟩
  | .hbm, ⟨20, _⟩ => ⟨S1x1024x704, .f32⟩
  | .hbm, ⟨21, _⟩ => ⟨S1x1024x704, .f32⟩
  | .hbm, ⟨22, _⟩ => ⟨S_, .f32⟩
  | .hbm, ⟨23, _⟩ => ⟨S1x1024x704, .f32⟩
  | .hbm, ⟨24, _⟩ => ⟨S1x1024x704, .f32⟩
  | .hbm, ⟨25, _⟩ => ⟨S_, .f32⟩
  | .hbm, ⟨26, _⟩ => ⟨S1x1024x704, .f32⟩
  | .hbm, ⟨27, _⟩ => ⟨S1x1024x704, .f32⟩
  | .hbm, ⟨28, _⟩ => ⟨S1x1024x704, .f32⟩
  | .hbm, ⟨29, _⟩ => ⟨S_, .f32⟩
  | .hbm, ⟨30, _⟩ => ⟨S1x1024x704, .f32⟩
  | .hbm, ⟨31, _⟩ => ⟨S1x1024x704, .f32⟩
  | .hbm, ⟨32, _⟩ => ⟨S1x1024x704, .f32⟩
  | .hbm, ⟨33, _⟩ => ⟨S_, .f32⟩
  | .hbm, ⟨34, _⟩ => ⟨S1x1024x704, .f32⟩
  | .hbm, ⟨35, _⟩ => ⟨S1x1024x704, .f32⟩
  | .hbm, ⟨36, _⟩ => ⟨S1x1024x704, .f32⟩
  | .hbm, ⟨37, _⟩ => ⟨S_, .f32⟩
  | .hbm, ⟨38, _⟩ => ⟨S1x1024x704, .f32⟩
  | .hbm, ⟨39, _⟩ => ⟨S1x1024x704, .f32⟩
  | .hbm, ⟨40, _⟩ => ⟨S1024x704, .f32⟩
  | .hbm, ⟨41, _⟩ => ⟨S704x1024, .f32⟩
  | .hbm, ⟨42, _⟩ => ⟨S1024x704, .f32⟩
  | .hbm, ⟨43, _⟩ => ⟨S704x1024, .f32⟩
  | .hbm, ⟨44, _⟩ => ⟨S1024x704, .f32⟩
  | .hbm, ⟨45, _⟩ => ⟨S704x1024, .f32⟩
  | .hbm, ⟨46, _⟩ => ⟨S1024x704, .f32⟩
  | .hbm, ⟨47, _⟩ => ⟨S704x1024, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== MixOut.lean ====
abbrev S1x4096x1024 : Shape := ⟨3, ![1, 4096, 1024]⟩
abbrev S1x4096x512 : Shape := ⟨3, ![1, 4096, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S4096x1024 : Shape := ⟨2, ![4096, 1024]⟩
abbrev S4096x512 : Shape := ⟨2, ![4096, 512]⟩
abbrev S4x128x128 : Shape := ⟨3, ![4, 128, 128]⟩
abbrev S1024x1024 : Shape := ⟨2, ![1024, 1024]⟩
abbrev S512x1024 : Shape := ⟨2, ![512, 1024]⟩
abbrev S512x512 : Shape := ⟨2, ![512, 512]⟩
abbrev S528x512 : Shape := ⟨2, ![528, 512]⟩
abbrev S16x512 : Shape := ⟨2, ![16, 512]⟩
abbrev S512x128 : Shape := ⟨2, ![512, 128]⟩
abbrev S512x1 : Shape := ⟨2, ![512, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 15
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4x128x128, .f32⟩
  | .hbm, ⟨10, _⟩ => ⟨S1024x1024, .f32⟩
  | .hbm, ⟨11, _⟩ => ⟨S1024x1024, .bf16⟩
  | .hbm, ⟨12, _⟩ => ⟨S4096x1024, .f32⟩
  | .hbm, ⟨13, _⟩ => ⟨S4096x1024, .bf16⟩
  | .hbm, ⟨14, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S4x128x128, .f32⟩
  | .local _ .vmem, ⟨7, _⟩ => ⟨S1x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x512, .bf16⟩
  | .local _ .vmem, ⟨14, _⟩ => ⟨S512x512, .bf16⟩
  | .local _ .vmem, ⟨15, _⟩ => ⟨S528x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutRefIdeal.lean ====
abbrev S1x4096x1024 : Shape := ⟨3, ![1, 4096, 1024]⟩
abbrev S1x4096x512 : Shape := ⟨3, ![1, 4096, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x4096x4x128 : Shape := ⟨4, ![1, 4096, 4, 128]⟩
abbrev S_ : Shape := ⟨0, ![]⟩
abbrev S1x1x4x128 : Shape := ⟨4, ![1, 1, 4, 128]⟩
abbrev S1x4097x4x128 : Shape := ⟨4, ![1, 4097, 4, 128]⟩
abbrev S4096 : Shape := ⟨1, ![4096]⟩
abbrev S1x4097x1x128 : Shape := ⟨4, ![1, 4097, 1, 128]⟩
abbrev S1x4097x128 : Shape := ⟨3, ![1, 4097, 128]⟩
abbrev S1x1x128 : Shape := ⟨3, ![1, 1, 128]⟩
abbrev S1x4098x128 : Shape := ⟨3, ![1, 4098, 128]⟩
abbrev S1x4096x128 : Shape := ⟨3, ![1, 4096, 128]⟩
abbrev S1x4096x1 : Shape := ⟨3, ![1, 4096, 1]⟩
abbrev S1x4096x1x128 : Shape := ⟨4, ![1, 4096, 1, 128]⟩
abbrev S1x3x128 : Shape := ⟨3, ![1, 3, 128]⟩
abbrev S1x4100x128 : Shape := ⟨3, ![1, 4100, 128]⟩
abbrev S1x7x128 : Shape := ⟨3, ![1, 7, 128]⟩
abbrev S1x4104x128 : Shape := ⟨3, ![1, 4104, 128]⟩
abbrev S1x15x128 : Shape := ⟨3, ![1, 15, 128]⟩
abbrev S1x4112x128 : Shape := ⟨3, ![1, 4112, 128]⟩
abbrev S4x128x128 : Shape := ⟨3, ![4, 128, 128]⟩
abbrev S4x128x1x4096 : Shape := ⟨4, ![4, 128, 1, 4096]⟩
abbrev S512 : Shape := ⟨1, ![512]⟩
abbrev S4x128 : Shape := ⟨2, ![4, 128]⟩
abbrev S1024x1024 : Shape := ⟨2, ![1024, 1024]⟩
abbrev S4096x1024 : Shape := ⟨2, ![4096, 1024]⟩
abbrev S4096x512 : Shape := ⟨2, ![4096, 512]⟩

abbrev nBuf : Space → Nat
  | .hbm => 126
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S1x4096x4x128, .f32⟩
  | .hbm, ⟨7, _⟩ => ⟨S_, .f32⟩
  | .hbm, ⟨8, _⟩ => ⟨S_, .f32⟩
  | .hbm, ⟨9, _⟩ => ⟨S1x4096x4x128, .f32⟩
  | .hbm, ⟨10, _⟩ => ⟨S_, .f32⟩
  | .hbm, ⟨11, _⟩ => ⟨S1x1x4x128, .f32⟩
  | .hbm, ⟨12, _⟩ => ⟨S1x4097x4x128, .f32⟩
  | .hbm, ⟨13, _⟩ => ⟨S1x4096x4x128, .f32⟩
  | .hbm, ⟨14, _⟩ => ⟨S4096, .i32⟩
  | .hbm, ⟨15, _⟩ => ⟨S1x4097x1x128, .f32⟩
  | .hbm, ⟨16, _⟩ => ⟨S1x4097x128, .f32⟩
  | .hbm, ⟨17, _⟩ => ⟨S_, .f32⟩
  | .hbm, ⟨18, _⟩ => ⟨S1x1x128, .f32⟩
  | .hbm, ⟨19, _⟩ => ⟨S1x4098x128, .f32⟩
  | .hbm, ⟨20, _⟩ => ⟨S1x4096x128, .f32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .f32⟩
  | .hbm, ⟨28, _⟩ => ⟨S1x4096x1, .f32⟩
  | .hbm, ⟨29, _⟩ => ⟨S1x4096x1x128, .f32⟩
  | .hbm, ⟨30, _⟩ => ⟨S1x4096x128, .f32⟩
  | .hbm, ⟨31, _⟩ => ⟨S1x4096x128, .f32⟩
  | .hbm, ⟨32, _⟩ => ⟨S1x4096x128, .f32⟩
  | .hbm, ⟨33, _⟩ => ⟨S1x4096x128, .f32⟩
  | .hbm, ⟨34, _⟩ => ⟨S1x4096x1x128, .f32⟩
  | .hbm, ⟨35, _⟩ => ⟨S1x4096x128, .f32⟩
  | .hbm, ⟨36, _⟩ => ⟨S1x4096x128, .f32⟩
  | .hbm, ⟨37, _⟩ => ⟨S1x4097x1x128, .f32⟩
  | .hbm, ⟨38, _⟩ => ⟨S1x4097x128, .f32⟩
  | .hbm, ⟨39, _⟩ => ⟨S_, .f32⟩
  | .hbm, ⟨40, _⟩ => ⟨S1x3x128, .f32⟩
  | .hbm, ⟨41, _⟩ => ⟨S1x4100x128, .f32⟩
  | .hbm, ⟨42, _⟩ => ⟨S1x4096x128, .f32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .f32⟩
  | .hbm, ⟨50, _⟩ => ⟨S1x4096x1, .f32⟩
  | .hbm, ⟨51, _⟩ => ⟨S1x4096x1x128, .f32⟩
  | .hbm, ⟨52, _⟩ => ⟨S1x4096x128, .f32⟩
  | .hbm, ⟨53, _⟩ => ⟨S1x4096x128, .f32⟩
  | .hbm, ⟨54, _⟩ => ⟨S1x4096x128, .f32⟩
  | .hbm, ⟨55, _⟩ => ⟨S1x4096x128, .f32⟩
  | .hbm, ⟨56, _⟩ => ⟨S1x4096x1x128, .f32⟩
  | .hbm, ⟨57, _⟩ => ⟨S1x4096x128, .f32⟩
  | .hbm, ⟨58, _⟩ => ⟨S1x4096x128, .f32⟩
  | .hbm, ⟨59, _⟩ => ⟨S1x4097x1x128, .f32⟩
  | .hbm, ⟨60, _⟩ => ⟨S1x4097x128, .f32⟩
  | .hbm, ⟨61, _⟩ => ⟨S_, .f32⟩
  | .hbm, ⟨62, _⟩ => ⟨S1x7x128, .f32⟩
  | .hbm, ⟨63, _⟩ => ⟨S1x4104x128, .f32⟩
  | .hbm, ⟨64, _⟩ => ⟨S1x4096x128, .f32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .f32⟩
  | .hbm, ⟨72, _⟩ => ⟨S1x4096x1, .f32⟩
  | .hbm, ⟨73, _⟩ => ⟨S1x4096x1x128, .f32⟩
  | .hbm, ⟨74, _⟩ => ⟨S1x4096x128, .f32⟩
  | .hbm, ⟨75, _⟩ => ⟨S1x4096x128, .f32⟩
  | .hbm, ⟨76, _⟩ => ⟨S1x4096x128, .f32⟩
  | .hbm, ⟨77, _⟩ => ⟨S1x4096x128, .f32⟩
  | .hbm, ⟨78, _⟩ => ⟨S1x4096x1x128, .f32⟩
  | .hbm, ⟨79, _⟩ => ⟨S1x4096x128, .f32⟩
  | .hbm, ⟨80, _⟩ => ⟨S1x4096x128, .f32⟩
  | .hbm, ⟨81, _⟩ => ⟨S1x4097x1x128, .f32⟩
  | .hbm, ⟨82, _⟩ => ⟨S1x4097x128, .f32⟩
  | .hbm, ⟨83, _⟩ => ⟨S_, .f32⟩
  | .hbm, ⟨84, _⟩ => ⟨S1x15x128, .f32⟩
  | .hbm, ⟨85, _⟩ => ⟨S1x4112x128, .f32⟩
  | .hbm, ⟨86, _⟩ => ⟨S1x4096x128, .f32⟩
  | .hbm, ⟨87, _⟩ => ⟨S_, .i32⟩
  | .hbm, ⟨88, _⟩ => ⟨S4096, .i32⟩
  | .hbm, ⟨89, _⟩ => ⟨S4096, .i32⟩
  | .hbm, ⟨90, _⟩ => ⟨S_, .i32⟩
  | .hbm, ⟨91, _⟩ => ⟨S4096, .i32⟩
  | .hbm, ⟨92, _⟩ => ⟨S4096, .i32⟩
  | .hbm, ⟨93, _⟩ => ⟨S4096, .f32⟩
  | .hbm, ⟨94, _⟩ => ⟨S1x4096x1, .f32⟩
  | .hbm, ⟨95, _⟩ => ⟨S1x4096x1x128, .f32⟩
  | .hbm, ⟨96, _⟩ => ⟨S1x4096x128, .f32⟩
  | .hbm, ⟨97, _⟩ => ⟨S1x4096x128, .f32⟩
  | .hbm, ⟨98, _⟩ => ⟨S1x4096x128, .f32⟩
  | .hbm, ⟨99, _⟩ => ⟨S1x4096x128, .f32⟩
  | .hbm, ⟨100, _⟩ => ⟨S1x4096x1x128, .f32⟩
  | .hbm, ⟨101, _⟩ => ⟨S1x4096x128, .f32⟩
  | .hbm, ⟨102, _⟩ => ⟨S1x4096x128, .f32⟩
  | .hbm, ⟨103, _⟩ => ⟨S1x4096x1x128, .f32⟩
  | .hbm, ⟨104, _⟩ => ⟨S1x4096x1x128, .f32⟩
  | .hbm, ⟨105, _⟩ => ⟨S1x4096x1x128, .f32⟩
  | .hbm, ⟨106, _⟩ => ⟨S1x4096x1x128, .f32⟩
  | .hbm, ⟨107, _⟩ => ⟨S1x4096x4x128, .f32⟩
  | .hbm, ⟨108, _⟩ => ⟨S4x128x128, .f32⟩
  | .hbm, ⟨109, _⟩ => ⟨S4x128x1x4096, .f32⟩
  | .hbm, ⟨110, _⟩ => ⟨S1x4096x4x128, .f32⟩
  | .hbm, ⟨111, _⟩ => ⟨S512, .f32⟩
  | .hbm, ⟨112, _⟩ => ⟨S4x128, .f32⟩
  | .hbm, ⟨113, _⟩ => ⟨S1x1x4x128, .f32⟩
  | .hbm, ⟨114, _⟩ => ⟨S1x4096x4x128, .f32⟩
  | .hbm, ⟨115, _⟩ => ⟨S1x4096x4x128, .f32⟩
  | .hbm, ⟨116, _⟩ => ⟨S1x4096x512, .f32⟩
  | .hbm, ⟨117, _⟩ => ⟨S1x4096x1024, .f32⟩
  | .hbm, ⟨118, _⟩ => ⟨S1024x1024, .f32⟩
  | .hbm, ⟨119, _⟩ => ⟨S1x4096x1024, .f32⟩
  | .hbm, ⟨120, _⟩ => ⟨S1x4096x1024, .f32⟩
  | .hbm, ⟨121, _⟩ => ⟨S4096x1024, .f32⟩
  | .hbm, ⟨122, _⟩ => ⟨S4096x1024, .f32⟩
  | .hbm, ⟨123, _⟩ => ⟨S4096x1024, .bf16⟩
  | .hbm, ⟨124, _⟩ => ⟨S4096x512, .f32⟩
  | .hbm, ⟨125, _⟩ => ⟨S4096x512, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_9 : Ref sig .tc := ⟨.hbm, 87, rfl⟩
abbrev main_v68 : Ref sig .tc := ⟨.hbm, 88, rfl⟩
abbrev main_v69 : Ref sig .tc := ⟨.hbm, 89, rfl⟩
abbrev main_c_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩

abbrev nD : Nat := 1
abbrev τ : Topo := Topo.v7x

variable {F : FTy → Type} [FloatOps F]
-- ==== Proof.Common.Reals.lean ====
/- Extended reals that are real numbers: how sums, quotients and inverse square roots of real numbers are read. -/
module

public import Idealize.ShloMosaic.PureOps.Ideal
public import Idealize.ShloMosaic.PureOps.Ideal.Laws
public import Idealize.ShloMosaic.Lib.Pointwise

@[expose] public section

noncomputable section

open Idealize.ShloMosaic

namespace Cert.Reals

/-- The extended real `x` is a real number. -/
def IsReal (x : EReal) : Prop := ∃ r : ℝ, x = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
      rw [Finset.sum_insert ha]
      exact (h a (Finset.mem_insert_self a s)).add (ih fun i hi => h i (Finset.mem_insert_of_mem hi))

/-- A family of real entries is the coercion of a real family. -/
theorem exists_real {ι : Type*} {f : ι → EReal} (h : ∀ i, IsReal (f i)) : ∃ g : ι → ℝ, ∀ i, f i = (g i : EReal) :=
  ⟨fun i => (h i).choose, fun i => (h i).choose_spec⟩

theorem div_coe_coe {a b : ℝ} (hb : b ≠ 0) : Ideal.div (a : EReal) (b : EReal) = ((a / b : ℝ) : EReal) := by
  rw [Ideal.div_coe hb, ← EReal.coe_mul, mul_one_div]

theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem one024 : Ideal.ofBits .f32 0x44800000#32 = ((1024 : ℝ) : EReal) := by
  simp [Ideal.ofBits, Ideal.ieee, -EReal.coe_mul]; norm_num
theorem neg_half : Ideal.ofBits .f32 0xBF000000#32 = ((-(1 / 2) : ℝ) : EReal) := by
  simp [Ideal.ofBits, Ideal.ieee, -EReal.coe_mul]; norm_num
theorem inv1024 : Ideal.ofBits .f32 0x3A800000#32 = ((1 / 1024 : ℝ) : EReal) := by
  simp [Ideal.ofBits, Ideal.ieee, -EReal.coe_mul]; norm_num
theorem inv2048 : Ideal.ofBits .f32 0x3A000000#32 = ((1 / 2048 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem eighth : Ideal.ofBits .f32 0x3E000000#32 = ((1 / 8 : ℝ) : EReal) := by
  simp [Ideal.ofBits, Ideal.ieee, -EReal.coe_mul]; norm_num
/-- The normalisation's small constant is a positive real number. -/
theorem eps_pos : ∃ e : ℝ, 0 < e ∧ Ideal.ofBits .f32 0x358637BD#32 = (e : EReal) := by
  refine ⟨2 ^ (-20 : ℤ) * (1 + 407485 / 8388608), by positivity, ?_⟩
  simp [Ideal.ofBits, Ideal.ieee, -EReal.coe_mul]; norm_num

end Cert.Reals
end
-- ==== Proof.Common.Rms.lean ====
/- The gradient of the root-mean-square normalisation of a row of 1024 real numbers: the compact form and the form the derivative is written in. -/
module

public import proofs.«01_k».proof.Proof.Common.Reals

@[expose] public section

noncomputable section

open Idealize.ShloMosaic

namespace Cert.Rms

open Cert.Reals

/-- The mean square of a row plus the small constant. -/
def var (x : Fin 1024 → EReal) : EReal :=
  Ideal.div (∑ k, x k * x k) (Ideal.ofBits .f32 0x44800000#32) + Ideal.ofBits .f32 0x358637BD#32
/-- The inverse root mean square of a row. -/
def inv (x : Fin 1024 → EReal) : EReal := Ideal.rsqrt (var x)

/-- The input's gradient in the compact form, `y` the gradient of the scaled row and `g` the scale. -/
def dx (x y g : Fin 1024 → EReal) (d : Fin 1024) : EReal :=
  inv x * (y d * g d - x d * inv x * Ideal.div (∑ k, y k * g k * (x k * inv x)) (Ideal.ofBits .f32 0x44800000#32))
/-- Half of the part of the gradient that passes through the row's mean square, before the factor `x d`. -/
def through (x y g : Fin 1024 → EReal) : EReal :=
  Ideal.div ((∑ k, x k * (y k * g k)) * (Ideal.ofBits .f32 0xBF000000#32 * Ideal.div (inv x) (var x)))
    (Ideal.ofBits .f32 0x44800000#32)

theorem var_real {x : Fin 1024 → EReal} (hx : ∀ k, IsReal (x k)) : ∃ v : ℝ, 0 < v ∧ var x = (v : EReal) := by
  obtain ⟨f, hf⟩ := exists_real hx
  obtain ⟨e, he, hee⟩ := eps_pos
  refine ⟨(∑ k, f k * f k) / 1024 + e, ?_, ?_⟩
  · have : 0 ≤ ∑ k, f k * f k := Finset.sum_nonneg fun k _ => mul_self_nonneg _
    positivity
  · unfold var
    simp only [hf, ← EReal.coe_mul, ← coe_sum, one024, hee]
    rw [div_coe_coe (by norm_num), ← EReal.coe_add]

theorem inv_real {x : Fin 1024 → EReal} (hx : ∀ k, IsReal (x k)) : IsReal (inv x) := by
  obtain ⟨v, hv, e⟩ := var_real hx
  exact ⟨_, by unfold inv; rw [e, rsqrt_coe_pos hv]⟩

theorem dx_real {x y g : Fin 1024 → EReal} (hx : ∀ k, IsReal (x k)) (hy : ∀ k, IsReal (y k)) (hg : ∀ k, IsReal (g k))
    (d : Fin 1024) : IsReal (dx x y g d) := by
  have hi := inv_real hx
  obtain ⟨r, hr⟩ := IsReal.sum Finset.univ (f := fun k => y k * g k * (x k * inv x)) fun k _ => ((hy k).mul (hg k)).mul ((hx k).mul hi)
  refine hi.mul (((hy d).mul (hg d)).sub (((hx d).mul hi).mul ⟨r / 1024, ?_⟩))
  rw [hr, one024, div_coe_coe (by norm_num)]

/-- On real rows the derivative's own form is the compact one, whatever is added in front. -/
theorem dx_eq {x y g : Fin 1024 → EReal} (hx : ∀ k, IsReal (x k)) (hy : ∀ k, IsReal (y k)) (hg : ∀ k, IsReal (g k))
    (h : EReal) (d : Fin 1024) :
    h + y d * g d * inv x + x d * through x y g + through x y g * x d = h + dx x y g d := by
  obtain ⟨v, hv, ev⟩ := var_real hx
  have ei : inv x = (((Real.sqrt v)⁻¹ : ℝ) : EReal) := by unfold inv; rw [ev, rsqrt_coe_pos hv]
  obtain ⟨a, ha⟩ := exists_real hx
  obtain ⟨b, hb⟩ := exists_real hy
  obtain ⟨c, hc⟩ := exists_real hg
  unfold dx through
  rw [ei, ev, one024, neg_half]
  simp only [ha, hb, hc, ← EReal.coe_mul, ← coe_sum]
  rw [div_coe_coe hv.ne', ← EReal.coe_mul, ← EReal.coe_mul, div_coe_coe (by norm_num), div_coe_coe (by norm_num)]
  simp only [← EReal.coe_mul, ← EReal.coe_sub]
  rw [add_assoc, add_assoc]
  refine congrArg (h + ·) ?_
  simp only [← EReal.coe_add]
  refine congrArg (fun r : ℝ => (r : EReal)) ?_
  have hs : ∑ k, b k * c k * (a k * (Real.sqrt v)⁻¹) = (Real.sqrt v)⁻¹ * ∑ k, a k * (b k * c k) := by
    rw [Finset.mul_sum]; exact Finset.sum_congr rfl fun k _ => by ring
  rw [hs]
  have hq : (Real.sqrt v)⁻¹ * (Real.sqrt v)⁻¹ = 1 / v := by
    rw [← mul_inv, Real.mul_self_sqrt hv.le, one_div]
  have hq' : (Real.sqrt v)⁻¹ / v = (Real.sqrt v)⁻¹ * ((Real.sqrt v)⁻¹ * (Real.sqrt v)⁻¹) := by rw [hq]; ring
  rw [hq']
  ring

end Cert.Rms
end
-- ==== Proof.InBwd.Spec.lean ====
/- The backward pass of the input projection and its normalisation, entry by entry. -/
module

public import proofs.«01_k».proof.Proof.Common.Rms

@[expose] public section

noncomputable section

open Idealize.ShloMosaic

namespace Cert.InBwdSpec

open Cert.Rms

variable (x : FVec Ideal ⟨3, ![1, 4096, 1024]⟩ .f32) (g : FVec Ideal ⟨2, ![1, 1024]⟩ .f32)
  (w : FVec Ideal ⟨3, ![1, 1024, 2048]⟩ .f32) (q k v u : FVec Ideal ⟨2, ![4096, 512]⟩ .f32)
  (h : FVec Ideal ⟨2, ![4096, 1024]⟩ .f32)

/-- The projection's cotangent: the four parts side by side, the first one scaled. -/
def dz (s : Fin 4096) (c : Fin 2048) : EReal :=
  if h0 : c.val < 512 then q (ix2 s ⟨c.val, h0⟩) * Ideal.ofBits .f32 0x3E000000#32
  else if h1 : c.val < 1024 then k (ix2 s ⟨c.val - 512, by omega⟩)
  else if h2 : c.val < 1536 then v (ix2 s ⟨c.val - 1024, by omega⟩)
  else u (ix2 s ⟨c.val - 1536, by omega⟩)

/-- The cotangent of the normalised row. -/
def dhn (s : Fin 4096) (d : Fin 1024) : EReal := ∑ c : Fin 2048, dz q k v u s c * w (ix3 0 d c)

/-- Row `s` of the input. -/
abbrev row (s : Fin 4096) : Fin 1024 → EReal := fun d => x (ix3 0 s d)

/-- The projection's cotangent in eight slabs of 256 columns. -/
def out0 (j : (⟨3, ![8, 4096, 256]⟩ : Shape).Idx) : EReal :=
  dz q k v u (j 1) ⟨(j 0).val * 256 + (j 2).val, by have := (j 0).isLt; have := (j 2).isLt; simp at *; omega⟩

/-- The input's gradient. -/
def out1 (j : (⟨2, ![4096, 1024]⟩ : Shape).Idx) : EReal :=
  h j + dx (row x (j 0)) (fun e => dhn w q k v u (j 0) e) (fun e => g (ix2 0 e)) (j 1)

/-- The scale's gradient. -/
def out2 (j : (⟨2, ![1, 1024]⟩ : Shape).Idx) : EReal :=
  ∑ s : Fin 4096, dhn w q k v u s (j 1) * (x (ix3 0 s (j 1)) * inv (row x s))

theorem dz_q (s : Fin 4096) (c : Fin 2048) (a : Fin 512) (e : c.val = a.val) :
    dz q k v u s c = q (ix2 s a) * Ideal.ofBits .f32 0x3E000000#32 := by
  unfold dz
  rw [dif_pos (by omega)]
  simp only [e]
theorem dz_k (s : Fin 4096) (c : Fin 2048) (a : Fin 512) (e : c.val = 512 + a.val) : dz q k v u s c = k (ix2 s a) := by
  unfold dz
  rw [dif_neg (by omega), dif_pos (by omega)]
  exact congrArg (fun b => k (ix2 s b)) (Fin.ext (by dsimp only; omega))
theorem dz_v (s : Fin 4096) (c : Fin 2048) (a : Fin 512) (e : c.val = 1024 + a.val) : dz q k v u s c = v (ix2 s a) := by
  unfold dz
  rw [dif_neg (by omega), dif_neg (by omega), dif_pos (by omega)]
  exact congrArg (fun b => v (ix2 s b)) (Fin.ext (by dsimp only; omega))
theorem dz_u (s : Fin 4096) (c : Fin 2048) (a : Fin 512) (e : c.val = 1536 + a.val) : dz q k v u s c = u (ix2 s a) := by
  unfold dz
  rw [dif_neg (by omega), dif_neg (by omega), dif_neg (by omega)]
  exact congrArg (fun b => u (ix2 s b)) (Fin.ext (by dsimp only; omega))

/-- The cotangent of the normalised row, summed in eight runs of 256 columns. -/
theorem dhn_tiles (s : Fin 4096) (d : Fin 1024) : dhn w q k v u s d
    = (∑ b : Fin 256, q (ix2 s ⟨b.val, by omega⟩) * Ideal.ofBits .f32 0x3E000000#32 * w (ix3 0 d ⟨0 * 256 + b.val, by omega⟩))
      + (∑ b : Fin 256, q (ix2 s ⟨256 + b.val, by omega⟩) * Ideal.ofBits .f32 0x3E000000#32 * w (ix3 0 d ⟨1 * 256 + b.val, by omega⟩))
      + (∑ b : Fin 256, k (ix2 s ⟨b.val, by omega⟩) * w (ix3 0 d ⟨2 * 256 + b.val, by omega⟩))
      + (∑ b : Fin 256, k (ix2 s ⟨256 + b.val, by omega⟩) * w (ix3 0 d ⟨3 * 256 + b.val, by omega⟩))
      + (∑ b : Fin 256, v (ix2 s ⟨b.val, by omega⟩) * w (ix3 0 d ⟨4 * 256 + b.val, by omega⟩))
      + (∑ b : Fin 256, v (ix2 s ⟨256 + b.val, by omega⟩) * w (ix3 0 d ⟨5 * 256 + b.val, by omega⟩))
      + (∑ b : Fin 256, u (ix2 s ⟨b.val, by omega⟩) * w (ix3 0 d ⟨6 * 256 + b.val, by omega⟩))
      + (∑ b : Fin 256, u (ix2 s ⟨256 + b.val, by omega⟩) * w (ix3 0 d ⟨7 * 256 + b.val, by omega⟩)) := by
  unfold dhn
  rw [show (∑ c : Fin 2048, dz q k v u s c * w (ix3 0 d c))
    = ∑ a : Fin 8, ∑ b : Fin 256, dz q k v u s ⟨a.val * 256 + b.val, by omega⟩ * w (ix3 0 d ⟨a.val * 256 + b.val, by omega⟩)
    from Fin.sum_univ_tiles 8 256 rfl (fun c => dz q k v u s c * w (ix3 0 d c)), Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact Finset.sum_congr rfl fun (b : Fin 256) _ => congrArg₂ (· * ·) (dz_q _ _ _ _ _ _ ⟨b.val, by omega⟩ (by first | rfl | (dsimp; omega)))
      (congrArg (fun e => w (ix3 0 d e)) (Fin.ext (by first | rfl | (dsimp; omega))))
  · exact Finset.sum_congr rfl fun (b : Fin 256) _ => congrArg₂ (· * ·) (dz_q _ _ _ _ _ _ ⟨256 + b.val, by omega⟩ (by first | rfl | (dsimp; omega)))
      (congrArg (fun e => w (ix3 0 d e)) (Fin.ext (by first | rfl | (dsimp; omega))))
  · exact Finset.sum_congr rfl fun (b : Fin 256) _ => congrArg₂ (· * ·) (dz_k _ _ _ _ _ _ ⟨b.val, by omega⟩ (by first | rfl | (dsimp; omega)))
      (congrArg (fun e => w (ix3 0 d e)) (Fin.ext (by first | rfl | (dsimp; omega))))
  · exact Finset.sum_congr rfl fun (b : Fin 256) _ => congrArg₂ (· * ·) (dz_k _ _ _ _ _ _ ⟨256 + b.val, by omega⟩ (by first | rfl | (dsimp; omega)))
      (congrArg (fun e => w (ix3 0 d e)) (Fin.ext (by first | rfl | (dsimp; omega))))
  · exact Finset.sum_congr rfl fun (b : Fin 256) _ => congrArg₂ (· * ·) (dz_v _ _ _ _ _ _ ⟨b.val, by omega⟩ (by first | rfl | (dsimp; omega)))
      (congrArg (fun e => w (ix3 0 d e)) (Fin.ext (by first | rfl | (dsimp; omega))))
  · exact Finset.sum_congr rfl fun (b : Fin 256) _ => congrArg₂ (· * ·) (dz_v _ _ _ _ _ _ ⟨256 + b.val, by omega⟩ (by first | rfl | (dsimp; omega)))
      (congrArg (fun e => w (ix3 0 d e)) (Fin.ext (by first | rfl | (dsimp; omega))))
  · exact Finset.sum_congr rfl fun (b : Fin 256) _ => congrArg₂ (· * ·) (dz_u _ _ _ _ _ _ ⟨b.val, by omega⟩ (by first | rfl | (dsimp; omega)))
      (congrArg (fun e => w (ix3 0 d e)) (Fin.ext (by first | rfl | (dsimp; omega))))
  · exact Finset.sum_congr rfl fun (b : Fin 256) _ => congrArg₂ (· * ·) (dz_u _ _ _ _ _ _ ⟨256 + b.val, by omega⟩ (by first | rfl | (dsimp; omega)))
      (congrArg (fun e => w (ix3 0 d e)) (Fin.ext (by first | rfl | (dsimp; omega))))

end Cert.InBwdSpec
end
-- ==== Proof.InBwd.Ker.lean ====
/- What the kernel's three outputs hold when it ends. -/
module

public import proofs.«01_k».proof.Proof.Gen.InBwdIdeal.Value
public import proofs.«01_k».proof.Proof.InBwd.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InBwdIdeal.Value

open Cert.InBwdIdeal Cert.InBwdIdeal.Gen

variable (m : (ℓ : Loc nD τ sig) → Buf (Elt Ideal) ℓ)

/-- Every window's block at every grid point. -/
theorem idx_val : ∀ t : Fin cfg0.N, win0_0.index t = ![t.val, 0]
    ∧ win0_1.index t = ![t.val, 0] ∧ win0_2.index t = ![t.val, 0] ∧ win0_3.index t = ![t.val, 0]
    ∧ win0_4.index t = ![0, 0, 0] ∧ win0_5.index t = ![t.val, 0] ∧ win0_6.index t = ![0, 0]
    ∧ win0_7.index t = ![t.val, 0] ∧ win0_8.index t = ![0, t.val, 0] ∧ win0_9.index t = ![t.val, 0]
    ∧ win0_10.index t = ![0, 0] :=
  (by decide +kernel : ∀ t : Fin grid0.N, _)

abbrev X (c : Dev nD) : FVec Ideal S1x4096x1024 .f32 := m ((c : Thread nD τ).loc main_arg0)
abbrev G (c : Dev nD) : FVec Ideal S1x1024 .f32 := m ((c : Thread nD τ).loc main_arg1)
abbrev W (c : Dev nD) : FVec Ideal S1x1024x2048 .f32 := m ((c : Thread nD τ).loc main_arg2)
abbrev Q (c : Dev nD) : FVec Ideal S4096x512 .f32 := m ((c : Thread nD τ).loc main_arg3)
abbrev K (c : Dev nD) : FVec Ideal S4096x512 .f32 := m ((c : Thread nD τ).loc main_arg4)
abbrev VV (c : Dev nD) : FVec Ideal S4096x512 .f32 := m ((c : Thread nD τ).loc main_arg5)
abbrev U (c : Dev nD) : FVec Ideal S4096x512 .f32 := m ((c : Thread nD τ).loc main_arg6)
abbrev H (c : Dev nD) : FVec Ideal S4096x1024 .f32 := m ((c : Thread nD τ).loc main_arg7)

theorem v3_at (c : Dev nD) (a : Fin 8) (b : Fin 1024) (d : Fin 256) :
    V m c main_v3 (ix3 a b d) = W m c (ix3 0 b ⟨a.val * 256 + d.val, by omega⟩) := by
  entry_read
  pointwise
  blk_ext

theorem v4_at (c : Dev nD) (s : Fin 4096) (d : Fin 1024) : V m c main_v4 (ix2 s d) = X m c (ix3 0 s d) := by
  entry_read
  pointwise

/-- The grid has eight points. -/
theorem point_lt (t : Fin cfg0.N) : t.val < 8 := lt_of_lt_of_le t.isLt (le_of_eq N_0)

theorem blk0 (c : Dev nD) (t : Fin cfg0.N) (r : Fin 512) (a : Fin 512) :
    iblk m c 0 t (ix2 r a) = Q m c (ix2 ⟨t.val * 512 + r.val, by have := point_lt t; omega⟩ a) := by
  blk_point [iblk, V, idx_val t]
theorem blk1 (c : Dev nD) (t : Fin cfg0.N) (r : Fin 512) (a : Fin 512) :
    iblk m c 1 t (ix2 r a) = K m c (ix2 ⟨t.val * 512 + r.val, by have := point_lt t; omega⟩ a) := by
  blk_point [iblk, V, idx_val t]
theorem blk2 (c : Dev nD) (t : Fin cfg0.N) (r : Fin 512) (a : Fin 512) :
    iblk m c 2 t (ix2 r a) = VV m c (ix2 ⟨t.val * 512 + r.val, by have := point_lt t; omega⟩ a) := by
  blk_point [iblk, V, idx_val t]
theorem blk3 (c : Dev nD) (t : Fin cfg0.N) (r : Fin 512) (a : Fin 512) :
    iblk m c 3 t (ix2 r a) = U m c (ix2 ⟨t.val * 512 + r.val, by have := point_lt t; omega⟩ a) := by
  blk_point [iblk, V, idx_val t]
theorem blk6 (c : Dev nD) (t : Fin cfg0.N) (a : Fin 1024) :
    iblk m c 6 t (ix2 0 a) = G m c (ix2 0 a) := by
  blk_point [iblk, V, idx_val t]
theorem blk7 (c : Dev nD) (t : Fin cfg0.N) (r : Fin 512) (a : Fin 1024) :
    iblk m c 7 t (ix2 r a) = H m c (ix2 ⟨t.val * 512 + r.val, by have := point_lt t; omega⟩ a) := by
  blk_point [iblk, V, idx_val t]
theorem blk4 (c : Dev nD) (t : Fin cfg0.N) (a : Fin 8) (b : Fin 1024) (d : Fin 256) :
    iblk m c 4 t (ix3 a b d) = W m c (ix3 0 b ⟨a.val * 256 + d.val, by omega⟩) := by
  refine Eq.trans ?_ (v3_at m c a b d)
  blk_simp [iblk, idx_val t]
  blk_ext [idx_val t]
theorem blk5 (c : Dev nD) (t : Fin cfg0.N) (r : Fin 512) (a : Fin 1024) :
    iblk m c 5 t (ix2 r a) = X m c (ix3 0 ⟨t.val * 512 + r.val, by have := point_lt t; omega⟩ a) := by
  refine Eq.trans ?_ (v4_at m c _ a)
  blk_simp [iblk, idx_val t]
  blk_ext [idx_val t]

/-- The first output's block at a grid point, in the array's coordinates. -/
theorem slab (t : Fin cfg0.N) (y : ((cfg0.win 8).xblock (cfg0.grid.coords t)).Idx) (a : Fin 8) (r : Fin 512) (b : Fin 256)
    (h0 : (y 0).val = a.val) (h1 : (y 1).val = r.val) (h2 : (y 2).val = b.val) :
    ((View.whole main_v5_0).slice (win0_8.rect t)).emb y
      = ix3 a ⟨t.val * 512 + r.val, by have := point_lt t; omega⟩ b := by
  blk_ext [idx_val t]

/-- The first output's entry in a block, read as an entry of the cotangent. -/
theorem slab_at (c : Dev nD) (t : Fin cfg0.N) (y : ((cfg0.win 8).xblock (cfg0.grid.coords t)).Idx) (a : Fin 8) (r : Fin 512) (b : Fin 256)
    (h0 : (y 0).val = a.val) (h1 : (y 1).val = r.val) (h2 : (y 2).val = b.val) {z : EReal}
    (e : Cert.InBwdSpec.dz (Q m c) (K m c) (VV m c) (U m c) ⟨t.val * 512 + r.val, by have := point_lt t; omega⟩ ⟨a.val * 256 + b.val, by omega⟩ = z) :
    Cert.InBwdSpec.out0 (Q m c) (K m c) (VV m c) (U m c) (((View.whole main_v5_0).slice (win0_8.rect t)).emb y) = z :=
  (congrArg _ (slab t y a r b h0 h1 h2)).trans e

theorem tile0 (c : Dev nD) (t : Fin cfg0.N) (r : Fin 512) (b : Fin 256) :
    k0_pay7 (View.ld (iblk m c 0 t) (Rect.unit ![0, 0] ![512, 256] inb_S512x512_S512x256_0_0)) (ix3 0 r b)
      = Q m c (ix2 ⟨t.val * 512 + r.val, by have := point_lt t; omega⟩ ⟨b.val, by omega⟩) * Ideal.ofBits .f32 0x3E000000#32 := by
  open_payloads
  pointwise
  blk_point [iblk, V, idx_val t]
theorem tile1 (c : Dev nD) (t : Fin cfg0.N) (r : Fin 512) (b : Fin 256) :
    k0_pay9 (View.ld (iblk m c 0 t) (Rect.unit ![0, 256] ![512, 256] inb_S512x512_S512x256_0_256)) (ix3 0 r b)
      = Q m c (ix2 ⟨t.val * 512 + r.val, by have := point_lt t; omega⟩ ⟨256 + b.val, by omega⟩) * Ideal.ofBits .f32 0x3E000000#32 := by
  open_payloads
  pointwise
  blk_point [iblk, V, idx_val t]
theorem tile2 (c : Dev nD) (t : Fin cfg0.N) (r : Fin 512) (b : Fin 256) :
    k0_pay12 (k0_pay11 (View.ld (iblk m c 1 t) (Rect.unit ![0, 0] ![512, 256] inb_S512x512_S512x256_0_0))) (ix3 0 r b)
      = K m c (ix2 ⟨t.val * 512 + r.val, by have := point_lt t; omega⟩ ⟨b.val, by omega⟩) := by
  open_payloads
  pointwise
  blk_point [iblk, V, idx_val t]
theorem tile3 (c : Dev nD) (t : Fin cfg0.N) (r : Fin 512) (b : Fin 256) :
    k0_pay14 (View.ld (iblk m c 1 t) (Rect.unit ![0, 256] ![512, 256] inb_S512x512_S512x256_0_256)) (ix3 0 r b)
      = K m c (ix2 ⟨t.val * 512 + r.val, by have := point_lt t; omega⟩ ⟨256 + b.val, by omega⟩) := by
  open_payloads
  pointwise
  blk_point [iblk, V, idx_val t]
theorem tile4 (c : Dev nD) (t : Fin cfg0.N) (r : Fin 512) (b : Fin 256) :
    k0_pay16 (View.ld (iblk m c 2 t) (Rect.unit ![0, 0] ![512, 256] inb_S512x512_S512x256_0_0)) (ix3 0 r b)
      = VV m c (ix2 ⟨t.val * 512 + r.val, by have := point_lt t; omega⟩ ⟨b.val, by omega⟩) := by
  open_payloads
  pointwise
  blk_point [iblk, V, idx_val t]
theorem tile5 (c : Dev nD) (t : Fin cfg0.N) (r : Fin 512) (b : Fin 256) :
    k0_pay19 (View.ld (iblk m c 2 t) (Rect.unit ![0, 256] ![512, 256] inb_S512x512_S512x256_0_256)) (ix3 0 r b)
      = VV m c (ix2 ⟨t.val * 512 + r.val, by have := point_lt t; omega⟩ ⟨256 + b.val, by omega⟩) := by
  open_payloads
  pointwise
  blk_point [iblk, V, idx_val t]
theorem tile6 (c : Dev nD) (t : Fin cfg0.N) (r : Fin 512) (b : Fin 256) :
    k0_pay21 (View.ld (iblk m c 3 t) (Rect.unit ![0, 0] ![512, 256] inb_S512x512_S512x256_0_0)) (ix3 0 r b)
      = U m c (ix2 ⟨t.val * 512 + r.val, by have := point_lt t; omega⟩ ⟨b.val, by omega⟩) := by
  open_payloads
  pointwise
  blk_point [iblk, V, idx_val t]
theorem tile7 (c : Dev nD) (t : Fin cfg0.N) (r : Fin 512) (b : Fin 256) :
    k0_pay23 (View.ld (iblk m c 3 t) (Rect.unit ![0, 256] ![512, 256] inb_S512x512_S512x256_0_256)) (ix3 0 r b)
      = U m c (ix2 ⟨t.val * 512 + r.val, by have := point_lt t; omega⟩ ⟨256 + b.val, by omega⟩) := by
  open_payloads
  pointwise
  blk_point [iblk, V, idx_val t]

theorem final_8 (c : Dev nD) : (dats m 0 c).arrAt 8 (cfgs 0).N = Cert.InBwdSpec.out0 (Q m c) (K m c) (VV m c) (U m c) := by
  refine (dats m 0 c).arrAt_eq_of_covers 8 _ (by decide +kernel) fun t hf y => ?_
  blk_simp; rw [after0_8]
  by_cases h : t.val % 8 = 0
  · rw [outsAt0_A m c t h]; dsimp only; frame_out
    canon_tiles y h
    · idx_vars y
      obtain rfl : y0 = 0 := Subsingleton.elim _ _
      exact (tile7 m c t y1 y2).trans (slab_at m c t _ 7 y1 y2 h0 h1 h2
        (Cert.InBwdSpec.dz_u _ _ _ _ _ _ ⟨256 + y2.val, by omega⟩ (by first | rfl | (dsimp; omega)))).symm
    · idx_vars y
      obtain rfl : y0 = 0 := Subsingleton.elim _ _
      exact (tile6 m c t y1 y2).trans (slab_at m c t _ 6 y1 y2 h0 h1 h2
        (Cert.InBwdSpec.dz_u _ _ _ _ _ _ ⟨y2.val, by omega⟩ (by first | rfl | (dsimp; omega)))).symm
    · idx_vars y
      obtain rfl : y0 = 0 := Subsingleton.elim _ _
      exact (tile5 m c t y1 y2).trans (slab_at m c t _ 5 y1 y2 h0 h1 h2
        (Cert.InBwdSpec.dz_v _ _ _ _ _ _ ⟨256 + y2.val, by omega⟩ (by first | rfl | (dsimp; omega)))).symm
    · idx_vars y
      obtain rfl : y0 = 0 := Subsingleton.elim _ _
      exact (tile4 m c t y1 y2).trans (slab_at m c t _ 4 y1 y2 h0 h1 h2
        (Cert.InBwdSpec.dz_v _ _ _ _ _ _ ⟨y2.val, by omega⟩ (by first | rfl | (dsimp; omega)))).symm
    · idx_vars y
      obtain rfl : y0 = 0 := Subsingleton.elim _ _
      exact (tile3 m c t y1 y2).trans (slab_at m c t _ 3 y1 y2 h0 h1 h2
        (Cert.InBwdSpec.dz_k _ _ _ _ _ _ ⟨256 + y2.val, by omega⟩ (by first | rfl | (dsimp; omega)))).symm
    · idx_vars y
      obtain rfl : y0 = 0 := Subsingleton.elim _ _
      exact (tile2 m c t y1 y2).trans (slab_at m c t _ 2 y1 y2 h0 h1 h2
        (Cert.InBwdSpec.dz_k _ _ _ _ _ _ ⟨y2.val, by omega⟩ (by first | rfl | (dsimp; omega)))).symm
    · idx_vars y
      obtain rfl : y0 = 0 := Subsingleton.elim _ _
      exact (tile1 m c t y1 y2).trans (slab_at m c t _ 1 y1 y2 h0 h1 h2
        (Cert.InBwdSpec.dz_q _ _ _ _ _ _ ⟨256 + y2.val, by omega⟩ (by first | rfl | (dsimp; omega)))).symm
    · idx_vars y
      obtain rfl : y0 = 0 := Subsingleton.elim _ _
      exact (tile0 m c t y1 y2).trans (slab_at m c t _ 0 y1 y2 h0 h1 h2
        (Cert.InBwdSpec.dz_q _ _ _ _ _ _ ⟨y2.val, by omega⟩ (by first | rfl | (dsimp; omega)))).symm
  · rw [outsAt0_B m c t h]; dsimp only; frame_out
    canon_tiles y h
    · idx_vars y
      obtain rfl : y0 = 0 := Subsingleton.elim _ _
      exact (tile7 m c t y1 y2).trans (slab_at m c t _ 7 y1 y2 h0 h1 h2
        (Cert.InBwdSpec.dz_u _ _ _ _ _ _ ⟨256 + y2.val, by omega⟩ (by first | rfl | (dsimp; omega)))).symm
    · idx_vars y
      obtain rfl : y0 = 0 := Subsingleton.elim _ _
      exact (tile6 m c t y1 y2).trans (slab_at m c t _ 6 y1 y2 h0 h1 h2
        (Cert.InBwdSpec.dz_u _ _ _ _ _ _ ⟨y2.val, by omega⟩ (by first | rfl | (dsimp; omega)))).symm
    · idx_vars y
      obtain rfl : y0 = 0 := Subsingleton.elim _ _
      exact (tile5 m c t y1 y2).trans (slab_at m c t _ 5 y1 y2 h0 h1 h2
        (Cert.InBwdSpec.dz_v _ _ _ _ _ _ ⟨256 + y2.val, by omega⟩ (by first | rfl | (dsimp; omega)))).symm
    · idx_vars y
      obtain rfl : y0 = 0 := Subsingleton.elim _ _
      exact (tile4 m c t y1 y2).trans (slab_at m c t _ 4 y1 y2 h0 h1 h2
        (Cert.InBwdSpec.dz_v _ _ _ _ _ _ ⟨y2.val, by omega⟩ (by first | rfl | (dsimp; omega)))).symm
    · idx_vars y
      obtain rfl : y0 = 0 := Subsingleton.elim _ _
      exact (tile3 m c t y1 y2).trans (slab_at m c t _ 3 y1 y2 h0 h1 h2
        (Cert.InBwdSpec.dz_k _ _ _ _ _ _ ⟨256 + y2.val, by omega⟩ (by first | rfl | (dsimp; omega)))).symm
    · idx_vars y
      obtain rfl : y0 = 0 := Subsingleton.elim _ _
      exact (tile2 m c t y1 y2).trans (slab_at m c t _ 2 y1 y2 h0 h1 h2
        (Cert.InBwdSpec.dz_k _ _ _ _ _ _ ⟨y2.val, by omega⟩ (by first | rfl | (dsimp; omega)))).symm
    · idx_vars y
      obtain rfl : y0 = 0 := Subsingleton.elim _ _
      exact (tile1 m c t y1 y2).trans (slab_at m c t _ 1 y1 y2 h0 h1 h2
        (Cert.InBwdSpec.dz_q _ _ _ _ _ _ ⟨256 + y2.val, by omega⟩ (by first | rfl | (dsimp; omega)))).symm
    · idx_vars y
      obtain rfl : y0 = 0 := Subsingleton.elim _ _
      exact (tile0 m c t y1 y2).trans (slab_at m c t _ 0 y1 y2 h0 h1 h2
        (Cert.InBwdSpec.dz_q _ _ _ _ _ _ ⟨y2.val, by omega⟩ (by first | rfl | (dsimp; omega)))).symm

/-- The cotangent of the normalised rows as the kernel sums it at a grid point. -/
abbrev acc (c : Dev nD) (t : Fin cfg0.N) : FVec Ideal S512x1024 .f32 := k0_pay24
    (k0_pay17
      (k0_pay10 (View.ld (iblk m c 0 t) (Rect.unit ![0, 0] ![512, 256] inb_S512x512_S512x256_0_0)) (View.ld (iblk m c 4 t) (Rect.unit ![0, 0, 0] ![1, 1024, 256] inb_S8x1024x256_S1x1024x256_0_0_0)) (View.ld (iblk m c 0 t) (Rect.unit ![0, 256] ![512, 256] inb_S512x512_S512x256_0_256)) (View.ld (iblk m c 4 t) (Rect.unit ![1, 0, 0] ![1, 1024, 256] inb_S8x1024x256_S1x1024x256_1_0_0)))
      (k0_pay11 (View.ld (iblk m c 1 t) (Rect.unit ![0, 0] ![512, 256] inb_S512x512_S512x256_0_0))) (View.ld (iblk m c 4 t) (Rect.unit ![2, 0, 0] ![1, 1024, 256] inb_S8x1024x256_S1x1024x256_2_0_0))
      (View.ld (iblk m c 1 t) (Rect.unit ![0, 256] ![512, 256] inb_S512x512_S512x256_0_256)) (View.ld (iblk m c 4 t) (Rect.unit ![3, 0, 0] ![1, 1024, 256] inb_S8x1024x256_S1x1024x256_3_0_0)) (View.ld (iblk m c 2 t) (Rect.unit ![0, 0] ![512, 256] inb_S512x512_S512x256_0_0)) (View.ld (iblk m c 4 t) (Rect.unit ![4, 0, 0] ![1, 1024, 256] inb_S8x1024x256_S1x1024x256_4_0_0)))
    (k0_pay18 (View.ld (iblk m c 2 t) (Rect.unit ![0, 256] ![512, 256] inb_S512x512_S512x256_0_256))) (View.ld (iblk m c 4 t) (Rect.unit ![5, 0, 0] ![1, 1024, 256] inb_S8x1024x256_S1x1024x256_5_0_0))
    (View.ld (iblk m c 3 t) (Rect.unit ![0, 0] ![512, 256] inb_S512x512_S512x256_0_0)) (View.ld (iblk m c 4 t) (Rect.unit ![6, 0, 0] ![1, 1024, 256] inb_S8x1024x256_S1x1024x256_6_0_0)) (View.ld (iblk m c 3 t) (Rect.unit ![0, 256] ![512, 256] inb_S512x512_S512x256_0_256)) (View.ld (iblk m c 4 t) (Rect.unit ![7, 0, 0] ![1, 1024, 256] inb_S8x1024x256_S1x1024x256_7_0_0))

theorem acc_at (c : Dev nD) (t : Fin cfg0.N) (r : Fin 512) (d : Fin 1024) : acc m c t (ix2 r d)
    = Cert.InBwdSpec.dhn (W m c) (Q m c) (K m c) (VV m c) (U m c) ⟨t.val * 512 + r.val, by have := point_lt t; omega⟩ d := by
  rw [Cert.InBwdSpec.dhn_tiles]
  pointwise [k0_pay24, k0_pay18, k0_pay17, k0_pay11, k0_pay10, k0_pay6, k0_pay8, k0_pay13, k0_pay15, k0_pay20, k0_pay22]
  simp only [blk0, blk1, blk2, blk3, blk4]
  rfl

/-- The input gradient's tile, on the rows a grid point holds. -/
theorem pay4_at (a x h : FVec Ideal S512x1024 .f32) (g : FVec Ideal S1x1024 .f32) (r : Fin 512) (d : Fin 1024) :
    k0_pay4 a g (k0_pay25 x) (k0_pay26 x) k0_pay27 h (ix2 r d)
      = h (ix2 r d) + Cert.Rms.dx (fun e => x (ix2 r e)) (fun e => a (ix2 r e)) (fun e => g (ix2 0 e)) d := by
  pointwise [k0_pay4, k0_pay25, k0_pay26, k0_pay27, k0_pay1, k0_pay2, Cert.Rms.dx, Cert.Rms.inv, Cert.Rms.var]

/-- The scale gradient's part from the rows a grid point holds. -/
theorem pay3_at (a x : FVec Ideal S512x1024 .f32) (z : Fin 1) (d : Fin 1024) :
    k0_pay3 a (k0_pay25 x) (k0_pay26 x) k0_pay27 (fun _ => 0) (ix2 z d)
      = ∑ r : Fin 512, a (ix2 r d) * (x (ix2 r d) * Cert.Rms.inv (fun e => x (ix2 r e))) := by
  pointwise [k0_pay3, k0_pay25, k0_pay26, k0_pay27, k0_pay1, k0_pay2, Cert.Rms.inv, Cert.Rms.var]

theorem row_at (t : Fin cfg0.N) (r : Fin 512) (d : Fin 1024) :
    ((View.whole main_v5_1).slice (win0_9.rect t)).emb (ix2 r d)
      = ix2 ⟨t.val * 512 + r.val, by have := point_lt t; omega⟩ d := by
  blk_ext [idx_val t]

theorem tile_9 (c : Dev nD) (t : Fin cfg0.N) (y : ((cfg0.win 9).xblock (cfg0.grid.coords t)).Idx) :
    k0_pay4 (acc m c t) (iblk m c 6 t) (k0_pay25 (iblk m c 5 t)) (k0_pay26 (iblk m c 5 t)) k0_pay27 (iblk m c 7 t) y
      = Cert.InBwdSpec.out1 (X m c) (G m c) (W m c) (Q m c) (K m c) (VV m c) (U m c) (H m c)
          (((View.whole main_v5_1).slice (win0_9.rect t)).emb y) := by
  idx_vars y
  refine Eq.trans ?_ (congrArg _ (row_at t y0 y1)).symm
  refine (pay4_at _ _ _ _ y0 y1).trans ?_
  simp only [acc_at, blk5, blk6, blk7]
  rfl

theorem final_9 (c : Dev nD) : (dats m 0 c).arrAt 9 (cfgs 0).N =
    Cert.InBwdSpec.out1 (X m c) (G m c) (W m c) (Q m c) (K m c) (VV m c) (U m c) (H m c) := by
  refine (dats m 0 c).arrAt_eq_of_covers 9 _ (by decide +kernel) fun t hf y => ?_
  blk_simp; rw [after0_9]
  by_cases h : t.val % 8 = 0
  · rw [outsAt0_A m c t h]; dsimp only; frame_out
    exact tile_9 m c t y
  · rw [outsAt0_B m c t h]; dsimp only; frame_out
    exact tile_9 m c t y

/-- The accumulating store starts from zero. -/
theorem hzero_10 (j : S1x1024.Idx) : k0_pay5 (F := Ideal) j = 0 := by
  pointwise! [k0_pay5]

/-- The accumulating store adds its part to what the buffer held. -/
theorem hpay_10 (v79 : FVec Ideal S512x1024 .f32) (v82 : FVec Ideal S512x1024 .f32) (v85 : FVec Ideal S512x1 .f32) (v86 : FVec Ideal S512x1 .f32)
    (v93 : Vec Ideal S1x1024 .f32) (j : S1x1024.Idx) :
    k0_pay3 v79 v82 v85 v86 v93 j = v93 j + k0_pay3 v79 v82 v85 v86 (fun _ => 0) j := by
  pointwise [k0_pay3]

theorem final_10 (c : Dev nD) : (dats m 0 c).arrAt 10 (cfgs 0).N =
    Cert.InBwdSpec.out2 (X m c) (W m c) (Q m c) (K m c) (VV m c) (U m c) := by
  refine (dats m 0 c).arrAt_eq_of_after_last 10 t0_7 (by decide +kernel) _ fun j => ?_
  blk_simp
  rw [after0_10, Pipeline.eq_sum_fin_of_reset_step_apply_last (fun n h => (outsAt0 m c n h).2.2) 8 (fun _ => 0) _
    (fun t h j => by rw [outsAt0_A m c t h]; frame_out; rw [hpay_10, hzero_10])
    (fun t h j => by rw [outsAt0_B m c t h]; frame_out; rw [hpay_10])
    (le_of_eq N_0) t0_7 rfl j, zero_add]
  idx_vars j
  refine Eq.trans ?_ (Fin.sum_univ_tiles 8 512 rfl (fun s => Cert.InBwdSpec.dhn (W m c) (Q m c) (K m c) (VV m c) (U m c) s j1
    * (X m c (ix3 0 s j1) * Cert.Rms.inv (Cert.InBwdSpec.row (X m c) s)))).symm
  refine Fin.sum_fin_congr fun t => ?_
  refine (pay3_at (acc m c t) (iblk m c 5 t) j0 j1).trans ?_
  simp only [acc_at, blk5]

end Cert.InBwdIdeal.Value

end
-- ==== Proof.Common.HostSums.lean ====
/- A host sum over two axes of which one or both have a single entry. -/
module

public import proofs.«01_k».proof.Proof.Common.Reals

@[expose] public section

noncomputable section

open Idealize.ShloMosaic

namespace Cert.HostSums

/-- A column of `n` entries, summed over its two unit axes. -/
theorem column {n : Nat} (h : (⟨3, ![1, n, 1]⟩ : Shape).ReducesTo [0, 2] ⟨1, ![n]⟩)
    (x : (⟨3, ![1, n, 1]⟩ : Shape).Idx → EReal) (init : EReal) (s : Fin n) :
    Ideal.hostReduceAdd h x init (ix1 s) = init + x (ix3 0 s 0) := by
  refine congrArg (init + ·) ?_
  refine Finset.sum_eq_single_of_mem (ix3 0 s 0) ?_ ?_
  · refine Finset.mem_filter.mpr ⟨Finset.mem_univ _, ?_⟩
    funext b
    match b with
    | ⟨0, _⟩ => rfl
  · intro i hi hn
    refine absurd ?_ hn
    have e := congrArg Fin.val (congrFun (Finset.mem_filter.mp hi).2 0)
    funext a; apply Fin.ext
    match a with
    | ⟨0, _⟩ => have := (i 0).isLt; simp at this; simpa using this
    | ⟨1, _⟩ => exact e
    | ⟨2, _⟩ => have := (i 2).isLt; simp at this; simpa using this

/-- A row of `n` entries, summed over its two unit axes. -/
theorem row {n : Nat} (h : (⟨3, ![1, 1, n]⟩ : Shape).ReducesTo [0, 1] ⟨1, ![n]⟩)
    (x : (⟨3, ![1, 1, n]⟩ : Shape).Idx → EReal) (init : EReal) (d : Fin n) :
    Ideal.hostReduceAdd h x init (ix1 d) = init + x (ix3 0 0 d) := by
  refine congrArg (init + ·) ?_
  refine Finset.sum_eq_single_of_mem (ix3 0 0 d) ?_ ?_
  · refine Finset.mem_filter.mpr ⟨Finset.mem_univ _, ?_⟩
    funext b
    match b with
    | ⟨0, _⟩ => rfl
  · intro i hi hn
    refine absurd ?_ hn
    have e := congrArg Fin.val (congrFun (Finset.mem_filter.mp hi).2 0)
    funext a; apply Fin.ext
    match a with
    | ⟨0, _⟩ => have := (i 0).isLt; simp at this; simpa using this
    | ⟨1, _⟩ => have := (i 1).isLt; simp at this; simpa using this
    | ⟨2, _⟩ => exact e

end Cert.HostSums
end
-- ==== Proof.InBwd.Ref.lean ====
/- The derivative of the reference's lines, entry by entry: it is the specification where the arrays' entries are real numbers. -/
module

public import proofs.«01_k».proof.Proof.Gen.InBwdRefIdeal.Read
public import proofs.«01_k».proof.Proof.Common.HostSums
public import proofs.«01_k».proof.Proof.InBwd.Spec
public import Idealize.ShloMosaic.Lib.Pointwise

@[expose] public section

set_option maxRecDepth 16384

noncomputable section

open Idealize.ShloMosaic Idealize.ShloMosaic.TcCoe Idealize.SL.Sem

namespace Cert.InBwdRefIdeal.Read
open Cert.InBwdRefIdeal Cert.InBwdRefIdeal.Gen

variable (x0 : FVec Ideal S1x4096x1024 .f32) (x1 : FVec Ideal S1x1024 .f32) (x2 : FVec Ideal S1x1024x2048 .f32)
  (x3 x4 x5 x6 : FVec Ideal S4096x512 .f32) (x7 : FVec Ideal S4096x1024 .f32)

/-- The cotangent of the projection, as the derivative adds its four parts up. -/
theorem v19_at (s : Fin 4096) (c : Fin 2048) :
    val_main_v19 (F := Ideal) x3 x4 x5 x6 (ix3 0 s c) = Cert.InBwdSpec.dz x3 x4 x5 x6 s c := by
  pointwise [val_main_v19, val_main_v18, val_main_v17, val_main_v16, val_main_v15, val_main_v14, val_main_v13, val_main_v12,
    val_main_v11, val_main_v10, val_main_v9, val_main_v8, val_main_v7, val_main_cst_5, val_main_cst_4, val_main_cst_3,
    val_main_cst_2, val_main_cst_1]
  by_cases h0 : c.val < 512
  · rw [Cert.InBwdSpec.dz_q _ _ _ _ _ _ ⟨c.val, h0⟩ rfl]
    simp [h0, show ¬ 512 ≤ c.val by omega, show ¬ 1024 ≤ c.val by omega, show ¬ 1536 ≤ c.val by omega]
  by_cases h1 : c.val < 1024
  · rw [Cert.InBwdSpec.dz_k _ _ _ _ _ _ ⟨c.val - 512, by omega⟩ (by dsimp; omega)]
    simp [h0, show 512 ≤ c.val by omega, show c.val - 512 < 512 by omega, show ¬ 1024 ≤ c.val by omega, show ¬ 1536 ≤ c.val by omega]
  by_cases h2 : c.val < 1536
  · rw [Cert.InBwdSpec.dz_v _ _ _ _ _ _ ⟨c.val - 1024, by omega⟩ (by dsimp; omega)]
    simp [h0, show ¬ c.val - 512 < 512 by omega, show 1024 ≤ c.val by omega, show c.val - 1024 < 512 by omega, show ¬ 1536 ≤ c.val by omega]
  · rw [Cert.InBwdSpec.dz_u _ _ _ _ _ _ ⟨c.val - 1536, by omega⟩ (by dsimp; omega)]
    simp [h0, show ¬ c.val - 512 < 512 by omega, show ¬ c.val - 1024 < 512 by omega, show 1536 ≤ c.val by omega, show c.val - 1536 < 512 by omega]

theorem v40_at (s : Fin 4096) (d : Fin 1024) :
    val_main_v40 (F := Ideal) x2 x3 x4 x5 x6 (ix3 0 s d) = Cert.InBwdSpec.dhn x2 x3 x4 x5 x6 s d := by
  pointwise [val_main_v40, val_main_v37]
  exact Finset.sum_congr rfl fun c _ => congrArg (· * x2 (ix3 0 d c)) (v19_at x3 x4 x5 x6 s c)

theorem v28_at (s : Fin 4096) : val_main_v28 (F := Ideal) x0 (ix3 0 s 0) = Cert.Rms.inv (Cert.InBwdSpec.row x0 s) := by
  pointwise [val_main_v28, val_main_v27, val_main_v26, val_main_v25, val_main_v24, val_main_v23, val_main_v22, val_main_v21,
    val_main_cst_6, val_main_cst_7, val_main_cst_8, Cert.Rms.inv, Cert.Rms.var]

theorem v29_at (s : Fin 4096) : val_main_v29 (F := Ideal) x0 (ix3 0 s 0)
    = Ideal.div (Cert.Rms.inv (Cert.InBwdSpec.row x0 s)) (Cert.Rms.var (Cert.InBwdSpec.row x0 s)) := by
  pointwise [val_main_v29, val_main_v28, val_main_v27, val_main_v26, val_main_v25, val_main_v24, val_main_v23, val_main_v22, val_main_v21,
    val_main_cst_6, val_main_cst_7, val_main_cst_8, Cert.Rms.inv, Cert.Rms.var]

theorem v45_at (s : Fin 4096) (d : Fin 1024) : val_main_v45 (F := Ideal) x1 x2 x3 x4 x5 x6 (ix3 0 s d)
    = Cert.InBwdSpec.dhn x2 x3 x4 x5 x6 s d * x1 (ix2 0 d) := by
  pointwise [val_main_v45, val_main_v44, val_main_v34, val_main_v20]
  rw [v40_at]

theorem v56_at (s : Fin 4096) : val_main_v56 (F := Ideal) x0 x1 x2 x3 x4 x5 x6 (ix1 s)
    = Cert.Rms.through (Cert.InBwdSpec.row x0 s) (fun d => Cert.InBwdSpec.dhn x2 x3 x4 x5 x6 s d) (fun d => x1 (ix2 0 d)) := by
  pointwise [val_main_v56, val_main_v55, val_main_v54, val_main_v53, val_main_cst_13, val_main_cst_14, val_main_v49, val_main_v48, val_main_v47, val_main_v31,
    val_main_v30, val_main_cst_9, val_main_cst_12]
  rw [Cert.HostSums.column]
  pointwise
  simp only [v45_at, v29_at]
  rfl

theorem out2 : val_main_v63 (F := Ideal) x0 x2 x3 x4 x5 x6 = Cert.InBwdSpec.out2 x0 x2 x3 x4 x5 x6 := by
  funext j
  idx_vars j
  pointwise [val_main_v63, val_main_v46, val_main_v43, val_main_v42, val_main_v41, val_main_cst_11, val_main_cst_10]
  rw [Cert.HostSums.row]
  pointwise [val_main_v33, val_main_v32]
  simp only [v40_at, v28_at]
  exact Finset.sum_congr rfl fun s _ => mul_comm _ _

theorem out0 : val_main_v67 (F := Ideal) x3 x4 x5 x6 = Cert.InBwdSpec.out0 x3 x4 x5 x6 := by
  funext j
  idx_vars j
  pointwise [val_main_v67, val_main_v66, val_main_v65, val_main_v64]
  exact v19_at x3 x4 x5 x6 _ _

open Cert.Reals in
theorem out1 (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) :
    val_main_v68 (F := Ideal) x0 x1 x2 x3 x4 x5 x6 x7 = Cert.InBwdSpec.out1 x0 x1 x2 x3 x4 x5 x6 x7 := by
  funext j
  idx_vars j
  pointwise [val_main_v68, val_main_v62, val_main_v60, val_main_v52, val_main_v39, val_main_v61,val_main_v59, val_main_v58, val_main_v57, val_main_v51, val_main_v50]
  rw [v45_at, v28_at, v56_at]
  have hz : ∀ s c, IsReal (Cert.InBwdSpec.dz x3 x4 x5 x6 s c) := fun s c => by
    unfold Cert.InBwdSpec.dz
    split_ifs
    · exact (h3 _).mul ⟨1 / 8, eighth⟩
    · exact h4 _
    · exact h5 _
    · exact h6 _
  exact Cert.Rms.dx_eq (x := Cert.InBwdSpec.row x0 j0) (fun k => h0 _)
    (y := fun e => Cert.InBwdSpec.dhn x2 x3 x4 x5 x6 j0 e) (fun k => IsReal.sum _ fun c _ => (hz _ _).mul (h2 _))
    (g := fun e => x1 (ix2 0 e)) (fun k => h1 _) (x7 (ix2 j0 j1)) j1

end Cert.InBwdRefIdeal.Read
end
-- ==== Proof.Common.Finite.lean ====
/- What "every entry of an array is below infinity in absolute value" says of the array's entries. -/
module

public import proofs.«01_k».proof.Proof.Common.Reals
public import Idealize.ShloMosaic.Lib.ReduceAll

@[expose] public section

noncomputable section

open Idealize.ShloMosaic

namespace Cert.Reals

theorem infinity : Ideal.ofBits .f32 0x7F800000#32 = ⊤ := by
  simp [Ideal.ofBits, Ideal.ieee]

/-- A value whose absolute value is below infinity is a real number. -/
theorem isReal_of_abs_lt {x : EReal} (h : max x (-x) < ⊤) : IsReal x := by
  induction x using EReal.rec with
  | bot => simp at h
  | top => simp at h
  | coe r => exact ⟨r, rfl⟩

/-- If a comparison says that every entry of an array is below infinity in absolute value, every entry is a real number. -/
theorem isReal_of_all {s t u : Shape} {axes : List (Fin s.rank)} [Subsingleton t.Idx] {x : FVec Ideal s .f32} {init : u.Idx → BitVec 1}
    {h : s.ReducesTo axes t} {hu : 0 < u.numel} {z : Shape} {dims : Fin z.rank → Fin s.rank} {hb : z.BroadcastsInDim s dims} {j : t.Idx}
    (e : Host.reduce IntOp.andi (cmpf .olt (Host.absf x) (broadcastInDim s dims hb (constant z .f32 0x7F800000#32))) init h hu j = 1#1)
    (i : s.Idx) : IsReal (x i) := by
  have e := Host.reduce_andi_all _ _ _ _ _ e i
  have e' : Ideal.cmp .olt (max (x i : EReal) (-(x i : EReal))) (Ideal.ofBits .f32 0x7F800000#32) = 1#1 := e
  rw [infinity] at e'
  refine isReal_of_abs_lt ?_
  by_contra hn
  unfold Ideal.cmp at e'
  simp [hn] at e'

/-- A conjunction of two flags is set when both are. -/
theorem and_set {s : Shape} {a b : IVec s 1} {j : s.Idx} (h : andi a b j = 1#1) : a j = 1#1 ∧ b j = 1#1 := by
  have h' : IntOp.andi (a j) (b j) = 1#1 := h
  revert h'
  generalize a j = p
  generalize b j = q
  revert p q
  decide

end Cert.Reals
end
-- ==== Proof.InBwd.Pre.lean ====
/- The precondition of the input projection's backward pass: which arrays have real entries. -/
module

public import proofs.«01_k».proof.Pre_finite
public import proofs.«01_k».proof.Proof.Common.Finite

@[expose] public section

noncomputable section

open Idealize.ShloMosaic

namespace Cert.Pre_finite

open Cert.Reals

variable [Facts] {x0 : FVec Ideal S1x4096x1024 .f32} {x1 : FVec Ideal S1x1024 .f32} {x2 : FVec Ideal S1x1024x2048 .f32}
  {x3 x4 x5 x6 : FVec Ideal S4096x512 .f32} {x7 : FVec Ideal S4096x1024 .f32}

theorem reals (h : fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) ∧ (∀ i, IsReal (x6 i)) := by
  have h := congrFun h ix0
  unfold fn fn_part1 at h
  obtain ⟨h, h6⟩ := and_set h
  obtain ⟨h, h5⟩ := and_set h
  obtain ⟨h, h4⟩ := and_set h
  obtain ⟨h, h3⟩ := and_set h
  obtain ⟨h, h2⟩ := and_set h
  obtain ⟨h0, h1⟩ := and_set h
  exact ⟨isReal_of_all h0, isReal_of_all h1, isReal_of_all h2, isReal_of_all h3, isReal_of_all h4, isReal_of_all h5, isReal_of_all h6⟩

end Cert.Pre_finite
end
-- ==== Proof.InBwd.Claim.lean ====
/- The input projection's backward pass: the kernel's arrays are the reference's. -/
module

public import proofs.«01_k».proof.Defs
public import proofs.«01_k».proof.Proof.Gen.InBwdRefIdeal.Run
public import proofs.«01_k».proof.Proof.InBwd.Ker
public import proofs.«01_k».proof.Proof.InBwd.Ref
public import proofs.«01_k».proof.Proof.InBwd.Pre
public import Idealize.ShloMosaic.Lib.Claim

@[expose] public section

noncomputable section

open Idealize.ShloMosaic Idealize.SL.Sem

namespace Cert.InBwdClaim

/-- The reference runs and leaves its arguments; it declares no semaphore. -/
theorem frame_ref [hR : Cert.InBwdRefIdeal.Facts] : Cert.quiescent_InBwdRefIdeal := fun m ρ _ =>
  (θ_run Cert.InBwdRefIdeal.defs _ _).mono (fun r h => ⟨fun c => (h c).2.2.2, sem_eq_zero_of_no_sems (by decide) r.2⟩)
    (Cert.InBwdRefIdeal.Value.run m ρ)

theorem algebraic [hK : Cert.InBwdIdeal.Facts] [hR : Cert.InBwdRefIdeal.Facts] [hP : Cert.Pre_finite.Facts] :
    Cert.algebraic_InBwdIdeal_InBwdRefIdeal_pre_finite := by
  intro m g m' g' hpre hagree
  refine ⟨fun c => Cert.InBwdSpec.out0 (Cert.InBwdIdeal.Value.Q m c) (Cert.InBwdIdeal.Value.K m c) (Cert.InBwdIdeal.Value.VV m c) (Cert.InBwdIdeal.Value.U m c),
    fun c => Cert.InBwdSpec.out1 (Cert.InBwdIdeal.Value.X m c) (Cert.InBwdIdeal.Value.G m c) (Cert.InBwdIdeal.Value.W m c) (Cert.InBwdIdeal.Value.Q m c)
      (Cert.InBwdIdeal.Value.K m c) (Cert.InBwdIdeal.Value.VV m c) (Cert.InBwdIdeal.Value.U m c) (Cert.InBwdIdeal.Value.H m c),
    fun c => Cert.InBwdSpec.out2 (Cert.InBwdIdeal.Value.X m c) (Cert.InBwdIdeal.Value.W m c) (Cert.InBwdIdeal.Value.Q m c)
      (Cert.InBwdIdeal.Value.K m c) (Cert.InBwdIdeal.Value.VV m c) (Cert.InBwdIdeal.Value.U m c), ?_, ?_⟩
  · refine (θ_run Cert.InBwdIdeal.defs _ _).mono (fun r h c => ?_) (Cert.InBwdIdeal.Value.run_blocks m g)
    obtain ⟨h8, h9, h10, hargs⟩ := h c
    exact ⟨h8.trans (Cert.InBwdIdeal.Value.final_8 m c), h9.trans (Cert.InBwdIdeal.Value.final_9 m c),
      h10.trans (Cert.InBwdIdeal.Value.final_10 m c), hargs⟩
  · refine (θ_run Cert.InBwdRefIdeal.defs _ _).mono (fun r h c => ?_) (Cert.InBwdRefIdeal.Value.run m' g')
    obtain ⟨e0, e1, e2, e3, e4, e5, e6, e7⟩ := hagree c
    obtain ⟨r0, r1, r2, r3, r4, r5, r6⟩ := Cert.Pre_finite.reals (hpre c)
    obtain ⟨h0, h1, h2, hargs⟩ := h c
    refine ⟨h0.trans ?_, h1.trans ?_, h2.trans ?_, hargs⟩
    · rw [e3, e4, e5, e6]
      exact (Cert.InBwdRefIdeal.Read.val_main_v67_eq _ _ _ _).trans (Cert.InBwdRefIdeal.Read.out0 _ _ _ _)
    · refine (Cert.InBwdRefIdeal.Read.val_main_v68_eq m' c).trans ?_
      rw [e0, e1, e2, e3, e4, e5, e6, e7]
      exact Cert.InBwdRefIdeal.Read.out1 _ _ _ _ _ _ _ _ r0 r1 r2 r3 r4 r5 r6
    · rw [e0, e2, e3, e4, e5, e6]
      exact (Cert.InBwdRefIdeal.Read.val_main_v63_eq _ _ _ _ _ _).trans (Cert.InBwdRefIdeal.Read.out2 _ _ _ _ _ _)

end Cert.InBwdClaim
end
-- ==== Proof.Head.Spec.lean ====
/- The loss and its backward pass through the last normalisation and the gate, entry by entry. -/
module

public import proofs.«01_k».proof.Proof.Common.Rms

@[expose] public section

noncomputable section

open Idealize.ShloMosaic

namespace Cert.HeadSpec

open Cert.Rms

variable (x : FVec Ideal ⟨3, ![1, 4096, 1024]⟩ .f32) (p : FVec Ideal ⟨4, ![1, 1, 4096, 256]⟩ .f32)
  (g : FVec Ideal ⟨2, ![1, 1024]⟩ .f32) (w : FVec Ideal ⟨3, ![1, 1024, 1024]⟩ .f32)
  (e : FVec Ideal ⟨3, ![1, 256, 1024]⟩ .f32) (k : FVec Ideal ⟨1, ![1024]⟩ .f32)
  (z : FVec Ideal ⟨3, ![1, 4096, 1024]⟩ .f32)

/-- Row `s` of the input. -/
abbrev row (s : Fin 4096) : Fin 1024 → EReal := fun d => x (ix3 0 s d)
/-- The normalised, scaled row. -/
def hn (s : Fin 4096) (d : Fin 1024) : EReal := x (ix3 0 s d) * inv (row x s) * g (ix2 0 d)
/-- The gate. -/
def gate (s : Fin 4096) (c : Fin 1024) : EReal := Ideal.logistic (∑ d : Fin 1024, hn x g s d * w (ix3 0 d c))
/-- The gated product. -/
def pe (s : Fin 4096) (c : Fin 1024) : EReal := ∑ b : Fin 256, p (ix4 0 0 s b) * e (ix3 0 b c)
/-- The row that enters the last normalisation. -/
def h3 (s : Fin 4096) (c : Fin 1024) : EReal := x (ix3 0 s c) + gate x g w s c * pe p e s c
/-- The error of the output. -/
def err (s : Fin 4096) (c : Fin 1024) : EReal :=
  h3 x p g w e s c * inv (h3 x p g w e s) * k (ix1 c) - z (ix3 0 s c)
/-- The output's cotangent. -/
def dy (s : Fin 4096) (c : Fin 1024) : EReal := err x p g w e k z s c * Ideal.ofBits .f32 0x3A800000#32
/-- The cotangent of the row that enters the last normalisation. -/
def dh3 (s : Fin 4096) (c : Fin 1024) : EReal := dx (h3 x p g w e s) (dy x p g w e k z s) (fun c => k (ix1 c)) c
/-- The cotangent of the gate's argument. -/
def dl (s : Fin 4096) (c : Fin 1024) : EReal :=
  dh3 x p g w e k z s c * pe p e s c * gate x g w s c * (1 - gate x g w s c)
/-- The cotangent of the normalised, scaled row. -/
def dhn (s : Fin 4096) (d : Fin 1024) : EReal := ∑ c : Fin 1024, dl x p g w e k z s c * w (ix3 0 d c)

/-- The loss, in every entry. -/
def out0 (_ : (⟨2, ![8, 128]⟩ : Shape).Idx) : EReal :=
  Ideal.ofBits .f32 0x3A000000#32 * ∑ d : Fin 1024, ∑ s : Fin 4096, err x p g w e k z s d * err x p g w e k z s d
/-- The input's gradient. -/
def out1 (j : (⟨2, ![4096, 1024]⟩ : Shape).Idx) : EReal :=
  dh3 x p g w e k z (j 0) (j 1) + dx (row x (j 0)) (dhn x p g w e k z (j 0)) (fun d => g (ix2 0 d)) (j 1)
/-- The gradient of the gate's weights. -/
def out3 (j : (⟨2, ![1024, 1024]⟩ : Shape).Idx) : EReal := ∑ s : Fin 4096, hn x g s (j 0) * dl x p g w e k z s (j 1)
/-- The gradient of the gated product's weights. -/
def out4 (j : (⟨2, ![256, 1024]⟩ : Shape).Idx) : EReal :=
  ∑ s : Fin 4096, p (ix4 0 0 s (j 0)) * (dh3 x p g w e k z s (j 1) * gate x g w s (j 1))
/-- The gradient of the first scale. -/
def out5 (j : (⟨2, ![1, 1024]⟩ : Shape).Idx) : EReal :=
  ∑ s : Fin 4096, dhn x p g w e k z s (j 1) * (x (ix3 0 s (j 1)) * inv (row x s))
/-- The gradient of the last scale. -/
def out6 (j : (⟨2, ![1, 1024]⟩ : Shape).Idx) : EReal :=
  ∑ s : Fin 4096, dy x p g w e k z s (j 1) * (h3 x p g w e s (j 1) * inv (h3 x p g w e s))

end Cert.HeadSpec
end
-- ==== Proof.Head.Ker.lean ====
/- What the kernel's seven outputs hold when it ends. -/
module

public import proofs.«01_k».proof.Proof.Gen.HeadIdeal.Value
public import proofs.«01_k».proof.Proof.Head.Spec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.HeadIdeal.Value

open Cert.HeadIdeal Cert.HeadIdeal.Gen

variable (m : (ℓ : Loc nD τ sig) → Buf (Elt Ideal) ℓ)

/-- Every window's block at every grid point. -/
theorem idx_val : ∀ t : Fin cfg0.N, win0_0.index t = ![t.val, 0]
    ∧ win0_1.index t = ![t.val, 0] ∧ win0_2.index t = ![0, 0] ∧ win0_3.index t = ![0, 0]
    ∧ win0_4.index t = ![0, 0] ∧ win0_5.index t = ![0, 0] ∧ win0_6.index t = ![t.val, 0]
    ∧ win0_7.index t = ![0, 0] ∧ win0_8.index t = ![t.val, 0] ∧ win0_9.index t = ![t.val, 0]
    ∧ win0_10.index t = ![0, 0] ∧ win0_11.index t = ![0, 0] ∧ win0_12.index t = ![0, 0] ∧ win0_13.index t = ![0, 0] :=
  (by decide +kernel : ∀ t : Fin grid0.N, _)

abbrev X (c : Dev nD) : FVec Ideal S1x4096x1024 .f32 := m ((c : Thread nD τ).loc main_arg0)
abbrev P (c : Dev nD) : FVec Ideal S1x1x4096x256 .f32 := m ((c : Thread nD τ).loc main_arg1)
abbrev G (c : Dev nD) : FVec Ideal S1x1024 .f32 := m ((c : Thread nD τ).loc main_arg2)
abbrev W (c : Dev nD) : FVec Ideal S1x1024x1024 .f32 := m ((c : Thread nD τ).loc main_arg3)
abbrev E (c : Dev nD) : FVec Ideal S1x256x1024 .f32 := m ((c : Thread nD τ).loc main_arg4)
abbrev K (c : Dev nD) : FVec Ideal S1024 .f32 := m ((c : Thread nD τ).loc main_arg5)
abbrev Z (c : Dev nD) : FVec Ideal S1x4096x1024 .f32 := m ((c : Thread nD τ).loc main_arg6)

theorem v0_at (c : Dev nD) (s : Fin 4096) (d : Fin 1024) : V m c main_v0 (ix2 s d) = X m c (ix3 0 s d) := by
  entry_read
  pointwise
theorem v1_at (c : Dev nD) (s : Fin 4096) (d : Fin 256) : V m c main_v1 (ix2 s d) = P m c (ix4 0 0 s d) := by
  entry_read
  pointwise
  blk_ext
theorem v3_at (c : Dev nD) (a d : Fin 1024) : V m c main_v3 (ix2 a d) = W m c (ix3 0 a d) := by
  entry_read
  pointwise
theorem v5_at (c : Dev nD) (a : Fin 256) (d : Fin 1024) : V m c main_v5 (ix2 a d) = E m c (ix3 0 a d) := by
  entry_read
  pointwise
theorem v6_at (c : Dev nD) (a : Fin 1) (d : Fin 1024) : V m c main_v6 (ix2 a d) = K m c (ix1 d) := by
  entry_read
  pointwise
theorem v7_at (c : Dev nD) (s : Fin 4096) (d : Fin 1024) : V m c main_v7 (ix2 s d) = Z m c (ix3 0 s d) := by
  entry_read
  pointwise

/-- The grid has eight points. -/
theorem point_lt (t : Fin cfg0.N) : t.val < 8 := lt_of_lt_of_le t.isLt (le_of_eq N_0)

/-- The token at row `r` of a grid point's tile. -/
abbrev tok (t : Fin cfg0.N) (r : Fin 512) : Fin 4096 := ⟨t.val * 512 + r.val, by have := point_lt t; omega⟩

theorem blk0 (c : Dev nD) (t : Fin cfg0.N) (r : Fin 512) (a : Fin 1024) :
    iblk m c 0 t (ix2 r a) = X m c (ix3 0 (tok t r) a) := by
  refine Eq.trans ?_ (v0_at m c _ a)
  blk_simp [iblk, idx_val t]
  blk_ext [idx_val t]
theorem blk1 (c : Dev nD) (t : Fin cfg0.N) (r : Fin 512) (a : Fin 256) :
    iblk m c 1 t (ix2 r a) = P m c (ix4 0 0 (tok t r) a) := by
  refine Eq.trans ?_ (v1_at m c _ a)
  blk_simp [iblk, idx_val t]
  blk_ext [idx_val t]
theorem blk2 (c : Dev nD) (t : Fin cfg0.N) (a : Fin 1024) :
    iblk m c 2 t (ix2 0 a) = G m c (ix2 0 a) := by
  blk_point [iblk, V, idx_val t]
theorem blk3 (c : Dev nD) (t : Fin cfg0.N) (r a : Fin 1024) :
    iblk m c 3 t (ix2 r a) = W m c (ix3 0 r a) := by
  refine Eq.trans ?_ (v3_at m c r a)
  blk_simp [iblk, idx_val t]
  blk_ext [idx_val t]
theorem blk4 (c : Dev nD) (t : Fin cfg0.N) (r : Fin 256) (a : Fin 1024) :
    iblk m c 4 t (ix2 r a) = E m c (ix3 0 r a) := by
  refine Eq.trans ?_ (v5_at m c r a)
  blk_simp [iblk, idx_val t]
  blk_ext [idx_val t]
theorem blk5 (c : Dev nD) (t : Fin cfg0.N) (a : Fin 1024) :
    iblk m c 5 t (ix2 0 a) = K m c (ix1 a) := by
  refine Eq.trans ?_ (v6_at m c 0 a)
  blk_simp [iblk, idx_val t]
  blk_ext [idx_val t]
theorem blk6 (c : Dev nD) (t : Fin cfg0.N) (r : Fin 512) (a : Fin 1024) :
    iblk m c 6 t (ix2 r a) = Z m c (ix3 0 (tok t r) a) := by
  refine Eq.trans ?_ (v7_at m c _ a)
  blk_simp [iblk, idx_val t]
  blk_ext [idx_val t]

/-- The tiles a grid point computes. -/
abbrev gateT (c : Dev nD) (t : Fin cfg0.N) : FVec Ideal S512x1024 .f32 := k0_pay17 (iblk m c 0 t) (iblk m c 2 t) (iblk m c 3 t)
abbrev peT (c : Dev nD) (t : Fin cfg0.N) : FVec Ideal S512x1024 .f32 := k0_pay18 (iblk m c 1 t) (iblk m c 4 t)
abbrev h3T (c : Dev nD) (t : Fin cfg0.N) : FVec Ideal S512x1024 .f32 :=
  k0_pay19 (iblk m c 0 t) (iblk m c 2 t) (iblk m c 1 t) (iblk m c 3 t) (iblk m c 4 t)
abbrev sqT (c : Dev nD) (t : Fin cfg0.N) : FVec Ideal S512x1 .f32 :=
  k0_pay20 (iblk m c 0 t) (iblk m c 2 t) (iblk m c 1 t) (iblk m c 3 t) (iblk m c 4 t)
abbrev dh3T (c : Dev nD) (t : Fin cfg0.N) : FVec Ideal S512x1024 .f32 :=
  k0_pay28 (k0_pay12 (iblk m c 5 t)) (h3T m c t) (sqT m c t) k0_pay21 (iblk m c 6 t)

theorem hn_at (c : Dev nD) (t : Fin cfg0.N) (r : Fin 512) (d : Fin 1024) :
    k0_pay15 (iblk m c 0 t) (iblk m c 2 t) (ix2 r d) = Cert.HeadSpec.hn (X m c) (G m c) (tok t r) d := by
  pointwise [k0_pay15, k0_pay14, k0_pay13, k0_pay11]
  simp only [blk0, blk2]
  rfl
theorem gate_at (c : Dev nD) (t : Fin cfg0.N) (r : Fin 512) (d : Fin 1024) :
    gateT m c t (ix2 r d) = Cert.HeadSpec.gate (X m c) (G m c) (W m c) (tok t r) d := by
  pointwise [k0_pay17]
  simp only [hn_at, blk3]
  rfl
theorem pe_at (c : Dev nD) (t : Fin cfg0.N) (r : Fin 512) (d : Fin 1024) :
    peT m c t (ix2 r d) = Cert.HeadSpec.pe (P m c) (E m c) (tok t r) d := by
  pointwise [k0_pay18, k0_pay16]
  simp only [blk1, blk4]
  rfl
theorem h3_at (c : Dev nD) (t : Fin cfg0.N) (r : Fin 512) (d : Fin 1024) :
    h3T m c t (ix2 r d) = Cert.HeadSpec.h3 (X m c) (P m c) (G m c) (W m c) (E m c) (tok t r) d := by
  pointwise [k0_pay19, k0_pay11]
  exact congrArg₂ (· + ·) (blk0 m c t r d) (congrArg₂ (· * ·) (gate_at m c t r d) (pe_at m c t r d))
theorem sq_at (c : Dev nD) (t : Fin cfg0.N) (r : Fin 512) :
    sqT m c t (ix2 r 0) = ∑ d : Fin 1024, Cert.HeadSpec.h3 (X m c) (P m c) (G m c) (W m c) (E m c) (tok t r) d
      * Cert.HeadSpec.h3 (X m c) (P m c) (G m c) (W m c) (E m c) (tok t r) d := by
  pointwise [k0_pay20]
  simp only [h3_at]
theorem inv_at (c : Dev nD) (t : Fin cfg0.N) (r : Fin 512) :
    k0_pay22 (sqT m c t) k0_pay21 (ix2 r 0) = Cert.Rms.inv (Cert.HeadSpec.h3 (X m c) (P m c) (G m c) (W m c) (E m c) (tok t r)) := by
  pointwise [k0_pay22, k0_pay21]
  rw [sq_at]
  rfl
theorem n4_at (c : Dev nD) (t : Fin cfg0.N) (r : Fin 512) (d : Fin 1024) :
    k0_pay23 (h3T m c t) (sqT m c t) k0_pay21 (ix2 r d) = Cert.HeadSpec.h3 (X m c) (P m c) (G m c) (W m c) (E m c) (tok t r) d
      * Cert.Rms.inv (Cert.HeadSpec.h3 (X m c) (P m c) (G m c) (W m c) (E m c) (tok t r)) := by
  pointwise [k0_pay23]
  rw [inv_at, h3_at]
theorem err_at (c : Dev nD) (t : Fin cfg0.N) (r : Fin 512) (d : Fin 1024) :
    k0_pay24 (k0_pay12 (iblk m c 5 t)) (h3T m c t) (sqT m c t) k0_pay21 (iblk m c 6 t) (ix2 r d)
      = Cert.HeadSpec.err (X m c) (P m c) (G m c) (W m c) (E m c) (K m c) (Z m c) (tok t r) d := by
  pointwise [k0_pay24, k0_pay12]
  rw [n4_at, blk5, blk6]
  rfl
theorem dy_at (c : Dev nD) (t : Fin cfg0.N) (r : Fin 512) (d : Fin 1024) :
    k0_pay26 (k0_pay12 (iblk m c 5 t)) (h3T m c t) (sqT m c t) k0_pay21 (iblk m c 6 t) (ix2 r d)
      = Cert.HeadSpec.dy (X m c) (P m c) (G m c) (W m c) (E m c) (K m c) (Z m c) (tok t r) d := by
  pointwise [k0_pay26]
  rw [err_at]
  rfl
theorem pay28_at (k : FVec Ideal S1x1024 .f32) (h : FVec Ideal S512x1024 .f32) (a b : FVec Ideal S512x1 .f32) (z : Vec Ideal S512x1024 .f32)
    (r : Fin 512) (d : Fin 1024) : k0_pay28 k h a b z (ix2 r d)
      = k0_pay22 a b (ix2 r 0) * (k0_pay26 k h a b z (ix2 r d) * k (ix2 0 d) - k0_pay23 h a b (ix2 r d)
        * Ideal.div (∑ e : Fin 1024, k0_pay26 k h a b z (ix2 r e) * k (ix2 0 e) * k0_pay23 h a b (ix2 r e)) (Ideal.ofBits .f32 0x44800000#32)) := by
  pointwise [k0_pay28]
theorem k_at (c : Dev nD) (t : Fin cfg0.N) (d : Fin 1024) : k0_pay12 (iblk m c 5 t) (ix2 0 d) = K m c (ix1 d) := by
  pointwise [k0_pay12]
  exact blk5 m c t d
theorem dh3_at (c : Dev nD) (t : Fin cfg0.N) (r : Fin 512) (d : Fin 1024) : dh3T m c t (ix2 r d)
      = Cert.HeadSpec.dh3 (X m c) (P m c) (G m c) (W m c) (E m c) (K m c) (Z m c) (tok t r) d := by
  refine (pay28_at _ _ _ _ _ r d).trans ?_
  simp only [n4_at, dy_at, inv_at, k_at]
  rfl

section Tiles
variable (u p q : FVec Ideal S512x1024 .f32) (w : FVec Ideal S1024x1024 .bf16)

theorem pay30_at (r : Fin 512) (d : Fin 1024) :
    k0_pay30 u p q (ix2 r d) = q (ix2 r d) * p (ix2 r d) * u (ix2 r d) * (1 - u (ix2 r d)) := by
  pointwise [k0_pay30]
theorem pay33_at (r : Fin 512) (d : Fin 1024) :
    k0_pay33 u p q w (ix2 r d) = ∑ e : Fin 1024, k0_pay30 u p q (ix2 r e) * w (ix2 d e) := by
  pointwise [k0_pay33]
theorem pay1_at (x : FVec Ideal S512x1024 .f32) (g : FVec Ideal S1x1024 .f32) (r : Fin 512) (d : Fin 1024) :
    k0_pay1 (k0_pay13 x) (k0_pay14 x) q (k0_pay35 g u p q w) (k0_pay36 g (k0_pay14 x) u p q w) (ix2 r d)
      = q (ix2 r d) + Cert.Rms.dx (fun e => x (ix2 r e)) (fun e => k0_pay33 u p q w (ix2 r e)) (fun e => g (ix2 0 e)) d := by
  pointwise [k0_pay1, k0_pay35, k0_pay36, k0_pay14, k0_pay13, k0_pay11]
  rfl
end Tiles

theorem dl_at (c : Dev nD) (t : Fin cfg0.N) (r : Fin 512) (d : Fin 1024) :
    k0_pay30 (gateT m c t) (peT m c t) (dh3T m c t) (ix2 r d)
      = Cert.HeadSpec.dl (X m c) (P m c) (G m c) (W m c) (E m c) (K m c) (Z m c) (tok t r) d := by
  refine (pay30_at _ _ _ r d).trans ?_
  rw [gate_at, pe_at, dh3_at]
  rfl
theorem dhn_at (c : Dev nD) (t : Fin cfg0.N) (r : Fin 512) (d : Fin 1024) :
    k0_pay33 (gateT m c t) (peT m c t) (dh3T m c t) (iblk m c 3 t) (ix2 r d)
      = Cert.HeadSpec.dhn (X m c) (P m c) (G m c) (W m c) (E m c) (K m c) (Z m c) (tok t r) d :=
  (pay33_at _ _ _ _ r d).trans
    (Finset.sum_congr rfl fun e _ => congrArg₂ (· * ·) (dl_at m c t r e) (blk3 m c t d e))
/-- The input gradient's tile. -/
theorem dh2_at (c : Dev nD) (t : Fin cfg0.N) (r : Fin 512) (d : Fin 1024) :
    k0_pay1 (k0_pay13 (iblk m c 0 t)) (k0_pay14 (iblk m c 0 t)) (dh3T m c t)
      (k0_pay35 (iblk m c 2 t) (gateT m c t) (peT m c t) (dh3T m c t) (iblk m c 3 t))
      (k0_pay36 (iblk m c 2 t) (k0_pay14 (iblk m c 0 t)) (gateT m c t) (peT m c t) (dh3T m c t) (iblk m c 3 t)) (ix2 r d)
      = Cert.HeadSpec.out1 (X m c) (P m c) (G m c) (W m c) (E m c) (K m c) (Z m c) (ix2 (tok t r) d) := by
  refine (pay1_at _ _ _ _ _ _ r d).trans ?_
  refine congrArg₂ (· + ·) (dh3_at m c t r d) ?_
  have e1 : (fun e => iblk m c 0 t (ix2 r e)) = Cert.HeadSpec.row (X m c) (tok t r) := funext fun e => blk0 m c t r e
  have e2 : (fun e => k0_pay33 (gateT m c t) (peT m c t) (dh3T m c t) (iblk m c 3 t) (ix2 r e))
      = Cert.HeadSpec.dhn (X m c) (P m c) (G m c) (W m c) (E m c) (K m c) (Z m c) (tok t r) := funext fun e => dhn_at m c t r e
  have e3 : (fun e => iblk m c 2 t (ix2 0 e)) = fun e => G m c (ix2 0 e) := funext fun e => blk2 m c t e
  exact congr (congr (congr (congrArg Cert.Rms.dx e1) e2) e3) rfl

theorem row_at (t : Fin cfg0.N) (r : Fin 512) (d : Fin 1024) :
    ((View.whole main_v8_1).slice (win0_8.rect t)).emb (ix2 r d) = ix2 (tok t r) d := by
  blk_ext [idx_val t]
theorem row_at' (t : Fin cfg0.N) (r : Fin 512) (d : Fin 1024) :
    ((View.whole main_v8_2).slice (win0_9.rect t)).emb (ix2 r d) = ix2 (tok t r) d := by
  blk_ext [idx_val t]

theorem final_8 (c : Dev nD) : (dats m 0 c).arrAt 8 (cfgs 0).N =
    Cert.HeadSpec.out1 (X m c) (P m c) (G m c) (W m c) (E m c) (K m c) (Z m c) := by
  refine (dats m 0 c).arrAt_eq_of_covers 8 _ (by decide +kernel) fun t hf y => ?_
  blk_simp; rw [after0_8]
  idx_vars y
  refine Eq.trans ?_ (congrArg _ (row_at t y0 y1)).symm
  by_cases h : t.val % 8 = 0
  · rw [outsAt0_A m c t h (by omega)]; dsimp only; frame_out
    exact dh2_at m c t y0 y1
  · by_cases h' : t.val % 8 = 7
    · rw [outsAt0_C m c t h h']; dsimp only; frame_out
      exact dh2_at m c t y0 y1
    · rw [outsAt0_B m c t h h']; dsimp only; frame_out
      exact dh2_at m c t y0 y1

theorem final_9 (c : Dev nD) : (dats m 0 c).arrAt 9 (cfgs 0).N =
    Cert.HeadSpec.out1 (X m c) (P m c) (G m c) (W m c) (E m c) (K m c) (Z m c) := by
  refine (dats m 0 c).arrAt_eq_of_covers 9 _ (by decide +kernel) fun t hf y => ?_
  blk_simp; rw [after0_9]
  idx_vars y
  refine Eq.trans ?_ (congrArg _ (row_at' t y0 y1)).symm
  by_cases h : t.val % 8 = 0
  · rw [outsAt0_A m c t h (by omega)]; dsimp only; frame_out
    exact dh2_at m c t y0 y1
  · by_cases h' : t.val % 8 = 7
    · rw [outsAt0_C m c t h h']; dsimp only; frame_out
      exact dh2_at m c t y0 y1
    · rw [outsAt0_B m c t h h']; dsimp only; frame_out
      exact dh2_at m c t y0 y1

/-! ## The sums over all tokens -/

theorem hzero_12 (j : S1x1024.Idx) : k0_pay9 (F := Ideal) j = 0 := by
  pointwise! [k0_pay9]
theorem hpay_12 (n u p q : FVec Ideal S512x1024 .f32) (w : FVec Ideal S1024x1024 .bf16) (v : Vec Ideal S1x1024 .f32) (j : S1x1024.Idx) :
    k0_pay34 n u p q w v j = v j + k0_pay34 n u p q w (fun _ => 0) j := by
  pointwise [k0_pay34]
theorem pay34_at (n u p q : FVec Ideal S512x1024 .f32) (w : FVec Ideal S1024x1024 .bf16) (z : Fin 1) (d : Fin 1024) :
    k0_pay34 n u p q w (fun _ => 0) (ix2 z d) = ∑ r : Fin 512, k0_pay33 u p q w (ix2 r d) * n (ix2 r d) := by
  pointwise [k0_pay34]
theorem n3_at (c : Dev nD) (t : Fin cfg0.N) (r : Fin 512) (d : Fin 1024) :
    k0_pay14 (iblk m c 0 t) (ix2 r d) = X m c (ix3 0 (tok t r) d) * Cert.Rms.inv (Cert.HeadSpec.row (X m c) (tok t r)) := by
  pointwise [k0_pay14, k0_pay13, k0_pay11]
  simp only [blk0]
  rfl

theorem final_12 (c : Dev nD) : (dats m 0 c).arrAt 12 (cfgs 0).N =
    Cert.HeadSpec.out5 (X m c) (P m c) (G m c) (W m c) (E m c) (K m c) (Z m c) := by
  refine (dats m 0 c).arrAt_eq_of_after_last 12 t0_7 (by decide +kernel) _ fun j => ?_
  blk_simp
  rw [after0_12, Pipeline.eq_sum_fin_of_reset_step_apply_last (fun n h => (outsAt0 m c n h).2.2.2.2.2.1) 8 (fun _ => 0) _
    (fun t h j => by rw [outsAt0_A m c t h (by omega)]; frame_out; rw [hpay_12, hzero_12])
    (fun t h j => by
      by_cases h' : t.val % 8 = 7
      · rw [outsAt0_C m c t h h']; frame_out; rw [hpay_12]
      · rw [outsAt0_B m c t h h']; frame_out; rw [hpay_12])
    (le_of_eq N_0) t0_7 rfl j, zero_add]
  idx_vars j
  refine Eq.trans ?_ (Fin.sum_univ_tiles 8 512 rfl (fun s => Cert.HeadSpec.dhn (X m c) (P m c) (G m c) (W m c) (E m c) (K m c) (Z m c) s j1
    * (X m c (ix3 0 s j1) * Cert.Rms.inv (Cert.HeadSpec.row (X m c) s)))).symm
  refine Fin.sum_fin_congr fun t => ?_
  refine (pay34_at _ _ _ _ _ j0 j1).trans ?_
  exact Finset.sum_congr rfl fun r _ => congrArg₂ (· * ·) (dhn_at m c t r j1) (n3_at m c t r j1)

theorem hzero_13 (j : S1x1024.Idx) : k0_pay10 (F := Ideal) j = 0 := by
  pointwise! [k0_pay10]
theorem hpay_13 (k : FVec Ideal S1x1024 .f32) (h : FVec Ideal S512x1024 .f32) (a b : FVec Ideal S512x1 .f32) (z : Vec Ideal S512x1024 .f32)
    (v : Vec Ideal S1x1024 .f32) (j : S1x1024.Idx) : k0_pay27 k h a b z v j = v j + k0_pay27 k h a b z (fun _ => 0) j := by
  pointwise [k0_pay27]
theorem pay27_at (k : FVec Ideal S1x1024 .f32) (h : FVec Ideal S512x1024 .f32) (a b : FVec Ideal S512x1 .f32) (z : Vec Ideal S512x1024 .f32)
    (y : Fin 1) (d : Fin 1024) :
    k0_pay27 k h a b z (fun _ => 0) (ix2 y d) = ∑ r : Fin 512, k0_pay26 k h a b z (ix2 r d) * k0_pay23 h a b (ix2 r d) := by
  pointwise [k0_pay27]

theorem final_13 (c : Dev nD) : (dats m 0 c).arrAt 13 (cfgs 0).N =
    Cert.HeadSpec.out6 (X m c) (P m c) (G m c) (W m c) (E m c) (K m c) (Z m c) := by
  refine (dats m 0 c).arrAt_eq_of_after_last 13 t0_7 (by decide +kernel) _ fun j => ?_
  blk_simp
  rw [after0_13, Pipeline.eq_sum_fin_of_reset_step_apply_last (fun n h => (outsAt0 m c n h).2.2.2.2.2.2.1) 8 (fun _ => 0) _
    (fun t h j => by rw [outsAt0_A m c t h (by omega)]; frame_out; rw [hpay_13, hzero_13])
    (fun t h j => by
      by_cases h' : t.val % 8 = 7
      · rw [outsAt0_C m c t h h']; frame_out; rw [hpay_13]
      · rw [outsAt0_B m c t h h']; frame_out; rw [hpay_13])
    (le_of_eq N_0) t0_7 rfl j, zero_add]
  idx_vars j
  refine Eq.trans ?_ (Fin.sum_univ_tiles 8 512 rfl (fun s => Cert.HeadSpec.dy (X m c) (P m c) (G m c) (W m c) (E m c) (K m c) (Z m c) s j1
    * (Cert.HeadSpec.h3 (X m c) (P m c) (G m c) (W m c) (E m c) s j1 * Cert.Rms.inv (Cert.HeadSpec.h3 (X m c) (P m c) (G m c) (W m c) (E m c) s)))).symm
  refine Fin.sum_fin_congr fun t => ?_
  refine (pay27_at _ _ _ _ _ j0 j1).trans ?_
  exact Finset.sum_congr rfl fun r _ => congrArg₂ (· * ·) (dy_at m c t r j1) (n4_at m c t r j1)

theorem hzero_7 (j : S1x1024.Idx) : k0_pay6 (F := Ideal) j = 0 := by
  pointwise! [k0_pay6]
theorem hpay_7 (k : FVec Ideal S1x1024 .f32) (h : FVec Ideal S512x1024 .f32) (a b : FVec Ideal S512x1 .f32) (z : Vec Ideal S512x1024 .f32)
    (v : Vec Ideal S1x1024 .f32) (j : S1x1024.Idx) : k0_pay25 k h a b z v j = v j + k0_pay25 k h a b z (fun _ => 0) j := by
  pointwise [k0_pay25]
theorem pay25_at (k : FVec Ideal S1x1024 .f32) (h : FVec Ideal S512x1024 .f32) (a b : FVec Ideal S512x1 .f32) (z : Vec Ideal S512x1024 .f32)
    (y : Fin 1) (d : Fin 1024) :
    k0_pay25 k h a b z (fun _ => 0) (ix2 y d) = ∑ r : Fin 512, k0_pay24 k h a b z (ix2 r d) * k0_pay24 k h a b z (ix2 r d) := by
  pointwise [k0_pay25]

/-- The first carried buffer after the last grid point: the squared errors' sums. -/
theorem carried_0 (c : Dev nD) (d : Fin 1024) : (outsAt0 m c t0_7.val t0_7.isLt).2.2.2.2.2.2.2.1 (ix2 0 d)
    = ∑ s : Fin 4096, Cert.HeadSpec.err (X m c) (P m c) (G m c) (W m c) (E m c) (K m c) (Z m c) s d
        * Cert.HeadSpec.err (X m c) (P m c) (G m c) (W m c) (E m c) (K m c) (Z m c) s d := by
  rw [Pipeline.eq_sum_fin_of_reset_step_apply_last (fun n h => (outsAt0 m c n h).2.2.2.2.2.2.2.1) 8 (fun _ => 0) _
    (fun t h j => by rw [outsAt0_A m c t h (by omega)]; frame_out; rw [hpay_7, hzero_7])
    (fun t h j => by
      by_cases h' : t.val % 8 = 7
      · rw [outsAt0_C m c t h h']; frame_out; rw [hpay_7, read_unread_whole]
      · rw [outsAt0_B m c t h h']; frame_out; rw [hpay_7, read_unread_whole])
    (le_of_eq N_0) t0_7 rfl (ix2 0 d), zero_add]
  refine Eq.trans ?_ (Fin.sum_univ_tiles 8 512 rfl (fun s => Cert.HeadSpec.err (X m c) (P m c) (G m c) (W m c) (E m c) (K m c) (Z m c) s d
        * Cert.HeadSpec.err (X m c) (P m c) (G m c) (W m c) (E m c) (K m c) (Z m c) s d)).symm
  refine Fin.sum_fin_congr fun t => ?_
  refine (pay25_at _ _ _ _ _ 0 d).trans ?_
  exact Finset.sum_congr rfl fun r _ => congrArg₂ (· * ·) (err_at m c t r d) (err_at m c t r d)

theorem pay3_at (v : Vec Ideal S1x1024 .f32) (j : S8x128.Idx) :
    k0_pay3 v j = Ideal.ofBits .f32 0x3A000000#32 * ∑ d : Fin 1024, v (ix2 0 d) := by
  idx_vars j
  pointwise [k0_pay3]

theorem final_7 (c : Dev nD) : (dats m 0 c).arrAt 7 (cfgs 0).N =
    Cert.HeadSpec.out0 (X m c) (P m c) (G m c) (W m c) (E m c) (K m c) (Z m c) := by
  refine (dats m 0 c).arrAt_eq_of_after_last 7 t0_7 (by decide +kernel) _ fun j => ?_
  blk_simp
  rw [after0_7]
  have e : (outsAt0 m c t0_7.val t0_7.isLt).1 = k0_pay3 (outsAt0 m c t0_7.val t0_7.isLt).2.2.2.2.2.2.2.1 := by
    rw [outsAt0_C m c t0_7 (by decide +kernel) (by decide +kernel)]; frame_out
  rw [e, pay3_at]
  exact congrArg (Ideal.ofBits .f32 0x3A000000#32 * ·) (Finset.sum_congr rfl fun d _ => carried_0 m c d)

theorem hzero_10 (j : S1024x1024.Idx) : k0_pay7 (F := Ideal) j = 0 := by
  pointwise! [k0_pay7]
theorem hpay_10 (n : FVec Ideal S512x1024 .bf16) (u p q : FVec Ideal S512x1024 .f32) (v : Vec Ideal S1024x1024 .f32) (j : S1024x1024.Idx) :
    k0_pay32 n u p q v j = v j + k0_pay32 n u p q (fun _ => 0) j := by
  pointwise [k0_pay32]
theorem pay32_at (n : FVec Ideal S512x1024 .bf16) (u p q : FVec Ideal S512x1024 .f32) (a d : Fin 1024) :
    k0_pay32 n u p q (fun _ => 0) (ix2 a d) = ∑ r : Fin 512, n (ix2 r a) * k0_pay30 u p q (ix2 r d) := by
  pointwise [k0_pay32]

theorem carried_1 (c : Dev nD) (j : S1024x1024.Idx) : (outsAt0 m c t0_7.val t0_7.isLt).2.2.2.2.2.2.2.2.1 j
    = Cert.HeadSpec.out3 (X m c) (P m c) (G m c) (W m c) (E m c) (K m c) (Z m c) j := by
  rw [Pipeline.eq_sum_fin_of_reset_step_apply_last (fun n h => (outsAt0 m c n h).2.2.2.2.2.2.2.2.1) 8 (fun _ => 0) _
    (fun t h j => by rw [outsAt0_A m c t h (by omega)]; frame_out; rw [hpay_10, hzero_10])
    (fun t h j => by
      by_cases h' : t.val % 8 = 7
      · rw [outsAt0_C m c t h h']; frame_out; rw [hpay_10, read_unread_whole]
      · rw [outsAt0_B m c t h h']; frame_out; rw [hpay_10, read_unread_whole])
    (le_of_eq N_0) t0_7 rfl j, zero_add]
  idx_vars j
  refine Eq.trans ?_ (Fin.sum_univ_tiles 8 512 rfl (fun s => Cert.HeadSpec.hn (X m c) (G m c) s j0
        * Cert.HeadSpec.dl (X m c) (P m c) (G m c) (W m c) (E m c) (K m c) (Z m c) s j1)).symm
  refine Fin.sum_fin_congr fun t => ?_
  refine (pay32_at _ _ _ _ j0 j1).trans ?_
  exact Finset.sum_congr rfl fun r _ => congrArg₂ (· * ·) (hn_at m c t r j0) (dl_at m c t r j1)

theorem final_10 (c : Dev nD) : (dats m 0 c).arrAt 10 (cfgs 0).N =
    Cert.HeadSpec.out3 (X m c) (P m c) (G m c) (W m c) (E m c) (K m c) (Z m c) := by
  refine (dats m 0 c).arrAt_eq_of_after_last 10 t0_7 (by decide +kernel) _ fun j => ?_
  blk_simp
  rw [after0_10]
  have e : (outsAt0 m c t0_7.val t0_7.isLt).2.2.2.1 = k0_pay4 (outsAt0 m c t0_7.val t0_7.isLt).2.2.2.2.2.2.2.2.1 := by
    rw [outsAt0_C m c t0_7 (by decide +kernel) (by decide +kernel)]; frame_out
  rw [e]
  exact carried_1 m c j

theorem hzero_11 (j : S256x1024.Idx) : k0_pay8 (F := Ideal) j = 0 := by
  pointwise! [k0_pay8]
theorem hpay_11 (n : FVec Ideal S512x256 .bf16) (u : FVec Ideal S512x1024 .bf16) (v : Vec Ideal S256x1024 .f32) (j : S256x1024.Idx) :
    k0_pay31 n u v j = v j + k0_pay31 n u (fun _ => 0) j := by
  pointwise [k0_pay31]
theorem pay31_at (n : FVec Ideal S512x256 .bf16) (u : FVec Ideal S512x1024 .bf16) (a : Fin 256) (d : Fin 1024) :
    k0_pay31 n u (fun _ => 0) (ix2 a d) = ∑ r : Fin 512, n (ix2 r a) * u (ix2 r d) := by
  pointwise [k0_pay31]
theorem pb_at (c : Dev nD) (t : Fin cfg0.N) (r : Fin 512) (a : Fin 256) :
    k0_pay16 (iblk m c 1 t) (ix2 r a) = P m c (ix4 0 0 (tok t r) a) := by
  pointwise [k0_pay16]
  exact blk1 m c t r a
theorem pay29_at (k : FVec Ideal S1x1024 .f32) (u h : FVec Ideal S512x1024 .f32) (a b : FVec Ideal S512x1 .f32) (z : Vec Ideal S512x1024 .f32)
    (r : Fin 512) (d : Fin 1024) : k0_pay29 k u h a b z (ix2 r d) = k0_pay28 k h a b z (ix2 r d) * u (ix2 r d) := by
  pointwise [k0_pay29]

theorem carried_2 (c : Dev nD) (j : S256x1024.Idx) : (outsAt0 m c t0_7.val t0_7.isLt).2.2.2.2.2.2.2.2.2 j
    = Cert.HeadSpec.out4 (X m c) (P m c) (G m c) (W m c) (E m c) (K m c) (Z m c) j := by
  rw [Pipeline.eq_sum_fin_of_reset_step_apply_last (fun n h => (outsAt0 m c n h).2.2.2.2.2.2.2.2.2) 8 (fun _ => 0) _
    (fun t h j => by rw [outsAt0_A m c t h (by omega)]; frame_out; rw [hpay_11, hzero_11])
    (fun t h j => by
      by_cases h' : t.val % 8 = 7
      · rw [outsAt0_C m c t h h']; frame_out; rw [hpay_11, read_unread_whole]
      · rw [outsAt0_B m c t h h']; frame_out; rw [hpay_11, read_unread_whole])
    (le_of_eq N_0) t0_7 rfl j, zero_add]
  idx_vars j
  refine Eq.trans ?_ (Fin.sum_univ_tiles 8 512 rfl (fun s => P m c (ix4 0 0 s j0)
        * (Cert.HeadSpec.dh3 (X m c) (P m c) (G m c) (W m c) (E m c) (K m c) (Z m c) s j1 * Cert.HeadSpec.gate (X m c) (G m c) (W m c) s j1))).symm
  refine Fin.sum_fin_congr fun t => ?_
  refine (pay31_at _ _ j0 j1).trans ?_
  exact Finset.sum_congr rfl fun r _ => congrArg₂ (· * ·) (pb_at m c t r j0)
    ((pay29_at _ _ _ _ _ _ r j1).trans (congrArg₂ (· * ·) (dh3_at m c t r j1) (gate_at m c t r j1)))

theorem final_11 (c : Dev nD) : (dats m 0 c).arrAt 11 (cfgs 0).N =
    Cert.HeadSpec.out4 (X m c) (P m c) (G m c) (W m c) (E m c) (K m c) (Z m c) := by
  refine (dats m 0 c).arrAt_eq_of_after_last 11 t0_7 (by decide +kernel) _ fun j => ?_
  blk_simp
  rw [after0_11]
  have e : (outsAt0 m c t0_7.val t0_7.isLt).2.2.2.2.1 = k0_pay5 (outsAt0 m c t0_7.val t0_7.isLt).2.2.2.2.2.2.2.2.2 := by
    rw [outsAt0_C m c t0_7 (by decide +kernel) (by decide +kernel)]; frame_out
  rw [e]
  exact carried_2 m c j

end Cert.HeadIdeal.Value

end
-- ==== Proof.Head.Ref.lean ====
/- The derivative of the reference's lines, entry by entry: it is the specification where the arrays' entries are real numbers. -/
module

public import proofs.«01_k».proof.Proof.Gen.HeadRefIdeal.Read
public import proofs.«01_k».proof.Proof.Common.HostSums
public import proofs.«01_k».proof.Proof.Head.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.HeadRefIdeal.Read
open Cert.HeadRefIdeal Cert.HeadRefIdeal.Gen Cert.Reals

variable (x0 : FVec Ideal S1x4096x1024 .f32) (x1 : FVec Ideal S1x1x4096x256 .f32) (x2 : FVec Ideal S1x1024 .f32)
  (x3 : FVec Ideal S1x1024x1024 .f32) (x4 : FVec Ideal S1x256x1024 .f32) (x5 : FVec Ideal S1024 .f32) (x6 : FVec Ideal S1x4096x1024 .f32)

/-! ## The forward lines -/

theorem one_bits : Ideal.ofBits .f32 0x3F800000#32 = 1 := by
  simp [Ideal.ofBits, Ideal.ieee, -EReal.coe_mul]; norm_num
theorem v8_at (s : Fin 4096) : val_main_v8 (F := Ideal) x0 (ix3 0 s 0) = Cert.Rms.inv (Cert.HeadSpec.row x0 s) := by
  pointwise [val_main_v8, val_main_v7, val_main_v6, val_main_v5, val_main_v4, val_main_v3, val_main_v2, val_main_v1,
    val_main_cst, val_main_cst_0, val_main_cst_1, Cert.Rms.inv, Cert.Rms.var]
theorem v9_at (s : Fin 4096) : val_main_v9 (F := Ideal) x0 (ix3 0 s 0)
    = Ideal.div (Cert.Rms.inv (Cert.HeadSpec.row x0 s)) (Cert.Rms.var (Cert.HeadSpec.row x0 s)) := by
  pointwise [val_main_v9, val_main_v8, val_main_v7, val_main_v6, val_main_v5, val_main_v4, val_main_v3, val_main_v2, val_main_v1,
    val_main_cst, val_main_cst_0, val_main_cst_1, Cert.Rms.inv, Cert.Rms.var]
theorem v13_at (s : Fin 4096) (d : Fin 1024) :
    val_main_v13 (F := Ideal) x0 (ix3 0 s d) = x0 (ix3 0 s d) * Cert.Rms.inv (Cert.HeadSpec.row x0 s) := by
  pointwise [val_main_v13, val_main_v12]
  rw [v8_at]
theorem v16_at (s : Fin 4096) (d : Fin 1024) : val_main_v16 (F := Ideal) x0 x2 (ix3 0 s d) = Cert.HeadSpec.hn x0 x2 s d := by
  pointwise [val_main_v16, val_main_v15, val_main_v14, val_main_v0]
  rw [v13_at]
  rfl
theorem v24_at (s : Fin 4096) (d : Fin 1024) : val_main_v24 (F := Ideal) x0 x2 x3 (ix3 0 s d) = Cert.HeadSpec.gate x0 x2 x3 s d := by
  pointwise [val_main_v24, val_main_v23, val_main_v22, val_main_v21, val_main_v20, val_main_v19, val_main_v18, val_main_v17,
    val_main_cst_3, val_main_cst_4]
  simp only [v16_at, one_bits]
  rfl
theorem v27_at (s : Fin 4096) (d : Fin 1024) : val_main_v27 (F := Ideal) x0 x2 x3 (ix3 0 s d)
    = Cert.HeadSpec.gate x0 x2 x3 s d * (1 - Cert.HeadSpec.gate x0 x2 x3 s d) := by
  pointwise [val_main_v27, val_main_v26, val_main_v25, val_main_cst_5]
  simp only [v24_at, one_bits]
theorem v28_at (s : Fin 4096) (b : Fin 256) : val_main_v28 (F := Ideal) x1 (ix3 0 s b) = x1 (ix4 0 0 s b) := by
  pointwise [val_main_v28]
  blk_ext
theorem v30_at (s : Fin 4096) (d : Fin 1024) : val_main_v30 (F := Ideal) x1 x4 (ix3 0 s d) = Cert.HeadSpec.pe x1 x4 s d := by
  pointwise [val_main_v30, val_main_v29]
  simp only [v28_at]
  rfl
theorem v32_at (s : Fin 4096) (d : Fin 1024) :
    val_main_v32 (F := Ideal) x0 x1 x2 x3 x4 (ix3 0 s d) = Cert.HeadSpec.h3 x0 x1 x2 x3 x4 s d := by
  pointwise [val_main_v32, val_main_v31]
  rw [v24_at, v30_at]
  rfl
theorem v39_at (s : Fin 4096) : val_main_v39 (F := Ideal) x0 x1 x2 x3 x4 (ix3 0 s 0) = Cert.Rms.var (Cert.HeadSpec.h3 x0 x1 x2 x3 x4 s) := by
  pointwise [val_main_v39, val_main_v38, val_main_v37, val_main_v36, val_main_v35, val_main_v34, val_main_v33,
    val_main_cst_6, val_main_cst_7, val_main_cst_8]
  simp only [v32_at]
  rfl
theorem v40_at (s : Fin 4096) : val_main_v40 (F := Ideal) x0 x1 x2 x3 x4 (ix3 0 s 0) = Cert.Rms.inv (Cert.HeadSpec.h3 x0 x1 x2 x3 x4 s) := by
  pointwise [val_main_v40]
  rw [v39_at]
  rfl
theorem v45_at (s : Fin 4096) (d : Fin 1024) : val_main_v45 (F := Ideal) x0 x1 x2 x3 x4 (ix3 0 s d)
    = Cert.HeadSpec.h3 x0 x1 x2 x3 x4 s d * Cert.Rms.inv (Cert.HeadSpec.h3 x0 x1 x2 x3 x4 s) := by
  pointwise [val_main_v45, val_main_v44]
  rw [v32_at, v40_at]
theorem v49_at (s : Fin 4096) (d : Fin 1024) : val_main_v49 (F := Ideal) x0 x1 x2 x3 x4 x5 x6 (ix3 0 s d)
    = Cert.HeadSpec.err x0 x1 x2 x3 x4 x5 x6 s d := by
  pointwise [val_main_v49, val_main_v48, val_main_v47, val_main_v46]
  rw [v45_at]
  rfl

/-! ## Which quantities are real -/

section Real
variable {x0 x1 x2 x3 x4 x5 x6} (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i))
include h0 h2 h3
theorem gate_real (s : Fin 4096) (c : Fin 1024) : IsReal (Cert.HeadSpec.gate x0 x2 x3 s c) := by
  have hr : IsReal (∑ d : Fin 1024, Cert.HeadSpec.hn x0 x2 s d * x3 (ix3 0 d c)) :=
    IsReal.sum _ fun d _ => (((h0 _).mul (Cert.Rms.inv_real fun k => h0 _)).mul (h2 _)).mul (h3 _)
  obtain ⟨r, e⟩ := hr
  unfold Cert.HeadSpec.gate
  rw [e, Ideal.logistic_coe]
  exact ⟨_, rfl⟩
include h1 h4
theorem h3_real (s : Fin 4096) (c : Fin 1024) : IsReal (Cert.HeadSpec.h3 x0 x1 x2 x3 x4 s c) :=
  (h0 _).add ((gate_real h0 h2 h3 s c).mul (IsReal.sum _ fun b _ => (h1 _).mul (h4 _)))
include h5 h6
theorem err_real (s : Fin 4096) (c : Fin 1024) : IsReal (Cert.HeadSpec.err x0 x1 x2 x3 x4 x5 x6 s c) :=
  (((h3_real h0 h1 h2 h3 h4 s c).mul (Cert.Rms.inv_real fun k => h3_real h0 h1 h2 h3 h4 s k)).mul (h5 _)).sub (h6 _)
theorem dy_real (s : Fin 4096) (c : Fin 1024) : IsReal (Cert.HeadSpec.dy x0 x1 x2 x3 x4 x5 x6 s c) :=
  (err_real h0 h1 h2 h3 h4 h5 h6 s c).mul ⟨_, inv1024⟩
theorem dh3_real (s : Fin 4096) (c : Fin 1024) : IsReal (Cert.HeadSpec.dh3 x0 x1 x2 x3 x4 x5 x6 s c) :=
  Cert.Rms.dx_real (fun k => h3_real h0 h1 h2 h3 h4 s k) (fun k => dy_real h0 h1 h2 h3 h4 h5 h6 s k) (fun k => h5 _) c
theorem dhn_real (s : Fin 4096) (c : Fin 1024) : IsReal (Cert.HeadSpec.dhn x0 x1 x2 x3 x4 x5 x6 s c) :=
  IsReal.sum _ fun d _ => ((((dh3_real h0 h1 h2 h3 h4 h5 h6 s d).mul (IsReal.sum _ fun b _ => (h1 _).mul (h4 _))).mul
    (gate_real h0 h2 h3 s d)).mul ((IsReal.coe 1).sub (gate_real h0 h2 h3 s d))).mul (h3 _)

/-! ## The backward lines -/

theorem v63_at (s : Fin 4096) (d : Fin 1024) : val_main_v63 (F := Ideal) x0 x1 x2 x3 x4 x5 x6 (ix3 0 s d)
    = Cert.HeadSpec.dy x0 x1 x2 x3 x4 x5 x6 s d := by
  pointwise [val_main_v63, val_main_v62, val_main_v61, val_main_v60, val_main_v59, val_main_v58, val_main_v52, val_main_v51, val_main_cst_10, val_main_cst_15, val_main_cst_16, val_main_cst_17]
  rw [v49_at]
  obtain ⟨r, e⟩ := err_real h0 h1 h2 h3 h4 h5 h6 s d
  unfold Cert.HeadSpec.dy
  rw [e, inv1024, half, two, one024, div_coe_coe (by norm_num), ← EReal.coe_mul, ← EReal.coe_mul, ← EReal.coe_mul]
  exact congrArg _ (by ring)
theorem v68_at (s : Fin 4096) (d : Fin 1024) : val_main_v68 (F := Ideal) x0 x1 x2 x3 x4 x5 x6 (ix3 0 s d)
    = Cert.HeadSpec.dy x0 x1 x2 x3 x4 x5 x6 s d * x5 (ix1 d) := by
  pointwise [val_main_v68, val_main_v67, val_main_v46]
  rw [v63_at h0 h1 h2 h3 h4 h5 h6]
theorem v78_at (s : Fin 4096) : val_main_v78 (F := Ideal) x0 x1 x2 x3 x4 x5 x6 (ix1 s)
    = Cert.Rms.through (Cert.HeadSpec.h3 x0 x1 x2 x3 x4 s) (Cert.HeadSpec.dy x0 x1 x2 x3 x4 x5 x6 s) (fun c => x5 (ix1 c)) := by
  pointwise [val_main_v78, val_main_v77, val_main_v76, val_main_v75, val_main_v72, val_main_v71, val_main_v70, val_main_v43, val_main_v42, val_main_v41,
    val_main_cst_20, val_main_cst_21, val_main_cst_22, val_main_cst_9]
  rw [Cert.HostSums.column]
  pointwise
  simp only [v68_at h0 h1 h2 h3 h4 h5 h6, v32_at, v40_at, v39_at]
  rfl
theorem v84_at (s : Fin 4096) (d : Fin 1024) : val_main_v84 (F := Ideal) x0 x1 x2 x3 x4 x5 x6 (ix3 0 s d)
    = Cert.HeadSpec.dh3 x0 x1 x2 x3 x4 x5 x6 s d := by
  pointwise [val_main_v84, val_main_v83, val_main_v82, val_main_v81, val_main_v80, val_main_v79, val_main_v74, val_main_v73]
  rw [v68_at h0 h1 h2 h3 h4 h5 h6, v32_at, v40_at, v78_at h0 h1 h2 h3 h4 h5 h6]
  have e := Cert.Rms.dx_eq (fun k => h3_real h0 h1 h2 h3 h4 s k) (fun k => dy_real h0 h1 h2 h3 h4 h5 h6 s k) (g := fun c => x5 (ix1 c)) (fun k => h5 _) 0 d
  rw [zero_add, zero_add] at e
  exact e
theorem v90_at (s : Fin 4096) (d : Fin 1024) : val_main_v90 (F := Ideal) x0 x1 x2 x3 x4 x5 x6 (ix3 0 s d)
    = Cert.HeadSpec.dl x0 x1 x2 x3 x4 x5 x6 s d := by
  pointwise [val_main_v90, val_main_v86]
  rw [v84_at h0 h1 h2 h3 h4 h5 h6, v30_at, v27_at, ← mul_assoc]
  rfl
theorem v93_at (s : Fin 4096) (d : Fin 1024) : val_main_v93 (F := Ideal) x0 x1 x2 x3 x4 x5 x6 (ix3 0 s d)
    = Cert.HeadSpec.dhn x0 x1 x2 x3 x4 x5 x6 s d := by
  pointwise [val_main_v93, val_main_v17]
  simp only [v90_at h0 h1 h2 h3 h4 h5 h6]
  rfl
theorem v99_at (s : Fin 4096) (d : Fin 1024) : val_main_v99 (F := Ideal) x0 x1 x2 x3 x4 x5 x6 (ix3 0 s d)
    = Cert.HeadSpec.dhn x0 x1 x2 x3 x4 x5 x6 s d * x2 (ix2 0 d) := by
  pointwise [val_main_v99, val_main_v98, val_main_v14, val_main_v0]
  rw [v93_at h0 h1 h2 h3 h4 h5 h6]
theorem v110_at (s : Fin 4096) : val_main_v110 (F := Ideal) x0 x1 x2 x3 x4 x5 x6 (ix1 s)
    = Cert.Rms.through (Cert.HeadSpec.row x0 s) (Cert.HeadSpec.dhn x0 x1 x2 x3 x4 x5 x6 s) (fun c => x2 (ix2 0 c)) := by
  pointwise [val_main_v110, val_main_v109, val_main_v108, val_main_v107, val_main_v103, val_main_v102, val_main_v101, val_main_v11, val_main_v10,
    val_main_cst_25, val_main_cst_26, val_main_cst_27, val_main_cst_2]
  rw [Cert.HostSums.column]
  pointwise
  simp only [v99_at h0 h1 h2 h3 h4 h5 h6, v9_at]
  rfl
theorem v116_at (s : Fin 4096) (d : Fin 1024) : val_main_v116 (F := Ideal) x0 x1 x2 x3 x4 x5 x6 (ix3 0 s d)
    = Cert.HeadSpec.out1 x0 x1 x2 x3 x4 x5 x6 (ix2 s d) := by
  pointwise [val_main_v116, val_main_v115, val_main_v114, val_main_v113, val_main_v112, val_main_v111, val_main_v106, val_main_v105, val_main_v104]
  rw [v84_at h0 h1 h2 h3 h4 h5 h6, v99_at h0 h1 h2 h3 h4 h5 h6, v8_at, v110_at h0 h1 h2 h3 h4 h5 h6]
  exact Cert.Rms.dx_eq (fun k => h0 _) (fun k => dhn_real h0 h1 h2 h3 h4 h5 h6 s k) (g := fun c => x2 (ix2 0 c)) (fun k => h2 _) _ d

/-! ## The results -/

theorem out0 : val_main_v118 (F := Ideal) x0 x1 x2 x3 x4 x5 x6 = Cert.HeadSpec.out0 x0 x1 x2 x3 x4 x5 x6 := by
  funext j
  pointwise [val_main_v118, val_main_v57, val_main_v56, val_main_cst_13, val_main_cst_14]
  rw [Fin.sum_univ_one]
  pointwise [val_main_v55, val_main_v54, val_main_v53, val_main_v50, val_main_cst_11, val_main_cst_12]
  obtain ⟨f, hf⟩ := exists_real fun i : Fin 4096 × Fin 1024 => err_real h0 h1 h2 h3 h4 h5 h6 i.1 i.2
  have hf' : ∀ s d, Cert.HeadSpec.err x0 x1 x2 x3 x4 x5 x6 s d = (f (s, d) : EReal) := fun s d => hf (s, d)
  unfold Cert.HeadSpec.out0
  simp only [v49_at, hf', half, inv2048, one024, ← EReal.coe_mul, ← coe_sum, div_coe_coe (show (1024 : ℝ) ≠ 0 by norm_num)]
  refine congrArg (fun r : ℝ => (r : EReal)) ?_
  rw [← Finset.sum_div, Finset.sum_comm]
  ring
theorem out1 : val_main_v119 (F := Ideal) x0 x1 x2 x3 x4 x5 x6 = Cert.HeadSpec.out1 x0 x1 x2 x3 x4 x5 x6 := by
  funext j
  idx_vars j
  pointwise [val_main_v119]
  exact v116_at h0 h1 h2 h3 h4 h5 h6 j0 j1
theorem out2 : val_main_v121 (F := Ideal) x0 x1 x2 x3 x4 x5 x6 = Cert.HeadSpec.out1 x0 x1 x2 x3 x4 x5 x6 := by
  funext j
  idx_vars j
  pointwise [val_main_v121, val_main_v120]
  exact v116_at h0 h1 h2 h3 h4 h5 h6 j0 j1
theorem out3 : val_main_v123 (F := Ideal) x0 x1 x2 x3 x4 x5 x6 = Cert.HeadSpec.out3 x0 x1 x2 x3 x4 x5 x6 := by
  funext j
  idx_vars j
  pointwise [val_main_v123, val_main_v122, val_main_v94, val_main_v92, val_main_v91]
  simp only [Fin.sum_univ_one, Fin.isValue, v90_at h0 h1 h2 h3 h4 h5 h6, v16_at]
  exact Finset.sum_congr rfl fun s _ => mul_comm _ _
theorem out4 : val_main_v125 (F := Ideal) x0 x1 x2 x3 x4 x5 x6 = Cert.HeadSpec.out4 x0 x1 x2 x3 x4 x5 x6 := by
  funext j
  idx_vars j
  pointwise [val_main_v125, val_main_v124, val_main_v89, val_main_v88, val_main_v87, val_main_v85]
  simp only [Fin.sum_univ_one, Fin.isValue, v84_at h0 h1 h2 h3 h4 h5 h6, v24_at, v28_at]
  exact Finset.sum_congr rfl fun s _ => (mul_comm _ _).trans (congrArg (_ * ·) (mul_comm _ _))
theorem out5 : val_main_v117 (F := Ideal) x0 x1 x2 x3 x4 x5 x6 = Cert.HeadSpec.out5 x0 x1 x2 x3 x4 x5 x6 := by
  funext j
  idx_vars j
  pointwise [val_main_v117, val_main_v100, val_main_v97, val_main_v96, val_main_cst_23, val_main_cst_24]
  rw [Cert.HostSums.row]
  pointwise [val_main_v95]
  simp only [v93_at h0 h1 h2 h3 h4 h5 h6, v13_at]
  exact Finset.sum_congr rfl fun s _ => mul_comm _ _
theorem out6 : val_main_v126 (F := Ideal) x0 x1 x2 x3 x4 x5 x6 = Cert.HeadSpec.out6 x0 x1 x2 x3 x4 x5 x6 := by
  funext j
  idx_vars j
  pointwise [val_main_v126, val_main_v69, val_main_v66, val_main_v65, val_main_cst_18, val_main_cst_19]
  rw [Cert.HostSums.row]
  pointwise [val_main_v64]
  simp only [v63_at h0 h1 h2 h3 h4 h5 h6, v45_at]
  exact Finset.sum_congr rfl fun s _ => mul_comm _ _
end Real

end Cert.HeadRefIdeal.Read
end
-- ==== Proof.Head.Pre.lean ====
/- The precondition of the loss's backward pass: every array has real entries. -/
module

public import proofs.«01_k».proof.Pre_finite_head
public import proofs.«01_k».proof.Proof.Common.Finite

@[expose] public section

noncomputable section

open Idealize.ShloMosaic

namespace Cert.Pre_finite_head

open Cert.Reals

variable [Facts] {x0 : FVec Ideal S1x4096x1024 .f32} {x1 : FVec Ideal S1x1x4096x256 .f32} {x2 : FVec Ideal S1x1024 .f32}
  {x3 : FVec Ideal S1x1024x1024 .f32} {x4 : FVec Ideal S1x256x1024 .f32} {x5 : FVec Ideal S1024 .f32} {x6 : FVec Ideal S1x4096x1024 .f32}

theorem reals (h : fn (F := Ideal) x0 x1 x2 x3 x4 x5 x6 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) ∧ (∀ i, IsReal (x6 i)) := by
  have h := congrFun h ix0
  unfold fn fn_part1 at h
  obtain ⟨h, h6⟩ := and_set h
  obtain ⟨h, h5⟩ := and_set h
  obtain ⟨h, h4⟩ := and_set h
  obtain ⟨h, h3⟩ := and_set h
  obtain ⟨h, h2⟩ := and_set h
  obtain ⟨h0, h1⟩ := and_set h
  exact ⟨isReal_of_all h0, isReal_of_all h1, isReal_of_all h2, isReal_of_all h3, isReal_of_all h4, isReal_of_all h5, isReal_of_all h6⟩

end Cert.Pre_finite_head
end
-- ==== Proof.Head.Claim.lean ====
/- The loss and its backward pass: the kernel's arrays are the reference's. -/
module

public import proofs.«01_k».proof.Defs
public import proofs.«01_k».proof.Proof.Gen.HeadRefIdeal.Run
public import proofs.«01_k».proof.Proof.Head.Ker
public import proofs.«01_k».proof.Proof.Head.Ref
public import proofs.«01_k».proof.Proof.Head.Pre
public import Idealize.ShloMosaic.Lib.Claim

@[expose] public section

noncomputable section

open Idealize.ShloMosaic Idealize.SL.Sem

namespace Cert.HeadClaim

/-- The reference runs and leaves its arguments; it declares no semaphore. -/
theorem frame_ref [hR : Cert.HeadRefIdeal.Facts] : Cert.quiescent_HeadRefIdeal := fun m ρ _ =>
  (θ_run Cert.HeadRefIdeal.defs _ _).mono (fun r h => ⟨fun c => (h c).2.2.2.2.2.2.2, sem_eq_zero_of_no_sems (by decide) r.2⟩)
    (Cert.HeadRefIdeal.Value.run m ρ)

section
variable (m : (ℓ : Loc Cert.HeadIdeal.nD Cert.HeadIdeal.τ Cert.HeadIdeal.sig) → Buf (Elt Ideal) ℓ) (c : Dev Cert.HeadIdeal.nD)
/-- A result of the specification at the kernel's arguments. -/
abbrev at_args {α : Type} (f : FVec Ideal ⟨3, ![1, 4096, 1024]⟩ .f32 → FVec Ideal ⟨4, ![1, 1, 4096, 256]⟩ .f32 → FVec Ideal ⟨2, ![1, 1024]⟩ .f32
    → FVec Ideal ⟨3, ![1, 1024, 1024]⟩ .f32 → FVec Ideal ⟨3, ![1, 256, 1024]⟩ .f32 → FVec Ideal ⟨1, ![1024]⟩ .f32
    → FVec Ideal ⟨3, ![1, 4096, 1024]⟩ .f32 → α) : α :=
  f (Cert.HeadIdeal.Value.X m c) (Cert.HeadIdeal.Value.P m c) (Cert.HeadIdeal.Value.G m c) (Cert.HeadIdeal.Value.W m c)
    (Cert.HeadIdeal.Value.E m c) (Cert.HeadIdeal.Value.K m c) (Cert.HeadIdeal.Value.Z m c)
end

theorem algebraic [hK : Cert.HeadIdeal.Facts] [hR : Cert.HeadRefIdeal.Facts] [hP : Cert.Pre_finite_head.Facts] :
    Cert.algebraic_HeadIdeal_HeadRefIdeal_pre_finite_head := by
  intro m g m' g' hpre hagree
  refine ⟨fun c => at_args m c Cert.HeadSpec.out0, fun c => at_args m c Cert.HeadSpec.out1, fun c => at_args m c Cert.HeadSpec.out1,
    fun c => at_args m c Cert.HeadSpec.out3, fun c => at_args m c Cert.HeadSpec.out4, fun c => at_args m c Cert.HeadSpec.out5,
    fun c => at_args m c Cert.HeadSpec.out6, ?_, ?_⟩
  · refine (θ_run Cert.HeadIdeal.defs _ _).mono (fun r h c => ?_) (Cert.HeadIdeal.Value.run_blocks m g)
    obtain ⟨h7, h8, h9, h10, h11, h12, h13, hargs⟩ := h c
    exact ⟨h7.trans (Cert.HeadIdeal.Value.final_7 m c), h8.trans (Cert.HeadIdeal.Value.final_8 m c), h9.trans (Cert.HeadIdeal.Value.final_9 m c),
      h10.trans (Cert.HeadIdeal.Value.final_10 m c), h11.trans (Cert.HeadIdeal.Value.final_11 m c),
      h12.trans (Cert.HeadIdeal.Value.final_12 m c), h13.trans (Cert.HeadIdeal.Value.final_13 m c), hargs⟩
  · refine (θ_run Cert.HeadRefIdeal.defs _ _).mono (fun r h c => ?_) (Cert.HeadRefIdeal.Value.run m' g')
    obtain ⟨e0, e1, e2, e3, e4, e5, e6⟩ := hagree c
    obtain ⟨r0, r1, r2, r3, r4, r5, r6⟩ := Cert.Pre_finite_head.reals (hpre c)
    obtain ⟨h0, h1, h2, h3, h4, h5, h6, hargs⟩ := h c
    have k0 : StableHlo.launchContents m' c (Proc.devRef .tc Cert.HeadRefIdeal.main_arg0) = Cert.HeadIdeal.Value.X m c := e0
    have k1 : StableHlo.launchContents m' c (Proc.devRef .tc Cert.HeadRefIdeal.main_arg1) = Cert.HeadIdeal.Value.P m c := e1
    have k2 : StableHlo.launchContents m' c (Proc.devRef .tc Cert.HeadRefIdeal.main_arg2) = Cert.HeadIdeal.Value.G m c := e2
    have k3 : StableHlo.launchContents m' c (Proc.devRef .tc Cert.HeadRefIdeal.main_arg3) = Cert.HeadIdeal.Value.W m c := e3
    have k4 : StableHlo.launchContents m' c (Proc.devRef .tc Cert.HeadRefIdeal.main_arg4) = Cert.HeadIdeal.Value.E m c := e4
    have k5 : StableHlo.launchContents m' c (Proc.devRef .tc Cert.HeadRefIdeal.main_arg5) = Cert.HeadIdeal.Value.K m c := e5
    have k6 : StableHlo.launchContents m' c (Proc.devRef .tc Cert.HeadRefIdeal.main_arg6) = Cert.HeadIdeal.Value.Z m c := e6
    refine ⟨h0.trans ?_, h1.trans ?_, h2.trans ?_, h3.trans ?_, h4.trans ?_, h5.trans ?_, h6.trans ?_, hargs⟩
    · refine (Cert.HeadRefIdeal.Read.val_main_v118_eq (StableHlo.launchContents m' c)).trans ?_
      rw [k0, k1, k2, k3, k4, k5, k6]
      exact Cert.HeadRefIdeal.Read.out0 r0 r1 r2 r3 r4 r5 r6
    · refine (Cert.HeadRefIdeal.Read.val_main_v119_eq (StableHlo.launchContents m' c)).trans ?_
      rw [k0, k1, k2, k3, k4, k5, k6]
      exact Cert.HeadRefIdeal.Read.out1 r0 r1 r2 r3 r4 r5 r6
    · refine (Cert.HeadRefIdeal.Read.val_main_v121_eq (StableHlo.launchContents m' c)).trans ?_
      rw [k0, k1, k2, k3, k4, k5, k6]
      exact Cert.HeadRefIdeal.Read.out2 r0 r1 r2 r3 r4 r5 r6
    · refine (Cert.HeadRefIdeal.Read.val_main_v123_eq (StableHlo.launchContents m' c)).trans ?_
      rw [k0, k1, k2, k3, k4, k5, k6]
      exact Cert.HeadRefIdeal.Read.out3 r0 r1 r2 r3 r4 r5 r6
    · refine (Cert.HeadRefIdeal.Read.val_main_v125_eq (StableHlo.launchContents m' c)).trans ?_
      rw [k0, k1, k2, k3, k4, k5, k6]
      exact Cert.HeadRefIdeal.Read.out4 r0 r1 r2 r3 r4 r5 r6
    · refine (Cert.HeadRefIdeal.Read.val_main_v117_eq (StableHlo.launchContents m' c)).trans ?_
      rw [k0, k1, k2, k3, k4, k5, k6]
      exact Cert.HeadRefIdeal.Read.out5 r0 r1 r2 r3 r4 r5 r6
    · refine (Cert.HeadRefIdeal.Read.val_main_v126_eq (StableHlo.launchContents m' c)).trans ?_
      rw [k0, k1, k2, k3, k4, k5, k6]
      exact Cert.HeadRefIdeal.Read.out6 r0 r1 r2 r3 r4 r5 r6

end Cert.HeadClaim
end
-- ==== Proof.FfnA.Run.lean ====
/- The gated backward kernel's run with each result named: what the grid's points leave in the four result arrays, the arguments unchanged. -/
module

public import proofs.«01_k».proof.Proof.Gen.FfnAIdeal.Frame
public import Idealize.ShloMosaic.Lib.Pipeline.Value
public import Idealize.ShloMosaic.Lib.Pipeline.ValueKit
public import proofs.«01_k».proof.Proof.Common.Reals

@[expose] public section

noncomputable section

open Idealize.ShloMosaic Idealize.ShloMosaic.TcCoe Idealize.SL.Sem

namespace Cert.FfnAIdeal.Value

open Cert.FfnAIdeal Cert.FfnAIdeal.Gen

variable (m : (ℓ : Loc nD τ sig) → Buf (Elt Ideal) ℓ) (ρ : Dev nD → PrngReg)

/-- After the run each result array is what the grid's points wrote back, and each argument is as it was. -/
theorem run_named : θ_run defs (onTc (τ := τ) (main (F := Ideal))) ⟨m, fun _ => 0, ρ⟩ fun r => ∀ c : Dev nD,
      (r.2.mem ((c : Thread nD τ).loc main_v40_0) = (dats m 0 c).arrAt 5 cfg0.N
      ∧ r.2.mem ((c : Thread nD τ).loc main_v40_1) = (dats m 0 c).arrAt 6 cfg0.N
      ∧ r.2.mem ((c : Thread nD τ).loc main_v40_2) = (dats m 0 c).arrAt 7 cfg0.N
      ∧ r.2.mem ((c : Thread nD τ).loc main_v40_3) = (dats m 0 c).arrAt 8 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r (h : Pipeline.FramePost cfgs (dats m) 0 (V m) r) c => ⟨⟨(h c).1 5, (h c).1 6, (h c).1 7, (h c).1 8⟩,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.FfnAIdeal.Value
end
-- ==== Proof.FfnA.Spec.lean ====
/- The backward pass of the gated product and of the convolution's parameters, entry by entry. -/
module

public import proofs.«01_k».proof.Proof.Common.Reals

@[expose] public section

noncomputable section

open Idealize.ShloMosaic

namespace Cert.FfnASpec

open Cert.Reals

variable (x : FVec Ideal ⟨3, ![1, 4096, 5632]⟩ .f32) (k : FVec Ideal ⟨3, ![1, 3, 5632]⟩ .f32)
  (b : FVec Ideal ⟨2, ![1, 5632]⟩ .f32) (w : FVec Ideal ⟨3, ![1, 2816, 1024]⟩ .f32) (h : FVec Ideal ⟨2, ![4096, 1024]⟩ .f32)

/-- The convolution's input `n` tokens before `s`, zero before the first token. -/
def back (n : ℕ) (s : Fin 4096) (c : Fin 5632) : EReal := if n ≤ s.val then x (ix3 0 ⟨s.val - n, by omega⟩ c) else 0
/-- The convolution. -/
def up (s : Fin 4096) (c : Fin 5632) : EReal :=
  b (ix2 0 c) + k (ix3 0 0 c) * back x 2 s c + k (ix3 0 1 c) * back x 1 s c + k (ix3 0 2 c) * x (ix3 0 s c)
/-- The gate's argument. -/
abbrev gate (s : Fin 4096) (c : Fin 2816) : EReal := up x k b s ⟨c.val, by omega⟩
/-- The value the gate multiplies. -/
abbrev value (s : Fin 4096) (c : Fin 2816) : EReal := up x k b s ⟨2816 + c.val, by omega⟩
/-- The logistic function of a gate's argument, and that argument times it. -/
def silu (g : EReal) : EReal := g * Ideal.logistic g
/-- The cotangent of the gated product. -/
def da (s : Fin 4096) (c : Fin 2816) : EReal := ∑ d : Fin 1024, h (ix2 s d) * w (ix3 0 c d)
/-- The gate's cotangent from the product's cotangent, the argument and the value. -/
def through (a g v : EReal) : EReal := a * v * (Ideal.logistic g + silu g * (1 - Ideal.logistic g))
/-- The cotangent of the convolution's output: its first half belongs to the gate, its second to the value. -/
def dup (s : Fin 4096) (c : Fin 5632) : EReal :=
  if hc : c.val < 2816 then through (da w h s ⟨c.val, hc⟩) (gate x k b s ⟨c.val, hc⟩) (value x k b s ⟨c.val, hc⟩)
  else da w h s ⟨c.val - 2816, by omega⟩ * silu (gate x k b s ⟨c.val - 2816, by omega⟩)

/-- The gradient of the product's matrix. -/
def down (c : Fin 2816) (d : Fin 1024) : EReal := ∑ s : Fin 4096, silu (gate x k b s c) * value x k b s c * h (ix2 s d)
/-- The gradient of the convolution's weights: tap `n` meets the input `2 - n` tokens before. -/
def taps (n : Fin 3) (c : Fin 5632) : EReal := ∑ s : Fin 4096, dup x k b w h s c * back x (2 - n.val) s c
/-- The gradient of the convolution's bias. -/
def bias (c : Fin 5632) : EReal := ∑ s : Fin 4096, dup x k b w h s c

theorem back_zero (s : Fin 4096) (c : Fin 5632) : back x 0 s c = x (ix3 0 s c) := by
  unfold back
  rw [if_pos (Nat.zero_le _)]
  rfl

/-! ## Which quantities are real -/

section Real
variable {x k b w h}
theorem back_real (hx : ∀ i, IsReal (x i)) (n : ℕ) (s : Fin 4096) (c : Fin 5632) : IsReal (back x n s c) := by
  unfold back
  split_ifs
  · exact hx _
  · exact IsReal.coe 0
theorem up_real (hx : ∀ i, IsReal (x i)) (hk : ∀ i, IsReal (k i)) (hb : ∀ i, IsReal (b i)) (s : Fin 4096) (c : Fin 5632) :
    IsReal (up x k b s c) :=
  (((hb _).add ((hk _).mul (back_real hx _ _ _))).add ((hk _).mul (back_real hx _ _ _))).add ((hk _).mul (hx _))
theorem da_real (hw : ∀ i, IsReal (w i)) (hh : ∀ i, IsReal (h i)) (s : Fin 4096) (c : Fin 2816) : IsReal (da w h s c) :=
  IsReal.sum _ fun d _ => (hh _).mul (hw _)
end Real

/-- The gate's cotangent as the derivative of `g ↦ g · logistic g` gives it, in two parts. -/
theorem through_parts {a g v : EReal} (ha : IsReal a) (hg : IsReal g) (hv : IsReal v) :
    a * v * Ideal.logistic g + g * (a * v) * (Ideal.logistic g * (1 - Ideal.logistic g)) = through a g v := by
  obtain ⟨a, rfl⟩ := ha
  obtain ⟨g, rfl⟩ := hg
  obtain ⟨v, rfl⟩ := hv
  unfold through silu
  rw [Ideal.logistic_coe]
  generalize (1 + Real.exp (-g))⁻¹ = s
  rw [← EReal.coe_one, ← EReal.coe_sub]
  simp only [← EReal.coe_mul, ← EReal.coe_add]
  exact congrArg _ (by ring)

end Cert.FfnASpec
end
-- ==== Proof.FfnA.Ref.lean ====
/- The derivative of the reference's lines, entry by entry: it is the specification where the arrays' entries are real numbers. -/
module

public import proofs.«01_k».proof.Proof.Gen.FfnARefIdeal.Read
public import proofs.«01_k».proof.Proof.Common.HostSums
public import proofs.«01_k».proof.Proof.FfnA.Spec
public import Idealize.ShloMosaic.Lib.Pointwise

@[expose] public section

set_option maxRecDepth 16384

noncomputable section

open Idealize.ShloMosaic Idealize.ShloMosaic.TcCoe Idealize.SL.Sem

namespace Cert.FfnARefIdeal.Read
open Cert.FfnARefIdeal Cert.FfnARefIdeal.Gen Cert.Reals Cert.FfnASpec

variable (x0 : FVec Ideal S1x4096x5632 .f32) (x1 : FVec Ideal S1x3x5632 .f32) (x2 : FVec Ideal S1x5632 .f32)
  (x3 : FVec Ideal S1x2816x1024 .f32) (x4 : FVec Ideal S4096x1024 .f32)

/-- The input behind `n` rows of zeros is the input `n` tokens before. -/
theorem shifted (n : ℕ) (s : Fin 4096) (c : Fin 5632) :
    (if h : s.val < n then (0 : EReal) else x0 (ix3 0 ⟨s.val - n, by omega⟩ c)) = back x0 n s c := by
  unfold back
  by_cases h : s.val < n
  · rw [dif_pos h, if_neg (by omega)]
  · rw [dif_neg h, if_pos (by omega)]

/-! ## The forward lines -/

theorem v6_at (s : Fin 4096) (c : Fin 5632) : val_main_v6 (F := Ideal) x0 (ix3 0 s c) = back x0 2 s c := by
  pointwise [val_main_v6, val_main_v5, val_main_v4, val_main_cst]
  exact shifted x0 2 s c
theorem v17_at (s : Fin 4096) (c : Fin 5632) : val_main_v17 (F := Ideal) x0 (ix3 0 s c) = back x0 1 s c := by
  pointwise [val_main_v17, val_main_v16, val_main_v15, val_main_cst_0]
  exact shifted x0 1 s c
theorem v49_at (s : Fin 4096) (c : Fin 5632) : val_main_v49 (F := Ideal) x0 (ix3 0 s c) = back x0 2 s c := v6_at x0 s c
theorem v60_at (s : Fin 4096) (c : Fin 5632) : val_main_v60 (F := Ideal) x0 (ix3 0 s c) = back x0 1 s c := v17_at x0 s c
theorem v27_at (s : Fin 4096) (c : Fin 5632) : val_main_v27 (F := Ideal) x0 x1 x2 (ix3 0 s c) = up x0 x1 x2 s c := by
  pointwise [val_main_v27, val_main_v26, val_main_v25, val_main_v24, val_main_v23, val_main_v22, val_main_v21, val_main_v20, val_main_v19,
    val_main_v18, val_main_v14, val_main_v13, val_main_v12, val_main_v11, val_main_v10, val_main_v9, val_main_v8, val_main_v7, val_main_v3,
    val_main_v2, val_main_v1, val_main_v0]
  rw [v6_at, v17_at]
  rfl
theorem v28_at (s : Fin 4096) (c : Fin 2816) : val_main_v28 (F := Ideal) x0 x1 x2 (ix3 0 s c) = gate x0 x1 x2 s c := by
  pointwise [val_main_v28]
  exact v27_at x0 x1 x2 s _
theorem v29_at (s : Fin 4096) (c : Fin 2816) : val_main_v29 (F := Ideal) x0 x1 x2 (ix3 0 s c) = value x0 x1 x2 s c := by
  pointwise [val_main_v29]
  exact v27_at x0 x1 x2 s _
theorem v30_2_at (s : Fin 4096) (c : Fin 2816) : val_main_v30_2 (F := Ideal) x0 x1 x2 (ix3 0 s c) = Ideal.logistic (gate x0 x1 x2 s c) := by
  pointwise [val_main_v30_2, val_main_call0_v4, val_main_call0_v3, val_main_call0_v2, val_main_call0_v1, val_main_call0_v0, val_main_call0_cst,
    val_main_call0_cst_0]
  rw [v28_at]
  rfl
theorem v30_1_at (s : Fin 4096) (c : Fin 2816) : val_main_v30_1 (F := Ideal) x0 x1 x2 (ix3 0 s c)
    = Ideal.logistic (gate x0 x1 x2 s c) * (1 - Ideal.logistic (gate x0 x1 x2 s c)) := by
  pointwise [val_main_v30_1, val_main_call0_v7, val_main_call0_v6, val_main_call0_cst_1]
  rw [v30_2_at]
theorem v30_0_at (s : Fin 4096) (c : Fin 2816) : val_main_v30_0 (F := Ideal) x0 x1 x2 (ix3 0 s c) = silu (gate x0 x1 x2 s c) := by
  pointwise [val_main_v30_0]
  rw [v28_at, v30_2_at]
  rfl

/-! ## The backward lines -/

theorem v37_at (s : Fin 4096) (c : Fin 2816) : val_main_v37 (F := Ideal) x3 x4 (ix3 0 s c) = da x3 x4 s c := by
  pointwise [val_main_v37, val_main_v34, val_main_v32]
  rfl
theorem v31_at (s : Fin 4096) (c : Fin 2816) : val_main_v31 (F := Ideal) x0 x1 x2 (ix3 0 s c)
    = silu (gate x0 x1 x2 s c) * value x0 x1 x2 s c := by
  pointwise [val_main_v31]
  rw [v30_0_at, v29_at]
theorem v40_at (s : Fin 4096) (c : Fin 2816) : val_main_v40 (F := Ideal) x0 x1 x2 x3 x4 (ix3 0 s c)
    = da x3 x4 s c * value x0 x1 x2 s c := by
  pointwise [val_main_v40]
  rw [v37_at, v29_at]
theorem v39_at (s : Fin 4096) (c : Fin 2816) : val_main_v39 (F := Ideal) x0 x1 x2 x3 x4 (ix3 0 s c)
    = da x3 x4 s c * silu (gate x0 x1 x2 s c) := by
  pointwise [val_main_v39]
  rw [v37_at, v30_0_at]
  exact mul_comm _ _
theorem down_at (c : Fin 2816) (d : Fin 1024) : val_main_v35 (F := Ideal) x0 x1 x2 x4 (ix2 d c) = down x0 x1 x2 x4 c d := by
  pointwise [val_main_v35, val_main_v34]
  rw [Fin.sum_univ_one]
  unfold down
  refine Finset.sum_congr rfl fun s _ => (mul_comm _ _).trans (congrArg (· * _) (v31_at x0 x1 x2 s c))
theorem out0 : val_main_v98 (F := Ideal) x0 x1 x2 x4
    = fun j => down x0 x1 x2 x4 ⟨(j 0).val * 704 + (j 1).val, by have := (j 0).isLt; have := (j 1).isLt; simp at *; omega⟩ (j 2) := by
  funext j
  idx_vars j
  pointwise [val_main_v98, val_main_v97, val_main_v96, val_main_v38, val_main_v36]
  exact down_at x0 x1 x2 x4 _ _

section Real
variable (h0 : ∀ i, IsReal (x0 i)) (h1 : ∀ i, IsReal (x1 i)) (h2 : ∀ i, IsReal (x2 i)) (h3 : ∀ i, IsReal (x3 i)) (h4 : ∀ i, IsReal (x4 i))
include h0 h1 h2 h3 h4

theorem v41_at (s : Fin 4096) (c : Fin 2816) : val_main_v41 (F := Ideal) x0 x1 x2 x3 x4 (ix3 0 s c)
    = through (da x3 x4 s c) (gate x0 x1 x2 s c) (value x0 x1 x2 s c) := by
  pointwise [val_main_v41, val_main_call1_v2, val_main_call1_v1, val_main_call1_v0]
  rw [v40_at, v30_2_at, v28_at, v30_1_at]
  exact through_parts (da_real h3 h4 s c) (up_real h0 h1 h2 s _) (up_real h0 h1 h2 s _)
theorem v42_at (s : Fin 4096) (c : Fin 5632) : val_main_v42 (F := Ideal) x0 x1 x2 x3 x4 (ix3 0 s c) = dup x0 x1 x2 x3 x4 s c := by
  unfold dup
  by_cases hc : c.val < 2816
  · rw [dif_pos hc, ← v41_at x0 x1 x2 x3 x4 h0 h1 h2 h3 h4]
    pointwise [val_main_v42]
    rw [dif_pos hc]
  · rw [dif_neg hc, ← v39_at x0 x1 x2 x3 x4]
    pointwise [val_main_v42]
    rw [dif_neg hc]
theorem out1 : val_main_v102 (F := Ideal) x0 x1 x2 x3 x4
    = fun j => dup x0 x1 x2 x3 x4 (j 1) ⟨(j 0).val * 704 + (j 2).val, by have := (j 0).isLt; have := (j 2).isLt; simp at *; omega⟩ := by
  funext j
  idx_vars j
  pointwise [val_main_v102, val_main_v101, val_main_v100, val_main_v99]
  exact v42_at x0 x1 x2 x3 x4 h0 h1 h2 h3 h4 _ _
theorem v74_at (c : Fin 5632) : val_main_v74 (F := Ideal) x0 x1 x2 x3 x4 (ix1 c) = taps x0 x1 x2 x3 x4 2 c := by
  pointwise [val_main_v74, val_main_v73, val_main_cst_4]
  rw [Cert.HostSums.row]
  pointwise [val_main_v72, val_main_v71, val_main_cst_3]
  simp only [v42_at x0 x1 x2 x3 x4 h0 h1 h2 h3 h4]
  exact Finset.sum_congr rfl fun s _ => congrArg _ (back_zero x0 s c).symm
theorem v80_at (c : Fin 5632) : val_main_v80 (F := Ideal) x0 x1 x2 x3 x4 (ix1 c) = taps x0 x1 x2 x3 x4 1 c := by
  pointwise [val_main_v80, val_main_v79, val_main_cst_7]
  rw [Cert.HostSums.row]
  pointwise [val_main_v78, val_main_v77, val_main_cst_6]
  simp only [v42_at x0 x1 x2 x3 x4 h0 h1 h2 h3 h4, v60_at]
  rfl
theorem v90_at (c : Fin 5632) : val_main_v90 (F := Ideal) x0 x1 x2 x3 x4 (ix1 c) = taps x0 x1 x2 x3 x4 0 c := by
  pointwise [val_main_v90, val_main_v89, val_main_cst_12]
  rw [Cert.HostSums.row]
  pointwise [val_main_v88, val_main_v87, val_main_cst_11]
  simp only [v42_at x0 x1 x2 x3 x4 h0 h1 h2 h3 h4, v49_at]
  rfl
theorem v86_at (c : Fin 5632) : val_main_v86 (F := Ideal) x0 x1 x2 x3 x4 (ix1 c) = bias x0 x1 x2 x3 x4 c := by
  pointwise [val_main_v86, val_main_v85, val_main_cst_10]
  rw [Cert.HostSums.row]
  pointwise [val_main_v84, val_main_cst_9]
  simp only [v42_at x0 x1 x2 x3 x4 h0 h1 h2 h3 h4]
  rfl
theorem v93_at (n : Fin 3) (c : Fin 5632) : val_main_v93 (F := Ideal) x0 x1 x2 x3 x4 (ix2 n c) = taps x0 x1 x2 x3 x4 n c := by
  pointwise [val_main_v93, val_main_v92, val_main_v91, val_main_v83, val_main_v82, val_main_v81, val_main_v76, val_main_v75,
    val_main_cst_5, val_main_cst_8, val_main_cst_13]
  simp only [v74_at x0 x1 x2 x3 x4 h0 h1 h2 h3 h4, v80_at x0 x1 x2 x3 x4 h0 h1 h2 h3 h4, v90_at x0 x1 x2 x3 x4 h0 h1 h2 h3 h4]
  fin_cases n <;> simp
theorem out2 : val_main_v105 (F := Ideal) x0 x1 x2 x3 x4
    = fun j => taps x0 x1 x2 x3 x4 (j 1) ⟨(j 0).val * 704 + (j 2).val, by have := (j 0).isLt; have := (j 2).isLt; simp at *; omega⟩ := by
  funext j
  idx_vars j
  pointwise [val_main_v105, val_main_v104, val_main_v103, val_main_v95]
  exact v93_at x0 x1 x2 x3 x4 h0 h1 h2 h3 h4 _ _
theorem out3 : val_main_v106 (F := Ideal) x0 x1 x2 x3 x4
    = fun j => bias x0 x1 x2 x3 x4 ⟨(j 0).val * 704 + (j 2).val, by have := (j 0).isLt; have := (j 2).isLt; simp at *; omega⟩ := by
  funext j
  idx_vars j
  pointwise [val_main_v106, val_main_v94]
  exact v86_at x0 x1 x2 x3 x4 h0 h1 h2 h3 h4 _
end Real

end Cert.FfnARefIdeal.Read
end
-- ==== Proof.Common.Stage.lean ====
/- Reading rows back from a buffer filled by two stores, one above the other. -/
module

public import Idealize.ShloMosaic.Lib.Pipeline.ValueKit
public import Idealize.ShloMosaic.Lib.Pointwise

@[expose] public section

noncomputable section

open Idealize.ShloMosaic Idealize.ShloMosaic.TcCoe Idealize.SL.Sem

namespace Cert.Stage

/-- Row `i` of a load of rows `k …` is `z`, if each of the two newest stores (rows `p …`, then rows `q …`) has `z` there
    where it holds that row, and the older of the two holds it otherwise. -/
theorem rows_read {sig : RefSig} {κ : Kind} {sp : Space} {e : EltTy} {Val : EltTy → Type} [∀ e, Nonempty (Val e)]
    {R C p a q b k n : ℕ} (v : View sig κ sp ⟨2, ![R, C]⟩ e) (hp : ∀ x, (![p, 0] : Fin 2 → ℕ) x + (![a, C] : Fin 2 → ℕ) x ≤ (![R, C] : Fin 2 → ℕ) x)
    (hq : ∀ x, (![q, 0] : Fin 2 → ℕ) x + (![b, C] : Fin 2 → ℕ) x ≤ (![R, C] : Fin 2 → ℕ) x)
    (hk : ∀ x, (![k, 0] : Fin 2 → ℕ) x + (![n, C] : Fin 2 → ℕ) x ≤ (![R, C] : Fin 2 → ℕ) x)
    (P : (⟨2, ![a, C]⟩ : Shape).Idx → Val e) (Q : (⟨2, ![b, C]⟩ : Shape).Idx → Val e)
    (L : List (View.Piece Val (⟨2, ![R, C]⟩ : Shape) e)) (i : Fin n) (j : Fin C) (z : Val e)
    (h1 : ∀ x : Fin a, p + x.val = k + i.val → P (ix2 x j) = z)
    (h2 : ¬ (p ≤ k + i.val ∧ k + i.val < p + a) → ∃ x : Fin b, q + x.val = k + i.val ∧ Q (ix2 x j) = z) :
    v.readCov ((⟨Rect.unit (s := ⟨2, ![R, C]⟩) ![p, 0] ![a, C] hp, P⟩ : View.Piece Val (⟨2, ![R, C]⟩ : Shape) e)
      :: (⟨Rect.unit (s := ⟨2, ![R, C]⟩) ![q, 0] ![b, C] hq, Q⟩ : View.Piece Val (⟨2, ![R, C]⟩ : Shape) e) :: L)
      (Rect.unit (s := ⟨2, ![R, C]⟩) ![k, 0] ![n, C] hk).toLoadRect (ix2 i j) = z := by
  rw [View.readCov_eq_canon']
  have hR : k + i.val < R := by have := hk 0; simp at this; omega
  have hB : (Rect.unit (s := ⟨2, ![R, C]⟩) ![k, 0] ![n, C] hk).toLoadRect.idx (ix2 i j) = ix2 ⟨k + i.val, hR⟩ j := by
    funext x; match x with
    | ⟨0, _⟩ => exact Fin.ext (by simp [Rect.toLoadRect, LoadRect.idx])
    | ⟨1, _⟩ => exact Fin.ext (by simp [Rect.toLoadRect, LoadRect.idx])
  show View.canon _ ((Rect.unit (s := ⟨2, ![R, C]⟩) ![k, 0] ![n, C] hk).toLoadRect.idx (ix2 i j)) = z
  rw [hB]
  by_cases hc : p ≤ k + i.val ∧ k + i.val < p + a
  · have hE : (Rect.unit (s := ⟨2, ![R, C]⟩) ![p, 0] ![a, C] hp).emb (ix2 ⟨k + i.val - p, by omega⟩ j) = ix2 ⟨k + i.val, hR⟩ j := by
      funext x; match x with
      | ⟨0, _⟩ => exact Fin.ext (by simp [Rect.emb_apply]; omega)
      | ⟨1, _⟩ => exact Fin.ext (by simp [Rect.emb_apply])
    rw [← hE]
    exact (View.canon_cons_emb _ _ _ _).trans (h1 _ (by simp; omega))
  · obtain ⟨x0, hx, hz⟩ := h2 hc
    have hE : (Rect.unit (s := ⟨2, ![R, C]⟩) ![q, 0] ![b, C] hq).emb (ix2 x0 j) = ix2 ⟨k + i.val, hR⟩ j := by
      funext x; match x with
      | ⟨0, _⟩ => exact Fin.ext (by simp [Rect.emb_apply]; omega)
      | ⟨1, _⟩ => exact Fin.ext (by simp [Rect.emb_apply])
    rw [View.canon_cons_of_not_mem]
    · rw [← hE]; exact (View.canon_cons_emb _ _ _ _).trans hz
    · intro hm
      obtain ⟨x, hx'⟩ := (Rect.unit (s := ⟨2, ![R, C]⟩) ![p, 0] ![a, C] hp).exists_idx_of_mem hm
      have := congrArg (fun y => (y 0).val) hx'
      have h0 := (x 0).isLt
      simp at this h0
      omega

end Cert.Stage

end
-- ==== Proof.Common.Columns.lean ====
/- Buffers filled by stores of column groups, or of slabs: what stands in a group, and what a load of a group reads. -/
module

public import Idealize.ShloMosaic.Lib.Pipeline.ValueKit
public import Idealize.ShloMosaic.Lib.Pointwise

@[expose] public section

noncomputable section

open Idealize.ShloMosaic Idealize.ShloMosaic.TcCoe Idealize.SL.Sem

namespace Cert.Columns

variable {sig : RefSig} {κ : Kind} {sp : Space} {e : EltTy} {Val : EltTy → Type} [∀ e, Nonempty (Val e)]

/-- A place in the columns of the newest store holds what was stored, another place what stood there. -/
theorem canon_cols {R C o n : ℕ} (hp : ∀ x, (![0, o] : Fin 2 → ℕ) x + (![R, n] : Fin 2 → ℕ) x ≤ (![R, C] : Fin 2 → ℕ) x)
    (P : (⟨2, ![R, n]⟩ : Shape).Idx → Val e) (L : List (View.Piece Val (⟨2, ![R, C]⟩ : Shape) e)) (i : Fin R) (j : Fin C) (z : Val e)
    (h1 : ∀ x : Fin n, j.val = o + x.val → P (ix2 i x) = z)
    (h2 : ¬ (o ≤ j.val ∧ j.val < o + n) → View.canon L (ix2 i j) = z) :
    View.canon ((⟨Rect.unit (s := ⟨2, ![R, C]⟩) ![0, o] ![R, n] hp, P⟩ : View.Piece Val (⟨2, ![R, C]⟩ : Shape) e) :: L) (ix2 i j) = z := by
  by_cases hc : o ≤ j.val ∧ j.val < o + n
  · have hE : (Rect.unit (s := ⟨2, ![R, C]⟩) ![0, o] ![R, n] hp).emb (ix2 i ⟨j.val - o, by omega⟩) = ix2 i j := by
      funext x; match x with
      | ⟨0, _⟩ => exact Fin.ext (by simp [Rect.emb_apply])
      | ⟨1, _⟩ => exact Fin.ext (by simp [Rect.emb_apply]; omega)
    rw [← hE]
    exact (View.canon_cons_emb _ _ _ _).trans (h1 _ (by simp; omega))
  · rw [View.canon_cons_of_not_mem]
    · exact h2 hc
    · intro hm
      obtain ⟨x, hx'⟩ := (Rect.unit (s := ⟨2, ![R, C]⟩) ![0, o] ![R, n] hp).exists_idx_of_mem hm
      have := congrArg (fun y => (y 1).val) hx'
      have h0 := (x 1).isLt
      simp at this h0
      omega

/-- The same for the newest store's slab. -/
theorem canon_slab {G b c k n : ℕ} (hp : ∀ x, (![k, 0, 0] : Fin 3 → ℕ) x + (![n, b, c] : Fin 3 → ℕ) x ≤ (![G, b, c] : Fin 3 → ℕ) x)
    (P : (⟨3, ![n, b, c]⟩ : Shape).Idx → Val e) (L : List (View.Piece Val (⟨3, ![G, b, c]⟩ : Shape) e)) (g : Fin G) (i : Fin b) (j : Fin c) (z : Val e)
    (h1 : ∀ x : Fin n, g.val = k + x.val → P (ix3 x i j) = z)
    (h2 : ¬ (k ≤ g.val ∧ g.val < k + n) → View.canon L (ix3 g i j) = z) :
    View.canon ((⟨Rect.unit (s := ⟨3, ![G, b, c]⟩) ![k, 0, 0] ![n, b, c] hp, P⟩ : View.Piece Val (⟨3, ![G, b, c]⟩ : Shape) e) :: L) (ix3 g i j) = z := by
  by_cases hc : k ≤ g.val ∧ g.val < k + n
  · have hE : (Rect.unit (s := ⟨3, ![G, b, c]⟩) ![k, 0, 0] ![n, b, c] hp).emb (ix3 ⟨g.val - k, by omega⟩ i j) = ix3 g i j := by
      funext x; match x with
      | ⟨0, _⟩ => exact Fin.ext (by simp [Rect.emb_apply]; omega)
      | ⟨1, _⟩ => exact Fin.ext (by simp [Rect.emb_apply])
      | ⟨2, _⟩ => exact Fin.ext (by simp [Rect.emb_apply])
    rw [← hE]
    exact (View.canon_cons_emb _ _ _ _).trans (h1 _ (by simp; omega))
  · rw [View.canon_cons_of_not_mem]
    · exact h2 hc
    · intro hm
      obtain ⟨x, hx'⟩ := (Rect.unit (s := ⟨3, ![G, b, c]⟩) ![k, 0, 0] ![n, b, c] hp).exists_idx_of_mem hm
      have := congrArg (fun y => (y 0).val) hx'
      have h0 := (x 0).isLt
      simp at this h0
      omega

/-- A load of columns `o …` at its column `j` reads the buffer's column `o + j`. -/
theorem read_cols {R C o n : ℕ} (v : View sig κ sp ⟨2, ![R, C]⟩ e) (hk : ∀ x, (![0, o] : Fin 2 → ℕ) x + (![R, n] : Fin 2 → ℕ) x ≤ (![R, C] : Fin 2 → ℕ) x)
    (L : List (View.Piece Val (⟨2, ![R, C]⟩ : Shape) e)) (i : Fin R) (j : Fin n) (z : Val e)
    (h : ∀ q : Fin C, q.val = o + j.val → View.canon L (ix2 i q) = z) :
    v.readCov L (Rect.unit (s := ⟨2, ![R, C]⟩) ![0, o] ![R, n] hk).toLoadRect (ix2 i j) = z := by
  rw [View.readCov_eq_canon']
  have hC : o + j.val < C := by have := hk 1; simp at this; omega
  have hB : (Rect.unit (s := ⟨2, ![R, C]⟩) ![0, o] ![R, n] hk).toLoadRect.idx (ix2 i j) = ix2 i ⟨o + j.val, hC⟩ := by
    funext x; match x with
    | ⟨0, _⟩ => exact Fin.ext (by simp [Rect.toLoadRect, LoadRect.idx])
    | ⟨1, _⟩ => exact Fin.ext (by simp [Rect.toLoadRect, LoadRect.idx])
  show View.canon _ ((Rect.unit (s := ⟨2, ![R, C]⟩) ![0, o] ![R, n] hk).toLoadRect.idx (ix2 i j)) = z
  rw [hB]
  exact h _ rfl

/-- A load of slab `k` reads that slab. -/
theorem read_slab {G b c k n : ℕ} (v : View sig κ sp ⟨3, ![G, b, c]⟩ e) (hk : ∀ x, (![k, 0, 0] : Fin 3 → ℕ) x + (![n, b, c] : Fin 3 → ℕ) x ≤ (![G, b, c] : Fin 3 → ℕ) x)
    (L : List (View.Piece Val (⟨3, ![G, b, c]⟩ : Shape) e)) (g : Fin n) (i : Fin b) (j : Fin c) (z : Val e)
    (h : ∀ q : Fin G, q.val = k + g.val → View.canon L (ix3 q i j) = z) :
    v.readCov L (Rect.unit (s := ⟨3, ![G, b, c]⟩) ![k, 0, 0] ![n, b, c] hk).toLoadRect (ix3 g i j) = z := by
  rw [View.readCov_eq_canon']
  have hG : k + g.val < G := by have := hk 0; simp at this; omega
  have hB : (Rect.unit (s := ⟨3, ![G, b, c]⟩) ![k, 0, 0] ![n, b, c] hk).toLoadRect.idx (ix3 g i j) = ix3 ⟨k + g.val, hG⟩ i j := by
    funext x; match x with
    | ⟨0, _⟩ => exact Fin.ext (by simp [Rect.toLoadRect, LoadRect.idx])
    | ⟨1, _⟩ => exact Fin.ext (by simp [Rect.toLoadRect, LoadRect.idx])
    | ⟨2, _⟩ => exact Fin.ext (by simp [Rect.toLoadRect, LoadRect.idx])
  show View.canon _ ((Rect.unit (s := ⟨3, ![G, b, c]⟩) ![k, 0, 0] ![n, b, c] hk).toLoadRect.idx (ix3 g i j)) = z
  rw [hB]
  exact h _ rfl

/-- The same loads of contents known as one function. -/
theorem ld_cols {R C o n : ℕ} (hk : ∀ x, (![0, o] : Fin 2 → ℕ) x + (![R, n] : Fin 2 → ℕ) x ≤ (![R, C] : Fin 2 → ℕ) x)
    (w : (⟨2, ![R, C]⟩ : Shape).Idx → Val e) (i : Fin R) (j : Fin n) (q : Fin C) (h : q.val = o + j.val) :
    View.ld w (Rect.unit (s := ⟨2, ![R, C]⟩) ![0, o] ![R, n] hk) (ix2 i j) = w (ix2 i q) := by
  refine congrArg w ?_
  funext x; match x with
  | ⟨0, _⟩ => exact Fin.ext (by simp [Rect.emb_apply])
  | ⟨1, _⟩ => exact Fin.ext (by simp [Rect.emb_apply]; omega)

theorem ld_slab {G b c k n : ℕ} (hk : ∀ x, (![k, 0, 0] : Fin 3 → ℕ) x + (![n, b, c] : Fin 3 → ℕ) x ≤ (![G, b, c] : Fin 3 → ℕ) x)
    (w : (⟨3, ![G, b, c]⟩ : Shape).Idx → Val e) (g : Fin n) (i : Fin b) (j : Fin c) (q : Fin G) (h : q.val = k + g.val) :
    View.ld w (Rect.unit (s := ⟨3, ![G, b, c]⟩) ![k, 0, 0] ![n, b, c] hk) (ix3 g i j) = w (ix3 q i j) := by
  refine congrArg w ?_
  funext x; match x with
  | ⟨0, _⟩ => exact Fin.ext (by simp [Rect.emb_apply]; omega)
  | ⟨1, _⟩ => exact Fin.ext (by simp [Rect.emb_apply])
  | ⟨2, _⟩ => exact Fin.ext (by simp [Rect.emb_apply])

end Cert.Columns

end
-- ==== Proof.Common.SlabRows.lean ====
/- Buffers filled by stores of single rows of slabs: what stands in a row, and what a load of it reads. -/
module

public import Idealize.ShloMosaic.Lib.Pipeline.ValueKit
public import Idealize.ShloMosaic.Lib.Pointwise

@[expose] public section

noncomputable section

open Idealize.ShloMosaic Idealize.ShloMosaic.TcCoe Idealize.SL.Sem

namespace Cert.SlabRows

variable {sig : RefSig} {κ : Kind} {sp : Space} {e : EltTy} {Val : EltTy → Type} [∀ e, Nonempty (Val e)]

/-- Row `k` of slab `a` of the newest store holds what was stored, another row what stood there. -/
theorem canon_row {G b c a k : ℕ} (hp : ∀ x, (![a, k, 0] : Fin 3 → ℕ) x + (![1, 1, c] : Fin 3 → ℕ) x ≤ (![G, b, c] : Fin 3 → ℕ) x)
    (P : (⟨3, ![1, 1, c]⟩ : Shape).Idx → Val e) (L : List (View.Piece Val (⟨3, ![G, b, c]⟩ : Shape) e)) (g : Fin G) (i : Fin b) (j : Fin c) (z : Val e)
    (h1 : g.val = a → i.val = k → P (ix3 0 0 j) = z)
    (h2 : ¬ (g.val = a ∧ i.val = k) → View.canon L (ix3 g i j) = z) :
    View.canon ((⟨Rect.unit (s := ⟨3, ![G, b, c]⟩) ![a, k, 0] ![1, 1, c] hp, P⟩ : View.Piece Val (⟨3, ![G, b, c]⟩ : Shape) e) :: L) (ix3 g i j) = z := by
  by_cases hc : g.val = a ∧ i.val = k
  · have hE : (Rect.unit (s := ⟨3, ![G, b, c]⟩) ![a, k, 0] ![1, 1, c] hp).emb (ix3 0 0 j) = ix3 g i j := by
      funext x; match x with
      | ⟨0, _⟩ => exact Fin.ext (by simp [Rect.emb_apply]; omega)
      | ⟨1, _⟩ => exact Fin.ext (by simp [Rect.emb_apply]; omega)
      | ⟨2, _⟩ => exact Fin.ext (by simp [Rect.emb_apply])
    rw [← hE]
    exact (View.canon_cons_emb _ _ _ _).trans (h1 hc.1 hc.2)
  · rw [View.canon_cons_of_not_mem]
    · exact h2 hc
    · intro hm
      obtain ⟨x, hx'⟩ := (Rect.unit (s := ⟨3, ![G, b, c]⟩) ![a, k, 0] ![1, 1, c] hp).exists_idx_of_mem hm
      have e0 := congrArg (fun y => (y 0).val) hx'
      have e1 := congrArg (fun y => (y 1).val) hx'
      have h0 := (x 0).isLt
      have h1 := (x 1).isLt
      simp at e0 e1 h0 h1
      omega

/-- A row that the newest store does not hold. -/
theorem canon_skip {G b c a k : ℕ} (hp : ∀ x, (![a, k, 0] : Fin 3 → ℕ) x + (![1, 1, c] : Fin 3 → ℕ) x ≤ (![G, b, c] : Fin 3 → ℕ) x)
    (P : (⟨3, ![1, 1, c]⟩ : Shape).Idx → Val e) (L : List (View.Piece Val (⟨3, ![G, b, c]⟩ : Shape) e)) (g : Fin G) (i : Fin b) (j : Fin c)
    (h : ¬ (g.val = a ∧ i.val = k)) :
    View.canon ((⟨Rect.unit (s := ⟨3, ![G, b, c]⟩) ![a, k, 0] ![1, 1, c] hp, P⟩ : View.Piece Val (⟨3, ![G, b, c]⟩ : Shape) e) :: L) (ix3 g i j)
      = View.canon L (ix3 g i j) :=
  canon_row hp P L g i j _ (fun h1 h2 => absurd ⟨h1, h2⟩ h) fun _ => rfl

/-- A load of row `k` of slab `a` reads that row. -/
theorem read_row {G b c a k : ℕ} (v : View sig κ sp ⟨3, ![G, b, c]⟩ e) (hk : ∀ x, (![a, k, 0] : Fin 3 → ℕ) x + (![1, 1, c] : Fin 3 → ℕ) x ≤ (![G, b, c] : Fin 3 → ℕ) x)
    (L : List (View.Piece Val (⟨3, ![G, b, c]⟩ : Shape) e)) (g : Fin G) (i : Fin b) (j : Fin c) (hg : g.val = a) (hi : i.val = k) :
    v.readCov L (Rect.unit (s := ⟨3, ![G, b, c]⟩) ![a, k, 0] ![1, 1, c] hk).toLoadRect (ix3 0 0 j) = View.canon L (ix3 g i j) := by
  rw [View.readCov_eq_canon']
  refine congrArg (View.canon L) ?_
  funext x; match x with
  | ⟨0, _⟩ => exact Fin.ext (by simp [Rect.toLoadRect, LoadRect.idx]; omega)
  | ⟨1, _⟩ => exact Fin.ext (by simp [Rect.toLoadRect, LoadRect.idx]; omega)
  | ⟨2, _⟩ => exact Fin.ext (by simp [Rect.toLoadRect, LoadRect.idx])

theorem ld_row {G b c a k : ℕ} (hk : ∀ x, (![a, k, 0] : Fin 3 → ℕ) x + (![1, 1, c] : Fin 3 → ℕ) x ≤ (![G, b, c] : Fin 3 → ℕ) x)
    (w : (⟨3, ![G, b, c]⟩ : Shape).Idx → Val e) (g : Fin G) (i : Fin b) (j : Fin c) (hg : g.val = a) (hi : i.val = k) :
    View.ld w (Rect.unit (s := ⟨3, ![G, b, c]⟩) ![a, k, 0] ![1, 1, c] hk) (ix3 0 0 j) = w (ix3 g i j) := by
  refine congrArg w ?_
  funext x; match x with
  | ⟨0, _⟩ => exact Fin.ext (by simp [Rect.emb_apply]; omega)
  | ⟨1, _⟩ => exact Fin.ext (by simp [Rect.emb_apply]; omega)
  | ⟨2, _⟩ => exact Fin.ext (by simp [Rect.emb_apply])

end Cert.SlabRows

end
-- ==== Proof.FfnA.Blocks.lean ====
/- What the kernel's operands hold at a grid point, and what its operations compute from them. -/
module

public import proofs.«01_k».proof.Proof.FfnA.Run
public import proofs.«01_k».proof.Proof.FfnA.Ref
public import proofs.«01_k».proof.Proof.Common.Stage
public import proofs.«01_k».proof.Proof.Common.Columns
public import proofs.«01_k».proof.Proof.Common.SlabRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnAIdeal.Value

open Cert.FfnAIdeal Cert.FfnAIdeal.Gen

variable (m : (ℓ : Loc nD τ sig) → Buf (Elt Ideal) ℓ)

/-- Every window's block at every grid point. -/
theorem idx_val : ∀ t : Fin cfg0.N, win0_0.index t = ![t.val, 0] ∧ win0_1.index t = ![0, t.val, 0]
    ∧ win0_2.index t = ![0, t.val * 16 - 1, 0] ∧ win0_3.index t = ![0, t.val, 0] ∧ win0_4.index t = ![0, 0, 0]
    ∧ win0_5.index t = ![0, 0, 0] ∧ win0_6.index t = ![0, t.val, 0] ∧ win0_7.index t = ![0, 0, 0] ∧ win0_8.index t = ![0, 0, 0] :=
  (by decide +kernel : ∀ t : Fin grid0.N, _)

abbrev X (c : Dev nD) : FVec Ideal S1x4096x5632 .f32 := m ((c : Thread nD τ).loc main_arg0)
abbrev K (c : Dev nD) : FVec Ideal S1x3x5632 .f32 := m ((c : Thread nD τ).loc main_arg1)
abbrev B (c : Dev nD) : FVec Ideal S1x5632 .f32 := m ((c : Thread nD τ).loc main_arg2)
abbrev W (c : Dev nD) : FVec Ideal S1x2816x1024 .f32 := m ((c : Thread nD τ).loc main_arg3)
abbrev H (c : Dev nD) : FVec Ideal S4096x1024 .f32 := m ((c : Thread nD τ).loc main_arg4)

/-- The grid has sixteen points. -/
theorem point_lt (t : Fin cfg0.N) : t.val < 16 := lt_of_lt_of_le t.isLt (le_of_eq N_0)

/-- The token in row `r` of the tile a point works on. -/
abbrev tok (t : Fin cfg0.N) (r : Fin 256) : Fin 4096 := ⟨t.val * 256 + r.val, by have := point_lt t; omega⟩
/-- Column `d` of slab `g`. -/
abbrev col (g : Fin 8) (d : Fin 704) : Fin 5632 := ⟨g.val * 704 + d.val, by omega⟩
/-- Column `d` of slab `j` of the gate. -/
abbrev half (j : Fin 4) (d : Fin 704) : Fin 2816 := ⟨j.val * 704 + d.val, by omega⟩

theorem v28_at (c : Dev nD) (s : Fin 4096) (d : Fin 1024) : V m c main_v28 (ix2 s d) = H m c (ix2 s d) := by
  entry_read
  pointwise
theorem v32_at (c : Dev nD) (g : Fin 8) (s : Fin 4096) (d : Fin 704) : V m c main_v32 (ix3 g s d) = X m c (ix3 0 s (col g d)) := by
  entry_read
  pointwise
  blk_ext
/-- The convolution the host computes is the one both programs share. -/
theorem v36_eq (c : Dev nD) : V m c main_v36 = (truncf .bf16 (transpose S8x4096x704 [1, 0, 2]
    (shapeCast S4096x8x704 (shapeCast S4096x5632 (Cert.FfnARefIdeal.Read.val_main_v27 (F := Ideal) (X m c) (K m c) (B m c)) shapeCasts_S1x4096x5632_S4096x5632) shapeCasts_S4096x5632_S4096x8x704)
    transposes_S4096x8x704_S8x4096x704_1_0_2) bitsLt_bf16_f32 : FVec Ideal S8x4096x704 .bf16) := by
  entry_read
  rfl
theorem v36_at (c : Dev nD) (g : Fin 8) (s : Fin 4096) (d : Fin 704) :
    V m c main_v36 (ix3 g s d) = Cert.FfnASpec.up (X m c) (K m c) (B m c) s (col g d) := by
  rw [v36_eq]
  pointwise
  exact Cert.FfnARefIdeal.Read.v27_at _ _ _ s (col g d)
theorem v39_at (c : Dev nD) (j : Fin 4) (e : Fin 704) (d : Fin 1024) : V m c main_v39 (ix3 j e d) = W m c (ix3 0 (half j e) d) := by
  entry_read
  pointwise
  blk_ext

theorem blk0 (c : Dev nD) (t : Fin cfg0.N) (r : Fin 256) (d : Fin 1024) : iblk m c 0 t (ix2 r d) = H m c (ix2 (tok t r) d) := by
  refine Eq.trans ?_ (v28_at m c _ d)
  blk_simp [iblk, idx_val t]
  blk_ext [idx_val t]
theorem blk1 (c : Dev nD) (t : Fin cfg0.N) (g : Fin 8) (r : Fin 256) (d : Fin 704) : iblk m c 1 t (ix3 g r d) = X m c (ix3 0 (tok t r) (col g d)) := by
  refine Eq.trans ?_ (v32_at m c g _ d)
  blk_simp [iblk, idx_val t]
  blk_ext [idx_val t]
theorem blk2 (c : Dev nD) (t : Fin cfg0.N) (ht : 0 < t.val) (g : Fin 8) (r : Fin 16) (d : Fin 704) :
    iblk m c 2 t (ix3 g r d) = X m c (ix3 0 ⟨t.val * 256 - 16 + r.val, by have := point_lt t; omega⟩ (col g d)) := by
  refine Eq.trans ?_ (v32_at m c g _ d)
  blk_simp [iblk, idx_val t]
  blk_ext [idx_val t]
theorem blk3 (c : Dev nD) (t : Fin cfg0.N) (g : Fin 8) (r : Fin 256) (d : Fin 704) :
    iblk m c 3 t (ix3 g r d) = Cert.FfnASpec.up (X m c) (K m c) (B m c) (tok t r) (col g d) := by
  refine Eq.trans ?_ (v36_at m c g _ d)
  blk_simp [iblk, idx_val t]
  blk_ext [idx_val t]
theorem blk4 (c : Dev nD) (t : Fin cfg0.N) (j : Fin 4) (e : Fin 704) (d : Fin 1024) : iblk m c 4 t (ix3 j e d) = W m c (ix3 0 (half j e) d) := by
  refine Eq.trans ?_ (v39_at m c j e d)
  blk_simp [iblk, idx_val t]
  blk_ext [idx_val t]

/-! The operations on tiles. -/

theorem da_at (h : Vec Ideal S256x1024 .bf16) (w : Vec Ideal S1x704x1024 .bf16) (r : Fin 256) (d : Fin 704) :
    k0_pay8 h w (ix2 r d) = ∑ e : Fin 1024, h (ix2 r e) * w (ix3 0 d e) := by
  pointwise [k0_pay8, k0_pay6]
theorem through_at (a : Vec Ideal S256x704 .f32) (g v : Vec Ideal S1x256x704 .bf16) (r : Fin 256) (d : Fin 704) :
    k0_pay28 a (k0_pay23 g) v (ix2 r d) = Cert.FfnASpec.through (a (ix2 r d)) (g (ix3 0 r d)) (v (ix3 0 r d)) := by
  pointwise [k0_pay28, k0_pay23, k0_pay24, k0_pay25, k0_pay26]
  rfl
theorem scaled_at (a : Vec Ideal S256x704 .f32) (g : Vec Ideal S1x256x704 .bf16) (r : Fin 256) (d : Fin 704) :
    k0_pay29 a (k0_pay23 g) (ix2 r d) = a (ix2 r d) * Cert.FfnASpec.silu (g (ix3 0 r d)) := by
  pointwise [k0_pay29, k0_pay23, k0_pay25, k0_pay26]
  rfl
theorem down_at (h : Vec Ideal S256x1024 .bf16) (g v : Vec Ideal S1x256x704 .bf16) (a : Vec Ideal S1x704x1024 .f32) (z : Fin 1) (e : Fin 704) (d : Fin 1024) :
    k0_pay27 (k0_pay6 h) (k0_pay23 g) v a (ix3 z e d) = a (ix3 0 e d) + ∑ r : Fin 256, Cert.FfnASpec.silu (g (ix3 0 r e)) * v (ix3 0 r e) * h (ix2 r d) := by
  pointwise [k0_pay27, k0_pay6, k0_pay23, k0_pay24, k0_pay25, k0_pay26]
  rfl
theorem store_at (a : FVec Ideal S256x704 .f32) (z : Fin 1) (r : Fin 256) (d : Fin 704) : k0_pay37 a (ix3 z r d) = a (ix2 r d) := by
  pointwise [k0_pay37]
theorem bias_at (a : FVec Ideal S256x704 .f32) (s : Vec Ideal S1x1x704 .f32) (y z : Fin 1) (d : Fin 704) :
    k0_pay76 a s (ix3 y z d) = s (ix3 0 0 d) + ∑ r : Fin 256, a (ix2 r d) := by
  pointwise [k0_pay76]
theorem tap_at (b a : FVec Ideal S256x704 .f32) (s : Vec Ideal S1x1x704 .f32) (y z : Fin 1) (d : Fin 704) :
    k0_pay36 b a s (ix3 y z d) = s (ix3 0 0 d) + ∑ r : Fin 256, a (ix2 r d) * b (ix2 r d) := by
  pointwise [k0_pay36]

end Cert.FfnAIdeal.Value
end
-- ==== Proof.FfnA.Taps.lean ====
/- Reading the convolution's inputs two, one and no tokens before. -/
module

public import proofs.«01_k».proof.Proof.FfnA.Blocks

@[expose] public section

set_option maxRecDepth 16384

noncomputable section

open Idealize.ShloMosaic Idealize.ShloMosaic.TcCoe Idealize.SL.Sem

namespace Cert.FfnAIdeal.Value

open Cert.FfnAIdeal Cert.FfnAIdeal.Gen

variable (m : (ℓ : Loc nD τ sig) → Buf (Elt Ideal) ℓ)

/-- The row of the buffer that row `p` of the picking matrix takes. -/
def picked (p : ℕ) : ℕ := if p < 256 then p + 14 else p - 241
theorem picked_bits : ∀ p : Fin 512, Scalar.select (IntOp.cmpi CmpIPredicate.slt (BitVec.ofNat 32 p.val) 256#32)
    (IntOp.addi (BitVec.ofNat 32 p.val) 14#32) (IntOp.addi (IntOp.subi (BitVec.ofNat 32 p.val) 256#32) 15#32) = BitVec.ofNat 32 (picked p.val) := by
  decide +kernel
theorem pick_at (p : Fin 512) (q : Fin 272) : k0_pay7 (F := Ideal) (ix2 p q) = if q.val = picked p.val then (1 : EReal) else 0 := by
  pointwise [k0_pay7]
  rw [picked_bits]
  have hp : picked p.val < 2 ^ 32 := by unfold picked; split <;> omega
  have e : (BitVec.ofNat 32 q.val = BitVec.ofNat 32 (picked p.val)) ↔ q.val = picked p.val :=
    ⟨fun h => by have := congrArg BitVec.toNat h; simp only [BitVec.toNat_ofNat] at this; omega, fun h => by rw [h]⟩
  by_cases h : q.val = picked p.val
  · rw [if_pos h, h]
    simp [Scalar.select, IntOp.cmpi]
  · rw [if_neg h]
    have hb : (BitVec.ofNat 32 q.val == BitVec.ofNat 32 (picked p.val)) = false := beq_eq_false_iff_ne.mpr fun h' => h (e.mp h')
    simp [Scalar.select, IntOp.cmpi, hb]

/-- A row of the matrix product that picks rows. -/
theorem pick_sum (p : Fin 512) (n : ℕ) (hn : picked p.val = n) (h : n < 272) (S : FVec Ideal S272x704 .bf16) (d : Fin 704) :
    ∑ q : Fin 272, k0_pay7 (F := Ideal) (ix2 p q) * S (ix2 q d) = S (ix2 ⟨n, h⟩ d) := by
  rw [Finset.sum_eq_single (⟨n, h⟩ : Fin 272)]
  · rw [pick_at, if_pos hn.symm]
    exact one_mul _
  · intro q _ hq
    rw [pick_at, if_neg (fun e => hq (Fin.ext (e.trans hn)))]
    exact zero_mul _
  · exact fun h' => absurd (Finset.mem_univ _) h'
theorem two_at (S : FVec Ideal S272x704 .bf16) (r : Fin 256) (d : Fin 704) :
    k0_pay20 (k0_pay7 (F := Ideal)) S (ix2 r d) = S (ix2 ⟨14 + r.val, by omega⟩ d) := by
  refine Eq.trans ?_ (pick_sum ⟨r.val, by omega⟩ (14 + r.val) (by unfold picked; rw [if_pos (by simp)]; simp; omega) (by omega) S d)
  pointwise [k0_pay20, k0_pay19]
theorem one_at (S : FVec Ideal S272x704 .bf16) (r : Fin 256) (d : Fin 704) :
    k0_pay21 (k0_pay7 (F := Ideal)) S (ix2 r d) = S (ix2 ⟨15 + r.val, by omega⟩ d) := by
  refine Eq.trans ?_ (pick_sum ⟨256 + r.val, by omega⟩ (15 + r.val) (by unfold picked; rw [if_neg (by simp)]; simp; omega) (by omega) S d)
  pointwise [k0_pay21, k0_pay19]

/-- The first grid point is the only one that has no rows before it. -/
theorem inside : ∀ t : Fin cfg0.N, Scalar.cmpi .sgt (BitVec.ofNat 32 (grid0.coords t 0).val) 0#32 = if 0 < t.val then 1#1 else 0#1 :=
  (by decide +kernel : ∀ t : Fin grid0.N, _)

theorem halo_at (b : BitVec 32) (v : Vec Ideal S1x16x704 .bf16) (x : Fin 16) (d : Fin 704) :
    k0_pay17 b v (ix2 x d) = Scalar.select (Scalar.cmpi .sgt b 0#32) (v (ix3 0 x d)) (0 : EReal) := by
  pointwise [k0_pay17]

/-- The buffer holding the sixteen rows before a slab's tile, then the tile: row `16 - n + r` is `n` tokens before row `r`. -/
theorem stage_at (c : Dev nD) (t : Fin cfg0.N) (a n : ℕ) (hn : n ≤ 16) (ha : a < 8) (i0 : ∀ x, (![a, 0, 0] : Fin 3 → ℕ) x + (![1, 256, 704] : Fin 3 → ℕ) x ≤ S8x256x704.size x)
    (i1 : ∀ x, (![a, 0, 0] : Fin 3 → ℕ) x + (![1, 16, 704] : Fin 3 → ℕ) x ≤ S8x16x704.size x)
    (i3 : ∀ x, (![16, 0] : Fin 2 → ℕ) x + (![256, 704] : Fin 2 → ℕ) x ≤ S272x704.size x)
    (i4 : ∀ x, (![0, 0] : Fin 2 → ℕ) x + (![16, 704] : Fin 2 → ℕ) x ≤ S272x704.size x)
    (i5 : ∀ x, (![0, 0] : Fin 2 → ℕ) x + (![272, 704] : Fin 2 → ℕ) x ≤ S272x704.size x)
    (L : List (View.Piece (Elt Ideal) S272x704 .bf16)) (r : Fin 256) (d : Fin 704) (hr : 16 - n + r.val < 272) :
    (View.whole cc0_scratch0).readCov
      ((⟨Rect.unit ![16, 0] ![256, 704] i3, k0_pay18 (View.ld (iblk m c 1 t) (Rect.unit ![a, 0, 0] ![1, 256, 704] i0))⟩ : View.Piece (Elt Ideal) S272x704 .bf16)
        :: ⟨Rect.unit ![0, 0] ![16, 704] i4, k0_pay17 (BitVec.ofNat 32 (grid0.coords t 0).val) (View.ld (iblk m c 2 t) (Rect.unit ![a, 0, 0] ![1, 16, 704] i1))⟩ :: L)
      (Rect.unit (s := S272x704) ![0, 0] ![272, 704] i5).toLoadRect (ix2 ⟨16 - n + r.val, hr⟩ d)
      = Cert.FfnASpec.back (X m c) n (tok t r) (col ⟨a, ha⟩ d) := by
  have ht := point_lt t
  refine Cert.Stage.rows_read (R := 272) (C := 704) (View.whole cc0_scratch0) i3 i4 i5 _ _ L _ d _ (fun x hx => ?_) (fun hc => ?_)
  · have e : k0_pay18 (View.ld (iblk m c 1 t) (Rect.unit ![a, 0, 0] ![1, 256, 704] i0)) (ix2 x d) = iblk m c 1 t (ix3 ⟨a, ha⟩ x d) := by
      pointwise [k0_pay18, k0_pay16]
    rw [e, blk1]
    unfold Cert.FfnASpec.back
    have hx' : 16 + x.val = 16 - n + r.val := by simpa using hx
    rw [if_pos (show n ≤ t.val * 256 + r.val by omega)]
    exact congrArg (X m c) (congrArg (ix3 0 · _) (Fin.ext (show t.val * 256 + x.val = t.val * 256 + r.val - n by omega)))
  · have hc' : 16 - n + r.val < 16 := by simp at hc; omega
    refine ⟨⟨16 - n + r.val, hc'⟩, by simp, ?_⟩
    have e : k0_pay17 (BitVec.ofNat 32 (grid0.coords t 0).val) (View.ld (iblk m c 2 t) (Rect.unit ![a, 0, 0] ![1, 16, 704] i1)) (ix2 ⟨16 - n + r.val, hc'⟩ d)
        = if 0 < t.val then iblk m c 2 t (ix3 ⟨a, ha⟩ ⟨16 - n + r.val, hc'⟩ d) else (0 : EReal) := by
      have l := Cert.Columns.ld_slab i1 (iblk m c 2 t) 0 ⟨16 - n + r.val, hc'⟩ d ⟨a, ha⟩ (by simp)
      rw [halo_at, inside, l]
      by_cases h : 0 < t.val
      · rw [if_pos h, if_pos h]; rfl
      · rw [if_neg h, if_neg h]; rfl
    rw [e]
    unfold Cert.FfnASpec.back
    split
    · rw [blk2 m c t (by assumption), if_pos (show n ≤ t.val * 256 + r.val by omega)]
      exact congrArg (X m c) (congrArg (ix3 0 · _) (Fin.ext (show t.val * 256 - 16 + (16 - n + r.val) = t.val * 256 + r.val - n by omega)))
    · rw [if_neg (show ¬ n ≤ t.val * 256 + r.val by omega)]

/-! What each slab's operations give at a tile's row and column. -/

theorem none_tile (c : Dev nD) (t : Fin cfg0.N) (a : ℕ) (ha : a < 8) (i0 : ∀ x, (![a, 0, 0] : Fin 3 → ℕ) x + (![1, 256, 704] : Fin 3 → ℕ) x ≤ S8x256x704.size x)
    (r : Fin 256) (d : Fin 704) : k0_pay22 (View.ld (iblk m c 1 t) (Rect.unit ![a, 0, 0] ![1, 256, 704] i0)) (ix2 r d)
      = Cert.FfnASpec.back (X m c) 0 (tok t r) (col ⟨a, ha⟩ d) := by
  have e : ∀ v : Vec Ideal S1x256x704 .bf16, k0_pay22 v (ix2 r d) = v (ix3 0 r d) := by
    intro v
    pointwise [k0_pay22, k0_pay16]
  rw [e, Cert.FfnASpec.back_zero]
  exact (Cert.Columns.ld_slab i0 (iblk m c 1 t) 0 r d ⟨a, ha⟩ (by simp)).trans (blk1 m c t _ r d)
theorem da_tile (c : Dev nD) (t : Fin cfg0.N) (j : Fin 4) (iw : ∀ x, (![j.val, 0, 0] : Fin 3 → ℕ) x + (![1, 704, 1024] : Fin 3 → ℕ) x ≤ S4x704x1024.size x)
    (r : Fin 256) (d : Fin 704) : k0_pay8 (iblk m c 0 t) (View.ld (iblk m c 4 t) (Rect.unit ![j.val, 0, 0] ![1, 704, 1024] iw)) (ix2 r d)
      = Cert.FfnASpec.da (W m c) (H m c) (tok t r) (half j d) := by
  rw [da_at]
  refine Finset.sum_congr rfl fun e _ => ?_
  rw [blk0, Cert.Columns.ld_slab iw (iblk m c 4 t) 0 d e j (by simp), blk4]
theorem up_tile (c : Dev nD) (t : Fin cfg0.N) (g : Fin 8) (a : ℕ) (ha : g.val = a) (i : ∀ x, (![a, 0, 0] : Fin 3 → ℕ) x + (![1, 256, 704] : Fin 3 → ℕ) x ≤ S8x256x704.size x)
    (r : Fin 256) (d : Fin 704) : View.ld (iblk m c 3 t) (Rect.unit ![a, 0, 0] ![1, 256, 704] i) (ix3 0 r d)
      = Cert.FfnASpec.up (X m c) (K m c) (B m c) (tok t r) (col g d) :=
  (Cert.Columns.ld_slab i (iblk m c 3 t) 0 r d g (by simpa using ha)).trans (blk3 m c t g r d)
theorem gate_col (j : Fin 4) (d : Fin 704) : (⟨(half j d).val, by omega⟩ : Fin 5632) = col ⟨j.val, by omega⟩ d := rfl
theorem value_col (j : Fin 4) (d : Fin 704) : (⟨2816 + (half j d).val, by omega⟩ : Fin 5632) = col ⟨j.val + 4, by omega⟩ d :=
  Fin.ext (show 2816 + (j.val * 704 + d.val) = (j.val + 4) * 704 + d.val by omega)

/-- The gate's slabs of the convolution's cotangent. -/
theorem gate_tile (c : Dev nD) (t : Fin cfg0.N) (j : ℕ) (k : ℕ) (hj : j < 4) (hk : k = j + 4) (iw : ∀ x, (![j, 0, 0] : Fin 3 → ℕ) x + (![1, 704, 1024] : Fin 3 → ℕ) x ≤ S4x704x1024.size x)
    (ig : ∀ x, (![j, 0, 0] : Fin 3 → ℕ) x + (![1, 256, 704] : Fin 3 → ℕ) x ≤ S8x256x704.size x)
    (iv : ∀ x, (![k, 0, 0] : Fin 3 → ℕ) x + (![1, 256, 704] : Fin 3 → ℕ) x ≤ S8x256x704.size x) (r : Fin 256) (d : Fin 704) :
    k0_pay28 (k0_pay8 (iblk m c 0 t) (View.ld (iblk m c 4 t) (Rect.unit ![j, 0, 0] ![1, 704, 1024] iw)))
      (k0_pay23 (View.ld (iblk m c 3 t) (Rect.unit ![j, 0, 0] ![1, 256, 704] ig))) (View.ld (iblk m c 3 t) (Rect.unit ![k, 0, 0] ![1, 256, 704] iv)) (ix2 r d)
      = Cert.FfnASpec.dup (X m c) (K m c) (B m c) (W m c) (H m c) (tok t r) (col ⟨j, by omega⟩ d) := by
  rw [through_at, da_tile m c t ⟨j, hj⟩ iw, up_tile m c t ⟨j, by omega⟩ j rfl ig, up_tile m c t ⟨k, by omega⟩ k rfl iv]
  unfold Cert.FfnASpec.dup
  rw [dif_pos (show (col ⟨j, by omega⟩ d).val < 2816 from (show j * 704 + d.val < 2816 by omega))]
  refine congrArg _ (congrArg _ (Fin.ext ?_))
  show k * 704 + d.val = 2816 + (j * 704 + d.val)
  omega
/-- The value's slabs. -/
theorem value_tile (c : Dev nD) (t : Fin cfg0.N) (j : ℕ) (k : ℕ) (hj : j < 4) (hk : k = j + 4) (iw : ∀ x, (![j, 0, 0] : Fin 3 → ℕ) x + (![1, 704, 1024] : Fin 3 → ℕ) x ≤ S4x704x1024.size x)
    (ig : ∀ x, (![j, 0, 0] : Fin 3 → ℕ) x + (![1, 256, 704] : Fin 3 → ℕ) x ≤ S8x256x704.size x) (r : Fin 256) (d : Fin 704) :
    k0_pay29 (k0_pay8 (iblk m c 0 t) (View.ld (iblk m c 4 t) (Rect.unit ![j, 0, 0] ![1, 704, 1024] iw)))
      (k0_pay23 (View.ld (iblk m c 3 t) (Rect.unit ![j, 0, 0] ![1, 256, 704] ig))) (ix2 r d)
      = Cert.FfnASpec.dup (X m c) (K m c) (B m c) (W m c) (H m c) (tok t r) (col ⟨k, by omega⟩ d) := by
  rw [scaled_at, da_tile m c t ⟨j, hj⟩ iw, up_tile m c t ⟨j, by omega⟩ j rfl ig]
  unfold Cert.FfnASpec.dup
  rw [dif_neg (show ¬ (col ⟨k, by omega⟩ d).val < 2816 from (show ¬ k * 704 + d.val < 2816 by omega))]
  have e : half ⟨j, hj⟩ d = ⟨(col ⟨k, by omega⟩ d).val - 2816, by have := d.isLt; show k * 704 + d.val - 2816 < 2816; omega⟩ :=
    Fin.ext (show j * 704 + d.val = k * 704 + d.val - 2816 by omega)
  rw [← e]
/-- What a tile adds to the gradient of the product's matrix. -/
theorem down_tile (c : Dev nD) (t : Fin cfg0.N) (j : ℕ) (k : ℕ) (hj : j < 4) (hk : k = j + 4)
    (ig : ∀ x, (![j, 0, 0] : Fin 3 → ℕ) x + (![1, 256, 704] : Fin 3 → ℕ) x ≤ S8x256x704.size x)
    (iv : ∀ x, (![k, 0, 0] : Fin 3 → ℕ) x + (![1, 256, 704] : Fin 3 → ℕ) x ≤ S8x256x704.size x)
    (A : Vec Ideal S1x704x1024 .f32) (z : Fin 1) (e : Fin 704) (d : Fin 1024) :
    k0_pay27 (k0_pay6 (iblk m c 0 t)) (k0_pay23 (View.ld (iblk m c 3 t) (Rect.unit ![j, 0, 0] ![1, 256, 704] ig)))
      (View.ld (iblk m c 3 t) (Rect.unit ![k, 0, 0] ![1, 256, 704] iv)) A (ix3 z e d)
      = A (ix3 0 e d) + ∑ r : Fin 256, Cert.FfnASpec.silu (Cert.FfnASpec.gate (X m c) (K m c) (B m c) (tok t r) (half ⟨j, hj⟩ e))
        * Cert.FfnASpec.value (X m c) (K m c) (B m c) (tok t r) (half ⟨j, hj⟩ e) * H m c (ix2 (tok t r) d) := by
  rw [down_at]
  refine congrArg (A (ix3 0 e d) + ·) (Finset.sum_congr rfl fun r _ => ?_)
  rw [blk0, up_tile m c t ⟨j, by omega⟩ j rfl ig, up_tile m c t ⟨k, by omega⟩ k rfl iv]
  subst hk
  rw [← value_col ⟨j, hj⟩ e]

end Cert.FfnAIdeal.Value
end
-- ==== Proof.FfnA.Sums.lean ====
/- The gradient of the convolution's weights, summed over the tiles. -/
module

public import proofs.«01_k».proof.Proof.FfnA.Taps
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.FfnAIdeal.Value

open Cert.FfnAIdeal Cert.FfnAIdeal.Gen

variable (m : (ℓ : Loc nD τ sig) → Buf (Elt Ideal) ℓ)

/-- What one tile adds to the gradient of the convolution's weights. -/
def tapPart (c : Dev nD) (t : Fin cfg0.N) (n : Fin 3) (g : Fin 8) (d : Fin 704) : EReal :=
  ∑ r : Fin 256, Cert.FfnASpec.dup (X m c) (K m c) (B m c) (W m c) (H m c) (tok t r) (col g d) * Cert.FfnASpec.back (X m c) (2 - n.val) (tok t r) (col g d)

theorem zero3 (i : S8x3x704.Idx) : k0_pay3 (F := Ideal) i = (0 : EReal) := by pointwise [k0_pay3]

theorem part_at (c : Dev nD) (t : Fin cfg0.N) (n : Fin 3) (g : Fin 8) (d : Fin 704) (a k : ℕ) (ha : a < 8) (hk : k < 3) (hg : g.val = a) (hn : n.val = k) :
    (0 : EReal) + tapPart m c t ⟨k, hk⟩ ⟨a, ha⟩ d = 0 + tapPart m c t n g d := by
  obtain rfl : g = ⟨a, ha⟩ := Fin.ext hg
  obtain rfl : n = ⟨k, hk⟩ := Fin.ext hn
  rfl

set_option maxHeartbeats 4000000 in
/-- At the first point a row of the weights' gradient starts with the tile's part. -/
theorem taps_first (c : Dev nD) (t : Fin cfg0.N) (h : t.val % 16 = 0) (n : Fin 3) (g : Fin 8) (d : Fin 704) :
    (outsAt0 m c t.val t.isLt).2.2.1 (ix3 g n d) = 0 + tapPart m c t n g d := by
  have hg8 : g.val = 0 ∨ g.val = 1 ∨ g.val = 2 ∨ g.val = 3 ∨ g.val = 4 ∨ g.val = 5 ∨ g.val = 6 ∨ g.val = 7 := by omega
  have hn3 : n.val = 0 ∨ n.val = 1 ∨ n.val = 2 := by omega
  rw [outsAt0_A m c t h (by omega)]; dsimp only; frame_out
  refine Cert.SlabRows.canon_row _ _ _ g n d _ (fun hg hn => ?_) (fun e72 => ?_)
  · refine Eq.trans ?_ (part_at m c t n g d 7 2 (by decide) (by decide) hg hn)
    refine (tap_at _ _ _ 0 0 d).trans (congrArg₂ (· + ·) ((Cert.SlabRows.read_row _ _ _ ⟨7, by decide⟩ ⟨2, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))))))))))))))))))))))) (Finset.sum_congr rfl fun r' _ => congrArg₂ (· * ·) ?_ ?_))
    · exact value_tile m c t 3 7 (by omega) rfl _ _ r' d
    · exact none_tile m c t 7 (by omega) _ r' d
  refine Cert.SlabRows.canon_row _ _ _ g n d _ (fun hg hn => ?_) (fun e71 => ?_)
  · refine Eq.trans ?_ (part_at m c t n g d 7 1 (by decide) (by decide) hg hn)
    refine (tap_at _ _ _ 0 0 d).trans (congrArg₂ (· + ·) ((Cert.SlabRows.read_row _ _ _ ⟨7, by decide⟩ ⟨1, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))))))))))))))))))))))) (Finset.sum_congr rfl fun r' _ => congrArg₂ (· * ·) ?_ ?_))
    · exact value_tile m c t 3 7 (by omega) rfl _ _ r' d
    · exact (one_at _ r' d).trans (stage_at m c t 7 1 (by omega) (by omega) _ _ _ _ _ _ r' d (by omega))
  refine Cert.SlabRows.canon_row _ _ _ g n d _ (fun hg hn => ?_) (fun e70 => ?_)
  · refine Eq.trans ?_ (part_at m c t n g d 7 0 (by decide) (by decide) hg hn)
    refine (tap_at _ _ _ 0 0 d).trans (congrArg₂ (· + ·) ((Cert.SlabRows.read_row _ _ _ ⟨7, by decide⟩ ⟨0, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))))))))))))))))))))) (Finset.sum_congr rfl fun r' _ => congrArg₂ (· * ·) ?_ ?_))
    · exact value_tile m c t 3 7 (by omega) rfl _ _ r' d
    · exact (two_at _ r' d).trans (stage_at m c t 7 2 (by omega) (by omega) _ _ _ _ _ _ r' d (by omega))
  refine Cert.SlabRows.canon_row _ _ _ g n d _ (fun hg hn => ?_) (fun e32 => ?_)
  · refine Eq.trans ?_ (part_at m c t n g d 3 2 (by decide) (by decide) hg hn)
    refine (tap_at _ _ _ 0 0 d).trans (congrArg₂ (· + ·) ((Cert.SlabRows.read_row _ _ _ ⟨3, by decide⟩ ⟨2, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))))))))))))))))))))) (Finset.sum_congr rfl fun r' _ => congrArg₂ (· * ·) ?_ ?_))
    · exact gate_tile m c t 3 7 (by omega) rfl _ _ _ r' d
    · exact none_tile m c t 3 (by omega) _ r' d
  refine Cert.SlabRows.canon_row _ _ _ g n d _ (fun hg hn => ?_) (fun e31 => ?_)
  · refine Eq.trans ?_ (part_at m c t n g d 3 1 (by decide) (by decide) hg hn)
    refine (tap_at _ _ _ 0 0 d).trans (congrArg₂ (· + ·) ((Cert.SlabRows.read_row _ _ _ ⟨3, by decide⟩ ⟨1, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))))))))))))))))))) (Finset.sum_congr rfl fun r' _ => congrArg₂ (· * ·) ?_ ?_))
    · exact gate_tile m c t 3 7 (by omega) rfl _ _ _ r' d
    · exact (one_at _ r' d).trans (stage_at m c t 3 1 (by omega) (by omega) _ _ _ _ _ _ r' d (by omega))
  refine Cert.SlabRows.canon_row _ _ _ g n d _ (fun hg hn => ?_) (fun e30 => ?_)
  · refine Eq.trans ?_ (part_at m c t n g d 3 0 (by decide) (by decide) hg hn)
    refine (tap_at _ _ _ 0 0 d).trans (congrArg₂ (· + ·) ((Cert.SlabRows.read_row _ _ _ ⟨3, by decide⟩ ⟨0, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))))))))))))))))))) (Finset.sum_congr rfl fun r' _ => congrArg₂ (· * ·) ?_ ?_))
    · exact gate_tile m c t 3 7 (by omega) rfl _ _ _ r' d
    · exact (two_at _ r' d).trans (stage_at m c t 3 2 (by omega) (by omega) _ _ _ _ _ _ r' d (by omega))
  refine Cert.SlabRows.canon_row _ _ _ g n d _ (fun hg hn => ?_) (fun e62 => ?_)
  · refine Eq.trans ?_ (part_at m c t n g d 6 2 (by decide) (by decide) hg hn)
    refine (tap_at _ _ _ 0 0 d).trans (congrArg₂ (· + ·) ((Cert.SlabRows.read_row _ _ _ ⟨6, by decide⟩ ⟨2, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))))))))))))))))) (Finset.sum_congr rfl fun r' _ => congrArg₂ (· * ·) ?_ ?_))
    · exact value_tile m c t 2 6 (by omega) rfl _ _ r' d
    · exact none_tile m c t 6 (by omega) _ r' d
  refine Cert.SlabRows.canon_row _ _ _ g n d _ (fun hg hn => ?_) (fun e61 => ?_)
  · refine Eq.trans ?_ (part_at m c t n g d 6 1 (by decide) (by decide) hg hn)
    refine (tap_at _ _ _ 0 0 d).trans (congrArg₂ (· + ·) ((Cert.SlabRows.read_row _ _ _ ⟨6, by decide⟩ ⟨1, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))))))))))))))))) (Finset.sum_congr rfl fun r' _ => congrArg₂ (· * ·) ?_ ?_))
    · exact value_tile m c t 2 6 (by omega) rfl _ _ r' d
    · exact (one_at _ r' d).trans (stage_at m c t 6 1 (by omega) (by omega) _ _ _ _ _ _ r' d (by omega))
  refine Cert.SlabRows.canon_row _ _ _ g n d _ (fun hg hn => ?_) (fun e60 => ?_)
  · refine Eq.trans ?_ (part_at m c t n g d 6 0 (by decide) (by decide) hg hn)
    refine (tap_at _ _ _ 0 0 d).trans (congrArg₂ (· + ·) ((Cert.SlabRows.read_row _ _ _ ⟨6, by decide⟩ ⟨0, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))))))))))))))) (Finset.sum_congr rfl fun r' _ => congrArg₂ (· * ·) ?_ ?_))
    · exact value_tile m c t 2 6 (by omega) rfl _ _ r' d
    · exact (two_at _ r' d).trans (stage_at m c t 6 2 (by omega) (by omega) _ _ _ _ _ _ r' d (by omega))
  refine Cert.SlabRows.canon_row _ _ _ g n d _ (fun hg hn => ?_) (fun e22 => ?_)
  · refine Eq.trans ?_ (part_at m c t n g d 2 2 (by decide) (by decide) hg hn)
    refine (tap_at _ _ _ 0 0 d).trans (congrArg₂ (· + ·) ((Cert.SlabRows.read_row _ _ _ ⟨2, by decide⟩ ⟨2, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))))))))))))))) (Finset.sum_congr rfl fun r' _ => congrArg₂ (· * ·) ?_ ?_))
    · exact gate_tile m c t 2 6 (by omega) rfl _ _ _ r' d
    · exact none_tile m c t 2 (by omega) _ r' d
  refine Cert.SlabRows.canon_row _ _ _ g n d _ (fun hg hn => ?_) (fun e21 => ?_)
  · refine Eq.trans ?_ (part_at m c t n g d 2 1 (by decide) (by decide) hg hn)
    refine (tap_at _ _ _ 0 0 d).trans (congrArg₂ (· + ·) ((Cert.SlabRows.read_row _ _ _ ⟨2, by decide⟩ ⟨1, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))))))))))))) (Finset.sum_congr rfl fun r' _ => congrArg₂ (· * ·) ?_ ?_))
    · exact gate_tile m c t 2 6 (by omega) rfl _ _ _ r' d
    · exact (one_at _ r' d).trans (stage_at m c t 2 1 (by omega) (by omega) _ _ _ _ _ _ r' d (by omega))
  refine Cert.SlabRows.canon_row _ _ _ g n d _ (fun hg hn => ?_) (fun e20 => ?_)
  · refine Eq.trans ?_ (part_at m c t n g d 2 0 (by decide) (by decide) hg hn)
    refine (tap_at _ _ _ 0 0 d).trans (congrArg₂ (· + ·) ((Cert.SlabRows.read_row _ _ _ ⟨2, by decide⟩ ⟨0, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))))))))))))) (Finset.sum_congr rfl fun r' _ => congrArg₂ (· * ·) ?_ ?_))
    · exact gate_tile m c t 2 6 (by omega) rfl _ _ _ r' d
    · exact (two_at _ r' d).trans (stage_at m c t 2 2 (by omega) (by omega) _ _ _ _ _ _ r' d (by omega))
  refine Cert.SlabRows.canon_row _ _ _ g n d _ (fun hg hn => ?_) (fun e52 => ?_)
  · refine Eq.trans ?_ (part_at m c t n g d 5 2 (by decide) (by decide) hg hn)
    refine (tap_at _ _ _ 0 0 d).trans (congrArg₂ (· + ·) ((Cert.SlabRows.read_row _ _ _ ⟨5, by decide⟩ ⟨2, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))))))))))) (Finset.sum_congr rfl fun r' _ => congrArg₂ (· * ·) ?_ ?_))
    · exact value_tile m c t 1 5 (by omega) rfl _ _ r' d
    · exact none_tile m c t 5 (by omega) _ r' d
  refine Cert.SlabRows.canon_row _ _ _ g n d _ (fun hg hn => ?_) (fun e51 => ?_)
  · refine Eq.trans ?_ (part_at m c t n g d 5 1 (by decide) (by decide) hg hn)
    refine (tap_at _ _ _ 0 0 d).trans (congrArg₂ (· + ·) ((Cert.SlabRows.read_row _ _ _ ⟨5, by decide⟩ ⟨1, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))))))))))) (Finset.sum_congr rfl fun r' _ => congrArg₂ (· * ·) ?_ ?_))
    · exact value_tile m c t 1 5 (by omega) rfl _ _ r' d
    · exact (one_at _ r' d).trans (stage_at m c t 5 1 (by omega) (by omega) _ _ _ _ _ _ r' d (by omega))
  refine Cert.SlabRows.canon_row _ _ _ g n d _ (fun hg hn => ?_) (fun e50 => ?_)
  · refine Eq.trans ?_ (part_at m c t n g d 5 0 (by decide) (by decide) hg hn)
    refine (tap_at _ _ _ 0 0 d).trans (congrArg₂ (· + ·) ((Cert.SlabRows.read_row _ _ _ ⟨5, by decide⟩ ⟨0, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))))))))) (Finset.sum_congr rfl fun r' _ => congrArg₂ (· * ·) ?_ ?_))
    · exact value_tile m c t 1 5 (by omega) rfl _ _ r' d
    · exact (two_at _ r' d).trans (stage_at m c t 5 2 (by omega) (by omega) _ _ _ _ _ _ r' d (by omega))
  refine Cert.SlabRows.canon_row _ _ _ g n d _ (fun hg hn => ?_) (fun e12 => ?_)
  · refine Eq.trans ?_ (part_at m c t n g d 1 2 (by decide) (by decide) hg hn)
    refine (tap_at _ _ _ 0 0 d).trans (congrArg₂ (· + ·) ((Cert.SlabRows.read_row _ _ _ ⟨1, by decide⟩ ⟨2, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))))))))) (Finset.sum_congr rfl fun r' _ => congrArg₂ (· * ·) ?_ ?_))
    · exact gate_tile m c t 1 5 (by omega) rfl _ _ _ r' d
    · exact none_tile m c t 1 (by omega) _ r' d
  refine Cert.SlabRows.canon_row _ _ _ g n d _ (fun hg hn => ?_) (fun e11 => ?_)
  · refine Eq.trans ?_ (part_at m c t n g d 1 1 (by decide) (by decide) hg hn)
    refine (tap_at _ _ _ 0 0 d).trans (congrArg₂ (· + ·) ((Cert.SlabRows.read_row _ _ _ ⟨1, by decide⟩ ⟨1, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))))))) (Finset.sum_congr rfl fun r' _ => congrArg₂ (· * ·) ?_ ?_))
    · exact gate_tile m c t 1 5 (by omega) rfl _ _ _ r' d
    · exact (one_at _ r' d).trans (stage_at m c t 1 1 (by omega) (by omega) _ _ _ _ _ _ r' d (by omega))
  refine Cert.SlabRows.canon_row _ _ _ g n d _ (fun hg hn => ?_) (fun e10 => ?_)
  · refine Eq.trans ?_ (part_at m c t n g d 1 0 (by decide) (by decide) hg hn)
    refine (tap_at _ _ _ 0 0 d).trans (congrArg₂ (· + ·) ((Cert.SlabRows.read_row _ _ _ ⟨1, by decide⟩ ⟨0, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))))))) (Finset.sum_congr rfl fun r' _ => congrArg₂ (· * ·) ?_ ?_))
    · exact gate_tile m c t 1 5 (by omega) rfl _ _ _ r' d
    · exact (two_at _ r' d).trans (stage_at m c t 1 2 (by omega) (by omega) _ _ _ _ _ _ r' d (by omega))
  refine Cert.SlabRows.canon_row _ _ _ g n d _ (fun hg hn => ?_) (fun e42 => ?_)
  · refine Eq.trans ?_ (part_at m c t n g d 4 2 (by decide) (by decide) hg hn)
    refine (tap_at _ _ _ 0 0 d).trans (congrArg₂ (· + ·) ((Cert.SlabRows.read_row _ _ _ ⟨4, by decide⟩ ⟨2, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))))) (Finset.sum_congr rfl fun r' _ => congrArg₂ (· * ·) ?_ ?_))
    · exact value_tile m c t 0 4 (by omega) rfl _ _ r' d
    · exact none_tile m c t 4 (by omega) _ r' d
  refine Cert.SlabRows.canon_row _ _ _ g n d _ (fun hg hn => ?_) (fun e41 => ?_)
  · refine Eq.trans ?_ (part_at m c t n g d 4 1 (by decide) (by decide) hg hn)
    refine (tap_at _ _ _ 0 0 d).trans (congrArg₂ (· + ·) ((Cert.SlabRows.read_row _ _ _ ⟨4, by decide⟩ ⟨1, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))))) (Finset.sum_congr rfl fun r' _ => congrArg₂ (· * ·) ?_ ?_))
    · exact value_tile m c t 0 4 (by omega) rfl _ _ r' d
    · exact (one_at _ r' d).trans (stage_at m c t 4 1 (by omega) (by omega) _ _ _ _ _ _ r' d (by omega))
  refine Cert.SlabRows.canon_row _ _ _ g n d _ (fun hg hn => ?_) (fun e40 => ?_)
  · refine Eq.trans ?_ (part_at m c t n g d 4 0 (by decide) (by decide) hg hn)
    refine (tap_at _ _ _ 0 0 d).trans (congrArg₂ (· + ·) ((Cert.SlabRows.read_row _ _ _ ⟨4, by decide⟩ ⟨0, by decide⟩ d rfl rfl).trans ((Cert.SlabRows.canon_skip _ _ _ _ _ d (by decide)).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide))))))) (Finset.sum_congr rfl fun r' _ => congrArg₂ (· * ·) ?_ ?_))
    · exact value_tile m c t 0 4 (by omega) rfl _ _ r' d
    · exact (two_at _ r' d).trans (stage_at m c t 4 2 (by omega) (by omega) _ _ _ _ _ _ r' d (by omega))
  refine Cert.SlabRows.canon_row _ _ _ g n d _ (fun hg hn => ?_) (fun e02 => ?_)
  · refine Eq.trans ?_ (part_at m c t n g d 0 2 (by decide) (by decide) hg hn)
    refine (tap_at _ _ _ 0 0 d).trans (congrArg₂ (· + ·) ((Cert.SlabRows.read_row _ _ _ ⟨0, by decide⟩ ⟨2, by decide⟩ d rfl rfl).trans ((Cert.SlabRows.canon_skip _ _ _ _ _ d (by decide)).trans ((Cert.SlabRows.canon_skip _ _ _ _ _ d (by decide)).trans (Cert.Columns.canon_slab _ _ _ _ _ d _ (fun x _ => zero3 _) (fun h => absurd h (by decide)))))) (Finset.sum_congr rfl fun r' _ => congrArg₂ (· * ·) ?_ ?_))
    · exact gate_tile m c t 0 4 (by omega) rfl _ _ _ r' d
    · exact none_tile m c t 0 (by omega) _ r' d
  refine Cert.SlabRows.canon_row _ _ _ g n d _ (fun hg hn => ?_) (fun e01 => ?_)
  · refine Eq.trans ?_ (part_at m c t n g d 0 1 (by decide) (by decide) hg hn)
    refine (tap_at _ _ _ 0 0 d).trans (congrArg₂ (· + ·) ((Cert.SlabRows.read_row _ _ _ ⟨0, by decide⟩ ⟨1, by decide⟩ d rfl rfl).trans ((Cert.SlabRows.canon_skip _ _ _ _ _ d (by decide)).trans (Cert.Columns.canon_slab _ _ _ _ _ d _ (fun x _ => zero3 _) (fun h => absurd h (by decide))))) (Finset.sum_congr rfl fun r' _ => congrArg₂ (· * ·) ?_ ?_))
    · exact gate_tile m c t 0 4 (by omega) rfl _ _ _ r' d
    · exact (one_at _ r' d).trans (stage_at m c t 0 1 (by omega) (by omega) _ _ _ _ _ _ r' d (by omega))
  refine Cert.SlabRows.canon_row _ _ _ g n d _ (fun hg hn => ?_) (fun e00 => ?_)
  · refine Eq.trans ?_ (part_at m c t n g d 0 0 (by decide) (by decide) hg hn)
    refine (tap_at _ _ _ 0 0 d).trans (congrArg₂ (· + ·) ((Cert.SlabRows.read_row _ _ _ ⟨0, by decide⟩ ⟨0, by decide⟩ d rfl rfl).trans (Cert.Columns.canon_slab _ _ _ _ _ d _ (fun x _ => zero3 _) (fun h => absurd h (by decide)))) (Finset.sum_congr rfl fun r' _ => congrArg₂ (· * ·) ?_ ?_))
    · exact gate_tile m c t 0 4 (by omega) rfl _ _ _ r' d
    · exact (two_at _ r' d).trans (stage_at m c t 0 2 (by omega) (by omega) _ _ _ _ _ _ r' d (by omega))
  exfalso
  clear h
  rcases hg8 with hg | hg | hg | hg | hg | hg | hg | hg <;> rcases hn3 with hn | hn | hn
  · exact e00 ⟨hg, hn⟩
  · exact e01 ⟨hg, hn⟩
  · exact e02 ⟨hg, hn⟩
  · exact e10 ⟨hg, hn⟩
  · exact e11 ⟨hg, hn⟩
  · exact e12 ⟨hg, hn⟩
  · exact e20 ⟨hg, hn⟩
  · exact e21 ⟨hg, hn⟩
  · exact e22 ⟨hg, hn⟩
  · exact e30 ⟨hg, hn⟩
  · exact e31 ⟨hg, hn⟩
  · exact e32 ⟨hg, hn⟩
  · exact e40 ⟨hg, hn⟩
  · exact e41 ⟨hg, hn⟩
  · exact e42 ⟨hg, hn⟩
  · exact e50 ⟨hg, hn⟩
  · exact e51 ⟨hg, hn⟩
  · exact e52 ⟨hg, hn⟩
  · exact e60 ⟨hg, hn⟩
  · exact e61 ⟨hg, hn⟩
  · exact e62 ⟨hg, hn⟩
  · exact e70 ⟨hg, hn⟩
  · exact e71 ⟨hg, hn⟩
  · exact e72 ⟨hg, hn⟩

set_option maxHeartbeats 4000000 in
/-- At a later point a row of the weights' gradient grows by the tile's part. -/
theorem taps_next (c : Dev nD) (t : Fin cfg0.N) (h : ¬ t.val % 16 = 0) (n : Fin 3) (g : Fin 8) (d : Fin 704) :
    (outsAt0 m c t.val t.isLt).2.2.1 (ix3 g n d) = (outsAt0 m c (t.val - 1) (Nat.lt_of_le_of_lt (Nat.sub_le _ _) t.isLt)).2.2.1 (ix3 g n d) + tapPart m c t n g d := by
  have hg8 : g.val = 0 ∨ g.val = 1 ∨ g.val = 2 ∨ g.val = 3 ∨ g.val = 4 ∨ g.val = 5 ∨ g.val = 6 ∨ g.val = 7 := by omega
  have hn3 : n.val = 0 ∨ n.val = 1 ∨ n.val = 2 := by omega
  by_cases h' : t.val % 16 = 15
  · rw [outsAt0_C m c t h h']; dsimp only; frame_out
    refine Cert.SlabRows.canon_row _ _ _ g n d _ (fun hg hn => ?_) (fun e72 => ?_)
    · obtain rfl : g = ⟨7, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 3 7 (by omega) rfl _ _ r' d
      · exact none_tile m c t 7 (by omega) _ r' d
    refine Cert.SlabRows.canon_row _ _ _ g n d _ (fun hg hn => ?_) (fun e71 => ?_)
    · obtain rfl : g = ⟨7, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 3 7 (by omega) rfl _ _ r' d
      · exact (one_at _ r' d).trans (stage_at m c t 7 1 (by omega) (by omega) _ _ _ _ _ _ r' d (by omega))
    refine Cert.SlabRows.canon_row _ _ _ g n d _ (fun hg hn => ?_) (fun e70 => ?_)
    · obtain rfl : g = ⟨7, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 3 7 (by omega) rfl _ _ r' d
      · exact (two_at _ r' d).trans (stage_at m c t 7 2 (by omega) (by omega) _ _ _ _ _ _ r' d (by omega))
    refine Cert.SlabRows.canon_row _ _ _ g n d _ (fun hg hn => ?_) (fun e32 => ?_)
    · obtain rfl : g = ⟨3, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 3 7 (by omega) rfl _ _ _ r' d
      · exact none_tile m c t 3 (by omega) _ r' d
    refine Cert.SlabRows.canon_row _ _ _ g n d _ (fun hg hn => ?_) (fun e31 => ?_)
    · obtain rfl : g = ⟨3, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 3 7 (by omega) rfl _ _ _ r' d
      · exact (one_at _ r' d).trans (stage_at m c t 3 1 (by omega) (by omega) _ _ _ _ _ _ r' d (by omega))
    refine Cert.SlabRows.canon_row _ _ _ g n d _ (fun hg hn => ?_) (fun e30 => ?_)
    · obtain rfl : g = ⟨3, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 3 7 (by omega) rfl _ _ _ r' d
      · exact (two_at _ r' d).trans (stage_at m c t 3 2 (by omega) (by omega) _ _ _ _ _ _ r' d (by omega))
    refine Cert.SlabRows.canon_row _ _ _ g n d _ (fun hg hn => ?_) (fun e62 => ?_)
    · obtain rfl : g = ⟨6, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 2 6 (by omega) rfl _ _ r' d
      · exact none_tile m c t 6 (by omega) _ r' d
    refine Cert.SlabRows.canon_row _ _ _ g n d _ (fun hg hn => ?_) (fun e61 => ?_)
    · obtain rfl : g = ⟨6, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 2 6 (by omega) rfl _ _ r' d
      · exact (one_at _ r' d).trans (stage_at m c t 6 1 (by omega) (by omega) _ _ _ _ _ _ r' d (by omega))
    refine Cert.SlabRows.canon_row _ _ _ g n d _ (fun hg hn => ?_) (fun e60 => ?_)
    · obtain rfl : g = ⟨6, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 2 6 (by omega) rfl _ _ r' d
      · exact (two_at _ r' d).trans (stage_at m c t 6 2 (by omega) (by omega) _ _ _ _ _ _ r' d (by omega))
    refine Cert.SlabRows.canon_row _ _ _ g n d _ (fun hg hn => ?_) (fun e22 => ?_)
    · obtain rfl : g = ⟨2, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 2 6 (by omega) rfl _ _ _ r' d
      · exact none_tile m c t 2 (by omega) _ r' d
    refine Cert.SlabRows.canon_row _ _ _ g n d _ (fun hg hn => ?_) (fun e21 => ?_)
    · obtain rfl : g = ⟨2, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 2 6 (by omega) rfl _ _ _ r' d
      · exact (one_at _ r' d).trans (stage_at m c t 2 1 (by omega) (by omega) _ _ _ _ _ _ r' d (by omega))
    refine Cert.SlabRows.canon_row _ _ _ g n d _ (fun hg hn => ?_) (fun e20 => ?_)
    · obtain rfl : g = ⟨2, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 2 6 (by omega) rfl _ _ _ r' d
      · exact (two_at _ r' d).trans (stage_at m c t 2 2 (by omega) (by omega) _ _ _ _ _ _ r' d (by omega))
    refine Cert.SlabRows.canon_row _ _ _ g n d _ (fun hg hn => ?_) (fun e52 => ?_)
    · obtain rfl : g = ⟨5, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 1 5 (by omega) rfl _ _ r' d
      · exact none_tile m c t 5 (by omega) _ r' d
    refine Cert.SlabRows.canon_row _ _ _ g n d _ (fun hg hn => ?_) (fun e51 => ?_)
    · obtain rfl : g = ⟨5, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 1 5 (by omega) rfl _ _ r' d
      · exact (one_at _ r' d).trans (stage_at m c t 5 1 (by omega) (by omega) _ _ _ _ _ _ r' d (by omega))
    refine Cert.SlabRows.canon_row _ _ _ g n d _ (fun hg hn => ?_) (fun e50 => ?_)
    · obtain rfl : g = ⟨5, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 1 5 (by omega) rfl _ _ r' d
      · exact (two_at _ r' d).trans (stage_at m c t 5 2 (by omega) (by omega) _ _ _ _ _ _ r' d (by omega))
    refine Cert.SlabRows.canon_row _ _ _ g n d _ (fun hg hn => ?_) (fun e12 => ?_)
    · obtain rfl : g = ⟨1, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 1 5 (by omega) rfl _ _ _ r' d
      · exact none_tile m c t 1 (by omega) _ r' d
    refine Cert.SlabRows.canon_row _ _ _ g n d _ (fun hg hn => ?_) (fun e11 => ?_)
    · obtain rfl : g = ⟨1, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 1 5 (by omega) rfl _ _ _ r' d
      · exact (one_at _ r' d).trans (stage_at m c t 1 1 (by omega) (by omega) _ _ _ _ _ _ r' d (by omega))
    refine Cert.SlabRows.canon_row _ _ _ g n d _ (fun hg hn => ?_) (fun e10 => ?_)
    · obtain rfl : g = ⟨1, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 1 5 (by omega) rfl _ _ _ r' d
      · exact (two_at _ r' d).trans (stage_at m c t 1 2 (by omega) (by omega) _ _ _ _ _ _ r' d (by omega))
    refine Cert.SlabRows.canon_row _ _ _ g n d _ (fun hg hn => ?_) (fun e42 => ?_)
    · obtain rfl : g = ⟨4, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 0 4 (by omega) rfl _ _ r' d
      · exact none_tile m c t 4 (by omega) _ r' d
    refine Cert.SlabRows.canon_row _ _ _ g n d _ (fun hg hn => ?_) (fun e41 => ?_)
    · obtain rfl : g = ⟨4, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 0 4 (by omega) rfl _ _ r' d
      · exact (one_at _ r' d).trans (stage_at m c t 4 1 (by omega) (by omega) _ _ _ _ _ _ r' d (by omega))
    refine Cert.SlabRows.canon_row _ _ _ g n d _ (fun hg hn => ?_) (fun e40 => ?_)
    · obtain rfl : g = ⟨4, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 0 4 (by omega) rfl _ _ r' d
      · exact (two_at _ r' d).trans (stage_at m c t 4 2 (by omega) (by omega) _ _ _ _ _ _ r' d (by omega))
    refine Cert.SlabRows.canon_row _ _ _ g n d _ (fun hg hn => ?_) (fun e02 => ?_)
    · obtain rfl : g = ⟨0, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 0 4 (by omega) rfl _ _ _ r' d
      · exact none_tile m c t 0 (by omega) _ r' d
    refine Cert.SlabRows.canon_row _ _ _ g n d _ (fun hg hn => ?_) (fun e01 => ?_)
    · obtain rfl : g = ⟨0, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 0 4 (by omega) rfl _ _ _ r' d
      · exact (one_at _ r' d).trans (stage_at m c t 0 1 (by omega) (by omega) _ _ _ _ _ _ r' d (by omega))
    refine Cert.SlabRows.canon_row _ _ _ g n d _ (fun hg hn => ?_) (fun e00 => ?_)
    · obtain rfl : g = ⟨0, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 0 4 (by omega) rfl _ _ _ r' d
      · exact (two_at _ r' d).trans (stage_at m c t 0 2 (by omega) (by omega) _ _ _ _ _ _ r' d (by omega))
    exfalso
    clear h
    rcases hg8 with hg | hg | hg | hg | hg | hg | hg | hg <;> rcases hn3 with hn | hn | hn
    · exact e00 ⟨hg, hn⟩
    · exact e01 ⟨hg, hn⟩
    · exact e02 ⟨hg, hn⟩
    · exact e10 ⟨hg, hn⟩
    · exact e11 ⟨hg, hn⟩
    · exact e12 ⟨hg, hn⟩
    · exact e20 ⟨hg, hn⟩
    · exact e21 ⟨hg, hn⟩
    · exact e22 ⟨hg, hn⟩
    · exact e30 ⟨hg, hn⟩
    · exact e31 ⟨hg, hn⟩
    · exact e32 ⟨hg, hn⟩
    · exact e40 ⟨hg, hn⟩
    · exact e41 ⟨hg, hn⟩
    · exact e42 ⟨hg, hn⟩
    · exact e50 ⟨hg, hn⟩
    · exact e51 ⟨hg, hn⟩
    · exact e52 ⟨hg, hn⟩
    · exact e60 ⟨hg, hn⟩
    · exact e61 ⟨hg, hn⟩
    · exact e62 ⟨hg, hn⟩
    · exact e70 ⟨hg, hn⟩
    · exact e71 ⟨hg, hn⟩
    · exact e72 ⟨hg, hn⟩
  · rw [outsAt0_B m c t h h']; dsimp only; frame_out
    refine Cert.SlabRows.canon_row _ _ _ g n d _ (fun hg hn => ?_) (fun e72 => ?_)
    · obtain rfl : g = ⟨7, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 3 7 (by omega) rfl _ _ r' d
      · exact none_tile m c t 7 (by omega) _ r' d
    refine Cert.SlabRows.canon_row _ _ _ g n d _ (fun hg hn => ?_) (fun e71 => ?_)
    · obtain rfl : g = ⟨7, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 3 7 (by omega) rfl _ _ r' d
      · exact (one_at _ r' d).trans (stage_at m c t 7 1 (by omega) (by omega) _ _ _ _ _ _ r' d (by omega))
    refine Cert.SlabRows.canon_row _ _ _ g n d _ (fun hg hn => ?_) (fun e70 => ?_)
    · obtain rfl : g = ⟨7, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 3 7 (by omega) rfl _ _ r' d
      · exact (two_at _ r' d).trans (stage_at m c t 7 2 (by omega) (by omega) _ _ _ _ _ _ r' d (by omega))
    refine Cert.SlabRows.canon_row _ _ _ g n d _ (fun hg hn => ?_) (fun e32 => ?_)
    · obtain rfl : g = ⟨3, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 3 7 (by omega) rfl _ _ _ r' d
      · exact none_tile m c t 3 (by omega) _ r' d
    refine Cert.SlabRows.canon_row _ _ _ g n d _ (fun hg hn => ?_) (fun e31 => ?_)
    · obtain rfl : g = ⟨3, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 3 7 (by omega) rfl _ _ _ r' d
      · exact (one_at _ r' d).trans (stage_at m c t 3 1 (by omega) (by omega) _ _ _ _ _ _ r' d (by omega))
    refine Cert.SlabRows.canon_row _ _ _ g n d _ (fun hg hn => ?_) (fun e30 => ?_)
    · obtain rfl : g = ⟨3, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 3 7 (by omega) rfl _ _ _ r' d
      · exact (two_at _ r' d).trans (stage_at m c t 3 2 (by omega) (by omega) _ _ _ _ _ _ r' d (by omega))
    refine Cert.SlabRows.canon_row _ _ _ g n d _ (fun hg hn => ?_) (fun e62 => ?_)
    · obtain rfl : g = ⟨6, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 2 6 (by omega) rfl _ _ r' d
      · exact none_tile m c t 6 (by omega) _ r' d
    refine Cert.SlabRows.canon_row _ _ _ g n d _ (fun hg hn => ?_) (fun e61 => ?_)
    · obtain rfl : g = ⟨6, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 2 6 (by omega) rfl _ _ r' d
      · exact (one_at _ r' d).trans (stage_at m c t 6 1 (by omega) (by omega) _ _ _ _ _ _ r' d (by omega))
    refine Cert.SlabRows.canon_row _ _ _ g n d _ (fun hg hn => ?_) (fun e60 => ?_)
    · obtain rfl : g = ⟨6, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 2 6 (by omega) rfl _ _ r' d
      · exact (two_at _ r' d).trans (stage_at m c t 6 2 (by omega) (by omega) _ _ _ _ _ _ r' d (by omega))
    refine Cert.SlabRows.canon_row _ _ _ g n d _ (fun hg hn => ?_) (fun e22 => ?_)
    · obtain rfl : g = ⟨2, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 2 6 (by omega) rfl _ _ _ r' d
      · exact none_tile m c t 2 (by omega) _ r' d
    refine Cert.SlabRows.canon_row _ _ _ g n d _ (fun hg hn => ?_) (fun e21 => ?_)
    · obtain rfl : g = ⟨2, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 2 6 (by omega) rfl _ _ _ r' d
      · exact (one_at _ r' d).trans (stage_at m c t 2 1 (by omega) (by omega) _ _ _ _ _ _ r' d (by omega))
    refine Cert.SlabRows.canon_row _ _ _ g n d _ (fun hg hn => ?_) (fun e20 => ?_)
    · obtain rfl : g = ⟨2, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 2 6 (by omega) rfl _ _ _ r' d
      · exact (two_at _ r' d).trans (stage_at m c t 2 2 (by omega) (by omega) _ _ _ _ _ _ r' d (by omega))
    refine Cert.SlabRows.canon_row _ _ _ g n d _ (fun hg hn => ?_) (fun e52 => ?_)
    · obtain rfl : g = ⟨5, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 1 5 (by omega) rfl _ _ r' d
      · exact none_tile m c t 5 (by omega) _ r' d
    refine Cert.SlabRows.canon_row _ _ _ g n d _ (fun hg hn => ?_) (fun e51 => ?_)
    · obtain rfl : g = ⟨5, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 1 5 (by omega) rfl _ _ r' d
      · exact (one_at _ r' d).trans (stage_at m c t 5 1 (by omega) (by omega) _ _ _ _ _ _ r' d (by omega))
    refine Cert.SlabRows.canon_row _ _ _ g n d _ (fun hg hn => ?_) (fun e50 => ?_)
    · obtain rfl : g = ⟨5, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 1 5 (by omega) rfl _ _ r' d
      · exact (two_at _ r' d).trans (stage_at m c t 5 2 (by omega) (by omega) _ _ _ _ _ _ r' d (by omega))
    refine Cert.SlabRows.canon_row _ _ _ g n d _ (fun hg hn => ?_) (fun e12 => ?_)
    · obtain rfl : g = ⟨1, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 1 5 (by omega) rfl _ _ _ r' d
      · exact none_tile m c t 1 (by omega) _ r' d
    refine Cert.SlabRows.canon_row _ _ _ g n d _ (fun hg hn => ?_) (fun e11 => ?_)
    · obtain rfl : g = ⟨1, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 1 5 (by omega) rfl _ _ _ r' d
      · exact (one_at _ r' d).trans (stage_at m c t 1 1 (by omega) (by omega) _ _ _ _ _ _ r' d (by omega))
    refine Cert.SlabRows.canon_row _ _ _ g n d _ (fun hg hn => ?_) (fun e10 => ?_)
    · obtain rfl : g = ⟨1, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 1 5 (by omega) rfl _ _ _ r' d
      · exact (two_at _ r' d).trans (stage_at m c t 1 2 (by omega) (by omega) _ _ _ _ _ _ r' d (by omega))
    refine Cert.SlabRows.canon_row _ _ _ g n d _ (fun hg hn => ?_) (fun e42 => ?_)
    · obtain rfl : g = ⟨4, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 0 4 (by omega) rfl _ _ r' d
      · exact none_tile m c t 4 (by omega) _ r' d
    refine Cert.SlabRows.canon_row _ _ _ g n d _ (fun hg hn => ?_) (fun e41 => ?_)
    · obtain rfl : g = ⟨4, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 0 4 (by omega) rfl _ _ r' d
      · exact (one_at _ r' d).trans (stage_at m c t 4 1 (by omega) (by omega) _ _ _ _ _ _ r' d (by omega))
    refine Cert.SlabRows.canon_row _ _ _ g n d _ (fun hg hn => ?_) (fun e40 => ?_)
    · obtain rfl : g = ⟨4, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact value_tile m c t 0 4 (by omega) rfl _ _ r' d
      · exact (two_at _ r' d).trans (stage_at m c t 4 2 (by omega) (by omega) _ _ _ _ _ _ r' d (by omega))
    refine Cert.SlabRows.canon_row _ _ _ g n d _ (fun hg hn => ?_) (fun e02 => ?_)
    · obtain rfl : g = ⟨0, by decide⟩ := Fin.ext hg
      obtain rfl : n = ⟨2, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 0 4 (by omega) rfl _ _ _ r' d
      · exact none_tile m c t 0 (by omega) _ r' d
    refine Cert.SlabRows.canon_row _ _ _ g n d _ (fun hg hn => ?_) (fun e01 => ?_)
    · obtain rfl : g = ⟨0, by decide⟩ := Fin.ext hg
      obtain rfl : n = ⟨1, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 0 4 (by omega) rfl _ _ _ r' d
      · exact (one_at _ r' d).trans (stage_at m c t 0 1 (by omega) (by omega) _ _ _ _ _ _ r' d (by omega))
    refine Cert.SlabRows.canon_row _ _ _ g n d _ (fun hg hn => ?_) (fun e00 => ?_)
    · obtain rfl : g = ⟨0, by decide⟩ := Fin.ext hg
      obtain rfl : n = ⟨0, by decide⟩ := Fin.ext hn
      refine (tap_at _ _ _ 0 0 d).trans (congrArg₂ (· + ·) (Cert.SlabRows.ld_row _ _ _ _ d rfl rfl) (Finset.sum_congr rfl fun r' _ => congrArg₂ (· * ·) ?_ ?_))
      · exact gate_tile m c t 0 4 (by omega) rfl _ _ _ r' d
      · exact (two_at _ r' d).trans (stage_at m c t 0 2 (by omega) (by omega) _ _ _ _ _ _ r' d (by omega))
    exfalso
    clear h
    rcases hg8 with hg | hg | hg | hg | hg | hg | hg | hg <;> rcases hn3 with hn | hn | hn
    · exact e00 ⟨hg, hn⟩
    · exact e01 ⟨hg, hn⟩
    · exact e02 ⟨hg, hn⟩
    · exact e10 ⟨hg, hn⟩
    · exact e11 ⟨hg, hn⟩
    · exact e12 ⟨hg, hn⟩
    · exact e20 ⟨hg, hn⟩
    · exact e21 ⟨hg, hn⟩
    · exact e22 ⟨hg, hn⟩
    · exact e30 ⟨hg, hn⟩
    · exact e31 ⟨hg, hn⟩
    · exact e32 ⟨hg, hn⟩
    · exact e40 ⟨hg, hn⟩
    · exact e41 ⟨hg, hn⟩
    · exact e42 ⟨hg, hn⟩
    · exact e50 ⟨hg, hn⟩
    · exact e51 ⟨hg, hn⟩
    · exact e52 ⟨hg, hn⟩
    · exact e60 ⟨hg, hn⟩
    · exact e61 ⟨hg, hn⟩
    · exact e62 ⟨hg, hn⟩
    · exact e70 ⟨hg, hn⟩
    · exact e71 ⟨hg, hn⟩
    · exact e72 ⟨hg, hn⟩

end Cert.FfnAIdeal.Value
end
-- ==== Proof.FfnA.Parts.lean ====
/- The convolution's cotangent, and the gradients of its bias and of the product's matrix, summed over the tiles. -/
module

public import proofs.«01_k».proof.Proof.FfnA.Taps
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.FfnAIdeal.Value

open Cert.FfnAIdeal Cert.FfnAIdeal.Gen

variable (m : (ℓ : Loc nD τ sig) → Buf (Elt Ideal) ℓ)

/-- What one tile adds to the gradient of the convolution's bias. -/
def biasPart (c : Dev nD) (t : Fin cfg0.N) (g : Fin 8) (d : Fin 704) : EReal :=
  ∑ r : Fin 256, Cert.FfnASpec.dup (X m c) (K m c) (B m c) (W m c) (H m c) (tok t r) (col g d)
/-- What one tile adds to the gradient of the product's matrix. -/
def downPart (c : Dev nD) (t : Fin cfg0.N) (j : Fin 4) (e : Fin 704) (d : Fin 1024) : EReal :=
  ∑ r : Fin 256, Cert.FfnASpec.silu (Cert.FfnASpec.gate (X m c) (K m c) (B m c) (tok t r) (half j e))
    * Cert.FfnASpec.value (X m c) (K m c) (B m c) (tok t r) (half j e) * H m c (ix2 (tok t r) d)

theorem zero4 (i : S8x1x704.Idx) : k0_pay4 (F := Ideal) i = (0 : EReal) := by pointwise [k0_pay4]
theorem zero5 (i : S4x704x1024.Idx) : k0_pay5 (F := Ideal) i = (0 : EReal) := by pointwise [k0_pay5]

set_option maxHeartbeats 2000000 in
/-- The convolution's cotangent is stored tile by tile. -/
theorem dup_at (c : Dev nD) (t : Fin cfg0.N) (g : Fin 8) (r' : Fin 256) (d : Fin 704) :
    (outsAt0 m c t.val t.isLt).2.1 (ix3 g r' d) = Cert.FfnASpec.dup (X m c) (K m c) (B m c) (W m c) (H m c) (tok t r') (col g d) := by
  by_cases h : t.val % 16 = 0
  · rw [outsAt0_A m c t h (by omega)]; dsimp only; frame_out
    refine Cert.Columns.canon_slab (n := 1) _ _ _ g r' d _ (fun x hg => ?_) (fun _ => ?_)
    · obtain rfl : g = ⟨7, by decide⟩ := Fin.ext (show g.val = 7 by have := x.isLt; omega)
      exact (store_at _ x r' d).trans (value_tile m c t 3 7 (by omega) rfl _ _ r' d)
    refine Cert.Columns.canon_slab (n := 1) _ _ _ g r' d _ (fun x hg => ?_) (fun _ => ?_)
    · obtain rfl : g = ⟨3, by decide⟩ := Fin.ext (show g.val = 3 by have := x.isLt; omega)
      exact (store_at _ x r' d).trans (gate_tile m c t 3 7 (by omega) rfl _ _ _ r' d)
    refine Cert.Columns.canon_slab (n := 1) _ _ _ g r' d _ (fun x hg => ?_) (fun _ => ?_)
    · obtain rfl : g = ⟨6, by decide⟩ := Fin.ext (show g.val = 6 by have := x.isLt; omega)
      exact (store_at _ x r' d).trans (value_tile m c t 2 6 (by omega) rfl _ _ r' d)
    refine Cert.Columns.canon_slab (n := 1) _ _ _ g r' d _ (fun x hg => ?_) (fun _ => ?_)
    · obtain rfl : g = ⟨2, by decide⟩ := Fin.ext (show g.val = 2 by have := x.isLt; omega)
      exact (store_at _ x r' d).trans (gate_tile m c t 2 6 (by omega) rfl _ _ _ r' d)
    refine Cert.Columns.canon_slab (n := 1) _ _ _ g r' d _ (fun x hg => ?_) (fun _ => ?_)
    · obtain rfl : g = ⟨5, by decide⟩ := Fin.ext (show g.val = 5 by have := x.isLt; omega)
      exact (store_at _ x r' d).trans (value_tile m c t 1 5 (by omega) rfl _ _ r' d)
    refine Cert.Columns.canon_slab (n := 1) _ _ _ g r' d _ (fun x hg => ?_) (fun _ => ?_)
    · obtain rfl : g = ⟨1, by decide⟩ := Fin.ext (show g.val = 1 by have := x.isLt; omega)
      exact (store_at _ x r' d).trans (gate_tile m c t 1 5 (by omega) rfl _ _ _ r' d)
    refine Cert.Columns.canon_slab (n := 1) _ _ _ g r' d _ (fun x hg => ?_) (fun _ => ?_)
    · obtain rfl : g = ⟨4, by decide⟩ := Fin.ext (show g.val = 4 by have := x.isLt; omega)
      exact (store_at _ x r' d).trans (value_tile m c t 0 4 (by omega) rfl _ _ r' d)
    refine Cert.Columns.canon_slab (n := 1) _ _ _ g r' d _ (fun x hg => ?_) (fun _ => ?_)
    · obtain rfl : g = ⟨0, by decide⟩ := Fin.ext (show g.val = 0 by have := x.isLt; omega)
      exact (store_at _ x r' d).trans (gate_tile m c t 0 4 (by omega) rfl _ _ _ r' d)
    omega
  by_cases h' : t.val % 16 = 15
  · rw [outsAt0_C m c t h h']; dsimp only; frame_out
    refine Cert.Columns.canon_slab (n := 1) _ _ _ g r' d _ (fun x hg => ?_) (fun _ => ?_)
    · obtain rfl : g = ⟨7, by decide⟩ := Fin.ext (show g.val = 7 by have := x.isLt; omega)
      exact (store_at _ x r' d).trans (value_tile m c t 3 7 (by omega) rfl _ _ r' d)
    refine Cert.Columns.canon_slab (n := 1) _ _ _ g r' d _ (fun x hg => ?_) (fun _ => ?_)
    · obtain rfl : g = ⟨3, by decide⟩ := Fin.ext (show g.val = 3 by have := x.isLt; omega)
      exact (store_at _ x r' d).trans (gate_tile m c t 3 7 (by omega) rfl _ _ _ r' d)
    refine Cert.Columns.canon_slab (n := 1) _ _ _ g r' d _ (fun x hg => ?_) (fun _ => ?_)
    · obtain rfl : g = ⟨6, by decide⟩ := Fin.ext (show g.val = 6 by have := x.isLt; omega)
      exact (store_at _ x r' d).trans (value_tile m c t 2 6 (by omega) rfl _ _ r' d)
    refine Cert.Columns.canon_slab (n := 1) _ _ _ g r' d _ (fun x hg => ?_) (fun _ => ?_)
    · obtain rfl : g = ⟨2, by decide⟩ := Fin.ext (show g.val = 2 by have := x.isLt; omega)
      exact (store_at _ x r' d).trans (gate_tile m c t 2 6 (by omega) rfl _ _ _ r' d)
    refine Cert.Columns.canon_slab (n := 1) _ _ _ g r' d _ (fun x hg => ?_) (fun _ => ?_)
    · obtain rfl : g = ⟨5, by decide⟩ := Fin.ext (show g.val = 5 by have := x.isLt; omega)
      exact (store_at _ x r' d).trans (value_tile m c t 1 5 (by omega) rfl _ _ r' d)
    refine Cert.Columns.canon_slab (n := 1) _ _ _ g r' d _ (fun x hg => ?_) (fun _ => ?_)
    · obtain rfl : g = ⟨1, by decide⟩ := Fin.ext (show g.val = 1 by have := x.isLt; omega)
      exact (store_at _ x r' d).trans (gate_tile m c t 1 5 (by omega) rfl _ _ _ r' d)
    refine Cert.Columns.canon_slab (n := 1) _ _ _ g r' d _ (fun x hg => ?_) (fun _ => ?_)
    · obtain rfl : g = ⟨4, by decide⟩ := Fin.ext (show g.val = 4 by have := x.isLt; omega)
      exact (store_at _ x r' d).trans (value_tile m c t 0 4 (by omega) rfl _ _ r' d)
    refine Cert.Columns.canon_slab (n := 1) _ _ _ g r' d _ (fun x hg => ?_) (fun _ => ?_)
    · obtain rfl : g = ⟨0, by decide⟩ := Fin.ext (show g.val = 0 by have := x.isLt; omega)
      exact (store_at _ x r' d).trans (gate_tile m c t 0 4 (by omega) rfl _ _ _ r' d)
    omega
  · rw [outsAt0_B m c t h h']; dsimp only; frame_out
    refine Cert.Columns.canon_slab (n := 1) _ _ _ g r' d _ (fun x hg => ?_) (fun _ => ?_)
    · obtain rfl : g = ⟨7, by decide⟩ := Fin.ext (show g.val = 7 by have := x.isLt; omega)
      exact (store_at _ x r' d).trans (value_tile m c t 3 7 (by omega) rfl _ _ r' d)
    refine Cert.Columns.canon_slab (n := 1) _ _ _ g r' d _ (fun x hg => ?_) (fun _ => ?_)
    · obtain rfl : g = ⟨3, by decide⟩ := Fin.ext (show g.val = 3 by have := x.isLt; omega)
      exact (store_at _ x r' d).trans (gate_tile m c t 3 7 (by omega) rfl _ _ _ r' d)
    refine Cert.Columns.canon_slab (n := 1) _ _ _ g r' d _ (fun x hg => ?_) (fun _ => ?_)
    · obtain rfl : g = ⟨6, by decide⟩ := Fin.ext (show g.val = 6 by have := x.isLt; omega)
      exact (store_at _ x r' d).trans (value_tile m c t 2 6 (by omega) rfl _ _ r' d)
    refine Cert.Columns.canon_slab (n := 1) _ _ _ g r' d _ (fun x hg => ?_) (fun _ => ?_)
    · obtain rfl : g = ⟨2, by decide⟩ := Fin.ext (show g.val = 2 by have := x.isLt; omega)
      exact (store_at _ x r' d).trans (gate_tile m c t 2 6 (by omega) rfl _ _ _ r' d)
    refine Cert.Columns.canon_slab (n := 1) _ _ _ g r' d _ (fun x hg => ?_) (fun _ => ?_)
    · obtain rfl : g = ⟨5, by decide⟩ := Fin.ext (show g.val = 5 by have := x.isLt; omega)
      exact (store_at _ x r' d).trans (value_tile m c t 1 5 (by omega) rfl _ _ r' d)
    refine Cert.Columns.canon_slab (n := 1) _ _ _ g r' d _ (fun x hg => ?_) (fun _ => ?_)
    · obtain rfl : g = ⟨1, by decide⟩ := Fin.ext (show g.val = 1 by have := x.isLt; omega)
      exact (store_at _ x r' d).trans (gate_tile m c t 1 5 (by omega) rfl _ _ _ r' d)
    refine Cert.Columns.canon_slab (n := 1) _ _ _ g r' d _ (fun x hg => ?_) (fun _ => ?_)
    · obtain rfl : g = ⟨4, by decide⟩ := Fin.ext (show g.val = 4 by have := x.isLt; omega)
      exact (store_at _ x r' d).trans (value_tile m c t 0 4 (by omega) rfl _ _ r' d)
    refine Cert.Columns.canon_slab (n := 1) _ _ _ g r' d _ (fun x hg => ?_) (fun _ => ?_)
    · obtain rfl : g = ⟨0, by decide⟩ := Fin.ext (show g.val = 0 by have := x.isLt; omega)
      exact (store_at _ x r' d).trans (gate_tile m c t 0 4 (by omega) rfl _ _ _ r' d)
    omega

set_option maxHeartbeats 2000000 in
theorem bias_first (c : Dev nD) (t : Fin cfg0.N) (h : t.val % 16 = 0) (g : Fin 8) (z : Fin 1) (d : Fin 704) :
    (outsAt0 m c t.val t.isLt).2.2.2.1 (ix3 g z d) = 0 + biasPart m c t g d := by
  obtain rfl : z = 0 := Subsingleton.elim _ _
  rw [outsAt0_A m c t h (by omega)]; dsimp only; frame_out
  refine Cert.Columns.canon_slab (n := 1) _ _ _ g 0 d _ (fun x hg => ?_) (fun _ => ?_)
  · obtain rfl : g = ⟨7, by decide⟩ := Fin.ext (show g.val = 7 by have := x.isLt; omega)
    refine (bias_at _ _ x 0 d).trans (congrArg₂ (· + ·) (Cert.Columns.read_slab _ _ _ _ _ d _ (fun q hq => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x _ => zero4 _) (fun h => absurd h (by omega))))))))))) (Finset.sum_congr rfl fun r' _ => ?_))
    exact value_tile m c t 3 7 (by omega) rfl _ _ r' d
  refine Cert.Columns.canon_slab (n := 1) _ _ _ g 0 d _ (fun x hg => ?_) (fun _ => ?_)
  · obtain rfl : g = ⟨3, by decide⟩ := Fin.ext (show g.val = 3 by have := x.isLt; omega)
    refine (bias_at _ _ x 0 d).trans (congrArg₂ (· + ·) (Cert.Columns.read_slab _ _ _ _ _ d _ (fun q hq => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x _ => zero4 _) (fun h => absurd h (by omega)))))))))) (Finset.sum_congr rfl fun r' _ => ?_))
    exact gate_tile m c t 3 7 (by omega) rfl _ _ _ r' d
  refine Cert.Columns.canon_slab (n := 1) _ _ _ g 0 d _ (fun x hg => ?_) (fun _ => ?_)
  · obtain rfl : g = ⟨6, by decide⟩ := Fin.ext (show g.val = 6 by have := x.isLt; omega)
    refine (bias_at _ _ x 0 d).trans (congrArg₂ (· + ·) (Cert.Columns.read_slab _ _ _ _ _ d _ (fun q hq => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x _ => zero4 _) (fun h => absurd h (by omega))))))))) (Finset.sum_congr rfl fun r' _ => ?_))
    exact value_tile m c t 2 6 (by omega) rfl _ _ r' d
  refine Cert.Columns.canon_slab (n := 1) _ _ _ g 0 d _ (fun x hg => ?_) (fun _ => ?_)
  · obtain rfl : g = ⟨2, by decide⟩ := Fin.ext (show g.val = 2 by have := x.isLt; omega)
    refine (bias_at _ _ x 0 d).trans (congrArg₂ (· + ·) (Cert.Columns.read_slab _ _ _ _ _ d _ (fun q hq => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x _ => zero4 _) (fun h => absurd h (by omega)))))))) (Finset.sum_congr rfl fun r' _ => ?_))
    exact gate_tile m c t 2 6 (by omega) rfl _ _ _ r' d
  refine Cert.Columns.canon_slab (n := 1) _ _ _ g 0 d _ (fun x hg => ?_) (fun _ => ?_)
  · obtain rfl : g = ⟨5, by decide⟩ := Fin.ext (show g.val = 5 by have := x.isLt; omega)
    refine (bias_at _ _ x 0 d).trans (congrArg₂ (· + ·) (Cert.Columns.read_slab _ _ _ _ _ d _ (fun q hq => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x _ => zero4 _) (fun h => absurd h (by omega))))))) (Finset.sum_congr rfl fun r' _ => ?_))
    exact value_tile m c t 1 5 (by omega) rfl _ _ r' d
  refine Cert.Columns.canon_slab (n := 1) _ _ _ g 0 d _ (fun x hg => ?_) (fun _ => ?_)
  · obtain rfl : g = ⟨1, by decide⟩ := Fin.ext (show g.val = 1 by have := x.isLt; omega)
    refine (bias_at _ _ x 0 d).trans (congrArg₂ (· + ·) (Cert.Columns.read_slab _ _ _ _ _ d _ (fun q hq => Cert.Columns.canon_slab _ _ _ q 0 d _ (fun x hx => absurd hx (by omega)) (fun _ => Cert.Columns.canon_slab _ _ _ q 0 d _ (fun x hx => absurd hx (by omega)) (fun _ => Cert.Columns.canon_slab _ _ _ q 0 d _ (fun x _ => zero4 _) (fun h => absurd h (by omega)))))) (Finset.sum_congr rfl fun r' _ => ?_))
    exact gate_tile m c t 1 5 (by omega) rfl _ _ _ r' d
  refine Cert.Columns.canon_slab (n := 1) _ _ _ g 0 d _ (fun x hg => ?_) (fun _ => ?_)
  · obtain rfl : g = ⟨4, by decide⟩ := Fin.ext (show g.val = 4 by have := x.isLt; omega)
    refine (bias_at _ _ x 0 d).trans (congrArg₂ (· + ·) (Cert.Columns.read_slab _ _ _ _ _ d _ (fun q hq => Cert.Columns.canon_slab _ _ _ q 0 d _ (fun x hx => absurd hx (by omega)) (fun _ => Cert.Columns.canon_slab _ _ _ q 0 d _ (fun x _ => zero4 _) (fun h => absurd h (by omega))))) (Finset.sum_congr rfl fun r' _ => ?_))
    exact value_tile m c t 0 4 (by omega) rfl _ _ r' d
  refine Cert.Columns.canon_slab (n := 1) _ _ _ g 0 d _ (fun x hg => ?_) (fun _ => ?_)
  · obtain rfl : g = ⟨0, by decide⟩ := Fin.ext (show g.val = 0 by have := x.isLt; omega)
    refine (bias_at _ _ x 0 d).trans (congrArg₂ (· + ·) (Cert.Columns.read_slab _ _ _ _ _ d _ (fun q hq => Cert.Columns.canon_slab _ _ _ q 0 d _ (fun x _ => zero4 _) (fun h => absurd h (by omega)))) (Finset.sum_congr rfl fun r' _ => ?_))
    exact gate_tile m c t 0 4 (by omega) rfl _ _ _ r' d
  omega

set_option maxHeartbeats 2000000 in
theorem bias_next (c : Dev nD) (t : Fin cfg0.N) (h : ¬ t.val % 16 = 0) (g : Fin 8) (z : Fin 1) (d : Fin 704) :
    (outsAt0 m c t.val t.isLt).2.2.2.1 (ix3 g z d) = (outsAt0 m c (t.val - 1) (Nat.lt_of_le_of_lt (Nat.sub_le _ _) t.isLt)).2.2.2.1 (ix3 g z d) + biasPart m c t g d := by
  obtain rfl : z = 0 := Subsingleton.elim _ _
  by_cases h' : t.val % 16 = 15
  · rw [outsAt0_C m c t h h']; dsimp only; frame_out
    refine Cert.Columns.canon_slab (n := 1) _ _ _ g 0 d _ (fun x hg => ?_) (fun _ => ?_)
    · obtain rfl : g = ⟨7, by decide⟩ := Fin.ext (show g.val = 7 by have := x.isLt; omega)
      refine (bias_at _ _ x 0 d).trans (congrArg₂ (· + ·) (Cert.Columns.ld_slab _ _ _ _ d _ (by simp)) (Finset.sum_congr rfl fun r' _ => ?_))
      exact value_tile m c t 3 7 (by omega) rfl _ _ r' d
    refine Cert.Columns.canon_slab (n := 1) _ _ _ g 0 d _ (fun x hg => ?_) (fun _ => ?_)
    · obtain rfl : g = ⟨3, by decide⟩ := Fin.ext (show g.val = 3 by have := x.isLt; omega)
      refine (bias_at _ _ x 0 d).trans (congrArg₂ (· + ·) (Cert.Columns.ld_slab _ _ _ _ d _ (by simp)) (Finset.sum_congr rfl fun r' _ => ?_))
      exact gate_tile m c t 3 7 (by omega) rfl _ _ _ r' d
    refine Cert.Columns.canon_slab (n := 1) _ _ _ g 0 d _ (fun x hg => ?_) (fun _ => ?_)
    · obtain rfl : g = ⟨6, by decide⟩ := Fin.ext (show g.val = 6 by have := x.isLt; omega)
      refine (bias_at _ _ x 0 d).trans (congrArg₂ (· + ·) (Cert.Columns.ld_slab _ _ _ _ d _ (by simp)) (Finset.sum_congr rfl fun r' _ => ?_))
      exact value_tile m c t 2 6 (by omega) rfl _ _ r' d
    refine Cert.Columns.canon_slab (n := 1) _ _ _ g 0 d _ (fun x hg => ?_) (fun _ => ?_)
    · obtain rfl : g = ⟨2, by decide⟩ := Fin.ext (show g.val = 2 by have := x.isLt; omega)
      refine (bias_at _ _ x 0 d).trans (congrArg₂ (· + ·) (Cert.Columns.ld_slab _ _ _ _ d _ (by simp)) (Finset.sum_congr rfl fun r' _ => ?_))
      exact gate_tile m c t 2 6 (by omega) rfl _ _ _ r' d
    refine Cert.Columns.canon_slab (n := 1) _ _ _ g 0 d _ (fun x hg => ?_) (fun _ => ?_)
    · obtain rfl : g = ⟨5, by decide⟩ := Fin.ext (show g.val = 5 by have := x.isLt; omega)
      refine (bias_at _ _ x 0 d).trans (congrArg₂ (· + ·) (Cert.Columns.ld_slab _ _ _ _ d _ (by simp)) (Finset.sum_congr rfl fun r' _ => ?_))
      exact value_tile m c t 1 5 (by omega) rfl _ _ r' d
    refine Cert.Columns.canon_slab (n := 1) _ _ _ g 0 d _ (fun x hg => ?_) (fun _ => ?_)
    · obtain rfl : g = ⟨1, by decide⟩ := Fin.ext (show g.val = 1 by have := x.isLt; omega)
      refine (bias_at _ _ x 0 d).trans (congrArg₂ (· + ·) (Cert.Columns.ld_slab _ _ _ _ d _ (by simp)) (Finset.sum_congr rfl fun r' _ => ?_))
      exact gate_tile m c t 1 5 (by omega) rfl _ _ _ r' d
    refine Cert.Columns.canon_slab (n := 1) _ _ _ g 0 d _ (fun x hg => ?_) (fun _ => ?_)
    · obtain rfl : g = ⟨4, by decide⟩ := Fin.ext (show g.val = 4 by have := x.isLt; omega)
      refine (bias_at _ _ x 0 d).trans (congrArg₂ (· + ·) (Cert.Columns.ld_slab _ _ _ _ d _ (by simp)) (Finset.sum_congr rfl fun r' _ => ?_))
      exact value_tile m c t 0 4 (by omega) rfl _ _ r' d
    refine Cert.Columns.canon_slab (n := 1) _ _ _ g 0 d _ (fun x hg => ?_) (fun _ => ?_)
    · obtain rfl : g = ⟨0, by decide⟩ := Fin.ext (show g.val = 0 by have := x.isLt; omega)
      refine (bias_at _ _ x 0 d).trans (congrArg₂ (· + ·) (Cert.Columns.ld_slab _ _ _ _ d _ (by simp)) (Finset.sum_congr rfl fun r' _ => ?_))
      exact gate_tile m c t 0 4 (by omega) rfl _ _ _ r' d
    omega
  · rw [outsAt0_B m c t h h']; dsimp only; frame_out
    refine Cert.Columns.canon_slab (n := 1) _ _ _ g 0 d _ (fun x hg => ?_) (fun _ => ?_)
    · obtain rfl : g = ⟨7, by decide⟩ := Fin.ext (show g.val = 7 by have := x.isLt; omega)
      refine (bias_at _ _ x 0 d).trans (congrArg₂ (· + ·) (Cert.Columns.ld_slab _ _ _ _ d _ (by simp)) (Finset.sum_congr rfl fun r' _ => ?_))
      exact value_tile m c t 3 7 (by omega) rfl _ _ r' d
    refine Cert.Columns.canon_slab (n := 1) _ _ _ g 0 d _ (fun x hg => ?_) (fun _ => ?_)
    · obtain rfl : g = ⟨3, by decide⟩ := Fin.ext (show g.val = 3 by have := x.isLt; omega)
      refine (bias_at _ _ x 0 d).trans (congrArg₂ (· + ·) (Cert.Columns.ld_slab _ _ _ _ d _ (by simp)) (Finset.sum_congr rfl fun r' _ => ?_))
      exact gate_tile m c t 3 7 (by omega) rfl _ _ _ r' d
    refine Cert.Columns.canon_slab (n := 1) _ _ _ g 0 d _ (fun x hg => ?_) (fun _ => ?_)
    · obtain rfl : g = ⟨6, by decide⟩ := Fin.ext (show g.val = 6 by have := x.isLt; omega)
      refine (bias_at _ _ x 0 d).trans (congrArg₂ (· + ·) (Cert.Columns.ld_slab _ _ _ _ d _ (by simp)) (Finset.sum_congr rfl fun r' _ => ?_))
      exact value_tile m c t 2 6 (by omega) rfl _ _ r' d
    refine Cert.Columns.canon_slab (n := 1) _ _ _ g 0 d _ (fun x hg => ?_) (fun _ => ?_)
    · obtain rfl : g = ⟨2, by decide⟩ := Fin.ext (show g.val = 2 by have := x.isLt; omega)
      refine (bias_at _ _ x 0 d).trans (congrArg₂ (· + ·) (Cert.Columns.ld_slab _ _ _ _ d _ (by simp)) (Finset.sum_congr rfl fun r' _ => ?_))
      exact gate_tile m c t 2 6 (by omega) rfl _ _ _ r' d
    refine Cert.Columns.canon_slab (n := 1) _ _ _ g 0 d _ (fun x hg => ?_) (fun _ => ?_)
    · obtain rfl : g = ⟨5, by decide⟩ := Fin.ext (show g.val = 5 by have := x.isLt; omega)
      refine (bias_at _ _ x 0 d).trans (congrArg₂ (· + ·) (Cert.Columns.ld_slab _ _ _ _ d _ (by simp)) (Finset.sum_congr rfl fun r' _ => ?_))
      exact value_tile m c t 1 5 (by omega) rfl _ _ r' d
    refine Cert.Columns.canon_slab (n := 1) _ _ _ g 0 d _ (fun x hg => ?_) (fun _ => ?_)
    · obtain rfl : g = ⟨1, by decide⟩ := Fin.ext (show g.val = 1 by have := x.isLt; omega)
      refine (bias_at _ _ x 0 d).trans (congrArg₂ (· + ·) (Cert.Columns.ld_slab _ _ _ _ d _ (by simp)) (Finset.sum_congr rfl fun r' _ => ?_))
      exact gate_tile m c t 1 5 (by omega) rfl _ _ _ r' d
    refine Cert.Columns.canon_slab (n := 1) _ _ _ g 0 d _ (fun x hg => ?_) (fun _ => ?_)
    · obtain rfl : g = ⟨4, by decide⟩ := Fin.ext (show g.val = 4 by have := x.isLt; omega)
      refine (bias_at _ _ x 0 d).trans (congrArg₂ (· + ·) (Cert.Columns.ld_slab _ _ _ _ d _ (by simp)) (Finset.sum_congr rfl fun r' _ => ?_))
      exact value_tile m c t 0 4 (by omega) rfl _ _ r' d
    refine Cert.Columns.canon_slab (n := 1) _ _ _ g 0 d _ (fun x hg => ?_) (fun _ => ?_)
    · obtain rfl : g = ⟨0, by decide⟩ := Fin.ext (show g.val = 0 by have := x.isLt; omega)
      refine (bias_at _ _ x 0 d).trans (congrArg₂ (· + ·) (Cert.Columns.ld_slab _ _ _ _ d _ (by simp)) (Finset.sum_congr rfl fun r' _ => ?_))
      exact gate_tile m c t 0 4 (by omega) rfl _ _ _ r' d
    omega

set_option maxHeartbeats 2000000 in
theorem down_first (c : Dev nD) (t : Fin cfg0.N) (h : t.val % 16 = 0) (g : Fin 4) (e : Fin 704) (d : Fin 1024) :
    (outsAt0 m c t.val t.isLt).2.2.2.2 (ix3 g e d) = 0 + downPart m c t g e d := by
  rw [outsAt0_A m c t h (by omega)]; dsimp only; frame_out
  refine Cert.Columns.canon_slab (n := 1) _ _ _ g e d _ (fun x hg => ?_) (fun _ => ?_)
  · obtain rfl : g = ⟨3, by decide⟩ := Fin.ext (show g.val = 3 by have := x.isLt; omega)
    refine (down_tile m c t 3 7 (by omega) rfl _ _ _ x e d).trans (congrArg₂ (· + ·) ?_ rfl)
    exact Cert.Columns.read_slab _ _ _ _ _ d _ (fun q hq => Cert.Columns.canon_slab _ _ _ q e d _ (fun x hx => absurd hx (by omega)) (fun _ => Cert.Columns.canon_slab _ _ _ q e d _ (fun x hx => absurd hx (by omega)) (fun _ => Cert.Columns.canon_slab _ _ _ q e d _ (fun x hx => absurd hx (by omega)) (fun _ => Cert.Columns.canon_slab _ _ _ q e d _ (fun x _ => zero5 _) (fun h => absurd h (by omega))))))
  refine Cert.Columns.canon_slab (n := 1) _ _ _ g e d _ (fun x hg => ?_) (fun _ => ?_)
  · obtain rfl : g = ⟨2, by decide⟩ := Fin.ext (show g.val = 2 by have := x.isLt; omega)
    refine (down_tile m c t 2 6 (by omega) rfl _ _ _ x e d).trans (congrArg₂ (· + ·) ?_ rfl)
    exact Cert.Columns.read_slab _ _ _ _ _ d _ (fun q hq => Cert.Columns.canon_slab _ _ _ q e d _ (fun x hx => absurd hx (by omega)) (fun _ => Cert.Columns.canon_slab _ _ _ q e d _ (fun x hx => absurd hx (by omega)) (fun _ => Cert.Columns.canon_slab _ _ _ q e d _ (fun x _ => zero5 _) (fun h => absurd h (by omega)))))
  refine Cert.Columns.canon_slab (n := 1) _ _ _ g e d _ (fun x hg => ?_) (fun _ => ?_)
  · obtain rfl : g = ⟨1, by decide⟩ := Fin.ext (show g.val = 1 by have := x.isLt; omega)
    refine (down_tile m c t 1 5 (by omega) rfl _ _ _ x e d).trans (congrArg₂ (· + ·) ?_ rfl)
    exact Cert.Columns.read_slab _ _ _ _ _ d _ (fun q hq => Cert.Columns.canon_slab _ _ _ q e d _ (fun x hx => absurd hx (by omega)) (fun _ => Cert.Columns.canon_slab _ _ _ q e d _ (fun x _ => zero5 _) (fun h => absurd h (by omega))))
  refine Cert.Columns.canon_slab (n := 1) _ _ _ g e d _ (fun x hg => ?_) (fun _ => ?_)
  · obtain rfl : g = ⟨0, by decide⟩ := Fin.ext (show g.val = 0 by have := x.isLt; omega)
    refine (down_tile m c t 0 4 (by omega) rfl _ _ _ x e d).trans (congrArg₂ (· + ·) ?_ rfl)
    exact Cert.Columns.read_slab _ _ _ _ _ d _ (fun q hq => Cert.Columns.canon_slab _ _ _ q e d _ (fun x _ => zero5 _) (fun h => absurd h (by omega)))
  omega

set_option maxHeartbeats 2000000 in
theorem down_next (c : Dev nD) (t : Fin cfg0.N) (h : ¬ t.val % 16 = 0) (g : Fin 4) (e : Fin 704) (d : Fin 1024) :
    (outsAt0 m c t.val t.isLt).2.2.2.2 (ix3 g e d) = (outsAt0 m c (t.val - 1) (Nat.lt_of_le_of_lt (Nat.sub_le _ _) t.isLt)).2.2.2.2 (ix3 g e d) + downPart m c t g e d := by
  by_cases h' : t.val % 16 = 15
  · rw [outsAt0_C m c t h h']; dsimp only; frame_out
    refine Cert.Columns.canon_slab (n := 1) _ _ _ g e d _ (fun x hg => ?_) (fun _ => ?_)
    · obtain rfl : g = ⟨3, by decide⟩ := Fin.ext (show g.val = 3 by have := x.isLt; omega)
      refine (down_tile m c t 3 7 (by omega) rfl _ _ _ x e d).trans (congrArg₂ (· + ·) ?_ rfl)
      rw [read_unread_whole]; exact Cert.Columns.ld_slab (G := 4) (b := 704) (c := 1024) (k := 3) (n := 1) _ _ 0 e d ⟨3, by decide⟩ rfl
    refine Cert.Columns.canon_slab (n := 1) _ _ _ g e d _ (fun x hg => ?_) (fun _ => ?_)
    · obtain rfl : g = ⟨2, by decide⟩ := Fin.ext (show g.val = 2 by have := x.isLt; omega)
      refine (down_tile m c t 2 6 (by omega) rfl _ _ _ x e d).trans (congrArg₂ (· + ·) ?_ rfl)
      rw [read_unread_whole]; exact Cert.Columns.ld_slab (G := 4) (b := 704) (c := 1024) (k := 2) (n := 1) _ _ 0 e d ⟨2, by decide⟩ rfl
    refine Cert.Columns.canon_slab (n := 1) _ _ _ g e d _ (fun x hg => ?_) (fun _ => ?_)
    · obtain rfl : g = ⟨1, by decide⟩ := Fin.ext (show g.val = 1 by have := x.isLt; omega)
      refine (down_tile m c t 1 5 (by omega) rfl _ _ _ x e d).trans (congrArg₂ (· + ·) ?_ rfl)
      rw [read_unread_whole]; exact Cert.Columns.ld_slab (G := 4) (b := 704) (c := 1024) (k := 1) (n := 1) _ _ 0 e d ⟨1, by decide⟩ rfl
    refine Cert.Columns.canon_slab (n := 1) _ _ _ g e d _ (fun x hg => ?_) (fun _ => ?_)
    · obtain rfl : g = ⟨0, by decide⟩ := Fin.ext (show g.val = 0 by have := x.isLt; omega)
      refine (down_tile m c t 0 4 (by omega) rfl _ _ _ x e d).trans (congrArg₂ (· + ·) ?_ rfl)
      rw [read_unread_whole]; exact Cert.Columns.ld_slab (G := 4) (b := 704) (c := 1024) (k := 0) (n := 1) _ _ 0 e d ⟨0, by decide⟩ rfl
    omega
  · rw [outsAt0_B m c t h h']; dsimp only; frame_out
    refine Cert.Columns.canon_slab (n := 1) _ _ _ g e d _ (fun x hg => ?_) (fun _ => ?_)
    · obtain rfl : g = ⟨3, by decide⟩ := Fin.ext (show g.val = 3 by have := x.isLt; omega)
      refine (down_tile m c t 3 7 (by omega) rfl _ _ _ x e d).trans (congrArg₂ (· + ·) ?_ rfl)
      rw [read_unread_whole]; exact Cert.Columns.ld_slab (G := 4) (b := 704) (c := 1024) (k := 3) (n := 1) _ _ 0 e d ⟨3, by decide⟩ rfl
    refine Cert.Columns.canon_slab (n := 1) _ _ _ g e d _ (fun x hg => ?_) (fun _ => ?_)
    · obtain rfl : g = ⟨2, by decide⟩ := Fin.ext (show g.val = 2 by have := x.isLt; omega)
      refine (down_tile m c t 2 6 (by omega) rfl _ _ _ x e d).trans (congrArg₂ (· + ·) ?_ rfl)
      rw [read_unread_whole]; exact Cert.Columns.ld_slab (G := 4) (b := 704) (c := 1024) (k := 2) (n := 1) _ _ 0 e d ⟨2, by decide⟩ rfl
    refine Cert.Columns.canon_slab (n := 1) _ _ _ g e d _ (fun x hg => ?_) (fun _ => ?_)
    · obtain rfl : g = ⟨1, by decide⟩ := Fin.ext (show g.val = 1 by have := x.isLt; omega)
      refine (down_tile m c t 1 5 (by omega) rfl _ _ _ x e d).trans (congrArg₂ (· + ·) ?_ rfl)
      rw [read_unread_whole]; exact Cert.Columns.ld_slab (G := 4) (b := 704) (c := 1024) (k := 1) (n := 1) _ _ 0 e d ⟨1, by decide⟩ rfl
    refine Cert.Columns.canon_slab (n := 1) _ _ _ g e d _ (fun x hg => ?_) (fun _ => ?_)
    · obtain rfl : g = ⟨0, by decide⟩ := Fin.ext (show g.val = 0 by have := x.isLt; omega)
      refine (down_tile m c t 0 4 (by omega) rfl _ _ _ x e d).trans (congrArg₂ (· + ·) ?_ rfl)
      rw [read_unread_whole]; exact Cert.Columns.ld_slab (G := 4) (b := 704) (c := 1024) (k := 0) (n := 1) _ _ 0 e d ⟨0, by decide⟩ rfl
    omega

end Cert.FfnAIdeal.Value
end
-- ==== Proof.FfnA.Ker.lean ====
/- The kernel's result arrays. -/
module

public import proofs.«01_k».proof.Proof.FfnA.Sums
public import proofs.«01_k».proof.Proof.FfnA.Parts
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.FfnAIdeal.Value

open Cert.FfnAIdeal Cert.FfnAIdeal.Gen

variable (m : (ℓ : Loc nD τ sig) → Buf (Elt Ideal) ℓ)

/-- The results' arrays, entry by entry. -/
abbrev out0 (c : Dev nD) : S4x704x1024.Idx → EReal := fun j => Cert.FfnASpec.down (X m c) (K m c) (B m c) (H m c) (half (j 0) (j 1)) (j 2)
abbrev out1 (c : Dev nD) : S8x4096x704.Idx → EReal := fun j => Cert.FfnASpec.dup (X m c) (K m c) (B m c) (W m c) (H m c) (j 1) (col (j 0) (j 2))
abbrev out2 (c : Dev nD) : S8x3x704.Idx → EReal := fun j => Cert.FfnASpec.taps (X m c) (K m c) (B m c) (W m c) (H m c) (j 1) (col (j 0) (j 2))
abbrev out3 (c : Dev nD) : S8x1x704.Idx → EReal := fun j => Cert.FfnASpec.bias (X m c) (K m c) (B m c) (W m c) (H m c) (col (j 0) (j 2))

/-- A sum over the tokens, tile by tile. -/
theorem tok_sum (f : Fin 4096 → EReal) : (∑ i : Fin 4096, f i) = ∑ t : Fin cfg0.N, ∑ r : Fin 256, f (tok t r) :=
  Fin.sum_univ_tiles 16 256 rfl f

theorem whole_read (L : List (View.Piece (Elt Ideal) S4x704x1024 .f32)) (h) (j : S4x704x1024.Idx) :
    (View.whole cc0_scratch1).readCov L (Rect.unit (s := S4x704x1024) ![0, 0, 0] ![4, 704, 1024] h).toLoadRect j = View.canon L j := by
  rw [View.readCov_eq_canon']
  refine congrArg (View.canon L) ?_
  funext x; match x with
  | ⟨0, _⟩ => exact Fin.ext (by simp [Rect.toLoadRect, LoadRect.idx])
  | ⟨1, _⟩ => exact Fin.ext (by simp [Rect.toLoadRect, LoadRect.idx])
  | ⟨2, _⟩ => exact Fin.ext (by simp [Rect.toLoadRect, LoadRect.idx])

theorem cast_at (v : Vec Ideal S4x704x1024 .f32) (j : S4x704x1024.Idx) : k0_pay2 v j = v j := by
  idx_vars j
  pointwise [k0_pay2]
theorem place (t : Fin cfg0.N) (g : Fin 8) (r : Fin 256) (d : Fin 704) : ((View.whole main_v40_1).slice (win0_6.rect t)).emb (ix3 g r d) = ix3 g (tok t r) d := by
  blk_ext [idx_val t]

theorem final_6 (c : Dev nD) : (dats m 0 c).arrAt 6 (cfgs 0).N = out1 m c := by
  refine (dats m 0 c).arrAt_eq_of_covers 6 _ (by decide +kernel) fun t hf y => ?_
  blk_simp; rw [after0_6]
  idx_vars y
  refine Eq.trans ?_ (congrArg _ (place t y0 y1 y2)).symm
  exact dup_at m c t y0 y1 y2

theorem final_7 (c : Dev nD) : (dats m 0 c).arrAt 7 (cfgs 0).N = out2 m c := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun t (j : S8x3x704.Idx) => tapPart m c t (j 1) (j 0) (j 2))
    (fun t h j => by idx_vars j; exact taps_first m c t h j1 j0 j2)
    (fun t h j => by idx_vars j; exact taps_next m c t h j1 j0 j2)
    (le_of_eq N_0) t0_15 rfl j, zero_add]
  idx_vars j
  refine Eq.trans ?_ (tok_sum _).symm
  refine Fin.sum_fin_congr fun t => ?_
  rfl
theorem final_8 (c : Dev nD) : (dats m 0 c).arrAt 8 (cfgs 0).N = out3 m c := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => 0)
    (fun t (j : S8x1x704.Idx) => biasPart m c t (j 0) (j 2))
    (fun t h j => by idx_vars j; exact bias_first m c t h j0 j1 j2)
    (fun t h j => by idx_vars j; exact bias_next m c t h j0 j1 j2)
    (le_of_eq N_0) t0_15 rfl j, zero_add]
  idx_vars j
  refine Eq.trans ?_ (tok_sum _).symm
  refine Fin.sum_fin_congr fun t => ?_
  rfl
theorem final_5 (c : Dev nD) : (dats m 0 c).arrAt 5 (cfgs 0).N = out0 m c := by
  refine (dats m 0 c).arrAt_eq_of_after_last 5 t0_15 (by decide +kernel) _ fun j => ?_
  blk_simp
  rw [after0_5]
  have e : (outsAt0 m c t0_15.val t0_15.isLt).1 j = (outsAt0 m c t0_15.val t0_15.isLt).2.2.2.2 j := by
    rw [outsAt0_C m c t0_15 (by decide +kernel) (by decide +kernel)]; dsimp only; frame_out
    rw [cast_at]
    exact whole_read _ _ j
  rw [e, Pipeline.eq_sum_fin_of_reset_step_apply_last (fun n h => (outsAt0 m c n h).2.2.2.2) 16 (fun _ => 0)
    (fun t (j : S4x704x1024.Idx) => downPart m c t (j 0) (j 1) (j 2))
    (fun t h j => by idx_vars j; exact down_first m c t h j0 j1 j2)
    (fun t h j => by idx_vars j; exact down_next m c t h j0 j1 j2)
    (le_of_eq N_0) t0_15 rfl j, zero_add]
  idx_vars j
  refine Eq.trans ?_ (tok_sum _).symm
  refine Fin.sum_fin_congr fun t => ?_
  rfl

end Cert.FfnAIdeal.Value
end
-- ==== Proof.FfnA.Pre.lean ====
/- The precondition of the gated backward pass: which arrays have real entries. -/
module

public import proofs.«01_k».proof.Pre_finite_ffn_a
public import proofs.«01_k».proof.Proof.Common.Finite

@[expose] public section

noncomputable section

open Idealize.ShloMosaic

namespace Cert.Pre_finite_ffn_a

open Cert.Reals

variable [Facts] {x0 : FVec Ideal S1x4096x5632 .f32} {x1 : FVec Ideal S1x3x5632 .f32} {x2 : FVec Ideal S1x5632 .f32}
  {x3 : FVec Ideal S1x2816x1024 .f32} {x4 : FVec Ideal S4096x1024 .f32}

theorem reals (h : fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have h := congrFun h ix0
  unfold fn fn_part1 at h
  obtain ⟨h, h4⟩ := and_set h
  obtain ⟨h, h3⟩ := and_set h
  obtain ⟨h, h2⟩ := and_set h
  obtain ⟨h0, h1⟩ := and_set h
  exact ⟨isReal_of_all h0, isReal_of_all h1, isReal_of_all h2, isReal_of_all h3, isReal_of_all h4⟩

end Cert.Pre_finite_ffn_a
end
-- ==== Proof.FfnA.Claim.lean ====
/- The backward pass of the gated product and of the convolution's parameters: the kernel's arrays are the reference's. -/
module

public import proofs.«01_k».proof.Defs
public import proofs.«01_k».proof.Proof.Gen.FfnARefIdeal.Run
public import proofs.«01_k».proof.Proof.FfnA.Ker
public import proofs.«01_k».proof.Proof.FfnA.Ref
public import proofs.«01_k».proof.Proof.FfnA.Pre
public import Idealize.ShloMosaic.Lib.Claim

@[expose] public section

noncomputable section

open Idealize.ShloMosaic Idealize.SL.Sem

namespace Cert.FfnAClaim

/-- The reference runs and leaves its arguments; it declares no semaphore. -/
theorem frame_ref [hR : Cert.FfnARefIdeal.Facts] : Cert.quiescent_FfnARefIdeal := fun m ρ _ =>
  (θ_run Cert.FfnARefIdeal.defs _ _).mono (fun r h => ⟨fun c => (h c).2.2.2.2, sem_eq_zero_of_no_sems (by decide) r.2⟩)
    (Cert.FfnARefIdeal.Value.run m ρ)

theorem algebraic [hK : Cert.FfnAIdeal.Facts] [hR : Cert.FfnARefIdeal.Facts] [hP : Cert.Pre_finite_ffn_a.Facts] :
    Cert.algebraic_FfnAIdeal_FfnARefIdeal_pre_finite_ffn_a := by
  intro m g m' g' hpre hagree
  refine ⟨Cert.FfnAIdeal.Value.out0 m, Cert.FfnAIdeal.Value.out1 m, Cert.FfnAIdeal.Value.out2 m, Cert.FfnAIdeal.Value.out3 m, ?_, ?_⟩
  · refine (θ_run Cert.FfnAIdeal.defs _ _).mono (fun r h c => ?_) (Cert.FfnAIdeal.Value.run_named m g)
    obtain ⟨⟨h5, h6, h7, h8⟩, hargs⟩ := h c
    exact ⟨h5.trans (Cert.FfnAIdeal.Value.final_5 m c), h6.trans (Cert.FfnAIdeal.Value.final_6 m c), h7.trans (Cert.FfnAIdeal.Value.final_7 m c),
      h8.trans (Cert.FfnAIdeal.Value.final_8 m c), hargs⟩
  · refine (θ_run Cert.FfnARefIdeal.defs _ _).mono (fun r h c => ?_) (Cert.FfnARefIdeal.Value.run m' g')
    obtain ⟨e0, e1, e2, e3, e4⟩ := hagree c
    obtain ⟨r0, r1, r2, r3, r4⟩ := Cert.Pre_finite_ffn_a.reals (hpre c)
    obtain ⟨h0, h1, h2, h3, hargs⟩ := h c
    have k0 : m' (c.tc.loc Cert.FfnARefIdeal.main_arg0) = Cert.FfnAIdeal.Value.X m c := e0
    have k1 : m' (c.tc.loc Cert.FfnARefIdeal.main_arg1) = Cert.FfnAIdeal.Value.K m c := e1
    have k2 : m' (c.tc.loc Cert.FfnARefIdeal.main_arg2) = Cert.FfnAIdeal.Value.B m c := e2
    have k3 : m' (c.tc.loc Cert.FfnARefIdeal.main_arg3) = Cert.FfnAIdeal.Value.W m c := e3
    have k4 : m' (c.tc.loc Cert.FfnARefIdeal.main_arg4) = Cert.FfnAIdeal.Value.H m c := e4
    refine ⟨h0.trans ?_, h1.trans ?_, h2.trans ?_, h3.trans ?_, hargs⟩
    · refine (Cert.FfnARefIdeal.Read.val_main_v98_eq m' c).trans ?_
      rw [k0, k1, k2, k4]
      exact Cert.FfnARefIdeal.Read.out0 _ _ _ _
    · refine (Cert.FfnARefIdeal.Read.val_main_v102_eq m' c).trans ?_
      rw [k0, k1, k2, k3, k4]
      exact Cert.FfnARefIdeal.Read.out1 _ _ _ _ _ r0 r1 r2 r3 r4
    · refine (Cert.FfnARefIdeal.Read.val_main_v105_eq m' c).trans ?_
      rw [k0, k1, k2, k3, k4]
      exact Cert.FfnARefIdeal.Read.out2 _ _ _ _ _ r0 r1 r2 r3 r4
    · refine (Cert.FfnARefIdeal.Read.val_main_v106_eq m' c).trans ?_
      rw [k0, k1, k2, k3, k4]
      exact Cert.FfnARefIdeal.Read.out3 _ _ _ _ _ r0 r1 r2 r3 r4

end Cert.FfnAClaim
end
-- ==== Proof.FfnB.Spec.lean ====
/- The backward pass of the convolution's input, the product with `w_up` and the normalisation, entry by entry. -/
module

public import proofs.«01_k».proof.Proof.Common.Rms

@[expose] public section

noncomputable section

open Idealize.ShloMosaic

namespace Cert.FfnBSpec

open Cert.Rms

variable (x : FVec Ideal ⟨3, ![1, 4096, 1024]⟩ .f32) (g : FVec Ideal ⟨2, ![1, 1024]⟩ .f32)
  (w : FVec Ideal ⟨3, ![1, 1024, 5632]⟩ .f32) (k : FVec Ideal ⟨3, ![1, 3, 5632]⟩ .f32)
  (u : FVec Ideal ⟨2, ![4096, 5632]⟩ .f32) (h : FVec Ideal ⟨2, ![4096, 1024]⟩ .f32)

/-- The convolution's cotangent at token `s`, zero after the last token. -/
def tap (s : ℕ) (c : Fin 5632) : EReal := if hs : s < 4096 then u (ix2 ⟨s, hs⟩ c) else 0

/-- The cotangent of the convolution's input. -/
def dpre (s : ℕ) (c : Fin 5632) : EReal :=
  k (ix3 0 2 c) * tap u s c + k (ix3 0 1 c) * tap u (s + 1) c + k (ix3 0 0 c) * tap u (s + 2) c

/-- The cotangent of the normalised row. -/
def dhn (s : ℕ) (d : Fin 1024) : EReal := ∑ c : Fin 5632, dpre k u s c * w (ix3 0 d c)

/-- Row `s` of the input. -/
abbrev row (s : Fin 4096) : Fin 1024 → EReal := fun d => x (ix3 0 s d)

/-- The cotangent of the convolution's input in eight slabs of 704 columns. -/
def out0 (j : (⟨3, ![8, 4096, 704]⟩ : Shape).Idx) : EReal :=
  dpre k u (j 1).val ⟨(j 0).val * 704 + (j 2).val, by have := (j 0).isLt; have := (j 2).isLt; simp at *; omega⟩

/-- The input's gradient. -/
def out1 (j : (⟨2, ![4096, 1024]⟩ : Shape).Idx) : EReal :=
  h j + dx (row x (j 0)) (fun e => dhn w k u (j 0).val e) (fun e => g (ix2 0 e)) (j 1)

/-- The scale's gradient. -/
def out2 (j : (⟨2, ![1, 1024]⟩ : Shape).Idx) : EReal :=
  ∑ s : Fin 4096, dhn w k u s.val (j 1) * (x (ix3 0 s (j 1)) * inv (row x s))

/-- The cotangent of the normalised row, summed in eight runs of 704 columns. -/
theorem dhn_tiles (s : ℕ) (d : Fin 1024) : dhn w k u s d
    = ∑ a : Fin 8, ∑ b : Fin 704, dpre k u s ⟨a.val * 704 + b.val, by omega⟩ * w (ix3 0 d ⟨a.val * 704 + b.val, by omega⟩) :=
  Fin.sum_univ_tiles 8 704 rfl (fun c => dpre k u s c * w (ix3 0 d c))

end Cert.FfnBSpec
end
-- ==== Proof.FfnB.Blocks.lean ====
/- What the kernel's operands hold at a grid point, and what its operations compute from them. -/
module

public import proofs.«01_k».proof.Proof.Gen.FfnBIdeal.Value
public import proofs.«01_k».proof.Proof.FfnB.Spec
public import proofs.«01_k».proof.Proof.Common.Stage
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnBIdeal.Value

open Cert.FfnBIdeal Cert.FfnBIdeal.Gen

variable (m : (ℓ : Loc nD τ sig) → Buf (Elt Ideal) ℓ)

/-- Every window's block at every grid point. -/
theorem idx_val : ∀ t : Fin cfg0.N, win0_0.index t = ![0, t.val, 0]
    ∧ win0_1.index t = ![0, min ((t.val + 1) * 16) 255, 0] ∧ win0_2.index t = ![0, 0, 0] ∧ win0_3.index t = ![0, 0, 0]
    ∧ win0_4.index t = ![t.val, 0] ∧ win0_5.index t = ![0, 0] ∧ win0_6.index t = ![t.val, 0]
    ∧ win0_7.index t = ![0, t.val, 0] ∧ win0_8.index t = ![t.val, 0] ∧ win0_9.index t = ![t.val, 0]
    ∧ win0_10.index t = ![0, 0] :=
  (by decide +kernel : ∀ t : Fin grid0.N, _)

abbrev X (c : Dev nD) : FVec Ideal S1x4096x1024 .f32 := m ((c : Thread nD τ).loc main_arg0)
abbrev G (c : Dev nD) : FVec Ideal S1x1024 .f32 := m ((c : Thread nD τ).loc main_arg1)
abbrev W (c : Dev nD) : FVec Ideal S1x1024x5632 .f32 := m ((c : Thread nD τ).loc main_arg2)
abbrev K (c : Dev nD) : FVec Ideal S1x3x5632 .f32 := m ((c : Thread nD τ).loc main_arg3)
abbrev U (c : Dev nD) : FVec Ideal S4096x5632 .f32 := m ((c : Thread nD τ).loc main_arg5)
abbrev H (c : Dev nD) : FVec Ideal S4096x1024 .f32 := m ((c : Thread nD τ).loc main_arg6)

/-- The grid has sixteen points. -/
theorem point_lt (t : Fin cfg0.N) : t.val < 16 := lt_of_lt_of_le t.isLt (le_of_eq N_0)

theorem v2_at (c : Dev nD) (a : Fin 8) (s : Fin 4096) (d : Fin 704) :
    V m c main_v2 (ix3 a s d) = U m c (ix2 s ⟨a.val * 704 + d.val, by omega⟩) := by
  entry_read
  pointwise
  blk_ext
theorem v5_at (c : Dev nD) (a : Fin 8) (s : Fin 3) (d : Fin 704) :
    V m c main_v5 (ix3 a s d) = K m c (ix3 0 s ⟨a.val * 704 + d.val, by omega⟩) := by
  entry_read
  pointwise
  blk_ext
theorem v9_at (c : Dev nD) (a : Fin 8) (s : Fin 1024) (d : Fin 704) :
    V m c main_v9 (ix3 a s d) = W m c (ix3 0 s ⟨a.val * 704 + d.val, by omega⟩) := by
  entry_read
  pointwise
  blk_ext
theorem v10_at (c : Dev nD) (s : Fin 4096) (d : Fin 1024) : V m c main_v10 (ix2 s d) = X m c (ix3 0 s d) := by
  entry_read
  pointwise

theorem blk0 (c : Dev nD) (t : Fin cfg0.N) (a : Fin 8) (r : Fin 256) (d : Fin 704) :
    iblk m c 0 t (ix3 a r d) = U m c (ix2 ⟨t.val * 256 + r.val, by have := point_lt t; omega⟩ ⟨a.val * 704 + d.val, by omega⟩) := by
  refine Eq.trans ?_ (v2_at m c a _ d)
  blk_simp [iblk, idx_val t]
  blk_ext [idx_val t]
theorem blk1 (c : Dev nD) (t : Fin cfg0.N) (ht : t.val < 15) (a : Fin 8) (r : Fin 16) (d : Fin 704) :
    iblk m c 1 t (ix3 a r d) = U m c (ix2 ⟨t.val * 256 + 256 + r.val, by omega⟩ ⟨a.val * 704 + d.val, by omega⟩) := by
  refine Eq.trans ?_ (v2_at m c a _ d)
  have e : min ((t.val + 1) * 16) 255 = (t.val + 1) * 16 := by omega
  blk_simp [iblk, idx_val t]
  blk_ext [idx_val t]
theorem blk2 (c : Dev nD) (t : Fin cfg0.N) (a : Fin 8) (r : Fin 3) (d : Fin 704) :
    iblk m c 2 t (ix3 a r d) = K m c (ix3 0 r ⟨a.val * 704 + d.val, by omega⟩) := by
  refine Eq.trans ?_ (v5_at m c a _ d)
  blk_simp [iblk, idx_val t]
  blk_ext [idx_val t]
theorem blk3 (c : Dev nD) (t : Fin cfg0.N) (a : Fin 8) (r : Fin 1024) (d : Fin 704) :
    iblk m c 3 t (ix3 a r d) = W m c (ix3 0 r ⟨a.val * 704 + d.val, by omega⟩) := by
  refine Eq.trans ?_ (v9_at m c a _ d)
  blk_simp [iblk, idx_val t]
  blk_ext [idx_val t]
theorem blk4 (c : Dev nD) (t : Fin cfg0.N) (r : Fin 256) (a : Fin 1024) :
    iblk m c 4 t (ix2 r a) = X m c (ix3 0 ⟨t.val * 256 + r.val, by have := point_lt t; omega⟩ a) := by
  refine Eq.trans ?_ (v10_at m c _ a)
  blk_simp [iblk, idx_val t]
  blk_ext [idx_val t]
theorem blk5 (c : Dev nD) (t : Fin cfg0.N) (a : Fin 1024) : iblk m c 5 t (ix2 0 a) = G m c (ix2 0 a) := by
  blk_point [iblk, V, idx_val t]
theorem blk6 (c : Dev nD) (t : Fin cfg0.N) (r : Fin 256) (a : Fin 1024) :
    iblk m c 6 t (ix2 r a) = H m c (ix2 ⟨t.val * 256 + r.val, by have := point_lt t; omega⟩ a) := by
  blk_point [iblk, V, idx_val t]

/-! Every slab of 704 columns is computed by the same operations: the later slabs' are the first one's. -/

theorem tile1 (v : Vec Ideal S1x256x704 .bf16) : k0_pay12 v = k0_pay5 v := rfl
theorem tile2 (v : Vec Ideal S1x256x704 .bf16) : k0_pay20 v = k0_pay5 v := rfl
theorem tile3 (v : Vec Ideal S1x256x704 .bf16) : k0_pay28 v = k0_pay5 v := rfl
theorem tile4 (v : Vec Ideal S1x256x704 .bf16) : k0_pay34 v = k0_pay5 v := rfl
theorem tile5 (v : Vec Ideal S1x256x704 .bf16) : k0_pay41 v = k0_pay5 v := rfl
theorem tile6 (v : Vec Ideal S1x256x704 .bf16) : k0_pay47 (k0_pay46 v) = k0_pay5 v := rfl
theorem tile7 (v : Vec Ideal S1x256x704 .bf16) : k0_pay53 v = k0_pay5 v := rfl
theorem next0 (i : grid0.Coords) (h : Vec Ideal S1x16x704 .bf16) : k0_pay6 i h = k0_pay13 (BitVec.ofNat 32 (i 0).val) h := rfl
theorem next2 (b : BitVec 32) (h : Vec Ideal S1x16x704 .bf16) : k0_pay21 b h = k0_pay13 b h := rfl
theorem next3 (b : BitVec 32) (h : Vec Ideal S1x16x704 .bf16) : k0_pay29 b h = k0_pay13 b h := rfl
theorem next4 (b : BitVec 32) (h : Vec Ideal S1x16x704 .bf16) : k0_pay36 (k0_pay35 b h) = k0_pay13 b h := rfl
theorem next5 (b : BitVec 32) (h : Vec Ideal S1x16x704 .bf16) : k0_pay42 (Scalar.cmpi .slt b 15#32) h = k0_pay13 b h := rfl
theorem next6 (b : BitVec 32) (h : Vec Ideal S1x16x704 .bf16) : k0_pay48 b h = k0_pay13 b h := rfl
theorem next7 (b : BitVec 32) (h : Vec Ideal S1x16x704 .bf16) : k0_pay54 b h = k0_pay13 b h := rfl
theorem store1 (v : Vec Ideal S1x256x704 .bf16) (k : Vec Ideal S1x3x704 .f32) (p q : Vec Ideal S256x704 .f32) : k0_pay17 (k0_pay14 k) (k0_pay15 v k p) q = k0_pay9 (k0_pay7 v k p q) := rfl
theorem store2 (v : Vec Ideal S1x256x704 .bf16) (k : Vec Ideal S1x3x704 .f32) (p q : Vec Ideal S256x704 .f32) : k0_pay25 (k0_pay22 k) (k0_pay23 v k) p q = k0_pay9 (k0_pay7 v k p q) := rfl
theorem store3 (v : Vec Ideal S1x256x704 .bf16) (k : Vec Ideal S1x3x704 .f32) (p q : Vec Ideal S256x704 .f32) : k0_pay31 (k0_pay27 v) k p q = k0_pay9 (k0_pay7 v k p q) := rfl
theorem store4 (v : Vec Ideal S1x256x704 .bf16) (k : Vec Ideal S1x3x704 .f32) (p q : Vec Ideal S256x704 .f32) : k0_pay38 (k0_pay33 v) k p q = k0_pay9 (k0_pay7 v k p q) := rfl
theorem store5 (v : Vec Ideal S1x256x704 .bf16) (k : Vec Ideal S1x3x704 .f32) (p q : Vec Ideal S256x704 .f32) : k0_pay44 (k0_pay40 v) k p q = k0_pay9 (k0_pay7 v k p q) := rfl
theorem store6 (v : Vec Ideal S1x256x704 .bf16) (k : Vec Ideal S1x3x704 .f32) (p q : Vec Ideal S256x704 .f32) : k0_pay50 (k0_pay46 v) k p q = k0_pay9 (k0_pay7 v k p q) := rfl
theorem store7 (v : Vec Ideal S1x256x704 .bf16) (k : Vec Ideal S1x3x704 .f32) (p q : Vec Ideal S256x704 .f32) : k0_pay56 v k p q = k0_pay9 (k0_pay7 v k p q) := rfl
theorem add1 (a : FVec Ideal S256x1024 .f32) (v : Vec Ideal S1x256x704 .bf16) (k : Vec Ideal S1x3x704 .f32) (p q : Vec Ideal S256x704 .f32) (w : Vec Ideal S1x1024x704 .bf16) : k0_pay18 a (k0_pay14 k) (k0_pay15 v k p) q w = k0_pay10 a (k0_pay7 v k p q) w := rfl
theorem add2 (a : FVec Ideal S256x1024 .f32) (v : Vec Ideal S1x256x704 .bf16) (k : Vec Ideal S1x3x704 .f32) (p q : Vec Ideal S256x704 .f32) (w : Vec Ideal S1x1024x704 .bf16) : k0_pay26 a (k0_pay22 k) (k0_pay23 v k) p q w = k0_pay10 a (k0_pay7 v k p q) w := rfl
theorem add3 (a : FVec Ideal S256x1024 .f32) (v : Vec Ideal S1x256x704 .bf16) (k : Vec Ideal S1x3x704 .f32) (p q : Vec Ideal S256x704 .f32) (w : Vec Ideal S1x1024x704 .bf16) : k0_pay32 a (k0_pay27 v) k p q w = k0_pay10 a (k0_pay7 v k p q) w := rfl
theorem add4 (a : FVec Ideal S256x1024 .f32) (v : Vec Ideal S1x256x704 .bf16) (k : Vec Ideal S1x3x704 .f32) (p q : Vec Ideal S256x704 .f32) (w : Vec Ideal S1x1024x704 .bf16) : k0_pay39 a (k0_pay33 v) k p q w = k0_pay10 a (k0_pay7 v k p q) w := rfl
theorem add5 (a : FVec Ideal S256x1024 .f32) (v : Vec Ideal S1x256x704 .bf16) (k : Vec Ideal S1x3x704 .f32) (p q : Vec Ideal S256x704 .f32) (w : Vec Ideal S1x1024x704 .bf16) : k0_pay45 a (k0_pay40 v) k p q w = k0_pay10 a (k0_pay7 v k p q) w := rfl
theorem add6 (a : FVec Ideal S256x1024 .f32) (v : Vec Ideal S1x256x704 .bf16) (k : Vec Ideal S1x3x704 .f32) (p q : Vec Ideal S256x704 .f32) (w : Vec Ideal S1x1024x704 .bf16) : k0_pay51 a (k0_pay46 v) k p q w = k0_pay10 a (k0_pay7 v k p q) w := rfl
theorem last7 (v : Vec Ideal S1x256x704 .bf16) (k : Vec Ideal S1x3x704 .f32) (p q : Vec Ideal S256x704 .f32) : k0_pay55 v k p q = k0_pay8 (k0_pay7 v k p q) := rfl

/-- The last grid point is the only one that has no rows after it. -/
theorem inside : ∀ t : Fin cfg0.N, Scalar.cmpi .slt (BitVec.ofNat 32 (grid0.coords t 0).val) 15#32 = if t.val < 15 then 1#1 else 0#1 :=
  (by decide +kernel : ∀ t : Fin grid0.N, _)

/-- A row of the buffer that holds one slab of the cotangent, then the rows after it. -/
theorem stage_at (c : Dev nD) (t : Fin cfg0.N) (a k : ℕ) (hk : k ≤ 16) (i0 : ∀ x, (![a, 0, 0] : Fin 3 → ℕ) x + (![1, 256, 704] : Fin 3 → ℕ) x ≤ S8x256x704.size x)
    (i1 : ∀ x, (![a, 0, 0] : Fin 3 → ℕ) x + (![1, 16, 704] : Fin 3 → ℕ) x ≤ S8x16x704.size x)
    (i3 : ∀ x, (![256, 0] : Fin 2 → ℕ) x + (![16, 704] : Fin 2 → ℕ) x ≤ S272x704.size x)
    (i4 : ∀ x, (![0, 0] : Fin 2 → ℕ) x + (![256, 704] : Fin 2 → ℕ) x ≤ S272x704.size x)
    (i5 : ∀ x, (![k, 0] : Fin 2 → ℕ) x + (![256, 704] : Fin 2 → ℕ) x ≤ S272x704.size x)
    (L : List (View.Piece (Elt Ideal) S272x704 .f32)) (r : Fin 256) (d : Fin 704) (ha : a < 8) :
    (View.whole cc0_scratch0).readCov
      ((⟨Rect.unit ![256, 0] ![16, 704] i3, k0_pay13 (BitVec.ofNat 32 (grid0.coords t 0).val) (View.ld (iblk m c 1 t) (Rect.unit ![a, 0, 0] ![1, 16, 704] i1))⟩ : View.Piece (Elt Ideal) S272x704 .f32)
        :: ⟨Rect.unit ![0, 0] ![256, 704] i4, k0_pay5 (View.ld (iblk m c 0 t) (Rect.unit ![a, 0, 0] ![1, 256, 704] i0))⟩ :: L)
      (Rect.unit (s := S272x704) ![k, 0] ![256, 704] i5).toLoadRect (ix2 r d)
      = Cert.FfnBSpec.tap (U m c) (t.val * 256 + r.val + k) ⟨a * 704 + d.val, by omega⟩ := by
  have ht := point_lt t
  refine Cert.Stage.rows_read (R := 272) (C := 704) (View.whole cc0_scratch0) i3 i4 i5 _ _ L r d _ (fun x hx => ?_) (fun hn => ?_)
  · have e : k0_pay13 (BitVec.ofNat 32 (grid0.coords t 0).val) (View.ld (iblk m c 1 t) (Rect.unit ![a, 0, 0] ![1, 16, 704] i1)) (ix2 x d)
        = if t.val < 15 then iblk m c 1 t (ix3 ⟨a, ha⟩ x d) else (0 : EReal) := by
      pointwise [k0_pay13]
      rw [inside]
      by_cases h : t.val < 15
      · rw [if_pos h, if_pos h]; rfl
      · rw [if_neg h, if_neg h]; rfl
    rw [e]
    unfold Cert.FfnBSpec.tap
    split
    · rw [blk1 m c t (by assumption), dif_pos (by omega)]
      refine congrArg (U m c) (congrArg (ix2 · _) (Fin.ext ?_))
      show t.val * 256 + 256 + x.val = t.val * 256 + r.val + k
      omega
    · rw [dif_neg (by omega)]
  · refine ⟨⟨k + r.val, by omega⟩, by simp, ?_⟩
    unfold Cert.FfnBSpec.tap
    rw [dif_pos (by omega)]
    pointwise [k0_pay5, k0_pay4]
    refine (blk0 m c t ⟨a, ha⟩ _ d).trans (congrArg (U m c) (congrArg (ix2 · _) (Fin.ext ?_)))
    show t.val * 256 + (k + r.val) = t.val * 256 + r.val + k
    omega

/-- One slab of the convolution input's cotangent, at a grid point's row `r`. -/
theorem dpre_at (c : Dev nD) (t : Fin cfg0.N) (a : ℕ) (i0 : ∀ x, (![a, 0, 0] : Fin 3 → ℕ) x + (![1, 256, 704] : Fin 3 → ℕ) x ≤ S8x256x704.size x)
    (i1 : ∀ x, (![a, 0, 0] : Fin 3 → ℕ) x + (![1, 16, 704] : Fin 3 → ℕ) x ≤ S8x16x704.size x)
    (i2 : ∀ x, (![a, 0, 0] : Fin 3 → ℕ) x + (![1, 3, 704] : Fin 3 → ℕ) x ≤ S8x3x704.size x)
    (i3 : ∀ x, (![256, 0] : Fin 2 → ℕ) x + (![16, 704] : Fin 2 → ℕ) x ≤ S272x704.size x)
    (i4 : ∀ x, (![0, 0] : Fin 2 → ℕ) x + (![256, 704] : Fin 2 → ℕ) x ≤ S272x704.size x)
    (i5 : ∀ x, (![1, 0] : Fin 2 → ℕ) x + (![256, 704] : Fin 2 → ℕ) x ≤ S272x704.size x)
    (i6 : ∀ x, (![2, 0] : Fin 2 → ℕ) x + (![256, 704] : Fin 2 → ℕ) x ≤ S272x704.size x)
    (L L' : List (View.Piece (Elt Ideal) S272x704 .f32)) (r : Fin 256) (d : Fin 704) :
    k0_pay7 (F := Ideal) (View.ld (iblk m c 0 t) (Rect.unit ![a, 0, 0] ![1, 256, 704] i0)) (View.ld (iblk m c 2 t) (Rect.unit ![a, 0, 0] ![1, 3, 704] i2))
      ((View.whole cc0_scratch0).readCov
        ((⟨Rect.unit ![256, 0] ![16, 704] i3, k0_pay13 (BitVec.ofNat 32 (grid0.coords t 0).val) (View.ld (iblk m c 1 t) (Rect.unit ![a, 0, 0] ![1, 16, 704] i1))⟩ : View.Piece (Elt Ideal) S272x704 .f32)
          :: ⟨Rect.unit ![0, 0] ![256, 704] i4, k0_pay5 (View.ld (iblk m c 0 t) (Rect.unit ![a, 0, 0] ![1, 256, 704] i0))⟩ :: L)
        (Rect.unit (s := S272x704) ![1, 0] ![256, 704] i5).toLoadRect)
      ((View.whole cc0_scratch0).readCov
        ((⟨Rect.unit ![256, 0] ![16, 704] i3, k0_pay13 (BitVec.ofNat 32 (grid0.coords t 0).val) (View.ld (iblk m c 1 t) (Rect.unit ![a, 0, 0] ![1, 16, 704] i1))⟩ : View.Piece (Elt Ideal) S272x704 .f32)
          :: ⟨Rect.unit ![0, 0] ![256, 704] i4, k0_pay5 (View.ld (iblk m c 0 t) (Rect.unit ![a, 0, 0] ![1, 256, 704] i0))⟩ :: L')
        (Rect.unit (s := S272x704) ![2, 0] ![256, 704] i6).toLoadRect) (ix2 r d)
      = Cert.FfnBSpec.dpre (K m c) (U m c) (t.val * 256 + r.val) ⟨a * 704 + d.val, by have := i0 0; simp at this; omega⟩ := by
  have ha : a < 8 := by have := i0 0; simp at this; omega
  have ht := point_lt t
  have e : Cert.FfnBSpec.tap (U m c) (t.val * 256 + r.val) ⟨a * 704 + d.val, by omega⟩
      = U m c (ix2 ⟨t.val * 256 + r.val, by omega⟩ ⟨a * 704 + d.val, by omega⟩) := by
    unfold Cert.FfnBSpec.tap; rw [dif_pos (by omega)]
  unfold Cert.FfnBSpec.dpre
  rw [← stage_at m c t a 1 (by omega) i0 i1 i3 i4 i5 L r d ha, ← stage_at m c t a 2 (by omega) i0 i1 i3 i4 i6 L' r d ha, e]
  pointwise [k0_pay7, k0_pay4]
  rw [← blk0 m c t ⟨a, ha⟩ r d, ← blk2 m c t ⟨a, ha⟩ 0 d, ← blk2 m c t ⟨a, ha⟩ 1 d, ← blk2 m c t ⟨a, ha⟩ 2 d]

/-- One slab's part of the product with the weights. -/
theorem add_at (a : FVec Ideal S256x1024 .f32) (x : FVec Ideal S256x704 .f32) (w : Vec Ideal S1x1024x704 .bf16) (r : Fin 256) (d : Fin 1024) :
    k0_pay10 a x w (ix2 r d) = a (ix2 r d) + ∑ b : Fin 704, x (ix2 r b) * w (ix3 0 d b) := by
  pointwise [k0_pay10, k0_pay8]
theorem zero_at (r : Fin 256) (d : Fin 1024) : k0_pay3 (F := Ideal) (ix2 r d) = 0 := by
  pointwise! [k0_pay3]
theorem w_at (c : Dev nD) (t : Fin cfg0.N) (a : ℕ) (i0 : ∀ x, (![a, 0, 0] : Fin 3 → ℕ) x + (![1, 1024, 704] : Fin 3 → ℕ) x ≤ S8x1024x704.size x)
    (r : Fin 1024) (d : Fin 704) : View.ld (iblk m c 3 t) (Rect.unit ![a, 0, 0] ![1, 1024, 704] i0) (ix3 0 r d)
      = W m c (ix3 0 r ⟨a * 704 + d.val, by have := i0 0; simp at this; omega⟩) := by
  have ha : a < 8 := by have := i0 0; simp at this; omega
  refine Eq.trans ?_ (blk3 m c t ⟨a, ha⟩ r d)
  pointwise

/-- The input gradient's tile, on the rows a grid point holds. -/
theorem pay62_at (a x h : FVec Ideal S256x1024 .f32) (g : FVec Ideal S1x1024 .f32) (p : FVec Ideal S256x704 .f32) (w : Vec Ideal S1x1024x704 .bf16)
    (r : Fin 256) (d : Fin 1024) :
    k0_pay62 a (k0_pay8 p) w g x h (ix2 r d)
      = h (ix2 r d) + Cert.Rms.dx (fun e => x (ix2 r e)) (fun e => k0_pay10 a p w (ix2 r e)) (fun e => g (ix2 0 e)) d := by
  simp only [add_at]
  pointwise [k0_pay62, k0_pay57, k0_pay8, k0_pay58, k0_pay59, k0_pay60, Cert.Rms.dx, Cert.Rms.inv, Cert.Rms.var]

/-- The scale gradient's part from the rows a grid point holds. -/
theorem pay61_at (a x : FVec Ideal S256x1024 .f32) (p : FVec Ideal S256x704 .f32) (w : Vec Ideal S1x1024x704 .bf16) (z : Fin 1) (d : Fin 1024) :
    k0_pay61 a (k0_pay8 p) w x (fun _ => 0) (ix2 z d)
      = ∑ r : Fin 256, k0_pay10 a p w (ix2 r d) * (x (ix2 r d) * Cert.Rms.inv (fun e => x (ix2 r e))) := by
  simp only [add_at]
  pointwise [k0_pay61, k0_pay57, k0_pay8, k0_pay58, k0_pay59, k0_pay60, Cert.Rms.inv, Cert.Rms.var]

theorem store_at (p : FVec Ideal S256x704 .f32) (z : Fin 1) (r : Fin 256) (d : Fin 704) : k0_pay9 p (ix3 z r d) = p (ix2 r d) := by
  pointwise [k0_pay9, k0_pay8]

/-- The first output's entry in a block. -/
theorem slab_at (c : Dev nD) (t : Fin cfg0.N) (y : ((cfg0.win 7).xblock (cfg0.grid.coords t)).Idx) (a : ℕ) (r : Fin 256) (b : Fin 704)
    (ha : a < 8) (h0 : (y 0).val = a) (h1 : (y 1).val = r.val) (h2 : (y 2).val = b.val) :
    Cert.FfnBSpec.dpre (K m c) (U m c) (t.val * 256 + r.val) ⟨a * 704 + b.val, by omega⟩
      = Cert.FfnBSpec.out0 (K m c) (U m c) (((View.whole main_v11_0).slice (win0_7.rect t)).emb y) := by
  have e : ((View.whole main_v11_0).slice (win0_7.rect t)).emb y
      = ix3 ⟨a, ha⟩ ⟨t.val * 256 + r.val, by have := point_lt t; omega⟩ b := by
    blk_ext [idx_val t]
  rw [e]
  rfl

/-- Slab 0 of the convolution input's cotangent as the kernel computes it. -/
abbrev slab0 (c : Dev nD) (t : Fin cfg0.N) (L L' : List (View.Piece (Elt Ideal) S272x704 .f32)) : FVec Ideal S256x704 .f32 :=
  (k0_pay7 (F := Ideal) (View.ld (iblk m c 0 t) (Rect.unit ![0, 0, 0] ![1, 256, 704] inb_S8x256x704_S1x256x704_0_0_0)) (View.ld (iblk m c 2 t) (Rect.unit ![0, 0, 0] ![1, 3, 704] inb_S8x3x704_S1x3x704_0_0_0))
      ((View.whole cc0_scratch0).readCov
        ((⟨Rect.unit ![256, 0] ![16, 704] inb_S272x704_S16x704_256_0, k0_pay13 (BitVec.ofNat 32 (grid0.coords t 0).val) (View.ld (iblk m c 1 t) (Rect.unit ![0, 0, 0] ![1, 16, 704] inb_S8x16x704_S1x16x704_0_0_0))⟩ : View.Piece (Elt Ideal) S272x704 .f32)
          :: ⟨Rect.unit ![0, 0] ![256, 704] inb_S272x704_S256x704_0_0, k0_pay5 (View.ld (iblk m c 0 t) (Rect.unit ![0, 0, 0] ![1, 256, 704] inb_S8x256x704_S1x256x704_0_0_0))⟩ :: L)
        (Rect.unit (s := S272x704) ![1, 0] ![256, 704] inb_S272x704_S256x704_1_0).toLoadRect)
      ((View.whole cc0_scratch0).readCov
        ((⟨Rect.unit ![256, 0] ![16, 704] inb_S272x704_S16x704_256_0, k0_pay13 (BitVec.ofNat 32 (grid0.coords t 0).val) (View.ld (iblk m c 1 t) (Rect.unit ![0, 0, 0] ![1, 16, 704] inb_S8x16x704_S1x16x704_0_0_0))⟩ : View.Piece (Elt Ideal) S272x704 .f32)
          :: ⟨Rect.unit ![0, 0] ![256, 704] inb_S272x704_S256x704_0_0, k0_pay5 (View.ld (iblk m c 0 t) (Rect.unit ![0, 0, 0] ![1, 256, 704] inb_S8x256x704_S1x256x704_0_0_0))⟩ :: L')
        (Rect.unit (s := S272x704) ![2, 0] ![256, 704] inb_S272x704_S256x704_2_0).toLoadRect))
/-- Slab 1 of the convolution input's cotangent as the kernel computes it. -/
abbrev slab1 (c : Dev nD) (t : Fin cfg0.N) (L L' : List (View.Piece (Elt Ideal) S272x704 .f32)) : FVec Ideal S256x704 .f32 :=
  (k0_pay7 (F := Ideal) (View.ld (iblk m c 0 t) (Rect.unit ![1, 0, 0] ![1, 256, 704] inb_S8x256x704_S1x256x704_1_0_0)) (View.ld (iblk m c 2 t) (Rect.unit ![1, 0, 0] ![1, 3, 704] inb_S8x3x704_S1x3x704_1_0_0))
      ((View.whole cc0_scratch0).readCov
        ((⟨Rect.unit ![256, 0] ![16, 704] inb_S272x704_S16x704_256_0, k0_pay13 (BitVec.ofNat 32 (grid0.coords t 0).val) (View.ld (iblk m c 1 t) (Rect.unit ![1, 0, 0] ![1, 16, 704] inb_S8x16x704_S1x16x704_1_0_0))⟩ : View.Piece (Elt Ideal) S272x704 .f32)
          :: ⟨Rect.unit ![0, 0] ![256, 704] inb_S272x704_S256x704_0_0, k0_pay5 (View.ld (iblk m c 0 t) (Rect.unit ![1, 0, 0] ![1, 256, 704] inb_S8x256x704_S1x256x704_1_0_0))⟩ :: L)
        (Rect.unit (s := S272x704) ![1, 0] ![256, 704] inb_S272x704_S256x704_1_0).toLoadRect)
      ((View.whole cc0_scratch0).readCov
        ((⟨Rect.unit ![256, 0] ![16, 704] inb_S272x704_S16x704_256_0, k0_pay13 (BitVec.ofNat 32 (grid0.coords t 0).val) (View.ld (iblk m c 1 t) (Rect.unit ![1, 0, 0] ![1, 16, 704] inb_S8x16x704_S1x16x704_1_0_0))⟩ : View.Piece (Elt Ideal) S272x704 .f32)
          :: ⟨Rect.unit ![0, 0] ![256, 704] inb_S272x704_S256x704_0_0, k0_pay5 (View.ld (iblk m c 0 t) (Rect.unit ![1, 0, 0] ![1, 256, 704] inb_S8x256x704_S1x256x704_1_0_0))⟩ :: L')
        (Rect.unit (s := S272x704) ![2, 0] ![256, 704] inb_S272x704_S256x704_2_0).toLoadRect))
/-- Slab 2 of the convolution input's cotangent as the kernel computes it. -/
abbrev slab2 (c : Dev nD) (t : Fin cfg0.N) (L L' : List (View.Piece (Elt Ideal) S272x704 .f32)) : FVec Ideal S256x704 .f32 :=
  (k0_pay7 (F := Ideal) (View.ld (iblk m c 0 t) (Rect.unit ![2, 0, 0] ![1, 256, 704] inb_S8x256x704_S1x256x704_2_0_0)) (View.ld (iblk m c 2 t) (Rect.unit ![2, 0, 0] ![1, 3, 704] inb_S8x3x704_S1x3x704_2_0_0))
      ((View.whole cc0_scratch0).readCov
        ((⟨Rect.unit ![256, 0] ![16, 704] inb_S272x704_S16x704_256_0, k0_pay13 (BitVec.ofNat 32 (grid0.coords t 0).val) (View.ld (iblk m c 1 t) (Rect.unit ![2, 0, 0] ![1, 16, 704] inb_S8x16x704_S1x16x704_2_0_0))⟩ : View.Piece (Elt Ideal) S272x704 .f32)
          :: ⟨Rect.unit ![0, 0] ![256, 704] inb_S272x704_S256x704_0_0, k0_pay5 (View.ld (iblk m c 0 t) (Rect.unit ![2, 0, 0] ![1, 256, 704] inb_S8x256x704_S1x256x704_2_0_0))⟩ :: L)
        (Rect.unit (s := S272x704) ![1, 0] ![256, 704] inb_S272x704_S256x704_1_0).toLoadRect)
      ((View.whole cc0_scratch0).readCov
        ((⟨Rect.unit ![256, 0] ![16, 704] inb_S272x704_S16x704_256_0, k0_pay13 (BitVec.ofNat 32 (grid0.coords t 0).val) (View.ld (iblk m c 1 t) (Rect.unit ![2, 0, 0] ![1, 16, 704] inb_S8x16x704_S1x16x704_2_0_0))⟩ : View.Piece (Elt Ideal) S272x704 .f32)
          :: ⟨Rect.unit ![0, 0] ![256, 704] inb_S272x704_S256x704_0_0, k0_pay5 (View.ld (iblk m c 0 t) (Rect.unit ![2, 0, 0] ![1, 256, 704] inb_S8x256x704_S1x256x704_2_0_0))⟩ :: L')
        (Rect.unit (s := S272x704) ![2, 0] ![256, 704] inb_S272x704_S256x704_2_0).toLoadRect))
/-- Slab 3 of the convolution input's cotangent as the kernel computes it. -/
abbrev slab3 (c : Dev nD) (t : Fin cfg0.N) (L L' : List (View.Piece (Elt Ideal) S272x704 .f32)) : FVec Ideal S256x704 .f32 :=
  (k0_pay7 (F := Ideal) (View.ld (iblk m c 0 t) (Rect.unit ![3, 0, 0] ![1, 256, 704] inb_S8x256x704_S1x256x704_3_0_0)) (View.ld (iblk m c 2 t) (Rect.unit ![3, 0, 0] ![1, 3, 704] inb_S8x3x704_S1x3x704_3_0_0))
      ((View.whole cc0_scratch0).readCov
        ((⟨Rect.unit ![256, 0] ![16, 704] inb_S272x704_S16x704_256_0, k0_pay13 (BitVec.ofNat 32 (grid0.coords t 0).val) (View.ld (iblk m c 1 t) (Rect.unit ![3, 0, 0] ![1, 16, 704] inb_S8x16x704_S1x16x704_3_0_0))⟩ : View.Piece (Elt Ideal) S272x704 .f32)
          :: ⟨Rect.unit ![0, 0] ![256, 704] inb_S272x704_S256x704_0_0, k0_pay5 (View.ld (iblk m c 0 t) (Rect.unit ![3, 0, 0] ![1, 256, 704] inb_S8x256x704_S1x256x704_3_0_0))⟩ :: L)
        (Rect.unit (s := S272x704) ![1, 0] ![256, 704] inb_S272x704_S256x704_1_0).toLoadRect)
      ((View.whole cc0_scratch0).readCov
        ((⟨Rect.unit ![256, 0] ![16, 704] inb_S272x704_S16x704_256_0, k0_pay13 (BitVec.ofNat 32 (grid0.coords t 0).val) (View.ld (iblk m c 1 t) (Rect.unit ![3, 0, 0] ![1, 16, 704] inb_S8x16x704_S1x16x704_3_0_0))⟩ : View.Piece (Elt Ideal) S272x704 .f32)
          :: ⟨Rect.unit ![0, 0] ![256, 704] inb_S272x704_S256x704_0_0, k0_pay5 (View.ld (iblk m c 0 t) (Rect.unit ![3, 0, 0] ![1, 256, 704] inb_S8x256x704_S1x256x704_3_0_0))⟩ :: L')
        (Rect.unit (s := S272x704) ![2, 0] ![256, 704] inb_S272x704_S256x704_2_0).toLoadRect))
/-- Slab 4 of the convolution input's cotangent as the kernel computes it. -/
abbrev slab4 (c : Dev nD) (t : Fin cfg0.N) (L L' : List (View.Piece (Elt Ideal) S272x704 .f32)) : FVec Ideal S256x704 .f32 :=
  (k0_pay7 (F := Ideal) (View.ld (iblk m c 0 t) (Rect.unit ![4, 0, 0] ![1, 256, 704] inb_S8x256x704_S1x256x704_4_0_0)) (View.ld (iblk m c 2 t) (Rect.unit ![4, 0, 0] ![1, 3, 704] inb_S8x3x704_S1x3x704_4_0_0))
      ((View.whole cc0_scratch0).readCov
        ((⟨Rect.unit ![256, 0] ![16, 704] inb_S272x704_S16x704_256_0, k0_pay13 (BitVec.ofNat 32 (grid0.coords t 0).val) (View.ld (iblk m c 1 t) (Rect.unit ![4, 0, 0] ![1, 16, 704] inb_S8x16x704_S1x16x704_4_0_0))⟩ : View.Piece (Elt Ideal) S272x704 .f32)
          :: ⟨Rect.unit ![0, 0] ![256, 704] inb_S272x704_S256x704_0_0, k0_pay5 (View.ld (iblk m c 0 t) (Rect.unit ![4, 0, 0] ![1, 256, 704] inb_S8x256x704_S1x256x704_4_0_0))⟩ :: L)
        (Rect.unit (s := S272x704) ![1, 0] ![256, 704] inb_S272x704_S256x704_1_0).toLoadRect)
      ((View.whole cc0_scratch0).readCov
        ((⟨Rect.unit ![256, 0] ![16, 704] inb_S272x704_S16x704_256_0, k0_pay13 (BitVec.ofNat 32 (grid0.coords t 0).val) (View.ld (iblk m c 1 t) (Rect.unit ![4, 0, 0] ![1, 16, 704] inb_S8x16x704_S1x16x704_4_0_0))⟩ : View.Piece (Elt Ideal) S272x704 .f32)
          :: ⟨Rect.unit ![0, 0] ![256, 704] inb_S272x704_S256x704_0_0, k0_pay5 (View.ld (iblk m c 0 t) (Rect.unit ![4, 0, 0] ![1, 256, 704] inb_S8x256x704_S1x256x704_4_0_0))⟩ :: L')
        (Rect.unit (s := S272x704) ![2, 0] ![256, 704] inb_S272x704_S256x704_2_0).toLoadRect))
/-- Slab 5 of the convolution input's cotangent as the kernel computes it. -/
abbrev slab5 (c : Dev nD) (t : Fin cfg0.N) (L L' : List (View.Piece (Elt Ideal) S272x704 .f32)) : FVec Ideal S256x704 .f32 :=
  (k0_pay7 (F := Ideal) (View.ld (iblk m c 0 t) (Rect.unit ![5, 0, 0] ![1, 256, 704] inb_S8x256x704_S1x256x704_5_0_0)) (View.ld (iblk m c 2 t) (Rect.unit ![5, 0, 0] ![1, 3, 704] inb_S8x3x704_S1x3x704_5_0_0))
      ((View.whole cc0_scratch0).readCov
        ((⟨Rect.unit ![256, 0] ![16, 704] inb_S272x704_S16x704_256_0, k0_pay13 (BitVec.ofNat 32 (grid0.coords t 0).val) (View.ld (iblk m c 1 t) (Rect.unit ![5, 0, 0] ![1, 16, 704] inb_S8x16x704_S1x16x704_5_0_0))⟩ : View.Piece (Elt Ideal) S272x704 .f32)
          :: ⟨Rect.unit ![0, 0] ![256, 704] inb_S272x704_S256x704_0_0, k0_pay5 (View.ld (iblk m c 0 t) (Rect.unit ![5, 0, 0] ![1, 256, 704] inb_S8x256x704_S1x256x704_5_0_0))⟩ :: L)
        (Rect.unit (s := S272x704) ![1, 0] ![256, 704] inb_S272x704_S256x704_1_0).toLoadRect)
      ((View.whole cc0_scratch0).readCov
        ((⟨Rect.unit ![256, 0] ![16, 704] inb_S272x704_S16x704_256_0, k0_pay13 (BitVec.ofNat 32 (grid0.coords t 0).val) (View.ld (iblk m c 1 t) (Rect.unit ![5, 0, 0] ![1, 16, 704] inb_S8x16x704_S1x16x704_5_0_0))⟩ : View.Piece (Elt Ideal) S272x704 .f32)
          :: ⟨Rect.unit ![0, 0] ![256, 704] inb_S272x704_S256x704_0_0, k0_pay5 (View.ld (iblk m c 0 t) (Rect.unit ![5, 0, 0] ![1, 256, 704] inb_S8x256x704_S1x256x704_5_0_0))⟩ :: L')
        (Rect.unit (s := S272x704) ![2, 0] ![256, 704] inb_S272x704_S256x704_2_0).toLoadRect))
/-- Slab 6 of the convolution input's cotangent as the kernel computes it. -/
abbrev slab6 (c : Dev nD) (t : Fin cfg0.N) (L L' : List (View.Piece (Elt Ideal) S272x704 .f32)) : FVec Ideal S256x704 .f32 :=
  (k0_pay7 (F := Ideal) (View.ld (iblk m c 0 t) (Rect.unit ![6, 0, 0] ![1, 256, 704] inb_S8x256x704_S1x256x704_6_0_0)) (View.ld (iblk m c 2 t) (Rect.unit ![6, 0, 0] ![1, 3, 704] inb_S8x3x704_S1x3x704_6_0_0))
      ((View.whole cc0_scratch0).readCov
        ((⟨Rect.unit ![256, 0] ![16, 704] inb_S272x704_S16x704_256_0, k0_pay13 (BitVec.ofNat 32 (grid0.coords t 0).val) (View.ld (iblk m c 1 t) (Rect.unit ![6, 0, 0] ![1, 16, 704] inb_S8x16x704_S1x16x704_6_0_0))⟩ : View.Piece (Elt Ideal) S272x704 .f32)
          :: ⟨Rect.unit ![0, 0] ![256, 704] inb_S272x704_S256x704_0_0, k0_pay5 (View.ld (iblk m c 0 t) (Rect.unit ![6, 0, 0] ![1, 256, 704] inb_S8x256x704_S1x256x704_6_0_0))⟩ :: L)
        (Rect.unit (s := S272x704) ![1, 0] ![256, 704] inb_S272x704_S256x704_1_0).toLoadRect)
      ((View.whole cc0_scratch0).readCov
        ((⟨Rect.unit ![256, 0] ![16, 704] inb_S272x704_S16x704_256_0, k0_pay13 (BitVec.ofNat 32 (grid0.coords t 0).val) (View.ld (iblk m c 1 t) (Rect.unit ![6, 0, 0] ![1, 16, 704] inb_S8x16x704_S1x16x704_6_0_0))⟩ : View.Piece (Elt Ideal) S272x704 .f32)
          :: ⟨Rect.unit ![0, 0] ![256, 704] inb_S272x704_S256x704_0_0, k0_pay5 (View.ld (iblk m c 0 t) (Rect.unit ![6, 0, 0] ![1, 256, 704] inb_S8x256x704_S1x256x704_6_0_0))⟩ :: L')
        (Rect.unit (s := S272x704) ![2, 0] ![256, 704] inb_S272x704_S256x704_2_0).toLoadRect))
/-- Slab 7 of the convolution input's cotangent as the kernel computes it. -/
abbrev slab7 (c : Dev nD) (t : Fin cfg0.N) (L L' : List (View.Piece (Elt Ideal) S272x704 .f32)) : FVec Ideal S256x704 .f32 :=
  (k0_pay7 (F := Ideal) (View.ld (iblk m c 0 t) (Rect.unit ![7, 0, 0] ![1, 256, 704] inb_S8x256x704_S1x256x704_7_0_0)) (View.ld (iblk m c 2 t) (Rect.unit ![7, 0, 0] ![1, 3, 704] inb_S8x3x704_S1x3x704_7_0_0))
      ((View.whole cc0_scratch0).readCov
        ((⟨Rect.unit ![256, 0] ![16, 704] inb_S272x704_S16x704_256_0, k0_pay13 (BitVec.ofNat 32 (grid0.coords t 0).val) (View.ld (iblk m c 1 t) (Rect.unit ![7, 0, 0] ![1, 16, 704] inb_S8x16x704_S1x16x704_7_0_0))⟩ : View.Piece (Elt Ideal) S272x704 .f32)
          :: ⟨Rect.unit ![0, 0] ![256, 704] inb_S272x704_S256x704_0_0, k0_pay5 (View.ld (iblk m c 0 t) (Rect.unit ![7, 0, 0] ![1, 256, 704] inb_S8x256x704_S1x256x704_7_0_0))⟩ :: L)
        (Rect.unit (s := S272x704) ![1, 0] ![256, 704] inb_S272x704_S256x704_1_0).toLoadRect)
      ((View.whole cc0_scratch0).readCov
        ((⟨Rect.unit ![256, 0] ![16, 704] inb_S272x704_S16x704_256_0, k0_pay13 (BitVec.ofNat 32 (grid0.coords t 0).val) (View.ld (iblk m c 1 t) (Rect.unit ![7, 0, 0] ![1, 16, 704] inb_S8x16x704_S1x16x704_7_0_0))⟩ : View.Piece (Elt Ideal) S272x704 .f32)
          :: ⟨Rect.unit ![0, 0] ![256, 704] inb_S272x704_S256x704_0_0, k0_pay5 (View.ld (iblk m c 0 t) (Rect.unit ![7, 0, 0] ![1, 256, 704] inb_S8x256x704_S1x256x704_7_0_0))⟩ :: L')
        (Rect.unit (s := S272x704) ![2, 0] ![256, 704] inb_S272x704_S256x704_2_0).toLoadRect))

/-- The cotangent of the normalised rows as the kernel sums it, slab after slab. -/
theorem acc_at (c : Dev nD) (t : Fin cfg0.N) (L0 L0' L1 L1' L2 L2' L3 L3' L4 L4' L5 L5' L6 L6' L7 L7' : List (View.Piece (Elt Ideal) S272x704 .f32)) (r : Fin 256) (d : Fin 1024) :
    k0_pay10 (k0_pay10 (k0_pay10 (k0_pay10 (k0_pay10 (k0_pay10 (k0_pay10 (k0_pay10 k0_pay3
      (slab0 m c t L0 L0') (View.ld (iblk m c 3 t) (Rect.unit ![0, 0, 0] ![1, 1024, 704] inb_S8x1024x704_S1x1024x704_0_0_0)))
      (slab1 m c t L1 L1') (View.ld (iblk m c 3 t) (Rect.unit ![1, 0, 0] ![1, 1024, 704] inb_S8x1024x704_S1x1024x704_1_0_0)))
      (slab2 m c t L2 L2') (View.ld (iblk m c 3 t) (Rect.unit ![2, 0, 0] ![1, 1024, 704] inb_S8x1024x704_S1x1024x704_2_0_0)))
      (slab3 m c t L3 L3') (View.ld (iblk m c 3 t) (Rect.unit ![3, 0, 0] ![1, 1024, 704] inb_S8x1024x704_S1x1024x704_3_0_0)))
      (slab4 m c t L4 L4') (View.ld (iblk m c 3 t) (Rect.unit ![4, 0, 0] ![1, 1024, 704] inb_S8x1024x704_S1x1024x704_4_0_0)))
      (slab5 m c t L5 L5') (View.ld (iblk m c 3 t) (Rect.unit ![5, 0, 0] ![1, 1024, 704] inb_S8x1024x704_S1x1024x704_5_0_0)))
      (slab6 m c t L6 L6') (View.ld (iblk m c 3 t) (Rect.unit ![6, 0, 0] ![1, 1024, 704] inb_S8x1024x704_S1x1024x704_6_0_0)))
      (slab7 m c t L7 L7') (View.ld (iblk m c 3 t) (Rect.unit ![7, 0, 0] ![1, 1024, 704] inb_S8x1024x704_S1x1024x704_7_0_0)) (ix2 r d)
      = Cert.FfnBSpec.dhn (W m c) (K m c) (U m c) (t.val * 256 + r.val) d := by
  have e0 : ∀ b, slab0 m c t L0 L0' (ix2 r b) = _ := fun b => dpre_at m c t 0 inb_S8x256x704_S1x256x704_0_0_0 inb_S8x16x704_S1x16x704_0_0_0 inb_S8x3x704_S1x3x704_0_0_0 inb_S272x704_S16x704_256_0 inb_S272x704_S256x704_0_0 inb_S272x704_S256x704_1_0 inb_S272x704_S256x704_2_0 L0 L0' r b
  have e1 : ∀ b, slab1 m c t L1 L1' (ix2 r b) = _ := fun b => dpre_at m c t 1 inb_S8x256x704_S1x256x704_1_0_0 inb_S8x16x704_S1x16x704_1_0_0 inb_S8x3x704_S1x3x704_1_0_0 inb_S272x704_S16x704_256_0 inb_S272x704_S256x704_0_0 inb_S272x704_S256x704_1_0 inb_S272x704_S256x704_2_0 L1 L1' r b
  have e2 : ∀ b, slab2 m c t L2 L2' (ix2 r b) = _ := fun b => dpre_at m c t 2 inb_S8x256x704_S1x256x704_2_0_0 inb_S8x16x704_S1x16x704_2_0_0 inb_S8x3x704_S1x3x704_2_0_0 inb_S272x704_S16x704_256_0 inb_S272x704_S256x704_0_0 inb_S272x704_S256x704_1_0 inb_S272x704_S256x704_2_0 L2 L2' r b
  have e3 : ∀ b, slab3 m c t L3 L3' (ix2 r b) = _ := fun b => dpre_at m c t 3 inb_S8x256x704_S1x256x704_3_0_0 inb_S8x16x704_S1x16x704_3_0_0 inb_S8x3x704_S1x3x704_3_0_0 inb_S272x704_S16x704_256_0 inb_S272x704_S256x704_0_0 inb_S272x704_S256x704_1_0 inb_S272x704_S256x704_2_0 L3 L3' r b
  have e4 : ∀ b, slab4 m c t L4 L4' (ix2 r b) = _ := fun b => dpre_at m c t 4 inb_S8x256x704_S1x256x704_4_0_0 inb_S8x16x704_S1x16x704_4_0_0 inb_S8x3x704_S1x3x704_4_0_0 inb_S272x704_S16x704_256_0 inb_S272x704_S256x704_0_0 inb_S272x704_S256x704_1_0 inb_S272x704_S256x704_2_0 L4 L4' r b
  have e5 : ∀ b, slab5 m c t L5 L5' (ix2 r b) = _ := fun b => dpre_at m c t 5 inb_S8x256x704_S1x256x704_5_0_0 inb_S8x16x704_S1x16x704_5_0_0 inb_S8x3x704_S1x3x704_5_0_0 inb_S272x704_S16x704_256_0 inb_S272x704_S256x704_0_0 inb_S272x704_S256x704_1_0 inb_S272x704_S256x704_2_0 L5 L5' r b
  have e6 : ∀ b, slab6 m c t L6 L6' (ix2 r b) = _ := fun b => dpre_at m c t 6 inb_S8x256x704_S1x256x704_6_0_0 inb_S8x16x704_S1x16x704_6_0_0 inb_S8x3x704_S1x3x704_6_0_0 inb_S272x704_S16x704_256_0 inb_S272x704_S256x704_0_0 inb_S272x704_S256x704_1_0 inb_S272x704_S256x704_2_0 L6 L6' r b
  have e7 : ∀ b, slab7 m c t L7 L7' (ix2 r b) = _ := fun b => dpre_at m c t 7 inb_S8x256x704_S1x256x704_7_0_0 inb_S8x16x704_S1x16x704_7_0_0 inb_S8x3x704_S1x3x704_7_0_0 inb_S272x704_S16x704_256_0 inb_S272x704_S256x704_0_0 inb_S272x704_S256x704_1_0 inb_S272x704_S256x704_2_0 L7 L7' r b
  rw [Cert.FfnBSpec.dhn_tiles, Fin.sum_univ_eight]
  simp only [add_at, zero_at, w_at, e0, e1, e2, e3, e4, e5, e6, e7, zero_add]
  rfl

/-- The input gradient's rows at a grid point. -/
theorem grad_at (c : Dev nD) (t : Fin cfg0.N) (a : FVec Ideal S256x1024 .f32) (p : FVec Ideal S256x704 .f32) (w : Vec Ideal S1x1024x704 .bf16)
    (hA : ∀ (r : Fin 256) (d : Fin 1024), k0_pay10 a p w (ix2 r d) = Cert.FfnBSpec.dhn (W m c) (K m c) (U m c) (t.val * 256 + r.val) d)
    (r : Fin 256) (d : Fin 1024) : k0_pay62 a (k0_pay8 p) w (iblk m c 5 t) (iblk m c 4 t) (iblk m c 6 t) (ix2 r d)
      = Cert.FfnBSpec.out1 (X m c) (G m c) (W m c) (K m c) (U m c) (H m c) (ix2 ⟨t.val * 256 + r.val, by have := point_lt t; omega⟩ d) := by
  refine (pay62_at _ _ _ _ _ _ r d).trans ?_
  simp only [hA, blk4, blk5, blk6]
  rfl

/-- The scale gradient's part from a grid point's rows. -/
theorem scale_at (c : Dev nD) (t : Fin cfg0.N) (a : FVec Ideal S256x1024 .f32) (p : FVec Ideal S256x704 .f32) (w : Vec Ideal S1x1024x704 .bf16)
    (hA : ∀ (r : Fin 256) (d : Fin 1024), k0_pay10 a p w (ix2 r d) = Cert.FfnBSpec.dhn (W m c) (K m c) (U m c) (t.val * 256 + r.val) d)
    (z : Fin 1) (d : Fin 1024) : k0_pay61 a (k0_pay8 p) w (iblk m c 4 t) (fun _ => 0) (ix2 z d)
      = ∑ r : Fin 256, Cert.FfnBSpec.dhn (W m c) (K m c) (U m c) (t.val * 256 + r.val) d
        * (X m c (ix3 0 ⟨t.val * 256 + r.val, by have := point_lt t; omega⟩ d) * Cert.Rms.inv (Cert.FfnBSpec.row (X m c) ⟨t.val * 256 + r.val, by have := point_lt t; omega⟩)) := by
  refine (pay61_at _ _ _ _ z d).trans ?_
  simp only [hA, blk4]

end Cert.FfnBIdeal.Value
end
-- ==== Proof.FfnB.Ker.lean ====
/- What the kernel's four outputs hold when it ends. -/
module

public import proofs.«01_k».proof.Proof.FfnB.Blocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnBIdeal.Value

open Cert.FfnBIdeal Cert.FfnBIdeal.Gen

variable (m : (ℓ : Loc nD τ sig) → Buf (Elt Ideal) ℓ)

set_option maxHeartbeats 1000000 in
theorem final_7 (c : Dev nD) : (dats m 0 c).arrAt 7 (cfgs 0).N = Cert.FfnBSpec.out0 (K m c) (U m c) := by
  refine (dats m 0 c).arrAt_eq_of_covers 7 _ (by decide +kernel) fun t hf y => ?_
  blk_simp; rw [after0_7]
  by_cases h : t.val % 16 = 0
  · rw [outsAt0_A m c t h]; dsimp only; frame_out
    canon_tiles y h
    all_goals idx_vars y
    all_goals simp only [tile1, tile2, tile3, tile4, tile5, tile6, tile7, next0, next2, next3, next4, next5, next6, next7, store1, store2, store3, store4, store5, store6, store7, add1, add2, add3, add4, add5, add6, last7]
    all_goals simp only [store_at, dpre_at]
    · exact (dpre_at m c t 7 inb_S8x256x704_S1x256x704_7_0_0 inb_S8x16x704_S1x16x704_7_0_0 inb_S8x3x704_S1x3x704_7_0_0 inb_S272x704_S16x704_256_0 inb_S272x704_S256x704_0_0 inb_S272x704_S256x704_1_0 inb_S272x704_S256x704_2_0 _ _ y1 y2).trans
        (slab_at m c t y 7 y1 y2 (by omega) (by omega) h1 h2)
    · exact (dpre_at m c t 6 inb_S8x256x704_S1x256x704_6_0_0 inb_S8x16x704_S1x16x704_6_0_0 inb_S8x3x704_S1x3x704_6_0_0 inb_S272x704_S16x704_256_0 inb_S272x704_S256x704_0_0 inb_S272x704_S256x704_1_0 inb_S272x704_S256x704_2_0 _ _ y1 y2).trans
        (slab_at m c t y 6 y1 y2 (by omega) (by omega) h1 h2)
    · exact (dpre_at m c t 5 inb_S8x256x704_S1x256x704_5_0_0 inb_S8x16x704_S1x16x704_5_0_0 inb_S8x3x704_S1x3x704_5_0_0 inb_S272x704_S16x704_256_0 inb_S272x704_S256x704_0_0 inb_S272x704_S256x704_1_0 inb_S272x704_S256x704_2_0 _ _ y1 y2).trans
        (slab_at m c t y 5 y1 y2 (by omega) (by omega) h1 h2)
    · exact (dpre_at m c t 4 inb_S8x256x704_S1x256x704_4_0_0 inb_S8x16x704_S1x16x704_4_0_0 inb_S8x3x704_S1x3x704_4_0_0 inb_S272x704_S16x704_256_0 inb_S272x704_S256x704_0_0 inb_S272x704_S256x704_1_0 inb_S272x704_S256x704_2_0 _ _ y1 y2).trans
        (slab_at m c t y 4 y1 y2 (by omega) (by omega) h1 h2)
    · exact (dpre_at m c t 3 inb_S8x256x704_S1x256x704_3_0_0 inb_S8x16x704_S1x16x704_3_0_0 inb_S8x3x704_S1x3x704_3_0_0 inb_S272x704_S16x704_256_0 inb_S272x704_S256x704_0_0 inb_S272x704_S256x704_1_0 inb_S272x704_S256x704_2_0 _ _ y1 y2).trans
        (slab_at m c t y 3 y1 y2 (by omega) (by omega) h1 h2)
    · exact (dpre_at m c t 2 inb_S8x256x704_S1x256x704_2_0_0 inb_S8x16x704_S1x16x704_2_0_0 inb_S8x3x704_S1x3x704_2_0_0 inb_S272x704_S16x704_256_0 inb_S272x704_S256x704_0_0 inb_S272x704_S256x704_1_0 inb_S272x704_S256x704_2_0 _ _ y1 y2).trans
        (slab_at m c t y 2 y1 y2 (by omega) (by omega) h1 h2)
    · exact (dpre_at m c t 1 inb_S8x256x704_S1x256x704_1_0_0 inb_S8x16x704_S1x16x704_1_0_0 inb_S8x3x704_S1x3x704_1_0_0 inb_S272x704_S16x704_256_0 inb_S272x704_S256x704_0_0 inb_S272x704_S256x704_1_0 inb_S272x704_S256x704_2_0 _ _ y1 y2).trans
        (slab_at m c t y 1 y1 y2 (by omega) (by omega) h1 h2)
    · exact (dpre_at m c t 0 inb_S8x256x704_S1x256x704_0_0_0 inb_S8x16x704_S1x16x704_0_0_0 inb_S8x3x704_S1x3x704_0_0_0 inb_S272x704_S16x704_256_0 inb_S272x704_S256x704_0_0 inb_S272x704_S256x704_1_0 inb_S272x704_S256x704_2_0 _ _ y1 y2).trans
        (slab_at m c t y 0 y1 y2 (by omega) (by omega) h1 h2)
  · rw [outsAt0_B m c t h]; dsimp only; frame_out
    canon_tiles y h
    all_goals idx_vars y
    all_goals simp only [tile1, tile2, tile3, tile4, tile5, tile6, tile7, next0, next2, next3, next4, next5, next6, next7, store1, store2, store3, store4, store5, store6, store7, add1, add2, add3, add4, add5, add6, last7]
    all_goals simp only [store_at, dpre_at]
    · exact (dpre_at m c t 7 inb_S8x256x704_S1x256x704_7_0_0 inb_S8x16x704_S1x16x704_7_0_0 inb_S8x3x704_S1x3x704_7_0_0 inb_S272x704_S16x704_256_0 inb_S272x704_S256x704_0_0 inb_S272x704_S256x704_1_0 inb_S272x704_S256x704_2_0 _ _ y1 y2).trans
        (slab_at m c t y 7 y1 y2 (by omega) (by omega) h1 h2)
    · exact (dpre_at m c t 6 inb_S8x256x704_S1x256x704_6_0_0 inb_S8x16x704_S1x16x704_6_0_0 inb_S8x3x704_S1x3x704_6_0_0 inb_S272x704_S16x704_256_0 inb_S272x704_S256x704_0_0 inb_S272x704_S256x704_1_0 inb_S272x704_S256x704_2_0 _ _ y1 y2).trans
        (slab_at m c t y 6 y1 y2 (by omega) (by omega) h1 h2)
    · exact (dpre_at m c t 5 inb_S8x256x704_S1x256x704_5_0_0 inb_S8x16x704_S1x16x704_5_0_0 inb_S8x3x704_S1x3x704_5_0_0 inb_S272x704_S16x704_256_0 inb_S272x704_S256x704_0_0 inb_S272x704_S256x704_1_0 inb_S272x704_S256x704_2_0 _ _ y1 y2).trans
        (slab_at m c t y 5 y1 y2 (by omega) (by omega) h1 h2)
    · exact (dpre_at m c t 4 inb_S8x256x704_S1x256x704_4_0_0 inb_S8x16x704_S1x16x704_4_0_0 inb_S8x3x704_S1x3x704_4_0_0 inb_S272x704_S16x704_256_0 inb_S272x704_S256x704_0_0 inb_S272x704_S256x704_1_0 inb_S272x704_S256x704_2_0 _ _ y1 y2).trans
        (slab_at m c t y 4 y1 y2 (by omega) (by omega) h1 h2)
    · exact (dpre_at m c t 3 inb_S8x256x704_S1x256x704_3_0_0 inb_S8x16x704_S1x16x704_3_0_0 inb_S8x3x704_S1x3x704_3_0_0 inb_S272x704_S16x704_256_0 inb_S272x704_S256x704_0_0 inb_S272x704_S256x704_1_0 inb_S272x704_S256x704_2_0 _ _ y1 y2).trans
        (slab_at m c t y 3 y1 y2 (by omega) (by omega) h1 h2)
    · exact (dpre_at m c t 2 inb_S8x256x704_S1x256x704_2_0_0 inb_S8x16x704_S1x16x704_2_0_0 inb_S8x3x704_S1x3x704_2_0_0 inb_S272x704_S16x704_256_0 inb_S272x704_S256x704_0_0 inb_S272x704_S256x704_1_0 inb_S272x704_S256x704_2_0 _ _ y1 y2).trans
        (slab_at m c t y 2 y1 y2 (by omega) (by omega) h1 h2)
    · exact (dpre_at m c t 1 inb_S8x256x704_S1x256x704_1_0_0 inb_S8x16x704_S1x16x704_1_0_0 inb_S8x3x704_S1x3x704_1_0_0 inb_S272x704_S16x704_256_0 inb_S272x704_S256x704_0_0 inb_S272x704_S256x704_1_0 inb_S272x704_S256x704_2_0 _ _ y1 y2).trans
        (slab_at m c t y 1 y1 y2 (by omega) (by omega) h1 h2)
    · exact (dpre_at m c t 0 inb_S8x256x704_S1x256x704_0_0_0 inb_S8x16x704_S1x16x704_0_0_0 inb_S8x3x704_S1x3x704_0_0_0 inb_S272x704_S16x704_256_0 inb_S272x704_S256x704_0_0 inb_S272x704_S256x704_1_0 inb_S272x704_S256x704_2_0 _ _ y1 y2).trans
        (slab_at m c t y 0 y1 y2 (by omega) (by omega) h1 h2)

theorem row_at (t : Fin cfg0.N) (r : Fin 256) (d : Fin 1024) :
    ((View.whole main_v11_1).slice (win0_8.rect t)).emb (ix2 r d) = ix2 ⟨t.val * 256 + r.val, by have := point_lt t; omega⟩ d := by
  blk_ext [idx_val t]
theorem row_at' (t : Fin cfg0.N) (r : Fin 256) (d : Fin 1024) :
    ((View.whole main_v11_2).slice (win0_9.rect t)).emb (ix2 r d) = ix2 ⟨t.val * 256 + r.val, by have := point_lt t; omega⟩ d := by
  blk_ext [idx_val t]

set_option maxHeartbeats 1000000 in
theorem final_8 (c : Dev nD) : (dats m 0 c).arrAt 8 (cfgs 0).N = Cert.FfnBSpec.out1 (X m c) (G m c) (W m c) (K m c) (U m c) (H m c) := by
  refine (dats m 0 c).arrAt_eq_of_covers 8 _ (by decide +kernel) fun t hf y => ?_
  blk_simp; rw [after0_8]
  idx_vars y
  refine Eq.trans ?_ (congrArg _ (row_at t y0 y1)).symm
  by_cases h : t.val % 16 = 0
  · rw [outsAt0_A m c t h]; dsimp only; frame_out
    simp only [tile1, tile2, tile3, tile4, tile5, tile6, tile7, next0, next2, next3, next4, next5, next6, next7, store1, store2, store3, store4, store5, store6, store7, add1, add2, add3, add4, add5, add6, last7]
    exact grad_at m c t _ _ _ (acc_at m c t _ _ _ _ _ _ _ _ _ _ _ _ _ _ _ _) y0 y1
  · rw [outsAt0_B m c t h]; dsimp only; frame_out
    simp only [tile1, tile2, tile3, tile4, tile5, tile6, tile7, next0, next2, next3, next4, next5, next6, next7, store1, store2, store3, store4, store5, store6, store7, add1, add2, add3, add4, add5, add6, last7]
    exact grad_at m c t _ _ _ (acc_at m c t _ _ _ _ _ _ _ _ _ _ _ _ _ _ _ _) y0 y1

set_option maxHeartbeats 1000000 in
theorem final_9 (c : Dev nD) : (dats m 0 c).arrAt 9 (cfgs 0).N = Cert.FfnBSpec.out1 (X m c) (G m c) (W m c) (K m c) (U m c) (H m c) := by
  refine (dats m 0 c).arrAt_eq_of_covers 9 _ (by decide +kernel) fun t hf y => ?_
  blk_simp; rw [after0_9]
  idx_vars y
  refine Eq.trans ?_ (congrArg _ (row_at' t y0 y1)).symm
  by_cases h : t.val % 16 = 0
  · rw [outsAt0_A m c t h]; dsimp only; frame_out
    simp only [tile1, tile2, tile3, tile4, tile5, tile6, tile7, next0, next2, next3, next4, next5, next6, next7, store1, store2, store3, store4, store5, store6, store7, add1, add2, add3, add4, add5, add6, last7]
    exact grad_at m c t _ _ _ (acc_at m c t _ _ _ _ _ _ _ _ _ _ _ _ _ _ _ _) y0 y1
  · rw [outsAt0_B m c t h]; dsimp only; frame_out
    simp only [tile1, tile2, tile3, tile4, tile5, tile6, tile7, next0, next2, next3, next4, next5, next6, next7, store1, store2, store3, store4, store5, store6, store7, add1, add2, add3, add4, add5, add6, last7]
    exact grad_at m c t _ _ _ (acc_at m c t _ _ _ _ _ _ _ _ _ _ _ _ _ _ _ _) y0 y1

/-- The accumulating store starts from zero. -/
theorem hzero_10 (j : S1x1024.Idx) : k0_pay2 (F := Ideal) j = 0 := by
  pointwise! [k0_pay2]

/-- The accumulating store adds its part to what the buffer held. -/
theorem hpay_10 (a : FVec Ideal S256x1024 .f32) (p : FVec Ideal S256x704 .bf16) (w : Vec Ideal S1x1024x704 .bf16) (x : Vec Ideal S256x1024 .f32)
    (v : Vec Ideal S1x1024 .f32) (j : S1x1024.Idx) : k0_pay61 a p w x v j = v j + k0_pay61 a p w x (fun _ => 0) j := by
  pointwise [k0_pay61]

set_option maxHeartbeats 1000000 in
theorem final_10 (c : Dev nD) : (dats m 0 c).arrAt 10 (cfgs 0).N = Cert.FfnBSpec.out2 (X m c) (W m c) (K m c) (U m c) := by
  refine (dats m 0 c).arrAt_eq_of_after_last 10 t0_15 (by decide +kernel) _ fun j => ?_
  blk_simp
  rw [after0_10, Pipeline.eq_sum_fin_of_reset_step_apply_last (fun n h => (outsAt0 m c n h).2.2.2) 16 (fun _ => 0) _
    (fun t h j => by rw [outsAt0_A m c t h]; frame_out; rw [hpay_10, hzero_10])
    (fun t h j => by rw [outsAt0_B m c t h]; frame_out; rw [hpay_10])
    (le_of_eq N_0) t0_15 rfl j, zero_add]
  idx_vars j
  refine Eq.trans ?_ (Fin.sum_univ_tiles 16 256 rfl (fun s => Cert.FfnBSpec.dhn (W m c) (K m c) (U m c) s.val j1
    * (X m c (ix3 0 s j1) * Cert.Rms.inv (Cert.FfnBSpec.row (X m c) s)))).symm
  refine Fin.sum_fin_congr fun t => ?_
  simp only [tile1, tile2, tile3, tile4, tile5, tile6, tile7, next0, next2, next3, next4, next5, next6, next7, store1, store2, store3, store4, store5, store6, store7, add1, add2, add3, add4, add5, add6, last7]
  exact scale_at m c t _ _ _ (acc_at m c t _ _ _ _ _ _ _ _ _ _ _ _ _ _ _ _) j0 j1

end Cert.FfnBIdeal.Value
end
-- ==== Proof.FfnB.Ref.lean ====
/- The derivative of the reference's lines, entry by entry: it is the specification where the arrays' entries are real numbers. -/
module

public import proofs.«01_k».proof.Proof.Gen.FfnBRefIdeal.Read
public import proofs.«01_k».proof.Proof.Common.HostSums
public import proofs.«01_k».proof.Proof.FfnB.Spec
public import Idealize.ShloMosaic.Lib.Pointwise

@[expose] public section

set_option maxRecDepth 16384

noncomputable section

open Idealize.ShloMosaic Idealize.ShloMosaic.TcCoe Idealize.SL.Sem

namespace Cert.FfnBRefIdeal.Read
open Cert.FfnBRefIdeal Cert.FfnBRefIdeal.Gen

variable (x0 : FVec Ideal S1x4096x1024 .f32) (x1 : FVec Ideal S1x1024 .f32) (x2 : FVec Ideal S1x1024x5632 .f32)
  (x3 : FVec Ideal S1x3x5632 .f32) (x5 : FVec Ideal S4096x5632 .f32) (x6 : FVec Ideal S4096x1024 .f32)

/-- The cotangent some rows further, zero after the last token, times a tap's weight. -/
theorem tap_mul (a : EReal) (k s : ℕ) (c : Fin 5632) :
    (if h : k + s < 4096 then a * x5 (ix2 ⟨k + s, h⟩ c) else 0) = a * Cert.FfnBSpec.tap x5 (s + k) c := by
  unfold Cert.FfnBSpec.tap
  by_cases h : k + s < 4096
  · rw [dif_pos h, dif_pos (by omega)]
    exact congrArg (a * ·) (congrArg x5 (congrArg (ix2 · c) (Fin.ext (Nat.add_comm k s))))
  · rw [dif_neg h, dif_neg (by omega), mul_zero]

/-- The cotangent of the convolution's input, as the derivative adds its three parts up. -/
theorem v45_at (s : Fin 4096) (c : Fin 5632) : val_main_v45 (F := Ideal) x3 x5 (ix3 0 s c) = Cert.FfnBSpec.dpre x3 x5 s.val c := by
  have e0 : Cert.FfnBSpec.tap x5 s.val c = x5 (ix2 s c) := by unfold Cert.FfnBSpec.tap; rw [dif_pos s.isLt]
  unfold Cert.FfnBSpec.dpre
  rw [e0]
  pointwise [val_main_v45, val_main_v44, val_main_v42, val_main_v41, val_main_v40, val_main_v39, val_main_v38, val_main_v36, val_main_v35,
    val_main_v34, val_main_v33, val_main_v32, val_main_v31, val_main_v27, val_main_v26, val_main_v25, val_main_v21, val_main_v16, val_main_v15,
    val_main_v9, val_main_v4, val_main_v3, val_main_v1, val_main_cst_4, val_main_cst_5]
  rw [tap_mul, tap_mul]

theorem v66_at (s : Fin 4096) (d : Fin 1024) : val_main_v66 (F := Ideal) x2 x3 x5 (ix3 0 s d) = Cert.FfnBSpec.dhn x2 x3 x5 s.val d := by
  pointwise [val_main_v66, val_main_v63]
  exact Finset.sum_congr rfl fun c _ => congrArg (· * x2 (ix3 0 d c)) (v45_at x3 x5 s c)

theorem v54_at (s : Fin 4096) : val_main_v54 (F := Ideal) x0 (ix3 0 s 0) = Cert.Rms.inv (Cert.FfnBSpec.row x0 s) := by
  pointwise [val_main_v54, val_main_v53, val_main_v52, val_main_v51, val_main_v50, val_main_v49, val_main_v48, val_main_v47,
    val_main_cst_6, val_main_cst_7, val_main_cst_8, Cert.Rms.inv, Cert.Rms.var]

theorem v55_at (s : Fin 4096) : val_main_v55 (F := Ideal) x0 (ix3 0 s 0)
    = Ideal.div (Cert.Rms.inv (Cert.FfnBSpec.row x0 s)) (Cert.Rms.var (Cert.FfnBSpec.row x0 s)) := by
  pointwise [val_main_v55, val_main_v54, val_main_v53, val_main_v52, val_main_v51, val_main_v50, val_main_v49, val_main_v48, val_main_v47,
    val_main_cst_6, val_main_cst_7, val_main_cst_8, Cert.Rms.inv, Cert.Rms.var]

theorem v71_at (s : Fin 4096) (d : Fin 1024) : val_main_v71 (F := Ideal) x1 x2 x3 x5 (ix3 0 s d)
    = Cert.FfnBSpec.dhn x2 x3 x5 s.val d * x1 (ix2 0 d) := by
  pointwise [val_main_v71, val_main_v70, val_main_v60, val_main_v46]
  rw [v66_at]

theorem v82_at (s : Fin 4096) : val_main_v82 (F := Ideal) x0 x1 x2 x3 x5 (ix1 s)
    = Cert.Rms.through (Cert.FfnBSpec.row x0 s) (fun d => Cert.FfnBSpec.dhn x2 x3 x5 s.val d) (fun d => x1 (ix2 0 d)) := by
  pointwise [val_main_v82, val_main_v81, val_main_v80, val_main_v79, val_main_cst_13, val_main_cst_14, val_main_v75, val_main_v74, val_main_v73, val_main_v57,
    val_main_v56, val_main_cst_9, val_main_cst_12]
  rw [Cert.HostSums.column]
  pointwise
  simp only [v71_at, v55_at]
  rfl

theorem out2 : val_main_v89 (F := Ideal) x0 x2 x3 x5 = Cert.FfnBSpec.out2 x0 x2 x3 x5 := by
  funext j
  idx_vars j
  pointwise [val_main_v89, val_main_v72, val_main_v69, val_main_v68, val_main_v67, val_main_cst_10, val_main_cst_11]
  rw [Cert.HostSums.row]
  pointwise [val_main_v59, val_main_v58]
  simp only [v66_at, v54_at]
  exact Finset.sum_congr rfl fun s _ => mul_comm _ _

theorem out0 : val_main_v93 (F := Ideal) x3 x5 = Cert.FfnBSpec.out0 x3 x5 := by
  funext j
  idx_vars j
  pointwise [val_main_v93, val_main_v92, val_main_v91, val_main_v90]
  exact v45_at x3 x5 _ _

open Cert.Reals in
theorem sum_at (h0 : ∀ i, IsReal (x0 i)) (h1 : ∀ i, IsReal (x1 i)) (h2 : ∀ i, IsReal (x2 i)) (h3 : ∀ i, IsReal (x3 i))
    (h5 : ∀ i, IsReal (x5 i)) (s : Fin 4096) (d : Fin 1024) :
    val_main_v88 (F := Ideal) x0 x1 x2 x3 x5 x6 (ix3 0 s d) = Cert.FfnBSpec.out1 x0 x1 x2 x3 x5 x6 (ix2 s d) := by
  pointwise [val_main_v88, val_main_v87, val_main_v86, val_main_v85, val_main_v84, val_main_v83, val_main_v78, val_main_v77, val_main_v76, val_main_v65]
  rw [v71_at, v54_at, v82_at]
  have ht : ∀ s c, IsReal (Cert.FfnBSpec.tap x5 s c) := fun s c => by
    unfold Cert.FfnBSpec.tap
    split_ifs
    · exact h5 _
    · exact IsReal.coe 0
  have hz : ∀ s c, IsReal (Cert.FfnBSpec.dpre x3 x5 s c) := fun s c =>
    (((h3 _).mul (ht _ _)).add ((h3 _).mul (ht _ _))).add ((h3 _).mul (ht _ _))
  exact Cert.Rms.dx_eq (x := Cert.FfnBSpec.row x0 s) (fun k => h0 _)
    (y := fun e => Cert.FfnBSpec.dhn x2 x3 x5 s.val e) (fun k => IsReal.sum _ fun c _ => (hz _ _).mul (h2 _))
    (g := fun e => x1 (ix2 0 e)) (fun k => h1 _) (x6 (ix2 s d)) d

open Cert.Reals in
theorem out1 (h0 : ∀ i, IsReal (x0 i)) (h1 : ∀ i, IsReal (x1 i)) (h2 : ∀ i, IsReal (x2 i)) (h3 : ∀ i, IsReal (x3 i))
    (h5 : ∀ i, IsReal (x5 i)) : val_main_v94 (F := Ideal) x0 x1 x2 x3 x5 x6 = Cert.FfnBSpec.out1 x0 x1 x2 x3 x5 x6 := by
  funext j
  idx_vars j
  pointwise [val_main_v94]
  exact sum_at x0 x1 x2 x3 x5 x6 h0 h1 h2 h3 h5 j0 j1

open Cert.Reals in
theorem out1' (h0 : ∀ i, IsReal (x0 i)) (h1 : ∀ i, IsReal (x1 i)) (h2 : ∀ i, IsReal (x2 i)) (h3 : ∀ i, IsReal (x3 i))
    (h5 : ∀ i, IsReal (x5 i)) : val_main_v96 (F := Ideal) x0 x1 x2 x3 x5 x6 = Cert.FfnBSpec.out1 x0 x1 x2 x3 x5 x6 := by
  funext j
  idx_vars j
  pointwise [val_main_v96, val_main_v95]
  exact sum_at x0 x1 x2 x3 x5 x6 h0 h1 h2 h3 h5 j0 j1

end Cert.FfnBRefIdeal.Read
end
-- ==== Proof.FfnB.Pre.lean ====
/- The precondition of the convolution input's backward pass: which arrays have real entries. -/
module

public import proofs.«01_k».proof.Pre_finite_ffn_b
public import proofs.«01_k».proof.Proof.Common.Finite

@[expose] public section

noncomputable section

open Idealize.ShloMosaic

namespace Cert.Pre_finite_ffn_b

open Cert.Reals

variable [Facts] {x0 : FVec Ideal S1x4096x1024 .f32} {x1 : FVec Ideal S1x1024 .f32} {x2 : FVec Ideal S1x1024x5632 .f32}
  {x3 : FVec Ideal S1x3x5632 .f32} {x4 : FVec Ideal S1x5632 .f32} {x5 : FVec Ideal S4096x5632 .f32} {x6 : FVec Ideal S4096x1024 .f32}

theorem reals (h : fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x5 i)) := by
  have h := congrFun h ix0
  unfold fn fn_part1 at h
  obtain ⟨h, h4⟩ := and_set h
  obtain ⟨h, h3⟩ := and_set h
  obtain ⟨h, h2⟩ := and_set h
  obtain ⟨h0, h1⟩ := and_set h
  exact ⟨isReal_of_all h0, isReal_of_all h1, isReal_of_all h2, isReal_of_all h3, isReal_of_all h4⟩

end Cert.Pre_finite_ffn_b
end
-- ==== Proof.FfnB.Claim.lean ====
/- The backward pass of the convolution's input, the product and the normalisation: the kernel's arrays are the reference's. -/
module

public import proofs.«01_k».proof.Defs
public import proofs.«01_k».proof.Proof.Gen.FfnBRefIdeal.Run
public import proofs.«01_k».proof.Proof.FfnB.Ker
public import proofs.«01_k».proof.Proof.FfnB.Ref
public import proofs.«01_k».proof.Proof.FfnB.Pre
public import Idealize.ShloMosaic.Lib.Claim

@[expose] public section

noncomputable section

open Idealize.ShloMosaic Idealize.SL.Sem

namespace Cert.FfnBClaim

/-- The reference runs and leaves its arguments; it declares no semaphore. -/
theorem frame_ref [hR : Cert.FfnBRefIdeal.Facts] : Cert.quiescent_FfnBRefIdeal := fun m ρ _ =>
  (θ_run Cert.FfnBRefIdeal.defs _ _).mono (fun r h => ⟨fun c => (h c).2.2.2.2, sem_eq_zero_of_no_sems (by decide) r.2⟩)
    (Cert.FfnBRefIdeal.Value.run m ρ)

theorem algebraic [hK : Cert.FfnBIdeal.Facts] [hR : Cert.FfnBRefIdeal.Facts] [hP : Cert.Pre_finite_ffn_b.Facts] :
    Cert.algebraic_FfnBIdeal_FfnBRefIdeal_pre_finite_ffn_b := by
  intro m g m' g' hpre hagree
  refine ⟨fun c => Cert.FfnBSpec.out0 (Cert.FfnBIdeal.Value.K m c) (Cert.FfnBIdeal.Value.U m c),
    fun c => Cert.FfnBSpec.out1 (Cert.FfnBIdeal.Value.X m c) (Cert.FfnBIdeal.Value.G m c) (Cert.FfnBIdeal.Value.W m c) (Cert.FfnBIdeal.Value.K m c) (Cert.FfnBIdeal.Value.U m c) (Cert.FfnBIdeal.Value.H m c),
    fun c => Cert.FfnBSpec.out1 (Cert.FfnBIdeal.Value.X m c) (Cert.FfnBIdeal.Value.G m c) (Cert.FfnBIdeal.Value.W m c) (Cert.FfnBIdeal.Value.K m c) (Cert.FfnBIdeal.Value.U m c) (Cert.FfnBIdeal.Value.H m c),
    fun c => Cert.FfnBSpec.out2 (Cert.FfnBIdeal.Value.X m c) (Cert.FfnBIdeal.Value.W m c) (Cert.FfnBIdeal.Value.K m c) (Cert.FfnBIdeal.Value.U m c), ?_, ?_⟩
  · refine (θ_run Cert.FfnBIdeal.defs _ _).mono (fun r h c => ?_) (Cert.FfnBIdeal.Value.run_blocks m g)
    obtain ⟨h7, h8, h9, h10, hargs⟩ := h c
    exact ⟨h7.trans (Cert.FfnBIdeal.Value.final_7 m c), h8.trans (Cert.FfnBIdeal.Value.final_8 m c), h9.trans (Cert.FfnBIdeal.Value.final_9 m c),
      h10.trans (Cert.FfnBIdeal.Value.final_10 m c), hargs⟩
  · refine (θ_run Cert.FfnBRefIdeal.defs _ _).mono (fun r h c => ?_) (Cert.FfnBRefIdeal.Value.run m' g')
    obtain ⟨e0, e1, e2, e3, e4, e5, e6⟩ := hagree c
    obtain ⟨r0, r1, r2, r3, r5⟩ := Cert.Pre_finite_ffn_b.reals (hpre c)
    obtain ⟨h0, h1, h2, h3, hargs⟩ := h c
    refine ⟨h0.trans ?_, h1.trans ?_, h2.trans ?_, h3.trans ?_, hargs⟩
    · rw [e3, e5]
      exact (Cert.FfnBRefIdeal.Read.val_main_v93_eq _ _).trans (Cert.FfnBRefIdeal.Read.out0 _ _)
    · refine (Cert.FfnBRefIdeal.Read.val_main_v94_eq m' c).trans ?_
      rw [e0, e1, e2, e3, e5, e6]
      exact Cert.FfnBRefIdeal.Read.out1 _ _ _ _ _ _ r0 r1 r2 r3 r5
    · refine (Cert.FfnBRefIdeal.Read.val_main_v96_eq m' c).trans ?_
      rw [e0, e1, e2, e3, e5, e6]
      exact Cert.FfnBRefIdeal.Read.out1' _ _ _ _ _ _ r0 r1 r2 r3 r5
    · rw [e0, e2, e3, e5]
      exact (Cert.FfnBRefIdeal.Read.val_main_v89_eq _ _ _ _).trans (Cert.FfnBRefIdeal.Read.out2 _ _ _ _)

end Cert.FfnBClaim
end
-- ==== Proof.Mix.Spec.lean ====
/- The backward pass of the pooling, its product and the output projection, entry by entry. -/
module

public import proofs.«01_k».proof.Proof.Common.Reals

@[expose] public section

noncomputable section

open Idealize.ShloMosaic

namespace Cert.MixSpec

open Cert

variable (D : FVec Ideal ⟨4, ![1, 4096, 4, 128]⟩ .f32) (M : FVec Ideal ⟨3, ![1, 4096, 1024]⟩ .f32)
  (P : FVec Ideal ⟨4, ![1, 4, 128, 128]⟩ .f32) (Z : FVec Ideal ⟨2, ![1, 512]⟩ .f32)
  (O : FVec Ideal ⟨3, ![1, 1024, 1024]⟩ .f32) (H : FVec Ideal ⟨2, ![4096, 1024]⟩ .f32)

/-- The cotangent of the concatenated row. -/
def dmix (s : Fin 4096) (k : Fin 1024) : EReal := ∑ e : Fin 1024, H (ix2 s e) * O (ix3 0 k e)

/-- The pooled half of it, in four groups. -/
def dpool (s : Fin 4096) (g : Fin 4) (d : Fin 128) : EReal := dmix O H s ⟨512 + (g.val * 128 + d.val), by omega⟩

/-- The scale of a pooled column. -/
def scale (g : Fin 4) (d : Fin 128) : EReal := Z (ix2 0 ⟨g.val * 128 + d.val, by omega⟩)

/-- A group's product, before the scale. -/
def y (s : Fin 4096) (g : Fin 4) (d : Fin 128) : EReal := ∑ e : Fin 128, D (ix4 0 s g e) * P (ix4 0 g e d)

/-- The cotangent of the group's product. -/
def dy (s : Fin 4096) (g : Fin 4) (d : Fin 128) : EReal := dpool O H s g d * scale Z g d

/-- The cotangent of the mean's difference from the token. -/
def ddlt (s : Fin 4096) (g : Fin 4) (d : Fin 128) : EReal := ∑ e : Fin 128, dy Z O H s g e * P (ix4 0 g d e)

/-- The window of a group. -/
def window (g : Fin 4) : ℕ := 2 * 2 ^ g.val

/-- The number of tokens the mean at `s` is over. -/
def count (s : ℕ) (g : Fin 4) : EReal := ((min (s + 1) (window g) : ℕ) : ℝ)

/-- What a token's difference hands to each token of its window; nothing after the last token. -/
def part (s : ℕ) (g : Fin 4) (d : Fin 128) : EReal :=
  if h : s < 4096 then Ideal.div (ddlt P Z O H ⟨s, h⟩ g d) (count s g) else 0

/-- The pooled token's gradient. -/
def du (s : Fin 4096) (g : Fin 4) (d : Fin 128) : EReal :=
  ∑ k ∈ Finset.range (window g), part P Z O H (s.val + k) g d - ddlt P Z O H s g d

/-- The group of a column, and its place in the group. -/
abbrev grp (j : Fin 512) : Fin 4 := ⟨j.val / 128, by omega⟩
abbrev col (j : Fin 512) : Fin 128 := ⟨j.val % 128, by omega⟩

/-- The attention half's gradient. -/
def out0 (j : (⟨2, ![4096, 512]⟩ : Shape).Idx) : EReal := dmix O H (j 0) ⟨(j 1).val, by have := (j 1).isLt; simp at this; omega⟩
/-- The gradient of the pooling's input. -/
def out1 (j : (⟨2, ![4096, 512]⟩ : Shape).Idx) : EReal := du P Z O H (j 0) (grp (j 1)) (col (j 1))
/-- The gradient of the groups' weights. -/
def out2 (j : (⟨3, ![4, 128, 128]⟩ : Shape).Idx) : EReal := ∑ s : Fin 4096, D (ix4 0 s (j 0) (j 1)) * dy Z O H s (j 0) (j 2)
/-- The gradient of the scale. -/
def out3 (j : (⟨2, ![1, 512]⟩ : Shape).Idx) : EReal :=
  ∑ s : Fin 4096, dpool O H s (grp (j 1)) (col (j 1)) * y D P s (grp (j 1)) (col (j 1))
/-- The gradient of the projection. -/
def out4 (j : (⟨2, ![1024, 1024]⟩ : Shape).Idx) : EReal := ∑ s : Fin 4096, M (ix3 0 s (j 0)) * H (ix2 s (j 1))

/-- Subtracting a shifted copy of a sequence that ends and summing to the end leaves one window of it. -/
theorem telescope (c : ℕ → ℝ) (w n s : ℕ) (hc : ∀ i, n ≤ i → c i = 0) :
    ∑ k ∈ Finset.range n, (c (s + k) - c (s + k + w)) = ∑ k ∈ Finset.range w, c (s + k) := by
  have h1 := Finset.sum_range_add (fun k => c (s + k)) w n
  have h2 := Finset.sum_range_add (fun k => c (s + k)) n w
  have h3 : ∑ k ∈ Finset.range w, c (s + (n + k)) = 0 := Finset.sum_eq_zero fun k _ => hc _ (by omega)
  have h4 : ∑ k ∈ Finset.range n, c (s + k + w) = ∑ k ∈ Finset.range n, c (s + (w + k)) :=
    Finset.sum_congr rfl fun k _ => congrArg c (by omega)
  rw [Finset.sum_sub_distrib, h4]
  rw [Nat.add_comm] at h1
  linarith [h1.symm.trans h2]

end Cert.MixSpec
end
-- ==== Proof.Common.HostWindow.lean ====
/- A host sum from a token to the last one, a host sum over two unit axes, and a clipped token number as a float. -/
module

public import proofs.«01_k».proof.Proof.Common.Reals
public import Idealize.ShloMosaic.Lib.PlanTiles.Rows
public import Idealize.ShloMosaic.Lib.Pointwise

@[expose] public section

noncomputable section

open Idealize.ShloMosaic

namespace Cert.HostWindow

theorem foldl_add {α : Type} (f : α → EReal) (l : List α) (a : EReal) : l.foldl (fun r n => r + f n) a = a + (l.map f).sum := by
  induction l generalizing a with
  | nil => simp
  | cons x l ih => simp [ih, add_assoc]

/-- The sum from a token to the last one, a window of as many tokens as there are. -/
theorem suffix {n G E : ℕ} (x : FVec Ideal ⟨4, ![1, n, G, E]⟩ .f32) (init : FVec Ideal ⟨0, ![]⟩ .f32)
    (h : (⟨4, ![1, n, G, E]⟩ : Shape).ReduceWindows ![1, n, 1, 1] ![1, 1, 1, 1] ![0, 0, 0, 0] ![0, n - 1, 0, 0] ⟨4, ![1, n, G, E]⟩)
    (hu : 0 < (⟨0, ![]⟩ : Shape).numel) (hi : ∀ i, init i = 0) (z : Fin 1) (s : Fin n) (g : Fin G) (d : Fin E) :
    Host.reduceWindowAdd (F := Ideal) ![1, n, 1, 1] ![1, 1, 1, 1] ![0, 0, 0, 0] ![0, n - 1, 0, 0] x init h hu (ix4 z s g d)
      = ∑ k : Fin n, if hk : s.val + k.val < n then x (ix4 0 ⟨s.val + k.val, hk⟩ g d) else 0 := by
  refine (foldl_add _ _ _).trans ?_
  rw [hi, zero_add]
  rw [← List.ofFn_eq_map, List.sum_ofFn]
  rw [← (Equiv.sum_comp (Shape.rowMajor ⟨4, ![1, n, 1, 1]⟩) _)]
  refine (sum_idx4 _).trans ?_
  simp only [Fin.isValue, Fin.sum_univ_one]
  refine Finset.sum_congr rfl fun k _ => ?_
  have e : (Shape.rowMajor ⟨4, ![1, n, 1, 1]⟩).symm ((Shape.rowMajor ⟨4, ![1, n, 1, 1]⟩) (ix4 0 k 0 0)) = ix4 0 k 0 0 := Equiv.symm_apply_apply _ _
  by_cases hk : s.val + k.val < n
  · rw [dif_pos hk, dif_pos]
    · refine congrArg x (funext fun a => Fin.ext ?_)
      match a with
      | ⟨0, _⟩ => have := congrArg (fun i => (i 0).val) e; simp at this ⊢
      | ⟨1, _⟩ => have := congrArg (fun i => (i 1).val) e; simp at this ⊢
      | ⟨2, _⟩ => have := congrArg (fun i => (i 2).val) e; simp at this ⊢
      | ⟨3, _⟩ => have := congrArg (fun i => (i 3).val) e; simp at this ⊢
    · intro a
      match a with
      | ⟨0, _⟩ => simp
      | ⟨1, _⟩ => simp [hk]
      | ⟨2, _⟩ => simp
      | ⟨3, _⟩ => simp
  · rw [dif_neg hk, dif_neg]
    intro hh
    have := (hh 1).2
    simp at this
    omega

theorem grid {G E : ℕ} (h : (⟨4, ![1, 1, G, E]⟩ : Shape).ReducesTo [0, 1] ⟨2, ![G, E]⟩)
    (x : (⟨4, ![1, 1, G, E]⟩ : Shape).Idx → EReal) (init : EReal) (g : Fin G) (d : Fin E) :
    Ideal.hostReduceAdd h x init (ix2 g d) = init + x (ix4 0 0 g d) := by
  refine congrArg (init + ·) ?_
  refine Finset.sum_eq_single_of_mem (ix4 0 0 g d) ?_ ?_
  · refine Finset.mem_filter.mpr ⟨Finset.mem_univ _, ?_⟩
    funext b
    match b with
    | ⟨0, _⟩ => rfl
    | ⟨1, _⟩ => rfl
  · intro i hi hn
    refine absurd ?_ hn
    have e := congrArg Fin.val (congrFun (Finset.mem_filter.mp hi).2 0)
    have e' := congrArg Fin.val (congrFun (Finset.mem_filter.mp hi).2 1)
    funext a; apply Fin.ext
    match a with
    | ⟨0, _⟩ => have := (i 0).isLt; simp at this; simpa using this
    | ⟨1, _⟩ => have := (i 1).isLt; simp at this; simpa using this
    | ⟨2, _⟩ => exact e
    | ⟨3, _⟩ => exact e'

/-- A token number clipped to a window, as a float. -/
theorem clip {n w : ℕ} (hn : n < 2 ^ 31) (hw : w < 2 ^ 31) :
    (FloatOps.sitofp .f32 (IntOp.minsi (BitVec.ofNat 32 n) (BitVec.ofNat 32 w)) : Ideal .f32) = (((min n w : ℕ) : ℝ) : EReal) := by
  rw [Idealize.ShloMosaic.PlanTiles.minsi_word hn hw]
  show (((BitVec.ofNat 32 (min w n)).toInt : ℝ) : EReal) = _
  rw [BitVec.toInt_eq_toNat_of_lt (by simp; omega)]
  rw [BitVec.toNat_ofNat, Nat.mod_eq_of_lt (by omega), Nat.min_comm]
  simp

end Cert.HostWindow
end
-- ==== Proof.Mix.Ref.lean ====
/- What the reference's arrays hold, entry by entry. -/
module

public import proofs.«01_k».proof.Proof.Gen.MixRefIdeal.Read
public import proofs.«01_k».proof.Proof.Mix.Spec
public import proofs.«01_k».proof.Proof.Common.HostSums
public import proofs.«01_k».proof.Proof.Common.HostWindow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixRefIdeal.Read

open Cert.MixRefIdeal Cert.MixRefIdeal.Gen Cert Cert.Reals

variable {A : FVec Ideal S1x4096x512 .f32} {U : FVec Ideal S1x4096x512 .f32} {P : FVec Ideal S1x4x128x128 .f32}
  {Z : FVec Ideal S1x512 .f32} {O : FVec Ideal S1x1024x1024 .f32} {H : FVec Ideal S4096x1024 .f32}

theorem v107_at (z : Fin 1) (s : Fin 4096) (k : Fin 1024) : val_main_v107 (F := Ideal) O H (ix3 z s k) = MixSpec.dmix O H s k := by
  pointwise [val_main_v107, val_main_v104, val_main_v102]
  rfl

theorem v111_at (z : Fin 1) (s : Fin 4096) (g : Fin 4) (d : Fin 128) : val_main_v111 (F := Ideal) O H (ix4 z s g d) = MixSpec.dpool O H s g d := by
  pointwise [val_main_v111, val_main_v110]
  exact v107_at _ _ _

theorem v116_at (z : Fin 1) (s : Fin 4096) (g : Fin 4) (d : Fin 128) : val_main_v116 (F := Ideal) Z O H (ix4 z s g d) = MixSpec.dy Z O H s g d := by
  pointwise [val_main_v116, val_main_v115, val_main_v97, val_main_v96, val_main_v1]
  rw [v111_at]
  rfl

theorem v121_at (z : Fin 1) (s : Fin 4096) (g : Fin 4) (d : Fin 128) : val_main_v121 (F := Ideal) P Z O H (ix4 z s g d) = MixSpec.ddlt P Z O H s g d := by
  pointwise [val_main_v121, val_main_v120, val_main_v119, val_main_v0]
  simp only [v116_at]
  rfl

theorem v95_at (z : Fin 1) (s : Fin 4096) (g : Fin 4) (d : Fin 128) : val_main_v95 (F := Ideal) U P (ix4 z s g d) = MixSpec.y (val_main_v93 (F := Ideal) U) P s g d := by
  pointwise [val_main_v95, val_main_v94, val_main_v0]
  exact Finset.sum_congr rfl fun e _ => mul_comm _ _

/-- The number of tokens a window's mean is over, as the reference makes it. -/
theorem count0 (z : Fin 1) (s : Fin 4096) (d : Fin 1) : val_main_v20 (F := Ideal) (ix3 z s d) = MixSpec.count s.val 0 := by
  pointwise [val_main_v20, val_main_v19, val_main_v18, val_main_v17, val_main_v16, val_main_v15, val_main_v8, val_main_c, val_main_c_3]
  refine (congrArg (FloatOps.sitofp (F := Ideal) FTy.f32) (congrArg (IntOp.minsi · _) (?_ : _ = BitVec.ofNat 32 (s.val + 1)))).trans (HostWindow.clip (by omega) (by omega))
  exact (BitVec.ofNat_add s.val 1).symm
theorem count1 (z : Fin 1) (s : Fin 4096) (d : Fin 1) : val_main_v40 (F := Ideal) (ix3 z s d) = MixSpec.count s.val 1 := by
  pointwise [val_main_v40, val_main_v39, val_main_v38, val_main_v37, val_main_v36, val_main_v35, val_main_v8, val_main_c_6, val_main_c_7]
  refine (congrArg (FloatOps.sitofp (F := Ideal) FTy.f32) (congrArg (IntOp.minsi · _) (?_ : _ = BitVec.ofNat 32 (s.val + 1)))).trans (HostWindow.clip (w := 4) (by omega) (by omega))
  exact (BitVec.ofNat_add s.val 1).symm
theorem count2 (z : Fin 1) (s : Fin 4096) (d : Fin 1) : val_main_v60 (F := Ideal) (ix3 z s d) = MixSpec.count s.val 2 := by
  pointwise [val_main_v60, val_main_v59, val_main_v58, val_main_v57, val_main_v56, val_main_v55, val_main_v8, val_main_c_10, val_main_c_11]
  refine (congrArg (FloatOps.sitofp (F := Ideal) FTy.f32) (congrArg (IntOp.minsi · _) (?_ : _ = BitVec.ofNat 32 (s.val + 1)))).trans (HostWindow.clip (w := 8) (by omega) (by omega))
  exact (BitVec.ofNat_add s.val 1).symm
theorem count3 (z : Fin 1) (s : Fin 4096) (d : Fin 1) : val_main_v80 (F := Ideal) (ix3 z s d) = MixSpec.count s.val 3 := by
  pointwise [val_main_v80, val_main_v79, val_main_v78, val_main_v77, val_main_v76, val_main_v75, val_main_v8, val_main_c_14, val_main_c_15]
  refine (congrArg (FloatOps.sitofp (F := Ideal) FTy.f32) (congrArg (IntOp.minsi · _) (?_ : _ = BitVec.ofNat 32 (s.val + 1)))).trans (HostWindow.clip (w := 16) (by omega) (by omega))
  exact (BitVec.ofNat_add s.val 1).symm

theorem v206_at (a b : Fin 1024) : val_main_v206 (F := Ideal) A U P Z H (ix2 a b) = MixSpec.out4 (val_main_v101 (F := Ideal) A U P Z) H (ix2 a b) := by
  pointwise [val_main_v206, val_main_v205, val_main_v108, val_main_v106, val_main_v105, val_main_v104]
  simp only [Fin.isValue, Fin.sum_univ_one]
  exact Finset.sum_congr rfl fun e _ => mul_comm _ _

theorem v204_at (g : Fin 4) (a b : Fin 128) : val_main_v204 (F := Ideal) U Z O H (ix3 g a b) = MixSpec.out2 (val_main_v93 (F := Ideal) U) Z O H (ix3 g a b) := by
  pointwise [val_main_v204, val_main_v201, val_main_v123, val_main_v122, val_main_v119]
  simp only [Fin.isValue, Fin.sum_univ_one, v116_at]
  exact Finset.sum_congr rfl fun e _ => mul_comm _ _

theorem v113_at (z : Fin 1) (g : Fin 4) (d : Fin 128) : val_main_v113 (F := Ideal) U P O H (ix3 z g d)
    = ∑ s : Fin 4096, MixSpec.dpool O H s g d * MixSpec.y (val_main_v93 (F := Ideal) U) P s g d := by
  pointwise [val_main_v113, val_main_v112, val_main_cst_16]
  simp only [v95_at, v111_at]
  exact Finset.sum_congr rfl fun e _ => mul_comm _ _

theorem v200_at (z : Fin 1) (j : Fin 512) : val_main_v200 (F := Ideal) U P O H (ix2 z j) = MixSpec.out3 (val_main_v93 (F := Ideal) U) P O H (ix2 z j) := by
  pointwise [val_main_v200, val_main_v118, val_main_v117]
  refine (HostWindow.grid _ _ _ _ _).trans ?_
  pointwise [val_main_v114, val_main_cst_17]
  exact v113_at _ _ _

theorem v180_at (z : Fin 1) (s : Fin 4096) (g : Fin 4) (d : Fin 128) : val_main_v180 (F := Ideal) P Z O H (ix4 z s g d) = - MixSpec.ddlt P Z O H s g d := by
  pointwise [val_main_v180, val_main_v179, val_main_v178, val_main_v177, val_main_v125, val_main_v124,
    val_main_v164, val_main_v163, val_main_v162, val_main_v161, val_main_v127, val_main_v126,
    val_main_v148, val_main_v147, val_main_v146, val_main_v145, val_main_v129, val_main_v128,
    val_main_v134, val_main_v133, val_main_v132, val_main_v131, val_main_v130, val_main_cst_30, val_main_cst_26, val_main_cst_22, val_main_cst_18]
  simp only [v121_at]
  fin_cases g <;> simp

theorem v186_at (z : Fin 1) (s : Fin 4096) (g : Fin 4) (d : Fin 128) : val_main_v186 (F := Ideal) P Z O H (ix4 z s g d) = MixSpec.part P Z O H s.val g d := by
  pointwise [val_main_v186, val_main_v185, val_main_v184, val_main_v182, val_main_v125, val_main_v124, val_main_v181,
    val_main_v170, val_main_v169, val_main_v168, val_main_v166, val_main_v127, val_main_v126, val_main_v165,
    val_main_v154, val_main_v153, val_main_v152, val_main_v150, val_main_v129, val_main_v128, val_main_v149,
    val_main_v139, val_main_v138, val_main_v136, val_main_v131, val_main_v130, val_main_v135, val_main_cst_31, val_main_cst_27, val_main_cst_23, val_main_cst_19]
  simp only [v121_at, count0, count1, count2, count3]
  rw [MixSpec.part, dif_pos s.isLt]
  fin_cases g <;> simp

theorem low0 (z : Fin 1) (s : Fin 4097) (d : Fin 128) : val_main_v189 (F := Ideal) P Z O H (ix3 z s d) = - MixSpec.part P Z O H (s.val + 1) 0 d := by
  pointwise [val_main_v189, val_main_v187, val_main_v183, val_main_v182, val_main_v125, val_main_v124, val_main_v181, val_main_cst_32]
  simp only [v121_at, count0]
  rw [MixSpec.part]
  by_cases h : s.val + 1 < 4096
  · rw [dif_pos (by omega), dif_pos h]
    simp only [Nat.add_comm 1 s.val]
  · rw [dif_neg (by omega), dif_neg h, neg_zero]

theorem low1 (z : Fin 1) (s : Fin 4097) (d : Fin 128) : val_main_v173 (F := Ideal) P Z O H (ix3 z s d) = - MixSpec.part P Z O H (s.val + 3) 1 d := by
  pointwise [val_main_v173, val_main_v171, val_main_v167, val_main_v166, val_main_v127, val_main_v126, val_main_v165, val_main_cst_28]
  simp only [v121_at, count1]
  rw [MixSpec.part]
  by_cases h : s.val + 3 < 4096
  · rw [dif_pos (by omega), dif_pos h]
    simp only [Nat.add_comm 3 s.val]
  · rw [dif_neg (by omega), dif_neg h, neg_zero]

theorem low2 (z : Fin 1) (s : Fin 4097) (d : Fin 128) : val_main_v157 (F := Ideal) P Z O H (ix3 z s d) = - MixSpec.part P Z O H (s.val + 7) 2 d := by
  pointwise [val_main_v157, val_main_v155, val_main_v151, val_main_v150, val_main_v129, val_main_v128, val_main_v149, val_main_cst_24]
  simp only [v121_at, count2]
  rw [MixSpec.part]
  by_cases h : s.val + 7 < 4096
  · rw [dif_pos (by omega), dif_pos h]
    simp only [Nat.add_comm 7 s.val]
  · rw [dif_neg (by omega), dif_neg h, neg_zero]

theorem low3 (z : Fin 1) (s : Fin 4097) (d : Fin 128) : val_main_v142 (F := Ideal) P Z O H (ix3 z s d) = - MixSpec.part P Z O H (s.val + 15) 3 d := by
  pointwise [val_main_v142, val_main_v140, val_main_v137, val_main_v136, val_main_v131, val_main_v130, val_main_v135, val_main_cst_20]
  simp only [v121_at, count3]
  rw [MixSpec.part]
  by_cases h : s.val + 15 < 4096
  · rw [dif_pos (by omega), dif_pos h]
    simp only [Nat.add_comm 15 s.val]
  · rw [dif_neg (by omega), dif_neg h, neg_zero]

theorem v192_at (z : Fin 1) (s : Fin 4097) (g : Fin 4) (d : Fin 128) : val_main_v192 (F := Ideal) P Z O H (ix4 z s g d) = - MixSpec.part P Z O H (s.val + MixSpec.window g - 1) g d := by
  pointwise [val_main_v192, val_main_v191, val_main_v190, val_main_v176, val_main_v175, val_main_v174, val_main_v160, val_main_v159, val_main_v158, val_main_v144, val_main_v143,
    val_main_cst_33, val_main_cst_29, val_main_cst_25, val_main_cst_21]
  simp only [low0, low1, low2, low3]
  fin_cases g <;> simp [MixSpec.window]

theorem v196_at (z : Fin 1) (s : Fin 4096) (g : Fin 4) (d : Fin 128) : val_main_v196 (F := Ideal) P Z O H (ix4 z s g d)
    = - MixSpec.part P Z O H (s.val + MixSpec.window g) g d + MixSpec.part P Z O H s.val g d := by
  pointwise [val_main_v196, val_main_v194, val_main_v193, val_main_cst_34]
  rw [v192_at, v186_at]
  congr 3
  show 1 + s.val + MixSpec.window g - 1 = _
  omega

theorem v197_at (z : Fin 1) (s : Fin 4096) (g : Fin 4) (d : Fin 128) : val_main_v197 (F := Ideal) P Z O H (ix4 z s g d)
    = ∑ k : Fin 4096, if hk : s.val + k.val < 4096 then val_main_v196 (F := Ideal) P Z O H (ix4 0 ⟨s.val + k.val, hk⟩ g d) else 0 := by
  refine HostWindow.suffix (val_main_v196 (F := Ideal) P Z O H) _ _ _ (fun i => ?_) z s g d
  pointwise! [val_main_call1_call0_v0, val_main_call1_call0_cst]

theorem ddlt_real (hP : ∀ i, IsReal (P i)) (hZ : ∀ i, IsReal (Z i)) (hO : ∀ i, IsReal (O i)) (hH : ∀ i, IsReal (H i))
    (s : Fin 4096) (g : Fin 4) (d : Fin 128) : IsReal (MixSpec.ddlt P Z O H s g d) := by
  unfold MixSpec.ddlt MixSpec.dy MixSpec.dpool MixSpec.dmix MixSpec.scale
  exact .sum _ fun e _ => .mul (.mul (.sum _ fun k _ => (hH _).mul (hO _)) (hZ _)) (hP _)

theorem part_real (hP : ∀ i, IsReal (P i)) (hZ : ∀ i, IsReal (Z i)) (hO : ∀ i, IsReal (O i)) (hH : ∀ i, IsReal (H i))
    (s : ℕ) (g : Fin 4) (d : Fin 128) : IsReal (MixSpec.part P Z O H s g d) := by
  unfold MixSpec.part
  split
  · obtain ⟨a, ha⟩ := ddlt_real hP hZ hO hH ⟨s, by assumption⟩ g d
    rw [ha]
    refine ⟨_, div_coe_coe ?_⟩
    have : 0 < min (s + 1) (MixSpec.window g) := lt_min (by omega) (by simp [MixSpec.window])
    exact_mod_cast this.ne'
  · exact ⟨0, by simp⟩

theorem v203_at (hP : ∀ i, IsReal (P i)) (hZ : ∀ i, IsReal (Z i)) (hO : ∀ i, IsReal (O i)) (hH : ∀ i, IsReal (H i))
    (s : Fin 4096) (j : Fin 512) : val_main_v203 (F := Ideal) P Z O H (ix2 s j) = MixSpec.out1 P Z O H (ix2 s j) := by
  pointwise [val_main_v203, val_main_v199, val_main_v198]
  rw [v180_at, v197_at]
  show _ = MixSpec.du P Z O H s (MixSpec.grp j) (MixSpec.col j)
  unfold MixSpec.du
  obtain ⟨a, ha⟩ := ddlt_real hP hZ hO hH s (MixSpec.grp j) (MixSpec.col j)
  obtain ⟨c, hc⟩ := exists_real fun i => part_real hP hZ hO hH i (MixSpec.grp j) (MixSpec.col j)
  have h0 : ∀ i, 4096 ≤ i → c i = 0 := fun i hi => by
    have := hc i
    rw [MixSpec.part, dif_neg (by omega)] at this
    exact_mod_cast this.symm
  have e : ∀ k : Fin 4096, (if hk : s.val + k.val < 4096 then val_main_v196 (F := Ideal) P Z O H (ix4 0 ⟨s.val + k.val, hk⟩ (MixSpec.grp j) (MixSpec.col j)) else 0)
      = (((c (s.val + k.val) - c (s.val + k.val + MixSpec.window (MixSpec.grp j)) : ℝ)) : EReal) := fun k => by
    split
    · rw [v196_at, hc, hc, ← EReal.coe_neg, ← EReal.coe_add]
      congr 1
      ring
    · rw [h0 _ (by omega), h0 _ (by omega)]
      simp
  rw [Finset.sum_congr rfl fun k _ => e k, ha]
  simp only [hc]
  rw [← coe_sum, ← coe_sum, ← EReal.coe_neg, ← EReal.coe_add, ← EReal.coe_sub,
    Fin.sum_univ_eq_sum_range (fun k => c (s.val + k) - c (s.val + k + MixSpec.window (MixSpec.grp j))) 4096, MixSpec.telescope c _ 4096 s.val h0]
  congr 1
  ring

theorem v202_at (s : Fin 4096) (j : Fin 512) : val_main_v202 (F := Ideal) O H (ix2 s j) = MixSpec.out0 O H (ix2 s j) := by
  pointwise [val_main_v202, val_main_v109]
  exact v107_at _ _ _

end Cert.MixRefIdeal.Read
end
-- ==== Proof.Mix.Blocks.lean ====
/- What the kernel's operands hold at a grid point, and what its operations compute from them. -/
module

public import proofs.«01_k».proof.Proof.Gen.MixIdeal.Value
public import proofs.«01_k».proof.Proof.Mix.Ref
public import proofs.«01_k».proof.Proof.Common.Stage
public import Idealize.ShloMosaic.Lib.StableHlo.RunRead
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixIdeal.Value

open Cert.MixIdeal Cert.MixIdeal.Gen

variable (m : (ℓ : Loc nD τ sig) → Buf (Elt Ideal) ℓ)

/-- Every window's block at every grid point: the row tiles are taken from the last to the first. -/
theorem idx_val : ∀ t : Fin cfg0.N, win0_0.index t = ![7 - t.val, 0]
    ∧ win0_1.index t = ![0, 0] ∧ win0_2.index t = ![7 - t.val, 0] ∧ win0_3.index t = ![7 - t.val, 0]
    ∧ win0_4.index t = ![0, 0, 0] ∧ win0_5.index t = ![0, 0] ∧ win0_6.index t = ![7 - t.val, 0]
    ∧ win0_7.index t = ![7 - t.val, 0] ∧ win0_8.index t = ![0, 0, 0] ∧ win0_9.index t = ![0, 0]
    ∧ win0_10.index t = ![0, 0] :=
  (by decide +kernel : ∀ t : Fin grid0.N, _)

abbrev A (c : Dev nD) : FVec Ideal S1x4096x512 .f32 := m ((c : Thread nD τ).loc main_arg0)
abbrev U (c : Dev nD) : FVec Ideal S1x4096x512 .f32 := m ((c : Thread nD τ).loc main_arg1)
abbrev P (c : Dev nD) : FVec Ideal S1x4x128x128 .f32 := m ((c : Thread nD τ).loc main_arg2)
abbrev Z (c : Dev nD) : FVec Ideal S1x512 .f32 := m ((c : Thread nD τ).loc main_arg3)
abbrev O (c : Dev nD) : FVec Ideal S1x1024x1024 .f32 := m ((c : Thread nD τ).loc main_arg4)
abbrev H (c : Dev nD) : FVec Ideal S4096x1024 .f32 := m ((c : Thread nD τ).loc main_arg5)

/-- The grid has eight points. -/
theorem point_lt (t : Fin cfg0.N) : t.val < 8 := lt_of_lt_of_le t.isLt (le_of_eq N_0)

/-- The token in row `r` of the tile a point works on. -/
abbrev tok (t : Fin cfg0.N) (r : Fin 512) : Fin 4096 := ⟨(7 - t.val) * 512 + r.val, by have := point_lt t; omega⟩

theorem v97_at (c : Dev nD) (s : Fin 4096) (d : Fin 1024) : V m c main_v97 (ix2 s d) = H m c (ix2 s d) := by
  unfold_abbrev_sides
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_reads_simp
  pointwise
theorem v99_at (c : Dev nD) (s : Fin 1024) (d : Fin 1024) : V m c main_v99 (ix2 s d) = O m c (ix3 0 s d) := by
  unfold_abbrev_sides
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_reads_simp
  pointwise
theorem v104_at (c : Dev nD) (a : Fin 4) (s d : Fin 128) : V m c main_v104 (ix3 a s d) = P m c (ix4 0 a s d) := by
  unfold_abbrev_sides
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_reads_simp
  pointwise

/-- Joining four groups is a function of the groups. -/
theorem cat4 {a b c e a' b' c' e' : FVec Ideal S1x4096x1x128 .f32}
    (h : Shape.Concatenates [S1x4096x1x128, S1x4096x1x128, S1x4096x1x128, S1x4096x1x128] S1x4096x4x128 2)
    (ha : a = a') (hb : b = b') (hc : c = c') (he : e = e') :
    concatenate S1x4096x4x128 2 [⟨S1x4096x1x128, a⟩, ⟨S1x4096x1x128, b⟩, ⟨S1x4096x1x128, c⟩, ⟨S1x4096x1x128, e⟩] h
      = concatenate S1x4096x4x128 2 [⟨S1x4096x1x128, a'⟩, ⟨S1x4096x1x128, b'⟩, ⟨S1x4096x1x128, c'⟩, ⟨S1x4096x1x128, e'⟩] h := by
  subst ha hb hc he; rfl

/-- The concatenated rows, from the tokens' differences to their means. -/
def mixRow (x0 : FVec Ideal S1x4096x512 .f32) (x : FVec Ideal S1x4096x4x128 .f32) (x2 : FVec Ideal S1x4x128x128 .f32) (x3 : FVec Ideal S1x512 .f32) :
    FVec Ideal S1x4096x1024 .f32 :=
  concatenate S1x4096x1024 2 [⟨S1x4096x512, x0⟩, ⟨S1x4096x512, shapeCast S1x4096x512 (mulf (transpose S1x4096x4x128 [2, 3, 0, 1]
      (Host.dotGeneral (F := Ideal) dot_S4x128x128_S1x4096x4x128_S4x128x1x4096_1_3_2_01_0_2 none (shapeCast S4x128x128 x2 shapeCasts_S1x4x128x128_S4x128x128) x)
      transposes_S4x128x1x4096_S1x4096x4x128_2_3_0_1)
    (broadcastInDim S1x4096x4x128 ![0, 1, 2, 3] bcast_S1x1x4x128_S1x4096x4x128_0_1_2_3 (broadcastInDim S1x1x4x128 ![2, 3] bcast_S4x128_S1x1x4x128_2_3
      (shapeCast S4x128 (shapeCast S512 x3 shapeCasts_S1x512_S512) shapeCasts_S512_S4x128))))
    shapeCasts_S1x4096x4x128_S1x4096x512⟩] concatenates_S1x4096x512_S1x4096x512_S1x4096x1024_d2

end Cert.MixIdeal.Value
end
-- ==== Proof.Mix.Tile.lean ====
/- What the kernel's operands hold at a grid point, and what its operations compute from them. -/
module

public import proofs.«01_k».proof.Proof.Mix.Blocks

@[expose] public section

set_option maxRecDepth 16384

noncomputable section

open Idealize.ShloMosaic Idealize.ShloMosaic.TcCoe Idealize.SL.Sem

namespace Cert.MixIdeal.Value

open Cert.MixIdeal Cert.MixIdeal.Gen

variable (m : (ℓ : Loc nD τ sig) → Buf (Elt Ideal) ℓ)

theorem blk0 (c : Dev nD) (t : Fin cfg0.N) (r : Fin 512) (d : Fin 1024) : iblk m c 0 t (ix2 r d) = H m c (ix2 (tok t r) d) := by
  refine Eq.trans ?_ (v97_at m c _ d)
  blk_simp [iblk, idx_val t]
  blk_ext [idx_val t]
theorem blk1 (c : Dev nD) (t : Fin cfg0.N) (r : Fin 1024) (d : Fin 1024) : iblk m c 1 t (ix2 r d) = O m c (ix3 0 r d) := by
  refine Eq.trans ?_ (v99_at m c _ d)
  blk_simp [iblk, idx_val t]
  blk_ext [idx_val t]
theorem blk2 (c : Dev nD) (t : Fin cfg0.N) (r : Fin 512) (d : Fin 512) : iblk m c 2 t (ix2 r d) = V m c main_v101 (ix2 (tok t r) d) := by
  blk_simp [iblk, idx_val t]
  blk_ext [idx_val t]
theorem blk3 (c : Dev nD) (t : Fin cfg0.N) (r : Fin 512) (d : Fin 1024) : iblk m c 3 t (ix2 r d) = V m c main_v103 (ix2 (tok t r) d) := by
  blk_simp [iblk, idx_val t]
  blk_ext [idx_val t]
theorem blk4 (c : Dev nD) (t : Fin cfg0.N) (g : Fin 4) (r d : Fin 128) : iblk m c 4 t (ix3 g r d) = P m c (ix4 0 g r d) := by
  refine Eq.trans ?_ (v104_at m c g r d)
  blk_simp [iblk, idx_val t]
  blk_ext [idx_val t]
theorem blk5 (c : Dev nD) (t : Fin cfg0.N) (d : Fin 512) : iblk m c 5 t (ix2 0 d) = Z m c (ix2 0 d) := by
  blk_point [iblk, V, idx_val t]

/-! Every group's operations are the first group's, on the group's own tiles. -/

theorem scale1 (x : FVec Ideal S512x1024 .f32) (d : Vec Ideal S512x128 .bf16) (p : Vec Ideal S1x128x128 .f32) (v : Vec Ideal S1x128 .f32) : k0_pay27 x d p v = k0_pay15 (k0_pay24 x) (k0_pay12 d) (k0_pay13 p) v := rfl
theorem scale2 (x : FVec Ideal S512x1024 .f32) (d : Vec Ideal S512x128 .bf16) (p : Vec Ideal S1x128x128 .f32) (v : Vec Ideal S1x128 .f32) : k0_pay40 x d p v = k0_pay15 (k0_pay37 x) (k0_pay12 d) (k0_pay13 p) v := rfl
theorem scale3 (x : FVec Ideal S512x1024 .f32) (d : Vec Ideal S512x128 .bf16) (p : Vec Ideal S1x128x128 .f32) (v : Vec Ideal S1x128 .f32) : k0_pay54 x d p v = k0_pay15 (k0_pay51 x) (k0_pay12 d) (k0_pay13 p) v := rfl
theorem weight1 (x : FVec Ideal S512x1024 .f32) (d : Vec Ideal S512x128 .bf16) (s : Vec Ideal S1x128 .f32) (v : Vec Ideal S1x128x128 .f32) : k0_pay29 (k0_pay25 d) (k0_pay28 x s) v = k0_pay17 (k0_pay24 x) (k0_pay12 d) s v := rfl
theorem weight2 (x : FVec Ideal S512x1024 .f32) (d : Vec Ideal S512x128 .bf16) (s : Vec Ideal S1x128 .f32) (v : Vec Ideal S1x128x128 .f32) : k0_pay42 x d s v = k0_pay17 (k0_pay37 x) (k0_pay12 d) s v := rfl
theorem weight3 (x : FVec Ideal S512x1024 .f32) (d : Vec Ideal S512x128 .bf16) (s : Vec Ideal S1x128 .f32) (v : Vec Ideal S1x128x128 .f32) : k0_pay56 x d s v = k0_pay17 (k0_pay51 x) (k0_pay12 d) s v := rfl
theorem group1 (x : FVec Ideal S512x1024 .f32) (p : Vec Ideal S1x128x128 .f32) (s : Vec Ideal S1x128 .f32) : k0_pay30 (k0_pay26 p) (k0_pay28 x s) = k0_pay18 (k0_pay24 x) (k0_pay13 p) s := rfl
theorem group2 (x : FVec Ideal S512x1024 .f32) (p : Vec Ideal S1x128x128 .f32) (s : Vec Ideal S1x128 .f32) : k0_pay43 x p s = k0_pay18 (k0_pay37 x) (k0_pay13 p) s := rfl
theorem group3 (x : FVec Ideal S512x1024 .f32) (p : Vec Ideal S1x128x128 .f32) (s : Vec Ideal S1x128 .f32) : k0_pay57 x p s = k0_pay18 (k0_pay51 x) (k0_pay13 p) s := rfl
theorem pool0_at (h : Vec Ideal S512x1024 .bf16) (w : Vec Ideal S1024x1024 .bf16) (r : Fin 512) (d : Fin 128) :
    k0_pay11 h w (ix2 r d) = ∑ e : Fin 1024, h (ix2 r e) * w (ix2 ⟨512 + d.val, by omega⟩ e) := by
  pointwise [k0_pay11, k0_pay9]
theorem pool1_at (h : Vec Ideal S512x1024 .bf16) (w : Vec Ideal S1024x1024 .bf16) (r : Fin 512) (d : Fin 128) :
    k0_pay24 (k0_pay9 h w) (ix2 r d) = ∑ e : Fin 1024, h (ix2 r e) * w (ix2 ⟨640 + d.val, by omega⟩ e) := by
  pointwise [k0_pay24, k0_pay9]
theorem pool2_at (h : Vec Ideal S512x1024 .bf16) (w : Vec Ideal S1024x1024 .bf16) (r : Fin 512) (d : Fin 128) :
    k0_pay37 (k0_pay9 h w) (ix2 r d) = ∑ e : Fin 1024, h (ix2 r e) * w (ix2 ⟨768 + d.val, by omega⟩ e) := by
  pointwise [k0_pay37, k0_pay9]
theorem pool3_at (h : Vec Ideal S512x1024 .bf16) (w : Vec Ideal S1024x1024 .bf16) (r : Fin 512) (d : Fin 128) :
    k0_pay51 (k0_pay9 h w) (ix2 r d) = ∑ e : Fin 1024, h (ix2 r e) * w (ix2 ⟨896 + d.val, by omega⟩ e) := by
  pointwise [k0_pay51, k0_pay9]
theorem att_at (h : Vec Ideal S512x1024 .bf16) (w : Vec Ideal S1024x1024 .bf16) (r d : Fin 512) :
    k0_pay10 h w (ix2 r d) = ∑ e : Fin 1024, h (ix2 r e) * w (ix2 ⟨d.val, by omega⟩ e) := by
  pointwise [k0_pay10, k0_pay9]

/-- The scale's gradient gains one tile's part. -/
theorem scale_at (x : FVec Ideal S512x128 .f32) (d : Vec Ideal S512x128 .bf16) (p : Vec Ideal S1x128x128 .f32) (v : Vec Ideal S1x128 .f32) (z : Fin 1) (j : Fin 128) :
    k0_pay15 x (k0_pay12 d) (k0_pay13 p) v (ix2 z j) = v (ix2 z j) + ∑ r : Fin 512, x (ix2 r j) * ∑ e : Fin 128, d (ix2 r e) * p (ix3 0 e j) := by
  pointwise [k0_pay15, k0_pay14, k0_pay12, k0_pay13]
/-- A group weight's gradient gains one tile's part. -/
theorem weight_at (x : FVec Ideal S512x128 .f32) (d : Vec Ideal S512x128 .bf16) (s : Vec Ideal S1x128 .f32) (v : Vec Ideal S1x128x128 .f32) (z : Fin 1) (e j : Fin 128) :
    k0_pay17 x (k0_pay12 d) s v (ix3 z e j) = v (ix3 0 e j) + ∑ r : Fin 512, d (ix2 r e) * (x (ix2 r j) * s (ix2 0 j)) := by
  pointwise [k0_pay17, k0_pay16, k0_pay12]
/-- The difference's cotangent in one tile. -/
theorem group_at (x : FVec Ideal S512x128 .f32) (p : Vec Ideal S1x128x128 .f32) (s : Vec Ideal S1x128 .f32) (r : Fin 512) (j : Fin 128) :
    k0_pay18 x (k0_pay13 p) s (ix2 r j) = ∑ e : Fin 128, (x (ix2 r e) * s (ix2 0 e)) * p (ix3 0 j e) := by
  pointwise [k0_pay18, k0_pay16, k0_pay14, k0_pay13]
theorem wo_at (a : Vec Ideal S1024x1024 .f32) (x h : Vec Ideal S512x1024 .bf16) (i j : Fin 1024) :
    k0_pay7 a x h (ix2 i j) = a (ix2 i j) + ∑ r : Fin 512, x (ix2 r i) * h (ix2 r j) := by
  pointwise [k0_pay7]

end Cert.MixIdeal.Value
end
-- ==== Proof.Mix.Groups.lean ====
/- The four groups' tiles at a grid point. -/
module

public import proofs.«01_k».proof.Proof.Mix.Tile

@[expose] public section

set_option maxRecDepth 16384

noncomputable section

open Idealize.ShloMosaic Idealize.ShloMosaic.TcCoe Idealize.SL.Sem

namespace Cert.MixIdeal.Value

open Cert.MixIdeal Cert.MixIdeal.Gen

variable (m : (ℓ : Loc nD τ sig) → Buf (Elt Ideal) ℓ)

theorem weight_slab (c : Dev nD) (t : Fin cfg0.N) (g : ℕ) (hg : g < 4) (i0 : ∀ x, (![g, 0, 0] : Fin 3 → ℕ) x + (![1, 128, 128] : Fin 3 → ℕ) x ≤ S4x128x128.size x)
    (e d : Fin 128) : View.ld (iblk m c 4 t) (Rect.unit ![g, 0, 0] ![1, 128, 128] i0) (ix3 0 e d) = P m c (ix4 0 ⟨g, hg⟩ e d) := by
  refine Eq.trans ?_ (blk4 m c t ⟨g, hg⟩ e d)
  pointwise
theorem scale_slab (c : Dev nD) (t : Fin cfg0.N) (o : ℕ) (ho : o ≤ 384) (i0 : ∀ x, (![0, o] : Fin 2 → ℕ) x + (![1, 128] : Fin 2 → ℕ) x ≤ S1x512.size x)
    (d : Fin 128) : View.ld (iblk m c 5 t) (Rect.unit ![0, o] ![1, 128] i0) (ix2 0 d) = Z m c (ix2 0 ⟨o + d.val, by omega⟩) := by
  refine Eq.trans ?_ (blk5 m c t ⟨o + d.val, by omega⟩)
  pointwise
theorem diff_slab (c : Dev nD) (t : Fin cfg0.N) (o : ℕ) (ho : o ≤ 384) (i0 : ∀ x, (![0, o] : Fin 2 → ℕ) x + (![512, 128] : Fin 2 → ℕ) x ≤ S512x512.size x)
    (r : Fin 512) (d : Fin 128) : View.ld (iblk m c 2 t) (Rect.unit ![0, o] ![512, 128] i0) (ix2 r d) = V m c main_v101 (ix2 (tok t r) ⟨o + d.val, by omega⟩) := by
  refine Eq.trans ?_ (blk2 m c t r ⟨o + d.val, by omega⟩)
  pointwise

/-- The first token of the tile a grid point works on. -/
theorem first_val : ∀ t : Fin cfg0.N, Scalar.muli (Scalar.subi 7#32 (BitVec.ofNat 32 (grid0.coords t 0).val)) 512#32 = BitVec.ofNat 32 ((7 - t.val) * 512) :=
  (by decide +kernel : ∀ t : Fin grid0.N, _)
theorem clip_at (t : Fin cfg0.N) (r : Fin 512) (w : ℕ) (hw : 0 < w) (hw' : w < 4096) :
    FloatOps.sitofp (F := Ideal) FTy.f32 (IntOp.minsi (BitVec.ofNat 32 ((7 - t.val) * 512) + BitVec.ofNat 32 r.val + 1#32) (BitVec.ofNat 32 w))
      = ((min ((7 - t.val) * 512 + r.val + 1) w : ℕ) : ℝ) := by
  have := point_lt t
  refine (congrArg (FloatOps.sitofp (F := Ideal) FTy.f32) (congrArg (IntOp.minsi · _) (?_ : _ = BitVec.ofNat 32 ((7 - t.val) * 512 + r.val + 1)))).trans (Cert.HostWindow.clip (by omega) (by omega))
  rw [← BitVec.ofNat_add, ← BitVec.ofNat_add]

theorem dpool0_at (c : Dev nD) (t : Fin cfg0.N) (r : Fin 512) (d : Fin 128) :
    k0_pay11 (iblk m c 0 t) (iblk m c 1 t) (ix2 r d) = Cert.MixSpec.dpool (O m c) (H m c) (tok t r) 0 d := by
  rw [pool0_at]
  unfold Cert.MixSpec.dpool Cert.MixSpec.dmix
  refine Finset.sum_congr rfl fun e _ => ?_
  rw [blk0, blk1]
  exact congrArg (H m c _ * O m c ·) (congrArg (ix3 0 · e) (Fin.ext (by simp <;> omega)))
theorem ddlt0_at (c : Dev nD) (t : Fin cfg0.N) (r : Fin 512) (d : Fin 128) :
    k0_pay18 (k0_pay11 (iblk m c 0 t) (iblk m c 1 t)) (k0_pay13 (View.ld (iblk m c 4 t) (Rect.unit ![0, 0, 0] ![1, 128, 128] inb_S4x128x128_S1x128x128_0_0_0))) (View.ld (iblk m c 5 t) (Rect.unit ![0, 0] ![1, 128] inb_S1x512_S1x128_0_0)) (ix2 r d) = Cert.MixSpec.ddlt (P m c) (Z m c) (O m c) (H m c) (tok t r) 0 d := by
  refine (group_at _ _ _ r d).trans (Finset.sum_congr rfl fun e _ => ?_)
  rw [dpool0_at, scale_slab m c t 0 (by omega), weight_slab m c t 0 (by omega)]
  rfl
theorem part0_at (c : Dev nD) (t : Fin cfg0.N) (r : Fin 512) (d : Fin 128) :
    k0_pay19 (Scalar.subi 7#32 (BitVec.ofNat 32 (grid0.coords t 0).val)) (k0_pay11 (iblk m c 0 t) (iblk m c 1 t)) (k0_pay13 (View.ld (iblk m c 4 t) (Rect.unit ![0, 0, 0] ![1, 128, 128] inb_S4x128x128_S1x128x128_0_0_0))) (View.ld (iblk m c 5 t) (Rect.unit ![0, 0] ![1, 128] inb_S1x512_S1x128_0_0)) (ix2 r d) = Cert.MixSpec.part (P m c) (Z m c) (O m c) (H m c) ((7 - t.val) * 512 + r.val) 0 d := by
  have e := ddlt0_at m c t r d
  unfold Cert.MixSpec.part
  rw [dif_pos (by have := point_lt t; omega), ← e]
  pointwise [k0_pay19]
  rw [first_val]
  exact congrArg (Ideal.div _) (clip_at t r 2 (by omega) (by omega))
theorem dpool1_at (c : Dev nD) (t : Fin cfg0.N) (r : Fin 512) (d : Fin 128) :
    k0_pay24 (k0_pay9 (iblk m c 0 t) (iblk m c 1 t)) (ix2 r d) = Cert.MixSpec.dpool (O m c) (H m c) (tok t r) 1 d := by
  rw [pool1_at]
  unfold Cert.MixSpec.dpool Cert.MixSpec.dmix
  refine Finset.sum_congr rfl fun e _ => ?_
  rw [blk0, blk1]
  exact congrArg (H m c _ * O m c ·) (congrArg (ix3 0 · e) (Fin.ext (by simp <;> omega)))
theorem ddlt1_at (c : Dev nD) (t : Fin cfg0.N) (r : Fin 512) (d : Fin 128) :
    k0_pay30 (k0_pay26 (View.ld (iblk m c 4 t) (Rect.unit ![1, 0, 0] ![1, 128, 128] inb_S4x128x128_S1x128x128_1_0_0))) (k0_pay28 (k0_pay9 (iblk m c 0 t) (iblk m c 1 t)) (View.ld (iblk m c 5 t) (Rect.unit ![0, 128] ![1, 128] inb_S1x512_S1x128_0_128))) (ix2 r d) = Cert.MixSpec.ddlt (P m c) (Z m c) (O m c) (H m c) (tok t r) 1 d := by
  rw [group1]; refine (group_at _ _ _ r d).trans (Finset.sum_congr rfl fun e _ => ?_)
  rw [dpool1_at, scale_slab m c t 128 (by omega), weight_slab m c t 1 (by omega)]
  rfl
theorem part1_at (c : Dev nD) (t : Fin cfg0.N) (r : Fin 512) (d : Fin 128) :
    k0_pay31 (Scalar.subi 7#32 (BitVec.ofNat 32 (grid0.coords t 0).val)) (k0_pay26 (View.ld (iblk m c 4 t) (Rect.unit ![1, 0, 0] ![1, 128, 128] inb_S4x128x128_S1x128x128_1_0_0))) (k0_pay28 (k0_pay9 (iblk m c 0 t) (iblk m c 1 t)) (View.ld (iblk m c 5 t) (Rect.unit ![0, 128] ![1, 128] inb_S1x512_S1x128_0_128))) (ix2 r d) = Cert.MixSpec.part (P m c) (Z m c) (O m c) (H m c) ((7 - t.val) * 512 + r.val) 1 d := by
  have e := ddlt1_at m c t r d
  unfold Cert.MixSpec.part
  rw [dif_pos (by have := point_lt t; omega), ← e]
  pointwise [k0_pay31]
  rw [first_val]
  exact congrArg (Ideal.div _) (clip_at t r 4 (by omega) (by omega))
theorem dpool2_at (c : Dev nD) (t : Fin cfg0.N) (r : Fin 512) (d : Fin 128) :
    k0_pay37 (k0_pay9 (iblk m c 0 t) (iblk m c 1 t)) (ix2 r d) = Cert.MixSpec.dpool (O m c) (H m c) (tok t r) 2 d := by
  rw [pool2_at]
  unfold Cert.MixSpec.dpool Cert.MixSpec.dmix
  refine Finset.sum_congr rfl fun e _ => ?_
  rw [blk0, blk1]
  exact congrArg (H m c _ * O m c ·) (congrArg (ix3 0 · e) (Fin.ext (by simp <;> omega)))
theorem ddlt2_at (c : Dev nD) (t : Fin cfg0.N) (r : Fin 512) (d : Fin 128) :
    k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256)) (ix2 r d) = Cert.MixSpec.ddlt (P m c) (Z m c) (O m c) (H m c) (tok t r) 2 d := by
  rw [group2]; refine (group_at _ _ _ r d).trans (Finset.sum_congr rfl fun e _ => ?_)
  rw [dpool2_at, scale_slab m c t 256 (by omega), weight_slab m c t 2 (by omega)]
  rfl
theorem part2_at (c : Dev nD) (t : Fin cfg0.N) (r : Fin 512) (d : Fin 128) :
    k0_pay45 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val))) (ix2 r d) = Cert.MixSpec.part (P m c) (Z m c) (O m c) (H m c) ((7 - t.val) * 512 + r.val) 2 d := by
  have e := ddlt2_at m c t r d
  unfold Cert.MixSpec.part
  rw [dif_pos (by have := point_lt t; omega), ← e]
  pointwise [k0_pay45, k0_pay44]
  rw [first_val]
  exact congrArg (Ideal.div _) (clip_at t r 8 (by omega) (by omega))
theorem dpool3_at (c : Dev nD) (t : Fin cfg0.N) (r : Fin 512) (d : Fin 128) :
    k0_pay51 (k0_pay9 (iblk m c 0 t) (iblk m c 1 t)) (ix2 r d) = Cert.MixSpec.dpool (O m c) (H m c) (tok t r) 3 d := by
  rw [pool3_at]
  unfold Cert.MixSpec.dpool Cert.MixSpec.dmix
  refine Finset.sum_congr rfl fun e _ => ?_
  rw [blk0, blk1]
  exact congrArg (H m c _ * O m c ·) (congrArg (ix3 0 · e) (Fin.ext (by simp <;> omega)))
theorem ddlt3_at (c : Dev nD) (t : Fin cfg0.N) (r : Fin 512) (d : Fin 128) :
    k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384)) (ix2 r d) = Cert.MixSpec.ddlt (P m c) (Z m c) (O m c) (H m c) (tok t r) 3 d := by
  rw [group3]; refine (group_at _ _ _ r d).trans (Finset.sum_congr rfl fun e _ => ?_)
  rw [dpool3_at, scale_slab m c t 384 (by omega), weight_slab m c t 3 (by omega)]
  rfl
theorem part3_at (c : Dev nD) (t : Fin cfg0.N) (r : Fin 512) (d : Fin 128) :
    k0_pay60 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59 (ix2 r d) = Cert.MixSpec.part (P m c) (Z m c) (O m c) (H m c) ((7 - t.val) * 512 + r.val) 3 d := by
  have e := ddlt3_at m c t r d
  unfold Cert.MixSpec.part
  rw [dif_pos (by have := point_lt t; omega), ← e]
  pointwise [k0_pay60, k0_pay59, k0_pay58]
  rw [first_val]
  exact congrArg (Ideal.div _) (clip_at t r 16 (by omega) (by omega))

end Cert.MixIdeal.Value
end
-- ==== Proof.Mix.Window.lean ====
/- The pooled tokens' gradient in one tile: the window sums over this tile and the rows carried from the next. -/
module

public import proofs.«01_k».proof.Proof.Mix.Groups
public import proofs.«01_k».proof.Proof.Common.Stage

@[expose] public section

set_option maxRecDepth 16384

noncomputable section

open Idealize.ShloMosaic Idealize.ShloMosaic.TcCoe Idealize.SL.Sem

namespace Cert.MixIdeal.Value

open Cert.MixIdeal Cert.MixIdeal.Gen

variable (m : (ℓ : Loc nD τ sig) → Buf (Elt Ideal) ℓ)

/-- A row of the buffer that holds one group's parts in this tile, then those of the next sixteen tokens. -/
theorem stage_at (c : Dev nD) (t : Fin cfg0.N) (g : Fin 4) (k : ℕ) (hk : k ≤ 16)
    (i3 : ∀ x, (![512, 0] : Fin 2 → ℕ) x + (![16, 128] : Fin 2 → ℕ) x ≤ S528x128.size x)
    (i4 : ∀ x, (![0, 0] : Fin 2 → ℕ) x + (![512, 128] : Fin 2 → ℕ) x ≤ S528x128.size x)
    (i5 : ∀ x, (![k, 0] : Fin 2 → ℕ) x + (![512, 128] : Fin 2 → ℕ) x ≤ S528x128.size x)
    (K : FVec Ideal S512x128 .f32) (Q : FVec Ideal S16x128 .f32)
    (hK : ∀ (r : Fin 512) (d : Fin 128), K (ix2 r d) = Cert.MixSpec.part (P m c) (Z m c) (O m c) (H m c) ((7 - t.val) * 512 + r.val) g d)
    (hQ : ∀ (x : Fin 16) (d : Fin 128), Q (ix2 x d) = Cert.MixSpec.part (P m c) (Z m c) (O m c) (H m c) ((7 - t.val) * 512 + 512 + x.val) g d)
    (L : List (View.Piece (Elt Ideal) S528x128 .f32)) (r : Fin 512) (d : Fin 128) :
    (View.whole cc0_scratch0).readCov ((⟨Rect.unit ![512, 0] ![16, 128] i3, Q⟩ : View.Piece (Elt Ideal) S528x128 .f32) :: ⟨Rect.unit ![0, 0] ![512, 128] i4, K⟩ :: L)
      (Rect.unit (s := S528x128) ![k, 0] ![512, 128] i5).toLoadRect (ix2 r d)
      = Cert.MixSpec.part (P m c) (Z m c) (O m c) (H m c) ((7 - t.val) * 512 + r.val + k) g d := by
  refine Cert.Stage.rows_read (R := 528) (C := 128) (View.whole cc0_scratch0) i3 i4 i5 _ _ L r d _ (fun x hx => ?_) (fun hn => ?_)
  · rw [hQ]; exact congrArg (Cert.MixSpec.part _ _ _ _ · g d) (by omega)
  · refine ⟨⟨k + r.val, by omega⟩, by simp, ?_⟩
    rw [hK]; exact congrArg (Cert.MixSpec.part _ _ _ _ · g d) (by simp; omega)

theorem sum0_at (x q : FVec Ideal S512x128 .f32) (s1 : FVec Ideal S512x128 .f32) (r : Fin 512) (d : Fin 128) : k0_pay22 q x s1 (ix2 r d) = x (ix2 r d) + s1 (ix2 r d) - q (ix2 r d) := by
  pointwise [k0_pay22]
theorem sum1_at (v : BitVec 32) (a : FVec Ideal S128x128 .bf16) (b : FVec Ideal S512x128 .bf16) (s1 s2 s3 : FVec Ideal S512x128 .f32) (r : Fin 512) (d : Fin 128) :
    k0_pay34 v a b s1 s2 s3 (ix2 r d) = k0_pay31 v a b (ix2 r d) + s1 (ix2 r d) + s2 (ix2 r d) + s3 (ix2 r d) - k0_pay30 a b (ix2 r d) := by
  pointwise [k0_pay34]
theorem sum2_at (q : FVec Ideal S512x128 .f32) (v : IVec S512x1 32) (s1 s2 s3 s4 s5 s6 s7 : FVec Ideal S512x128 .f32) (r : Fin 512) (d : Fin 128) :
    k0_pay48 q v s1 s2 s3 s4 s5 s6 s7 (ix2 r d) = k0_pay45 q v (ix2 r d) + s1 (ix2 r d) + s2 (ix2 r d) + s3 (ix2 r d) + s4 (ix2 r d) + s5 (ix2 r d) + s6 (ix2 r d) + s7 (ix2 r d) - q (ix2 r d) := by
  pointwise [k0_pay48]
theorem sum3_at (q : FVec Ideal S512x128 .f32) (v w : IVec S512x1 32) (s1 s2 s3 s4 s5 s6 s7 s8 s9 s10 s11 s12 s13 s14 s15 : FVec Ideal S512x128 .f32) (r : Fin 512) (d : Fin 128) :
    k0_pay1 q (k0_pay63 q v w s1 s2 s3 s4 s5 s6 s7 s8 s9) s10 s11 s12 s13 s14 s15 (ix2 r d) = k0_pay60 q v w (ix2 r d) + s1 (ix2 r d) + s2 (ix2 r d) + s3 (ix2 r d) + s4 (ix2 r d) + s5 (ix2 r d) + s6 (ix2 r d) + s7 (ix2 r d) + s8 (ix2 r d) + s9 (ix2 r d) + s10 (ix2 r d) + s11 (ix2 r d) + s12 (ix2 r d) + s13 (ix2 r d) + s14 (ix2 r d) + s15 (ix2 r d) - q (ix2 r d) := by
  pointwise [k0_pay1, k0_pay63]

theorem store0_at (c : Dev nD) (t : Fin cfg0.N) (r : Fin 512) (d : Fin 128) : k0_pay20 (Scalar.subi 7#32 (BitVec.ofNat 32 (grid0.coords t 0).val)) (k0_pay11 (iblk m c 0 t) (iblk m c 1 t)) (k0_pay13 (View.ld (iblk m c 4 t) (Rect.unit ![0, 0, 0] ![1, 128, 128] inb_S4x128x128_S1x128x128_0_0_0))) (View.ld (iblk m c 5 t) (Rect.unit ![0, 0] ![1, 128] inb_S1x512_S1x128_0_0)) (ix2 r d)
    = Cert.MixSpec.part (P m c) (Z m c) (O m c) (H m c) ((7 - t.val) * 512 + r.val) 0 d := by
  rw [← part0_at m c t r d]
  pointwise [k0_pay20]

/-- Group 0 of the pooled tokens' gradient in one tile. -/
theorem du0_at (c : Dev nD) (t : Fin cfg0.N) (Q : FVec Ideal S16x128 .f32)
    (hQ : ∀ (x : Fin 16) (d : Fin 128), Q (ix2 x d) = Cert.MixSpec.part (P m c) (Z m c) (O m c) (H m c) ((7 - t.val) * 512 + 512 + x.val) 0 d)
    (L : List (View.Piece (Elt Ideal) S528x128 .f32)) (r : Fin 512) (d : Fin 128) :
    k0_pay22 (k0_pay18 (k0_pay11 (iblk m c 0 t) (iblk m c 1 t)) (k0_pay13 (View.ld (iblk m c 4 t) (Rect.unit ![0, 0, 0] ![1, 128, 128] inb_S4x128x128_S1x128x128_0_0_0))) (View.ld (iblk m c 5 t) (Rect.unit ![0, 0] ![1, 128] inb_S1x512_S1x128_0_0))) (k0_pay19 (Scalar.subi 7#32 (BitVec.ofNat 32 (grid0.coords t 0).val)) (k0_pay11 (iblk m c 0 t) (iblk m c 1 t)) (k0_pay13 (View.ld (iblk m c 4 t) (Rect.unit ![0, 0, 0] ![1, 128, 128] inb_S4x128x128_S1x128x128_0_0_0))) (View.ld (iblk m c 5 t) (Rect.unit ![0, 0] ![1, 128] inb_S1x512_S1x128_0_0)))
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay20 (Scalar.subi 7#32 (BitVec.ofNat 32 (grid0.coords t 0).val)) (k0_pay11 (iblk m c 0 t) (iblk m c 1 t)) (k0_pay13 (View.ld (iblk m c 4 t) (Rect.unit ![0, 0, 0] ![1, 128, 128] inb_S4x128x128_S1x128x128_0_0_0))) (View.ld (iblk m c 5 t) (Rect.unit ![0, 0] ![1, 128] inb_S1x512_S1x128_0_0))⟩ :: L) (Rect.unit (s := S528x128) ![1, 0] ![512, 128] inb_S528x128_S512x128_1_0).toLoadRect) (ix2 r d) = Cert.MixSpec.du (P m c) (Z m c) (O m c) (H m c) (tok t r) 0 d := by
  unfold Cert.MixSpec.du
  rw [sum0_at, part0_at, ddlt0_at]
  rw [stage_at m c t 0 1 (by omega) _ _ _ _ Q (store0_at m c t) hQ L r d]
  have e : ∀ s : ℕ, ∑ k ∈ Finset.range (Cert.MixSpec.window 0), Cert.MixSpec.part (P m c) (Z m c) (O m c) (H m c) (s + k) 0 d
      = ∑ k ∈ Finset.range 2, Cert.MixSpec.part (P m c) (Z m c) (O m c) (H m c) (s + k) 0 d := fun _ => rfl
  rw [e]
  simp only [Finset.sum_range_succ, Finset.sum_range_zero, zero_add, add_zero]

theorem store1_at (c : Dev nD) (t : Fin cfg0.N) (r : Fin 512) (d : Fin 128) : k0_pay32 (Scalar.subi 7#32 (BitVec.ofNat 32 (grid0.coords t 0).val)) (k0_pay26 (View.ld (iblk m c 4 t) (Rect.unit ![1, 0, 0] ![1, 128, 128] inb_S4x128x128_S1x128x128_1_0_0))) (k0_pay28 (k0_pay9 (iblk m c 0 t) (iblk m c 1 t)) (View.ld (iblk m c 5 t) (Rect.unit ![0, 128] ![1, 128] inb_S1x512_S1x128_0_128))) (ix2 r d)
    = Cert.MixSpec.part (P m c) (Z m c) (O m c) (H m c) ((7 - t.val) * 512 + r.val) 1 d := by
  rw [← part1_at m c t r d]
  pointwise [k0_pay32]

/-- Group 1 of the pooled tokens' gradient in one tile. -/
theorem du1_at (c : Dev nD) (t : Fin cfg0.N) (Q : FVec Ideal S16x128 .f32)
    (hQ : ∀ (x : Fin 16) (d : Fin 128), Q (ix2 x d) = Cert.MixSpec.part (P m c) (Z m c) (O m c) (H m c) ((7 - t.val) * 512 + 512 + x.val) 1 d)
    (L : List (View.Piece (Elt Ideal) S528x128 .f32)) (r : Fin 512) (d : Fin 128) :
    k0_pay34 (Scalar.subi 7#32 (BitVec.ofNat 32 (grid0.coords t 0).val)) (k0_pay26 (View.ld (iblk m c 4 t) (Rect.unit ![1, 0, 0] ![1, 128, 128] inb_S4x128x128_S1x128x128_1_0_0))) (k0_pay28 (k0_pay9 (iblk m c 0 t) (iblk m c 1 t)) (View.ld (iblk m c 5 t) (Rect.unit ![0, 128] ![1, 128] inb_S1x512_S1x128_0_128)))
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay32 (Scalar.subi 7#32 (BitVec.ofNat 32 (grid0.coords t 0).val)) (k0_pay26 (View.ld (iblk m c 4 t) (Rect.unit ![1, 0, 0] ![1, 128, 128] inb_S4x128x128_S1x128x128_1_0_0))) (k0_pay28 (k0_pay9 (iblk m c 0 t) (iblk m c 1 t)) (View.ld (iblk m c 5 t) (Rect.unit ![0, 128] ![1, 128] inb_S1x512_S1x128_0_128)))⟩ :: L) (Rect.unit (s := S528x128) ![1, 0] ![512, 128] inb_S528x128_S512x128_1_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay32 (Scalar.subi 7#32 (BitVec.ofNat 32 (grid0.coords t 0).val)) (k0_pay26 (View.ld (iblk m c 4 t) (Rect.unit ![1, 0, 0] ![1, 128, 128] inb_S4x128x128_S1x128x128_1_0_0))) (k0_pay28 (k0_pay9 (iblk m c 0 t) (iblk m c 1 t)) (View.ld (iblk m c 5 t) (Rect.unit ![0, 128] ![1, 128] inb_S1x512_S1x128_0_128)))⟩ :: L) (Rect.unit (s := S528x128) ![2, 0] ![512, 128] inb_S528x128_S512x128_2_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay32 (Scalar.subi 7#32 (BitVec.ofNat 32 (grid0.coords t 0).val)) (k0_pay26 (View.ld (iblk m c 4 t) (Rect.unit ![1, 0, 0] ![1, 128, 128] inb_S4x128x128_S1x128x128_1_0_0))) (k0_pay28 (k0_pay9 (iblk m c 0 t) (iblk m c 1 t)) (View.ld (iblk m c 5 t) (Rect.unit ![0, 128] ![1, 128] inb_S1x512_S1x128_0_128)))⟩ :: L) (Rect.unit (s := S528x128) ![3, 0] ![512, 128] inb_S528x128_S512x128_3_0).toLoadRect) (ix2 r d) = Cert.MixSpec.du (P m c) (Z m c) (O m c) (H m c) (tok t r) 1 d := by
  unfold Cert.MixSpec.du
  rw [sum1_at, part1_at, ddlt1_at]
  rw [stage_at m c t 1 1 (by omega) _ _ _ _ Q (store1_at m c t) hQ L r d, stage_at m c t 1 2 (by omega) _ _ _ _ Q (store1_at m c t) hQ L r d, stage_at m c t 1 3 (by omega) _ _ _ _ Q (store1_at m c t) hQ L r d]
  have e : ∀ s : ℕ, ∑ k ∈ Finset.range (Cert.MixSpec.window 1), Cert.MixSpec.part (P m c) (Z m c) (O m c) (H m c) (s + k) 1 d
      = ∑ k ∈ Finset.range 4, Cert.MixSpec.part (P m c) (Z m c) (O m c) (H m c) (s + k) 1 d := fun _ => rfl
  rw [e]
  simp only [Finset.sum_range_succ, Finset.sum_range_zero, zero_add, add_zero]

theorem store2_at (c : Dev nD) (t : Fin cfg0.N) (r : Fin 512) (d : Fin 128) : k0_pay46 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val))) (ix2 r d)
    = Cert.MixSpec.part (P m c) (Z m c) (O m c) (H m c) ((7 - t.val) * 512 + r.val) 2 d := by
  rw [← part2_at m c t r d]
  pointwise [k0_pay46]

/-- Group 2 of the pooled tokens' gradient in one tile. -/
theorem du2_at (c : Dev nD) (t : Fin cfg0.N) (Q : FVec Ideal S16x128 .f32)
    (hQ : ∀ (x : Fin 16) (d : Fin 128), Q (ix2 x d) = Cert.MixSpec.part (P m c) (Z m c) (O m c) (H m c) ((7 - t.val) * 512 + 512 + x.val) 2 d)
    (L : List (View.Piece (Elt Ideal) S528x128 .f32)) (r : Fin 512) (d : Fin 128) :
    k0_pay48 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val)))
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay46 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val)))⟩ :: L) (Rect.unit (s := S528x128) ![1, 0] ![512, 128] inb_S528x128_S512x128_1_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay46 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val)))⟩ :: L) (Rect.unit (s := S528x128) ![2, 0] ![512, 128] inb_S528x128_S512x128_2_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay46 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val)))⟩ :: L) (Rect.unit (s := S528x128) ![3, 0] ![512, 128] inb_S528x128_S512x128_3_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay46 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val)))⟩ :: L) (Rect.unit (s := S528x128) ![4, 0] ![512, 128] inb_S528x128_S512x128_4_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay46 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val)))⟩ :: L) (Rect.unit (s := S528x128) ![5, 0] ![512, 128] inb_S528x128_S512x128_5_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay46 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val)))⟩ :: L) (Rect.unit (s := S528x128) ![6, 0] ![512, 128] inb_S528x128_S512x128_6_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay46 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val)))⟩ :: L) (Rect.unit (s := S528x128) ![7, 0] ![512, 128] inb_S528x128_S512x128_7_0).toLoadRect) (ix2 r d) = Cert.MixSpec.du (P m c) (Z m c) (O m c) (H m c) (tok t r) 2 d := by
  unfold Cert.MixSpec.du
  rw [sum2_at, part2_at, ddlt2_at]
  rw [stage_at m c t 2 1 (by omega) _ _ _ _ Q (store2_at m c t) hQ L r d, stage_at m c t 2 2 (by omega) _ _ _ _ Q (store2_at m c t) hQ L r d, stage_at m c t 2 3 (by omega) _ _ _ _ Q (store2_at m c t) hQ L r d, stage_at m c t 2 4 (by omega) _ _ _ _ Q (store2_at m c t) hQ L r d, stage_at m c t 2 5 (by omega) _ _ _ _ Q (store2_at m c t) hQ L r d, stage_at m c t 2 6 (by omega) _ _ _ _ Q (store2_at m c t) hQ L r d, stage_at m c t 2 7 (by omega) _ _ _ _ Q (store2_at m c t) hQ L r d]
  have e : ∀ s : ℕ, ∑ k ∈ Finset.range (Cert.MixSpec.window 2), Cert.MixSpec.part (P m c) (Z m c) (O m c) (H m c) (s + k) 2 d
      = ∑ k ∈ Finset.range 8, Cert.MixSpec.part (P m c) (Z m c) (O m c) (H m c) (s + k) 2 d := fun _ => rfl
  rw [e]
  simp only [Finset.sum_range_succ, Finset.sum_range_zero, zero_add, add_zero]

theorem store3_at (c : Dev nD) (t : Fin cfg0.N) (r : Fin 512) (d : Fin 128) : k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59 (ix2 r d)
    = Cert.MixSpec.part (P m c) (Z m c) (O m c) (H m c) ((7 - t.val) * 512 + r.val) 3 d := by
  rw [← part3_at m c t r d]
  pointwise [k0_pay61]

/-- Group 3 of the pooled tokens' gradient in one tile. -/
theorem du3_at (c : Dev nD) (t : Fin cfg0.N) (Q : FVec Ideal S16x128 .f32)
    (hQ : ∀ (x : Fin 16) (d : Fin 128), Q (ix2 x d) = Cert.MixSpec.part (P m c) (Z m c) (O m c) (H m c) ((7 - t.val) * 512 + 512 + x.val) 3 d)
    (L : List (View.Piece (Elt Ideal) S528x128 .f32)) (r : Fin 512) (d : Fin 128) :
    k0_pay1 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay63 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![1, 0] ![512, 128] inb_S528x128_S512x128_1_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![2, 0] ![512, 128] inb_S528x128_S512x128_2_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![3, 0] ![512, 128] inb_S528x128_S512x128_3_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![4, 0] ![512, 128] inb_S528x128_S512x128_4_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![5, 0] ![512, 128] inb_S528x128_S512x128_5_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![6, 0] ![512, 128] inb_S528x128_S512x128_6_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![7, 0] ![512, 128] inb_S528x128_S512x128_7_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![8, 0] ![512, 128] inb_S528x128_S512x128_8_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![9, 0] ![512, 128] inb_S528x128_S512x128_9_0).toLoadRect))
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![10, 0] ![512, 128] inb_S528x128_S512x128_10_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![11, 0] ![512, 128] inb_S528x128_S512x128_11_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![12, 0] ![512, 128] inb_S528x128_S512x128_12_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![13, 0] ![512, 128] inb_S528x128_S512x128_13_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![14, 0] ![512, 128] inb_S528x128_S512x128_14_0).toLoadRect)
      ((View.whole cc0_scratch0).readCov ((⟨Rect.unit ![512, 0] ![16, 128] inb_S528x128_S16x128_512_0, Q⟩ : View.Piece (Elt Ideal) S528x128 .f32)
        :: ⟨Rect.unit ![0, 0] ![512, 128] inb_S528x128_S512x128_0_0, k0_pay61 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59⟩ :: L) (Rect.unit (s := S528x128) ![15, 0] ![512, 128] inb_S528x128_S512x128_15_0).toLoadRect) (ix2 r d) = Cert.MixSpec.du (P m c) (Z m c) (O m c) (H m c) (tok t r) 3 d := by
  unfold Cert.MixSpec.du
  rw [sum3_at, part3_at, ddlt3_at]
  rw [stage_at m c t 3 1 (by omega) _ _ _ _ Q (store3_at m c t) hQ L r d, stage_at m c t 3 2 (by omega) _ _ _ _ Q (store3_at m c t) hQ L r d, stage_at m c t 3 3 (by omega) _ _ _ _ Q (store3_at m c t) hQ L r d, stage_at m c t 3 4 (by omega) _ _ _ _ Q (store3_at m c t) hQ L r d, stage_at m c t 3 5 (by omega) _ _ _ _ Q (store3_at m c t) hQ L r d, stage_at m c t 3 6 (by omega) _ _ _ _ Q (store3_at m c t) hQ L r d, stage_at m c t 3 7 (by omega) _ _ _ _ Q (store3_at m c t) hQ L r d, stage_at m c t 3 8 (by omega) _ _ _ _ Q (store3_at m c t) hQ L r d, stage_at m c t 3 9 (by omega) _ _ _ _ Q (store3_at m c t) hQ L r d, stage_at m c t 3 10 (by omega) _ _ _ _ Q (store3_at m c t) hQ L r d, stage_at m c t 3 11 (by omega) _ _ _ _ Q (store3_at m c t) hQ L r d, stage_at m c t 3 12 (by omega) _ _ _ _ Q (store3_at m c t) hQ L r d, stage_at m c t 3 13 (by omega) _ _ _ _ Q (store3_at m c t) hQ L r d, stage_at m c t 3 14 (by omega) _ _ _ _ Q (store3_at m c t) hQ L r d, stage_at m c t 3 15 (by omega) _ _ _ _ Q (store3_at m c t) hQ L r d]
  have e : ∀ s : ℕ, ∑ k ∈ Finset.range (Cert.MixSpec.window 3), Cert.MixSpec.part (P m c) (Z m c) (O m c) (H m c) (s + k) 3 d
      = ∑ k ∈ Finset.range 16, Cert.MixSpec.part (P m c) (Z m c) (O m c) (H m c) (s + k) 3 d := fun _ => rfl
  rw [e]
  simp only [Finset.sum_range_succ, Finset.sum_range_zero, zero_add, add_zero]

end Cert.MixIdeal.Value
end
-- ==== Proof.Mix.Carry.lean ====
/- The rows one tile keeps for the tile before it, and the gradient of the pooling's input. -/
module

public import proofs.«01_k».proof.Proof.Mix.Window
public import proofs.«01_k».proof.Proof.Common.Columns
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MixIdeal.Value

open Cert.MixIdeal Cert.MixIdeal.Gen

variable (m : (ℓ : Loc nD τ sig) → Buf (Elt Ideal) ℓ)

theorem part_congr (c : Dev nD) {s s' : ℕ} {g g' : Fin 4} {d d' : Fin 128} (h0 : s = s') (h : g = g') (h' : d = d') :
    Cert.MixSpec.part (P m c) (Z m c) (O m c) (H m c) s g d = Cert.MixSpec.part (P m c) (Z m c) (O m c) (H m c) s' g' d' := by
  rw [h0, h, h']
theorem du_congr (c : Dev nD) {s : Fin 4096} {g g' : Fin 4} {d d' : Fin 128} (h : g = g') (h' : d = d') :
    Cert.MixSpec.du (P m c) (Z m c) (O m c) (H m c) s g d = Cert.MixSpec.du (P m c) (Z m c) (O m c) (H m c) s g' d' := by
  rw [h, h']
theorem zero5 (i : S16x512.Idx) : k0_pay5 (F := Ideal) i = 0 := by pointwise! [k0_pay5]

/-- Group 0's first sixteen rows of a tile, kept for the tile before it. -/
theorem keep0_at (c : Dev nD) (t : Fin cfg0.N) (i : Fin 16) (d : Fin 128) : k0_pay23 (k0_pay19 (Scalar.subi 7#32 (BitVec.ofNat 32 (grid0.coords t 0).val)) (k0_pay11 (iblk m c 0 t) (iblk m c 1 t)) (k0_pay13 (View.ld (iblk m c 4 t) (Rect.unit ![0, 0, 0] ![1, 128, 128] inb_S4x128x128_S1x128x128_0_0_0))) (View.ld (iblk m c 5 t) (Rect.unit ![0, 0] ![1, 128] inb_S1x512_S1x128_0_0))) (ix2 i d)
    = Cert.MixSpec.part (P m c) (Z m c) (O m c) (H m c) ((7 - t.val) * 512 + i.val) 0 d := by
  refine Eq.trans ?_ (part0_at m c t ⟨i.val, by omega⟩ d)
  pointwise [k0_pay23]
theorem load0_at (v : Vec Ideal S16x128 .f32) (i : Fin 16) (d : Fin 128) : k0_pay21 v (ix2 i d) = v (ix2 i d) := by
  pointwise [k0_pay21]
/-- Group 1's first sixteen rows of a tile, kept for the tile before it. -/
theorem keep1_at (c : Dev nD) (t : Fin cfg0.N) (i : Fin 16) (d : Fin 128) : k0_pay36 (k0_pay35 (Scalar.subi 7#32 (BitVec.ofNat 32 (grid0.coords t 0).val)) (k0_pay26 (View.ld (iblk m c 4 t) (Rect.unit ![1, 0, 0] ![1, 128, 128] inb_S4x128x128_S1x128x128_1_0_0))) (k0_pay28 (k0_pay9 (iblk m c 0 t) (iblk m c 1 t)) (View.ld (iblk m c 5 t) (Rect.unit ![0, 128] ![1, 128] inb_S1x512_S1x128_0_128)))) (ix2 i d)
    = Cert.MixSpec.part (P m c) (Z m c) (O m c) (H m c) ((7 - t.val) * 512 + i.val) 1 d := by
  refine Eq.trans ?_ (part1_at m c t ⟨i.val, by omega⟩ d)
  pointwise [k0_pay36, k0_pay35]
theorem load1_at (v : Vec Ideal S16x128 .f32) (i : Fin 16) (d : Fin 128) : k0_pay33 v (ix2 i d) = v (ix2 i d) := by
  pointwise [k0_pay33]
/-- Group 2's first sixteen rows of a tile, kept for the tile before it. -/
theorem keep2_at (c : Dev nD) (t : Fin cfg0.N) (i : Fin 16) (d : Fin 128) : k0_pay50 (k0_pay49 (k0_pay43 (k0_pay9 (iblk m c 0 t) (iblk m c 1 t)) (View.ld (iblk m c 4 t) (Rect.unit ![2, 0, 0] ![1, 128, 128] inb_S4x128x128_S1x128x128_2_0_0)) (View.ld (iblk m c 5 t) (Rect.unit ![0, 256] ![1, 128] inb_S1x512_S1x128_0_256))) (k0_pay44 (Scalar.subi 7#32 (BitVec.ofNat 32 (grid0.coords t 0).val)))) (ix2 i d)
    = Cert.MixSpec.part (P m c) (Z m c) (O m c) (H m c) ((7 - t.val) * 512 + i.val) 2 d := by
  refine Eq.trans ?_ (part2_at m c t ⟨i.val, by omega⟩ d)
  pointwise [k0_pay50, k0_pay49]
theorem load2_at (v : Vec Ideal S16x128 .f32) (i : Fin 16) (d : Fin 128) : k0_pay47 v (ix2 i d) = v (ix2 i d) := by
  pointwise [k0_pay47]
/-- Group 3's first sixteen rows of a tile, kept for the tile before it. -/
theorem keep3_at (c : Dev nD) (t : Fin cfg0.N) (i : Fin 16) (d : Fin 128) : k0_pay2 (k0_pay60 (k0_pay57 (k0_pay9 (iblk m c 0 t) (iblk m c 1 t)) (View.ld (iblk m c 4 t) (Rect.unit ![3, 0, 0] ![1, 128, 128] inb_S4x128x128_S1x128x128_3_0_0)) (View.ld (iblk m c 5 t) (Rect.unit ![0, 384] ![1, 128] inb_S1x512_S1x128_0_384))) (k0_pay58 (Scalar.subi 7#32 (BitVec.ofNat 32 (grid0.coords t 0).val))) k0_pay59) (ix2 i d)
    = Cert.MixSpec.part (P m c) (Z m c) (O m c) (H m c) ((7 - t.val) * 512 + i.val) 3 d := by
  refine Eq.trans ?_ (part3_at m c t ⟨i.val, by omega⟩ d)
  pointwise [k0_pay2]
theorem load3_at (v : Vec Ideal S16x128 .f32) (i : Fin 16) (d : Fin 128) : k0_pay62 v (ix2 i d) = v (ix2 i d) := by
  pointwise [k0_pay62]

/-- The rows kept after a tile. -/
theorem carry_at (c : Dev nD) (t : Fin cfg0.N) (i : Fin 16) (j : Fin 512) :
    (outsAt0 m c t.val t.isLt).2.2.2.2.2.1 (ix2 i j) = Cert.MixSpec.part (P m c) (Z m c) (O m c) (H m c) ((7 - t.val) * 512 + i.val) (Cert.MixSpec.grp j) (Cert.MixSpec.col j) := by
  by_cases h : t.val % 8 = 0
  · rw [outsAt0_A m c t h (by omega)]; dsimp only; frame_out
    refine Cert.Columns.canon_cols (R := 16) (C := 512) _ _ _ i j _ (fun x hx => ?_) (fun n3 => ?_)
    · exact (keep3_at m c t i x).trans (part_congr m c rfl (Fin.ext (by simp <;> omega)) (Fin.ext (by simp <;> omega)))
    refine Cert.Columns.canon_cols (R := 16) (C := 512) _ _ _ i j _ (fun x hx => ?_) (fun n2 => ?_)
    · exact (keep2_at m c t i x).trans (part_congr m c rfl (Fin.ext (by simp <;> omega)) (Fin.ext (by simp <;> omega)))
    refine Cert.Columns.canon_cols (R := 16) (C := 512) _ _ _ i j _ (fun x hx => ?_) (fun n1 => ?_)
    · exact (keep1_at m c t i x).trans (part_congr m c rfl (Fin.ext (by simp <;> omega)) (Fin.ext (by simp <;> omega)))
    refine Cert.Columns.canon_cols (R := 16) (C := 512) _ _ _ i j _ (fun x hx => ?_) (fun n0 => ?_)
    · exact (keep0_at m c t i x).trans (part_congr m c rfl (Fin.ext (by simp <;> omega)) (Fin.ext (by simp <;> omega)))
    omega
  · by_cases h' : t.val % 8 = 7
    · rw [outsAt0_C m c t h h']; dsimp only; frame_out
      refine Cert.Columns.canon_cols (R := 16) (C := 512) _ _ _ i j _ (fun x hx => ?_) (fun n3 => ?_)
      · exact (keep3_at m c t i x).trans (part_congr m c rfl (Fin.ext (by simp <;> omega)) (Fin.ext (by simp <;> omega)))
      refine Cert.Columns.canon_cols (R := 16) (C := 512) _ _ _ i j _ (fun x hx => ?_) (fun n2 => ?_)
      · exact (keep2_at m c t i x).trans (part_congr m c rfl (Fin.ext (by simp <;> omega)) (Fin.ext (by simp <;> omega)))
      refine Cert.Columns.canon_cols (R := 16) (C := 512) _ _ _ i j _ (fun x hx => ?_) (fun n1 => ?_)
      · exact (keep1_at m c t i x).trans (part_congr m c rfl (Fin.ext (by simp <;> omega)) (Fin.ext (by simp <;> omega)))
      refine Cert.Columns.canon_cols (R := 16) (C := 512) _ _ _ i j _ (fun x hx => ?_) (fun n0 => ?_)
      · exact (keep0_at m c t i x).trans (part_congr m c rfl (Fin.ext (by simp <;> omega)) (Fin.ext (by simp <;> omega)))
      omega
    · rw [outsAt0_B m c t h h']; dsimp only; frame_out
      refine Cert.Columns.canon_cols (R := 16) (C := 512) _ _ _ i j _ (fun x hx => ?_) (fun n3 => ?_)
      · exact (keep3_at m c t i x).trans (part_congr m c rfl (Fin.ext (by simp <;> omega)) (Fin.ext (by simp <;> omega)))
      refine Cert.Columns.canon_cols (R := 16) (C := 512) _ _ _ i j _ (fun x hx => ?_) (fun n2 => ?_)
      · exact (keep2_at m c t i x).trans (part_congr m c rfl (Fin.ext (by simp <;> omega)) (Fin.ext (by simp <;> omega)))
      refine Cert.Columns.canon_cols (R := 16) (C := 512) _ _ _ i j _ (fun x hx => ?_) (fun n1 => ?_)
      · exact (keep1_at m c t i x).trans (part_congr m c rfl (Fin.ext (by simp <;> omega)) (Fin.ext (by simp <;> omega)))
      refine Cert.Columns.canon_cols (R := 16) (C := 512) _ _ _ i j _ (fun x hx => ?_) (fun n0 => ?_)
      · exact (keep0_at m c t i x).trans (part_congr m c rfl (Fin.ext (by simp <;> omega)) (Fin.ext (by simp <;> omega)))
      omega

/-- The kept rows, loaded back in the next tile. -/
theorem kept_at (c : Dev nD) (t : Fin cfg0.N) (h : ¬ t.val % 8 = 0) (g : Fin 4) (o : ℕ) (ho : o = g.val * 128)
    (i0 : ∀ x, (![0, o] : Fin 2 → ℕ) x + (![16, 128] : Fin 2 → ℕ) x ≤ S16x512.size x) (x : Fin 16) (d : Fin 128) :
    View.ld (outsAt0 m c (t.val - 1) (Nat.lt_of_le_of_lt (Nat.sub_le _ _) t.isLt)).2.2.2.2.2.1 (Rect.unit ![0, o] ![16, 128] i0) (ix2 x d)
      = Cert.MixSpec.part (P m c) (Z m c) (O m c) (H m c) ((7 - t.val) * 512 + 512 + x.val) g d := by
  have ht := point_lt t
  refine (Cert.Columns.ld_cols (R := 16) (C := 512) _ _ _ _ ⟨o + d.val, by omega⟩ rfl).trans ?_
  refine (carry_at m c ⟨t.val - 1, Nat.lt_of_le_of_lt (Nat.sub_le _ _) t.isLt⟩ x _).trans ?_
  exact part_congr m c (by simp; omega) (Fin.ext (by simp; omega)) (Fin.ext (by simp; omega))

/-- There is nothing after the last token. -/
theorem none_at (c : Dev nD) (t : Fin cfg0.N) (h : t.val % 8 = 0) (x : ℕ) (g : Fin 4) (d : Fin 128) :
    (0 : EReal) = Cert.MixSpec.part (P m c) (Z m c) (O m c) (H m c) ((7 - t.val) * 512 + 512 + x) g d := by
  have ht := point_lt t
  unfold Cert.MixSpec.part
  rw [dif_neg (by omega)]

theorem place7 (t : Fin cfg0.N) (r d : Fin 512) : ((View.whole main_v105_1).slice (win0_7.rect t)).emb (ix2 r d) = ix2 (tok t r) d := by
  blk_ext [idx_val t]
theorem place6 (t : Fin cfg0.N) (r d : Fin 512) : ((View.whole main_v105_0).slice (win0_6.rect t)).emb (ix2 r d) = ix2 (tok t r) d := by
  blk_ext [idx_val t]

set_option maxHeartbeats 1000000 in
theorem final_7 (c : Dev nD) : (dats m 0 c).arrAt 7 (cfgs 0).N = Cert.MixSpec.out1 (P m c) (Z m c) (O m c) (H m c) := by
  refine (dats m 0 c).arrAt_eq_of_covers 7 _ (by decide +kernel) fun t hf y => ?_
  blk_simp; rw [after0_7]
  idx_vars y
  refine Eq.trans ?_ (congrArg _ (place7 t y0 y1)).symm
  show _ = Cert.MixSpec.du (P m c) (Z m c) (O m c) (H m c) (tok t y0) (Cert.MixSpec.grp y1) (Cert.MixSpec.col y1)
  by_cases h : t.val % 8 = 0
  · rw [outsAt0_A m c t h (by omega)]; dsimp only; frame_out
    refine Cert.Columns.canon_cols (R := 512) (C := 512) _ _ _ y0 y1 _ (fun x hx => ?_) (fun n3 => ?_)
    · refine (du3_at m c t _ (fun i d => ?_) _ y0 x).trans (du_congr m c (Fin.ext (by simp <;> omega)) (Fin.ext (by simp <;> omega)))
      refine (load3_at _ i d).trans ?_
      refine Eq.trans ?_ (none_at m c t h i.val 3 d)
      refine Cert.Columns.read_cols (R := 16) (C := 512) _ _ _ _ _ _ (fun q hq => ?_)
      refine Cert.Columns.canon_cols (R := 16) (C := 512) _ _ _ _ _ _ (fun x hx => absurd hx (by omega)) (fun _ => ?_)
      refine Cert.Columns.canon_cols (R := 16) (C := 512) _ _ _ _ _ _ (fun x hx => absurd hx (by omega)) (fun _ => ?_)
      refine Cert.Columns.canon_cols (R := 16) (C := 512) _ _ _ _ _ _ (fun x hx => absurd hx (by omega)) (fun _ => ?_)
      exact Cert.Columns.canon_cols (R := 16) (C := 512) _ _ _ _ _ _ (fun x _ => zero5 _) (fun h => absurd h (by omega))
    refine Cert.Columns.canon_cols (R := 512) (C := 512) _ _ _ y0 y1 _ (fun x hx => ?_) (fun n2 => ?_)
    · refine (du2_at m c t _ (fun i d => ?_) _ y0 x).trans (du_congr m c (Fin.ext (by simp <;> omega)) (Fin.ext (by simp <;> omega)))
      refine (load2_at _ i d).trans ?_
      refine Eq.trans ?_ (none_at m c t h i.val 2 d)
      refine Cert.Columns.read_cols (R := 16) (C := 512) _ _ _ _ _ _ (fun q hq => ?_)
      refine Cert.Columns.canon_cols (R := 16) (C := 512) _ _ _ _ _ _ (fun x hx => absurd hx (by omega)) (fun _ => ?_)
      refine Cert.Columns.canon_cols (R := 16) (C := 512) _ _ _ _ _ _ (fun x hx => absurd hx (by omega)) (fun _ => ?_)
      exact Cert.Columns.canon_cols (R := 16) (C := 512) _ _ _ _ _ _ (fun x _ => zero5 _) (fun h => absurd h (by omega))
    refine Cert.Columns.canon_cols (R := 512) (C := 512) _ _ _ y0 y1 _ (fun x hx => ?_) (fun n1 => ?_)
    · refine (du1_at m c t _ (fun i d => ?_) _ y0 x).trans (du_congr m c (Fin.ext (by simp <;> omega)) (Fin.ext (by simp <;> omega)))
      refine (load1_at _ i d).trans ?_
      refine Eq.trans ?_ (none_at m c t h i.val 1 d)
      refine Cert.Columns.read_cols (R := 16) (C := 512) _ _ _ _ _ _ (fun q hq => ?_)
      refine Cert.Columns.canon_cols (R := 16) (C := 512) _ _ _ _ _ _ (fun x hx => absurd hx (by omega)) (fun _ => ?_)
      exact Cert.Columns.canon_cols (R := 16) (C := 512) _ _ _ _ _ _ (fun x _ => zero5 _) (fun h => absurd h (by omega))
    refine Cert.Columns.canon_cols (R := 512) (C := 512) _ _ _ y0 y1 _ (fun x hx => ?_) (fun n0 => ?_)
    · refine (du0_at m c t _ (fun i d => ?_) _ y0 x).trans (du_congr m c (Fin.ext (by simp <;> omega)) (Fin.ext (by simp <;> omega)))
      refine (load0_at _ i d).trans ?_
      refine Eq.trans ?_ (none_at m c t h i.val 0 d)
      refine Cert.Columns.read_cols (R := 16) (C := 512) _ _ _ _ _ _ (fun q hq => ?_)
      exact Cert.Columns.canon_cols (R := 16) (C := 512) _ _ _ _ _ _ (fun x _ => zero5 _) (fun h => absurd h (by omega))
    omega
  · by_cases h' : t.val % 8 = 7
    · rw [outsAt0_C m c t h h']; dsimp only; frame_out
      refine Cert.Columns.canon_cols (R := 512) (C := 512) _ _ _ y0 y1 _ (fun x hx => ?_) (fun n3 => ?_)
      · refine (du3_at m c t _ (fun i d => ?_) _ y0 x).trans (du_congr m c (Fin.ext (by simp <;> omega)) (Fin.ext (by simp <;> omega)))
        refine (load3_at _ i d).trans ?_
        rw [read_unread_whole]
        exact kept_at m c t h 3 384 rfl _ i d
      refine Cert.Columns.canon_cols (R := 512) (C := 512) _ _ _ y0 y1 _ (fun x hx => ?_) (fun n2 => ?_)
      · refine (du2_at m c t _ (fun i d => ?_) _ y0 x).trans (du_congr m c (Fin.ext (by simp <;> omega)) (Fin.ext (by simp <;> omega)))
        refine (load2_at _ i d).trans ?_
        rw [read_unread_whole]
        exact kept_at m c t h 2 256 rfl _ i d
      refine Cert.Columns.canon_cols (R := 512) (C := 512) _ _ _ y0 y1 _ (fun x hx => ?_) (fun n1 => ?_)
      · refine (du1_at m c t _ (fun i d => ?_) _ y0 x).trans (du_congr m c (Fin.ext (by simp <;> omega)) (Fin.ext (by simp <;> omega)))
        refine (load1_at _ i d).trans ?_
        rw [read_unread_whole]
        exact kept_at m c t h 1 128 rfl _ i d
      refine Cert.Columns.canon_cols (R := 512) (C := 512) _ _ _ y0 y1 _ (fun x hx => ?_) (fun n0 => ?_)
      · refine (du0_at m c t _ (fun i d => ?_) _ y0 x).trans (du_congr m c (Fin.ext (by simp <;> omega)) (Fin.ext (by simp <;> omega)))
        refine (load0_at _ i d).trans ?_
        rw [read_unread_whole]
        exact kept_at m c t h 0 0 rfl _ i d
      omega
    · rw [outsAt0_B m c t h h']; dsimp only; frame_out
      refine Cert.Columns.canon_cols (R := 512) (C := 512) _ _ _ y0 y1 _ (fun x hx => ?_) (fun n3 => ?_)
      · refine (du3_at m c t _ (fun i d => ?_) _ y0 x).trans (du_congr m c (Fin.ext (by simp <;> omega)) (Fin.ext (by simp <;> omega)))
        refine (load3_at _ i d).trans ?_
        rw [read_unread_whole]
        exact kept_at m c t h 3 384 rfl _ i d
      refine Cert.Columns.canon_cols (R := 512) (C := 512) _ _ _ y0 y1 _ (fun x hx => ?_) (fun n2 => ?_)
      · refine (du2_at m c t _ (fun i d => ?_) _ y0 x).trans (du_congr m c (Fin.ext (by simp <;> omega)) (Fin.ext (by simp <;> omega)))
        refine (load2_at _ i d).trans ?_
        rw [read_unread_whole]
        exact kept_at m c t h 2 256 rfl _ i d
      refine Cert.Columns.canon_cols (R := 512) (C := 512) _ _ _ y0 y1 _ (fun x hx => ?_) (fun n1 => ?_)
      · refine (du1_at m c t _ (fun i d => ?_) _ y0 x).trans (du_congr m c (Fin.ext (by simp <;> omega)) (Fin.ext (by simp <;> omega)))
        refine (load1_at _ i d).trans ?_
        rw [read_unread_whole]
        exact kept_at m c t h 1 128 rfl _ i d
      refine Cert.Columns.canon_cols (R := 512) (C := 512) _ _ _ y0 y1 _ (fun x hx => ?_) (fun n0 => ?_)
      · refine (du0_at m c t _ (fun i d => ?_) _ y0 x).trans (du_congr m c (Fin.ext (by simp <;> omega)) (Fin.ext (by simp <;> omega)))
        refine (load0_at _ i d).trans ?_
        rw [read_unread_whole]
        exact kept_at m c t h 0 0 rfl _ i d
      omega

end Cert.MixIdeal.Value
end
-- ==== Proof.Mix.Dlt.lean ====
/- The tokens' differences to their means, as the host passes them to the kernel. -/
module

public import proofs.«01_k».proof.Proof.Mix.Blocks

@[expose] public section

set_option maxRecDepth 16384

noncomputable section

open Idealize.ShloMosaic Idealize.ShloMosaic.TcCoe Idealize.SL.Sem

namespace Cert.MixIdeal.Value

open Cert.MixIdeal Cert.MixIdeal.Gen

variable (m : (ℓ : Loc nD τ sig) → Buf (Elt Ideal) ℓ)

set_option maxHeartbeats 1000000 in
theorem v86_eq (c : Dev nD) : V m c main_v86 = Cert.MixRefIdeal.Read.val_main_v93 (F := Ideal) (U m c) := by
  unfold_abbrev_sides
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  simp (disch := decide) only [StableHlo.readAfter, StableHlo.readUpto, StableHlo.nullary_result', StableHlo.unary_result', StableHlo.binary_result', StableHlo.reshape_result', StableHlo.nary4_result']
  refine (cat4 (a' := Cert.MixRefIdeal.Read.val_main_v89 (F := Ideal) (U m c)) (b' := Cert.MixRefIdeal.Read.val_main_v90 (F := Ideal) (U m c))
      (c' := Cert.MixRefIdeal.Read.val_main_v91 (F := Ideal) (U m c)) (e' := Cert.MixRefIdeal.Read.val_main_v92 (F := Ideal) (U m c))
      concatenates_S1x4096x1x128_S1x4096x1x128_S1x4096x1x128_S1x4096x1x128_S1x4096x4x128_d2 ?_ ?_ ?_ ?_)
  · simp (disch := decide) only [StableHlo.readAfter, StableHlo.readUpto, StableHlo.nullary_result', StableHlo.unary_result', StableHlo.binary_result', StableHlo.reshape_result', StableHlo.nary4_result']
    simp only [Cert.MixRefIdeal.Read.val_main_v89, Cert.MixRefIdeal.Read.val_main_v28, Cert.MixRefIdeal.Read.val_main_v25, Cert.MixRefIdeal.Read.val_main_v23, Cert.MixRefIdeal.Read.val_main_v22, Cert.MixRefIdeal.Read.val_main_v21, Cert.MixRefIdeal.Read.val_main_v7, Cert.MixRefIdeal.Read.val_main_v5, Cert.MixRefIdeal.Read.val_main_v4, Cert.MixRefIdeal.Read.val_main_cst, Cert.MixRefIdeal.Read.val_main_v3, Cert.MixRefIdeal.Read.val_main_v2, Cert.MixRefIdeal.Read.val_main_call0_call0_v0, Cert.MixRefIdeal.Read.val_main_call0_call0_cst, Cert.MixRefIdeal.Read.val_main_v14, Cert.MixRefIdeal.Read.val_main_v12, Cert.MixRefIdeal.Read.val_main_v11, Cert.MixRefIdeal.Read.val_main_cst_1, Cert.MixRefIdeal.Read.val_main_v10, Cert.MixRefIdeal.Read.val_main_v9, Cert.MixRefIdeal.Read.val_main_v24, Cert.MixRefIdeal.Read.val_main_v20, Cert.MixRefIdeal.Read.val_main_v19, Cert.MixRefIdeal.Read.val_main_v18, Cert.MixRefIdeal.Read.val_main_v16, Cert.MixRefIdeal.Read.val_main_v8, Cert.MixRefIdeal.Read.val_main_v15, Cert.MixRefIdeal.Read.val_main_c, Cert.MixRefIdeal.Read.val_main_v17, Cert.MixRefIdeal.Read.val_main_c_3, Cert.MixRefIdeal.Read.val_main_v27, Cert.MixRefIdeal.Read.val_main_v26]
    rfl
  · simp (disch := decide) only [StableHlo.readAfter, StableHlo.readUpto, StableHlo.nullary_result', StableHlo.unary_result', StableHlo.binary_result', StableHlo.reshape_result', StableHlo.nary4_result']
    simp only [Cert.MixRefIdeal.Read.val_main_v90, Cert.MixRefIdeal.Read.val_main_v48, Cert.MixRefIdeal.Read.val_main_v45, Cert.MixRefIdeal.Read.val_main_v43, Cert.MixRefIdeal.Read.val_main_v42, Cert.MixRefIdeal.Read.val_main_v41, Cert.MixRefIdeal.Read.val_main_v7, Cert.MixRefIdeal.Read.val_main_v5, Cert.MixRefIdeal.Read.val_main_v4, Cert.MixRefIdeal.Read.val_main_cst, Cert.MixRefIdeal.Read.val_main_v3, Cert.MixRefIdeal.Read.val_main_v2, Cert.MixRefIdeal.Read.val_main_call0_call0_v0, Cert.MixRefIdeal.Read.val_main_call0_call0_cst, Cert.MixRefIdeal.Read.val_main_v34, Cert.MixRefIdeal.Read.val_main_v32, Cert.MixRefIdeal.Read.val_main_v31, Cert.MixRefIdeal.Read.val_main_cst_4, Cert.MixRefIdeal.Read.val_main_v30, Cert.MixRefIdeal.Read.val_main_v29, Cert.MixRefIdeal.Read.val_main_v44, Cert.MixRefIdeal.Read.val_main_v40, Cert.MixRefIdeal.Read.val_main_v39, Cert.MixRefIdeal.Read.val_main_v38, Cert.MixRefIdeal.Read.val_main_v36, Cert.MixRefIdeal.Read.val_main_v8, Cert.MixRefIdeal.Read.val_main_v35, Cert.MixRefIdeal.Read.val_main_c_6, Cert.MixRefIdeal.Read.val_main_v37, Cert.MixRefIdeal.Read.val_main_c_7, Cert.MixRefIdeal.Read.val_main_v47, Cert.MixRefIdeal.Read.val_main_v46]
    rfl
  · simp (disch := decide) only [StableHlo.readAfter, StableHlo.readUpto, StableHlo.nullary_result', StableHlo.unary_result', StableHlo.binary_result', StableHlo.reshape_result', StableHlo.nary4_result']
    simp only [Cert.MixRefIdeal.Read.val_main_v91, Cert.MixRefIdeal.Read.val_main_v68, Cert.MixRefIdeal.Read.val_main_v65, Cert.MixRefIdeal.Read.val_main_v63, Cert.MixRefIdeal.Read.val_main_v62, Cert.MixRefIdeal.Read.val_main_v61, Cert.MixRefIdeal.Read.val_main_v7, Cert.MixRefIdeal.Read.val_main_v5, Cert.MixRefIdeal.Read.val_main_v4, Cert.MixRefIdeal.Read.val_main_cst, Cert.MixRefIdeal.Read.val_main_v3, Cert.MixRefIdeal.Read.val_main_v2, Cert.MixRefIdeal.Read.val_main_call0_call0_v0, Cert.MixRefIdeal.Read.val_main_call0_call0_cst, Cert.MixRefIdeal.Read.val_main_v54, Cert.MixRefIdeal.Read.val_main_v52, Cert.MixRefIdeal.Read.val_main_v51, Cert.MixRefIdeal.Read.val_main_cst_8, Cert.MixRefIdeal.Read.val_main_v50, Cert.MixRefIdeal.Read.val_main_v49, Cert.MixRefIdeal.Read.val_main_v64, Cert.MixRefIdeal.Read.val_main_v60, Cert.MixRefIdeal.Read.val_main_v59, Cert.MixRefIdeal.Read.val_main_v58, Cert.MixRefIdeal.Read.val_main_v56, Cert.MixRefIdeal.Read.val_main_v8, Cert.MixRefIdeal.Read.val_main_v55, Cert.MixRefIdeal.Read.val_main_c_10, Cert.MixRefIdeal.Read.val_main_v57, Cert.MixRefIdeal.Read.val_main_c_11, Cert.MixRefIdeal.Read.val_main_v67, Cert.MixRefIdeal.Read.val_main_v66]
    rfl
  · simp (disch := decide) only [StableHlo.readAfter, StableHlo.readUpto, StableHlo.nullary_result', StableHlo.unary_result', StableHlo.binary_result', StableHlo.reshape_result', StableHlo.nary4_result']
    simp only [Cert.MixRefIdeal.Read.val_main_v92, Cert.MixRefIdeal.Read.val_main_v88, Cert.MixRefIdeal.Read.val_main_v85, Cert.MixRefIdeal.Read.val_main_v83, Cert.MixRefIdeal.Read.val_main_v82, Cert.MixRefIdeal.Read.val_main_v81, Cert.MixRefIdeal.Read.val_main_v7, Cert.MixRefIdeal.Read.val_main_v5, Cert.MixRefIdeal.Read.val_main_v4, Cert.MixRefIdeal.Read.val_main_cst, Cert.MixRefIdeal.Read.val_main_v3, Cert.MixRefIdeal.Read.val_main_v2, Cert.MixRefIdeal.Read.val_main_call0_call0_v0, Cert.MixRefIdeal.Read.val_main_call0_call0_cst, Cert.MixRefIdeal.Read.val_main_v74, Cert.MixRefIdeal.Read.val_main_v72, Cert.MixRefIdeal.Read.val_main_v71, Cert.MixRefIdeal.Read.val_main_cst_12, Cert.MixRefIdeal.Read.val_main_v70, Cert.MixRefIdeal.Read.val_main_v69, Cert.MixRefIdeal.Read.val_main_v84, Cert.MixRefIdeal.Read.val_main_v80, Cert.MixRefIdeal.Read.val_main_v79, Cert.MixRefIdeal.Read.val_main_v78, Cert.MixRefIdeal.Read.val_main_v76, Cert.MixRefIdeal.Read.val_main_v8, Cert.MixRefIdeal.Read.val_main_v75, Cert.MixRefIdeal.Read.val_main_c_14, Cert.MixRefIdeal.Read.val_main_v77, Cert.MixRefIdeal.Read.val_main_c_15, Cert.MixRefIdeal.Read.val_main_v87, Cert.MixRefIdeal.Read.val_main_v86]
    rfl

end Cert.MixIdeal.Value
end
-- ==== Proof.Mix.Rows.lean ====
/- What the host passes to the kernel as rows: the tokens' differences to their means and the mixed rows, both from the differences. -/
module

public import proofs.«01_k».proof.Proof.Mix.Dlt

@[expose] public section

set_option maxRecDepth 16384

noncomputable section

open Idealize.ShloMosaic Idealize.ShloMosaic.TcCoe Idealize.SL.Sem

namespace Cert.MixIdeal.Value

open Cert.MixIdeal Cert.MixIdeal.Gen

variable (m : (ℓ : Loc nD τ sig) → Buf (Elt Ideal) ℓ)

/-- The host lines after the one that joins the four groups' differences. -/
abbrev tail : List (HloOp τ sig (Elt Ideal)) := List.drop 98 hostOps0_2

theorem V_tail (c : Dev nD) : ∃ W, ∀ b, V m c b = StableHlo.after tail W b :=
  ⟨StableHlo.after (hostOps0 ++ (hostOps0_1 ++ List.take 98 hostOps0_2)) (fun b => m (c, b)), fun b => by
    show StableHlo.after (hostOps0 ++ (hostOps0_1 ++ (hostOps0_2 ++ []))) (fun b => m (c, b)) b = _
    rw [← StableHlo.after_append, List.append_assoc, List.append_assoc, List.take_append_drop, List.append_nil]⟩

theorem tail101 (W) : StableHlo.after tail W main_v101
    = shapeCast S4096x512 (StableHlo.after tail W main_v86) shapeCasts_S1x4096x4x128_S4096x512 := by
  simp only [tail, hostOps0_2, List.drop_succ_cons, List.drop_zero, StableHlo.TRef.binary, StableHlo.TRef.nullary, StableHlo.TRef.unary, StableHlo.TRef.toBuf, StableHlo.TRef.ofBuf, cast_eq]
  simp (disch := decide) only [StableHlo.readAfter, StableHlo.readUpto, StableHlo.nullary_result', StableHlo.unary_result', StableHlo.binary_result', StableHlo.reshape_result', StableHlo.nary4_result']
  rfl

theorem tail103 (W) : StableHlo.after tail W main_v103
    = shapeCast S4096x1024 (mixRow (StableHlo.after tail W main_arg0) (StableHlo.after tail W main_v86) (StableHlo.after tail W main_arg2)
      (StableHlo.after tail W main_arg3)) shapeCasts_S1x4096x1024_S4096x1024 := by
  simp only [tail, hostOps0_2, List.drop_succ_cons, List.drop_zero, StableHlo.TRef.binary, StableHlo.TRef.nullary, StableHlo.TRef.unary, StableHlo.TRef.toBuf, StableHlo.TRef.ofBuf, cast_eq]
  simp (disch := decide) only [StableHlo.readAfter, StableHlo.readUpto, StableHlo.nullary_result', StableHlo.unary_result', StableHlo.binary_result', StableHlo.reshape_result', StableHlo.nary4_result']
  rfl

/-- The differences' rows, from the differences. -/
theorem v101_eq (c : Dev nD) : V m c main_v101 = shapeCast S4096x512 (V m c main_v86) shapeCasts_S1x4096x4x128_S4096x512 := by
  obtain ⟨W, h⟩ := V_tail m c
  rw [h, h, tail101]

/-- A token's groups one after the other. -/
theorem groups_at (D : FVec Ideal S1x4096x4x128 .f32) (s : Fin 4096) (j : Fin 512) :
    shapeCast S4096x512 D shapeCasts_S1x4096x4x128_S4096x512 (ix2 s j) = D (ix4 0 s (Cert.MixSpec.grp j) (Cert.MixSpec.col j)) := by
  pointwise
theorem row_at (D : FVec Ideal S1x4096x1024 .f32) (s : Fin 4096) (j : Fin 1024) :
    shapeCast S4096x1024 D shapeCasts_S1x4096x1024_S4096x1024 (ix2 s j) = D (ix3 0 s j) := by
  pointwise

theorem v101_at (c : Dev nD) (s : Fin 4096) (j : Fin 512) : V m c main_v101 (ix2 s j)
    = Cert.MixRefIdeal.Read.val_main_v93 (F := Ideal) (U m c) (ix4 0 s (Cert.MixSpec.grp j) (Cert.MixSpec.col j)) := by
  rw [v101_eq, v86_eq]
  exact groups_at _ s j

/-- The mixed rows, from the differences. -/
theorem v103_eq (c : Dev nD) : V m c main_v103
    = shapeCast S4096x1024 (mixRow (A m c) (V m c main_v86) (P m c) (Z m c)) shapeCasts_S1x4096x1024_S4096x1024 := by
  obtain ⟨W, h⟩ := V_tail m c
  have e0 : StableHlo.after tail W main_arg0 = A m c := (h main_arg0).symm.trans (V_main_arg0 m c)
  have e2 : StableHlo.after tail W main_arg2 = P m c := (h main_arg2).symm.trans (V_main_arg2 m c)
  have e3 : StableHlo.after tail W main_arg3 = Z m c := (h main_arg3).symm.trans (V_main_arg3 m c)
  rw [h, h, tail103, e0, e2, e3]

theorem v103_at (c : Dev nD) (s : Fin 4096) (j : Fin 1024) : V m c main_v103 (ix2 s j)
    = Cert.MixRefIdeal.Read.val_main_v101 (F := Ideal) (A m c) (U m c) (P m c) (Z m c) (ix3 0 s j) := by
  rw [v103_eq, v86_eq]
  exact row_at _ s j

end Cert.MixIdeal.Value
end
-- ==== Proof.Mix.Sums.lean ====
/- The gradients of the groups' scales and weights, summed over the tiles. -/
module

public import proofs.«01_k».proof.Proof.Mix.Groups
public import proofs.«01_k».proof.Proof.Mix.Rows
public import proofs.«01_k».proof.Proof.Common.Columns
public import Idealize.ShloMosaic.Lib.Pipeline.ValueKit

@[expose] public section

set_option maxRecDepth 16384

noncomputable section

open Idealize.ShloMosaic Idealize.ShloMosaic.TcCoe Idealize.SL.Sem

namespace Cert.MixIdeal.Value

open Cert.MixIdeal Cert.MixIdeal.Gen

variable (m : (ℓ : Loc nD τ sig) → Buf (Elt Ideal) ℓ)

/-- What one tile adds to the gradient of a group's scale. -/
def scalePart (c : Dev nD) (t : Fin cfg0.N) (g : Fin 4) (d : Fin 128) : EReal :=
  ∑ r : Fin 512, Cert.MixSpec.dpool (O m c) (H m c) (tok t r) g d * Cert.MixSpec.y (Cert.MixRefIdeal.Read.val_main_v93 (F := Ideal) (U m c)) (P m c) (tok t r) g d
/-- What one tile adds to the gradient of a group's weights. -/
def weightPart (c : Dev nD) (t : Fin cfg0.N) (g : Fin 4) (e d : Fin 128) : EReal :=
  ∑ r : Fin 512, Cert.MixRefIdeal.Read.val_main_v93 (F := Ideal) (U m c) (ix4 0 (tok t r) g e) * Cert.MixSpec.dy (Z m c) (O m c) (H m c) (tok t r) g d

/-- The token's difference from its mean, by group. -/
theorem diff_at (c : Dev nD) (t : Fin cfg0.N) (g : Fin 4) (o : ℕ) (ho : o = g.val * 128) (i0 : ∀ x, (![0, o] : Fin 2 → ℕ) x + (![512, 128] : Fin 2 → ℕ) x ≤ S512x512.size x)
    (r : Fin 512) (d : Fin 128) : View.ld (iblk m c 2 t) (Rect.unit ![0, o] ![512, 128] i0) (ix2 r d)
      = Cert.MixRefIdeal.Read.val_main_v93 (F := Ideal) (U m c) (ix4 0 (tok t r) g d) := by
  refine (diff_slab m c t o (by omega) i0 r d).trans ((v101_at m c _ _).trans (congrArg _ ?_))
  have e1 : Cert.MixSpec.grp ⟨o + d.val, by omega⟩ = g := Fin.ext (by simp; omega)
  have e2 : Cert.MixSpec.col ⟨o + d.val, by omega⟩ = d := Fin.ext (by simp; omega)
  rw [e1, e2]

theorem scale0_tile (c : Dev nD) (t : Fin cfg0.N) (v : Vec Ideal S1x128 .f32) (z : Fin 1) (j : Fin 128) :
    k0_pay15 (k0_pay11 (iblk m c 0 t) (iblk m c 1 t)) (k0_pay12 (View.ld (iblk m c 2 t) (Rect.unit ![0, 0] ![512, 128] inb_S512x512_S512x128_0_0))) (k0_pay13 (View.ld (iblk m c 4 t) (Rect.unit ![0, 0, 0] ![1, 128, 128] inb_S4x128x128_S1x128x128_0_0_0))) v (ix2 z j) = v (ix2 z j) + scalePart m c t 0 j := by
  refine (scale_at _ _ _ _ z j).trans (congrArg (v (ix2 z j) + ·) (Finset.sum_congr rfl fun r _ => ?_))
  rw [dpool0_at]
  refine congrArg (_ * ·) (Finset.sum_congr rfl fun e _ => ?_)
  rw [diff_at m c t 0 0 rfl, weight_slab m c t 0 (by omega)]
  rfl
theorem weight0_tile (c : Dev nD) (t : Fin cfg0.N) (v : Vec Ideal S1x128x128 .f32) (z : Fin 1) (e j : Fin 128) :
    k0_pay17 (k0_pay11 (iblk m c 0 t) (iblk m c 1 t)) (k0_pay12 (View.ld (iblk m c 2 t) (Rect.unit ![0, 0] ![512, 128] inb_S512x512_S512x128_0_0))) (View.ld (iblk m c 5 t) (Rect.unit ![0, 0] ![1, 128] inb_S1x512_S1x128_0_0)) v (ix3 z e j) = v (ix3 0 e j) + weightPart m c t 0 e j := by
  refine (weight_at _ _ _ _ z e j).trans (congrArg (v (ix3 0 e j) + ·) (Finset.sum_congr rfl fun r _ => ?_))
  rw [dpool0_at, diff_at m c t 0 0 rfl, scale_slab m c t 0 (by omega)]
  refine congrArg (_ * ·) (congrArg (_ * ·) ?_)
  rfl
theorem scale1_tile (c : Dev nD) (t : Fin cfg0.N) (v : Vec Ideal S1x128 .f32) (z : Fin 1) (j : Fin 128) :
    k0_pay27 (k0_pay9 (iblk m c 0 t) (iblk m c 1 t)) (View.ld (iblk m c 2 t) (Rect.unit ![0, 128] ![512, 128] inb_S512x512_S512x128_0_128)) (View.ld (iblk m c 4 t) (Rect.unit ![1, 0, 0] ![1, 128, 128] inb_S4x128x128_S1x128x128_1_0_0)) v (ix2 z j) = v (ix2 z j) + scalePart m c t 1 j := by
  rw [scale1]; refine (scale_at _ _ _ _ z j).trans (congrArg (v (ix2 z j) + ·) (Finset.sum_congr rfl fun r _ => ?_))
  rw [dpool1_at]
  refine congrArg (_ * ·) (Finset.sum_congr rfl fun e _ => ?_)
  rw [diff_at m c t 1 128 rfl, weight_slab m c t 1 (by omega)]
  rfl
theorem weight1_tile (c : Dev nD) (t : Fin cfg0.N) (v : Vec Ideal S1x128x128 .f32) (z : Fin 1) (e j : Fin 128) :
    k0_pay29 (k0_pay25 (View.ld (iblk m c 2 t) (Rect.unit ![0, 128] ![512, 128] inb_S512x512_S512x128_0_128))) (k0_pay28 (k0_pay9 (iblk m c 0 t) (iblk m c 1 t)) (View.ld (iblk m c 5 t) (Rect.unit ![0, 128] ![1, 128] inb_S1x512_S1x128_0_128))) v (ix3 z e j) = v (ix3 0 e j) + weightPart m c t 1 e j := by
  rw [weight1]; refine (weight_at _ _ _ _ z e j).trans (congrArg (v (ix3 0 e j) + ·) (Finset.sum_congr rfl fun r _ => ?_))
  rw [dpool1_at, diff_at m c t 1 128 rfl, scale_slab m c t 128 (by omega)]
  refine congrArg (_ * ·) (congrArg (_ * ·) ?_)
  rfl
theorem scale2_tile (c : Dev nD) (t : Fin cfg0.N) (v : Vec Ideal S1x128 .f32) (z : Fin 1) (j : Fin 128) :
    k0_pay40 (k0_pay9 (iblk m c 0 t) (iblk m c 1 t)) (View.ld (iblk m c 2 t) (Rect.unit ![0, 256] ![512, 128] inb_S512x512_S512x128_0_256)) (View.ld (iblk m c 4 t) (Rect.unit ![2, 0, 0] ![1, 128, 128] inb_S4x128x128_S1x128x128_2_0_0)) v (ix2 z j) = v (ix2 z j) + scalePart m c t 2 j := by
  rw [scale2]; refine (scale_at _ _ _ _ z j).trans (congrArg (v (ix2 z j) + ·) (Finset.sum_congr rfl fun r _ => ?_))
  rw [dpool2_at]
  refine congrArg (_ * ·) (Finset.sum_congr rfl fun e _ => ?_)
  rw [diff_at m c t 2 256 rfl, weight_slab m c t 2 (by omega)]
  rfl
theorem weight2_tile (c : Dev nD) (t : Fin cfg0.N) (v : Vec Ideal S1x128x128 .f32) (z : Fin 1) (e j : Fin 128) :
    k0_pay42 (k0_pay9 (iblk m c 0 t) (iblk m c 1 t)) (View.ld (iblk m c 2 t) (Rect.unit ![0, 256] ![512, 128] inb_S512x512_S512x128_0_256)) (View.ld (iblk m c 5 t) (Rect.unit ![0, 256] ![1, 128] inb_S1x512_S1x128_0_256)) v (ix3 z e j) = v (ix3 0 e j) + weightPart m c t 2 e j := by
  rw [weight2]; refine (weight_at _ _ _ _ z e j).trans (congrArg (v (ix3 0 e j) + ·) (Finset.sum_congr rfl fun r _ => ?_))
  rw [dpool2_at, diff_at m c t 2 256 rfl, scale_slab m c t 256 (by omega)]
  refine congrArg (_ * ·) (congrArg (_ * ·) ?_)
  rfl
theorem scale3_tile (c : Dev nD) (t : Fin cfg0.N) (v : Vec Ideal S1x128 .f32) (z : Fin 1) (j : Fin 128) :
    k0_pay54 (k0_pay9 (iblk m c 0 t) (iblk m c 1 t)) (View.ld (iblk m c 2 t) (Rect.unit ![0, 384] ![512, 128] inb_S512x512_S512x128_0_384)) (View.ld (iblk m c 4 t) (Rect.unit ![3, 0, 0] ![1, 128, 128] inb_S4x128x128_S1x128x128_3_0_0)) v (ix2 z j) = v (ix2 z j) + scalePart m c t 3 j := by
  rw [scale3]; refine (scale_at _ _ _ _ z j).trans (congrArg (v (ix2 z j) + ·) (Finset.sum_congr rfl fun r _ => ?_))
  rw [dpool3_at]
  refine congrArg (_ * ·) (Finset.sum_congr rfl fun e _ => ?_)
  rw [diff_at m c t 3 384 rfl, weight_slab m c t 3 (by omega)]
  rfl
theorem weight3_tile (c : Dev nD) (t : Fin cfg0.N) (v : Vec Ideal S1x128x128 .f32) (z : Fin 1) (e j : Fin 128) :
    k0_pay56 (k0_pay9 (iblk m c 0 t) (iblk m c 1 t)) (View.ld (iblk m c 2 t) (Rect.unit ![0, 384] ![512, 128] inb_S512x512_S512x128_0_384)) (View.ld (iblk m c 5 t) (Rect.unit ![0, 384] ![1, 128] inb_S1x512_S1x128_0_384)) v (ix3 z e j) = v (ix3 0 e j) + weightPart m c t 3 e j := by
  rw [weight3]; refine (weight_at _ _ _ _ z e j).trans (congrArg (v (ix3 0 e j) + ·) (Finset.sum_congr rfl fun r _ => ?_))
  rw [dpool3_at, diff_at m c t 3 384 rfl, scale_slab m c t 384 (by omega)]
  refine congrArg (_ * ·) (congrArg (_ * ·) ?_)
  rfl

theorem zero9 (i : S1x512.Idx) : k0_pay4 (F := Ideal) i = 0 := by pointwise! [k0_pay4]
theorem zero8 (i : S4x128x128.Idx) : k0_pay3 (F := Ideal) i = 0 := by pointwise! [k0_pay3]

theorem scalePart_congr (c : Dev nD) (t : Fin cfg0.N) {g g' : Fin 4} {d d' : Fin 128} (h : g = g') (h' : d = d') : scalePart m c t g d = scalePart m c t g' d' := by
  rw [h, h']

theorem scale_first (c : Dev nD) (t : Fin cfg0.N) (h : t.val % 8 = 0) (i : Fin 1) (j : Fin 512) :
    (outsAt0 m c t.val t.isLt).2.2.2.1 (ix2 i j) = 0 + scalePart m c t (Cert.MixSpec.grp j) (Cert.MixSpec.col j) := by
  rw [outsAt0_A m c t h (by omega)]; dsimp only; frame_out
  refine Cert.Columns.canon_cols (R := 1) (C := 512) _ _ _ i j _ (fun x hx => ?_) (fun n3 => ?_)
  · refine (scale3_tile m c t _ i x).trans (congrArg₂ (· + ·) ?_ (scalePart_congr m c t (Fin.ext (by simp <;> omega)) (Fin.ext (by simp <;> omega))))
    refine Cert.Columns.read_cols (R := 1) (C := 512) _ _ _ _ _ _ (fun q hq => ?_)
    refine Cert.Columns.canon_cols (R := 1) (C := 512) _ _ _ _ _ _ (fun x hx => absurd hx (by omega)) (fun _ => ?_)
    refine Cert.Columns.canon_cols (R := 1) (C := 512) _ _ _ _ _ _ (fun x hx => absurd hx (by omega)) (fun _ => ?_)
    refine Cert.Columns.canon_cols (R := 1) (C := 512) _ _ _ _ _ _ (fun x hx => absurd hx (by omega)) (fun _ => ?_)
    exact Cert.Columns.canon_cols (R := 1) (C := 512) _ _ _ _ _ _ (fun x _ => zero9 _) (fun h => absurd h (by omega))
  refine Cert.Columns.canon_cols (R := 1) (C := 512) _ _ _ i j _ (fun x hx => ?_) (fun n2 => ?_)
  · refine (scale2_tile m c t _ i x).trans (congrArg₂ (· + ·) ?_ (scalePart_congr m c t (Fin.ext (by simp <;> omega)) (Fin.ext (by simp <;> omega))))
    refine Cert.Columns.read_cols (R := 1) (C := 512) _ _ _ _ _ _ (fun q hq => ?_)
    refine Cert.Columns.canon_cols (R := 1) (C := 512) _ _ _ _ _ _ (fun x hx => absurd hx (by omega)) (fun _ => ?_)
    refine Cert.Columns.canon_cols (R := 1) (C := 512) _ _ _ _ _ _ (fun x hx => absurd hx (by omega)) (fun _ => ?_)
    exact Cert.Columns.canon_cols (R := 1) (C := 512) _ _ _ _ _ _ (fun x _ => zero9 _) (fun h => absurd h (by omega))
  refine Cert.Columns.canon_cols (R := 1) (C := 512) _ _ _ i j _ (fun x hx => ?_) (fun n1 => ?_)
  · refine (scale1_tile m c t _ i x).trans (congrArg₂ (· + ·) ?_ (scalePart_congr m c t (Fin.ext (by simp <;> omega)) (Fin.ext (by simp <;> omega))))
    refine Cert.Columns.read_cols (R := 1) (C := 512) _ _ _ _ _ _ (fun q hq => ?_)
    refine Cert.Columns.canon_cols (R := 1) (C := 512) _ _ _ _ _ _ (fun x hx => absurd hx (by omega)) (fun _ => ?_)
    exact Cert.Columns.canon_cols (R := 1) (C := 512) _ _ _ _ _ _ (fun x _ => zero9 _) (fun h => absurd h (by omega))
  refine Cert.Columns.canon_cols (R := 1) (C := 512) _ _ _ i j _ (fun x hx => ?_) (fun n0 => ?_)
  · refine (scale0_tile m c t _ i x).trans (congrArg₂ (· + ·) ?_ (scalePart_congr m c t (Fin.ext (by simp <;> omega)) (Fin.ext (by simp <;> omega))))
    refine Cert.Columns.read_cols (R := 1) (C := 512) _ _ _ _ _ _ (fun q hq => ?_)
    exact Cert.Columns.canon_cols (R := 1) (C := 512) _ _ _ _ _ _ (fun x _ => zero9 _) (fun h => absurd h (by omega))
  omega

theorem scale_next (c : Dev nD) (t : Fin cfg0.N) (h : ¬ t.val % 8 = 0) (i : Fin 1) (j : Fin 512) :
    (outsAt0 m c t.val t.isLt).2.2.2.1 (ix2 i j)
      = (outsAt0 m c (t.val - 1) (Nat.lt_of_le_of_lt (Nat.sub_le _ _) t.isLt)).2.2.2.1 (ix2 i j) + scalePart m c t (Cert.MixSpec.grp j) (Cert.MixSpec.col j) := by
  by_cases h' : t.val % 8 = 7
  · rw [outsAt0_C m c t h h']; dsimp only; frame_out
    refine Cert.Columns.canon_cols (R := 1) (C := 512) _ _ _ i j _ (fun x hx => ?_) (fun n3 => ?_)
    · refine (scale3_tile m c t _ i x).trans (congrArg₂ (· + ·) ?_ (scalePart_congr m c t (Fin.ext (by simp <;> omega)) (Fin.ext (by simp <;> omega))))
      exact Cert.Columns.ld_cols (R := 1) (C := 512) _ _ _ _ _ hx
    refine Cert.Columns.canon_cols (R := 1) (C := 512) _ _ _ i j _ (fun x hx => ?_) (fun n2 => ?_)
    · refine (scale2_tile m c t _ i x).trans (congrArg₂ (· + ·) ?_ (scalePart_congr m c t (Fin.ext (by simp <;> omega)) (Fin.ext (by simp <;> omega))))
      exact Cert.Columns.ld_cols (R := 1) (C := 512) _ _ _ _ _ hx
    refine Cert.Columns.canon_cols (R := 1) (C := 512) _ _ _ i j _ (fun x hx => ?_) (fun n1 => ?_)
    · refine (scale1_tile m c t _ i x).trans (congrArg₂ (· + ·) ?_ (scalePart_congr m c t (Fin.ext (by simp <;> omega)) (Fin.ext (by simp <;> omega))))
      exact Cert.Columns.ld_cols (R := 1) (C := 512) _ _ _ _ _ hx
    refine Cert.Columns.canon_cols (R := 1) (C := 512) _ _ _ i j _ (fun x hx => ?_) (fun n0 => ?_)
    · refine (scale0_tile m c t _ i x).trans (congrArg₂ (· + ·) ?_ (scalePart_congr m c t (Fin.ext (by simp <;> omega)) (Fin.ext (by simp <;> omega))))
      exact Cert.Columns.ld_cols (R := 1) (C := 512) _ _ _ _ _ hx
    omega
  · rw [outsAt0_B m c t h h']; dsimp only; frame_out
    refine Cert.Columns.canon_cols (R := 1) (C := 512) _ _ _ i j _ (fun x hx => ?_) (fun n3 => ?_)
    · refine (scale3_tile m c t _ i x).trans (congrArg₂ (· + ·) ?_ (scalePart_congr m c t (Fin.ext (by simp <;> omega)) (Fin.ext (by simp <;> omega))))
      exact Cert.Columns.ld_cols (R := 1) (C := 512) _ _ _ _ _ hx
    refine Cert.Columns.canon_cols (R := 1) (C := 512) _ _ _ i j _ (fun x hx => ?_) (fun n2 => ?_)
    · refine (scale2_tile m c t _ i x).trans (congrArg₂ (· + ·) ?_ (scalePart_congr m c t (Fin.ext (by simp <;> omega)) (Fin.ext (by simp <;> omega))))
      exact Cert.Columns.ld_cols (R := 1) (C := 512) _ _ _ _ _ hx
    refine Cert.Columns.canon_cols (R := 1) (C := 512) _ _ _ i j _ (fun x hx => ?_) (fun n1 => ?_)
    · refine (scale1_tile m c t _ i x).trans (congrArg₂ (· + ·) ?_ (scalePart_congr m c t (Fin.ext (by simp <;> omega)) (Fin.ext (by simp <;> omega))))
      exact Cert.Columns.ld_cols (R := 1) (C := 512) _ _ _ _ _ hx
    refine Cert.Columns.canon_cols (R := 1) (C := 512) _ _ _ i j _ (fun x hx => ?_) (fun n0 => ?_)
    · refine (scale0_tile m c t _ i x).trans (congrArg₂ (· + ·) ?_ (scalePart_congr m c t (Fin.ext (by simp <;> omega)) (Fin.ext (by simp <;> omega))))
      exact Cert.Columns.ld_cols (R := 1) (C := 512) _ _ _ _ _ hx
    omega

theorem weight_first (c : Dev nD) (t : Fin cfg0.N) (h : t.val % 8 = 0) (g : Fin 4) (i j : Fin 128) :
    (outsAt0 m c t.val t.isLt).2.2.1 (ix3 g i j) = 0 + weightPart m c t g i j := by
  rw [outsAt0_A m c t h (by omega)]; dsimp only; frame_out
  refine Cert.Columns.canon_slab (G := 4) (b := 128) (c := 128) _ _ _ g i j _ (fun x hx => ?_) (fun n3 => ?_)
  · obtain rfl : g = 3 := Fin.ext (by simp <;> omega)
    refine (weight3_tile m c t _ x i j).trans (congrArg (· + _) ?_)
    refine Cert.Columns.read_slab (G := 4) (b := 128) (c := 128) _ _ _ _ _ _ _ (fun q hq => ?_)
    refine Cert.Columns.canon_slab (G := 4) (b := 128) (c := 128) _ _ _ _ _ _ _ (fun x hx => absurd hx (by omega)) (fun _ => ?_)
    refine Cert.Columns.canon_slab (G := 4) (b := 128) (c := 128) _ _ _ _ _ _ _ (fun x hx => absurd hx (by omega)) (fun _ => ?_)
    refine Cert.Columns.canon_slab (G := 4) (b := 128) (c := 128) _ _ _ _ _ _ _ (fun x hx => absurd hx (by omega)) (fun _ => ?_)
    exact Cert.Columns.canon_slab (G := 4) (b := 128) (c := 128) _ _ _ _ _ _ _ (fun x _ => zero8 _) (fun h => absurd h (by omega))
  refine Cert.Columns.canon_slab (G := 4) (b := 128) (c := 128) _ _ _ g i j _ (fun x hx => ?_) (fun n2 => ?_)
  · obtain rfl : g = 2 := Fin.ext (by simp <;> omega)
    refine (weight2_tile m c t _ x i j).trans (congrArg (· + _) ?_)
    refine Cert.Columns.read_slab (G := 4) (b := 128) (c := 128) _ _ _ _ _ _ _ (fun q hq => ?_)
    refine Cert.Columns.canon_slab (G := 4) (b := 128) (c := 128) _ _ _ _ _ _ _ (fun x hx => absurd hx (by omega)) (fun _ => ?_)
    refine Cert.Columns.canon_slab (G := 4) (b := 128) (c := 128) _ _ _ _ _ _ _ (fun x hx => absurd hx (by omega)) (fun _ => ?_)
    exact Cert.Columns.canon_slab (G := 4) (b := 128) (c := 128) _ _ _ _ _ _ _ (fun x _ => zero8 _) (fun h => absurd h (by omega))
  refine Cert.Columns.canon_slab (G := 4) (b := 128) (c := 128) _ _ _ g i j _ (fun x hx => ?_) (fun n1 => ?_)
  · obtain rfl : g = 1 := Fin.ext (by simp <;> omega)
    refine (weight1_tile m c t _ x i j).trans (congrArg (· + _) ?_)
    refine Cert.Columns.read_slab (G := 4) (b := 128) (c := 128) _ _ _ _ _ _ _ (fun q hq => ?_)
    refine Cert.Columns.canon_slab (G := 4) (b := 128) (c := 128) _ _ _ _ _ _ _ (fun x hx => absurd hx (by omega)) (fun _ => ?_)
    exact Cert.Columns.canon_slab (G := 4) (b := 128) (c := 128) _ _ _ _ _ _ _ (fun x _ => zero8 _) (fun h => absurd h (by omega))
  refine Cert.Columns.canon_slab (G := 4) (b := 128) (c := 128) _ _ _ g i j _ (fun x hx => ?_) (fun n0 => ?_)
  · obtain rfl : g = 0 := Fin.ext (by simp <;> omega)
    refine (weight0_tile m c t _ x i j).trans (congrArg (· + _) ?_)
    refine Cert.Columns.read_slab (G := 4) (b := 128) (c := 128) _ _ _ _ _ _ _ (fun q hq => ?_)
    exact Cert.Columns.canon_slab (G := 4) (b := 128) (c := 128) _ _ _ _ _ _ _ (fun x _ => zero8 _) (fun h => absurd h (by omega))
  omega

theorem weight_next (c : Dev nD) (t : Fin cfg0.N) (h : ¬ t.val % 8 = 0) (g : Fin 4) (i j : Fin 128) :
    (outsAt0 m c t.val t.isLt).2.2.1 (ix3 g i j)
      = (outsAt0 m c (t.val - 1) (Nat.lt_of_le_of_lt (Nat.sub_le _ _) t.isLt)).2.2.1 (ix3 g i j) + weightPart m c t g i j := by
  by_cases h' : t.val % 8 = 7
  · rw [outsAt0_C m c t h h']; dsimp only; frame_out
    refine Cert.Columns.canon_slab (G := 4) (b := 128) (c := 128) _ _ _ g i j _ (fun x hx => ?_) (fun n3 => ?_)
    · obtain rfl : g = 3 := Fin.ext (by simp <;> omega)
      refine (weight3_tile m c t _ x i j).trans (congrArg (· + _) ?_)
      exact Cert.Columns.ld_slab (G := 4) (b := 128) (c := 128) _ _ _ _ _ _ (by simp)
    refine Cert.Columns.canon_slab (G := 4) (b := 128) (c := 128) _ _ _ g i j _ (fun x hx => ?_) (fun n2 => ?_)
    · obtain rfl : g = 2 := Fin.ext (by simp <;> omega)
      refine (weight2_tile m c t _ x i j).trans (congrArg (· + _) ?_)
      exact Cert.Columns.ld_slab (G := 4) (b := 128) (c := 128) _ _ _ _ _ _ (by simp)
    refine Cert.Columns.canon_slab (G := 4) (b := 128) (c := 128) _ _ _ g i j _ (fun x hx => ?_) (fun n1 => ?_)
    · obtain rfl : g = 1 := Fin.ext (by simp <;> omega)
      refine (weight1_tile m c t _ x i j).trans (congrArg (· + _) ?_)
      exact Cert.Columns.ld_slab (G := 4) (b := 128) (c := 128) _ _ _ _ _ _ (by simp)
    refine Cert.Columns.canon_slab (G := 4) (b := 128) (c := 128) _ _ _ g i j _ (fun x hx => ?_) (fun n0 => ?_)
    · obtain rfl : g = 0 := Fin.ext (by simp <;> omega)
      refine (weight0_tile m c t _ x i j).trans (congrArg (· + _) ?_)
      exact Cert.Columns.ld_slab (G := 4) (b := 128) (c := 128) _ _ _ _ _ _ (by simp)
    omega
  · rw [outsAt0_B m c t h h']; dsimp only; frame_out
    refine Cert.Columns.canon_slab (G := 4) (b := 128) (c := 128) _ _ _ g i j _ (fun x hx => ?_) (fun n3 => ?_)
    · obtain rfl : g = 3 := Fin.ext (by simp <;> omega)
      refine (weight3_tile m c t _ x i j).trans (congrArg (· + _) ?_)
      exact Cert.Columns.ld_slab (G := 4) (b := 128) (c := 128) _ _ _ _ _ _ (by simp)
    refine Cert.Columns.canon_slab (G := 4) (b := 128) (c := 128) _ _ _ g i j _ (fun x hx => ?_) (fun n2 => ?_)
    · obtain rfl : g = 2 := Fin.ext (by simp <;> omega)
      refine (weight2_tile m c t _ x i j).trans (congrArg (· + _) ?_)
      exact Cert.Columns.ld_slab (G := 4) (b := 128) (c := 128) _ _ _ _ _ _ (by simp)
    refine Cert.Columns.canon_slab (G := 4) (b := 128) (c := 128) _ _ _ g i j _ (fun x hx => ?_) (fun n1 => ?_)
    · obtain rfl : g = 1 := Fin.ext (by simp <;> omega)
      refine (weight1_tile m c t _ x i j).trans (congrArg (· + _) ?_)
      exact Cert.Columns.ld_slab (G := 4) (b := 128) (c := 128) _ _ _ _ _ _ (by simp)
    refine Cert.Columns.canon_slab (G := 4) (b := 128) (c := 128) _ _ _ g i j _ (fun x hx => ?_) (fun n0 => ?_)
    · obtain rfl : g = 0 := Fin.ext (by simp <;> omega)
      refine (weight0_tile m c t _ x i j).trans (congrArg (· + _) ?_)
      exact Cert.Columns.ld_slab (G := 4) (b := 128) (c := 128) _ _ _ _ _ _ (by simp)
    omega

/-- The tiles run backwards over the tokens. -/
theorem tok_sum (f : Fin 4096 → EReal) : ∑ s : Fin 4096, f s = ∑ t : Fin 8, ∑ r : Fin 512, f ⟨(7 - t.val) * 512 + r.val, by omega⟩ := by
  rw [Fin.sum_univ_tiles 8 512 rfl f, ← Equiv.sum_comp Fin.revPerm]
  refine Finset.sum_congr rfl fun t _ => Finset.sum_congr rfl fun r _ => congrArg f (Fin.ext ?_)
  simp [Fin.val_rev]

theorem final_9 (c : Dev nD) : (dats m 0 c).arrAt 9 (cfgs 0).N = Cert.MixSpec.out3 (Cert.MixRefIdeal.Read.val_main_v93 (F := Ideal) (U m c)) (P m c) (O m c) (H m c) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => 0)
    (fun t (j : S1x512.Idx) => scalePart m c t (Cert.MixSpec.grp (j 1)) (Cert.MixSpec.col (j 1)))
    (fun t h j => by idx_vars j; exact scale_first m c t h j0 j1)
    (fun t h j => by idx_vars j; exact scale_next m c t h j0 j1)
    (le_of_eq N_0) t0_7 rfl j, zero_add]
  idx_vars j
  refine Eq.trans ?_ (tok_sum _).symm
  refine Fin.sum_fin_congr fun t => ?_
  rfl

theorem final_8 (c : Dev nD) : (dats m 0 c).arrAt 8 (cfgs 0).N = Cert.MixSpec.out2 (Cert.MixRefIdeal.Read.val_main_v93 (F := Ideal) (U m c)) (Z m c) (O m c) (H m c) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0)
    (fun t (j : S4x128x128.Idx) => weightPart m c t (j 0) (j 1) (j 2))
    (fun t h j => by idx_vars j; exact weight_first m c t h j0 j1 j2)
    (fun t h j => by idx_vars j; exact weight_next m c t h j0 j1 j2)
    (le_of_eq N_0) t0_7 rfl j, zero_add]
  idx_vars j
  refine Eq.trans ?_ (tok_sum _).symm
  refine Fin.sum_fin_congr fun t => ?_
  rfl

end Cert.MixIdeal.Value
end
-- ==== Proof.Mix.Ker.lean ====
/- The row's own cotangent and the projection's gradient. -/
module

public import proofs.«01_k».proof.Proof.Mix.Carry
public import proofs.«01_k».proof.Proof.Mix.Sums
public import proofs.«01_k».proof.Proof.Mix.Rows

@[expose] public section

set_option maxRecDepth 16384

noncomputable section

open Idealize.ShloMosaic Idealize.ShloMosaic.TcCoe Idealize.SL.Sem

namespace Cert.MixIdeal.Value

open Cert.MixIdeal Cert.MixIdeal.Gen

variable (m : (ℓ : Loc nD τ sig) → Buf (Elt Ideal) ℓ)

/-- The first half of the row's cotangent in one tile. -/
theorem half_at (c : Dev nD) (t : Fin cfg0.N) (r d : Fin 512) :
    k0_pay10 (iblk m c 0 t) (iblk m c 1 t) (ix2 r d) = Cert.MixSpec.dmix (O m c) (H m c) (tok t r) ⟨d.val, by omega⟩ := by
  rw [att_at]
  unfold Cert.MixSpec.dmix
  refine Finset.sum_congr rfl fun e _ => ?_
  rw [blk0, blk1]
theorem final_6 (c : Dev nD) : (dats m 0 c).arrAt 6 (cfgs 0).N = Cert.MixSpec.out0 (O m c) (H m c) := by
  refine (dats m 0 c).arrAt_eq_of_covers 6 _ (by decide +kernel) fun t hf y => ?_
  blk_simp; rw [after0_6]
  idx_vars y
  refine Eq.trans ?_ (congrArg _ (place6 t y0 y1)).symm
  by_cases h : t.val % 8 = 0
  · rw [outsAt0_A m c t h (by omega)]; dsimp only; frame_out
    exact half_at m c t y0 y1
  · by_cases h' : t.val % 8 = 7
    · rw [outsAt0_C m c t h h']; dsimp only; frame_out
      exact half_at m c t y0 y1
    · rw [outsAt0_B m c t h h']; dsimp only; frame_out
      exact half_at m c t y0 y1

/-- What one tile adds to the projection's gradient. -/
def outPart (c : Dev nD) (t : Fin cfg0.N) (i j : Fin 1024) : EReal :=
  ∑ r : Fin 512, Cert.MixRefIdeal.Read.val_main_v101 (F := Ideal) (A m c) (U m c) (P m c) (Z m c) (ix3 0 (tok t r) i) * H m c (ix2 (tok t r) j)
theorem out_tile (c : Dev nD) (t : Fin cfg0.N) (a : Vec Ideal S1024x1024 .f32) (i j : Fin 1024) :
    k0_pay7 a (iblk m c 3 t) (iblk m c 0 t) (ix2 i j) = a (ix2 i j) + outPart m c t i j := by
  rw [wo_at]
  refine congrArg (a (ix2 i j) + ·) (Finset.sum_congr rfl fun r _ => ?_)
  rw [blk3, blk0, v103_at]
theorem zero6 (i : S1024x1024.Idx) : k0_pay6 (F := Ideal) i = 0 := by pointwise! [k0_pay6]
theorem out_first (c : Dev nD) (t : Fin cfg0.N) (h : t.val % 8 = 0) (i j : Fin 1024) :
    (outsAt0 m c t.val t.isLt).2.2.2.2.2.2 (ix2 i j) = 0 + outPart m c t i j := by
  rw [outsAt0_A m c t h (by omega)]; frame_out
  refine (out_tile m c t _ i j).trans ?_
  rw [zero6]
theorem out_next (c : Dev nD) (t : Fin cfg0.N) (h : ¬ t.val % 8 = 0) (i j : Fin 1024) :
    (outsAt0 m c t.val t.isLt).2.2.2.2.2.2 (ix2 i j)
      = (outsAt0 m c (t.val - 1) (Nat.lt_of_le_of_lt (Nat.sub_le _ _) t.isLt)).2.2.2.2.2.2 (ix2 i j) + outPart m c t i j := by
  by_cases h' : t.val % 8 = 7
  · rw [outsAt0_C m c t h h']; frame_out
    refine (out_tile m c t _ i j).trans ?_
    rw [read_unread_whole]
  · rw [outsAt0_B m c t h h']; frame_out
    refine (out_tile m c t _ i j).trans ?_
    rw [read_unread_whole]
theorem cast_at (a : Vec Ideal S1024x1024 .f32) (i : S1024x1024.Idx) : k0_pay8 a i = a i := by
  pointwise! [k0_pay8]

theorem final_10 (c : Dev nD) : (dats m 0 c).arrAt 10 (cfgs 0).N = Cert.MixSpec.out4 (Cert.MixRefIdeal.Read.val_main_v101 (F := Ideal) (A m c) (U m c) (P m c) (Z m c)) (H m c) := by
  refine (dats m 0 c).arrAt_eq_of_after_last 10 t0_7 (by decide +kernel) _ fun j => ?_
  blk_simp
  rw [after0_10]
  have e : (outsAt0 m c t0_7.val t0_7.isLt).2.2.2.2.1 j = (outsAt0 m c t0_7.val t0_7.isLt).2.2.2.2.2.2 j := by
    rw [outsAt0_C m c t0_7 (by decide +kernel) (by decide +kernel)]; dsimp only; frame_out
    rw [cast_at]
  rw [e, Pipeline.eq_sum_fin_of_reset_step_apply_last (fun n h => (outsAt0 m c n h).2.2.2.2.2.2) 8 (fun _ => 0)
    (fun t (j : S1024x1024.Idx) => outPart m c t (j 0) (j 1))
    (fun t h j => by idx_vars j; exact out_first m c t h j0 j1)
    (fun t h j => by idx_vars j; exact out_next m c t h j0 j1)
    (le_of_eq N_0) t0_7 rfl j, zero_add]
  idx_vars j
  refine Eq.trans ?_ (tok_sum _).symm
  refine Fin.sum_fin_congr fun t => ?_
  rfl

end Cert.MixIdeal.Value
end
-- ==== Proof.Mix.Pre.lean ====
/- The precondition of the token mixing's backward pass: which arrays have real entries. -/
module

public import proofs.«01_k».proof.Pre_finite_mix
public import proofs.«01_k».proof.Proof.Common.Finite

@[expose] public section

noncomputable section

open Idealize.ShloMosaic

namespace Cert.Pre_finite_mix

open Cert.Reals

variable [Facts] {x0 x1 : FVec Ideal S1x4096x512 .f32} {x2 : FVec Ideal S1x4x128x128 .f32} {x3 : FVec Ideal S1x512 .f32}
  {x4 : FVec Ideal S1x1024x1024 .f32} {x5 : FVec Ideal S4096x1024 .f32}

theorem reals (h : fn (F := Ideal) x0 x1 x2 x3 x4 x5 = fun _ => 1#1) :
    (∀ i, IsReal (x2 i)) ∧ (∀ i, IsReal (x3 i)) ∧ (∀ i, IsReal (x4 i)) ∧ (∀ i, IsReal (x5 i)) := by
  have h := congrFun h ix0
  unfold fn fn_part1 at h
  obtain ⟨h, h3⟩ := and_set h
  obtain ⟨h, h2⟩ := and_set h
  obtain ⟨h0, h1⟩ := and_set h
  exact ⟨isReal_of_all h0, isReal_of_all h1, isReal_of_all h2, isReal_of_all h3⟩

end Cert.Pre_finite_mix
end
-- ==== Proof.Mix.Claim.lean ====
/- The backward pass of the pooling, its product and the output projection: the kernel's arrays are the reference's. -/
module

public import proofs.«01_k».proof.Defs
public import proofs.«01_k».proof.Proof.Gen.MixRefIdeal.Run
public import proofs.«01_k».proof.Proof.Mix.Ker
public import proofs.«01_k».proof.Proof.Mix.Ref
public import proofs.«01_k».proof.Proof.Mix.Pre
public import Idealize.ShloMosaic.Lib.Claim

@[expose] public section

noncomputable section

open Idealize.ShloMosaic Idealize.SL.Sem

namespace Cert.MixClaim

/-- The reference runs and leaves its arguments; it declares no semaphore. -/
theorem frame_ref [hR : Cert.MixRefIdeal.Facts] : Cert.quiescent_MixRefIdeal := fun m ρ _ =>
  (θ_run Cert.MixRefIdeal.defs _ _).mono (fun r h => ⟨fun c => (h c).2.2.2.2.2, sem_eq_zero_of_no_sems (by decide) r.2⟩)
    (Cert.MixRefIdeal.Value.run m ρ)

theorem algebraic [hK : Cert.MixIdeal.Facts] [hR : Cert.MixRefIdeal.Facts] [hP : Cert.Pre_finite_mix.Facts] :
    Cert.algebraic_MixIdeal_MixRefIdeal_pre_finite_mix := by
  intro m g m' g' hpre hagree
  refine ⟨fun c => Cert.MixSpec.out0 (Cert.MixIdeal.Value.O m c) (Cert.MixIdeal.Value.H m c),
    fun c => Cert.MixSpec.out1 (Cert.MixIdeal.Value.P m c) (Cert.MixIdeal.Value.Z m c) (Cert.MixIdeal.Value.O m c) (Cert.MixIdeal.Value.H m c),
    fun c => Cert.MixSpec.out2 (Cert.MixRefIdeal.Read.val_main_v93 (F := Ideal) (Cert.MixIdeal.Value.U m c)) (Cert.MixIdeal.Value.Z m c) (Cert.MixIdeal.Value.O m c) (Cert.MixIdeal.Value.H m c),
    fun c => Cert.MixSpec.out3 (Cert.MixRefIdeal.Read.val_main_v93 (F := Ideal) (Cert.MixIdeal.Value.U m c)) (Cert.MixIdeal.Value.P m c) (Cert.MixIdeal.Value.O m c) (Cert.MixIdeal.Value.H m c),
    fun c => Cert.MixSpec.out4 (Cert.MixRefIdeal.Read.val_main_v101 (F := Ideal) (Cert.MixIdeal.Value.A m c) (Cert.MixIdeal.Value.U m c) (Cert.MixIdeal.Value.P m c) (Cert.MixIdeal.Value.Z m c)) (Cert.MixIdeal.Value.H m c), ?_, ?_⟩
  · refine (θ_run Cert.MixIdeal.defs _ _).mono (fun r h c => ?_) (Cert.MixIdeal.Value.run_blocks m g)
    obtain ⟨h6, h7, h8, h9, h10, hargs⟩ := h c
    exact ⟨h6.trans (Cert.MixIdeal.Value.final_6 m c), h7.trans (Cert.MixIdeal.Value.final_7 m c), h8.trans (Cert.MixIdeal.Value.final_8 m c),
      h9.trans (Cert.MixIdeal.Value.final_9 m c), h10.trans (Cert.MixIdeal.Value.final_10 m c), hargs⟩
  · refine (θ_run Cert.MixRefIdeal.defs _ _).mono (fun r h c => ?_) (Cert.MixRefIdeal.Value.run m' g')
    obtain ⟨e0, e1, e2, e3, e4, e5⟩ := hagree c
    obtain ⟨r2, r3, r4, r5⟩ := Cert.Pre_finite_mix.reals (hpre c)
    obtain ⟨h0, h1, h2, h3, h4, hargs⟩ := h c
    have k0 : StableHlo.launchContents m' c (Proc.devRef .tc Cert.MixRefIdeal.main_arg0) = Cert.MixIdeal.Value.A m c := e0
    have k1 : StableHlo.launchContents m' c (Proc.devRef .tc Cert.MixRefIdeal.main_arg1) = Cert.MixIdeal.Value.U m c := e1
    have k2 : StableHlo.launchContents m' c (Proc.devRef .tc Cert.MixRefIdeal.main_arg2) = Cert.MixIdeal.Value.P m c := e2
    have k3 : StableHlo.launchContents m' c (Proc.devRef .tc Cert.MixRefIdeal.main_arg3) = Cert.MixIdeal.Value.Z m c := e3
    have k4 : StableHlo.launchContents m' c (Proc.devRef .tc Cert.MixRefIdeal.main_arg4) = Cert.MixIdeal.Value.O m c := e4
    have k5 : StableHlo.launchContents m' c (Proc.devRef .tc Cert.MixRefIdeal.main_arg5) = Cert.MixIdeal.Value.H m c := e5
    refine ⟨h0.trans ?_, h1.trans ?_, h2.trans ?_, h3.trans ?_, h4.trans ?_, hargs⟩
    · refine (Cert.MixRefIdeal.Read.val_main_v202_eq (StableHlo.launchContents m' c)).trans ?_
      rw [k4, k5]
      funext j
      idx_vars j
      exact Cert.MixRefIdeal.Read.v202_at j0 j1
    · refine (Cert.MixRefIdeal.Read.val_main_v203_eq (StableHlo.launchContents m' c)).trans ?_
      rw [k2, k3, k4, k5]
      funext j
      idx_vars j
      exact Cert.MixRefIdeal.Read.v203_at r2 r3 r4 r5 j0 j1
    · refine (Cert.MixRefIdeal.Read.val_main_v204_eq (StableHlo.launchContents m' c)).trans ?_
      rw [k1, k3, k4, k5]
      funext j
      idx_vars j
      exact Cert.MixRefIdeal.Read.v204_at j0 j1 j2
    · refine (Cert.MixRefIdeal.Read.val_main_v200_eq (StableHlo.launchContents m' c)).trans ?_
      rw [k1, k2, k4, k5]
      funext j
      idx_vars j
      exact Cert.MixRefIdeal.Read.v200_at j0 j1
    · refine (Cert.MixRefIdeal.Read.val_main_v206_eq (StableHlo.launchContents m' c)).trans ?_
      rw [k0, k1, k2, k3, k5]
      funext j
      idx_vars j
      exact Cert.MixRefIdeal.Read.v206_at j0 j1

end Cert.MixClaim
end
-- ==== Proof.Qkvu.Spec.lean ====
/- The normalised rows and the input projection, entry by entry. -/
module

public import proofs.«01_k».proof.Proof.Common.Rms

@[expose] public section

noncomputable section

open Idealize.ShloMosaic

namespace Cert.QkvuSpec

variable (x : FVec Ideal ⟨3, ![1, 4096, 1024]⟩ .f32) (g : FVec Ideal ⟨2, ![1, 1024]⟩ .f32)
  (w : FVec Ideal ⟨3, ![1, 1024, 2048]⟩ .f32)

/-- Row `s` of the input, normalised and scaled. -/
def hn (s : Fin 4096) (d : Fin 1024) : EReal :=
  x (ix3 0 s d) * Cert.Rms.inv (fun e => x (ix3 0 s e)) * g (ix2 0 d)

/-- The projection of the normalised row. -/
def z (s : Fin 4096) (k : Fin 2048) : EReal := ∑ d : Fin 1024, hn x g s d * w (ix3 0 d k)

/-- The projection's first 512 columns, scaled by an eighth. -/
def scaled (j : (⟨2, ![4096, 512]⟩ : Shape).Idx) : EReal :=
  z x g w (j 0) ⟨(j 1).val, lt_trans (j 1).isLt (by decide)⟩ * Ideal.ofBits .f32 0x3E000000#32

/-- The projection's 512 columns from column `512 * p` on. -/
def part (p : Fin 4) (j : (⟨2, ![4096, 512]⟩ : Shape).Idx) : EReal :=
  z x g w (j 0) ⟨p.val * 512 + (j 1).val, by have : (j 1).val < 512 := (j 1).isLt; omega⟩

/-- The normalised rows as one matrix. -/
def normed (j : (⟨2, ![4096, 1024]⟩ : Shape).Idx) : EReal := hn x g (j 0) (j 1)

end Cert.QkvuSpec
end
-- ==== Proof.Qkvu.Ker.lean ====
/- What the kernel's five outputs hold when it ends. -/
module

public import proofs.«01_k».proof.Proof.Gen.QkvuIdeal.Value
public import proofs.«01_k».proof.Proof.Qkvu.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.QkvuIdeal.Value

open Cert.QkvuIdeal Cert.QkvuIdeal.Gen

variable (m : (ℓ : Loc nD τ sig) → Buf (Elt Ideal) ℓ)

/-- Every window's block at every grid point. -/
theorem idx_val : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

abbrev X (c : Dev nD) : FVec Ideal S1x4096x1024 .f32 := m ((c : Thread nD τ).loc main_arg0)
abbrev G (c : Dev nD) : FVec Ideal S1x1024 .f32 := m ((c : Thread nD τ).loc main_arg1)
abbrev W (c : Dev nD) : FVec Ideal S1x1024x2048 .f32 := m ((c : Thread nD τ).loc main_arg2)

theorem v3_at (c : Dev nD) (a : Fin 8) (b : Fin 1024) (d : Fin 256) :
    V m c main_v3 (ix3 a b d) = W m c (ix3 0 b ⟨a.val * 256 + d.val, by omega⟩) := by
  entry_read
  pointwise
  blk_ext

theorem v4_at (c : Dev nD) (s : Fin 4096) (d : Fin 1024) : V m c main_v4 (ix2 s d) = X m c (ix3 0 s d) := by
  entry_read
  pointwise

/-- The grid has eight points. -/
theorem point_lt (t : Fin cfg0.N) : t.val < 8 := lt_of_lt_of_le t.isLt (le_of_eq N_0)

/-- The array's row that a grid point's row is. -/
abbrev at_row (t : Fin cfg0.N) (r : Fin 512) : Fin 4096 := ⟨t.val * 512 + r.val, by have := point_lt t; omega⟩

theorem blk0 (c : Dev nD) (t : Fin cfg0.N) (r : Fin 512) (a : Fin 1024) :
    iblk m c 0 t (ix2 r a) = X m c (ix3 0 (at_row t r) a) := by
  refine Eq.trans ?_ (v4_at m c _ a)
  blk_simp [iblk, idx_val t]
  blk_ext [idx_val t]
theorem blk1 (c : Dev nD) (t : Fin cfg0.N) (a : Fin 1024) : iblk m c 1 t (ix2 0 a) = G m c (ix2 0 a) := by
  blk_point [iblk, V, idx_val t]
theorem blk2 (c : Dev nD) (t : Fin cfg0.N) (a : Fin 8) (b : Fin 1024) (d : Fin 256) :
    iblk m c 2 t (ix3 a b d) = W m c (ix3 0 b ⟨a.val * 256 + d.val, by omega⟩) := by
  refine Eq.trans ?_ (v3_at m c a b d)
  blk_simp [iblk, idx_val t]
  blk_ext [idx_val t]

/-- The normalised and scaled rows, from the rows a grid point holds. -/
theorem pay1_at (x : FVec Ideal S512x1024 .f32) (g : FVec Ideal S1x1024 .f32) (r : Fin 512) (d : Fin 1024) :
    k0_pay1 (F := Ideal) x g (ix2 r d) = x (ix2 r d) * Cert.Rms.inv (fun e => x (ix2 r e)) * g (ix2 0 d) := by
  pointwise [k0_pay1, Cert.Rms.inv, Cert.Rms.var]

/-- The grid point's normalised rows. -/
abbrev H (c : Dev nD) (t : Fin cfg0.N) : FVec Ideal S512x1024 .bf16 := k0_pay1 (iblk m c 0 t) (iblk m c 1 t)

theorem H_at (c : Dev nD) (t : Fin cfg0.N) (r : Fin 512) (d : Fin 1024) :
    H m c t (ix2 r d) = Cert.QkvuSpec.hn (X m c) (G m c) (at_row t r) d := by
  refine (pay1_at _ _ r d).trans ?_
  simp only [blk0, blk1]
  rfl

/-- The product of the normalised rows with one slab of the weights. -/
theorem pay4_at (h : FVec Ideal S512x1024 .bf16) (w : FVec Ideal S1x1024x256 .bf16) (r : Fin 512) (b : Fin 256) :
    k0_pay4 h w (ix2 r b) = ∑ d : Fin 1024, h (ix2 r d) * w (ix3 0 d b) := by
  pointwise [k0_pay4]

/-- Slab `a`'s product is the projection's columns from column `256 * a` on. -/
theorem slab_at (c : Dev nD) (t : Fin cfg0.N) (a : Fin 8) (w : FVec Ideal S1x1024x256 .bf16)
    (hw : ∀ d b, w (ix3 0 d b) = iblk m c 2 t (ix3 a d b)) (r : Fin 512) (b : Fin 256) :
    k0_pay4 (H m c t) w (ix2 r b)
      = Cert.QkvuSpec.z (X m c) (G m c) (W m c) (at_row t r) ⟨a.val * 256 + b.val, by omega⟩ := by
  refine (pay4_at _ _ r b).trans ?_
  simp only [hw, H_at, blk2]
  rfl

/-- The load of slab `a` of the weights. -/
theorem ld_at (v : S8x1024x256.Idx → Elt Ideal .bf16) (a : Fin 8) (hb : ∀ i, (![a.val, 0, 0] : Fin 3 → ℕ) i + S1x1024x256.size i ≤ S8x1024x256.size i)
    (d : Fin 1024) (b : Fin 256) :
    View.ld v (Rect.unit ![a.val, 0, 0] S1x1024x256.size hb) (ix3 0 d b) = v (ix3 a d b) := by
  refine congrArg v (funext fun i => Fin.ext ?_)
  match i with
  | ⟨0, _⟩ => exact Nat.add_zero _
  | ⟨1, _⟩ => exact (Nat.zero_add _).trans (Nat.one_mul _)
  | ⟨2, _⟩ => exact (Nat.zero_add _).trans (Nat.one_mul _)

theorem place3 (t : Fin cfg0.N) (y : ((cfg0.win 3).xblock (cfg0.grid.coords t)).Idx) (r e : Fin 512)
    (h0 : (y 0).val = r.val) (h1 : (y 1).val = e.val) :
    ((View.whole main_v5_0).slice (win0_3.rect t)).emb y = ix2 (at_row t r) e := by blk_ext [idx_val t]
theorem place4 (t : Fin cfg0.N) (y : ((cfg0.win 4).xblock (cfg0.grid.coords t)).Idx) (r e : Fin 512)
    (h0 : (y 0).val = r.val) (h1 : (y 1).val = e.val) :
    ((View.whole main_v5_1).slice (win0_4.rect t)).emb y = ix2 (at_row t r) e := by blk_ext [idx_val t]
theorem place5 (t : Fin cfg0.N) (y : ((cfg0.win 5).xblock (cfg0.grid.coords t)).Idx) (r e : Fin 512)
    (h0 : (y 0).val = r.val) (h1 : (y 1).val = e.val) :
    ((View.whole main_v5_2).slice (win0_5.rect t)).emb y = ix2 (at_row t r) e := by blk_ext [idx_val t]
theorem place6 (t : Fin cfg0.N) (y : ((cfg0.win 6).xblock (cfg0.grid.coords t)).Idx) (r e : Fin 512)
    (h0 : (y 0).val = r.val) (h1 : (y 1).val = e.val) :
    ((View.whole main_v5_3).slice (win0_6.rect t)).emb y = ix2 (at_row t r) e := by blk_ext [idx_val t]
theorem place7 (t : Fin cfg0.N) (r : Fin 512) (b : Fin 1024) :
    ((View.whole main_v5_4).slice (win0_7.rect t)).emb (ix2 r b) = ix2 (at_row t r) b := by blk_ext [idx_val t]

theorem final_7 (c : Dev nD) : (dats m 0 c).arrAt 7 (cfgs 0).N = Cert.QkvuSpec.normed (X m c) (G m c) := by
  refine (dats m 0 c).arrAt_eq_of_covers 7 _ (by decide +kernel) fun t hf y => ?_
  blk_simp; rw [after0_7]
  frame_out
  idx_vars y
  exact (H_at m c t y0 y1).trans (congrArg (Cert.QkvuSpec.normed (X m c) (G m c)) (place7 t y0 y1)).symm

/-- The rows the stores read are the normalised rows. -/
theorem pay10_eq (c : Dev nD) (t : Fin cfg0.N) : k0_pay10 (iblk m c 0 t) (iblk m c 1 t) (iblk m c 2 t) = H m c t := by
  unfold k0_pay10
  frame_out

/-- Slab `a`'s product, at a place of part `p`'s output. -/
theorem prod_at (c : Dev nD) (t : Fin cfg0.N) (p : Fin 4) (a : Fin 8) (o : ℕ) (ho : o + 256 ≤ 512) (h : a.val * 256 = p.val * 512 + o)
    (hb : ∀ i, (![a.val, 0, 0] : Fin 3 → ℕ) i + S1x1024x256.size i ≤ S8x1024x256.size i) (r : Fin 512) (b : Fin 256) :
    k0_pay4 (k0_pay10 (iblk m c 0 t) (iblk m c 1 t) (iblk m c 2 t))
      (View.ld (iblk m c 2 t) (Rect.unit ![a.val, 0, 0] S1x1024x256.size hb)) (ix2 r b)
      = Cert.QkvuSpec.part (X m c) (G m c) (W m c) p (ix2 (at_row t r) ⟨o + b.val, by omega⟩) := by
  rw [pay10_eq]
  refine (slab_at m c t a _ (fun d b => ld_at _ a hb d b) r b).trans ?_
  exact congrArg (Cert.QkvuSpec.z _ _ _ _) (Fin.ext (show a.val * 256 + b.val = p.val * 512 + (o + b.val) by omega))

/-- The first products, which are scaled. -/
theorem scaled_at (c : Dev nD) (t : Fin cfg0.N) (a : Fin 2)
    (hb : ∀ i, (![a.val, 0, 0] : Fin 3 → ℕ) i + S1x1024x256.size i ≤ S8x1024x256.size i) (r : Fin 512) (b : Fin 256) :
    k0_pay2 (iblk m c 0 t) (iblk m c 1 t)
      (View.ld (iblk m c 2 t) (Rect.unit ![a.val, 0, 0] S1x1024x256.size hb)) (ix2 r b)
      = Cert.QkvuSpec.scaled (X m c) (G m c) (W m c) (ix2 (at_row t r) ⟨a.val * 256 + b.val, by omega⟩) :=
  congrArg (· * Ideal.ofBits .f32 0x3E000000#32)
    (slab_at m c t ⟨a.val, by omega⟩ _ (fun d b => ld_at _ ⟨a.val, by omega⟩ hb d b) r b)

theorem final_3 (c : Dev nD) : (dats m 0 c).arrAt 3 (cfgs 0).N = Cert.QkvuSpec.scaled (X m c) (G m c) (W m c) := by
  refine (dats m 0 c).arrAt_eq_of_covers 3 _ (by decide +kernel) fun t hf y => ?_
  blk_simp; rw [after0_3]
  frame_out
  canon_tiles y h
  · idx_vars y
    exact (scaled_at m c t 1 _ y0 y1).trans (congrArg _ (place3 t _ y0 ⟨1 * 256 + y1.val, by omega⟩ h0 h1)).symm
  · idx_vars y
    exact (scaled_at m c t 0 _ y0 y1).trans (congrArg _ (place3 t _ y0 ⟨0 * 256 + y1.val, by omega⟩ h0 (h1.trans (by dsimp; omega)))).symm

theorem final_4 (c : Dev nD) : (dats m 0 c).arrAt 4 (cfgs 0).N = Cert.QkvuSpec.part (X m c) (G m c) (W m c) 1 := by
  refine (dats m 0 c).arrAt_eq_of_covers 4 _ (by decide +kernel) fun t hf y => ?_
  blk_simp; rw [after0_4]
  frame_out
  canon_tiles y h
  · idx_vars y
    exact (prod_at m c t 1 3 256 (by decide) rfl _ y0 y1).trans (congrArg _ (place4 t _ y0 ⟨256 + y1.val, by omega⟩ h0 h1)).symm
  · idx_vars y
    exact (prod_at m c t 1 2 0 (by decide) rfl _ y0 y1).trans
      (congrArg _ (place4 t _ y0 ⟨0 + y1.val, by omega⟩ h0 (h1.trans (Nat.zero_add _).symm))).symm

theorem final_5 (c : Dev nD) : (dats m 0 c).arrAt 5 (cfgs 0).N = Cert.QkvuSpec.part (X m c) (G m c) (W m c) 2 := by
  refine (dats m 0 c).arrAt_eq_of_covers 5 _ (by decide +kernel) fun t hf y => ?_
  blk_simp; rw [after0_5]
  frame_out
  canon_tiles y h
  · idx_vars y
    exact (prod_at m c t 2 5 256 (by decide) rfl _ y0 y1).trans (congrArg _ (place5 t _ y0 ⟨256 + y1.val, by omega⟩ h0 h1)).symm
  · idx_vars y
    exact (prod_at m c t 2 4 0 (by decide) rfl _ y0 y1).trans
      (congrArg _ (place5 t _ y0 ⟨0 + y1.val, by omega⟩ h0 (h1.trans (Nat.zero_add _).symm))).symm

theorem final_6 (c : Dev nD) : (dats m 0 c).arrAt 6 (cfgs 0).N = Cert.QkvuSpec.part (X m c) (G m c) (W m c) 3 := by
  refine (dats m 0 c).arrAt_eq_of_covers 6 _ (by decide +kernel) fun t hf y => ?_
  blk_simp; rw [after0_6]
  frame_out
  canon_tiles y h
  · idx_vars y
    exact (prod_at m c t 3 7 256 (by decide) rfl _ y0 y1).trans (congrArg _ (place6 t _ y0 ⟨256 + y1.val, by omega⟩ h0 h1)).symm
  · idx_vars y
    exact (prod_at m c t 3 6 0 (by decide) rfl _ y0 y1).trans
      (congrArg _ (place6 t _ y0 ⟨0 + y1.val, by omega⟩ h0 (h1.trans (Nat.zero_add _).symm))).symm

end Cert.QkvuIdeal.Value
end
-- ==== Proof.Qkvu.Ref.lean ====
/- The reference's projection is the specification's. -/
module

public import proofs.«01_k».proof.Proof.Gen.QkvuRefIdeal.Read
public import proofs.«01_k».proof.Proof.Qkvu.Spec
public import Idealize.ShloMosaic.Lib.Pointwise

@[expose] public section

set_option maxRecDepth 16384

noncomputable section

open Idealize.ShloMosaic Idealize.ShloMosaic.TcCoe Idealize.SL.Sem

namespace Cert.QkvuRefIdeal.Read
open Cert.QkvuRefIdeal Cert.QkvuRefIdeal.Gen

variable (x0 : FVec Ideal S1x4096x1024 .f32) (x1 : FVec Ideal S1x1024 .f32) (x2 : FVec Ideal S1x1024x2048 .f32)

theorem v13_at (s : Fin 4096) (d : Fin 1024) :
    val_main_v13 (F := Ideal) x0 x1 (ix3 0 s d) = Cert.QkvuSpec.hn x0 x1 s d := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    Cert.QkvuSpec.hn, Cert.Rms.inv, Cert.Rms.var]

theorem v15_at (s : Fin 4096) (k : Fin 2048) :
    val_main_v15 (F := Ideal) x0 x1 x2 (ix3 0 s k) = Cert.QkvuSpec.z x0 x1 x2 s k := by
  pointwise [val_main_v15, val_main_v14]
  exact Finset.sum_congr rfl fun d _ => congrArg (· * x2 (ix3 0 d k)) (v13_at x0 x1 s d)

theorem out0 : val_main_v19 (F := Ideal) x0 x1 x2 = Cert.QkvuSpec.scaled x0 x1 x2 := by
  funext j
  idx_vars j
  pointwise [val_main_v19, val_main_v18, val_main_v17, val_main_v16, val_main_cst_2]
  exact congrArg (· * Ideal.ofBits .f32 0x3E000000#32) (v15_at x0 x1 x2 j0 ⟨j1.val, by omega⟩)

theorem out1 : val_main_v21 (F := Ideal) x0 x1 x2 = Cert.QkvuSpec.part x0 x1 x2 1 := by
  funext j
  idx_vars j
  pointwise [val_main_v21, val_main_v20]
  exact v15_at x0 x1 x2 j0 ⟨1 * 512 + j1.val, by omega⟩

theorem out2 : val_main_v23 (F := Ideal) x0 x1 x2 = Cert.QkvuSpec.part x0 x1 x2 2 := by
  funext j
  idx_vars j
  pointwise [val_main_v23, val_main_v22]
  exact v15_at x0 x1 x2 j0 ⟨2 * 512 + j1.val, by omega⟩

theorem out3 : val_main_v25 (F := Ideal) x0 x1 x2 = Cert.QkvuSpec.part x0 x1 x2 3 := by
  funext j
  idx_vars j
  pointwise [val_main_v25, val_main_v24]
  exact v15_at x0 x1 x2 j0 ⟨3 * 512 + j1.val, by omega⟩

theorem out4 : val_main_v27 (F := Ideal) x0 x1 = Cert.QkvuSpec.normed x0 x1 := by
  funext j
  idx_vars j
  pointwise [val_main_v27, val_main_v26]
  exact v13_at x0 x1 j0 j1

end Cert.QkvuRefIdeal.Read
end
-- ==== Proof.Qkvu.Claim.lean ====
/- The input projection, forward: the kernel's arrays are the reference's. -/
module

public import proofs.«01_k».proof.Defs
public import proofs.«01_k».proof.Proof.Gen.QkvuRefIdeal.Run
public import proofs.«01_k».proof.Proof.Qkvu.Ker
public import proofs.«01_k».proof.Proof.Qkvu.Ref
public import Idealize.ShloMosaic.Lib.Claim

@[expose] public section

noncomputable section

open Idealize.ShloMosaic Idealize.SL.Sem

namespace Cert.QkvuClaim

/-- The reference runs and leaves its arguments; it declares no semaphore. -/
theorem frame_ref [hR : Cert.QkvuRefIdeal.Facts] : Cert.quiescent_QkvuRefIdeal := fun m ρ _ =>
  (θ_run Cert.QkvuRefIdeal.defs _ _).mono (fun r h => ⟨fun c => (h c).2.2.2.2.2, sem_eq_zero_of_no_sems (by decide) r.2⟩)
    (Cert.QkvuRefIdeal.Value.run m ρ)

theorem algebraic [hK : Cert.QkvuIdeal.Facts] [hR : Cert.QkvuRefIdeal.Facts] : Cert.algebraic_QkvuIdeal_QkvuRefIdeal := by
  intro m g m' g' _ hagree
  refine ⟨fun c => Cert.QkvuSpec.scaled (Cert.QkvuIdeal.Value.X m c) (Cert.QkvuIdeal.Value.G m c) (Cert.QkvuIdeal.Value.W m c),
    fun c => Cert.QkvuSpec.part (Cert.QkvuIdeal.Value.X m c) (Cert.QkvuIdeal.Value.G m c) (Cert.QkvuIdeal.Value.W m c) 1,
    fun c => Cert.QkvuSpec.part (Cert.QkvuIdeal.Value.X m c) (Cert.QkvuIdeal.Value.G m c) (Cert.QkvuIdeal.Value.W m c) 2,
    fun c => Cert.QkvuSpec.part (Cert.QkvuIdeal.Value.X m c) (Cert.QkvuIdeal.Value.G m c) (Cert.QkvuIdeal.Value.W m c) 3,
    fun c => Cert.QkvuSpec.normed (Cert.QkvuIdeal.Value.X m c) (Cert.QkvuIdeal.Value.G m c), ?_, ?_⟩
  · refine (θ_run Cert.QkvuIdeal.defs _ _).mono (fun r h c => ?_) (Cert.QkvuIdeal.Value.run_blocks m g)
    obtain ⟨h3, h4, h5, h6, h7, hargs⟩ := h c
    exact ⟨h3.trans (Cert.QkvuIdeal.Value.final_3 m c), h4.trans (Cert.QkvuIdeal.Value.final_4 m c),
      h5.trans (Cert.QkvuIdeal.Value.final_5 m c), h6.trans (Cert.QkvuIdeal.Value.final_6 m c),
      h7.trans (Cert.QkvuIdeal.Value.final_7 m c), hargs⟩
  · refine (θ_run Cert.QkvuRefIdeal.defs _ _).mono (fun r h c => ?_) (Cert.QkvuRefIdeal.Value.run m' g')
    obtain ⟨e0, e1, e2⟩ := hagree c
    obtain ⟨h0, h1, h2, h3, h4, hargs⟩ := h c
    refine ⟨h0.trans ?_, h1.trans ?_, h2.trans ?_, h3.trans ?_, h4.trans ?_, hargs⟩
    · rw [e0, e1, e2]
      exact (Cert.QkvuRefIdeal.Read.val_main_v19_eq _ _ _).trans (Cert.QkvuRefIdeal.Read.out0 _ _ _)
    · rw [e0, e1, e2]
      exact (Cert.QkvuRefIdeal.Read.val_main_v21_eq _ _ _).trans (Cert.QkvuRefIdeal.Read.out1 _ _ _)
    · rw [e0, e1, e2]
      exact (Cert.QkvuRefIdeal.Read.val_main_v23_eq _ _ _).trans (Cert.QkvuRefIdeal.Read.out2 _ _ _)
    · rw [e0, e1, e2]
      exact (Cert.QkvuRefIdeal.Read.val_main_v25_eq _ _ _).trans (Cert.QkvuRefIdeal.Read.out3 _ _ _)
    · rw [e0, e1]
      exact (Cert.QkvuRefIdeal.Read.val_main_v27_eq _ _).trans (Cert.QkvuRefIdeal.Read.out4 _ _)

end Cert.QkvuClaim
end
-- ==== Proof.FfnUp.Spec.lean ====
/- The normalised rows, their projection, its convolution along the tokens and the gated product, entry by entry. -/
module

public import proofs.«01_k».proof.Proof.Qkvu.Spec
public import proofs.«01_k».proof.Proof.FfnA.Spec

@[expose] public section

noncomputable section

open Idealize.ShloMosaic

namespace Cert.FfnUpSpec

variable (x : FVec Ideal ⟨3, ![1, 4096, 1024]⟩ .f32) (g : FVec Ideal ⟨2, ![1, 1024]⟩ .f32)
  (w : FVec Ideal ⟨3, ![1, 1024, 5632]⟩ .f32) (k : FVec Ideal ⟨3, ![1, 3, 5632]⟩ .f32) (b : FVec Ideal ⟨2, ![1, 5632]⟩ .f32)

/-- The projection of the normalised rows. -/
def pre : FVec Ideal ⟨3, ![1, 4096, 5632]⟩ .f32 := fun i => ∑ d : Fin 1024, Cert.QkvuSpec.hn x g (i 1) d * w (ix3 0 d (i 2))

theorem pre_at (s : Fin 4096) (c : Fin 5632) : pre x g w (ix3 0 s c) = ∑ d : Fin 1024, Cert.QkvuSpec.hn x g s d * w (ix3 0 d c) := rfl

/-- The convolution of the projection. -/
abbrev up (s : Fin 4096) (c : Fin 5632) : EReal := Cert.FfnASpec.up (pre x g w) k b s c

/-- Column `d` of slab `g`. -/
abbrev col (g : Fin 8) (d : Fin 704) : Fin 5632 := ⟨g.val * 704 + d.val, by omega⟩

/-- The gated product: slab `j` of the convolution is the gate's argument, slab `j + 4` what it multiplies. -/
def prod (j : (⟨3, ![4, 4096, 704]⟩ : Shape).Idx) : EReal :=
  Cert.FfnASpec.silu (up x g w k b (j 1) (col ⟨(j 0).val, lt_trans (j 0).isLt (by decide)⟩ (j 2)))
    * up x g w k b (j 1) (col ⟨(j 0).val + 4, by have : (j 0).val < 4 := (j 0).isLt; omega⟩ (j 2))

/-- The normalised rows as one matrix. -/
abbrev normed : (⟨2, ![4096, 1024]⟩ : Shape).Idx → EReal := Cert.QkvuSpec.normed x g

/-- The projection, slab by slab. -/
def pres (j : (⟨3, ![8, 4096, 704]⟩ : Shape).Idx) : EReal := pre x g w (ix3 0 (j 1) (col (j 0) (j 2)))

/-- The convolution, slab by slab. -/
def ups (j : (⟨3, ![8, 4096, 704]⟩ : Shape).Idx) : EReal := up x g w k b (j 1) (col (j 0) (j 2))

end Cert.FfnUpSpec
end
-- ==== Proof.FfnUp.Blocks.lean ====
/- What the kernel's operands hold at a grid point. -/
module

public import proofs.«01_k».proof.Proof.Gen.FfnUpIdeal.Value
public import proofs.«01_k».proof.Proof.FfnUp.Spec
public import proofs.«01_k».proof.Proof.Common.Stage
public import proofs.«01_k».proof.Proof.Common.Columns
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnUpIdeal.Value

open Cert.FfnUpIdeal Cert.FfnUpIdeal.Gen Cert.FfnUpSpec

variable (m : (ℓ : Loc nD τ sig) → Buf (Elt Ideal) ℓ)

/-- Every window's block at every grid point. -/
theorem idx_val : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![0, t.val, 0]
    ∧ win0_6.index t = ![t.val, 0] ∧ win0_7.index t = ![0, t.val, 0] ∧ win0_8.index t = ![0, t.val, 0] :=
  (by decide +kernel : ∀ t : Fin grid0.N, _)

abbrev X (c : Dev nD) : FVec Ideal S1x4096x1024 .f32 := m ((c : Thread nD τ).loc main_arg0)
abbrev G (c : Dev nD) : FVec Ideal S1x1024 .f32 := m ((c : Thread nD τ).loc main_arg1)
abbrev W (c : Dev nD) : FVec Ideal S1x1024x5632 .f32 := m ((c : Thread nD τ).loc main_arg2)
abbrev K (c : Dev nD) : FVec Ideal S1x3x5632 .f32 := m ((c : Thread nD τ).loc main_arg3)
abbrev B (c : Dev nD) : FVec Ideal S1x5632 .f32 := m ((c : Thread nD τ).loc main_arg4)

/-- The grid has sixteen points. -/
theorem point_lt (t : Fin cfg0.N) : t.val < 16 := lt_of_lt_of_le t.isLt (le_of_eq N_0)

/-- The token in row `r` of the tile a point works on. -/
abbrev tok (t : Fin cfg0.N) (r : Fin 256) : Fin 4096 := ⟨t.val * 256 + r.val, by have := point_lt t; omega⟩

theorem v3_at (c : Dev nD) (g : Fin 8) (a : Fin 1024) (d : Fin 704) : V m c main_v3 (ix3 g a d) = W m c (ix3 0 a (col g d)) := by
  entry_read
  pointwise
  blk_ext
theorem v6_at (c : Dev nD) (g : Fin 8) (n : Fin 3) (d : Fin 704) : V m c main_v6 (ix3 g n d) = K m c (ix3 0 n (col g d)) := by
  entry_read
  pointwise
  blk_ext
theorem v7_at (c : Dev nD) (s : Fin 4096) (d : Fin 1024) : V m c main_v7 (ix2 s d) = X m c (ix3 0 s d) := by
  entry_read
  pointwise
theorem v8_at (c : Dev nD) (g : Fin 8) (d : Fin 704) : V m c main_v8 (ix3 g 0 d) = B m c (ix2 0 (col g d)) := by
  entry_read
  pointwise
  blk_ext

theorem blk0 (c : Dev nD) (t : Fin cfg0.N) (r : Fin 256) (d : Fin 1024) : iblk m c 0 t (ix2 r d) = X m c (ix3 0 (tok t r) d) := by
  refine Eq.trans ?_ (v7_at m c _ d)
  blk_simp [iblk, idx_val t]
  blk_ext [idx_val t]
theorem blk1 (c : Dev nD) (t : Fin cfg0.N) (d : Fin 1024) : iblk m c 1 t (ix2 0 d) = G m c (ix2 0 d) := by
  blk_point [iblk, V, idx_val t]
theorem blk2 (c : Dev nD) (t : Fin cfg0.N) (g : Fin 8) (a : Fin 1024) (d : Fin 704) : iblk m c 2 t (ix3 g a d) = W m c (ix3 0 a (col g d)) := by
  refine Eq.trans ?_ (v3_at m c g a d)
  blk_simp [iblk, idx_val t]
  blk_ext [idx_val t]
theorem blk3 (c : Dev nD) (t : Fin cfg0.N) (g : Fin 8) (n : Fin 3) (d : Fin 704) : iblk m c 3 t (ix3 g n d) = K m c (ix3 0 n (col g d)) := by
  refine Eq.trans ?_ (v6_at m c g n d)
  blk_simp [iblk, idx_val t]
  blk_ext [idx_val t]
theorem blk4 (c : Dev nD) (t : Fin cfg0.N) (g : Fin 8) (d : Fin 704) : iblk m c 4 t (ix3 g 0 d) = B m c (ix2 0 (col g d)) := by
  refine Eq.trans ?_ (v8_at m c g d)
  blk_simp [iblk, idx_val t]
  blk_ext [idx_val t]

/-! The operations on tiles. -/

theorem norm_at (x : FVec Ideal S256x1024 .f32) (g : FVec Ideal S1x1024 .f32) (r : Fin 256) (d : Fin 1024) :
    k0_pay2 (F := Ideal) x g (ix2 r d) = x (ix2 r d) * Cert.Rms.inv (fun e => x (ix2 r e)) * g (ix2 0 d) := by
  pointwise [k0_pay2, Cert.Rms.inv, Cert.Rms.var]

/-- The grid point's normalised rows. -/
abbrev H (c : Dev nD) (t : Fin cfg0.N) : FVec Ideal S256x1024 .bf16 := k0_pay2 (iblk m c 0 t) (iblk m c 1 t)

theorem H_at (c : Dev nD) (t : Fin cfg0.N) (r : Fin 256) (d : Fin 1024) :
    H m c t (ix2 r d) = Cert.QkvuSpec.hn (X m c) (G m c) (tok t r) d := by
  refine (norm_at _ _ r d).trans ?_
  simp only [blk0, blk1]
  rfl

theorem mul_at (h : FVec Ideal S256x1024 .bf16) (w : FVec Ideal S1x1024x704 .bf16) (r : Fin 256) (d : Fin 704) :
    k0_pay12 h w (ix2 r d) = ∑ e : Fin 1024, h (ix2 r e) * w (ix3 0 e d) := by
  pointwise [k0_pay12]
theorem put_at (p : FVec Ideal S256x704 .f32) (z : Fin 1) (r : Fin 256) (d : Fin 704) : k0_pay13 p (ix3 z r d) = p (ix2 r d) := by
  pointwise [k0_pay13]
theorem halo_at (v : FVec Ideal S1x16x704 .f32) (x : Fin 16) (d : Fin 704) : k0_pay14 v (ix2 x d) = v (ix3 0 x d) := by
  pointwise [k0_pay14]
theorem same_at (p : FVec Ideal S256x704 .f32) (r : Fin 256) (d : Fin 704) : k0_pay15 p (ix2 r d) = p (ix2 r d) := by
  pointwise [k0_pay15]
theorem last_at (v : FVec Ideal S16x704 .f32) (z : Fin 1) (x : Fin 16) (d : Fin 704) : k0_pay11 v (ix3 z x d) = v (ix2 x d) := by
  pointwise [k0_pay11]
theorem conv_at (p : FVec Ideal S256x704 .f32) (k : FVec Ideal S1x3x704 .f32) (b : FVec Ideal S1x1x704 .f32) (u v : FVec Ideal S256x704 .f32)
    (r : Fin 256) (d : Fin 704) :
    k0_pay16 p k b u v (ix2 r d) = b (ix3 0 0 d) + k (ix3 0 0 d) * u (ix2 r d) + k (ix3 0 1 d) * v (ix2 r d) + k (ix3 0 2 d) * p (ix2 r d) := by
  pointwise [k0_pay16]
theorem gated_at (p q : FVec Ideal S256x704 .f32) (z : Fin 1) (r : Fin 256) (d : Fin 704) :
    k0_pay20 p q (ix3 z r d) = Cert.FfnASpec.silu (p (ix2 r d)) * q (ix2 r d) := by
  pointwise [k0_pay20]
  rfl
theorem zero_at (i : S8x16x704.Idx) : k0_pay1 (F := Ideal) i = (0 : EReal) := by pointwise [k0_pay1]

/-- Slab `g` of the projection, at a tile's row. -/
theorem pre_tile (c : Dev nD) (t : Fin cfg0.N) (a : ℕ) (ha : a < 8) (i : ∀ x, (![a, 0, 0] : Fin 3 → ℕ) x + (![1, 1024, 704] : Fin 3 → ℕ) x ≤ S8x1024x704.size x)
    (r : Fin 256) (d : Fin 704) :
    k0_pay12 (H m c t) (View.ld (iblk m c 2 t) (Rect.unit ![a, 0, 0] ![1, 1024, 704] i)) (ix2 r d)
      = pre (X m c) (G m c) (W m c) (ix3 0 (tok t r) (col ⟨a, ha⟩ d)) := by
  rw [mul_at, pre_at]
  refine Finset.sum_congr rfl fun e _ => congrArg₂ (· * ·) (H_at m c t r e) ?_
  exact (Cert.Columns.ld_slab i (iblk m c 2 t) 0 e d ⟨a, ha⟩ (by simp)).trans (blk2 m c t _ e d)

end Cert.FfnUpIdeal.Value
end
-- ==== Proof.FfnUp.Tiles.lean ====
/- What the kernel stores for one slab of a tile: the convolution needs the sixteen rows before the tile, which the point before left. -/
module

public import proofs.«01_k».proof.Proof.FfnUp.Blocks
public import Idealize.ShloMosaic.Lib.Pipeline.ReadBack

@[expose] public section

set_option maxRecDepth 16384

noncomputable section

open Idealize.ShloMosaic Idealize.ShloMosaic.TcCoe Idealize.SL.Sem

namespace Cert.FfnUpIdeal.Value

open Cert.FfnUpIdeal Cert.FfnUpIdeal.Gen Cert.FfnUpSpec

variable (m : (ℓ : Loc nD τ sig) → Buf (Elt Ideal) ℓ)

/-- The projection's array. -/
abbrev P (c : Dev nD) : FVec Ideal ⟨3, ![1, 4096, 5632]⟩ .f32 := pre (X m c) (G m c) (W m c)

/-- The sixteen rows before a point's tile, zeros before the first. -/
def halo (c : Dev nD) (t : Fin cfg0.N) (g : Fin 8) (x : Fin 16) (d : Fin 704) : EReal :=
  if 0 < t.val then P m c (ix3 0 ⟨t.val * 256 - 16 + x.val, by have := point_lt t; omega⟩ (col g d)) else 0

/-- Slab `a` of the projection's tile. -/
abbrev tile (c : Dev nD) (t : Fin cfg0.N) (a : ℕ) (iw : ∀ x, (![a, 0, 0] : Fin 3 → ℕ) x + (![1, 1024, 704] : Fin 3 → ℕ) x ≤ S8x1024x704.size x) :
    FVec Ideal S256x704 .f32 := k0_pay12 (H m c t) (View.ld (iblk m c 2 t) (Rect.unit ![a, 0, 0] ![1, 1024, 704] iw))

/-- The stores that fill the buffer the convolution reads: the tile, below the rows before it. -/
abbrev filled (p : FVec Ideal S256x704 .f32) (v : FVec Ideal S1x16x704 .f32)
    (i3 : ∀ x, (![16, 0] : Fin 2 → ℕ) x + (![256, 704] : Fin 2 → ℕ) x ≤ S272x704.size x)
    (i4 : ∀ x, (![0, 0] : Fin 2 → ℕ) x + (![16, 704] : Fin 2 → ℕ) x ≤ S272x704.size x)
    (L : List (View.Piece (Elt Ideal) S272x704 .f32)) : List (View.Piece (Elt Ideal) S272x704 .f32) :=
  (⟨Rect.unit ![16, 0] ![256, 704] i3, k0_pay15 (F := Ideal) p⟩ : View.Piece (Elt Ideal) S272x704 .f32) :: ⟨Rect.unit ![0, 0] ![16, 704] i4, k0_pay14 (F := Ideal) v⟩ :: L

/-- Row `k + r` of that buffer is `n` tokens before row `r`, if `k + n` is sixteen. -/
theorem stage_at (c : Dev nD) (t : Fin cfg0.N) (g : Fin 8) (k n : ℕ) (hn : k + n = 16) (p : FVec Ideal S256x704 .f32) (v : FVec Ideal S1x16x704 .f32)
    (hp : ∀ r d, p (ix2 r d) = P m c (ix3 0 (tok t r) (col g d))) (hv : ∀ x d, v (ix3 0 x d) = halo m c t g x d)
    (i3 : ∀ x, (![16, 0] : Fin 2 → ℕ) x + (![256, 704] : Fin 2 → ℕ) x ≤ S272x704.size x)
    (i4 : ∀ x, (![0, 0] : Fin 2 → ℕ) x + (![16, 704] : Fin 2 → ℕ) x ≤ S272x704.size x)
    (i5 : ∀ x, (![k, 0] : Fin 2 → ℕ) x + (![256, 704] : Fin 2 → ℕ) x ≤ S272x704.size x)
    (L : List (View.Piece (Elt Ideal) S272x704 .f32)) (r : Fin 256) (d : Fin 704) :
    (View.whole cc0_scratch1).readCov (filled p v i3 i4 L) (Rect.unit (s := S272x704) ![k, 0] ![256, 704] i5).toLoadRect (ix2 r d)
      = Cert.FfnASpec.back (P m c) n (tok t r) (col g d) := by
  have ht := point_lt t
  refine Cert.Stage.rows_read (R := 272) (C := 704) (View.whole cc0_scratch1) i3 i4 i5 _ _ L r d _ (fun x hx => ?_) (fun hc => ?_)
  · rw [same_at, hp]
    unfold Cert.FfnASpec.back
    rw [if_pos (show n ≤ t.val * 256 + r.val by omega)]
    exact congrArg (P m c) (congrArg (ix3 0 · _) (Fin.ext (show t.val * 256 + x.val = t.val * 256 + r.val - n by omega)))
  · have hc' : k + r.val < 16 := by omega
    refine ⟨⟨k + r.val, hc'⟩, by simp, ?_⟩
    rw [halo_at, hv]
    unfold halo Cert.FfnASpec.back
    split
    · rw [if_pos (show n ≤ t.val * 256 + r.val by omega)]
      exact congrArg (P m c) (congrArg (ix3 0 · _) (Fin.ext (show t.val * 256 - 16 + (k + r.val) = t.val * 256 + r.val - n by omega)))
    · rw [if_neg (show ¬ n ≤ t.val * 256 + r.val by omega)]

/-- Slab `a` of the convolution, before it is stored. -/
abbrev convolved (c : Dev nD) (t : Fin cfg0.N) (a : ℕ) (v : FVec Ideal S1x16x704 .f32) (iw : ∀ x, (![a, 0, 0] : Fin 3 → ℕ) x + (![1, 1024, 704] : Fin 3 → ℕ) x ≤ S8x1024x704.size x)
    (ik : ∀ x, (![a, 0, 0] : Fin 3 → ℕ) x + (![1, 3, 704] : Fin 3 → ℕ) x ≤ S8x3x704.size x)
    (ib : ∀ x, (![a, 0, 0] : Fin 3 → ℕ) x + (![1, 1, 704] : Fin 3 → ℕ) x ≤ S8x1x704.size x)
    (i3 : ∀ x, (![16, 0] : Fin 2 → ℕ) x + (![256, 704] : Fin 2 → ℕ) x ≤ S272x704.size x)
    (i4 : ∀ x, (![0, 0] : Fin 2 → ℕ) x + (![16, 704] : Fin 2 → ℕ) x ≤ S272x704.size x)
    (i5 : ∀ x, (![14, 0] : Fin 2 → ℕ) x + (![256, 704] : Fin 2 → ℕ) x ≤ S272x704.size x)
    (i6 : ∀ x, (![15, 0] : Fin 2 → ℕ) x + (![256, 704] : Fin 2 → ℕ) x ≤ S272x704.size x)
    (L : List (View.Piece (Elt Ideal) S272x704 .f32)) : FVec Ideal S256x704 .f32 :=
  k0_pay16 (tile m c t a iw) (View.ld (iblk m c 3 t) (Rect.unit ![a, 0, 0] ![1, 3, 704] ik)) (View.ld (iblk m c 4 t) (Rect.unit ![a, 0, 0] ![1, 1, 704] ib))
    ((View.whole cc0_scratch1).readCov (filled (tile m c t a iw) v i3 i4 L) (Rect.unit (s := S272x704) ![14, 0] ![256, 704] i5).toLoadRect)
    ((View.whole cc0_scratch1).readCov (filled (tile m c t a iw) v i3 i4 L) (Rect.unit (s := S272x704) ![15, 0] ![256, 704] i6).toLoadRect)

theorem up_tile (c : Dev nD) (t : Fin cfg0.N) (a : ℕ) (ha : a < 8) (v : FVec Ideal S1x16x704 .f32) (hv : ∀ x d, v (ix3 0 x d) = halo m c t ⟨a, ha⟩ x d)
    (iw ik ib i3 i4 i5 i6) (L) (r : Fin 256) (d : Fin 704) :
    convolved m c t a v iw ik ib i3 i4 i5 i6 L (ix2 r d) = up (X m c) (G m c) (W m c) (K m c) (B m c) (tok t r) (col ⟨a, ha⟩ d) := by
  have hp := pre_tile m c t a ha iw
  have hk (n : Fin 3) := (Cert.Columns.ld_slab ik (iblk m c 3 t) 0 n d ⟨a, ha⟩ (by simp)).trans (blk3 m c t _ n d)
  have hb := (Cert.Columns.ld_slab ib (iblk m c 4 t) 0 0 d ⟨a, ha⟩ (by simp)).trans (blk4 m c t _ d)
  refine (conv_at _ _ _ _ _ r d).trans ?_
  refine congrArg₂ (· + ·) (congrArg₂ (· + ·) (congrArg₂ (· + ·) hb (congrArg₂ (· * ·) (hk 0) ?_)) (congrArg₂ (· * ·) (hk 1) ?_))
    (congrArg₂ (· * ·) (hk 2) (hp r d))
  · exact stage_at m c t ⟨a, ha⟩ 14 2 rfl _ _ hp hv i3 i4 i5 L r d
  · exact stage_at m c t ⟨a, ha⟩ 15 1 rfl _ _ hp hv i3 i4 i6 L r d

/-! The four stores of a slab. -/

theorem pre_store (c : Dev nD) (t : Fin cfg0.N) (g : Fin 8) (a : ℕ) (x : Fin 1) (hg : g.val = a + x.val) (iw) (r : Fin 256) (d : Fin 704) :
    k0_pay13 (tile m c t a iw) (ix3 x r d) = P m c (ix3 0 (tok t r) (col g d)) := by
  obtain rfl : a = g.val := by omega
  exact (put_at _ x r d).trans (pre_tile m c t g.val g.isLt iw r d)

theorem up_store (c : Dev nD) (t : Fin cfg0.N) (g : Fin 8) (a : ℕ) (x : Fin 1) (hg : g.val = a + x.val) (v : FVec Ideal S1x16x704 .f32)
    (hv : ∀ x d, v (ix3 0 x d) = halo m c t ⟨a, by omega⟩ x d) (iw ik ib i3 i4 i5 i6) (L) (r : Fin 256) (d : Fin 704) :
    k0_pay13 (convolved m c t a v iw ik ib i3 i4 i5 i6 L) (ix3 x r d) = up (X m c) (G m c) (W m c) (K m c) (B m c) (tok t r) (col g d) := by
  obtain rfl : a = g.val := by omega
  exact (put_at _ x r d).trans (up_tile m c t g.val g.isLt v hv iw ik ib i3 i4 i5 i6 L r d)

theorem prod_store (c : Dev nD) (t : Fin cfg0.N) (j : Fin 4) (a b : ℕ) (hb : b = a + 4) (x : Fin 1) (hj : j.val = a + x.val)
    (v w : FVec Ideal S1x16x704 .f32) (hv : ∀ x d, v (ix3 0 x d) = halo m c t ⟨a, by omega⟩ x d) (hw : ∀ x d, w (ix3 0 x d) = halo m c t ⟨b, by omega⟩ x d)
    (iw ik ib i3 i4 i5 i6) (L) (iw' ik' ib' i3' i4' i5' i6') (L') (r : Fin 256) (d : Fin 704) :
    k0_pay20 (convolved m c t a v iw ik ib i3 i4 i5 i6 L) (convolved m c t b w iw' ik' ib' i3' i4' i5' i6' L') (ix3 x r d)
      = prod (X m c) (G m c) (W m c) (K m c) (B m c) (ix3 j (tok t r) d) := by
  obtain rfl : a = j.val := by omega
  subst hb
  refine (gated_at _ _ x r d).trans ?_
  rw [up_tile m c t _ (by omega) v hv, up_tile m c t _ (by omega) w hw]
  rfl

/-- The tile's last sixteen rows, kept for the next point. -/
theorem keep_store (c : Dev nD) (t : Fin cfg0.N) (g : Fin 8) (a : ℕ) (y : Fin 1) (hg : g.val = a + y.val) (v : FVec Ideal S1x16x704 .f32) (iw i3 i4)
    (i5 : ∀ x, (![256, 0] : Fin 2 → ℕ) x + (![16, 704] : Fin 2 → ℕ) x ≤ S272x704.size x) (L) (x : Fin 16) (d : Fin 704) :
    k0_pay11 ((View.whole cc0_scratch1).readCov (filled (tile m c t a iw) v i3 i4 L) (Rect.unit (s := S272x704) ![256, 0] ![16, 704] i5).toLoadRect) (ix3 y x d)
      = P m c (ix3 0 (tok t ⟨240 + x.val, by omega⟩) (col g d)) := by
  obtain rfl : a = g.val := by omega
  refine (last_at _ y x d).trans ?_
  refine Cert.Stage.rows_read (R := 272) (C := 704) (View.whole cc0_scratch1) i3 i4 i5 _ _ L x d _ (fun z hz => ?_) (fun hc => by omega)
  refine (same_at _ z d).trans ((pre_tile m c t g.val g.isLt iw z d).trans ?_)
  exact congrArg (fun s => P m c (ix3 0 (tok t s) (col g d))) (Fin.ext (show z.val = 240 + x.val by omega))

end Cert.FfnUpIdeal.Value
end
-- ==== Proof.FfnUp.Ker.lean ====
/- What the kernel's four outputs hold when it ends. -/
module

public import proofs.«01_k».proof.Proof.FfnUp.Tiles

@[expose] public section

set_option maxRecDepth 16384

noncomputable section

open Idealize.ShloMosaic Idealize.ShloMosaic.TcCoe Idealize.SL.Sem

namespace Cert.FfnUpIdeal.Value

open Cert.FfnUpIdeal Cert.FfnUpIdeal.Gen Cert.FfnUpSpec

variable (m : (ℓ : Loc nD τ sig) → Buf (Elt Ideal) ℓ)

set_option maxHeartbeats 1000000 in
/-- Every point keeps the last sixteen rows of its tile of the projection, whatever it found. -/
theorem keep_at (c : Dev nD) (t : Fin cfg0.N) (g : Fin 8) (x : Fin 16) (d : Fin 704) :
    (outsAt0 m c t.val t.isLt).2.2.2.2 (ix3 g x d) = P m c (ix3 0 (tok t ⟨240 + x.val, by omega⟩) (col g d)) := by
  by_cases h : t.val % 16 = 0
  · rw [outsAt0_A m c t h]; dsimp only; frame_out
    iterate 8
      refine Cert.Columns.canon_slab (n := 1) _ _ _ g x d _ (fun y hg => ?_) (fun _ => ?_)
      · exact keep_store m c t g _ y hg _ _ _ _ _ _ x d
    omega
  · rw [outsAt0_B m c t h]; dsimp only; frame_out
    iterate 8
      refine Cert.Columns.canon_slab (n := 1) _ _ _ g x d _ (fun y hg => ?_) (fun _ => ?_)
      · exact keep_store m c t g _ y hg _ _ _ _ _ _ x d
    omega

/-- The first point finds zeros. -/
theorem halo_first (c : Dev nD) (t : Fin cfg0.N) (h : t.val % 16 = 0) (g : Fin 8) (x : Fin 16) (d : Fin 704) : halo m c t g x d = 0 := by
  unfold halo
  rw [if_neg (by have := point_lt t; omega)]

/-- A later point finds what the point before kept. -/
theorem halo_next (c : Dev nD) (t : Fin cfg0.N) (h : ¬ t.val % 16 = 0) (a : ℕ) (ha : a < 8) (i : ∀ x, (![a, 0, 0] : Fin 3 → ℕ) x + (![1, 16, 704] : Fin 3 → ℕ) x ≤ S8x16x704.size x)
    (x : Fin 16) (d : Fin 704) :
    View.ld (outsAt0 m c (t.val - 1) (Nat.lt_of_le_of_lt (Nat.sub_le _ _) t.isLt)).2.2.2.2 (Rect.unit ![a, 0, 0] ![1, 16, 704] i) (ix3 0 x d)
      = halo m c t ⟨a, ha⟩ x d := by
  refine (Cert.Columns.ld_slab i _ 0 x d ⟨a, ha⟩ (by simp)).trans ((keep_at m c ⟨t.val - 1, Nat.lt_of_le_of_lt (Nat.sub_le _ _) t.isLt⟩ _ x d).trans ?_)
  unfold halo
  rw [if_pos (by omega)]
  exact congrArg (P m c) (congrArg (ix3 0 · _) (Fin.ext (show (t.val - 1) * 256 + (240 + x.val) = t.val * 256 - 16 + x.val by omega)))

set_option maxHeartbeats 1000000 in
theorem pre_out (c : Dev nD) (t : Fin cfg0.N) (g : Fin 8) (r : Fin 256) (d : Fin 704) :
    (outsAt0 m c t.val t.isLt).2.2.1 (ix3 g r d) = P m c (ix3 0 (tok t r) (col g d)) := by
  by_cases h : t.val % 16 = 0
  · rw [outsAt0_A m c t h]; dsimp only; frame_out
    iterate 8
      refine Cert.Columns.canon_slab (n := 1) _ _ _ g r d _ (fun x hg => ?_) (fun _ => ?_)
      · exact pre_store m c t g _ x hg _ r d
    omega
  · rw [outsAt0_B m c t h]; dsimp only; frame_out
    iterate 8
      refine Cert.Columns.canon_slab (n := 1) _ _ _ g r d _ (fun x hg => ?_) (fun _ => ?_)
      · exact pre_store m c t g _ x hg _ r d
    omega

set_option maxHeartbeats 1000000 in
theorem norm_out (c : Dev nD) (t : Fin cfg0.N) (r : Fin 256) (d : Fin 1024) :
    (outsAt0 m c t.val t.isLt).2.1 (ix2 r d) = Cert.QkvuSpec.hn (X m c) (G m c) (tok t r) d := by
  by_cases h : t.val % 16 = 0
  · rw [outsAt0_A m c t h]; dsimp only; frame_out
    exact H_at m c t r d
  · rw [outsAt0_B m c t h]; dsimp only; frame_out
    exact H_at m c t r d

set_option maxHeartbeats 2000000 in
theorem up_out (c : Dev nD) (t : Fin cfg0.N) (g : Fin 8) (r : Fin 256) (d : Fin 704) :
    (outsAt0 m c t.val t.isLt).2.2.2.1 (ix3 g r d) = up (X m c) (G m c) (W m c) (K m c) (B m c) (tok t r) (col g d) := by
  by_cases h : t.val % 16 = 0
  · rw [outsAt0_A m c t h]; dsimp only; frame_out
    iterate 8
      refine Cert.Columns.canon_slab (n := 1) _ _ _ g r d _ (fun x hg => ?_) (fun _ => ?_)
      · refine up_store m c t g _ x hg _ (fun x' d' => ?_) _ _ _ _ _ _ _ _ r d
        refine Eq.trans ?_ (halo_first m c t h _ x' d').symm
        refine Cert.Columns.read_slab _ _ _ 0 x' d' _ (fun q hq => ?_)
        have hq' := hq.trans (Nat.add_zero _)
        repeat refine Cert.Columns.canon_slab (n := 1) _ _ _ q x' d' _ (fun y hy => by omega) (fun _ => ?_)
        exact Cert.Columns.canon_slab (n := 8) _ _ _ q x' d' _ (fun y _ => zero_at _) (fun _ => by omega)
    omega
  · rw [outsAt0_B m c t h]; dsimp only; frame_out
    iterate 8
      refine Cert.Columns.canon_slab (n := 1) _ _ _ g r d _ (fun x hg => ?_) (fun _ => ?_)
      · refine up_store m c t g _ x hg _ (fun x' d' => ?_) _ _ _ _ _ _ _ _ r d
        rw [read_unread_whole]
        exact halo_next m c t h _ _ _ x' d'
    omega

set_option maxHeartbeats 4000000 in
theorem prod_out (c : Dev nD) (t : Fin cfg0.N) (j : Fin 4) (r : Fin 256) (d : Fin 704) :
    (outsAt0 m c t.val t.isLt).1 (ix3 j r d) = prod (X m c) (G m c) (W m c) (K m c) (B m c) (ix3 j (tok t r) d) := by
  by_cases h : t.val % 16 = 0
  · rw [outsAt0_A m c t h]; dsimp only; frame_out
    iterate 4
      refine Cert.Columns.canon_slab (n := 1) _ _ _ j r d _ (fun x hg => ?_) (fun _ => ?_)
      · refine prod_store m c t j _ _ rfl x hg _ _ (fun x' d' => ?_) (fun x' d' => ?_) _ _ _ _ _ _ _ _ _ _ _ _ _ _ _ _ r d
        all_goals
          refine Eq.trans ?_ (halo_first m c t h _ x' d').symm
          refine Cert.Columns.read_slab _ _ _ 0 x' d' _ (fun q hq => ?_)
          have hq' := hq.trans (Nat.add_zero _)
          repeat refine Cert.Columns.canon_slab (n := 1) _ _ _ q x' d' _ (fun y hy => by omega) (fun _ => ?_)
          exact Cert.Columns.canon_slab (n := 8) _ _ _ q x' d' _ (fun y _ => zero_at _) (fun _ => by omega)
    omega
  · rw [outsAt0_B m c t h]; dsimp only; frame_out
    iterate 4
      refine Cert.Columns.canon_slab (n := 1) _ _ _ j r d _ (fun x hg => ?_) (fun _ => ?_)
      · refine prod_store m c t j _ _ rfl x hg _ _ (fun x' d' => ?_) (fun x' d' => ?_) _ _ _ _ _ _ _ _ _ _ _ _ _ _ _ _ r d
        all_goals
          rw [read_unread_whole]
          exact halo_next m c t h _ _ _ x' d'
    omega

/-! ## The arrays -/

theorem place5 (t : Fin cfg0.N) (j : Fin 4) (r : Fin 256) (d : Fin 704) : ((View.whole main_v9_0).slice (win0_5.rect t)).emb (ix3 j r d) = ix3 j (tok t r) d := by
  blk_ext [idx_val t]
theorem place6 (t : Fin cfg0.N) (r : Fin 256) (d : Fin 1024) : ((View.whole main_v9_1).slice (win0_6.rect t)).emb (ix2 r d) = ix2 (tok t r) d := by
  blk_ext [idx_val t]
theorem place7 (t : Fin cfg0.N) (g : Fin 8) (r : Fin 256) (d : Fin 704) : ((View.whole main_v9_2).slice (win0_7.rect t)).emb (ix3 g r d) = ix3 g (tok t r) d := by
  blk_ext [idx_val t]
theorem place8 (t : Fin cfg0.N) (g : Fin 8) (r : Fin 256) (d : Fin 704) : ((View.whole main_v9_3).slice (win0_8.rect t)).emb (ix3 g r d) = ix3 g (tok t r) d := by
  blk_ext [idx_val t]

theorem final_5 (c : Dev nD) : (dats m 0 c).arrAt 5 (cfgs 0).N = prod (X m c) (G m c) (W m c) (K m c) (B m c) := by
  refine (dats m 0 c).arrAt_eq_of_covers 5 _ (by decide +kernel) fun t hf y => ?_
  blk_simp; rw [after0_5]
  idx_vars y
  exact (prod_out m c t y0 y1 y2).trans (congrArg (prod (X m c) (G m c) (W m c) (K m c) (B m c)) (place5 t y0 y1 y2)).symm
theorem final_6 (c : Dev nD) : (dats m 0 c).arrAt 6 (cfgs 0).N = normed (X m c) (G m c) := by
  refine (dats m 0 c).arrAt_eq_of_covers 6 _ (by decide +kernel) fun t hf y => ?_
  blk_simp; rw [after0_6]
  idx_vars y
  exact (norm_out m c t y0 y1).trans (congrArg (normed (X m c) (G m c)) (place6 t y0 y1)).symm
theorem final_7 (c : Dev nD) : (dats m 0 c).arrAt 7 (cfgs 0).N = pres (X m c) (G m c) (W m c) := by
  refine (dats m 0 c).arrAt_eq_of_covers 7 _ (by decide +kernel) fun t hf y => ?_
  blk_simp; rw [after0_7]
  idx_vars y
  exact (pre_out m c t y0 y1 y2).trans (congrArg (pres (X m c) (G m c) (W m c)) (place7 t y0 y1 y2)).symm
theorem final_8 (c : Dev nD) : (dats m 0 c).arrAt 8 (cfgs 0).N = ups (X m c) (G m c) (W m c) (K m c) (B m c) := by
  refine (dats m 0 c).arrAt_eq_of_covers 8 _ (by decide +kernel) fun t hf y => ?_
  blk_simp; rw [after0_8]
  idx_vars y
  exact (up_out m c t y0 y1 y2).trans (congrArg (ups (X m c) (G m c) (W m c) (K m c) (B m c)) (place8 t y0 y1 y2)).symm

end Cert.FfnUpIdeal.Value
end
-- ==== Proof.FfnUp.Ref.lean ====
/- The reference's arrays are the specification's. -/
module

public import proofs.«01_k».proof.Proof.Gen.FfnUpRefIdeal.Read
public import proofs.«01_k».proof.Proof.FfnUp.Spec
public import Idealize.ShloMosaic.Lib.Pointwise

@[expose] public section

set_option maxRecDepth 16384

noncomputable section

open Idealize.ShloMosaic Idealize.ShloMosaic.TcCoe Idealize.SL.Sem

namespace Cert.FfnUpRefIdeal.Read
open Cert.FfnUpRefIdeal Cert.FfnUpRefIdeal.Gen Cert.FfnASpec

variable (x0 : FVec Ideal S1x4096x1024 .f32) (x1 : FVec Ideal S1x1024 .f32) (x2 : FVec Ideal S1x1024x5632 .f32)
  (x3 : FVec Ideal S1x3x5632 .f32) (x4 : FVec Ideal S1x5632 .f32)

theorem v13_at (s : Fin 4096) (d : Fin 1024) :
    val_main_v13 (F := Ideal) x0 x1 (ix3 0 s d) = Cert.QkvuSpec.hn x0 x1 s d := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    Cert.QkvuSpec.hn, Cert.Rms.inv, Cert.Rms.var]

theorem v15_at (s : Fin 4096) (c : Fin 5632) :
    val_main_v15 (F := Ideal) x0 x1 x2 (ix3 0 s c) = Cert.FfnUpSpec.pre x0 x1 x2 (ix3 0 s c) := by
  rw [Cert.FfnUpSpec.pre_at]
  pointwise [val_main_v15, val_main_v14]
  exact Finset.sum_congr rfl fun d _ => congrArg (· * x2 (ix3 0 d c)) (v13_at x0 x1 s d)

/-- Rows behind `n` rows of zeros are the rows `n` tokens before. -/
theorem shifted (p : FVec Ideal S1x4096x5632 .f32) (n : ℕ) (s : Fin 4096) (c : Fin 5632) :
    (if h : s.val < n then (0 : EReal) else p (ix3 0 ⟨s.val - n, by omega⟩ c)) = back p n s c := by
  unfold back
  by_cases h : s.val < n
  · rw [dif_pos h, if_neg (by omega)]
  · rw [dif_neg h, if_pos (by omega)]

theorem v15_eq : val_main_v15 (F := Ideal) x0 x1 x2 = Cert.FfnUpSpec.pre x0 x1 x2 := by
  funext i
  idx_vars i
  obtain rfl : i0 = 0 := Subsingleton.elim _ _
  exact v15_at x0 x1 x2 i1 i2

theorem v22_at (s : Fin 4096) (c : Fin 5632) :
    val_main_v22 (F := Ideal) x0 x1 x2 (ix3 0 s c) = back (Cert.FfnUpSpec.pre x0 x1 x2) 2 s c := by
  pointwise [val_main_v22, val_main_v21, val_main_v20, val_main_cst_2]
  rw [v15_eq]
  exact shifted _ 2 s c
theorem v33_at (s : Fin 4096) (c : Fin 5632) :
    val_main_v33 (F := Ideal) x0 x1 x2 (ix3 0 s c) = back (Cert.FfnUpSpec.pre x0 x1 x2) 1 s c := by
  pointwise [val_main_v33, val_main_v32, val_main_v31, val_main_cst_3]
  rw [v15_eq]
  exact shifted _ 1 s c
theorem v43_at (s : Fin 4096) (c : Fin 5632) :
    val_main_v43 (F := Ideal) x0 x1 x2 x3 x4 (ix3 0 s c) = Cert.FfnUpSpec.up x0 x1 x2 x3 x4 s c := by
  pointwise [val_main_v43, val_main_v42, val_main_v41, val_main_v40, val_main_v39, val_main_v38, val_main_v37, val_main_v36, val_main_v35,
    val_main_v34, val_main_v30, val_main_v29, val_main_v28, val_main_v27, val_main_v26, val_main_v25, val_main_v24, val_main_v23, val_main_v19,
    val_main_v18, val_main_v17, val_main_v16]
  rw [v22_at, v33_at, v15_eq]
  rfl
theorem v46_at (s : Fin 4096) (c : Fin 2816) :
    val_main_v46 (F := Ideal) x0 x1 x2 x3 x4 (ix3 0 s c) = silu (Cert.FfnUpSpec.up x0 x1 x2 x3 x4 s ⟨c.val, by omega⟩) := by
  pointwise [val_main_v46, val_main_call0_v5, val_main_call0_v4, val_main_call0_v3, val_main_call0_v2, val_main_call0_v1, val_main_call0_v0,
    val_main_call0_cst, val_main_call0_cst_0, val_main_v44]
  rw [v43_at]
  rfl

theorem out0 : val_main_v51 (F := Ideal) x0 x1 x2 x3 x4 = Cert.FfnUpSpec.prod x0 x1 x2 x3 x4 := by
  funext j
  idx_vars j
  pointwise [val_main_v51, val_main_v50, val_main_v49, val_main_v48, val_main_v47, val_main_v45]
  rw [v46_at, v43_at]
  unfold Cert.FfnUpSpec.prod
  refine congrArg _ (congrArg _ (Fin.ext ?_))
  show 2816 + (j0.val * 704 + j2.val) = (j0.val + 4) * 704 + j2.val
  omega
theorem out1 : val_main_v53 (F := Ideal) x0 x1 = Cert.FfnUpSpec.normed x0 x1 := by
  funext j
  idx_vars j
  pointwise [val_main_v53, val_main_v52]
  exact v13_at x0 x1 j0 j1
theorem out2 : val_main_v57 (F := Ideal) x0 x1 x2 = Cert.FfnUpSpec.pres x0 x1 x2 := by
  funext j
  idx_vars j
  pointwise [val_main_v57, val_main_v56, val_main_v55, val_main_v54]
  exact v15_at x0 x1 x2 j1 (Cert.FfnUpSpec.col j0 j2)
theorem out3 : val_main_v61 (F := Ideal) x0 x1 x2 x3 x4 = Cert.FfnUpSpec.ups x0 x1 x2 x3 x4 := by
  funext j
  idx_vars j
  pointwise [val_main_v61, val_main_v60, val_main_v59, val_main_v58]
  exact v43_at x0 x1 x2 x3 x4 j1 (Cert.FfnUpSpec.col j0 j2)

end Cert.FfnUpRefIdeal.Read
end
-- ==== Proof.FfnUp.Claim.lean ====
/- The feed-forward's first half, forward: the kernel's arrays are the reference's. -/
module

public import proofs.«01_k».proof.Defs
public import proofs.«01_k».proof.Proof.Gen.FfnUpRefIdeal.Run
public import proofs.«01_k».proof.Proof.FfnUp.Ker
public import proofs.«01_k».proof.Proof.FfnUp.Ref
public import Idealize.ShloMosaic.Lib.Claim

@[expose] public section

noncomputable section

open Idealize.ShloMosaic Idealize.SL.Sem

namespace Cert.FfnUpClaim

open Cert.FfnUpIdeal.Value (X G W K B)

/-- The reference runs and leaves its arguments; it declares no semaphore. -/
theorem frame_ref [hR : Cert.FfnUpRefIdeal.Facts] : Cert.quiescent_FfnUpRefIdeal := fun m ρ _ =>
  (θ_run Cert.FfnUpRefIdeal.defs _ _).mono (fun r h => ⟨fun c => (h c).2.2.2.2, sem_eq_zero_of_no_sems (by decide) r.2⟩)
    (Cert.FfnUpRefIdeal.Value.run m ρ)

theorem algebraic [hK : Cert.FfnUpIdeal.Facts] [hR : Cert.FfnUpRefIdeal.Facts] : Cert.algebraic_FfnUpIdeal_FfnUpRefIdeal := by
  intro m g m' g' _ hagree
  refine ⟨fun c => Cert.FfnUpSpec.prod (X m c) (G m c) (W m c) (K m c) (B m c), fun c => Cert.FfnUpSpec.normed (X m c) (G m c),
    fun c => Cert.FfnUpSpec.pres (X m c) (G m c) (W m c), fun c => Cert.FfnUpSpec.ups (X m c) (G m c) (W m c) (K m c) (B m c), ?_, ?_⟩
  · refine (θ_run Cert.FfnUpIdeal.defs _ _).mono (fun r h c => ?_) (Cert.FfnUpIdeal.Value.run_blocks m g)
    obtain ⟨h5, h6, h7, h8, hargs⟩ := h c
    exact ⟨h5.trans (Cert.FfnUpIdeal.Value.final_5 m c), h6.trans (Cert.FfnUpIdeal.Value.final_6 m c),
      h7.trans (Cert.FfnUpIdeal.Value.final_7 m c), h8.trans (Cert.FfnUpIdeal.Value.final_8 m c), hargs⟩
  · refine (θ_run Cert.FfnUpRefIdeal.defs _ _).mono (fun r h c => ?_) (Cert.FfnUpRefIdeal.Value.run m' g')
    obtain ⟨e0, e1, e2, e3, e4⟩ := hagree c
    obtain ⟨h0, h1, h2, h3, hargs⟩ := h c
    refine ⟨h0.trans ?_, h1.trans ?_, h2.trans ?_, h3.trans ?_, hargs⟩
    · refine (Cert.FfnUpRefIdeal.Read.val_main_v51_eq m' c).trans ((Cert.FfnUpRefIdeal.Read.out0 _ _ _ _ _).trans ?_)
      rw [e0, e1, e2, e3, e4]
    · rw [e0, e1]
      exact (Cert.FfnUpRefIdeal.Read.val_main_v53_eq _ _).trans (Cert.FfnUpRefIdeal.Read.out1 _ _)
    · rw [e0, e1, e2]
      exact (Cert.FfnUpRefIdeal.Read.val_main_v57_eq _ _ _).trans (Cert.FfnUpRefIdeal.Read.out2 _ _ _)
    · refine (Cert.FfnUpRefIdeal.Read.val_main_v61_eq m' c).trans ((Cert.FfnUpRefIdeal.Read.out3 _ _ _ _ _).trans ?_)
      rw [e0, e1, e2, e3, e4]

end Cert.FfnUpClaim
end
-- ==== Proof.FfnDown.Spec.lean ====
/- The second product of the feed-forward layer and the residual, entry by entry. -/
module

public import Idealize.ShloMosaic.Lib.Pointwise

@[expose] public section

noncomputable section

open Idealize.ShloMosaic

namespace Cert.FfnDownSpec

variable (x : FVec Ideal ⟨3, ![1, 4096, 1024]⟩ .f32) (a : FVec Ideal ⟨3, ![1, 4096, 2816]⟩ .f32)
  (w : FVec Ideal ⟨3, ![1, 2816, 1024]⟩ .f32)

/-- The part of row `s`'s product with column `d` that quarter `q` of the channels gives. -/
def quarter (q : Fin 4) (s : Fin 4096) (d : Fin 1024) : EReal :=
  ∑ k : Fin 704, a (ix3 0 s ⟨q.val * 704 + k.val, by omega⟩) * w (ix3 0 ⟨q.val * 704 + k.val, by omega⟩ d)

/-- The input and the four parts. -/
def out (j : (⟨2, ![4096, 1024]⟩ : Shape).Idx) : EReal :=
  x (ix3 0 (j 0) (j 1)) + quarter a w 0 (j 0) (j 1) + quarter a w 1 (j 0) (j 1) + quarter a w 2 (j 0) (j 1)
    + quarter a w 3 (j 0) (j 1)

/-- A sum over the channels is the sum of its four quarters. -/
theorem sum_quarters (f : Fin 2816 → EReal) :
    ∑ k : Fin 2816, f k = ∑ q : Fin 4, ∑ k : Fin 704, f ⟨q.val * 704 + k.val, by omega⟩ := by
  rw [← Fintype.sum_prod_type', ← Equiv.sum_comp (finProdFinEquiv (m := 4) (n := 704))]
  refine Finset.sum_congr rfl fun p _ => congrArg f (Fin.ext ?_)
  show p.2.val + 704 * p.1.val = p.1.val * 704 + p.2.val
  omega

/-- The whole product is the sum of its four parts. -/
theorem whole (s : Fin 4096) (d : Fin 1024) :
    x (ix3 0 s d) + ∑ k : Fin 2816, a (ix3 0 s k) * w (ix3 0 k d) = out x a w (ix2 s d) := by
  rw [sum_quarters fun k => a (ix3 0 s k) * w (ix3 0 k d), Fin.sum_univ_four]
  simp only [← add_assoc]
  rfl

end Cert.FfnDownSpec
end
-- ==== Proof.FfnDown.Ker.lean ====
/- What the kernel's output holds when it ends. -/
module

public import proofs.«01_k».proof.Proof.Gen.FfnDownIdeal.Value
public import proofs.«01_k».proof.Proof.FfnDown.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnDownIdeal.Value

open Cert.FfnDownIdeal Cert.FfnDownIdeal.Gen

variable (m : (ℓ : Loc nD τ sig) → Buf (Elt Ideal) ℓ)

/-- Every window's block at every grid point. -/
theorem idx_val : ∀ t : Fin cfg0.N, win0_0.index t = ![t.val, 0] ∧ win0_1.index t = ![0, t.val, 0] ∧ win0_2.index t = ![0, 0, 0]
    ∧ win0_3.index t = ![t.val, 0] :=
  (by decide +kernel : ∀ t : Fin grid0.N, _)

abbrev X (c : Dev nD) : FVec Ideal S1x4096x1024 .f32 := m ((c : Thread nD τ).loc main_arg0)
abbrev A (c : Dev nD) : FVec Ideal S1x4096x2816 .f32 := m ((c : Thread nD τ).loc main_arg1)
abbrev W (c : Dev nD) : FVec Ideal S1x2816x1024 .f32 := m ((c : Thread nD τ).loc main_arg2)

theorem v3_at (c : Dev nD) (q : Fin 4) (s : Fin 4096) (k : Fin 704) :
    V m c main_v3 (ix3 q s k) = A m c (ix3 0 s ⟨q.val * 704 + k.val, by omega⟩) := by
  entry_read
  pointwise
  blk_ext

theorem v4_at (c : Dev nD) (s : Fin 4096) (d : Fin 1024) : V m c main_v4 (ix2 s d) = X m c (ix3 0 s d) := by
  entry_read
  pointwise

theorem v7_at (c : Dev nD) (q : Fin 4) (k : Fin 704) (d : Fin 1024) :
    V m c main_v7 (ix3 q k d) = W m c (ix3 0 ⟨q.val * 704 + k.val, by omega⟩ d) := by
  entry_read
  pointwise
  blk_ext

/-- The grid has eight points. -/
theorem point_lt (t : Fin cfg0.N) : t.val < 8 := lt_of_lt_of_le t.isLt (le_of_eq N_0)

/-- The array's row that a grid point's row is. -/
abbrev at_row (t : Fin cfg0.N) (r : Fin 512) : Fin 4096 := ⟨t.val * 512 + r.val, by have := point_lt t; omega⟩

theorem blk0 (c : Dev nD) (t : Fin cfg0.N) (r : Fin 512) (d : Fin 1024) :
    iblk m c 0 t (ix2 r d) = X m c (ix3 0 (at_row t r) d) := by
  refine Eq.trans ?_ (v4_at m c _ d)
  blk_simp [iblk, idx_val t]
  blk_ext [idx_val t]
theorem blk1 (c : Dev nD) (t : Fin cfg0.N) (q : Fin 4) (r : Fin 512) (k : Fin 704) :
    iblk m c 1 t (ix3 q r k) = A m c (ix3 0 (at_row t r) ⟨q.val * 704 + k.val, by omega⟩) := by
  refine Eq.trans ?_ (v3_at m c q _ k)
  blk_simp [iblk, idx_val t]
  blk_ext [idx_val t]
theorem blk2 (c : Dev nD) (t : Fin cfg0.N) (q : Fin 4) (k : Fin 704) (d : Fin 1024) :
    iblk m c 2 t (ix3 q k d) = W m c (ix3 0 ⟨q.val * 704 + k.val, by omega⟩ d) := by
  refine Eq.trans ?_ (v7_at m c q k d)
  blk_simp [iblk, idx_val t]
  blk_ext [idx_val t]

/-- The block of rows and the four parts of the product. -/
theorem pay1_at (x : FVec Ideal S512x1024 .f32) (a0 : FVec Ideal S1x512x704 .bf16) (w0 : FVec Ideal S1x704x1024 .bf16)
    (a1 : FVec Ideal S1x512x704 .bf16) (w1 : FVec Ideal S1x704x1024 .bf16) (a2 : FVec Ideal S1x512x704 .bf16)
    (w2 : FVec Ideal S1x704x1024 .bf16) (a3 : FVec Ideal S1x512x704 .bf16) (w3 : FVec Ideal S1x704x1024 .bf16)
    (r : Fin 512) (d : Fin 1024) :
    k0_pay1 (F := Ideal) x a0 w0 a1 w1 a2 w2 a3 w3 (ix2 r d)
      = x (ix2 r d) + (∑ k : Fin 704, a0 (ix3 0 r k) * w0 (ix3 0 k d)) + (∑ k : Fin 704, a1 (ix3 0 r k) * w1 (ix3 0 k d))
        + (∑ k : Fin 704, a2 (ix3 0 r k) * w2 (ix3 0 k d)) + (∑ k : Fin 704, a3 (ix3 0 r k) * w3 (ix3 0 k d)) := by
  pointwise [k0_pay1]

/-- The load of quarter `q` of the channels. -/
theorem ld_a (v : S4x512x704.Idx → Elt Ideal .bf16) (q : Fin 4)
    (hb : ∀ i, (![q.val, 0, 0] : Fin 3 → ℕ) i + S1x512x704.size i ≤ S4x512x704.size i) (r : Fin 512) (k : Fin 704) :
    View.ld v (Rect.unit ![q.val, 0, 0] S1x512x704.size hb) (ix3 0 r k) = v (ix3 q r k) := by
  refine congrArg v (funext fun i => Fin.ext ?_)
  match i with
  | ⟨0, _⟩ => exact Nat.add_zero _
  | ⟨1, _⟩ => exact (Nat.zero_add _).trans (Nat.one_mul _)
  | ⟨2, _⟩ => exact (Nat.zero_add _).trans (Nat.one_mul _)

/-- The load of quarter `q` of the weights' rows. -/
theorem ld_w (v : S4x704x1024.Idx → Elt Ideal .bf16) (q : Fin 4)
    (hb : ∀ i, (![q.val, 0, 0] : Fin 3 → ℕ) i + S1x704x1024.size i ≤ S4x704x1024.size i) (k : Fin 704) (d : Fin 1024) :
    View.ld v (Rect.unit ![q.val, 0, 0] S1x704x1024.size hb) (ix3 0 k d) = v (ix3 q k d) := by
  refine congrArg v (funext fun i => Fin.ext ?_)
  match i with
  | ⟨0, _⟩ => exact Nat.add_zero _
  | ⟨1, _⟩ => exact (Nat.zero_add _).trans (Nat.one_mul _)
  | ⟨2, _⟩ => exact (Nat.zero_add _).trans (Nat.one_mul _)

/-- Quarter `q`'s product, from the loads. -/
theorem quarter_at (c : Dev nD) (t : Fin cfg0.N) (q : Fin 4) (a : FVec Ideal S1x512x704 .bf16) (w : FVec Ideal S1x704x1024 .bf16)
    (ha : ∀ r k, a (ix3 0 r k) = iblk m c 1 t (ix3 q r k)) (hw : ∀ k d, w (ix3 0 k d) = iblk m c 2 t (ix3 q k d))
    (r : Fin 512) (d : Fin 1024) :
    ∑ k : Fin 704, a (ix3 0 r k) * w (ix3 0 k d) = Cert.FfnDownSpec.quarter (A m c) (W m c) q (at_row t r) d :=
  Finset.sum_congr rfl fun k _ =>
    congrArg₂ (· * ·) ((ha r k).trans (blk1 m c t q r k)) ((hw k d).trans (blk2 m c t q k d))

theorem place3 (t : Fin cfg0.N) (r : Fin 512) (d : Fin 1024) :
    ((View.whole main_v8).slice (win0_3.rect t)).emb (ix2 r d) = ix2 (at_row t r) d := by blk_ext [idx_val t]

theorem final_3 (c : Dev nD) : (dats m 0 c).arrAt 3 (cfgs 0).N = Cert.FfnDownSpec.out (X m c) (A m c) (W m c) := by
  refine (dats m 0 c).arrAt_eq_of_covers 3 _ (by decide +kernel) fun t hf y => ?_
  blk_simp; rw [after0_3]
  frame_out
  idx_vars y
  refine Eq.trans ?_ (congrArg (Cert.FfnDownSpec.out (X m c) (A m c) (W m c)) (place3 t y0 y1)).symm
  refine (pay1_at _ _ _ _ _ _ _ _ _ y0 y1).trans ?_
  exact congrArg₂ (· + ·) (congrArg₂ (· + ·) (congrArg₂ (· + ·) (congrArg₂ (· + ·) (blk0 m c t y0 y1)
    (quarter_at m c t 0 _ _ (fun r k => ld_a _ 0 _ r k) (fun k d => ld_w _ 0 _ k d) y0 y1)) (quarter_at m c t 1 _ _ (fun r k => ld_a _ 1 _ r k) (fun k d => ld_w _ 1 _ k d) y0 y1)) (quarter_at m c t 2 _ _ (fun r k => ld_a _ 2 _ r k) (fun k d => ld_w _ 2 _ k d) y0 y1))
    (quarter_at m c t 3 _ _ (fun r k => ld_a _ 3 _ r k) (fun k d => ld_w _ 3 _ k d) y0 y1)

end Cert.FfnDownIdeal.Value
end
-- ==== Proof.FfnDown.Ref.lean ====
/- The reference's product and residual are the specification's. -/
module

public import proofs.«01_k».proof.Proof.Gen.FfnDownRefIdeal.Read
public import proofs.«01_k».proof.Proof.FfnDown.Spec
public import Idealize.ShloMosaic.Lib.Pointwise

@[expose] public section

set_option maxRecDepth 16384

noncomputable section

open Idealize.ShloMosaic Idealize.ShloMosaic.TcCoe Idealize.SL.Sem

namespace Cert.FfnDownRefIdeal.Read
open Cert.FfnDownRefIdeal Cert.FfnDownRefIdeal.Gen

theorem out (x0 : FVec Ideal S1x4096x1024 .f32) (x1 : FVec Ideal S1x4096x2816 .f32) (x2 : FVec Ideal S1x2816x1024 .f32) :
    val_main_v3 (F := Ideal) x0 x1 x2 = Cert.FfnDownSpec.out x0 x1 x2 := by
  funext j
  idx_vars j
  refine Eq.trans ?_ (Cert.FfnDownSpec.whole x0 x1 x2 j0 j1)
  pointwise [val_main_v3, val_main_v2, val_main_v1, val_main_v0]

end Cert.FfnDownRefIdeal.Read
end
-- ==== Proof.FfnDown.Claim.lean ====
/- The product with w_down and the residual: the kernel's array is the reference's. -/
module

public import proofs.«01_k».proof.Defs
public import proofs.«01_k».proof.Proof.Gen.FfnDownRefIdeal.Run
public import proofs.«01_k».proof.Proof.FfnDown.Ker
public import proofs.«01_k».proof.Proof.FfnDown.Ref
public import Idealize.ShloMosaic.Lib.Claim

@[expose] public section

noncomputable section

open Idealize.ShloMosaic Idealize.SL.Sem

namespace Cert.FfnDownClaim

/-- The reference runs and leaves its arguments; it declares no semaphore. -/
theorem frame_ref [hR : Cert.FfnDownRefIdeal.Facts] : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run m ρ)

theorem algebraic [hK : Cert.FfnDownIdeal.Facts] [hR : Cert.FfnDownRefIdeal.Facts] : Cert.algebraic_FfnDownIdeal_FfnDownRefIdeal := by
  intro m g m' g' _ hagree
  refine ⟨fun c => Cert.FfnDownSpec.out (Cert.FfnDownIdeal.Value.X m c) (Cert.FfnDownIdeal.Value.A m c) (Cert.FfnDownIdeal.Value.W m c), ?_, ?_⟩
  · refine (θ_run Cert.FfnDownIdeal.defs _ _).mono (fun r h c => ?_) (Cert.FfnDownIdeal.Value.run_blocks m g)
    obtain ⟨h3, hargs⟩ := h c
    exact ⟨h3.trans (Cert.FfnDownIdeal.Value.final_3 m c), hargs⟩
  · refine (θ_run Cert.FfnDownRefIdeal.defs _ _).mono (fun r h c => ?_) (Cert.FfnDownRefIdeal.Value.run m' g')
    obtain ⟨e0, e1, e2⟩ := hagree c
    obtain ⟨h0, hargs⟩ := h c
    refine ⟨h0.trans ?_, hargs⟩
    rw [e0, e1, e2]
    exact (Cert.FfnDownRefIdeal.Read.val_main_v3_eq _ _ _).trans (Cert.FfnDownRefIdeal.Read.out _ _ _)

end Cert.FfnDownClaim
end
-- ==== Proof.Wgrad.Spec.lean ====
/- A weight gradient as a plain product over the tokens, entry by entry. -/
module

public import Idealize.ShloMosaic.Lib.Pointwise

@[expose] public section

noncomputable section

open Idealize.ShloMosaic

namespace Cert.WgradSpec

variable (x : FVec Ideal ⟨3, ![1, 4096, 1024]⟩ .f32) (y : FVec Ideal ⟨3, ![1, 4096, 5632]⟩ .f32)

/-- Channel `k`'s gradient with respect to its weight on column `d`, summed over the tokens. -/
def entry (k : Fin 5632) (d : Fin 1024) : EReal := ∑ s : Fin 4096, y (ix3 0 s k) * x (ix3 0 s d)

/-- The gradient in eight parts of 704 channels. -/
def out (j : (⟨3, ![8, 704, 1024]⟩ : Shape).Idx) : EReal :=
  entry x y ⟨(j 0).val * 704 + (j 1).val, by
    have : (j 0).val < 8 := (j 0).isLt
    have : (j 1).val < 704 := (j 1).isLt
    omega⟩ (j 2)

end Cert.WgradSpec
end
-- ==== Proof.Wgrad.Ker.lean ====
/- What the kernel's output holds when it ends. -/
module

public import proofs.«01_k».proof.Proof.Gen.WgradIdeal.Value
public import proofs.«01_k».proof.Proof.Wgrad.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.WgradIdeal.Value

open Cert.WgradIdeal Cert.WgradIdeal.Gen

variable (m : (ℓ : Loc nD τ sig) → Buf (Elt Ideal) ℓ)

/-- Every window's block at every grid point. -/
theorem idx_val : ∀ t : Fin cfg0.N, win0_0.index t = ![t.val, 0, 0] ∧ win0_1.index t = ![0, 0] ∧ win0_2.index t = ![t.val, 0, 0] :=
  (by decide +kernel : ∀ t : Fin grid0.N, _)

abbrev X (c : Dev nD) : FVec Ideal S1x4096x1024 .f32 := m ((c : Thread nD τ).loc main_arg0)
abbrev Y (c : Dev nD) : FVec Ideal S1x4096x5632 .f32 := m ((c : Thread nD τ).loc main_arg1)

theorem v3_at (c : Dev nD) (q : Fin 8) (s : Fin 4096) (k : Fin 704) :
    V m c main_v3 (ix3 q s k) = Y m c (ix3 0 s ⟨q.val * 704 + k.val, by omega⟩) := by
  entry_read
  pointwise
  blk_ext

theorem v5_at (c : Dev nD) (s : Fin 4096) (d : Fin 1024) : V m c main_v5 (ix2 s d) = X m c (ix3 0 s d) := by
  entry_read
  pointwise

/-- The grid has eight points. -/
theorem point_lt (t : Fin cfg0.N) : t.val < 8 := lt_of_lt_of_le t.isLt (le_of_eq N_0)

theorem blk0 (c : Dev nD) (t : Fin cfg0.N) (s : Fin 4096) (k : Fin 704) :
    iblk m c 0 t (ix3 0 s k) = Y m c (ix3 0 s ⟨t.val * 704 + k.val, by have := point_lt t; omega⟩) := by
  refine Eq.trans ?_ (v3_at m c ⟨t.val, point_lt t⟩ s k)
  blk_simp [iblk, idx_val t]
  blk_ext [idx_val t]
theorem blk1 (c : Dev nD) (t : Fin cfg0.N) (s : Fin 4096) (d : Fin 1024) :
    iblk m c 1 t (ix2 s d) = X m c (ix3 0 s d) := by
  refine Eq.trans ?_ (v5_at m c s d)
  blk_simp [iblk, idx_val t]
  blk_ext [idx_val t]

theorem pay1_at (k : Fin 704) (d : Fin 1024) : k0_pay1 (F := Ideal) (ix2 k d) = 0 := by
  pointwise [k0_pay1]

/-- The product over the tokens, added to what is there. -/
theorem pay2_at (a : FVec Ideal S704x1024 .f32) (y : FVec Ideal S1x4096x704 .bf16) (x : FVec Ideal S4096x1024 .bf16)
    (k : Fin 704) (d : Fin 1024) :
    k0_pay2 (F := Ideal) a y x (ix2 k d) = a (ix2 k d) + ∑ s : Fin 4096, y (ix3 0 s k) * x (ix2 s d) := by
  pointwise [k0_pay2]

theorem pay3_at (a : FVec Ideal S704x1024 .f32) (k : Fin 704) (d : Fin 1024) :
    k0_pay3 (F := Ideal) a (ix3 0 k d) = a (ix2 k d) := by
  pointwise [k0_pay3]

theorem place2 (t : Fin cfg0.N) (k : Fin 704) (d : Fin 1024) :
    ((View.whole main_v6).slice (win0_2.rect t)).emb (ix3 0 k d) = ix3 ⟨t.val, point_lt t⟩ k d := by blk_ext [idx_val t]

set_option maxHeartbeats 2000000 in
/-- What a grid point leaves: the product of its channels over all tokens. -/
theorem out_eq (c : Dev nD) (t : Fin cfg0.N) :
    outsAt0 m c t = k0_pay3 (F := Ideal) (k0_pay2 k0_pay1 (iblk m c 0 t) (iblk m c 1 t)) := by
  unfold outsAt0
  frame_out

theorem sum_at (c : Dev nD) (t : Fin cfg0.N) (y : FVec Ideal S1x4096x704 .bf16) (x : FVec Ideal S4096x1024 .bf16)
    (hy : y = iblk m c 0 t) (hx : x = iblk m c 1 t) (k : Fin 704) (d : Fin 1024) :
    k0_pay3 (F := Ideal) (k0_pay2 (F := Ideal) (k0_pay1 (F := Ideal)) y x) (ix3 0 k d) = Cert.WgradSpec.out (X m c) (Y m c) (ix3 ⟨t.val, point_lt t⟩ k d) := by
  refine (pay3_at _ k d).trans ((pay2_at _ _ _ k d).trans ?_)
  rw [pay1_at, zero_add]
  exact Finset.sum_congr rfl fun s _ => congrArg₂ (fun a b : EReal => a * b) ((congrFun hy _).trans (blk0 m c t s k))
    ((congrFun hx _).trans (blk1 m c t s d))

theorem out_at (c : Dev nD) (t : Fin cfg0.N) (k : Fin 704) (d : Fin 1024) :
    outsAt0 m c t (ix3 0 k d) = Cert.WgradSpec.out (X m c) (Y m c) (ix3 ⟨t.val, point_lt t⟩ k d) :=
  (congrFun (out_eq m c t) _).trans (sum_at m c t _ _ rfl rfl k d)

theorem final_2 (c : Dev nD) : (dats m 0 c).arrAt 2 (cfgs 0).N = Cert.WgradSpec.out (X m c) (Y m c) := by
  refine (dats m 0 c).arrAt_eq_of_covers 2 _ (by decide +kernel) fun t hf y => ?_
  blk_simp; rw [after0_2]
  idx_vars y
  obtain rfl : y0 = 0 := Subsingleton.elim _ _
  exact (out_at m c t y1 y2).trans (congrArg (Cert.WgradSpec.out (X m c) (Y m c)) (place2 t y1 y2)).symm

end Cert.WgradIdeal.Value
end
-- ==== Proof.Wgrad.Ref.lean ====
/- The reference's weight gradient is the specification's. -/
module

public import proofs.«01_k».proof.Proof.Gen.WgradRefIdeal.Read
public import proofs.«01_k».proof.Proof.Wgrad.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.WgradRefIdeal.Read
open Cert.WgradRefIdeal Cert.WgradRefIdeal.Gen

variable (x0 : FVec Ideal S1x4096x1024 .f32) (x1 : FVec Ideal S1x4096x5632 .f32)

theorem v2_at (k : Fin 5632) (d : Fin 1024) :
    val_main_v2 (F := Ideal) x0 x1 (ix2 k d) = Cert.WgradSpec.entry x0 x1 k d := by
  pointwise [val_main_v2, Cert.WgradSpec.entry]
  exact Fin.sum_univ_one _

theorem out : val_main_v6 (F := Ideal) x0 x1 = Cert.WgradSpec.out x0 x1 := by
  funext j
  idx_vars j
  refine Eq.trans ?_ (v2_at x0 x1 ⟨j0.val * 704 + j1.val, by omega⟩ j2)
  pointwise [val_main_v6, val_main_v5, val_main_v4, val_main_v3]
  blk_ext

end Cert.WgradRefIdeal.Read
end
-- ==== Proof.Wgrad.Claim.lean ====
/- The gradient of w_up: the kernel's array is the reference's. -/
module

public import proofs.«01_k».proof.Defs
public import proofs.«01_k».proof.Proof.Gen.WgradRefIdeal.Run
public import proofs.«01_k».proof.Proof.Wgrad.Ker
public import proofs.«01_k».proof.Proof.Wgrad.Ref
public import Idealize.ShloMosaic.Lib.Claim

@[expose] public section

noncomputable section

open Idealize.ShloMosaic Idealize.SL.Sem

namespace Cert.WgradClaim

/-- The reference runs and leaves its arguments; it declares no semaphore. -/
theorem frame_ref [hR : Cert.WgradRefIdeal.Facts] : Cert.quiescent_WgradRefIdeal := fun m ρ _ =>
  (θ_run Cert.WgradRefIdeal.defs _ _).mono (fun r h => ⟨fun c => (h c).2, sem_eq_zero_of_no_sems (by decide) r.2⟩)
    (Cert.WgradRefIdeal.Value.run m ρ)

theorem algebraic [hK : Cert.WgradIdeal.Facts] [hR : Cert.WgradRefIdeal.Facts] : Cert.algebraic_WgradIdeal_WgradRefIdeal := by
  intro m g m' g' _ hagree
  refine ⟨fun c => Cert.WgradSpec.out (Cert.WgradIdeal.Value.X m c) (Cert.WgradIdeal.Value.Y m c), ?_, ?_⟩
  · refine (θ_run Cert.WgradIdeal.defs _ _).mono (fun r h c => ?_) (Cert.WgradIdeal.Value.run_blocks m g)
    obtain ⟨h2, hargs⟩ := h c
    exact ⟨h2.trans (Cert.WgradIdeal.Value.final_2 m c), hargs⟩
  · refine (θ_run Cert.WgradRefIdeal.defs _ _).mono (fun r h c => ?_) (Cert.WgradRefIdeal.Value.run m' g')
    obtain ⟨e0, e1⟩ := hagree c
    obtain ⟨h0, hargs⟩ := h c
    refine ⟨h0.trans ?_, hargs⟩
    rw [e0, e1]
    exact (Cert.WgradRefIdeal.Read.val_main_v6_eq _ _).trans (Cert.WgradRefIdeal.Read.out _ _)

end Cert.WgradClaim
end
-- ==== Proof.Adamw.Spec.lean ====
/- The optimiser's step on the sum of the devices' gradients, entry by entry. -/
module

public import Idealize.ShloMosaic.Lib.Pointwise

@[expose] public section

noncomputable section

open Idealize.ShloMosaic

namespace Cert.AdamwSpec

/-- The first moment after the step. -/
def mom (g m : EReal) : EReal := Ideal.ofBits .f32 0x3F666666#32 * m + Ideal.ofBits .f32 0x3DCCCCCD#32 * g

/-- The second moment after the step. -/
def sq (g v : EReal) : EReal := Ideal.ofBits .f32 0x3F7FBE77#32 * v + Ideal.ofBits .f32 0x3A83126F#32 * (g * g)

/-- The change of the weight. -/
def delta (g w m v : EReal) : EReal :=
  Ideal.ofBits .f32 0xBA83126F#32
    * (Ideal.div (Ideal.div (mom g m) (Ideal.ofBits .f32 0x3F26BD02#32))
        (Ideal.sqrt (Ideal.div (sq g v) (Ideal.ofBits .f32 0x3C231ACC#32)) + Ideal.ofBits .f32 0x322BCC77#32)
      + Ideal.ofBits .f32 0x3C23D70A#32 * w)

variable (p : FVec Ideal ⟨3, ![8, 1024, 704]⟩ .f32) (w m v : FVec Ideal ⟨3, ![1, 1024, 704]⟩ .f32)

/-- The sum of the eight devices' gradients. -/
def grad (r : Fin 704) (d : Fin 1024) : EReal := ∑ k : Fin 8, p (ix3 k d r)

def gradOut (j : (⟨2, ![704, 1024]⟩ : Shape).Idx) : EReal := grad p (j 0) (j 1)
def deltaOut (j : (⟨2, ![704, 1024]⟩ : Shape).Idx) : EReal :=
  delta (grad p (j 0) (j 1)) (w (ix3 0 (j 1) (j 0))) (m (ix3 0 (j 1) (j 0))) (v (ix3 0 (j 1) (j 0)))
def momOut (j : (⟨2, ![704, 1024]⟩ : Shape).Idx) : EReal := mom (grad p (j 0) (j 1)) (m (ix3 0 (j 1) (j 0)))
def sqOut (j : (⟨2, ![704, 1024]⟩ : Shape).Idx) : EReal := sq (grad p (j 0) (j 1)) (v (ix3 0 (j 1) (j 0)))

end Cert.AdamwSpec
end
-- ==== Proof.Adamw.Ker.lean ====
/- What the kernel's four outputs hold when it ends. -/
module

public import proofs.«01_k».proof.Proof.Gen.AdamwIdeal.Value
public import proofs.«01_k».proof.Proof.Adamw.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AdamwIdeal.Value

open Cert.AdamwIdeal Cert.AdamwIdeal.Gen

variable (m : (ℓ : Loc nD τ sig) → Buf (Elt Ideal) ℓ)

/-- Every window's block at every grid point. -/
theorem idx_val : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

abbrev P (c : Dev nD) : FVec Ideal S8x1024x704 .f32 := m ((c : Thread nD τ).loc main_arg0)
abbrev W (c : Dev nD) : FVec Ideal S1x1024x704 .f32 := m ((c : Thread nD τ).loc main_arg1)
abbrev M (c : Dev nD) : FVec Ideal S1x1024x704 .f32 := m ((c : Thread nD τ).loc main_arg2)
abbrev U (c : Dev nD) : FVec Ideal S1x1024x704 .f32 := m ((c : Thread nD τ).loc main_arg3)

theorem v1_at (c : Dev nD) (k : Fin 8) (r : Fin 704) (d : Fin 1024) : V m c main_v1 (ix3 k r d) = P m c (ix3 k d r) := by
  entry_read
  pointwise
theorem v3_at (c : Dev nD) (r : Fin 704) (d : Fin 1024) : V m c main_v3 (ix2 r d) = W m c (ix3 0 d r) := by
  entry_read
  pointwise
theorem v5_at (c : Dev nD) (r : Fin 704) (d : Fin 1024) : V m c main_v5 (ix2 r d) = M m c (ix3 0 d r) := by
  entry_read
  pointwise
theorem v7_at (c : Dev nD) (r : Fin 704) (d : Fin 1024) : V m c main_v7 (ix2 r d) = U m c (ix3 0 d r) := by
  entry_read
  pointwise

/-- The grid has two points. -/
theorem point_lt (t : Fin cfg0.N) : t.val < 2 := lt_of_lt_of_le t.isLt (le_of_eq N_0)

/-- The array's row that a grid point's row is. -/
abbrev at_row (t : Fin cfg0.N) (r : Fin 352) : Fin 704 := ⟨t.val * 352 + r.val, by have := point_lt t; omega⟩

theorem blk0 (c : Dev nD) (t : Fin cfg0.N) (k : Fin 8) (r : Fin 352) (d : Fin 1024) :
    iblk m c 0 t (ix3 k r d) = P m c (ix3 k d (at_row t r)) := by
  refine Eq.trans ?_ (v1_at m c k _ d)
  blk_simp [iblk, idx_val t]
  blk_ext [idx_val t]
theorem blk1 (c : Dev nD) (t : Fin cfg0.N) (r : Fin 352) (d : Fin 1024) :
    iblk m c 1 t (ix2 r d) = W m c (ix3 0 d (at_row t r)) := by
  refine Eq.trans ?_ (v3_at m c _ d)
  blk_simp [iblk, idx_val t]
  blk_ext [idx_val t]
theorem blk2 (c : Dev nD) (t : Fin cfg0.N) (r : Fin 352) (d : Fin 1024) :
    iblk m c 2 t (ix2 r d) = M m c (ix3 0 d (at_row t r)) := by
  refine Eq.trans ?_ (v5_at m c _ d)
  blk_simp [iblk, idx_val t]
  blk_ext [idx_val t]
theorem blk3 (c : Dev nD) (t : Fin cfg0.N) (r : Fin 352) (d : Fin 1024) :
    iblk m c 3 t (ix2 r d) = U m c (ix3 0 d (at_row t r)) := by
  refine Eq.trans ?_ (v7_at m c _ d)
  blk_simp [iblk, idx_val t]
  blk_ext [idx_val t]

theorem pay1_at (g a : FVec Ideal S352x1024 .f32) (r : Fin 352) (d : Fin 1024) :
    k0_pay1 (F := Ideal) g a (ix2 r d) = Cert.AdamwSpec.mom (g (ix2 r d)) (a (ix2 r d)) := by
  pointwise [k0_pay1, Cert.AdamwSpec.mom]
theorem pay2_at (g a : FVec Ideal S352x1024 .f32) (r : Fin 352) (d : Fin 1024) :
    k0_pay2 (F := Ideal) g a (ix2 r d) = Cert.AdamwSpec.sq (g (ix2 r d)) (a (ix2 r d)) := by
  pointwise [k0_pay2, Cert.AdamwSpec.sq]
theorem pay3_at (g w a b : FVec Ideal S352x1024 .f32) (r : Fin 352) (d : Fin 1024) :
    k0_pay3 (F := Ideal) g w a b (ix2 r d)
      = Cert.AdamwSpec.delta (g (ix2 r d)) (w (ix2 r d)) (a (ix2 r d)) (b (ix2 r d)) := by
  unfold Cert.AdamwSpec.delta
  rw [← pay1_at, ← pay2_at]
  pointwise [k0_pay3]
theorem pay4_at (a0 a1 a2 a3 a4 a5 a6 a7 : FVec Ideal S1x352x1024 .bf16) (r : Fin 352) (d : Fin 1024) :
    k0_pay4 (F := Ideal) a0 a1 a2 a3 a4 a5 a6 a7 (ix2 r d)
      = a0 (ix3 0 r d) + a1 (ix3 0 r d) + a2 (ix3 0 r d) + a3 (ix3 0 r d) + a4 (ix3 0 r d) + a5 (ix3 0 r d) + a6 (ix3 0 r d)
        + a7 (ix3 0 r d) := by
  pointwise [k0_pay4]

/-- The load of device `k`'s part. -/
theorem ld_at (v : S8x352x1024.Idx → Elt Ideal .bf16) (k : Fin 8)
    (hb : ∀ i, (![k.val, 0, 0] : Fin 3 → ℕ) i + S1x352x1024.size i ≤ S8x352x1024.size i) (r : Fin 352) (d : Fin 1024) :
    View.ld v (Rect.unit ![k.val, 0, 0] S1x352x1024.size hb) (ix3 0 r d) = v (ix3 k r d) := by
  refine congrArg v (funext fun i => Fin.ext ?_)
  match i with
  | ⟨0, _⟩ => exact Nat.add_zero _
  | ⟨1, _⟩ => exact (Nat.zero_add _).trans (Nat.one_mul _)
  | ⟨2, _⟩ => exact (Nat.zero_add _).trans (Nat.one_mul _)

/-- The sum of the parts in a grid point's block. -/
abbrev S (c : Dev nD) (t : Fin cfg0.N) : FVec Ideal S352x1024 .f32 :=
  k0_pay4 (View.ld (iblk m c 0 t) r0_0) (View.ld (iblk m c 0 t) r0_1) (View.ld (iblk m c 0 t) r0_2) (View.ld (iblk m c 0 t) r0_3)
    (View.ld (iblk m c 0 t) r0_4) (View.ld (iblk m c 0 t) r0_5) (View.ld (iblk m c 0 t) r0_6) (View.ld (iblk m c 0 t) r0_7)

theorem S_at (c : Dev nD) (t : Fin cfg0.N) (r : Fin 352) (d : Fin 1024) :
    S m c t (ix2 r d) = Cert.AdamwSpec.grad (P m c) (at_row t r) d := by
  refine (pay4_at _ _ _ _ _ _ _ _ r d).trans ?_
  have h : ∀ (k : Fin 8) hb, View.ld (iblk m c 0 t) (Rect.unit ![k.val, 0, 0] S1x352x1024.size hb) (ix3 0 r d)
      = P m c (ix3 k d (at_row t r)) := fun k hb => (ld_at _ k hb r d).trans (blk0 m c t k r d)
  unfold Cert.AdamwSpec.grad
  rw [Fin.sum_univ_eight]
  exact congrArg₂ (· + ·) (congrArg₂ (· + ·) (congrArg₂ (· + ·) (congrArg₂ (· + ·) (congrArg₂ (· + ·) (congrArg₂ (· + ·)
    (congrArg₂ (· + ·) (h 0 _) (h 1 _)) (h 2 _)) (h 3 _)) (h 4 _)) (h 5 _)) (h 6 _)) (h 7 _)

theorem pay5_eq (c : Dev nD) (t : Fin cfg0.N) : k0_pay5 (iblk m c 0 t) (iblk m c 1 t) (iblk m c 2 t) (iblk m c 3 t) = S m c t := rfl

theorem place4 (t : Fin cfg0.N) (r : Fin 352) (d : Fin 1024) :
    ((View.whole main_v8_0).slice (win0_4.rect t)).emb (ix2 r d) = ix2 (at_row t r) d := by blk_ext [idx_val t]
theorem place5 (t : Fin cfg0.N) (r : Fin 352) (d : Fin 1024) :
    ((View.whole main_v8_1).slice (win0_5.rect t)).emb (ix2 r d) = ix2 (at_row t r) d := by blk_ext [idx_val t]
theorem place6 (t : Fin cfg0.N) (r : Fin 352) (d : Fin 1024) :
    ((View.whole main_v8_2).slice (win0_6.rect t)).emb (ix2 r d) = ix2 (at_row t r) d := by blk_ext [idx_val t]
theorem place7 (t : Fin cfg0.N) (r : Fin 352) (d : Fin 1024) :
    ((View.whole main_v8_3).slice (win0_7.rect t)).emb (ix2 r d) = ix2 (at_row t r) d := by blk_ext [idx_val t]

theorem final_4 (c : Dev nD) : (dats m 0 c).arrAt 4 (cfgs 0).N = Cert.AdamwSpec.gradOut (P m c) := by
  refine (dats m 0 c).arrAt_eq_of_covers 4 _ (by decide +kernel) fun t hf y => ?_
  blk_simp; rw [after0_4]
  frame_out
  idx_vars y
  exact (S_at m c t y0 y1).trans (congrArg (Cert.AdamwSpec.gradOut (P m c)) (place4 t y0 y1)).symm

theorem final_5 (c : Dev nD) : (dats m 0 c).arrAt 5 (cfgs 0).N = Cert.AdamwSpec.deltaOut (P m c) (W m c) (M m c) (U m c) := by
  refine (dats m 0 c).arrAt_eq_of_covers 5 _ (by decide +kernel) fun t hf y => ?_
  blk_simp; rw [after0_5]
  frame_out
  idx_vars y
  refine Eq.trans ?_ (congrArg (Cert.AdamwSpec.deltaOut (P m c) (W m c) (M m c) (U m c)) (place5 t y0 y1)).symm
  refine (pay3_at _ _ _ _ y0 y1).trans ?_
  rw [blk1, blk2, blk3]
  exact congrArg (Cert.AdamwSpec.delta · _ _ _) (S_at m c t y0 y1)

theorem final_6 (c : Dev nD) : (dats m 0 c).arrAt 6 (cfgs 0).N = Cert.AdamwSpec.momOut (P m c) (M m c) := by
  refine (dats m 0 c).arrAt_eq_of_covers 6 _ (by decide +kernel) fun t hf y => ?_
  blk_simp; rw [after0_6]
  frame_out
  idx_vars y
  refine Eq.trans ?_ (congrArg (Cert.AdamwSpec.momOut (P m c) (M m c)) (place6 t y0 y1)).symm
  refine (pay1_at _ _ y0 y1).trans ?_
  rw [blk2]
  exact congrArg (Cert.AdamwSpec.mom · _) (S_at m c t y0 y1)

theorem final_7 (c : Dev nD) : (dats m 0 c).arrAt 7 (cfgs 0).N = Cert.AdamwSpec.sqOut (P m c) (U m c) := by
  refine (dats m 0 c).arrAt_eq_of_covers 7 _ (by decide +kernel) fun t hf y => ?_
  blk_simp; rw [after0_7]
  frame_out
  idx_vars y
  refine Eq.trans ?_ (congrArg (Cert.AdamwSpec.sqOut (P m c) (U m c)) (place7 t y0 y1)).symm
  refine (pay2_at _ _ y0 y1).trans ?_
  rw [blk3]
  exact congrArg (Cert.AdamwSpec.sq · _) (S_at m c t y0 y1)

end Cert.AdamwIdeal.Value
end
-- ==== Proof.Adamw.Ref.lean ====
/- The reference's optimiser step is the specification's. -/
module

public import proofs.«01_k».proof.Proof.Gen.AdamwRefIdeal.Read
public import proofs.«01_k».proof.Proof.Adamw.Spec
public import Idealize.ShloMosaic.Lib.Pointwise

@[expose] public section

set_option maxRecDepth 16384

noncomputable section

open Idealize.ShloMosaic Idealize.ShloMosaic.TcCoe Idealize.SL.Sem

namespace Cert.AdamwRefIdeal.Read
open Cert.AdamwRefIdeal Cert.AdamwRefIdeal.Gen

variable (x0 : FVec Ideal S8x1024x704 .f32) (x1 x2 x3 : FVec Ideal S1x1024x704 .f32)

theorem v1_at (d : Fin 1024) (r : Fin 704) : val_main_v1 (F := Ideal) x0 (ix3 0 d r) = Cert.AdamwSpec.grad x0 r d := by
  pointwise [val_main_v1, val_main_v0, val_main_cst, Cert.AdamwSpec.grad]

theorem v6_at (d : Fin 1024) (r : Fin 704) :
    val_main_v6 (F := Ideal) x0 x2 (ix3 0 d r) = Cert.AdamwSpec.mom (Cert.AdamwSpec.grad x0 r d) (x2 (ix3 0 d r)) := by
  rw [← v1_at]
  pointwise [val_main_v6, val_main_v5, val_main_v4, val_main_v3, val_main_v2, val_main_cst_0, val_main_cst_1, Cert.AdamwSpec.mom]

theorem v12_at (d : Fin 1024) (r : Fin 704) :
    val_main_v12 (F := Ideal) x0 x3 (ix3 0 d r) = Cert.AdamwSpec.sq (Cert.AdamwSpec.grad x0 r d) (x3 (ix3 0 d r)) := by
  rw [← v1_at]
  pointwise [val_main_v12, val_main_v11, val_main_v10, val_main_v9, val_main_v8, val_main_v7, val_main_cst_2, val_main_cst_3,
    Cert.AdamwSpec.sq]

theorem v25_at (d : Fin 1024) (r : Fin 704) :
    val_main_v25 (F := Ideal) x0 x1 x2 x3 (ix3 0 d r)
      = Cert.AdamwSpec.delta (Cert.AdamwSpec.grad x0 r d) (x1 (ix3 0 d r)) (x2 (ix3 0 d r)) (x3 (ix3 0 d r)) := by
  unfold Cert.AdamwSpec.delta
  rw [← v6_at, ← v12_at]
  pointwise [val_main_v25, val_main_v24, val_main_v23, val_main_v22, val_main_v21, val_main_v20, val_main_v19, val_main_v18,
    val_main_v17, val_main_v16, val_main_v15, val_main_v14, val_main_v13, val_main_cst_4, val_main_cst_5, val_main_cst_6,
    val_main_cst_7, val_main_cst_8]

theorem out0 : val_main_v27 (F := Ideal) x0 = Cert.AdamwSpec.gradOut x0 := by
  funext j
  idx_vars j
  pointwise [val_main_v27, val_main_v26]
  exact v1_at x0 j1 j0

theorem out1 : val_main_v29 (F := Ideal) x0 x1 x2 x3 = Cert.AdamwSpec.deltaOut x0 x1 x2 x3 := by
  funext j
  idx_vars j
  pointwise [val_main_v29, val_main_v28]
  exact v25_at x0 x1 x2 x3 j1 j0

theorem out2 : val_main_v31 (F := Ideal) x0 x2 = Cert.AdamwSpec.momOut x0 x2 := by
  funext j
  idx_vars j
  pointwise [val_main_v31, val_main_v30]
  exact v6_at x0 x2 j1 j0

theorem out3 : val_main_v33 (F := Ideal) x0 x3 = Cert.AdamwSpec.sqOut x0 x3 := by
  funext j
  idx_vars j
  pointwise [val_main_v33, val_main_v32]
  exact v12_at x0 x3 j1 j0

end Cert.AdamwRefIdeal.Read
end
-- ==== Proof.Adamw.Claim.lean ====
/- The optimiser's step: the kernel's arrays are the reference's. -/
module

public import proofs.«01_k».proof.Defs
public import proofs.«01_k».proof.Proof.Gen.AdamwRefIdeal.Run
public import proofs.«01_k».proof.Proof.Adamw.Ker
public import proofs.«01_k».proof.Proof.Adamw.Ref
public import Idealize.ShloMosaic.Lib.Claim

@[expose] public section

noncomputable section

open Idealize.ShloMosaic Idealize.SL.Sem

namespace Cert.AdamwClaim

/-- The reference runs and leaves its arguments; it declares no semaphore. -/
theorem frame_ref [hR : Cert.AdamwRefIdeal.Facts] : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run m ρ)

theorem algebraic [hK : Cert.AdamwIdeal.Facts] [hR : Cert.AdamwRefIdeal.Facts] : Cert.algebraic_AdamwIdeal_AdamwRefIdeal := by
  intro m g m' g' _ hagree
  refine ⟨fun c => Cert.AdamwSpec.gradOut (Cert.AdamwIdeal.Value.P m c),
    fun c => Cert.AdamwSpec.deltaOut (Cert.AdamwIdeal.Value.P m c) (Cert.AdamwIdeal.Value.W m c) (Cert.AdamwIdeal.Value.M m c) (Cert.AdamwIdeal.Value.U m c),
    fun c => Cert.AdamwSpec.momOut (Cert.AdamwIdeal.Value.P m c) (Cert.AdamwIdeal.Value.M m c),
    fun c => Cert.AdamwSpec.sqOut (Cert.AdamwIdeal.Value.P m c) (Cert.AdamwIdeal.Value.U m c), ?_, ?_⟩
  · refine (θ_run Cert.AdamwIdeal.defs _ _).mono (fun r h c => ?_) (Cert.AdamwIdeal.Value.run_blocks m g)
    obtain ⟨h4, h5, h6, h7, hargs⟩ := h c
    exact ⟨h4.trans (Cert.AdamwIdeal.Value.final_4 m c), h5.trans (Cert.AdamwIdeal.Value.final_5 m c),
      h6.trans (Cert.AdamwIdeal.Value.final_6 m c), h7.trans (Cert.AdamwIdeal.Value.final_7 m c), hargs⟩
  · refine (θ_run Cert.AdamwRefIdeal.defs _ _).mono (fun r h c => ?_) (Cert.AdamwRefIdeal.Value.run m' g')
    obtain ⟨e0, e1, e2, e3⟩ := hagree c
    obtain ⟨h0, h1, h2, h3, hargs⟩ := h c
    refine ⟨h0.trans ?_, h1.trans ?_, h2.trans ?_, h3.trans ?_, hargs⟩
    · rw [e0]
      exact (Cert.AdamwRefIdeal.Read.val_main_v27_eq _).trans (Cert.AdamwRefIdeal.Read.out0 _)
    · rw [e0, e1, e2, e3]
      exact (Cert.AdamwRefIdeal.Read.val_main_v29_eq _ _ _ _).trans (Cert.AdamwRefIdeal.Read.out1 _ _ _ _)
    · rw [e0, e2]
      exact (Cert.AdamwRefIdeal.Read.val_main_v31_eq _ _).trans (Cert.AdamwRefIdeal.Read.out2 _ _)
    · rw [e0, e3]
      exact (Cert.AdamwRefIdeal.Read.val_main_v33_eq _ _).trans (Cert.AdamwRefIdeal.Read.out3 _ _)

end Cert.AdamwClaim
end
-- ==== Proof.MixOut.Spec.lean ====
/- The pooling, its product and the output projection forward, entry by entry. -/
module

public import proofs.«01_k».proof.Proof.Common.Reals

@[expose] public section

noncomputable section

open Idealize.ShloMosaic

namespace Cert.MixOutSpec

open Cert

variable (X : FVec Ideal ⟨3, ![1, 4096, 1024]⟩ .f32) (A U : FVec Ideal ⟨3, ![1, 4096, 512]⟩ .f32)
  (P : FVec Ideal ⟨4, ![1, 4, 128, 128]⟩ .f32) (Z : FVec Ideal ⟨2, ![1, 512]⟩ .f32) (O : FVec Ideal ⟨3, ![1, 1024, 1024]⟩ .f32)

/-- A column of a group. -/
abbrev place (g : Fin 4) (d : Fin 128) : Fin 512 := ⟨g.val * 128 + d.val, by omega⟩
/-- The group of a column, and its place in the group. -/
abbrev grp (j : Fin 512) : Fin 4 := ⟨j.val / 128, by omega⟩
abbrev col (j : Fin 512) : Fin 128 := ⟨j.val % 128, by omega⟩

/-- A token's entry, zero past the last token. -/
def row (n : ℕ) (j : Fin 512) : EReal := if h : n < 4096 then U (ix3 0 ⟨n, h⟩ j) else 0
/-- The tokens behind sixteen rows of zeros. -/
def pad (n : ℕ) (j : Fin 512) : EReal := if 16 ≤ n then row U (n - 16) j else 0

/-- The window of a group. -/
def window (g : Fin 4) : ℕ := 2 * 2 ^ g.val
/-- The number of tokens the mean at `s` is over. -/
def count (s : ℕ) (g : Fin 4) : EReal := ((min (s + 1) (window g) : ℕ) : ℝ)
/-- The difference of the window's mean from the token. -/
def diff (s : Fin 4096) (g : Fin 4) (d : Fin 128) : EReal :=
  Ideal.div (∑ k ∈ Finset.range (window g), pad U (s.val + (16 - k)) (place g d)) (count s.val g) - U (ix3 0 s (place g d))
/-- A group's product with its scale. -/
def y (s : Fin 4096) (g : Fin 4) (d : Fin 128) : EReal := (∑ e : Fin 128, diff U s g e * P (ix4 0 g e d)) * Z (ix2 0 (place g d))
/-- The row the projection reads: the attention's columns, then the pooled ones. -/
def mix (s : Fin 4096) (k : Fin 1024) : EReal :=
  if h : k.val < 512 then A (ix3 0 s ⟨k.val, h⟩) else y U P Z s (grp ⟨k.val - 512, by omega⟩) (col ⟨k.val - 512, by omega⟩)
/-- The residual stream after the projection. -/
def hid (s : Fin 4096) (k : Fin 1024) : EReal := X (ix3 0 s k) + ∑ e : Fin 1024, mix A U P Z s e * O (ix3 0 e k)

def out0 (j : (⟨2, ![4096, 1024]⟩ : Shape).Idx) : EReal := hid X A U P Z O (j 0) (j 1)
def out1 (j : (⟨2, ![4096, 1024]⟩ : Shape).Idx) : EReal := mix A U P Z (j 0) (j 1)
def out2 (j : (⟨2, ![4096, 512]⟩ : Shape).Idx) : EReal := diff U (j 0) (grp (j 1)) (col (j 1))

/-- The sum of a sequence up to a place, less the sum that stops a window before it. -/
theorem behind (f : ℕ → ℝ) (w s : ℕ) :
    ∑ i ∈ Finset.range (s + 1), f i - ∑ i ∈ Finset.range (s + 1 - w), f i = ∑ k ∈ Finset.range w, if k ≤ s then f (s - k) else 0 := by
  induction w with
  | zero => simp
  | succ w ih =>
    rw [Finset.sum_range_succ (fun k => if k ≤ s then f (s - k) else 0) w, ← ih]
    by_cases h : w ≤ s
    · rw [if_pos h]
      have e : s + 1 - w = (s + 1 - (w + 1)) + 1 := by omega
      have e' : s + 1 - (w + 1) = s - w := by omega
      rw [e, Finset.sum_range_succ f (s + 1 - (w + 1)), e']
      ring
    · rw [if_neg h]
      have e : s + 1 - w = 0 := by omega
      have e' : s + 1 - (w + 1) = 0 := by omega
      rw [e, e', add_zero]

/-- The same of the tokens, where they are real numbers. -/
theorem window_sum (hU : ∀ i, Reals.IsReal (U i)) (w : ℕ) (hw : w ≤ 16) (s : Fin 4096) (j : Fin 512) :
    ∑ i ∈ Finset.range (s.val + 1), row U i j - ∑ i ∈ Finset.range (s.val + 1 - w), row U i j
      = ∑ k ∈ Finset.range w, pad U (s.val + (16 - k)) j := by
  have hs : ∑ k ∈ Finset.range w, pad U (s.val + (16 - k)) j = ∑ k ∈ Finset.range w, pad U (s.val + 16 - k) j :=
    Finset.sum_congr rfl fun k hk => congrArg (pad U · j) (by have := Finset.mem_range.mp hk; omega)
  rw [hs]
  obtain ⟨u, hu⟩ := Reals.exists_real hU
  have hr : ∀ n, row U n j = ((if h : n < 4096 then u (ix3 0 ⟨n, h⟩ j) else 0 : ℝ) : EReal) := fun n => by
    unfold row
    split
    · exact hu _
    · rfl
  have hp : ∀ k, pad U (s.val + 16 - k) j
      = ((if k ≤ s.val then (fun n => if h : n < 4096 then u (ix3 0 ⟨n, h⟩ j) else 0 : ℕ → ℝ) (s.val - k) else 0 : ℝ) : EReal) := fun k => by
    unfold pad
    by_cases h : k ≤ s.val
    · have e : s.val + 16 - k - 16 = s.val - k := by omega
      rw [if_pos (by omega), if_pos h, e, hr]
    · rw [if_neg (by omega), if_neg h]; rfl
  simp only [hr, hp]
  rw [← Reals.coe_sum, ← Reals.coe_sum, ← Reals.coe_sum, ← EReal.coe_sub, behind]

end Cert.MixOutSpec
end
-- ==== Proof.MixOut.Blocks.lean ====
/- What the kernel's operands hold at a grid point, and what its operations compute from them. -/
module

public import proofs.«01_k».proof.Proof.Gen.MixOutIdeal.Value
public import proofs.«01_k».proof.Proof.MixOut.Spec
public import proofs.«01_k».proof.Proof.Common.HostWindow
public import proofs.«01_k».proof.Proof.Common.Columns
public import Idealize.ShloMosaic.Lib.StableHlo.RunRead
public import Idealize.ShloMosaic.Lib.Pipeline.ReadBack
public import Idealize.ShloMosaic.Lib.Pipeline.ValueKit
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.MixOutIdeal.Value

open Cert.MixOutIdeal Cert.MixOutIdeal.Gen
open Cert.MixOutSpec (place pad count diff)

variable (m : (ℓ : Loc nD τ sig) → Buf (Elt Ideal) ℓ)

/-- Every window's block at every grid point. -/
theorem idx_val : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

abbrev X (c : Dev nD) : FVec Ideal S1x4096x1024 .f32 := m ((c : Thread nD τ).loc main_arg0)
abbrev A (c : Dev nD) : FVec Ideal S1x4096x512 .f32 := m ((c : Thread nD τ).loc main_arg1)
abbrev U (c : Dev nD) : FVec Ideal S1x4096x512 .f32 := m ((c : Thread nD τ).loc main_arg2)
abbrev P (c : Dev nD) : FVec Ideal S1x4x128x128 .f32 := m ((c : Thread nD τ).loc main_arg3)
abbrev Z (c : Dev nD) : FVec Ideal S1x512 .f32 := m ((c : Thread nD τ).loc main_arg4)
abbrev O (c : Dev nD) : FVec Ideal S1x1024x1024 .f32 := m ((c : Thread nD τ).loc main_arg5)

/-- The grid has eight points. -/
theorem point_lt (t : Fin cfg0.N) : t.val < 8 := lt_of_lt_of_le t.isLt (le_of_eq N_0)

/-- The token in row `r` of the tile a point works on. -/
abbrev tok (t : Fin cfg0.N) (r : Fin 512) : Fin 4096 := ⟨t.val * 512 + r.val, by have := point_lt t; omega⟩

theorem v0_at (c : Dev nD) (s : Fin 4096) (d : Fin 1024) : V m c main_v0 (ix2 s d) = X m c (ix3 0 s d) := by
  unfold_abbrev_sides
  simp only [hostOps0, StableHlo.TRef.binary, StableHlo.TRef.nullary, StableHlo.TRef.unary, StableHlo.TRef.toBuf, StableHlo.TRef.ofBuf, cast_eq]
  after_reads_simp
  pointwise
theorem v1_at (c : Dev nD) (s : Fin 4096) (d : Fin 512) : V m c main_v1 (ix2 s d) = A m c (ix3 0 s d) := by
  unfold_abbrev_sides
  simp only [hostOps0, StableHlo.TRef.binary, StableHlo.TRef.nullary, StableHlo.TRef.unary, StableHlo.TRef.toBuf, StableHlo.TRef.ofBuf, cast_eq]
  after_reads_simp
  pointwise
theorem v2_at (c : Dev nD) (s : Fin 4096) (d : Fin 512) : V m c main_v2 (ix2 s d) = U m c (ix3 0 s d) := by
  unfold_abbrev_sides
  simp only [hostOps0, StableHlo.TRef.binary, StableHlo.TRef.nullary, StableHlo.TRef.unary, StableHlo.TRef.toBuf, StableHlo.TRef.ofBuf, cast_eq]
  after_reads_simp
  pointwise
theorem v3_at (c : Dev nD) (g : Fin 4) (s d : Fin 128) : V m c main_v3 (ix3 g s d) = P m c (ix4 0 g s d) := by
  unfold_abbrev_sides
  simp only [hostOps0, StableHlo.TRef.binary, StableHlo.TRef.nullary, StableHlo.TRef.unary, StableHlo.TRef.toBuf, StableHlo.TRef.ofBuf, cast_eq]
  after_reads_simp
  pointwise
theorem v5_at (c : Dev nD) (s d : Fin 1024) : V m c main_v5 (ix2 s d) = O m c (ix3 0 s d) := by
  unfold_abbrev_sides
  simp only [hostOps0, StableHlo.TRef.binary, StableHlo.TRef.nullary, StableHlo.TRef.unary, StableHlo.TRef.toBuf, StableHlo.TRef.ofBuf, cast_eq]
  after_reads_simp
  pointwise
theorem blk0 (c : Dev nD) (t : Fin cfg0.N) (r : Fin 512) (d : Fin 1024) : iblk m c 0 t (ix2 r d) = X m c (ix3 0 (tok t r) d) := by
  refine Eq.trans ?_ (v0_at m c _ d)
  blk_simp [iblk, idx_val t]
  blk_ext [idx_val t]
theorem blk1 (c : Dev nD) (t : Fin cfg0.N) (r : Fin 512) (d : Fin 512) : iblk m c 1 t (ix2 r d) = A m c (ix3 0 (tok t r) d) := by
  refine Eq.trans ?_ (v1_at m c _ d)
  blk_simp [iblk, idx_val t]
  blk_ext [idx_val t]
theorem blk2 (c : Dev nD) (t : Fin cfg0.N) (r : Fin 512) (d : Fin 512) : iblk m c 2 t (ix2 r d) = U m c (ix3 0 (tok t r) d) := by
  refine Eq.trans ?_ (v2_at m c _ d)
  blk_simp [iblk, idx_val t]
  blk_ext [idx_val t]
theorem blk3 (c : Dev nD) (t : Fin cfg0.N) (g : Fin 4) (r d : Fin 128) : iblk m c 3 t (ix3 g r d) = P m c (ix4 0 g r d) := by
  refine Eq.trans ?_ (v3_at m c g r d)
  blk_simp [iblk, idx_val t]
  blk_ext [idx_val t]
theorem blk5 (c : Dev nD) (t : Fin cfg0.N) (r d : Fin 1024) : iblk m c 5 t (ix2 r d) = O m c (ix3 0 r d) := by
  refine Eq.trans ?_ (v5_at m c r d)
  blk_simp [iblk, idx_val t]
  blk_ext [idx_val t]
theorem blk4 (c : Dev nD) (t : Fin cfg0.N) (d : Fin 512) : iblk m c 4 t (ix2 0 d) = Z m c (ix2 0 d) := by
  blk_point [iblk, V, idx_val t]

/-- A token behind the sixteen rows of zeros. -/
theorem pad_tok (c : Dev nD) (s : Fin 4096) (j : Fin 512) : pad (U m c) (s.val + 16) j = U m c (ix3 0 s j) := by
  unfold Cert.MixOutSpec.pad Cert.MixOutSpec.row
  rw [if_pos (by omega), dif_pos (by omega)]
  rfl

/-- The tile's first token, as the kernel computes it. -/
theorem first_val : ∀ t : Fin cfg0.N, Scalar.muli (BitVec.ofNat 32 (grid0.coords t 0).val) 512#32 = BitVec.ofNat 32 (t.val * 512) :=
  (by decide +kernel : ∀ t : Fin grid0.N, _)

/-- The count the kernel divides by is the mean's. -/
theorem clip_at (t : Fin cfg0.N) (r : Fin 512) (g : Fin 4) (w : ℕ) (hw : w = Cert.MixOutSpec.window g) (hb : w < 2 ^ 31) :
    (FloatOps.sitofp .f32 (IntOp.minsi (IntOp.addi (IntOp.addi (Scalar.muli (BitVec.ofNat 32 (grid0.coords t 0).val) 512#32) (BitVec.ofNat 32 r.val)) 1#32) (BitVec.ofNat 32 w)) : Ideal .f32)
      = count (tok t r).val g := by
  have e : IntOp.addi (IntOp.addi (Scalar.muli (BitVec.ofNat 32 (grid0.coords t 0).val) 512#32) (BitVec.ofNat 32 r.val)) 1#32
      = BitVec.ofNat 32 (t.val * 512 + r.val + 1) := by
    rw [first_val]
    show BitVec.ofNat 32 (t.val * 512) + BitVec.ofNat 32 r.val + BitVec.ofNat 32 1 = _
    rw [← BitVec.ofNat_add, ← BitVec.ofNat_add]
  rw [e]
  have := point_lt t
  refine (HostWindow.clip (by omega) hb).trans ?_
  subst hw
  rfl

/-- A group's difference in a tile, from its sum, its count and its token. -/
theorem dif_of (c : Dev nD) (t : Fin cfg0.N) (r : Fin 512) (g : Fin 4) (d : Fin 128) {a b n : EReal}
    (ha : a = ∑ k ∈ Finset.range (Cert.MixOutSpec.window g), pad (U m c) ((tok t r).val + (16 - k)) (place g d))
    (hn : n = count (tok t r).val g) (hb : b = pad (U m c) ((tok t r).val + 16) (place g d)) :
    Ideal.div a n - b = diff (U m c) (tok t r) g d := by
  subst ha hn hb
  exact congrArg (_ - ·) (pad_tok m c (tok t r) (place g d))

theorem dif0 (c : Dev nD) (t : Fin cfg0.N) {v0 v1 : Vec Ideal S512x128 .f32} (r : Fin 512) (d : Fin 128)
    (h0 : v0 (ix2 r d) = pad (U m c) ((tok t r).val + 16) (place 0 d)) (h1 : v1 (ix2 r d) = pad (U m c) ((tok t r).val + 15) (place 0 d)) :
    k0_pay6 (grid0.coords t) v0 v1 (ix2 r d) = diff (U m c) (tok t r) 0 d := by
  pointwise [k0_pay6]
  rw [h0, h1]
  refine dif_of m c t r 0 d ?_ (clip_at t r 0 2 rfl (by omega)) rfl
  rw [show Cert.MixOutSpec.window 0 = 2 from rfl]
  simp only [Finset.sum_range_succ, Finset.sum_range_zero, zero_add]

theorem dif1 (c : Dev nD) (t : Fin cfg0.N) {v0 v1 v2 v3 : Vec Ideal S512x128 .f32} (r : Fin 512) (d : Fin 128)
    (h0 : v0 (ix2 r d) = pad (U m c) ((tok t r).val + 16) (place 1 d)) (h1 : v1 (ix2 r d) = pad (U m c) ((tok t r).val + 15) (place 1 d))
    (h2 : v2 (ix2 r d) = pad (U m c) ((tok t r).val + 14) (place 1 d)) (h3 : v3 (ix2 r d) = pad (U m c) ((tok t r).val + 13) (place 1 d)) :
    k0_pay9 (BitVec.ofNat 32 (grid0.coords t 0).val) v0 v1 v2 v3 (ix2 r d) = diff (U m c) (tok t r) 1 d := by
  pointwise [k0_pay9]
  rw [h0, h1, h2, h3]
  refine dif_of m c t r 1 d ?_ (clip_at t r 1 4 rfl (by omega)) rfl
  rw [show Cert.MixOutSpec.window 1 = 4 from rfl]
  simp only [Finset.sum_range_succ, Finset.sum_range_zero, zero_add]

theorem dif2 (c : Dev nD) (t : Fin cfg0.N) {v0 v1 v2 v3 v4 v5 v6 v7 : Vec Ideal S512x128 .f32} (r : Fin 512) (d : Fin 128)
    (h0 : v0 (ix2 r d) = pad (U m c) ((tok t r).val + 16) (place 2 d)) (h1 : v1 (ix2 r d) = pad (U m c) ((tok t r).val + 15) (place 2 d))
    (h2 : v2 (ix2 r d) = pad (U m c) ((tok t r).val + 14) (place 2 d)) (h3 : v3 (ix2 r d) = pad (U m c) ((tok t r).val + 13) (place 2 d))
    (h4 : v4 (ix2 r d) = pad (U m c) ((tok t r).val + 12) (place 2 d)) (h5 : v5 (ix2 r d) = pad (U m c) ((tok t r).val + 11) (place 2 d))
    (h6 : v6 (ix2 r d) = pad (U m c) ((tok t r).val + 10) (place 2 d)) (h7 : v7 (ix2 r d) = pad (U m c) ((tok t r).val + 9) (place 2 d)) :
    k0_pay11 (BitVec.ofNat 32 (grid0.coords t 0).val) v0 v1 v2 v3 v4 v5 v6 v7 (ix2 r d) = diff (U m c) (tok t r) 2 d := by
  pointwise [k0_pay11]
  rw [h0, h1, h2, h3, h4, h5, h6, h7]
  refine dif_of m c t r 2 d ?_ (clip_at t r 2 8 rfl (by omega)) rfl
  rw [show Cert.MixOutSpec.window 2 = 8 from rfl]
  simp only [Finset.sum_range_succ, Finset.sum_range_zero, zero_add]

theorem dif3 (c : Dev nD) (t : Fin cfg0.N) {v0 v1 v2 v3 v4 v5 v6 v7 v8 v9 v10 v11 v12 v13 v14 v15 : Vec Ideal S512x128 .f32} (r : Fin 512) (d : Fin 128)
    (h0 : v0 (ix2 r d) = pad (U m c) ((tok t r).val + 16) (place 3 d)) (h1 : v1 (ix2 r d) = pad (U m c) ((tok t r).val + 15) (place 3 d))
    (h2 : v2 (ix2 r d) = pad (U m c) ((tok t r).val + 14) (place 3 d)) (h3 : v3 (ix2 r d) = pad (U m c) ((tok t r).val + 13) (place 3 d))
    (h4 : v4 (ix2 r d) = pad (U m c) ((tok t r).val + 12) (place 3 d)) (h5 : v5 (ix2 r d) = pad (U m c) ((tok t r).val + 11) (place 3 d))
    (h6 : v6 (ix2 r d) = pad (U m c) ((tok t r).val + 10) (place 3 d)) (h7 : v7 (ix2 r d) = pad (U m c) ((tok t r).val + 9) (place 3 d))
    (h8 : v8 (ix2 r d) = pad (U m c) ((tok t r).val + 8) (place 3 d)) (h9 : v9 (ix2 r d) = pad (U m c) ((tok t r).val + 7) (place 3 d))
    (h10 : v10 (ix2 r d) = pad (U m c) ((tok t r).val + 6) (place 3 d)) (h11 : v11 (ix2 r d) = pad (U m c) ((tok t r).val + 5) (place 3 d))
    (h12 : v12 (ix2 r d) = pad (U m c) ((tok t r).val + 4) (place 3 d)) (h13 : v13 (ix2 r d) = pad (U m c) ((tok t r).val + 3) (place 3 d))
    (h14 : v14 (ix2 r d) = pad (U m c) ((tok t r).val + 2) (place 3 d)) (h15 : v15 (ix2 r d) = pad (U m c) ((tok t r).val + 1) (place 3 d)) :
    k0_pay15 (BitVec.ofNat 32 (grid0.coords t 0).val) v0 (k0_pay14 v0 v1 v2 v3 v4 v5 v6 v7 v8 v9 v10 v11) v12 v13 v14 v15 (ix2 r d) = diff (U m c) (tok t r) 3 d := by
  pointwise [k0_pay15, k0_pay14]
  rw [h0, h1, h2, h3, h4, h5, h6, h7, h8, h9, h10, h11, h12, h13, h14, h15]
  refine dif_of m c t r 3 d ?_ (clip_at t r 3 16 rfl (by omega)) rfl
  rw [show Cert.MixOutSpec.window 3 = 16 from rfl]
  simp only [Finset.sum_range_succ, Finset.sum_range_zero, zero_add]

/-- A group's product with its scale. -/
theorem prod_at (D : FVec Ideal S512x128 .bf16) (W : Vec Ideal S1x128x128 .f32) (S : Vec Ideal S1x128 .f32) (r : Fin 512) (d : Fin 128) :
    k0_pay8 D (k0_pay7 W) (constant S512x128 .f32 0#32) S (ix2 r d) = (∑ e : Fin 128, D (ix2 r e) * W (ix3 0 e d)) * S (ix2 0 d) := by
  pointwise [k0_pay8, k0_pay7]
theorem prod1 (g : BitVec 32) (v0 v1 v2 v3 : Vec Ideal S512x128 .f32) (W : Vec Ideal S1x128x128 .f32) (S : Vec Ideal S1x128 .f32) :
    k0_pay10 g v0 v1 v2 v3 W S = k0_pay8 (k0_pay9 g v0 v1 v2 v3) (k0_pay7 W) (constant S512x128 .f32 0#32) S := rfl
theorem prod2 (D : FVec Ideal S512x128 .bf16) (W : Vec Ideal S1x128x128 .f32) (S : Vec Ideal S1x128 .f32) :
    k0_pay13 D (k0_pay12 W) S = k0_pay8 D (k0_pay7 W) (constant S512x128 .f32 0#32) S := rfl
theorem prod3 (g : BitVec 32) (v0 v128 v12 v13 v14 v15 : Vec Ideal S512x128 .f32) (W : Vec Ideal S1x128x128 .f32) (S : Vec Ideal S1x128 .f32) :
    k0_pay16 g v0 v128 v12 v13 v14 v15 W S = k0_pay8 (k0_pay15 g v0 v128 v12 v13 v14 v15) (k0_pay7 W) (constant S512x128 .f32 0#32) S := rfl
theorem att_at (x : Vec Ideal S512x512 .f32) (i : S512x512.Idx) : k0_pay5 x i = x i := by pointwise! [k0_pay5]
theorem keep_at (x : Vec Ideal S512x512 .f32) (i : S512x512.Idx) : k0_pay4 x i = x i := by pointwise! [k0_pay4]
theorem zero_at (i : S16x512.Idx) : k0_pay3 (F := Ideal) i = 0 := by pointwise! [k0_pay3]
theorem copy_at (x : Vec Ideal S16x512 .f32) (i : S16x512.Idx) : k0_pay1 x i = x i := by pointwise! [k0_pay1]
theorem hid_at (x : Vec Ideal S512x1024 .f32) (y : Vec Ideal S512x1024 .bf16) (o : Vec Ideal S1024x1024 .bf16) (r : Fin 512) (k : Fin 1024) :
    k0_pay2 x y o (ix2 r k) = x (ix2 r k) + ∑ e : Fin 1024, y (ix2 r e) * o (ix2 e k) := by
  pointwise [k0_pay2]

end Cert.MixOutIdeal.Value
end
-- ==== Proof.MixOut.Tile.lean ====
/- The buffer of a tile's rows behind sixteen earlier ones, and the rows a grid point writes. -/
module

public import proofs.«01_k».proof.Proof.MixOut.Blocks

@[expose] public section

set_option maxRecDepth 16384

noncomputable section

open Idealize.ShloMosaic Idealize.ShloMosaic.TcCoe Idealize.SL.Sem

namespace Cert.MixOutIdeal.Value

open Cert.MixOutIdeal Cert.MixOutIdeal.Gen
open Cert.MixOutSpec (place pad count diff y mix)

variable (m : (ℓ : Loc nD τ sig) → Buf (Elt Ideal) ℓ)

/-- A row of the tile in the buffer. -/
theorem row_at (c : Dev nD) (t : Fin cfg0.N) (i : ℕ) (x : Fin 512) (hx : 16 + x.val = i) (j : Fin 512) :
    k0_pay4 (iblk m c 2 t) (ix2 x j) = pad (U m c) (t.val * 512 + i) j := by
  rw [keep_at, blk2, ← pad_tok]
  exact congrArg (pad (U m c) · j) (by subst hx; show t.val * 512 + x.val + 16 = _; omega)

/-- The buffer's rows of the tile. -/
theorem low_at (c : Dev nD) (t : Fin cfg0.N) (hp : ∀ x, (![16, 0] : Fin 2 → ℕ) x + (![512, 512] : Fin 2 → ℕ) x ≤ (![528, 512] : Fin 2 → ℕ) x)
    (L : List (View.Piece (Elt Ideal) (⟨2, ![528, 512]⟩ : Shape) .f32)) (i : Fin 528) (j : Fin 512) (hi : 16 ≤ i.val) :
    View.canon ((⟨Rect.unit (s := ⟨2, ![528, 512]⟩) ![16, 0] ![512, 512] hp, k0_pay4 (iblk m c 2 t)⟩ : View.Piece (Elt Ideal) (⟨2, ![528, 512]⟩ : Shape) .f32) :: L) (ix2 i j) = pad (U m c) (t.val * 512 + i.val) j := by
  have hE : (Rect.unit (s := ⟨2, ![528, 512]⟩) ![16, 0] ![512, 512] hp).emb (ix2 ⟨i.val - 16, by omega⟩ j) = ix2 i j := by
    funext x; match x with
    | ⟨0, _⟩ => exact Fin.ext (by simp [Rect.emb_apply]; omega)
    | ⟨1, _⟩ => exact Fin.ext (by simp [Rect.emb_apply])
  rw [← hE]
  exact (View.canon_cons_emb _ _ _ _).trans (row_at m c t i.val _ (by show 16 + (i.val - 16) = _; omega) j)

/-- The first point's buffer starts with zeros. -/
theorem first_at (c : Dev nD) (t : Fin cfg0.N) (h : t.val % 8 = 0) (hp : ∀ x, (![16, 0] : Fin 2 → ℕ) x + (![512, 512] : Fin 2 → ℕ) x ≤ (![528, 512] : Fin 2 → ℕ) x)
    (hq : ∀ x, (![0, 0] : Fin 2 → ℕ) x + (![16, 512] : Fin 2 → ℕ) x ≤ (![528, 512] : Fin 2 → ℕ) x) (i : Fin 528) (j : Fin 512) :
    View.canon [(⟨Rect.unit (s := ⟨2, ![528, 512]⟩) ![16, 0] ![512, 512] hp, k0_pay4 (iblk m c 2 t)⟩ : View.Piece (Elt Ideal) (⟨2, ![528, 512]⟩ : Shape) .f32), (⟨Rect.unit (s := ⟨2, ![528, 512]⟩) ![0, 0] ![16, 512] hq, k0_pay3 (F := Ideal)⟩ : View.Piece (Elt Ideal) (⟨2, ![528, 512]⟩ : Shape) .f32)] (ix2 i j) = pad (U m c) (t.val * 512 + i.val) j := by
  by_cases hi : 16 ≤ i.val
  · exact low_at m c t hp _ i j hi
  · rw [View.canon_cons_of_not_mem]
    · have hE : (Rect.unit (s := ⟨2, ![528, 512]⟩) ![0, 0] ![16, 512] hq).emb (ix2 ⟨i.val, by omega⟩ j) = ix2 i j := by
        funext x; match x with
        | ⟨0, _⟩ => exact Fin.ext (by simp [Rect.emb_apply])
        | ⟨1, _⟩ => exact Fin.ext (by simp [Rect.emb_apply])
      rw [← hE]
      refine (View.canon_cons_emb _ _ _ _).trans ((zero_at _).trans ?_)
      have := point_lt t
      exact (if_neg (by omega)).symm
    · intro hm
      obtain ⟨x, hx'⟩ := (Rect.unit (s := ⟨2, ![528, 512]⟩) ![16, 0] ![512, 512] hp).exists_idx_of_mem hm
      have := congrArg (fun y => (y 0).val) hx'
      have h0 := (x 0).isLt
      simp at this h0
      omega

/-- A load from the buffer, at any of its places. -/
theorem idx_at {k o : ℕ} (hk : ∀ x, (![k, o] : Fin 2 → ℕ) x + (![512, 128] : Fin 2 → ℕ) x ≤ (![528, 512] : Fin 2 → ℕ) x) (r : Fin 512) (d : Fin 128) (hr : k + r.val < 528) (hd : o + d.val < 512) :
    (Rect.unit (s := ⟨2, ![528, 512]⟩) ![k, o] ![512, 128] hk).toLoadRect.idx (ix2 r d) = ix2 ⟨k + r.val, hr⟩ ⟨o + d.val, hd⟩ := by
  funext x; match x with
  | ⟨0, _⟩ => exact Fin.ext (by simp [Rect.toLoadRect, LoadRect.idx])
  | ⟨1, _⟩ => exact Fin.ext (by simp [Rect.toLoadRect, LoadRect.idx])
theorem emb_at {k o : ℕ} (hk : ∀ x, (![k, o] : Fin 2 → ℕ) x + (![512, 128] : Fin 2 → ℕ) x ≤ (![528, 512] : Fin 2 → ℕ) x) (r : Fin 512) (d : Fin 128) (hr : k + r.val < 528) (hd : o + d.val < 512) :
    (Rect.unit (s := ⟨2, ![528, 512]⟩) ![k, o] ![512, 128] hk).emb (ix2 r d) = ix2 ⟨k + r.val, hr⟩ ⟨o + d.val, hd⟩ := by
  funext x; match x with
  | ⟨0, _⟩ => exact Fin.ext (by simp [Rect.emb_apply])
  | ⟨1, _⟩ => exact Fin.ext (by simp [Rect.emb_apply])

theorem readA (c : Dev nD) (t : Fin cfg0.N) (h : t.val % 8 = 0) {κ : Kind} {sp : Space} (v : View sig κ sp ⟨2, ![528, 512]⟩ .f32) {k o : ℕ} (hp : ∀ x, (![16, 0] : Fin 2 → ℕ) x + (![512, 512] : Fin 2 → ℕ) x ≤ (![528, 512] : Fin 2 → ℕ) x)
    (hq : ∀ x, (![0, 0] : Fin 2 → ℕ) x + (![16, 512] : Fin 2 → ℕ) x ≤ (![528, 512] : Fin 2 → ℕ) x)
    (hk : ∀ x, (![k, o] : Fin 2 → ℕ) x + (![512, 128] : Fin 2 → ℕ) x ≤ (![528, 512] : Fin 2 → ℕ) x) (r : Fin 512) (d : Fin 128) (p : Fin 512) (hd : p.val = o + d.val) :
    v.readCov [(⟨Rect.unit (s := ⟨2, ![528, 512]⟩) ![16, 0] ![512, 512] hp, k0_pay4 (iblk m c 2 t)⟩ : View.Piece (Elt Ideal) (⟨2, ![528, 512]⟩ : Shape) .f32), (⟨Rect.unit (s := ⟨2, ![528, 512]⟩) ![0, 0] ![16, 512] hq, k0_pay3 (F := Ideal)⟩ : View.Piece (Elt Ideal) (⟨2, ![528, 512]⟩ : Shape) .f32)]
      (Rect.unit (s := ⟨2, ![528, 512]⟩) ![k, o] ![512, 128] hk).toLoadRect (ix2 r d) = pad (U m c) ((tok t r).val + k) p := by
  have h0 := hk 0
  have h1 := hk 1
  simp at h0 h1
  rw [View.readCov_eq_canon']
  refine (congrArg (View.canon _) (idx_at hk r d (by omega) (by omega))).trans ?_
  refine (first_at m c t h hp hq _ _).trans ?_
  exact congrArg₂ (pad (U m c)) (by show t.val * 512 + (k + r.val) = t.val * 512 + r.val + k; omega) (Fin.ext hd.symm)

theorem readB (c : Dev nD) (t : Fin cfg0.N) {κ : Kind} {sp : Space} (v : View sig κ sp ⟨2, ![528, 512]⟩ .f32) {o : ℕ} (hp : ∀ x, (![16, 0] : Fin 2 → ℕ) x + (![512, 512] : Fin 2 → ℕ) x ≤ (![528, 512] : Fin 2 → ℕ) x)
    (hk : ∀ x, (![16, o] : Fin 2 → ℕ) x + (![512, 128] : Fin 2 → ℕ) x ≤ (![528, 512] : Fin 2 → ℕ) x) (r : Fin 512) (d : Fin 128) (p : Fin 512) (hd : p.val = o + d.val) :
    v.readCov [(⟨Rect.unit (s := ⟨2, ![528, 512]⟩) ![16, 0] ![512, 512] hp, k0_pay4 (iblk m c 2 t)⟩ : View.Piece (Elt Ideal) (⟨2, ![528, 512]⟩ : Shape) .f32)]
      (Rect.unit (s := ⟨2, ![528, 512]⟩) ![16, o] ![512, 128] hk).toLoadRect (ix2 r d) = pad (U m c) ((tok t r).val + 16) p := by
  have h1 := hk 1
  simp at h1
  rw [View.readCov_eq_canon']
  refine (congrArg (View.canon _) (idx_at hk r d (by omega) (by omega))).trans ?_
  refine (low_at m c t hp _ _ _ (by simp)).trans ?_
  exact congrArg₂ (pad (U m c)) (by show t.val * 512 + (16 + r.val) = t.val * 512 + r.val + 16; omega) (Fin.ext hd.symm)

/-- A later point's buffer starts with the rows the point before left. -/
theorem readC (c : Dev nD) (t : Fin cfg0.N) (v : View sig .tc .vmem ⟨2, ![528, 512]⟩ .f32) (f : v.ty.Contents (Elt Ideal)) {k o : ℕ} (hp : ∀ x, (![16, 0] : Fin 2 → ℕ) x + (![512, 512] : Fin 2 → ℕ) x ≤ (![528, 512] : Fin 2 → ℕ) x)
    (hf : ∀ (i : Fin 528) (j : Fin 512), i.val < 16 → v.read (Elt Ideal) f (ix2 i j) = pad (U m c) (t.val * 512 + i.val) j)
    (hk : ∀ x, (![k, o] : Fin 2 → ℕ) x + (![512, 128] : Fin 2 → ℕ) x ≤ (![528, 512] : Fin 2 → ℕ) x) (r : Fin 512) (d : Fin 128) (p : Fin 512) (hd : p.val = o + d.val) :
    View.ld (v.read (Elt Ideal) (v.writes (Elt Ideal) f [(⟨Rect.unit (s := ⟨2, ![528, 512]⟩) ![16, 0] ![512, 512] hp, k0_pay4 (iblk m c 2 t)⟩ : View.Piece (Elt Ideal) (⟨2, ![528, 512]⟩ : Shape) .f32)]))
      (Rect.unit (s := ⟨2, ![528, 512]⟩) ![k, o] ![512, 128] hk) (ix2 r d) = pad (U m c) ((tok t r).val + k) p := by
  have h0 := hk 0
  have h1 := hk 1
  simp at h0 h1
  refine (congrArg _ (emb_at hk r d (by omega) (by omega))).trans ?_
  have e : pad (U m c) (t.val * 512 + (k + r.val)) ⟨o + d.val, by omega⟩ = pad (U m c) ((tok t r).val + k) p :=
    congrArg₂ (pad (U m c)) (by show t.val * 512 + (k + r.val) = t.val * 512 + r.val + k; omega) (Fin.ext hd.symm)
  by_cases hi : 16 ≤ k + r.val
  · refine (View.read_writes_cons_rows_of_mem v f hp _ [] _ (ix2 ⟨k + r.val - 16, by omega⟩ ⟨o + d.val, by omega⟩) rfl ?_ rfl).trans ?_
    · show k + r.val = 16 + (k + r.val - 16); omega
    · exact (row_at m c t (k + r.val) _ (by show 16 + (k + r.val - 16) = _; omega) _).trans e
  · refine (View.read_writes_cons_rows_of_not_mem v f hp _ [] _ rfl rfl (Or.inl (by show k + r.val < 16; omega))).trans ?_
    exact (hf _ _ (by show k + r.val < 16; omega)).trans e

/-- The rows a point leaves for the next one. -/
theorem keep_of (c : Dev nD) (t : Fin cfg0.N) {κ : Kind} {sp : Space} (v : View sig κ sp ⟨2, ![528, 512]⟩ .f32) (hp : ∀ x, (![16, 0] : Fin 2 → ℕ) x + (![512, 512] : Fin 2 → ℕ) x ≤ (![528, 512] : Fin 2 → ℕ) x)
    (hq : ∀ x, (![0, 0] : Fin 2 → ℕ) x + (![16, 512] : Fin 2 → ℕ) x ≤ (![528, 512] : Fin 2 → ℕ) x)
    (hl : ∀ x, (![512, 0] : Fin 2 → ℕ) x + (![16, 512] : Fin 2 → ℕ) x ≤ (![528, 512] : Fin 2 → ℕ) x)
    (L L' : List (View.Piece (Elt Ideal) (⟨2, ![528, 512]⟩ : Shape) .f32)) (i : Fin 528) (j : Fin 512) (hi : i.val < 16) :
    View.canon ((⟨Rect.unit (s := ⟨2, ![528, 512]⟩) ![0, 0] ![16, 512] hq, k0_pay1 (v.readCov ((⟨Rect.unit (s := ⟨2, ![528, 512]⟩) ![16, 0] ![512, 512] hp, k0_pay4 (iblk m c 2 t)⟩ : View.Piece (Elt Ideal) (⟨2, ![528, 512]⟩ : Shape) .f32) :: L)
      (Rect.unit (s := ⟨2, ![528, 512]⟩) ![512, 0] ![16, 512] hl).toLoadRect)⟩ : View.Piece (Elt Ideal) (⟨2, ![528, 512]⟩ : Shape) .f32) :: L') (ix2 i j)
      = pad (U m c) ((t.val + 1) * 512 + i.val) j := by
  have hE : (Rect.unit (s := ⟨2, ![528, 512]⟩) ![0, 0] ![16, 512] hq).emb (ix2 ⟨i.val, hi⟩ j) = ix2 i j := by
    funext x; match x with
    | ⟨0, _⟩ => exact Fin.ext (by simp [Rect.emb_apply])
    | ⟨1, _⟩ => exact Fin.ext (by simp [Rect.emb_apply])
  rw [← hE]
  refine (View.canon_cons_emb _ _ _ _).trans ((copy_at _ _).trans ?_)
  rw [View.readCov_eq_canon']
  have hB : (Rect.unit (s := ⟨2, ![528, 512]⟩) ![512, 0] ![16, 512] hl).toLoadRect.idx (ix2 ⟨i.val, hi⟩ j) = ix2 ⟨512 + i.val, by omega⟩ j := by
    funext x; match x with
    | ⟨0, _⟩ => exact Fin.ext (by simp [Rect.toLoadRect, LoadRect.idx])
    | ⟨1, _⟩ => exact Fin.ext (by simp [Rect.toLoadRect, LoadRect.idx])
  refine (congrArg (View.canon _) hB).trans ((low_at m c t hp L _ j (by show 16 ≤ 512 + i.val; omega)).trans ?_)
  exact congrArg (pad (U m c) · j) (by show t.val * 512 + (512 + i.val) = _; omega)

/-- A group's product in a tile, from its differences. -/
theorem y_of (c : Dev nD) (t : Fin cfg0.N) {g : ℕ} (G : Fin 4) (hG : G.val = g) {o : ℕ} (ho : o = g * 128) (D : FVec Ideal S512x128 .bf16)
    (hD : ∀ (r : Fin 512) (d : Fin 128), D (ix2 r d) = diff (U m c) (tok t r) G d)
    (hw : ∀ x, (![g, 0, 0] : Fin 3 → ℕ) x + (![1, 128, 128] : Fin 3 → ℕ) x ≤ (![4, 128, 128] : Fin 3 → ℕ) x)
    (hs : ∀ x, (![0, o] : Fin 2 → ℕ) x + (![1, 128] : Fin 2 → ℕ) x ≤ (![1, 512] : Fin 2 → ℕ) x) (r : Fin 512) (d : Fin 128) :
    k0_pay8 D (k0_pay7 (View.ld (iblk m c 3 t) (Rect.unit (s := ⟨3, ![4, 128, 128]⟩) ![g, 0, 0] ![1, 128, 128] hw))) (constant S512x128 .f32 0#32)
      (View.ld (iblk m c 4 t) (Rect.unit (s := ⟨2, ![1, 512]⟩) ![0, o] ![1, 128] hs)) (ix2 r d) = y (U m c) (P m c) (Z m c) (tok t r) G d := by
  rw [prod_at]
  unfold Cert.MixOutSpec.y
  refine congrArg₂ (· * ·) (Finset.sum_congr rfl fun e _ => congrArg₂ (· * ·) (hD r e) ?_) ?_
  · exact (Columns.ld_slab hw _ 0 e d G (by rw [hG]; rfl)).trans (blk3 m c t G e d)
  · exact (Columns.ld_cols hs _ 0 d (place G d) (by show G.val * 128 + d.val = _; rw [hG, ho])).trans (blk4 m c t _)

/-- The four groups' differences side by side. -/
theorem dlt_of (c : Dev nD) (t : Fin cfg0.N) {D0 D1 D2 D3 : FVec Ideal S512x128 .bf16}
    (e0 : ∀ (r : Fin 512) (d : Fin 128), D0 (ix2 r d) = diff (U m c) (tok t r) 0 d) (e1 : ∀ (r : Fin 512) (d : Fin 128), D1 (ix2 r d) = diff (U m c) (tok t r) 1 d)
    (e2 : ∀ (r : Fin 512) (d : Fin 128), D2 (ix2 r d) = diff (U m c) (tok t r) 2 d) (e3 : ∀ (r : Fin 512) (d : Fin 128), D3 (ix2 r d) = diff (U m c) (tok t r) 3 d)
    (h0 : ∀ x, (![0, 0] : Fin 2 → ℕ) x + (![512, 128] : Fin 2 → ℕ) x ≤ (![512, 512] : Fin 2 → ℕ) x)
    (h1 : ∀ x, (![0, 128] : Fin 2 → ℕ) x + (![512, 128] : Fin 2 → ℕ) x ≤ (![512, 512] : Fin 2 → ℕ) x)
    (h2 : ∀ x, (![0, 256] : Fin 2 → ℕ) x + (![512, 128] : Fin 2 → ℕ) x ≤ (![512, 512] : Fin 2 → ℕ) x)
    (h3 : ∀ x, (![0, 384] : Fin 2 → ℕ) x + (![512, 128] : Fin 2 → ℕ) x ≤ (![512, 512] : Fin 2 → ℕ) x) (r j : Fin 512) :
    View.canon [(⟨Rect.unit (s := ⟨2, ![512, 512]⟩) ![0, 384] ![512, 128] h3, D3⟩ : View.Piece (Elt Ideal) (⟨2, ![512, 512]⟩ : Shape) .bf16),
      (⟨Rect.unit (s := ⟨2, ![512, 512]⟩) ![0, 256] ![512, 128] h2, D2⟩ : View.Piece (Elt Ideal) (⟨2, ![512, 512]⟩ : Shape) .bf16),
      (⟨Rect.unit (s := ⟨2, ![512, 512]⟩) ![0, 128] ![512, 128] h1, D1⟩ : View.Piece (Elt Ideal) (⟨2, ![512, 512]⟩ : Shape) .bf16),
      (⟨Rect.unit (s := ⟨2, ![512, 512]⟩) ![0, 0] ![512, 128] h0, D0⟩ : View.Piece (Elt Ideal) (⟨2, ![512, 512]⟩ : Shape) .bf16)] (ix2 r j)
      = diff (U m c) (tok t r) (Cert.MixOutSpec.grp j) (Cert.MixOutSpec.col j) := by
  refine Columns.canon_cols h3 _ _ r j _ (fun x hx => (e3 r x).trans (congrArg₂ (diff (U m c) (tok t r)) (Fin.ext (by show 3 = j.val / 128; omega)) (Fin.ext (by show x.val = j.val % 128; omega)))) fun n3 => ?_
  refine Columns.canon_cols h2 _ _ r j _ (fun x hx => (e2 r x).trans (congrArg₂ (diff (U m c) (tok t r)) (Fin.ext (by show 2 = j.val / 128; omega)) (Fin.ext (by show x.val = j.val % 128; omega)))) fun n2 => ?_
  refine Columns.canon_cols h1 _ _ r j _ (fun x hx => (e1 r x).trans (congrArg₂ (diff (U m c) (tok t r)) (Fin.ext (by show 1 = j.val / 128; omega)) (Fin.ext (by show x.val = j.val % 128; omega)))) fun n1 => ?_
  refine Columns.canon_cols h0 _ _ r j _ (fun x hx => (e0 r x).trans (congrArg₂ (diff (U m c) (tok t r)) (Fin.ext (by show 0 = j.val / 128; omega)) (Fin.ext (by show x.val = j.val % 128; omega)))) fun n0 => ?_
  exact absurd j.isLt (by omega)

/-- The row the projection reads. -/
theorem mix_of (c : Dev nD) (t : Fin cfg0.N) {Y0 Y1 Y2 Y3 : FVec Ideal S512x128 .bf16}
    (e0 : ∀ (r : Fin 512) (d : Fin 128), Y0 (ix2 r d) = y (U m c) (P m c) (Z m c) (tok t r) 0 d) (e1 : ∀ (r : Fin 512) (d : Fin 128), Y1 (ix2 r d) = y (U m c) (P m c) (Z m c) (tok t r) 1 d)
    (e2 : ∀ (r : Fin 512) (d : Fin 128), Y2 (ix2 r d) = y (U m c) (P m c) (Z m c) (tok t r) 2 d) (e3 : ∀ (r : Fin 512) (d : Fin 128), Y3 (ix2 r d) = y (U m c) (P m c) (Z m c) (tok t r) 3 d)
    (h0 : ∀ x, (![0, 512] : Fin 2 → ℕ) x + (![512, 128] : Fin 2 → ℕ) x ≤ (![512, 1024] : Fin 2 → ℕ) x)
    (h1 : ∀ x, (![0, 640] : Fin 2 → ℕ) x + (![512, 128] : Fin 2 → ℕ) x ≤ (![512, 1024] : Fin 2 → ℕ) x)
    (h2 : ∀ x, (![0, 768] : Fin 2 → ℕ) x + (![512, 128] : Fin 2 → ℕ) x ≤ (![512, 1024] : Fin 2 → ℕ) x)
    (h3 : ∀ x, (![0, 896] : Fin 2 → ℕ) x + (![512, 128] : Fin 2 → ℕ) x ≤ (![512, 1024] : Fin 2 → ℕ) x)
    (ha : ∀ x, (![0, 0] : Fin 2 → ℕ) x + (![512, 512] : Fin 2 → ℕ) x ≤ (![512, 1024] : Fin 2 → ℕ) x) (r : Fin 512) (j : Fin 1024) :
    View.canon [(⟨Rect.unit (s := ⟨2, ![512, 1024]⟩) ![0, 896] ![512, 128] h3, Y3⟩ : View.Piece (Elt Ideal) (⟨2, ![512, 1024]⟩ : Shape) .bf16),
      (⟨Rect.unit (s := ⟨2, ![512, 1024]⟩) ![0, 768] ![512, 128] h2, Y2⟩ : View.Piece (Elt Ideal) (⟨2, ![512, 1024]⟩ : Shape) .bf16),
      (⟨Rect.unit (s := ⟨2, ![512, 1024]⟩) ![0, 640] ![512, 128] h1, Y1⟩ : View.Piece (Elt Ideal) (⟨2, ![512, 1024]⟩ : Shape) .bf16),
      (⟨Rect.unit (s := ⟨2, ![512, 1024]⟩) ![0, 512] ![512, 128] h0, Y0⟩ : View.Piece (Elt Ideal) (⟨2, ![512, 1024]⟩ : Shape) .bf16),
      (⟨Rect.unit (s := ⟨2, ![512, 1024]⟩) ![0, 0] ![512, 512] ha, k0_pay5 (iblk m c 1 t)⟩ : View.Piece (Elt Ideal) (⟨2, ![512, 1024]⟩ : Shape) .bf16)] (ix2 r j)
      = mix (A m c) (U m c) (P m c) (Z m c) (tok t r) j := by
  refine Columns.canon_cols h3 _ _ r j _ (fun x hx => (e3 r x).trans ?_) fun n3 => ?_
  · unfold Cert.MixOutSpec.mix
    rw [dif_neg (by omega)]
    exact congrArg₂ (y (U m c) (P m c) (Z m c) (tok t r)) (Fin.ext (by show 3 = (j.val - 512) / 128; omega)) (Fin.ext (by show x.val = (j.val - 512) % 128; omega))
  refine Columns.canon_cols h2 _ _ r j _ (fun x hx => (e2 r x).trans ?_) fun n2 => ?_
  · unfold Cert.MixOutSpec.mix
    rw [dif_neg (by omega)]
    exact congrArg₂ (y (U m c) (P m c) (Z m c) (tok t r)) (Fin.ext (by show 2 = (j.val - 512) / 128; omega)) (Fin.ext (by show x.val = (j.val - 512) % 128; omega))
  refine Columns.canon_cols h1 _ _ r j _ (fun x hx => (e1 r x).trans ?_) fun n1 => ?_
  · unfold Cert.MixOutSpec.mix
    rw [dif_neg (by omega)]
    exact congrArg₂ (y (U m c) (P m c) (Z m c) (tok t r)) (Fin.ext (by show 1 = (j.val - 512) / 128; omega)) (Fin.ext (by show x.val = (j.val - 512) % 128; omega))
  refine Columns.canon_cols h0 _ _ r j _ (fun x hx => (e0 r x).trans ?_) fun n0 => ?_
  · unfold Cert.MixOutSpec.mix
    rw [dif_neg (by omega)]
    exact congrArg₂ (y (U m c) (P m c) (Z m c) (tok t r)) (Fin.ext (by show 0 = (j.val - 512) / 128; omega)) (Fin.ext (by show x.val = (j.val - 512) % 128; omega))
  refine Columns.canon_cols ha _ _ r j _ (fun x hx => ?_) fun n4 => absurd j.isLt (by omega)
  rw [att_at, blk1]
  unfold Cert.MixOutSpec.mix
  rw [dif_pos (by have := x.isLt; omega)]
  exact congrArg (fun q => A m c (ix3 0 (tok t r) q)) (Fin.ext (by show x.val = j.val; omega))

end Cert.MixOutIdeal.Value
end
-- ==== Proof.MixOut.Ker.lean ====
/- The kernel's arrays are the residual stream, the projected rows and the differences. -/
module

public import proofs.«01_k».proof.Proof.MixOut.Tile

@[expose] public section

set_option maxRecDepth 16384

noncomputable section

open Idealize.ShloMosaic Idealize.ShloMosaic.TcCoe Idealize.SL.Sem

namespace Cert.MixOutIdeal.Value

open Cert.MixOutIdeal Cert.MixOutIdeal.Gen
open Cert.MixOutSpec (place pad count diff y mix)

variable (m : (ℓ : Loc nD τ sig) → Buf (Elt Ideal) ℓ)

/-- The buffer's first rows after a point are the tokens before the next tile. -/
theorem carry (c : Dev nD) (t : Fin cfg0.N) (i : Fin 528) (j : Fin 512) (hi : i.val < 16) :
    (outsAt0 m c t.val t.isLt).2.2.2 (ix2 i j) = pad (U m c) ((t.val + 1) * 512 + i.val) j := by
  by_cases h : t.val % 8 = 0
  · rw [outsAt0_A m c t h]; dsimp only; frame_out
    exact keep_of m c t _ _ _ _ _ _ i j hi
  · rw [outsAt0_B m c t h]; dsimp only; frame_out
    exact keep_of m c t _ _ _ _ _ _ i j hi

/-- The same rows, at the next point. -/
theorem carried (c : Dev nD) (t : Fin cfg0.N) (h : ¬ t.val % 8 = 0) (hl : t.val - 1 < cfg0.N) (hw : (Memref.whole cc0_scratch0).IsWhole) (i : Fin 528) (j : Fin 512) (hi : i.val < 16) :
    (View.whole cc0_scratch0).read (Elt Ideal) (hw.unread (outsAt0 m c (t.val - 1) hl).2.2.2) (ix2 i j) = pad (U m c) (t.val * 512 + i.val) j := by
  rw [read_unread_whole]
  refine (carry m c ⟨t.val - 1, hl⟩ i j hi).trans (congrArg (pad (U m c) · j) ?_)
  show (t.val - 1 + 1) * 512 + i.val = _
  have : t.val ≠ 0 := fun h0 => h (by rw [h0])
  omega

set_option maxHeartbeats 4000000 in
theorem dlt_at (c : Dev nD) (t : Fin cfg0.N) (r : Fin 512) (j : Fin 512) :
    (outsAt0 m c t.val t.isLt).2.2.1 (ix2 r j) = diff (U m c) (tok t r) (Cert.MixOutSpec.grp j) (Cert.MixOutSpec.col j) := by
  by_cases h : t.val % 8 = 0
  · rw [outsAt0_A m c t h]; dsimp only; frame_out
    refine dlt_of m c t ?_ ?_ ?_ ?_ _ _ _ _ r j
    · intro r d
      refine dif0 m c t r d ?_ ?_
      all_goals exact readA m c t h _ _ _ _ r d _ (by simp)
    · intro r d
      refine dif1 m c t r d ?_ ?_ ?_ ?_
      all_goals exact readA m c t h _ _ _ _ r d _ (by simp)
    · intro r d
      refine dif2 m c t r d ?_ ?_ ?_ ?_ ?_ ?_ ?_ ?_
      all_goals exact readA m c t h _ _ _ _ r d _ (by simp)
    · intro r d
      refine dif3 m c t r d ?_ ?_ ?_ ?_ ?_ ?_ ?_ ?_ ?_ ?_ ?_ ?_ ?_ ?_ ?_ ?_
      all_goals exact readA m c t h _ _ _ _ r d _ (by simp)
  · rw [outsAt0_B m c t h]; dsimp only; frame_out
    refine dlt_of m c t ?_ ?_ ?_ ?_ _ _ _ _ r j
    · intro r d
      refine dif0 m c t r d ?_ ?_
      all_goals (first | exact readB m c t _ _ _ r d _ (by simp) | exact readC m c t _ _ _ (carried m c t h _ _) _ r d _ (by simp))
    · intro r d
      refine dif1 m c t r d ?_ ?_ ?_ ?_
      all_goals (first | exact readB m c t _ _ _ r d _ (by simp) | exact readC m c t _ _ _ (carried m c t h _ _) _ r d _ (by simp))
    · intro r d
      refine dif2 m c t r d ?_ ?_ ?_ ?_ ?_ ?_ ?_ ?_
      all_goals (first | exact readB m c t _ _ _ r d _ (by simp) | exact readC m c t _ _ _ (carried m c t h _ _) _ r d _ (by simp))
    · intro r d
      refine dif3 m c t r d ?_ ?_ ?_ ?_ ?_ ?_ ?_ ?_ ?_ ?_ ?_ ?_ ?_ ?_ ?_ ?_
      all_goals (first | exact readB m c t _ _ _ r d _ (by simp) | exact readC m c t _ _ _ (carried m c t h _ _) _ r d _ (by simp))

set_option maxHeartbeats 4000000 in
theorem mix_at (c : Dev nD) (t : Fin cfg0.N) (r : Fin 512) (j : Fin 1024) :
    (outsAt0 m c t.val t.isLt).2.1 (ix2 r j) = mix (A m c) (U m c) (P m c) (Z m c) (tok t r) j := by
  by_cases h : t.val % 8 = 0
  · rw [outsAt0_A m c t h]; dsimp only; frame_out
    refine mix_of m c t ?_ ?_ ?_ ?_ _ _ _ _ _ r j
    · intro r d
      refine y_of m c t 0 rfl rfl _ (fun r d => ?_) _ _ r d
      refine dif0 m c t r d ?_ ?_
      all_goals exact readA m c t h _ _ _ _ r d _ (by simp)
    · intro r d
      rw [prod1]
      refine y_of m c t 1 rfl rfl _ (fun r d => ?_) _ _ r d
      refine dif1 m c t r d ?_ ?_ ?_ ?_
      all_goals exact readA m c t h _ _ _ _ r d _ (by simp)
    · intro r d
      rw [prod2]
      refine y_of m c t 2 rfl rfl _ (fun r d => ?_) _ _ r d
      refine dif2 m c t r d ?_ ?_ ?_ ?_ ?_ ?_ ?_ ?_
      all_goals exact readA m c t h _ _ _ _ r d _ (by simp)
    · intro r d
      rw [prod3]
      refine y_of m c t 3 rfl rfl _ (fun r d => ?_) _ _ r d
      refine dif3 m c t r d ?_ ?_ ?_ ?_ ?_ ?_ ?_ ?_ ?_ ?_ ?_ ?_ ?_ ?_ ?_ ?_
      all_goals exact readA m c t h _ _ _ _ r d _ (by simp)
  · rw [outsAt0_B m c t h]; dsimp only; frame_out
    refine mix_of m c t ?_ ?_ ?_ ?_ _ _ _ _ _ r j
    · intro r d
      refine y_of m c t 0 rfl rfl _ (fun r d => ?_) _ _ r d
      refine dif0 m c t r d ?_ ?_
      all_goals (first | exact readB m c t _ _ _ r d _ (by simp) | exact readC m c t _ _ _ (carried m c t h _ _) _ r d _ (by simp))
    · intro r d
      rw [prod1]
      refine y_of m c t 1 rfl rfl _ (fun r d => ?_) _ _ r d
      refine dif1 m c t r d ?_ ?_ ?_ ?_
      all_goals (first | exact readB m c t _ _ _ r d _ (by simp) | exact readC m c t _ _ _ (carried m c t h _ _) _ r d _ (by simp))
    · intro r d
      rw [prod2]
      refine y_of m c t 2 rfl rfl _ (fun r d => ?_) _ _ r d
      refine dif2 m c t r d ?_ ?_ ?_ ?_ ?_ ?_ ?_ ?_
      all_goals (first | exact readB m c t _ _ _ r d _ (by simp) | exact readC m c t _ _ _ (carried m c t h _ _) _ r d _ (by simp))
    · intro r d
      rw [prod3]
      refine y_of m c t 3 rfl rfl _ (fun r d => ?_) _ _ r d
      refine dif3 m c t r d ?_ ?_ ?_ ?_ ?_ ?_ ?_ ?_ ?_ ?_ ?_ ?_ ?_ ?_ ?_ ?_
      all_goals (first | exact readB m c t _ _ _ r d _ (by simp) | exact readC m c t _ _ _ (carried m c t h _ _) _ r d _ (by simp))

set_option maxHeartbeats 4000000 in
theorem hid_row (c : Dev nD) (t : Fin cfg0.N) (r : Fin 512) (j : Fin 1024) :
    (outsAt0 m c t.val t.isLt).1 (ix2 r j) = Cert.MixOutSpec.hid (X m c) (A m c) (U m c) (P m c) (Z m c) (O m c) (tok t r) j := by
  by_cases h : t.val % 8 = 0
  · rw [outsAt0_A m c t h]; dsimp only; frame_out
    refine (hid_at _ _ _ r j).trans (congrArg₂ (· + ·) (blk0 m c t r j) (Finset.sum_congr rfl fun e _ => congrArg₂ (· * ·) (Columns.read_cols _ _ _ r e _ fun q hq => ?_) (blk5 m c t e j)))
    obtain rfl : q = e := Fin.ext (by omega)
    refine mix_of m c t ?_ ?_ ?_ ?_ _ _ _ _ _ r q
    · intro r d
      refine y_of m c t 0 rfl rfl _ (fun r d => ?_) _ _ r d
      refine dif0 m c t r d ?_ ?_
      all_goals exact readA m c t h _ _ _ _ r d _ (by simp)
    · intro r d
      rw [prod1]
      refine y_of m c t 1 rfl rfl _ (fun r d => ?_) _ _ r d
      refine dif1 m c t r d ?_ ?_ ?_ ?_
      all_goals exact readA m c t h _ _ _ _ r d _ (by simp)
    · intro r d
      rw [prod2]
      refine y_of m c t 2 rfl rfl _ (fun r d => ?_) _ _ r d
      refine dif2 m c t r d ?_ ?_ ?_ ?_ ?_ ?_ ?_ ?_
      all_goals exact readA m c t h _ _ _ _ r d _ (by simp)
    · intro r d
      rw [prod3]
      refine y_of m c t 3 rfl rfl _ (fun r d => ?_) _ _ r d
      refine dif3 m c t r d ?_ ?_ ?_ ?_ ?_ ?_ ?_ ?_ ?_ ?_ ?_ ?_ ?_ ?_ ?_ ?_
      all_goals exact readA m c t h _ _ _ _ r d _ (by simp)
  · rw [outsAt0_B m c t h]; dsimp only; frame_out
    refine (hid_at _ _ _ r j).trans (congrArg₂ (· + ·) (blk0 m c t r j) (Finset.sum_congr rfl fun e _ => congrArg₂ (· * ·) (Columns.read_cols _ _ _ r e _ fun q hq => ?_) (blk5 m c t e j)))
    obtain rfl : q = e := Fin.ext (by omega)
    refine mix_of m c t ?_ ?_ ?_ ?_ _ _ _ _ _ r q
    · intro r d
      refine y_of m c t 0 rfl rfl _ (fun r d => ?_) _ _ r d
      refine dif0 m c t r d ?_ ?_
      all_goals (first | exact readB m c t _ _ _ r d _ (by simp) | exact readC m c t _ _ _ (carried m c t h _ _) _ r d _ (by simp))
    · intro r d
      rw [prod1]
      refine y_of m c t 1 rfl rfl _ (fun r d => ?_) _ _ r d
      refine dif1 m c t r d ?_ ?_ ?_ ?_
      all_goals (first | exact readB m c t _ _ _ r d _ (by simp) | exact readC m c t _ _ _ (carried m c t h _ _) _ r d _ (by simp))
    · intro r d
      rw [prod2]
      refine y_of m c t 2 rfl rfl _ (fun r d => ?_) _ _ r d
      refine dif2 m c t r d ?_ ?_ ?_ ?_ ?_ ?_ ?_ ?_
      all_goals (first | exact readB m c t _ _ _ r d _ (by simp) | exact readC m c t _ _ _ (carried m c t h _ _) _ r d _ (by simp))
    · intro r d
      rw [prod3]
      refine y_of m c t 3 rfl rfl _ (fun r d => ?_) _ _ r d
      refine dif3 m c t r d ?_ ?_ ?_ ?_ ?_ ?_ ?_ ?_ ?_ ?_ ?_ ?_ ?_ ?_ ?_ ?_
      all_goals (first | exact readB m c t _ _ _ r d _ (by simp) | exact readC m c t _ _ _ (carried m c t h _ _) _ r d _ (by simp))

theorem place6 (t : Fin cfg0.N) (r : Fin 512) (k : Fin 1024) : ((View.whole main_v6_0).slice (win0_6.rect t)).emb (ix2 r k) = ix2 (tok t r) k := by
  blk_ext [idx_val t]
theorem final_6 (c : Dev nD) : (dats m 0 c).arrAt 6 (cfgs 0).N = Cert.MixOutSpec.out0 (X m c) (A m c) (U m c) (P m c) (Z m c) (O m c) := by
  refine (dats m 0 c).arrAt_eq_of_covers 6 _ (by decide +kernel) fun t hf y => ?_
  blk_simp; rw [after0_6]
  idx_vars y
  refine Eq.trans ?_ (congrArg _ (place6 t y0 y1)).symm
  exact hid_row m c t y0 y1

theorem place7 (t : Fin cfg0.N) (r : Fin 512) (k : Fin 1024) : ((View.whole main_v6_1).slice (win0_7.rect t)).emb (ix2 r k) = ix2 (tok t r) k := by
  blk_ext [idx_val t]
theorem final_7 (c : Dev nD) : (dats m 0 c).arrAt 7 (cfgs 0).N = Cert.MixOutSpec.out1 (A m c) (U m c) (P m c) (Z m c) := by
  refine (dats m 0 c).arrAt_eq_of_covers 7 _ (by decide +kernel) fun t hf y => ?_
  blk_simp; rw [after0_7]
  idx_vars y
  refine Eq.trans ?_ (congrArg _ (place7 t y0 y1)).symm
  exact mix_at m c t y0 y1

theorem place8 (t : Fin cfg0.N) (r : Fin 512) (k : Fin 512) : ((View.whole main_v6_2).slice (win0_8.rect t)).emb (ix2 r k) = ix2 (tok t r) k := by
  blk_ext [idx_val t]
theorem final_8 (c : Dev nD) : (dats m 0 c).arrAt 8 (cfgs 0).N = Cert.MixOutSpec.out2 (U m c) := by
  refine (dats m 0 c).arrAt_eq_of_covers 8 _ (by decide +kernel) fun t hf y => ?_
  blk_simp; rw [after0_8]
  idx_vars y
  refine Eq.trans ?_ (congrArg _ (place8 t y0 y1)).symm
  exact dlt_at m c t y0 y1

end Cert.MixOutIdeal.Value
end
-- ==== Proof.MixOut.Ref.lean ====
/- The reference's pooling, product and projection, entry by entry. -/
module

public import proofs.«01_k».proof.Proof.Gen.MixOutRefIdeal.Read
public import proofs.«01_k».proof.Proof.MixOut.Spec
public import proofs.«01_k».proof.Proof.Common.HostSums
public import proofs.«01_k».proof.Proof.Common.HostWindow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixOutRefIdeal.Read

open Cert.MixOutRefIdeal

variable {X : FVec Ideal S1x4096x1024 .f32} {A U : FVec Ideal S1x4096x512 .f32} {P : FVec Ideal S1x4x128x128 .f32}
  {Z : FVec Ideal S1x512 .f32} {O : FVec Ideal S1x1024x1024 .f32}

/-- The sum of the tokens up to one, a window of as many tokens as there are. -/
theorem upto {n G E : ℕ} (x : FVec Ideal ⟨4, ![1, n, G, E]⟩ .f32) (init : FVec Ideal ⟨0, ![]⟩ .f32)
    (h : (⟨4, ![1, n, G, E]⟩ : Shape).ReduceWindows ![1, n, 1, 1] ![1, 1, 1, 1] ![0, n - 1, 0, 0] ![0, 0, 0, 0] ⟨4, ![1, n, G, E]⟩)
    (hu : 0 < (⟨0, ![]⟩ : Shape).numel) (hi : ∀ i, init i = 0) (z : Fin 1) (s : Fin n) (g : Fin G) (d : Fin E) :
    Host.reduceWindowAdd (F := Ideal) ![1, n, 1, 1] ![1, 1, 1, 1] ![0, n - 1, 0, 0] ![0, 0, 0, 0] x init h hu (ix4 z s g d)
      = ∑ k : Fin n, if hk : n - 1 ≤ s.val + k.val then x (ix4 0 ⟨s.val + k.val - (n - 1), by omega⟩ g d) else 0 := by
  refine (HostWindow.foldl_add _ _ _).trans ?_
  rw [hi, zero_add]
  rw [← List.ofFn_eq_map, List.sum_ofFn]
  rw [← (Equiv.sum_comp (Shape.rowMajor ⟨4, ![1, n, 1, 1]⟩) _)]
  refine (sum_idx4 _).trans ?_
  simp only [Fin.isValue, Fin.sum_univ_one]
  refine Finset.sum_congr rfl fun k _ => ?_
  have e : (Shape.rowMajor ⟨4, ![1, n, 1, 1]⟩).symm ((Shape.rowMajor ⟨4, ![1, n, 1, 1]⟩) (ix4 0 k 0 0)) = ix4 0 k 0 0 := Equiv.symm_apply_apply _ _
  by_cases hk : n - 1 ≤ s.val + k.val
  · rw [dif_pos hk, dif_pos]
    · refine congrArg x (funext fun a => Fin.ext ?_)
      match a with
      | ⟨0, _⟩ => have := congrArg (fun i => (i 0).val) e; simp at this ⊢
      | ⟨1, _⟩ => have := congrArg (fun i => (i 1).val) e; simp at this ⊢
      | ⟨2, _⟩ => have := congrArg (fun i => (i 2).val) e; simp at this ⊢
      | ⟨3, _⟩ => have := congrArg (fun i => (i 3).val) e; simp at this ⊢
    · intro a
      match a with
      | ⟨0, _⟩ => simp
      | ⟨1, _⟩ => simp; omega
      | ⟨2, _⟩ => simp
      | ⟨3, _⟩ => simp
  · rw [dif_neg hk, dif_neg]
    intro hh
    have := (hh 1).1
    simp at this
    omega

/-- The tokens' sum up to a token. -/
theorem v1_at (z : Fin 1) (s : Fin 4096) (g : Fin 4) (d : Fin 128) : val_main_v1 (F := Ideal) U (ix4 z s g d)
    = ∑ i ∈ Finset.range (s.val + 1), MixOutSpec.row U i (MixOutSpec.place g d) := by
  refine (upto (val_main_v0 (F := Ideal) U) _ _ _ (fun i => ?_) z s g d).trans ?_
  · pointwise! [val_main_call0_call0_v0, val_main_call0_call0_cst]
  let w : ℕ → EReal := fun i => if 4095 ≤ i then MixOutSpec.row U (i - 4095) (MixOutSpec.place g d) else 0
  have h0 : ∀ k : Fin 4096, (if hk : 4096 - 1 ≤ s.val + k.val then val_main_v0 (F := Ideal) U (ix4 0 ⟨s.val + k.val - (4096 - 1), by omega⟩ g d) else 0) = w (s.val + k.val) := fun k => by
    by_cases hk : 4095 ≤ s.val + k.val
    · rw [dif_pos hk]
      refine Eq.trans ?_ (if_pos hk).symm
      unfold MixOutSpec.row
      rw [dif_pos (by omega)]
      pointwise [val_main_v0]
    · rw [dif_neg hk]; exact (if_neg hk).symm
  refine (Finset.sum_congr rfl fun k _ => h0 k).trans ?_
  rw [Fin.sum_univ_eq_sum_range (fun k => w (s.val + k)) 4096]
  have h1 := Finset.sum_range_add w s.val 4096
  have h2 := Finset.sum_range_add w 4095 (s.val + 1)
  have h3 : ∑ k ∈ Finset.range s.val, w k = 0 := Finset.sum_eq_zero fun k hk => if_neg (by have := Finset.mem_range.mp hk; omega)
  have h4 : ∑ k ∈ Finset.range 4095, w k = 0 := Finset.sum_eq_zero fun k hk => if_neg (by have := Finset.mem_range.mp hk; omega)
  rw [h3, zero_add] at h1
  rw [h4, zero_add] at h2
  rw [← h1, show s.val + 4096 = 4095 + (s.val + 1) by omega, h2]
  refine Finset.sum_congr rfl fun k _ => (if_pos (by omega)).trans ?_
  rw [Nat.add_sub_cancel_left]

theorem v3_at (z : Fin 1) (n : Fin 4097) (g : Fin 4) (d : Fin 128) : val_main_v3 (F := Ideal) U (ix4 z n g d)
    = ∑ i ∈ Finset.range n.val, MixOutSpec.row U i (MixOutSpec.place g d) := by
  pointwise [val_main_v3, val_main_v2, val_main_cst]
  simp only [v1_at]
  by_cases h : n.val < 1
  · rw [dif_pos h, show n.val = 0 by omega, Finset.range_zero, Finset.sum_empty]
  · rw [dif_neg h, show n.val - 1 + 1 = n.val by omega]

/-- A group's difference, from the difference of the two running sums. -/
theorem diff_of (hU : ∀ i, Reals.IsReal (U i)) (g : Fin 4) (w : ℕ) (hw : w + 1 = MixOutSpec.window g) (hw' : w + 1 ≤ 16) (s : Fin 4096) (d : Fin 128) :
    Ideal.div (∑ i ∈ Finset.range (1 + s.val), MixOutSpec.row U i (MixOutSpec.place g d) -
        (if _h : s.val < w then 0 else ∑ i ∈ Finset.range (s.val - w), MixOutSpec.row U i (MixOutSpec.place g d))) (MixOutSpec.count s.val g)
      - U (ix3 0 s (MixOutSpec.place g d)) = MixOutSpec.diff U s g d := by
  have e : (if _h : s.val < w then 0 else ∑ i ∈ Finset.range (s.val - w), MixOutSpec.row U i (MixOutSpec.place g d))
      = ∑ i ∈ Finset.range (s.val + 1 - (w + 1)), MixOutSpec.row U i (MixOutSpec.place g d) := by
    by_cases h : s.val < w
    · rw [dif_pos h, show s.val + 1 - (w + 1) = 0 by omega, Finset.range_zero, Finset.sum_empty]
    · rw [dif_neg h, show s.val + 1 - (w + 1) = s.val - w by omega]
  rw [e, Nat.add_comm 1 s.val, MixOutSpec.window_sum U hU (w + 1) hw', hw]
  rfl

theorem count0 (z : Fin 1) (s : Fin 4096) (d : Fin 128) : val_main_v20 (F := Ideal) (ix3 z s d) = MixOutSpec.count s.val 0 := by
  pointwise [val_main_v20, val_main_v16, val_main_v15, val_main_v14, val_main_v13, val_main_v12, val_main_v11, val_main_v5, val_main_c, val_main_c_1]
  refine (congrArg (FloatOps.sitofp (F := Ideal) FTy.f32) (congrArg (IntOp.minsi · _) (?_ : _ = BitVec.ofNat 32 (s.val + 1)))).trans (HostWindow.clip (w := 2) (by omega) (by omega))
  exact (BitVec.ofNat_add s.val 1).symm
theorem count1 (z : Fin 1) (s : Fin 4096) (d : Fin 128) : val_main_v39 (F := Ideal) (ix3 z s d) = MixOutSpec.count s.val 1 := by
  pointwise [val_main_v39, val_main_v35, val_main_v34, val_main_v33, val_main_v32, val_main_v31, val_main_v30, val_main_v5, val_main_c_3, val_main_c_4]
  refine (congrArg (FloatOps.sitofp (F := Ideal) FTy.f32) (congrArg (IntOp.minsi · _) (?_ : _ = BitVec.ofNat 32 (s.val + 1)))).trans (HostWindow.clip (w := 4) (by omega) (by omega))
  exact (BitVec.ofNat_add s.val 1).symm
theorem count2 (z : Fin 1) (s : Fin 4096) (d : Fin 128) : val_main_v58 (F := Ideal) (ix3 z s d) = MixOutSpec.count s.val 2 := by
  pointwise [val_main_v58, val_main_v54, val_main_v53, val_main_v52, val_main_v51, val_main_v50, val_main_v49, val_main_v5, val_main_c_6, val_main_c_7]
  refine (congrArg (FloatOps.sitofp (F := Ideal) FTy.f32) (congrArg (IntOp.minsi · _) (?_ : _ = BitVec.ofNat 32 (s.val + 1)))).trans (HostWindow.clip (w := 8) (by omega) (by omega))
  exact (BitVec.ofNat_add s.val 1).symm
theorem count3 (z : Fin 1) (s : Fin 4096) (d : Fin 128) : val_main_v77 (F := Ideal) (ix3 z s d) = MixOutSpec.count s.val 3 := by
  pointwise [val_main_v77, val_main_v73, val_main_v72, val_main_v71, val_main_v70, val_main_v69, val_main_v68, val_main_v5, val_main_c_9, val_main_c_10]
  refine (congrArg (FloatOps.sitofp (F := Ideal) FTy.f32) (congrArg (IntOp.minsi · _) (?_ : _ = BitVec.ofNat 32 (s.val + 1)))).trans (HostWindow.clip (w := 16) (by omega) (by omega))
  exact (BitVec.ofNat_add s.val 1).symm

theorem diff0 (hU : ∀ i, Reals.IsReal (U i)) (z : Fin 1) (s : Fin 4096) (d : Fin 128) : val_main_v24 (F := Ideal) U (ix3 z s d) = MixOutSpec.diff U s 0 d := by
  refine Eq.trans ?_ (diff_of hU 0 1 rfl (by omega) s d)
  pointwise [val_main_v24, val_main_v23, val_main_v22, val_main_v21, val_main_v19, val_main_v18, val_main_v17, val_main_v10, val_main_v9, val_main_v8, val_main_v7, val_main_v6, val_main_v4, val_main_cst_0, val_main_v0]
  simp only [v3_at, count0]
  rw [show (⟨d.val, by omega⟩ : Fin 512) = MixOutSpec.place 0 d from Fin.ext (by simp)]

theorem diff1 (hU : ∀ i, Reals.IsReal (U i)) (z : Fin 1) (s : Fin 4096) (d : Fin 128) : val_main_v43 (F := Ideal) U (ix3 z s d) = MixOutSpec.diff U s 1 d := by
  refine Eq.trans ?_ (diff_of hU 1 3 rfl (by omega) s d)
  pointwise [val_main_v43, val_main_v42, val_main_v41, val_main_v40, val_main_v38, val_main_v37, val_main_v36, val_main_v29, val_main_v28, val_main_v27, val_main_v26, val_main_v25, val_main_v4, val_main_cst_2, val_main_v0]
  simp only [v3_at, count1]
  rfl

theorem diff2 (hU : ∀ i, Reals.IsReal (U i)) (z : Fin 1) (s : Fin 4096) (d : Fin 128) : val_main_v62 (F := Ideal) U (ix3 z s d) = MixOutSpec.diff U s 2 d := by
  refine Eq.trans ?_ (diff_of hU 2 7 rfl (by omega) s d)
  pointwise [val_main_v62, val_main_v61, val_main_v60, val_main_v59, val_main_v57, val_main_v56, val_main_v55, val_main_v48, val_main_v47, val_main_v46, val_main_v45, val_main_v44, val_main_v4, val_main_cst_5, val_main_v0]
  simp only [v3_at, count2]
  rfl

theorem diff3 (hU : ∀ i, Reals.IsReal (U i)) (z : Fin 1) (s : Fin 4096) (d : Fin 128) : val_main_v81 (F := Ideal) U (ix3 z s d) = MixOutSpec.diff U s 3 d := by
  refine Eq.trans ?_ (diff_of hU 3 15 rfl (by omega) s d)
  pointwise [val_main_v81, val_main_v80, val_main_v79, val_main_v78, val_main_v76, val_main_v75, val_main_v74, val_main_v67, val_main_v66, val_main_v65, val_main_v64, val_main_v63, val_main_v4, val_main_cst_8, val_main_v0]
  simp only [v3_at, count3]
  rfl

theorem v86_at (hU : ∀ i, Reals.IsReal (U i)) (z : Fin 1) (s : Fin 4096) (g : Fin 4) (d : Fin 128) :
    val_main_v86 (F := Ideal) U (ix4 z s g d) = MixOutSpec.diff U s g d := by
  pointwise [val_main_v86, val_main_v85, val_main_v84, val_main_v83, val_main_v82]
  simp only [diff0 hU, diff1 hU, diff2 hU, diff3 hU]
  fin_cases g <;> rfl

theorem v94_at (hU : ∀ i, Reals.IsReal (U i)) (z : Fin 1) (s : Fin 4096) (g : Fin 4) (d : Fin 128) :
    val_main_v94 (F := Ideal) U P Z (ix4 z s g d) = MixOutSpec.y U P Z s g d := by
  pointwise [val_main_v94, val_main_v93, val_main_v92, val_main_v91, val_main_v90, val_main_v89, val_main_v88, val_main_v87]
  simp only [v86_at hU]
  unfold MixOutSpec.y
  simp only [mul_comm (P _)]

theorem v96_at (hU : ∀ i, Reals.IsReal (U i)) (z : Fin 1) (s : Fin 4096) (k : Fin 1024) :
    val_main_v96 (F := Ideal) A U P Z (ix3 z s k) = MixOutSpec.mix A U P Z s k := by
  pointwise [val_main_v96, val_main_v95]
  simp only [v94_at hU]
  rfl

theorem v100_at (hU : ∀ i, Reals.IsReal (U i)) (s : Fin 4096) (k : Fin 1024) :
    val_main_v100 (F := Ideal) X A U P Z O (ix2 s k) = MixOutSpec.out0 X A U P Z O (ix2 s k) := by
  pointwise [val_main_v100, val_main_v99, val_main_v98, val_main_v97]
  simp only [v96_at hU]
  rfl
theorem v102_at (hU : ∀ i, Reals.IsReal (U i)) (s : Fin 4096) (k : Fin 1024) :
    val_main_v102 (F := Ideal) A U P Z (ix2 s k) = MixOutSpec.out1 A U P Z (ix2 s k) := by
  pointwise [val_main_v102, val_main_v101]
  simp only [v96_at hU]
  rfl
theorem v104_at (hU : ∀ i, Reals.IsReal (U i)) (s : Fin 4096) (k : Fin 512) :
    val_main_v104 (F := Ideal) U (ix2 s k) = MixOutSpec.out2 U (ix2 s k) := by
  pointwise [val_main_v104, val_main_v103]
  simp only [v86_at hU]
  rfl

end Cert.MixOutRefIdeal.Read
end
-- ==== Proof.MixOut.Pre.lean ====
/- The precondition of the token mixing's projection: the array that is pooled has real entries. -/
module

public import proofs.«01_k».proof.Pre_finite_mix_out
public import proofs.«01_k».proof.Proof.Common.Finite

@[expose] public section

noncomputable section

open Idealize.ShloMosaic

namespace Cert.Pre_finite_mix_out

open Cert.Reals

variable [Facts] {x0 : FVec Ideal S1x4096x1024 .f32} {x1 x2 : FVec Ideal S1x4096x512 .f32} {x3 : FVec Ideal S1x4x128x128 .f32}
  {x4 : FVec Ideal S1x512 .f32} {x5 : FVec Ideal S1x1024x1024 .f32}

theorem reals (h : fn (F := Ideal) x0 x1 x2 x3 x4 x5 = fun _ => 1#1) : ∀ i, IsReal (x2 i) := by
  have h := congrFun h ix0
  unfold fn at h
  exact isReal_of_all h

end Cert.Pre_finite_mix_out
end
-- ==== Proof.MixOut.Claim.lean ====
/- The pooling, its product and the output projection: the kernel's arrays are the reference's. -/
module

public import proofs.«01_k».proof.Defs
public import proofs.«01_k».proof.Proof.Gen.MixOutRefIdeal.Run
public import proofs.«01_k».proof.Proof.MixOut.Ker
public import proofs.«01_k».proof.Proof.MixOut.Ref
public import proofs.«01_k».proof.Proof.MixOut.Pre
public import Idealize.ShloMosaic.Lib.Claim

@[expose] public section

noncomputable section

open Idealize.ShloMosaic Idealize.SL.Sem

namespace Cert.MixOutClaim

/-- The reference runs and leaves its arguments; it declares no semaphore. -/
theorem frame_ref [hR : Cert.MixOutRefIdeal.Facts] : Cert.quiescent_MixOutRefIdeal := fun m ρ _ =>
  (θ_run Cert.MixOutRefIdeal.defs _ _).mono (fun r h => ⟨fun c => (h c).2.2.2, sem_eq_zero_of_no_sems (by decide) r.2⟩)
    (Cert.MixOutRefIdeal.Value.run m ρ)

theorem algebraic [hK : Cert.MixOutIdeal.Facts] [hR : Cert.MixOutRefIdeal.Facts] [hP : Cert.Pre_finite_mix_out.Facts] :
    Cert.algebraic_MixOutIdeal_MixOutRefIdeal_pre_finite_mix_out := by
  intro m g m' g' hpre hagree
  refine ⟨fun c => Cert.MixOutSpec.out0 (Cert.MixOutIdeal.Value.X m c) (Cert.MixOutIdeal.Value.A m c) (Cert.MixOutIdeal.Value.U m c) (Cert.MixOutIdeal.Value.P m c) (Cert.MixOutIdeal.Value.Z m c) (Cert.MixOutIdeal.Value.O m c),
    fun c => Cert.MixOutSpec.out1 (Cert.MixOutIdeal.Value.A m c) (Cert.MixOutIdeal.Value.U m c) (Cert.MixOutIdeal.Value.P m c) (Cert.MixOutIdeal.Value.Z m c),
    fun c => Cert.MixOutSpec.out2 (Cert.MixOutIdeal.Value.U m c), ?_, ?_⟩
  · refine (θ_run Cert.MixOutIdeal.defs _ _).mono (fun r h c => ?_) (Cert.MixOutIdeal.Value.run_blocks m g)
    obtain ⟨h6, h7, h8, hargs⟩ := h c
    exact ⟨h6.trans (Cert.MixOutIdeal.Value.final_6 m c), h7.trans (Cert.MixOutIdeal.Value.final_7 m c), h8.trans (Cert.MixOutIdeal.Value.final_8 m c), hargs⟩
  · refine (θ_run Cert.MixOutRefIdeal.defs _ _).mono (fun r h c => ?_) (Cert.MixOutRefIdeal.Value.run m' g')
    obtain ⟨e0, e1, e2, e3, e4, e5⟩ := hagree c
    have hU := Cert.Pre_finite_mix_out.reals (hpre c)
    obtain ⟨h0, h1, h2, hargs⟩ := h c
    refine ⟨h0.trans ?_, h1.trans ?_, h2.trans ?_, hargs⟩
    · refine (Cert.MixOutRefIdeal.Read.val_main_v100_eq m' c).trans ?_
      rw [e0, e1, e2, e3, e4, e5]
      funext j
      idx_vars j
      exact Cert.MixOutRefIdeal.Read.v100_at hU j0 j1
    · refine (Cert.MixOutRefIdeal.Read.val_main_v102_eq m' c).trans ?_
      rw [e1, e2, e3, e4]
      funext j
      idx_vars j
      exact Cert.MixOutRefIdeal.Read.v102_at hU j0 j1
    · refine (Cert.MixOutRefIdeal.Read.val_main_v104_eq m' c).trans ?_
      rw [e2]
      funext j
      idx_vars j
      exact Cert.MixOutRefIdeal.Read.v104_at hU j0 j1

end Cert.MixOutClaim
end
-- ==== Proof.lean ====
/- The claims of the kernels and their references, each from its own module. -/
module

public import proofs.«01_k».proof.Defs
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InBwdRefIdeal
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadRefIdeal
public import proofs.«01_k».proof.Proof.Gen.FfnA
public import proofs.«01_k».proof.Proof.Gen.FfnA.Frame
public import proofs.«01_k».proof.Proof.Gen.FfnAIdeal
public import proofs.«01_k».proof.Proof.Gen.FfnAIdeal.Frame
public import proofs.«01_k».proof.Proof.Gen.FfnARefIdeal
public import proofs.«01_k».proof.Proof.Gen.FfnB
public import proofs.«01_k».proof.Proof.Gen.FfnB.Frame
public import proofs.«01_k».proof.Proof.Gen.FfnBIdeal
public import proofs.«01_k».proof.Proof.Gen.FfnBIdeal.Frame
public import proofs.«01_k».proof.Proof.Gen.FfnBRefIdeal
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.Qkvu
public import proofs.«01_k».proof.Proof.Gen.Qkvu.Frame
public import proofs.«01_k».proof.Proof.Gen.QkvuIdeal
public import proofs.«01_k».proof.Proof.Gen.QkvuIdeal.Frame
public import proofs.«01_k».proof.Proof.Gen.QkvuRefIdeal
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpRefIdeal
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownRefIdeal
public import proofs.«01_k».proof.Proof.Gen.Wgrad
public import proofs.«01_k».proof.Proof.Gen.Wgrad.Frame
public import proofs.«01_k».proof.Proof.Gen.WgradIdeal
public import proofs.«01_k».proof.Proof.Gen.WgradIdeal.Frame
public import proofs.«01_k».proof.Proof.Gen.WgradRefIdeal
public import proofs.«01_k».proof.Proof.Gen.Adamw
public import proofs.«01_k».proof.Proof.Gen.Adamw.Frame
public import proofs.«01_k».proof.Proof.Gen.AdamwIdeal
public import proofs.«01_k».proof.Proof.Gen.AdamwIdeal.Frame
public import proofs.«01_k».proof.Proof.Gen.AdamwRefIdeal
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutRefIdeal
public import proofs.«01_k».proof.Proof.Gen.Pre_finite
public import proofs.«01_k».proof.Proof.Gen.Pre_finite_head
public import proofs.«01_k».proof.Proof.Gen.Pre_finite_ffn_a
public import proofs.«01_k».proof.Proof.Gen.Pre_finite_ffn_b
public import proofs.«01_k».proof.Proof.Gen.Pre_finite_mix
public import proofs.«01_k».proof.Proof.Gen.Pre_finite_mix_out
public import proofs.«01_k».proof.Proof.InBwd.Claim
public import proofs.«01_k».proof.Proof.Head.Claim
public import proofs.«01_k».proof.Proof.FfnA.Claim
public import proofs.«01_k».proof.Proof.FfnB.Claim
public import proofs.«01_k».proof.Proof.Mix.Claim
public import proofs.«01_k».proof.Proof.Qkvu.Claim
public import proofs.«01_k».proof.Proof.FfnUp.Claim
public import proofs.«01_k».proof.Proof.FfnDown.Claim
public import proofs.«01_k».proof.Proof.Wgrad.Claim
public import proofs.«01_k».proof.Proof.Adamw.Claim
public import proofs.«01_k».proof.Proof.MixOut.Claim

@[expose] public section

noncomputable section

namespace Cert.Proof

open Idealize.ShloMosaic Idealize.SL.Sem

theorem claim : Cert.Claim :=
  ⟨Cert.InBwd.Gen.facts,
    Cert.InBwdIdeal.Gen.facts,
    Cert.InBwdRefIdeal.Gen.facts,
    Cert.Head.Gen.facts,
    Cert.HeadIdeal.Gen.facts,
    Cert.HeadRefIdeal.Gen.facts,
    Cert.FfnA.Gen.facts,
    Cert.FfnAIdeal.Gen.facts,
    Cert.FfnARefIdeal.Gen.facts,
    Cert.FfnB.Gen.facts,
    Cert.FfnBIdeal.Gen.facts,
    Cert.FfnBRefIdeal.Gen.facts,
    Cert.Mix.Gen.facts,
    Cert.MixIdeal.Gen.facts,
    Cert.MixRefIdeal.Gen.facts,
    Cert.Qkvu.Gen.facts,
    Cert.QkvuIdeal.Gen.facts,
    Cert.QkvuRefIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.Wgrad.Gen.facts,
    Cert.WgradIdeal.Gen.facts,
    Cert.WgradRefIdeal.Gen.facts,
    Cert.Adamw.Gen.facts,
    Cert.AdamwIdeal.Gen.facts,
    Cert.AdamwRefIdeal.Gen.facts,
    Cert.MixOut.Gen.facts,
    Cert.MixOutIdeal.Gen.facts,
    Cert.MixOutRefIdeal.Gen.facts,
    Cert.Pre_finite.Gen.facts,
    Cert.Pre_finite_head.Gen.facts,
    Cert.Pre_finite_ffn_a.Gen.facts,
    Cert.Pre_finite_ffn_b.Gen.facts,
    Cert.Pre_finite_mix.Gen.facts,
    Cert.Pre_finite_mix_out.Gen.facts,
    fun m ρ _ => Cert.InBwd.Gen.frame m ρ,
    fun m ρ _ => Cert.InBwdIdeal.Gen.frame m ρ,
    fun m ρ _ => Cert.InBwdIdeal.Gen.frame m ρ,
    Cert.InBwdClaim.frame_ref,
    fun m ρ _ => Cert.InBwdClaim.frame_ref m ρ trivial,
    fun m ρ _ => Cert.Head.Gen.frame m ρ,
    fun m ρ _ => Cert.HeadIdeal.Gen.frame m ρ,
    fun m ρ _ => Cert.HeadIdeal.Gen.frame m ρ,
    Cert.HeadClaim.frame_ref,
    fun m ρ _ => Cert.HeadClaim.frame_ref m ρ trivial,
    fun m ρ _ => Cert.FfnA.Gen.frame m ρ,
    fun m ρ _ => Cert.FfnAIdeal.Gen.frame m ρ,
    fun m ρ _ => Cert.FfnAIdeal.Gen.frame m ρ,
    Cert.FfnAClaim.frame_ref,
    fun m ρ _ => Cert.FfnAClaim.frame_ref m ρ trivial,
    fun m ρ _ => Cert.FfnB.Gen.frame m ρ,
    fun m ρ _ => Cert.FfnBIdeal.Gen.frame m ρ,
    fun m ρ _ => Cert.FfnBIdeal.Gen.frame m ρ,
    Cert.FfnBClaim.frame_ref,
    fun m ρ _ => Cert.FfnBClaim.frame_ref m ρ trivial,
    fun m ρ _ => Cert.Mix.Gen.frame m ρ,
    fun m ρ _ => Cert.MixIdeal.Gen.frame m ρ,
    fun m ρ _ => Cert.MixIdeal.Gen.frame m ρ,
    Cert.MixClaim.frame_ref,
    fun m ρ _ => Cert.MixClaim.frame_ref m ρ trivial,
    fun m ρ _ => Cert.Qkvu.Gen.frame m ρ,
    fun m ρ _ => Cert.QkvuIdeal.Gen.frame m ρ,
    Cert.QkvuClaim.frame_ref,
    fun m ρ _ => Cert.FfnUp.Gen.frame m ρ,
    fun m ρ _ => Cert.FfnUpIdeal.Gen.frame m ρ,
    Cert.FfnUpClaim.frame_ref,
    fun m ρ _ => Cert.FfnDown.Gen.frame m ρ,
    fun m ρ _ => Cert.FfnDownIdeal.Gen.frame m ρ,
    Cert.FfnDownClaim.frame_ref,
    fun m ρ _ => Cert.Wgrad.Gen.frame m ρ,
    fun m ρ _ => Cert.WgradIdeal.Gen.frame m ρ,
    Cert.WgradClaim.frame_ref,
    fun m ρ _ => Cert.Adamw.Gen.frame m ρ,
    fun m ρ _ => Cert.AdamwIdeal.Gen.frame m ρ,
    Cert.AdamwClaim.frame_ref,
    fun m ρ _ => Cert.MixOut.Gen.frame m ρ,
    fun m ρ _ => Cert.MixOutIdeal.Gen.frame m ρ,
    fun m ρ _ => Cert.MixOutIdeal.Gen.frame m ρ,
    Cert.MixOutClaim.frame_ref,
    fun m ρ _ => Cert.MixOutClaim.frame_ref m ρ trivial,
    trivial,
    Cert.InBwdClaim.algebraic,
    trivial,
    Cert.HeadClaim.algebraic,
    trivial,
    Cert.FfnAClaim.algebraic,
    trivial,
    Cert.FfnBClaim.algebraic,
    trivial,
    Cert.MixClaim.algebraic,
    trivial,
    Cert.QkvuClaim.algebraic,
    trivial,
    Cert.FfnUpClaim.algebraic,
    trivial,
    Cert.FfnDownClaim.algebraic,
    trivial,
    Cert.WgradClaim.algebraic,
    trivial,
    Cert.AdamwClaim.algebraic,
    trivial,
    Cert.MixOutClaim.algebraic⟩

end Cert.Proof

end
